-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_gates_finite [hPre_gates_finite : Cert.Pre_gates_finite.Facts] (m : (ℓ : Loc Cert.MergeIdeal.nD Cert.MergeIdeal.τ Cert.MergeIdeal.sig) → Buf (Elt Ideal) ℓ) : Prop :=
  ∀ c : Dev Cert.MergeIdeal.nD,
    (Cert.Pre_gates_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_gates_finite [hPre_gates_finite : Cert.Pre_gates_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_gates_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_products_finite [hPre_products_finite : Cert.Pre_products_finite.Facts] (m : (ℓ : Loc Cert.ProjIdeal.nD Cert.ProjIdeal.τ Cert.ProjIdeal.sig) → Buf (Elt Ideal) ℓ) : Prop :=
  ∀ c : Dev Cert.ProjIdeal.nD,
    (Cert.Pre_products_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_products_finite [hPre_products_finite : Cert.Pre_products_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_products_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_gates_finite [hMergeIdeal : Cert.MergeIdeal.Facts] [hPre_gates_finite : Cert.Pre_gates_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_gates_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_gates_finite [hMergeRefIdeal : Cert.MergeRefIdeal.Facts] [hPre_gates_finite : Cert.Pre_gates_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_gates_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjIdeal_pre_products_finite [hProjIdeal : Cert.ProjIdeal.Facts] [hPre_products_finite : Cert.Pre_products_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_products_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjRefIdeal_pre_products_finite [hProjRefIdeal : Cert.ProjRefIdeal.Facts] [hPre_products_finite : Cert.Pre_products_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_products_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  IdealRules.named_const.Statement Cert.KernelIdeal.κ "m_init" .f32 0xF0C9F2CA#32 ⊥
  ∧ IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal_pre_gates_finite [hMergeIdeal : Cert.MergeIdeal.Facts] [hMergeRefIdeal : Cert.MergeRefIdeal.Facts] [hPre_gates_finite : Cert.Pre_gates_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_gates_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v93) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal_pre_products_finite [hProjIdeal : Cert.ProjIdeal.Facts] [hProjRefIdeal : Cert.ProjRefIdeal.Facts] [hPre_products_finite : Cert.Pre_products_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_products_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v103_0)) (v1 : (c : Dev Cert.ProjIdeal.nD) → Buf (Elt Ideal) ((c.tc : Thread Cert.ProjIdeal.nD Cert.ProjIdeal.τ).loc Cert.ProjIdeal.main_v103_1)) (v2 : (c : Dev Cert.ProjIdeal.nD) → Buf (Elt Ideal) ((c.tc : Thread Cert.ProjIdeal.nD Cert.ProjIdeal.τ).loc Cert.ProjIdeal.main_v103_2)) (v3 : (c : Dev Cert.ProjIdeal.nD) → Buf (Elt Ideal) ((c.tc : Thread Cert.ProjIdeal.nD Cert.ProjIdeal.τ).loc Cert.ProjIdeal.main_v103_3)) (v4 : (c : Dev Cert.ProjIdeal.nD) → Buf (Elt Ideal) ((c.tc : Thread Cert.ProjIdeal.nD Cert.ProjIdeal.τ).loc Cert.ProjIdeal.main_v103_4)) (v5 : (c : Dev Cert.ProjIdeal.nD) → Buf (Elt Ideal) ((c.tc : Thread Cert.ProjIdeal.nD Cert.ProjIdeal.τ).loc Cert.ProjIdeal.main_v103_5)) (v6 : (c : Dev Cert.ProjIdeal.nD) → Buf (Elt Ideal) ((c.tc : Thread Cert.ProjIdeal.nD Cert.ProjIdeal.τ).loc Cert.ProjIdeal.main_v103_6)) (v7 : (c : Dev Cert.ProjIdeal.nD) → Buf (Elt Ideal) ((c.tc : Thread Cert.ProjIdeal.nD Cert.ProjIdeal.τ).loc Cert.ProjIdeal.main_v103_7)) (v8 : (c : Dev Cert.ProjIdeal.nD) → Buf (Elt Ideal) ((c.tc : Thread Cert.ProjIdeal.nD Cert.ProjIdeal.τ).loc Cert.ProjIdeal.main_v103_8)) (v9 : (c : Dev Cert.ProjIdeal.nD) → Buf (Elt Ideal) ((c.tc : Thread Cert.ProjIdeal.nD Cert.ProjIdeal.τ).loc Cert.ProjIdeal.main_v103_9)) (v10 : (c : Dev Cert.ProjIdeal.nD) → Buf (Elt Ideal) ((c.tc : Thread Cert.ProjIdeal.nD Cert.ProjIdeal.τ).loc Cert.ProjIdeal.main_v103_10)) (v11 : (c : Dev Cert.ProjIdeal.nD) → Buf (Elt Ideal) ((c.tc : Thread Cert.ProjIdeal.nD Cert.ProjIdeal.τ).loc Cert.ProjIdeal.main_v103_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v103_0) = v0 c
          ∧ r.2.mem ((c.tc : Thread Cert.ProjIdeal.nD Cert.ProjIdeal.τ).loc Cert.ProjIdeal.main_v103_1) = v1 c
          ∧ r.2.mem ((c.tc : Thread Cert.ProjIdeal.nD Cert.ProjIdeal.τ).loc Cert.ProjIdeal.main_v103_2) = v2 c
          ∧ r.2.mem ((c.tc : Thread Cert.ProjIdeal.nD Cert.ProjIdeal.τ).loc Cert.ProjIdeal.main_v103_3) = v3 c
          ∧ r.2.mem ((c.tc : Thread Cert.ProjIdeal.nD Cert.ProjIdeal.τ).loc Cert.ProjIdeal.main_v103_4) = v4 c
          ∧ r.2.mem ((c.tc : Thread Cert.ProjIdeal.nD Cert.ProjIdeal.τ).loc Cert.ProjIdeal.main_v103_5) = v5 c
          ∧ r.2.mem ((c.tc : Thread Cert.ProjIdeal.nD Cert.ProjIdeal.τ).loc Cert.ProjIdeal.main_v103_6) = v6 c
          ∧ r.2.mem ((c.tc : Thread Cert.ProjIdeal.nD Cert.ProjIdeal.τ).loc Cert.ProjIdeal.main_v103_7) = v7 c
          ∧ r.2.mem ((c.tc : Thread Cert.ProjIdeal.nD Cert.ProjIdeal.τ).loc Cert.ProjIdeal.main_v103_8) = v8 c
          ∧ r.2.mem ((c.tc : Thread Cert.ProjIdeal.nD Cert.ProjIdeal.τ).loc Cert.ProjIdeal.main_v103_9) = v9 c
          ∧ r.2.mem ((c.tc : Thread Cert.ProjIdeal.nD Cert.ProjIdeal.τ).loc Cert.ProjIdeal.main_v103_10) = v10 c
          ∧ r.2.mem ((c.tc : Thread Cert.ProjIdeal.nD Cert.ProjIdeal.τ).loc Cert.ProjIdeal.main_v103_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v446) = v0 c
          ∧ r.2.mem ((c.tc : Thread Cert.ProjRefIdeal.nD Cert.ProjRefIdeal.τ).loc Cert.ProjRefIdeal.main_v448) = v1 c
          ∧ r.2.mem ((c.tc : Thread Cert.ProjRefIdeal.nD Cert.ProjRefIdeal.τ).loc Cert.ProjRefIdeal.main_v449) = v2 c
          ∧ r.2.mem ((c.tc : Thread Cert.ProjRefIdeal.nD Cert.ProjRefIdeal.τ).loc Cert.ProjRefIdeal.main_v451) = v3 c
          ∧ r.2.mem ((c.tc : Thread Cert.ProjRefIdeal.nD Cert.ProjRefIdeal.τ).loc Cert.ProjRefIdeal.main_v452) = v4 c
          ∧ r.2.mem ((c.tc : Thread Cert.ProjRefIdeal.nD Cert.ProjRefIdeal.τ).loc Cert.ProjRefIdeal.main_v454) = v5 c
          ∧ r.2.mem ((c.tc : Thread Cert.ProjRefIdeal.nD Cert.ProjRefIdeal.τ).loc Cert.ProjRefIdeal.main_v456) = v6 c
          ∧ r.2.mem ((c.tc : Thread Cert.ProjRefIdeal.nD Cert.ProjRefIdeal.τ).loc Cert.ProjRefIdeal.main_v457) = v7 c
          ∧ r.2.mem ((c.tc : Thread Cert.ProjRefIdeal.nD Cert.ProjRefIdeal.τ).loc Cert.ProjRefIdeal.main_v459) = v8 c
          ∧ r.2.mem ((c.tc : Thread Cert.ProjRefIdeal.nD Cert.ProjRefIdeal.τ).loc Cert.ProjRefIdeal.main_v460) = v9 c
          ∧ r.2.mem ((c.tc : Thread Cert.ProjRefIdeal.nD Cert.ProjRefIdeal.τ).loc Cert.ProjRefIdeal.main_v462) = v10 c
          ∧ r.2.mem ((c.tc : Thread Cert.ProjRefIdeal.nD Cert.ProjRefIdeal.τ).loc Cert.ProjRefIdeal.main_v463) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_gates_finite : Cert.Pre_gates_finite.Facts) (hPre_products_finite : Cert.Pre_products_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeIdeal_pre_gates_finite (hMergeIdeal := hMergeIdeal) (hPre_gates_finite := hPre_gates_finite)
    ∧ quiescent_MergeRefIdeal (hMergeRefIdeal := hMergeRefIdeal)
    ∧ quiescent_MergeRefIdeal_pre_gates_finite (hMergeRefIdeal := hMergeRefIdeal) (hPre_gates_finite := hPre_gates_finite)
    ∧ quiescent_Proj (hProj := hProj)
    ∧ quiescent_ProjIdeal (hProjIdeal := hProjIdeal)
    ∧ quiescent_ProjIdeal_pre_products_finite (hProjIdeal := hProjIdeal) (hPre_products_finite := hPre_products_finite)
    ∧ quiescent_ProjRefIdeal (hProjRefIdeal := hProjRefIdeal)
    ∧ quiescent_ProjRefIdeal_pre_products_finite (hProjRefIdeal := hProjRefIdeal) (hPre_products_finite := hPre_products_finite)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal_pre_gates_finite (hMergeIdeal := hMergeIdeal) (hMergeRefIdeal := hMergeRefIdeal) (hPre_gates_finite := hPre_gates_finite)
    ∧ preserves_Proj_ProjIdeal
    ∧ algebraic_ProjIdeal_ProjRefIdeal_pre_products_finite (hProjIdeal := hProjIdeal) (hProjRefIdeal := hProjRefIdeal) (hPre_products_finite := hPre_products_finite)
-- ==== Pre_gates_finite.lean ====
abbrev S16384x1024 : Shape := ⟨2, ![16384, 1024]⟩
abbrev S1024 : Shape := ⟨1, ![1024]⟩
abbrev S1024x3072 : Shape := ⟨2, ![1024, 3072]⟩
abbrev S16384x512 : Shape := ⟨2, ![16384, 512]⟩
abbrev S16384x128 : Shape := ⟨2, ![16384, 128]⟩
abbrev S4x64 : Shape := ⟨2, ![4, 64]⟩
abbrev S1 : Shape := ⟨1, ![1]⟩
abbrev S128 : Shape := ⟨1, ![128]⟩
abbrev S3x512x1024 : Shape := ⟨3, ![3, 512, 1024]⟩
abbrev S1024x1024 : Shape := ⟨2, ![1024, 1024]⟩
abbrev S16384x24 : Shape := ⟨2, ![16384, 24]⟩
abbrev S_ : Shape := ⟨0, ![]⟩

class Facts : Prop where
  slices_S16384x128_S16384x24_0_0 : S16384x128.Slices ![0, 0] S16384x24
  bcast_S_S16384x24 : S_.BroadcastsInDim S16384x24 (![] : Fin 0 → Fin S16384x24.rank)

variable [Facts]

def fn {F : FTy → Type} [FloatOps F] (main_arg0 : FVec F S16384x1024 .f32) (main_arg1 : FVec F S1024 .f32) (main_arg2 : FVec F S1024x3072 .f32) (main_arg3 : FVec F S16384x512 .f32) (main_arg4 : FVec F S16384x512 .f32) (main_arg5 : FVec F S16384x512 .f32) (main_arg6 : FVec F S16384x128 .f32) (main_arg7 : FVec F S16384x1024 .f32) (main_arg8 : FVec F S16384x512 .f32) (main_arg9 : FVec F S4x64 .f32) (main_arg10 : FVec F S1 .f32) (main_arg11 : FVec F S128 .f32) (main_arg12 : FVec F S3x512x1024 .f32) (main_arg13 : FVec F S1024x1024 .f32) : IVec S16384x24 1 :=
  let main_v0 : FVec F S16384x24 .f32 := (extractStridedSlice S16384x24 ![0, 0] · slices_S16384x128_S16384x24_0_0) main_arg6
  let main_v1 : FVec F S16384x24 .f32 := Host.absf main_v0
  let main_cst : FVec F S_ .f32 := constant S_ .f32 0x7F800000#32
  let main_v2 : FVec F S16384x24 .f32 := broadcastInDim S16384x24 ![] bcast_S_S16384x24 main_cst
  let main_v3 : IVec S16384x24 1 := cmpf .olt main_v1 main_v2
  main_v3
-- ==== Pre_products_finite.lean ====
abbrev S16384x1024 : Shape := ⟨2, ![16384, 1024]⟩
abbrev S1024 : Shape := ⟨1, ![1024]⟩
abbrev S1024x6424 : Shape := ⟨2, ![1024, 6424]⟩
abbrev S8x64 : Shape := ⟨2, ![8, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x3352 : Shape := ⟨2, ![1024, 3352]⟩
abbrev S16384x3352 : Shape := ⟨2, ![16384, 3352]⟩

class Facts : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S1024x6424_S1024x3352_0_0 : S1024x6424.Slices ![0, 0] S1024x3352
  bcast_S_S16384x3352 : S_.BroadcastsInDim S16384x3352 (![] : Fin 0 → Fin S16384x3352.rank)
  dot_S16384x1024_S1024x3352_S16384x3352_1_0_0_1_n_n_wf : DotDims.WF S16384x1024 S1024x3352 S16384x3352 [1] [0] [0] [1] [] []

variable [Facts]

def dot_S16384x1024_S1024x3352_S16384x3352_1_0_0_1_n_n : DotDims S16384x1024 S1024x3352 S16384x3352 where
  lhsContracting := [1]
  rhsContracting := [0]
  lhsNonContracting := [0]
  rhsNonContracting := [1]
  lhsBatch := []
  rhsBatch := []
  wf := dot_S16384x1024_S1024x3352_S16384x3352_1_0_0_1_n_n_wf
def fn {F : FTy → Type} [FloatOps F] (main_arg0 : FVec F S16384x1024 .f32) (main_arg1 : FVec F S1024 .f32) (main_arg2 : FVec F S1024x6424 .f32) (main_arg3 : FVec F S8x64 .f32) : IVec S16384x3352 1 :=
  let main_v0 : FVec F S16384x1024 .f32 := mulf main_arg0 main_arg0
  let main_cst : FVec F S_ .f32 := constant S_ .f32 0x00000000#32
  let main_v1 : FVec F S16384 .f32 := (fun x v => Host.reduceAdd x v reducesTo_S16384x1024_S16384_d1 h_S_) main_v0 main_cst
  let main_v2 : FVec F S16384x1 .f32 := broadcastInDim S16384x1 ![0] bcast_S16384_S16384x1_0 main_v1
  let main_cst_0 : FVec F S_ .f32 := constant S_ .f32 0x44800000#32
  let main_v3 : FVec F S16384x1 .f32 := broadcastInDim S16384x1 ![] bcast_S_S16384x1 main_cst_0
  let main_v4 : FVec F S16384x1 .f32 := Host.divf main_v2 main_v3
  let main_cst_1 : FVec F S_ .f32 := constant S_ .f32 0x358637BD#32
  let main_v5 : FVec F S16384x1 .f32 := broadcastInDim S16384x1 ![] bcast_S_S16384x1 main_cst_1
  let main_v6 : FVec F S16384x1 .f32 := addf main_v4 main_v5
  let main_v7 : FVec F S16384x1 .f32 := Host.rsqrt main_v6
  let main_v8 : FVec F S16384x1024 .f32 := broadcastInDim S16384x1024 ![0, 1] bcast_S16384x1_S16384x1024_0_1 main_v7
  let main_v9 : FVec F S16384x1024 .f32 := mulf main_arg0 main_v8
  let main_v10 : FVec F S1x1024 .f32 := broadcastInDim S1x1024 ![1] bcast_S1024_S1x1024_1 main_arg1
  let main_v11 : FVec F S16384x1024 .f32 := broadcastInDim S16384x1024 ![0, 1] bcast_S1x1024_S16384x1024_0_1 main_v10
  let main_v12 : FVec F S16384x1024 .f32 := mulf main_v9 main_v11
  let main_v13 : FVec F S1024x3352 .f32 := (extractStridedSlice S1024x3352 ![0, 0] · slices_S1024x6424_S1024x3352_0_0) main_arg2
  let main_v14 : FVec F S16384x3352 .f32 := (fun l r => Host.dotGeneral dot_S16384x1024_S1024x3352_S16384x3352_1_0_0_1_n_n none l r) main_v12 main_v13
  let main_v15 : FVec F S16384x3352 .f32 := Host.absf main_v14
  let main_cst_2 : FVec F S_ .f32 := constant S_ .f32 0x7F800000#32
  let main_v16 : FVec F S16384x3352 .f32 := broadcastInDim S16384x3352 ![] bcast_S_S16384x3352 main_cst_2
  let main_v17 : IVec S16384x3352 1 := cmpf .olt main_v15 main_v16
  main_v17
-- ==== Kernel.lean ====
abbrev S16384x512 : Shape := ⟨2, ![16384, 512]⟩
abbrev S2x8192x512 : Shape := ⟨3, ![2, 8192, 512]⟩
abbrev S136 : Shape := ⟨1, ![136]⟩
abbrev S16384x1024 : Shape := ⟨2, ![16384, 1024]⟩
abbrev S512x512 : Shape := ⟨2, ![512, 512]⟩
abbrev S1 : Shape := ⟨1, ![1]⟩
abbrev S1x512x512 : Shape := ⟨3, ![1, 512, 512]⟩
abbrev S512x1024 : Shape := ⟨2, ![512, 1024]⟩
abbrev S4x1024x128 : Shape := ⟨3, ![4, 1024, 128]⟩
abbrev S4x1024x256 : Shape := ⟨3, ![4, 1024, 256]⟩
abbrev S1x128 : Shape := ⟨2, ![1, 128]⟩
abbrev S512x128 : Shape := ⟨2, ![512, 128]⟩
abbrev S1x512x128 : Shape := ⟨3, ![1, 512, 128]⟩
abbrev S512x256 : Shape := ⟨2, ![512, 256]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x512 : Shape := ⟨2, ![1, 512]⟩

abbrev nBuf : Space → Nat
  | .hbm => 4
  | .vmem => 9
  | .smem => 4
  | _ => 0

abbrev bufTy : (tb : Table) → Fin (tcTables nBuf tb) → BufTy
  | .hbm, ⟨0, _⟩ => ⟨S16384x512, .f32⟩
  | .hbm, ⟨1, _⟩ => ⟨S2x8192x512, .f32⟩
  | .hbm, ⟨2, _⟩ => ⟨S2x8192x512, .bf16⟩
  | .hbm, ⟨3, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S1x512x512, .bf16⟩
  | .local _ .vmem, ⟨3, _⟩ => ⟨S1x512x512, .bf16⟩
  | .local _ .vmem, ⟨4, _⟩ => ⟨S512x1024, .f32⟩
  | .local _ .vmem, ⟨5, _⟩ => ⟨S512x1024, .f32⟩
  | .local _ .vmem, ⟨6, _⟩ => ⟨S4x1024x128, .bf16⟩
  | .local _ .vmem, ⟨7, _⟩ => ⟨S4x1024x128, .f32⟩
  | .local _ .vmem, ⟨8, _⟩ => ⟨S4x1024x256, .f32⟩
  | .local _ .smem, ⟨0, _⟩ => ⟨S136, .i32⟩
  | .local _ .smem, ⟨1, _⟩ => ⟨S136, .i32⟩
  | .local _ .smem, ⟨2, _⟩ => ⟨S136, .i32⟩
  | .local _ .smem, ⟨3, _⟩ => ⟨S136, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 136], ![false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_off2 (i : grid0.Coords) : Fin 1 → Nat :=
  let arg1 : BitVec 32 := BitVec.ofNat 32 (i 1).val
  let v22 : Index := Scalar.indexCast arg1
  ![v22.toNat]
def k0_cond4 (v23 : BitVec 32) : BitVec 1 :=
  let c1_i32_7 : BitVec 32 := 1#32
  let v24 : BitVec 1 := Scalar.cmpi .eq v23 c1_i32_7
  let v25 : BitVec 32 := Scalar.extui v24
  let c0_i32_8 : BitVec 32 := 0#32
  let v26 : BitVec 1 := Scalar.cmpi .ne v25 c0_i32_8
  v26

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "m_init" => some ⊥
  | "mask" => some ⊥
  | "q_scale" => some (((8 * (Real.log 2))⁻¹ : ℝ) : EReal)
  | _ => none
-- ==== ReferenceIdeal.lean ====
abbrev S16384x512 : Shape := ⟨2, ![16384, 512]⟩
abbrev S2x8192x512 : Shape := ⟨3, ![2, 8192, 512]⟩
abbrev S2x8192x2x2x2x64 : Shape := ⟨6, ![2, 8192, 2, 2, 2, 64]⟩
abbrev S2x8192x2x2x128 : Shape := ⟨5, ![2, 8192, 2, 2, 128]⟩
abbrev S8192 : Shape := ⟨1, ![8192]⟩
abbrev S2x8192x1x2x128 : Shape := ⟨5, ![2, 8192, 1, 2, 128]⟩
abbrev S2x8192x2x128 : Shape := ⟨4, ![2, 8192, 2, 128]⟩
abbrev S2x8192x2x2x64 : Shape := ⟨5, ![2, 8192, 2, 2, 64]⟩
abbrev S2x2x2x8192x8192x2 : Shape := ⟨6, ![2, 2, 2, 8192, 8192, 2]⟩
abbrev S2x8192x2x2x2x8192 : Shape := ⟨6, ![2, 8192, 2, 2, 2, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x1x1x1x8192 : Shape := ⟨6, ![1, 8192, 1, 1, 1, 8192]⟩
abbrev S2x8192x2x2x2 : Shape := ⟨5, ![2, 8192, 2, 2, 2]⟩
abbrev S2x8192x2x2x2x1 : Shape := ⟨6, ![2, 8192, 2, 2, 2, 1]⟩
abbrev S2x2x128x8192x2x2 : Shape := ⟨6, ![2, 2, 128, 8192, 2, 2]⟩
abbrev S2x8192x2x2x2x128 : Shape := ⟨6, ![2, 8192, 2, 2, 2, 128]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x8192x512, .f32⟩
  | .hbm, ⟨2, _⟩ => ⟨S2x8192x2x2x2x64, .f32⟩
  | .hbm, ⟨3, _⟩ => ⟨S2x8192x2x2x128, .f32⟩
  | .hbm, ⟨4, _⟩ => ⟨S8192, .i32⟩
  | .hbm, ⟨5, _⟩ => ⟨S8192, .i32⟩
  | .hbm, ⟨6, _⟩ => ⟨S2x8192x1x2x128, .f32⟩
  | .hbm, ⟨7, _⟩ => ⟨S2x8192x2x128, .f32⟩
  | .hbm, ⟨8, _⟩ => ⟨S2x8192x2x2x64, .f32⟩
  | .hbm, ⟨9, _⟩ => ⟨S2x8192x1x2x128, .f32⟩
  | .hbm, ⟨10, _⟩ => ⟨S2x8192x2x128, .f32⟩
  | .hbm, ⟨11, _⟩ => ⟨S2x2x2x8192x8192x2, .f32⟩
  | .hbm, ⟨12, _⟩ => ⟨S2x8192x2x2x2x8192, .f32⟩
  | .hbm, ⟨13, _⟩ => ⟨S_, .f32⟩
  | .hbm, ⟨14, _⟩ => ⟨S2x8192x2x2x2x8192, .f32⟩
  | .hbm, ⟨15, _⟩ => ⟨S2x8192x2x2x2x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x8192x1x1x1x8192, .i1⟩
  | .hbm, ⟨22, _⟩ => ⟨S_, .f32⟩
  | .hbm, ⟨23, _⟩ => ⟨S_, .f32⟩
  | .hbm, ⟨24, _⟩ => ⟨S2x8192x2x2x2x8192, .i1⟩
  | .hbm, ⟨25, _⟩ => ⟨S2x8192x2x2x2x8192, .f32⟩
  | .hbm, ⟨26, _⟩ => ⟨S2x8192x2x2x2x8192, .f32⟩
  | .hbm, ⟨27, _⟩ => ⟨S_, .f32⟩
  | .hbm, ⟨28, _⟩ => ⟨S2x8192x2x2x2, .f32⟩
  | .hbm, ⟨29, _⟩ => ⟨S2x8192x2x2x2x1, .f32⟩
  | .hbm, ⟨30, _⟩ => ⟨S2x8192x2x2x2x8192, .f32⟩
  | .hbm, ⟨31, _⟩ => ⟨S2x8192x2x2x2x8192, .f32⟩
  | .hbm, ⟨32, _⟩ => ⟨S2x8192x2x2x2x8192, .f32⟩
  | .hbm, ⟨33, _⟩ => ⟨S_, .f32⟩
  | .hbm, ⟨34, _⟩ => ⟨S_, .f32⟩
  | .hbm, ⟨35, _⟩ => ⟨S2x8192x2x2x2x8192, .i1⟩
  | .hbm, ⟨36, _⟩ => ⟨S2x8192x2x2x2x8192, .f32⟩
  | .hbm, ⟨37, _⟩ => ⟨S2x8192x2x2x2x8192, .f32⟩
  | .hbm, ⟨38, _⟩ => ⟨S_, .f32⟩
  | .hbm, ⟨39, _⟩ => ⟨S2x8192x2x2x2, .f32⟩
  | .hbm, ⟨40, _⟩ => ⟨S2x8192x2x2x2x1, .f32⟩
  | .hbm, ⟨41, _⟩ => ⟨S_, .f32⟩
  | .hbm, ⟨42, _⟩ => ⟨S2x8192x2x2x2x1, .f32⟩
  | .hbm, ⟨43, _⟩ => ⟨S2x8192x2x2x2x1, .f32⟩
  | .hbm, ⟨44, _⟩ => ⟨S2x8192x2x2x2x8192, .f32⟩
  | .hbm, ⟨45, _⟩ => ⟨S2x8192x2x2x2x8192, .f32⟩
  | .hbm, ⟨46, _⟩ => ⟨S2x2x128x8192x2x2, .f32⟩
  | .hbm, ⟨47, _⟩ => ⟨S2x8192x2x2x2x128, .f32⟩
  | .hbm, ⟨48, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S1024x3072 : Shape := ⟨2, ![1024, 3072]⟩
abbrev S16384x512 : Shape := ⟨2, ![16384, 512]⟩
abbrev S16384x128 : Shape := ⟨2, ![16384, 128]⟩
abbrev S4x64 : Shape := ⟨2, ![4, 64]⟩
abbrev S1 : Shape := ⟨1, ![1]⟩
abbrev S128 : Shape := ⟨1, ![128]⟩
abbrev S3x512x1024 : Shape := ⟨3, ![3, 512, 1024]⟩
abbrev S1024x1024 : Shape := ⟨2, ![1024, 1024]⟩
abbrev S3x128x512 : Shape := ⟨3, ![3, 128, 512]⟩
abbrev S1x1024 : Shape := ⟨2, ![1, 1024]⟩
abbrev S1x1 : Shape := ⟨2, ![1, 1]⟩
abbrev S1x128 : Shape := ⟨2, ![1, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128x512 : Shape := ⟨3, ![1, 128, 512]⟩
abbrev S128x512 : Shape := ⟨2, ![128, 512]⟩
abbrev S1x64 : Shape := ⟨2, ![1, 64]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩
abbrev S256x3072 : Shape := ⟨2, ![256, 3072]⟩

abbrev nBuf : Space → Nat
  | .hbm => 23
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x128, .f32⟩
  | .hbm, ⟨7, _⟩ => ⟨S16384x1024, .f32⟩
  | .hbm, ⟨8, _⟩ => ⟨S16384x512, .f32⟩
  | .hbm, ⟨9, _⟩ => ⟨S4x64, .f32⟩
  | .hbm, ⟨10, _⟩ => ⟨S1, .f32⟩
  | .hbm, ⟨11, _⟩ => ⟨S128, .f32⟩
  | .hbm, ⟨12, _⟩ => ⟨S3x512x1024, .f32⟩
  | .hbm, ⟨13, _⟩ => ⟨S1024x1024, .f32⟩
  | .hbm, ⟨14, _⟩ => ⟨S3x128x512, .bf16⟩
  | .hbm, ⟨15, _⟩ => ⟨S1x1024, .f32⟩
  | .hbm, ⟨16, _⟩ => ⟨S1024x3072, .bf16⟩
  | .hbm, ⟨17, _⟩ => ⟨S1x1, .f32⟩
  | .hbm, ⟨18, _⟩ => ⟨S1x128, .f32⟩
  | .hbm, ⟨19, _⟩ => ⟨S1x128, .f32⟩
  | .hbm, ⟨20, _⟩ => ⟨S3x512x1024, .bf16⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S3x128x512, .bf16⟩
  | .local _ .vmem, ⟨13, _⟩ => ⟨S256x1024, .f32⟩
  | .local _ .vmem, ⟨14, _⟩ => ⟨S256x1024, .f32⟩
  | .local _ .vmem, ⟨15, _⟩ => ⟨S256x512, .f32⟩
  | .local _ .vmem, ⟨16, _⟩ => ⟨S256x512, .f32⟩
  | .local _ .vmem, ⟨17, _⟩ => ⟨S4x64, .f32⟩
  | .local _ .vmem, ⟨18, _⟩ => ⟨S1x128, .f32⟩
  | .local _ .vmem, ⟨19, _⟩ => ⟨S1x128, .f32⟩
  | .local _ .vmem, ⟨20, _⟩ => ⟨S3x512x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x1024 : Shape := ⟨2, ![16384, 1024]⟩
abbrev S1024 : Shape := ⟨1, ![1024]⟩
abbrev S1024x3072 : Shape := ⟨2, ![1024, 3072]⟩
abbrev S16384x512 : Shape := ⟨2, ![16384, 512]⟩
abbrev S16384x128 : Shape := ⟨2, ![16384, 128]⟩
abbrev S4x64 : Shape := ⟨2, ![4, 64]⟩
abbrev S1 : Shape := ⟨1, ![1]⟩
abbrev S128 : Shape := ⟨1, ![128]⟩
abbrev S3x512x1024 : Shape := ⟨3, ![3, 512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2x8192x1024 : Shape := ⟨3, ![2, 8192, 1024]⟩
abbrev S2x8192x3072 : Shape := ⟨3, ![2, 8192, 3072]⟩
abbrev S2x8192x3x1024 : Shape := ⟨4, ![2, 8192, 3, 1024]⟩
abbrev S16384x24 : Shape := ⟨2, ![16384, 24]⟩
abbrev S2x8192x2x4x3 : Shape := ⟨5, ![2, 8192, 2, 4, 3]⟩
abbrev S2x8192x2x4x1 : Shape := ⟨5, ![2, 8192, 2, 4, 1]⟩
abbrev S2x8192x2x4x64 : Shape := ⟨5, ![2, 8192, 2, 4, 64]⟩
abbrev S2x8192x512 : Shape := ⟨3, ![2, 8192, 512]⟩
abbrev S1x64 : Shape := ⟨2, ![1, 64]⟩
abbrev S64 : Shape := ⟨1, ![64]⟩
abbrev S2x8192x2x2x2x128 : Shape := ⟨6, ![2, 8192, 2, 2, 2, 128]⟩
abbrev S2x8192x2x1x2x128 : Shape := ⟨6, ![2, 8192, 2, 1, 2, 128]⟩
abbrev S2x8192x2x2x128 : Shape := ⟨5, ![2, 8192, 2, 2, 128]⟩
abbrev S2x8192x2x2 : Shape := ⟨4, ![2, 8192, 2, 2]⟩
abbrev S2x8192x2x2x1 : Shape := ⟨5, ![2, 8192, 2, 2, 1]⟩
abbrev S1x1x1x1x128 : Shape := ⟨5, ![1, 1, 1, 1, 128]⟩
abbrev S2x8192x1x512 : Shape := ⟨4, ![2, 8192, 1, 512]⟩
abbrev S2x8192x3x512 : Shape := ⟨4, ![2, 8192, 3, 512]⟩
abbrev S3x1024x2x8192 : Shape := ⟨4, ![3, 1024, 2, 8192]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x128, .f32⟩
  | .hbm, ⟨7, _⟩ => ⟨S16384x1024, .f32⟩
  | .hbm, ⟨8, _⟩ => ⟨S16384x512, .f32⟩
  | .hbm, ⟨9, _⟩ => ⟨S4x64, .f32⟩
  | .hbm, ⟨10, _⟩ => ⟨S1, .f32⟩
  | .hbm, ⟨11, _⟩ => ⟨S128, .f32⟩
  | .hbm, ⟨12, _⟩ => ⟨S3x512x1024, .f32⟩
  | .hbm, ⟨13, _⟩ => ⟨S1024x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S2x8192x1024, .f32⟩
  | .hbm, ⟨31, _⟩ => ⟨S2x8192x3072, .f32⟩
  | .hbm, ⟨32, _⟩ => ⟨S2x8192x3x1024, .f32⟩
  | .hbm, ⟨33, _⟩ => ⟨S2x8192x3x1024, .f32⟩
  | .hbm, ⟨34, _⟩ => ⟨S2x8192x3x1024, .f32⟩
  | .hbm, ⟨35, _⟩ => ⟨S_, .f32⟩
  | .hbm, ⟨36, _⟩ => ⟨S2x8192x3x1024, .f32⟩
  | .hbm, ⟨37, _⟩ => ⟨S2x8192x3x1024, .f32⟩
  | .hbm, ⟨38, _⟩ => ⟨S_, .f32⟩
  | .hbm, ⟨39, _⟩ => ⟨S2x8192x3x1024, .f32⟩
  | .hbm, ⟨40, _⟩ => ⟨S2x8192x3x1024, .f32⟩
  | .hbm, ⟨41, _⟩ => ⟨S16384x24, .f32⟩
  | .hbm, ⟨42, _⟩ => ⟨S2x8192x2x4x3, .f32⟩
  | .hbm, ⟨43, _⟩ => ⟨S2x8192x2x4x1, .f32⟩
  | .hbm, ⟨44, _⟩ => ⟨S2x8192x2x4x64, .f32⟩
  | .hbm, ⟨45, _⟩ => ⟨S2x8192x2x4x64, .f32⟩
  | .hbm, ⟨46, _⟩ => ⟨S2x8192x2x4x64, .f32⟩
  | .hbm, ⟨47, _⟩ => ⟨S2x8192x2x4x1, .f32⟩
  | .hbm, ⟨48, _⟩ => ⟨S2x8192x2x4x64, .f32⟩
  | .hbm, ⟨49, _⟩ => ⟨S2x8192x2x4x64, .f32⟩
  | .hbm, ⟨50, _⟩ => ⟨S2x8192x2x4x64, .f32⟩
  | .hbm, ⟨51, _⟩ => ⟨S2x8192x2x4x64, .f32⟩
  | .hbm, ⟨52, _⟩ => ⟨S2x8192x2x4x1, .f32⟩
  | .hbm, ⟨53, _⟩ => ⟨S2x8192x2x4x64, .f32⟩
  | .hbm, ⟨54, _⟩ => ⟨S2x8192x2x4x64, .f32⟩
  | .hbm, ⟨55, _⟩ => ⟨S2x8192x2x4x64, .f32⟩
  | .hbm, ⟨56, _⟩ => ⟨S2x8192x2x4x64, .f32⟩
  | .hbm, ⟨57, _⟩ => ⟨S2x8192x512, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x64, .f32⟩
  | .hbm, ⟨67, _⟩ => ⟨S64, .f32⟩
  | .hbm, ⟨68, _⟩ => ⟨S1x64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2x8192x2x2x2x128, .f32⟩
  | .hbm, ⟨78, _⟩ => ⟨S2x8192x2x1x2x128, .f32⟩
  | .hbm, ⟨79, _⟩ => ⟨S2x8192x2x2x128, .f32⟩
  | .hbm, ⟨80, _⟩ => ⟨S2x8192x2x1x2x128, .f32⟩
  | .hbm, ⟨81, _⟩ => ⟨S2x8192x2x2x128, .f32⟩
  | .hbm, ⟨82, _⟩ => ⟨S2x8192x2x2x128, .f32⟩
  | .hbm, ⟨83, _⟩ => ⟨S2x8192x2x2x128, .f32⟩
  | .hbm, ⟨84, _⟩ => ⟨S2x8192x2x2x128, .f32⟩
  | .hbm, ⟨85, _⟩ => ⟨S2x8192x2x2x128, .f32⟩
  | .hbm, ⟨86, _⟩ => ⟨S_, .f32⟩
  | .hbm, ⟨87, _⟩ => ⟨S2x8192x2x2, .f32⟩
  | .hbm, ⟨88, _⟩ => ⟨S2x8192x2x2x1, .f32⟩
  | .hbm, ⟨89, _⟩ => ⟨S_, .f32⟩
  | .hbm, ⟨90, _⟩ => ⟨S2x8192x2x2x1, .f32⟩
  | .hbm, ⟨91, _⟩ => ⟨S2x8192x2x2x1, .f32⟩
  | .hbm, ⟨92, _⟩ => ⟨S_, .f32⟩
  | .hbm, ⟨93, _⟩ => ⟨S2x8192x2x2x1, .f32⟩
  | .hbm, ⟨94, _⟩ => ⟨S2x8192x2x2x1, .f32⟩
  | .hbm, ⟨95, _⟩ => ⟨S2x8192x2x2x1, .f32⟩
  | .hbm, ⟨96, _⟩ => ⟨S2x8192x2x2x128, .f32⟩
  | .hbm, ⟨97, _⟩ => ⟨S2x8192x2x2x128, .f32⟩
  | .hbm, ⟨98, _⟩ => ⟨S1x1x1x1x128, .f32⟩
  | .hbm, ⟨99, _⟩ => ⟨S2x8192x2x2x128, .f32⟩
  | .hbm, ⟨100, _⟩ => ⟨S2x8192x2x2x128, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S2x8192x2x2x128, .f32⟩
  | .hbm, ⟨105, _⟩ => ⟨S2x8192x2x2x128, .f32⟩
  | .hbm, ⟨106, _⟩ => ⟨S2x8192x512, .f32⟩
  | .hbm, ⟨107, _⟩ => ⟨S2x8192x512, .f32⟩
  | .hbm, ⟨108, _⟩ => ⟨S2x8192x1x512, .f32⟩
  | .hbm, ⟨109, _⟩ => ⟨S2x8192x1x512, .f32⟩
  | .hbm, ⟨110, _⟩ => ⟨S2x8192x1x512, .f32⟩
  | .hbm, ⟨111, _⟩ => ⟨S2x8192x3x512, .f32⟩
  | .hbm, ⟨112, _⟩ => ⟨S3x1024x2x8192, .f32⟩
  | .hbm, ⟨113, _⟩ => ⟨S2x8192x3x1024, .f32⟩
  | .hbm, ⟨114, _⟩ => ⟨S2x8192x3x1024, .f32⟩
  | .hbm, ⟨115, _⟩ => ⟨S_, .f32⟩
  | .hbm, ⟨116, _⟩ => ⟨S2x8192x1024, .f32⟩
  | .hbm, ⟨117, _⟩ => ⟨S2x8192x1024, .f32⟩
  | .hbm, ⟨118, _⟩ => ⟨S16384x1024, .f32⟩
  | .hbm, ⟨119, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_10 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x6424 : Shape := ⟨2, ![1024, 6424]⟩
abbrev S8x64 : Shape := ⟨2, ![8, 64]⟩
abbrev S128x128 : Shape := ⟨2, ![128, 128]⟩
abbrev S1024x24 : Shape := ⟨2, ![1024, 24]⟩
abbrev S_ : Shape := ⟨0, ![]⟩
abbrev S1024x128 : Shape := ⟨2, ![1024, 128]⟩
abbrev S1024x1280 : Shape := ⟨2, ![1024, 1280]⟩
abbrev S1024x2048 : Shape := ⟨2, ![1024, 2048]⟩
abbrev S1024x3456 : Shape := ⟨2, ![1024, 3456]⟩
abbrev S1024x3072 : Shape := ⟨2, ![1024, 3072]⟩
abbrev S1x1024 : Shape := ⟨2, ![1, 1024]⟩
abbrev S1x64 : Shape := ⟨2, ![1, 64]⟩
abbrev S64 : Shape := ⟨1, ![64]⟩
abbrev S128 : Shape := ⟨1, ![128]⟩
abbrev S2048 : Shape := ⟨1, ![2048]⟩
abbrev S1408 : Shape := ⟨1, ![1408]⟩
abbrev S3456 : Shape := ⟨1, ![3456]⟩
abbrev S1x3456 : Shape := ⟨2, ![1, 3456]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S2x512x8192 : Shape := ⟨3, ![2, 512, 8192]⟩
abbrev S2x256x8192 : Shape := ⟨3, ![2, 256, 8192]⟩
abbrev S16384x512 : Shape := ⟨2, ![16384, 512]⟩
abbrev S16384x256 : Shape := ⟨2, ![16384, 256]⟩
abbrev S16384x128 : Shape := ⟨2, ![16384, 128]⟩
abbrev S256x1024 : Shape := ⟨2, ![256, 1024]⟩
abbrev S256x128 : Shape := ⟨2, ![256, 128]⟩
abbrev S1x512x256 : Shape := ⟨3, ![1, 512, 256]⟩
abbrev S1x256x256 : Shape := ⟨3, ![1, 256, 256]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x3456 : Shape := ⟨2, ![256, 3456]⟩
abbrev S1x128 : Shape := ⟨2, ![1, 128]⟩
abbrev S128x256 : Shape := ⟨2, ![128, 256]⟩
abbrev S1x128x256 : Shape := ⟨3, ![1, 128, 256]⟩

abbrev nBuf : Space → Nat
  | .hbm => 135
  | .vmem => 36
  | .smem => 0
  | _ => 0

abbrev hbmTy0_0 (i : Nat) : BufTy := match i % 128 with
  | 0 => ⟨S16384x1024, .f32⟩
  | 1 => ⟨S1024, .f32⟩
  | 2 => ⟨S1024x6424, .f32⟩
  | 3 => ⟨S8x64, .f32⟩
  | 4 => ⟨S128x128, .bf16⟩
  | 5 => ⟨S1024x24, .f32⟩
  | 6 => ⟨S_, .i32⟩
  | 7 => ⟨S_, .f32⟩
  | 8 => ⟨S1024x128, .f32⟩
  | 9 => ⟨S1024x1280, .f32⟩
  | 10 => ⟨S1024x2048, .f32⟩
  | 11 => ⟨S1024x3456, .f32⟩
  | 12 => ⟨S1024x3456, .bf16⟩
  | 13 => ⟨S1024x3072, .f32⟩
  | 14 => ⟨S1024x3072, .bf16⟩
  | 15 => ⟨S1x1024, .f32⟩
  | 16 => ⟨S1x64, .f32⟩
  | 17 => ⟨S64, .f32⟩
  | 18 => ⟨S128, .f32⟩
  | 19 => ⟨S1x64, .f32⟩
  | 20 => ⟨S64, .f32⟩
  | 21 => ⟨S128, .f32⟩
  | 22 => ⟨S1x64, .f32⟩
  | 23 => ⟨S64, .f32⟩
  | 24 => ⟨S128, .f32⟩
  | 25 => ⟨S1x64, .f32⟩
  | 26 => ⟨S64, .f32⟩
  | 27 => ⟨S128, .f32⟩
  | 28 => ⟨S1x64, .f32⟩
  | 29 => ⟨S64, .f32⟩
  | 30 => ⟨S128, .f32⟩
  | 31 => ⟨S_, .f32⟩
  | 32 => ⟨S128, .f32⟩
  | 33 => ⟨S1x64, .f32⟩
  | 34 => ⟨S64, .f32⟩
  | 35 => ⟨S128, .f32⟩
  | 36 => ⟨S_, .f32⟩
  | 37 => ⟨S128, .f32⟩
  | 38 => ⟨S1x64, .f32⟩
  | 39 => ⟨S64, .f32⟩
  | 40 => ⟨S128, .f32⟩
  | 41 => ⟨S_, .f32⟩
  | 42 => ⟨S128, .f32⟩
  | 43 => ⟨S1x64, .f32⟩
  | 44 => ⟨S64, .f32⟩
  | 45 => ⟨S128, .f32⟩
  | 46 => ⟨S1x64, .f32⟩
  | 47 => ⟨S64, .f32⟩
  | 48 => ⟨S128, .f32⟩
  | 49 => ⟨S1x64, .f32⟩
  | 50 => ⟨S64, .f32⟩
  | 51 => ⟨S128, .f32⟩
  | 52 => ⟨S1x64, .f32⟩
  | 53 => ⟨S64, .f32⟩
  | 54 => ⟨S128, .f32⟩
  | 55 => ⟨S1x64, .f32⟩
  | 56 => ⟨S64, .f32⟩
  | 57 => ⟨S128, .f32⟩
  | 58 => ⟨S1x64, .f32⟩
  | 59 => ⟨S64, .f32⟩
  | 60 => ⟨S128, .f32⟩
  | 61 => ⟨S_, .f32⟩
  | 62 => ⟨S128, .f32⟩
  | 63 => ⟨S_, .f32⟩
  | 64 => ⟨S128, .f32⟩
  | 65 => ⟨S1x64, .f32⟩
  | 66 => ⟨S64, .f32⟩
  | 67 => ⟨S128, .f32⟩
  | 68 => ⟨S1x64, .f32⟩
  | 69 => ⟨S64, .f32⟩
  | 70 => ⟨S128, .f32⟩
  | 71 => ⟨S1x64, .f32⟩
  | 72 => ⟨S64, .f32⟩
  | 73 => ⟨S128, .f32⟩
  | 74 => ⟨S1x64, .f32⟩
  | 75 => ⟨S64, .f32⟩
  | 76 => ⟨S128, .f32⟩
  | 77 => ⟨S1x64, .f32⟩
  | 78 => ⟨S64, .f32⟩
  | 79 => ⟨S128, .f32⟩
  | 80 => ⟨S1x64, .f32⟩
  | 81 => ⟨S64, .f32⟩
  | 82 => ⟨S128, .f32⟩
  | 83 => ⟨S_, .f32⟩
  | 84 => ⟨S128, .f32⟩
  | 85 => ⟨S_, .f32⟩
  | 86 => ⟨S128, .f32⟩
  | 87 => ⟨S_, .f32⟩
  | 88 => ⟨S128, .f32⟩
  | 89 => ⟨S2048, .f32⟩
  | 90 => ⟨S1408, .f32⟩
  | 91 => ⟨S3456, .f32⟩
  | 92 => ⟨S1x3456, .f32⟩
  | 93 => ⟨S8192, .i32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S8192, .f32⟩
  | 103 => ⟨S8192x1, .f32⟩
  | 104 => ⟨S1x8, .f32⟩
  | 105 => ⟨S8192x8, .f32⟩
  | 106 => ⟨S8192x8, .f32⟩
  | 107 => ⟨S8192x8, .f32⟩
  | 108 => ⟨S8192x8, .f32⟩
  | 109 => ⟨S8192x8, .f32⟩
  | 110 => ⟨S_, .f32⟩
  | 111 => ⟨S8192x48, .f32⟩
  | 112 => ⟨S_, .f32⟩
  | 113 => ⟨S8192x48, .f32⟩
  | 114 => ⟨S_, .f32⟩
  | 115 => ⟨S8192x8, .f32⟩
  | 116 => ⟨S8192x64, .f32⟩
  | 117 => ⟨S8192x8, .f32⟩
  | 118 => ⟨S8192x64, .f32⟩
  | 119 => ⟨S8192x64, .f32⟩
  | 120 => ⟨S8192x128, .f32⟩
  | 121 => ⟨S8192x128, .f32⟩
  | 122 => ⟨S8192x128, .f32⟩
  | 123 => ⟨S2x512x8192, .f32⟩
  | 124 => ⟨S2x256x8192, .f32⟩
  | 125 => ⟨S16384x512, .f32⟩
  | 126 => ⟨S2x512x8192, .f32⟩
  | 127 => ⟨S16384x512, .f32⟩
  | _ => ⟨S16384x1024, .f32⟩

abbrev hbmTy0_1 (i : Nat) : BufTy := match i % 128 with
  | 0 => ⟨S16384x512, .bf16⟩
  | 1 => ⟨S16384x256, .bf16⟩
  | 2 => ⟨S16384x512, .f32⟩
  | 3 => ⟨S16384x512, .bf16⟩
  | 4 => ⟨S16384x512, .f32⟩
  | 5 => ⟨S16384x512, .bf16⟩
  | 6 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1x3456, .f32⟩
  | .local _ .vmem, ⟨5, _⟩ => ⟨S128x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x512x256, .f32⟩
  | .local _ .vmem, ⟨13, _⟩ => ⟨S1x512x256, .f32⟩
  | .local _ .vmem, ⟨14, _⟩ => ⟨S1x256x256, .f32⟩
  | .local _ .vmem, ⟨15, _⟩ => ⟨S1x256x256, .f32⟩
  | .local _ .vmem, ⟨16, _⟩ => ⟨S256x512, .f32⟩
  | .local _ .vmem, ⟨17, _⟩ => ⟨S256x512, .f32⟩
  | .local _ .vmem, ⟨18, _⟩ => ⟨S1x512x256, .f32⟩
  | .local _ .vmem, ⟨19, _⟩ => ⟨S1x512x256, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x256, .bf16⟩
  | .local _ .vmem, ⟨25, _⟩ => ⟨S256x256, .bf16⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x512, .bf16⟩
  | .local _ .vmem, ⟨33, _⟩ => ⟨S256x512, .bf16⟩
  | .local _ .vmem, ⟨34, _⟩ => ⟨S256x128, .f32⟩
  | .local _ .vmem, ⟨35, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_5 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103_0 : Ref sig .tc := ⟨.hbm, 123, rfl⟩
abbrev main_v103_1 : Ref sig .tc := ⟨.hbm, 124, rfl⟩
abbrev main_v103_2 : Ref sig .tc := ⟨.hbm, 125, rfl⟩
abbrev main_v103_3 : Ref sig .tc := ⟨.hbm, 126, rfl⟩
abbrev main_v103_4 : Ref sig .tc := ⟨.hbm, 127, rfl⟩
abbrev main_v103_5 : Ref sig .tc := ⟨.hbm, 128, rfl⟩
abbrev main_v103_6 : Ref sig .tc := ⟨.hbm, 129, rfl⟩
abbrev main_v103_7 : Ref sig .tc := ⟨.hbm, 130, rfl⟩
abbrev main_v103_8 : Ref sig .tc := ⟨.hbm, 131, rfl⟩
abbrev main_v103_9 : Ref sig .tc := ⟨.hbm, 132, rfl⟩
abbrev main_v103_10 : Ref sig .tc := ⟨.hbm, 133, rfl⟩
abbrev main_v103_11 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S16384x1024 : Shape := ⟨2, ![16384, 1024]⟩
abbrev S1024 : Shape := ⟨1, ![1024]⟩
abbrev S1024x6424 : Shape := ⟨2, ![1024, 6424]⟩
abbrev S8x64 : Shape := ⟨2, ![8, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2x8192x1024 : Shape := ⟨3, ![2, 8192, 1024]⟩
abbrev S8192 : Shape := ⟨1, ![8192]⟩
abbrev S2x8192x6424 : Shape := ⟨3, ![2, 8192, 6424]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x256 : Shape := ⟨3, ![2, 8192, 256]⟩
abbrev S2x8192x3072 : Shape := ⟨3, ![2, 8192, 3072]⟩
abbrev S1x64 : Shape := ⟨2, ![1, 64]⟩
abbrev S64 : Shape := ⟨1, ![64]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x16 : Shape := ⟨4, ![2, 8192, 8, 16]⟩
abbrev S2x8192x8x8 : Shape := ⟨4, ![2, 8192, 8, 8]⟩
abbrev S2x8192x8x48 : Shape := ⟨4, ![2, 8192, 8, 48]⟩
abbrev S2x8192x2x4x64 : Shape := ⟨5, ![2, 8192, 2, 4, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x16 : Shape := ⟨4, ![2, 8192, 2, 16]⟩
abbrev S2x8192x2x8 : Shape := ⟨4, ![2, 8192, 2, 8]⟩
abbrev S2x8192x2x48 : Shape := ⟨4, ![2, 8192, 2, 48]⟩
abbrev S2x8192x1x2x64 : Shape := ⟨5, ![2, 8192, 1, 2, 64]⟩
abbrev S2x8192x4x2x64 : Shape := ⟨5, ![2, 8192, 4, 2, 64]⟩
abbrev S2x8192x2x2x64 : Shape := ⟨5, ![2, 8192, 2, 2, 64]⟩
abbrev S2x8192x2x2x2x64 : Shape := ⟨6, ![2, 8192, 2, 2, 2, 64]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S2x8192x4x16 : Shape := ⟨4, ![2, 8192, 4, 16]⟩
abbrev S2x8192x4x8 : Shape := ⟨4, ![2, 8192, 4, 8]⟩
abbrev S2x8192x4x48 : Shape := ⟨4, ![2, 8192, 4, 48]⟩
abbrev S2x8192x2x128 : Shape := ⟨4, ![2, 8192, 2, 128]⟩
abbrev S2x8192x1x2x128 : Shape := ⟨5, ![2, 8192, 1, 2, 128]⟩
abbrev S2x8192x2x2x128 : Shape := ⟨5, ![2, 8192, 2, 2, 128]⟩
abbrev S2x8192x1x4x64 : Shape := ⟨5, ![2, 8192, 1, 4, 64]⟩
abbrev S2x512x8192 : Shape := ⟨3, ![2, 512, 8192]⟩
abbrev S2x256x8192 : Shape := ⟨3, ![2, 256, 8192]⟩
abbrev S16384x512 : Shape := ⟨2, ![16384, 512]⟩
abbrev S16384x256 : Shape := ⟨2, ![16384, 256]⟩
abbrev S16384x128 : Shape := ⟨2, ![16384, 128]⟩

abbrev nBuf : Space → Nat
  | .hbm => 515
  | .vmem => 0
  | .smem => 0
  | _ => 0

abbrev hbmTy0_0 (i : Nat) : BufTy := match i % 128 with
  | 0 => ⟨S16384x1024, .f32⟩
  | 1 => ⟨S1024, .f32⟩
  | 2 => ⟨S1024x6424, .f32⟩
  | 3 => ⟨S8x64, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S2x8192x1024, .f32⟩
  | 21 => ⟨S8192, .i32⟩
  | 22 => ⟨S2x8192x6424, .f32⟩
  | 23 => ⟨S2x8192x512, .f32⟩
  | 24 => ⟨S2x8192x128, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x24, .f32⟩
  | 31 => ⟨S2x8192x512, .f32⟩
  | 32 => ⟨S2x8192x256, .f32⟩
  | 33 => ⟨S2x8192x256, .f32⟩
  | 34 => ⟨S2x8192x512, .f32⟩
  | 35 => ⟨S2x8192x256, .f32⟩
  | 36 => ⟨S2x8192x256, .f32⟩
  | 37 => ⟨S2x8192x3072, .f32⟩
  | 38 => ⟨S1x64, .f32⟩
  | 39 => ⟨S64, .f32⟩
  | 40 => ⟨S2x8192x8x64, .f32⟩
  | 41 => ⟨S2x8192x8x64, .f32⟩
  | 42 => ⟨S_, .f32⟩
  | 43 => ⟨S2x8192x8, .f32⟩
  | 44 => ⟨S2x8192x8x1, .f32⟩
  | 45 => ⟨S_, .f32⟩
  | 46 => ⟨S2x8192x8x1, .f32⟩
  | 47 => ⟨S2x8192x8x1, .f32⟩
  | 48 => ⟨S_, .f32⟩
  | 49 => ⟨S2x8192x8x1, .f32⟩
  | 50 => ⟨S2x8192x8x1, .f32⟩
  | 51 => ⟨S2x8192x8x1, .f32⟩
  | 52 => ⟨S2x8192x8x64, .f32⟩
  | 53 => ⟨S2x8192x8x64, .f32⟩
  | 54 => ⟨S1x1x1x64, .f32⟩
  | 55 => ⟨S2x8192x8x64, .f32⟩
  | 56 => ⟨S2x8192x8x64, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8192, .f32⟩
  | 66 => ⟨S8192x1, .f32⟩
  | 67 => ⟨S1x8, .f32⟩
  | 68 => ⟨S8192x8, .f32⟩
  | 69 => ⟨S8192x8, .f32⟩
  | 70 => ⟨S8192x8, .f32⟩
  | 71 => ⟨S8192x8, .f32⟩
  | 72 => ⟨S1x8192x1x8, .f32⟩
  | 73 => ⟨S8192x8, .f32⟩
  | 74 => ⟨S1x8192x1x8, .f32⟩
  | 75 => ⟨S2x8192x8x16, .f32⟩
  | 76 => ⟨S2x8192x8x8, .f32⟩
  | 77 => ⟨S2x8192x8x8, .f32⟩
  | 78 => ⟨S2x8192x8x8, .f32⟩
  | 79 => ⟨S2x8192x8x8, .f32⟩
  | 80 => ⟨S2x8192x8x8, .f32⟩
  | 81 => ⟨S2x8192x8x8, .f32⟩
  | 82 => ⟨S2x8192x8x8, .f32⟩
  | 83 => ⟨S2x8192x8x8, .f32⟩
  | 84 => ⟨S2x8192x8x8, .f32⟩
  | 85 => ⟨S2x8192x8x8, .f32⟩
  | 86 => ⟨S2x8192x8x8, .f32⟩
  | 87 => ⟨S2x8192x8x8, .f32⟩
  | 88 => ⟨S2x8192x8x16, .f32⟩
  | 89 => ⟨S2x8192x8x48, .f32⟩
  | 90 => ⟨S2x8192x8x64, .f32⟩
  | 91 => ⟨S2x8192x2x4x64, .f32⟩
  | 92 => ⟨S1x64, .f32⟩
  | 93 => ⟨S64, .f32⟩
  | 94 => ⟨S2x8192x2x64, .f32⟩
  | 95 => ⟨S2x8192x2x64, .f32⟩
  | 96 => ⟨S_, .f32⟩
  | 97 => ⟨S2x8192x2, .f32⟩
  | 98 => ⟨S2x8192x2x1, .f32⟩
  | 99 => ⟨S_, .f32⟩
  | 100 => ⟨S2x8192x2x1, .f32⟩
  | 101 => ⟨S2x8192x2x1, .f32⟩
  | 102 => ⟨S_, .f32⟩
  | 103 => ⟨S2x8192x2x1, .f32⟩
  | 104 => ⟨S2x8192x2x1, .f32⟩
  | 105 => ⟨S2x8192x2x1, .f32⟩
  | 106 => ⟨S2x8192x2x64, .f32⟩
  | 107 => ⟨S2x8192x2x64, .f32⟩
  | 108 => ⟨S1x1x1x64, .f32⟩
  | 109 => ⟨S2x8192x2x64, .f32⟩
  | 110 => ⟨S2x8192x2x64, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S8192, .f32⟩
  | 120 => ⟨S8192x1, .f32⟩
  | 121 => ⟨S1x8, .f32⟩
  | 122 => ⟨S8192x8, .f32⟩
  | 123 => ⟨S8192x8, .f32⟩
  | 124 => ⟨S8192x8, .f32⟩
  | 125 => ⟨S8192x8, .f32⟩
  | 126 => ⟨S1x8192x1x8, .f32⟩
  | 127 => ⟨S8192x8, .f32⟩
  | _ => ⟨S16384x1024, .f32⟩

abbrev hbmTy0_1 (i : Nat) : BufTy := match i % 128 with
  | 0 => ⟨S1x8192x1x8, .f32⟩
  | 1 => ⟨S2x8192x2x16, .f32⟩
  | 2 => ⟨S2x8192x2x8, .f32⟩
  | 3 => ⟨S2x8192x2x8, .f32⟩
  | 4 => ⟨S2x8192x2x8, .f32⟩
  | 5 => ⟨S2x8192x2x8, .f32⟩
  | 6 => ⟨S2x8192x2x8, .f32⟩
  | 7 => ⟨S2x8192x2x8, .f32⟩
  | 8 => ⟨S2x8192x2x8, .f32⟩
  | 9 => ⟨S2x8192x2x8, .f32⟩
  | 10 => ⟨S2x8192x2x8, .f32⟩
  | 11 => ⟨S2x8192x2x8, .f32⟩
  | 12 => ⟨S2x8192x2x8, .f32⟩
  | 13 => ⟨S2x8192x2x8, .f32⟩
  | 14 => ⟨S2x8192x2x16, .f32⟩
  | 15 => ⟨S2x8192x2x48, .f32⟩
  | 16 => ⟨S2x8192x2x64, .f32⟩
  | 17 => ⟨S2x8192x2x64, .f32⟩
  | 18 => ⟨S1x64, .f32⟩
  | 19 => ⟨S64, .f32⟩
  | 20 => ⟨S2x8192x2x64, .f32⟩
  | 21 => ⟨S2x8192x2x64, .f32⟩
  | 22 => ⟨S_, .f32⟩
  | 23 => ⟨S2x8192x2, .f32⟩
  | 24 => ⟨S2x8192x2x1, .f32⟩
  | 25 => ⟨S_, .f32⟩
  | 26 => ⟨S2x8192x2x1, .f32⟩
  | 27 => ⟨S2x8192x2x1, .f32⟩
  | 28 => ⟨S_, .f32⟩
  | 29 => ⟨S2x8192x2x1, .f32⟩
  | 30 => ⟨S2x8192x2x1, .f32⟩
  | 31 => ⟨S2x8192x2x1, .f32⟩
  | 32 => ⟨S2x8192x2x64, .f32⟩
  | 33 => ⟨S2x8192x2x64, .f32⟩
  | 34 => ⟨S1x1x1x64, .f32⟩
  | 35 => ⟨S2x8192x2x64, .f32⟩
  | 36 => ⟨S2x8192x2x64, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8192, .f32⟩
  | 46 => ⟨S8192x1, .f32⟩
  | 47 => ⟨S1x8, .f32⟩
  | 48 => ⟨S8192x8, .f32⟩
  | 49 => ⟨S8192x8, .f32⟩
  | 50 => ⟨S8192x8, .f32⟩
  | 51 => ⟨S8192x8, .f32⟩
  | 52 => ⟨S1x8192x1x8, .f32⟩
  | 53 => ⟨S8192x8, .f32⟩
  | 54 => ⟨S1x8192x1x8, .f32⟩
  | 55 => ⟨S2x8192x2x16, .f32⟩
  | 56 => ⟨S2x8192x2x8, .f32⟩
  | 57 => ⟨S2x8192x2x8, .f32⟩
  | 58 => ⟨S2x8192x2x8, .f32⟩
  | 59 => ⟨S2x8192x2x8, .f32⟩
  | 60 => ⟨S2x8192x2x8, .f32⟩
  | 61 => ⟨S2x8192x2x8, .f32⟩
  | 62 => ⟨S2x8192x2x8, .f32⟩
  | 63 => ⟨S2x8192x2x8, .f32⟩
  | 64 => ⟨S2x8192x2x8, .f32⟩
  | 65 => ⟨S2x8192x2x8, .f32⟩
  | 66 => ⟨S2x8192x2x8, .f32⟩
  | 67 => ⟨S2x8192x2x8, .f32⟩
  | 68 => ⟨S2x8192x2x16, .f32⟩
  | 69 => ⟨S2x8192x2x48, .f32⟩
  | 70 => ⟨S2x8192x2x64, .f32⟩
  | 71 => ⟨S2x8192x2x64, .f32⟩
  | 72 => ⟨S2x8192x1x2x64, .f32⟩
  | 73 => ⟨S2x8192x1x2x64, .f32⟩
  | 74 => ⟨S2x8192x1x2x64, .f32⟩
  | 75 => ⟨S2x8192x1x2x64, .f32⟩
  | 76 => ⟨S2x8192x4x2x64, .f32⟩
  | 77 => ⟨S1x64, .f32⟩
  | 78 => ⟨S64, .f32⟩
  | 79 => ⟨S2x8192x2x64, .f32⟩
  | 80 => ⟨S2x8192x2x64, .f32⟩
  | 81 => ⟨S_, .f32⟩
  | 82 => ⟨S2x8192x2, .f32⟩
  | 83 => ⟨S2x8192x2x1, .f32⟩
  | 84 => ⟨S_, .f32⟩
  | 85 => ⟨S2x8192x2x1, .f32⟩
  | 86 => ⟨S2x8192x2x1, .f32⟩
  | 87 => ⟨S_, .f32⟩
  | 88 => ⟨S2x8192x2x1, .f32⟩
  | 89 => ⟨S2x8192x2x1, .f32⟩
  | 90 => ⟨S2x8192x2x1, .f32⟩
  | 91 => ⟨S2x8192x2x64, .f32⟩
  | 92 => ⟨S2x8192x2x64, .f32⟩
  | 93 => ⟨S1x1x1x64, .f32⟩
  | 94 => ⟨S2x8192x2x64, .f32⟩
  | 95 => ⟨S2x8192x2x64, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S8192, .f32⟩
  | 105 => ⟨S8192x1, .f32⟩
  | 106 => ⟨S1x8, .f32⟩
  | 107 => ⟨S8192x8, .f32⟩
  | 108 => ⟨S8192x8, .f32⟩
  | 109 => ⟨S8192x8, .f32⟩
  | 110 => ⟨S8192x8, .f32⟩
  | 111 => ⟨S1x8192x1x8, .f32⟩
  | 112 => ⟨S8192x8, .f32⟩
  | 113 => ⟨S1x8192x1x8, .f32⟩
  | 114 => ⟨S2x8192x2x16, .f32⟩
  | 115 => ⟨S2x8192x2x8, .f32⟩
  | 116 => ⟨S2x8192x2x8, .f32⟩
  | 117 => ⟨S2x8192x2x8, .f32⟩
  | 118 => ⟨S2x8192x2x8, .f32⟩
  | 119 => ⟨S2x8192x2x8, .f32⟩
  | 120 => ⟨S2x8192x2x8, .f32⟩
  | 121 => ⟨S2x8192x2x8, .f32⟩
  | 122 => ⟨S2x8192x2x8, .f32⟩
  | 123 => ⟨S2x8192x2x8, .f32⟩
  | 124 => ⟨S2x8192x2x8, .f32⟩
  | 125 => ⟨S2x8192x2x8, .f32⟩
  | 126 => ⟨S2x8192x2x8, .f32⟩
  | 127 => ⟨S2x8192x2x16, .f32⟩
  | _ => ⟨S16384x1024, .f32⟩

abbrev hbmTy0_2 (i : Nat) : BufTy := match i % 128 with
  | 0 => ⟨S2x8192x2x48, .f32⟩
  | 1 => ⟨S2x8192x2x64, .f32⟩
  | 2 => ⟨S2x8192x2x64, .f32⟩
  | 3 => ⟨S2x8192x1x2x64, .f32⟩
  | 4 => ⟨S2x8192x1x2x64, .f32⟩
  | 5 => ⟨S2x8192x2x2x64, .f32⟩
  | 6 => ⟨S_, .i32⟩
  | 7 => ⟨S_, .f32⟩
  | 8 => ⟨S2x8192x128, .f32⟩
  | 9 => ⟨S2x8192x128, .f32⟩
  | 10 => ⟨S2x8192x128, .f32⟩
  | 11 => ⟨S_, .f32⟩
  | 12 => ⟨S2x8192x128, .f32⟩
  | 13 => ⟨S2x8192x128, .f32⟩
  | 14 => ⟨S_, .f32⟩
  | 15 => ⟨S2x8192x128, .f32⟩
  | 16 => ⟨S2x8192x128, .f32⟩
  | 17 => ⟨S1x64, .f32⟩
  | 18 => ⟨S64, .f32⟩
  | 19 => ⟨S2x8192x8x64, .f32⟩
  | 20 => ⟨S2x8192x8x64, .f32⟩
  | 21 => ⟨S_, .f32⟩
  | 22 => ⟨S2x8192x8, .f32⟩
  | 23 => ⟨S2x8192x8x1, .f32⟩
  | 24 => ⟨S_, .f32⟩
  | 25 => ⟨S2x8192x8x1, .f32⟩
  | 26 => ⟨S2x8192x8x1, .f32⟩
  | 27 => ⟨S_, .f32⟩
  | 28 => ⟨S2x8192x8x1, .f32⟩
  | 29 => ⟨S2x8192x8x1, .f32⟩
  | 30 => ⟨S2x8192x8x1, .f32⟩
  | 31 => ⟨S2x8192x8x64, .f32⟩
  | 32 => ⟨S2x8192x8x64, .f32⟩
  | 33 => ⟨S1x1x1x64, .f32⟩
  | 34 => ⟨S2x8192x8x64, .f32⟩
  | 35 => ⟨S2x8192x8x64, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8192, .f32⟩
  | 45 => ⟨S8192x1, .f32⟩
  | 46 => ⟨S1x8, .f32⟩
  | 47 => ⟨S8192x8, .f32⟩
  | 48 => ⟨S8192x8, .f32⟩
  | 49 => ⟨S8192x8, .f32⟩
  | 50 => ⟨S8192x8, .f32⟩
  | 51 => ⟨S1x8192x1x8, .f32⟩
  | 52 => ⟨S8192x8, .f32⟩
  | 53 => ⟨S1x8192x1x8, .f32⟩
  | 54 => ⟨S2x8192x8x16, .f32⟩
  | 55 => ⟨S2x8192x8x8, .f32⟩
  | 56 => ⟨S2x8192x8x8, .f32⟩
  | 57 => ⟨S2x8192x8x8, .f32⟩
  | 58 => ⟨S2x8192x8x8, .f32⟩
  | 59 => ⟨S2x8192x8x8, .f32⟩
  | 60 => ⟨S2x8192x8x8, .f32⟩
  | 61 => ⟨S2x8192x8x8, .f32⟩
  | 62 => ⟨S2x8192x8x8, .f32⟩
  | 63 => ⟨S2x8192x8x8, .f32⟩
  | 64 => ⟨S2x8192x8x8, .f32⟩
  | 65 => ⟨S2x8192x8x8, .f32⟩
  | 66 => ⟨S2x8192x8x8, .f32⟩
  | 67 => ⟨S2x8192x8x16, .f32⟩
  | 68 => ⟨S2x8192x8x48, .f32⟩
  | 69 => ⟨S2x8192x8x64, .f32⟩
  | 70 => ⟨S2x8192x2x2x2x64, .f32⟩
  | 71 => ⟨S1x64, .f32⟩
  | 72 => ⟨S64, .f32⟩
  | 73 => ⟨S2x8192x4x64, .f32⟩
  | 74 => ⟨S2x8192x4x64, .f32⟩
  | 75 => ⟨S_, .f32⟩
  | 76 => ⟨S2x8192x4, .f32⟩
  | 77 => ⟨S2x8192x4x1, .f32⟩
  | 78 => ⟨S_, .f32⟩
  | 79 => ⟨S2x8192x4x1, .f32⟩
  | 80 => ⟨S2x8192x4x1, .f32⟩
  | 81 => ⟨S_, .f32⟩
  | 82 => ⟨S2x8192x4x1, .f32⟩
  | 83 => ⟨S2x8192x4x1, .f32⟩
  | 84 => ⟨S2x8192x4x1, .f32⟩
  | 85 => ⟨S2x8192x4x64, .f32⟩
  | 86 => ⟨S2x8192x4x64, .f32⟩
  | 87 => ⟨S1x1x1x64, .f32⟩
  | 88 => ⟨S2x8192x4x64, .f32⟩
  | 89 => ⟨S2x8192x4x64, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S8192, .f32⟩
  | 99 => ⟨S8192x1, .f32⟩
  | 100 => ⟨S1x8, .f32⟩
  | 101 => ⟨S8192x8, .f32⟩
  | 102 => ⟨S8192x8, .f32⟩
  | 103 => ⟨S8192x8, .f32⟩
  | 104 => ⟨S8192x8, .f32⟩
  | 105 => ⟨S1x8192x1x8, .f32⟩
  | 106 => ⟨S8192x8, .f32⟩
  | 107 => ⟨S1x8192x1x8, .f32⟩
  | 108 => ⟨S2x8192x4x16, .f32⟩
  | 109 => ⟨S2x8192x4x8, .f32⟩
  | 110 => ⟨S2x8192x4x8, .f32⟩
  | 111 => ⟨S2x8192x4x8, .f32⟩
  | 112 => ⟨S2x8192x4x8, .f32⟩
  | 113 => ⟨S2x8192x4x8, .f32⟩
  | 114 => ⟨S2x8192x4x8, .f32⟩
  | 115 => ⟨S2x8192x4x8, .f32⟩
  | 116 => ⟨S2x8192x4x8, .f32⟩
  | 117 => ⟨S2x8192x4x8, .f32⟩
  | 118 => ⟨S2x8192x4x8, .f32⟩
  | 119 => ⟨S2x8192x4x8, .f32⟩
  | 120 => ⟨S2x8192x4x8, .f32⟩
  | 121 => ⟨S2x8192x4x16, .f32⟩
  | 122 => ⟨S2x8192x4x48, .f32⟩
  | 123 => ⟨S2x8192x4x64, .f32⟩
  | 124 => ⟨S2x8192x2x128, .f32⟩
  | 125 => ⟨S2x8192x2x128, .f32⟩
  | 126 => ⟨S2x8192x1x2x128, .f32⟩
  | 127 => ⟨S2x8192x1x2x128, .f32⟩
  | _ => ⟨S16384x1024, .f32⟩

abbrev hbmTy0_3 (i : Nat) : BufTy := match i % 128 with
  | 0 => ⟨S2x8192x2x2x128, .f32⟩
  | 1 => ⟨S1x64, .f32⟩
  | 2 => ⟨S64, .f32⟩
  | 3 => ⟨S2x8192x8x64, .f32⟩
  | 4 => ⟨S2x8192x8x64, .f32⟩
  | 5 => ⟨S_, .f32⟩
  | 6 => ⟨S2x8192x8, .f32⟩
  | 7 => ⟨S2x8192x8x1, .f32⟩
  | 8 => ⟨S_, .f32⟩
  | 9 => ⟨S2x8192x8x1, .f32⟩
  | 10 => ⟨S2x8192x8x1, .f32⟩
  | 11 => ⟨S_, .f32⟩
  | 12 => ⟨S2x8192x8x1, .f32⟩
  | 13 => ⟨S2x8192x8x1, .f32⟩
  | 14 => ⟨S2x8192x8x1, .f32⟩
  | 15 => ⟨S2x8192x8x64, .f32⟩
  | 16 => ⟨S2x8192x8x64, .f32⟩
  | 17 => ⟨S1x1x1x64, .f32⟩
  | 18 => ⟨S2x8192x8x64, .f32⟩
  | 19 => ⟨S2x8192x8x64, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8192, .f32⟩
  | 29 => ⟨S8192x1, .f32⟩
  | 30 => ⟨S1x8, .f32⟩
  | 31 => ⟨S8192x8, .f32⟩
  | 32 => ⟨S8192x8, .f32⟩
  | 33 => ⟨S8192x8, .f32⟩
  | 34 => ⟨S8192x8, .f32⟩
  | 35 => ⟨S1x8192x1x8, .f32⟩
  | 36 => ⟨S8192x8, .f32⟩
  | 37 => ⟨S1x8192x1x8, .f32⟩
  | 38 => ⟨S2x8192x8x16, .f32⟩
  | 39 => ⟨S2x8192x8x8, .f32⟩
  | 40 => ⟨S2x8192x8x8, .f32⟩
  | 41 => ⟨S2x8192x8x8, .f32⟩
  | 42 => ⟨S2x8192x8x8, .f32⟩
  | 43 => ⟨S2x8192x8x8, .f32⟩
  | 44 => ⟨S2x8192x8x8, .f32⟩
  | 45 => ⟨S2x8192x8x8, .f32⟩
  | 46 => ⟨S2x8192x8x8, .f32⟩
  | 47 => ⟨S2x8192x8x8, .f32⟩
  | 48 => ⟨S2x8192x8x8, .f32⟩
  | 49 => ⟨S2x8192x8x8, .f32⟩
  | 50 => ⟨S2x8192x8x8, .f32⟩
  | 51 => ⟨S2x8192x8x16, .f32⟩
  | 52 => ⟨S2x8192x8x48, .f32⟩
  | 53 => ⟨S2x8192x8x64, .f32⟩
  | 54 => ⟨S2x8192x4x2x64, .f32⟩
  | 55 => ⟨S1x64, .f32⟩
  | 56 => ⟨S64, .f32⟩
  | 57 => ⟨S2x8192x4x64, .f32⟩
  | 58 => ⟨S2x8192x4x64, .f32⟩
  | 59 => ⟨S_, .f32⟩
  | 60 => ⟨S2x8192x4, .f32⟩
  | 61 => ⟨S2x8192x4x1, .f32⟩
  | 62 => ⟨S_, .f32⟩
  | 63 => ⟨S2x8192x4x1, .f32⟩
  | 64 => ⟨S2x8192x4x1, .f32⟩
  | 65 => ⟨S_, .f32⟩
  | 66 => ⟨S2x8192x4x1, .f32⟩
  | 67 => ⟨S2x8192x4x1, .f32⟩
  | 68 => ⟨S2x8192x4x1, .f32⟩
  | 69 => ⟨S2x8192x4x64, .f32⟩
  | 70 => ⟨S2x8192x4x64, .f32⟩
  | 71 => ⟨S1x1x1x64, .f32⟩
  | 72 => ⟨S2x8192x4x64, .f32⟩
  | 73 => ⟨S2x8192x4x64, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8192, .f32⟩
  | 83 => ⟨S8192x1, .f32⟩
  | 84 => ⟨S1x8, .f32⟩
  | 85 => ⟨S8192x8, .f32⟩
  | 86 => ⟨S8192x8, .f32⟩
  | 87 => ⟨S8192x8, .f32⟩
  | 88 => ⟨S8192x8, .f32⟩
  | 89 => ⟨S1x8192x1x8, .f32⟩
  | 90 => ⟨S8192x8, .f32⟩
  | 91 => ⟨S1x8192x1x8, .f32⟩
  | 92 => ⟨S2x8192x4x16, .f32⟩
  | 93 => ⟨S2x8192x4x8, .f32⟩
  | 94 => ⟨S2x8192x4x8, .f32⟩
  | 95 => ⟨S2x8192x4x8, .f32⟩
  | 96 => ⟨S2x8192x4x8, .f32⟩
  | 97 => ⟨S2x8192x4x8, .f32⟩
  | 98 => ⟨S2x8192x4x8, .f32⟩
  | 99 => ⟨S2x8192x4x8, .f32⟩
  | 100 => ⟨S2x8192x4x8, .f32⟩
  | 101 => ⟨S2x8192x4x8, .f32⟩
  | 102 => ⟨S2x8192x4x8, .f32⟩
  | 103 => ⟨S2x8192x4x8, .f32⟩
  | 104 => ⟨S2x8192x4x8, .f32⟩
  | 105 => ⟨S2x8192x4x16, .f32⟩
  | 106 => ⟨S2x8192x4x48, .f32⟩
  | 107 => ⟨S2x8192x4x64, .f32⟩
  | 108 => ⟨S2x8192x4x64, .f32⟩
  | 109 => ⟨S2x8192x1x4x64, .f32⟩
  | 110 => ⟨S2x8192x1x4x64, .f32⟩
  | 111 => ⟨S2x8192x2x4x64, .f32⟩
  | 112 => ⟨S2x8192x512, .f32⟩
  | 113 => ⟨S2x512x8192, .f32⟩
  | 114 => ⟨S2x8192x256, .f32⟩
  | 115 => ⟨S2x256x8192, .f32⟩
  | 116 => ⟨S16384x512, .f32⟩
  | 117 => ⟨S2x8192x512, .f32⟩
  | 118 => ⟨S2x512x8192, .f32⟩
  | 119 => ⟨S16384x512, .f32⟩
  | 120 => ⟨S16384x512, .f32⟩
  | 121 => ⟨S16384x512, .bf16⟩
  | 122 => ⟨S16384x256, .f32⟩
  | 123 => ⟨S16384x256, .bf16⟩
  | 124 => ⟨S16384x512, .f32⟩
  | 125 => ⟨S16384x512, .f32⟩
  | 126 => ⟨S16384x512, .bf16⟩
  | 127 => ⟨S16384x512, .f32⟩
  | _ => ⟨S16384x1024, .f32⟩

abbrev hbmTy0_4 (i : Nat) : BufTy := match i % 128 with
  | 0 => ⟨S16384x512, .f32⟩
  | 1 => ⟨S16384x512, .bf16⟩
  | 2 => ⟨S16384x128, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_cst_9 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_10 : Ref sig .tc := ⟨.hbm, 113, rfl⟩
abbrev main_v98 : Ref sig .tc := ⟨.hbm, 114, rfl⟩
abbrev main_v99 : Ref sig .tc := ⟨.hbm, 115, rfl⟩
abbrev main_cst_11 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_12 : Ref sig .tc := ⟨.hbm, 150, rfl⟩
abbrev main_v133 : Ref sig .tc := ⟨.hbm, 151, rfl⟩
abbrev main_v134 : Ref sig .tc := ⟨.hbm, 152, rfl⟩
abbrev main_cst_13 : Ref sig .tc := ⟨.hbm, 153, rfl⟩
abbrev main_v135 : Ref sig .tc := ⟨.hbm, 154, rfl⟩
abbrev main_v136 : Ref sig .tc := ⟨.hbm, 155, rfl⟩
abbrev main_cst_14 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_cst_15 : Ref sig .tc := ⟨.hbm, 167, rfl⟩
abbrev main_v147 : Ref sig .tc := ⟨.hbm, 168, rfl⟩
abbrev main_v148 : Ref sig .tc := ⟨.hbm, 169, rfl⟩
abbrev main_cst_16 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_cst_17 : Ref sig .tc := ⟨.hbm, 209, rfl⟩
abbrev main_v187 : Ref sig .tc := ⟨.hbm, 210, rfl⟩
abbrev main_v188 : Ref sig .tc := ⟨.hbm, 211, rfl⟩
abbrev main_cst_18 : Ref sig .tc := ⟨.hbm, 212, rfl⟩
abbrev main_v189 : Ref sig .tc := ⟨.hbm, 213, rfl⟩
abbrev main_v190 : Ref sig .tc := ⟨.hbm, 214, rfl⟩
abbrev main_cst_19 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_cst_20 : Ref sig .tc := ⟨.hbm, 226, rfl⟩
abbrev main_v201 : Ref sig .tc := ⟨.hbm, 227, rfl⟩
abbrev main_v202 : Ref sig .tc := ⟨.hbm, 228, rfl⟩
abbrev main_cst_21 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_c : Ref sig .tc := ⟨.hbm, 262, rfl⟩
abbrev main_call0_v0 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_cst_22 : Ref sig .tc := ⟨.hbm, 267, rfl⟩
abbrev main_v238 : Ref sig .tc := ⟨.hbm, 268, rfl⟩
abbrev main_v239 : Ref sig .tc := ⟨.hbm, 269, rfl⟩
abbrev main_cst_23 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_cst_24 : Ref sig .tc := ⟨.hbm, 277, rfl⟩
abbrev main_v246 : Ref sig .tc := ⟨.hbm, 278, rfl⟩
abbrev main_v247 : Ref sig .tc := ⟨.hbm, 279, rfl⟩
abbrev main_cst_25 : Ref sig .tc := ⟨.hbm, 280, rfl⟩
abbrev main_v248 : Ref sig .tc := ⟨.hbm, 281, rfl⟩
abbrev main_v249 : Ref sig .tc := ⟨.hbm, 282, rfl⟩
abbrev main_cst_26 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_cst_27 : Ref sig .tc := ⟨.hbm, 294, rfl⟩
abbrev main_v260 : Ref sig .tc := ⟨.hbm, 295, rfl⟩
abbrev main_v261 : Ref sig .tc := ⟨.hbm, 296, rfl⟩
abbrev main_cst_28 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_cst_29 : Ref sig .tc := ⟨.hbm, 331, rfl⟩
abbrev main_v295 : Ref sig .tc := ⟨.hbm, 332, rfl⟩
abbrev main_v296 : Ref sig .tc := ⟨.hbm, 333, rfl⟩
abbrev main_cst_30 : Ref sig .tc := ⟨.hbm, 334, rfl⟩
abbrev main_v297 : Ref sig .tc := ⟨.hbm, 335, rfl⟩
abbrev main_v298 : Ref sig .tc := ⟨.hbm, 336, rfl⟩
abbrev main_cst_31 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_cst_32 : Ref sig .tc := ⟨.hbm, 348, rfl⟩
abbrev main_v309 : Ref sig .tc := ⟨.hbm, 349, rfl⟩
abbrev main_v310 : Ref sig .tc := ⟨.hbm, 350, rfl⟩
abbrev main_cst_33 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_cst_34 : Ref sig .tc := ⟨.hbm, 389, rfl⟩
abbrev main_v348 : Ref sig .tc := ⟨.hbm, 390, rfl⟩
abbrev main_v349 : Ref sig .tc := ⟨.hbm, 391, rfl⟩
abbrev main_cst_35 : Ref sig .tc := ⟨.hbm, 392, rfl⟩
abbrev main_v350 : Ref sig .tc := ⟨.hbm, 393, rfl⟩
abbrev main_v351 : Ref sig .tc := ⟨.hbm, 394, rfl⟩
abbrev main_cst_36 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_cst_37 : Ref sig .tc := ⟨.hbm, 406, rfl⟩
abbrev main_v362 : Ref sig .tc := ⟨.hbm, 407, rfl⟩
abbrev main_v363 : Ref sig .tc := ⟨.hbm, 408, rfl⟩
abbrev main_cst_38 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_cst_39 : Ref sig .tc := ⟨.hbm, 443, rfl⟩
abbrev main_v397 : Ref sig .tc := ⟨.hbm, 444, rfl⟩
abbrev main_v398 : Ref sig .tc := ⟨.hbm, 445, rfl⟩
abbrev main_cst_40 : Ref sig .tc := ⟨.hbm, 446, rfl⟩
abbrev main_v399 : Ref sig .tc := ⟨.hbm, 447, rfl⟩
abbrev main_v400 : Ref sig .tc := ⟨.hbm, 448, rfl⟩
abbrev main_cst_41 : Ref sig .tc := ⟨.hbm, 449, rfl⟩
abbrev main_v401 : Ref sig .tc := ⟨.hbm, 450, rfl⟩
abbrev main_v402 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_cst_42 : Ref sig .tc := ⟨.hbm, 460, rfl⟩
abbrev main_v411 : Ref sig .tc := ⟨.hbm, 461, rfl⟩
abbrev main_v412 : Ref sig .tc := ⟨.hbm, 462, rfl⟩
abbrev main_cst_43 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_v417 : Ref sig .tc := ⟨.hbm, 468, rfl⟩
abbrev main_v418 : Ref sig .tc := ⟨.hbm, 469, rfl⟩
abbrev main_v419 : Ref sig .tc := ⟨.hbm, 470, rfl⟩
abbrev main_v420 : Ref sig .tc := ⟨.hbm, 471, rfl⟩
abbrev main_v421 : Ref sig .tc := ⟨.hbm, 472, rfl⟩
abbrev main_v422 : Ref sig .tc := ⟨.hbm, 473, rfl⟩
abbrev main_v423 : Ref sig .tc := ⟨.hbm, 474, rfl⟩
abbrev main_v424 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_v439 : Ref sig .tc := ⟨.hbm, 490, rfl⟩
abbrev main_v440 : Ref sig .tc := ⟨.hbm, 491, rfl⟩
abbrev main_v441 : Ref sig .tc := ⟨.hbm, 492, rfl⟩
abbrev main_v442 : Ref sig .tc := ⟨.hbm, 493, rfl⟩
abbrev main_v443 : Ref sig .tc := ⟨.hbm, 494, rfl⟩
abbrev main_v444 : Ref sig .tc := ⟨.hbm, 495, rfl⟩
abbrev main_v445 : Ref sig .tc := ⟨.hbm, 496, rfl⟩
abbrev main_v446 : Ref sig .tc := ⟨.hbm, 497, rfl⟩
abbrev main_v447 : Ref sig .tc := ⟨.hbm, 498, rfl⟩
abbrev main_v448 : Ref sig .tc := ⟨.hbm, 499, rfl⟩
abbrev main_v449 : Ref sig .tc := ⟨.hbm, 500, rfl⟩
abbrev main_v450 : Ref sig .tc := ⟨.hbm, 501, rfl⟩
abbrev main_v451 : Ref sig .tc := ⟨.hbm, 502, rfl⟩
abbrev main_v452 : Ref sig .tc := ⟨.hbm, 503, rfl⟩
abbrev main_v453 : Ref sig .tc := ⟨.hbm, 504, rfl⟩
abbrev main_v454 : Ref sig .tc := ⟨.hbm, 505, rfl⟩
abbrev main_v455 : Ref sig .tc := ⟨.hbm, 506, rfl⟩
abbrev main_v456 : Ref sig .tc := ⟨.hbm, 507, rfl⟩
abbrev main_v457 : Ref sig .tc := ⟨.hbm, 508, rfl⟩
abbrev main_v458 : Ref sig .tc := ⟨.hbm, 509, rfl⟩
abbrev main_v459 : Ref sig .tc := ⟨.hbm, 510, rfl⟩
abbrev main_v460 : Ref sig .tc := ⟨.hbm, 511, rfl⟩
abbrev main_v461 : Ref sig .tc := ⟨.hbm, 512, rfl⟩
abbrev main_v462 : Ref sig .tc := ⟨.hbm, 513, rfl⟩
abbrev main_v463 : Ref sig .tc := ⟨.hbm, 514, rfl⟩

abbrev nD : Nat := 1
abbrev τ : Topo := Topo.v7x

variable {F : FTy → Type} [FloatOps F]
-- ==== Proof.FlashBitsPoints.lean ====
/-
The attention kernel: its grid points, decided at the tables it is steered by.
-/
module

public import proofs.«01_k».proof.Proof.Gen.Kernel.Skeleton
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashBitsWords
public import Idealize.ShloMosaic.PureOps.BitExact

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Bits) ℕ (UR sig nD τ) ℕ

/-- The tables' contents, as the pipeline is pinned at them. -/
def tables : pre0.Contents (Elt Bits) := fun | ⟨0, _⟩ => cQi (F := Bits) | ⟨1, _⟩ => cKt (F := Bits) | ⟨2, _⟩ => cFirst (F := Bits) | ⟨3, _⟩ => cLast (F := Bits) | ⟨_ + 4, h⟩ => absurd h (by simp)

theorem ok_q : ∀ i : grid0.Coords, ∀ a, (cc0_transform_0 k0_off1_inb numel1_S1 tables i a + 1) * S512x512.size a ≤ S16384x512.size a := by decide +kernel
theorem ok_kv : ∀ i : grid0.Coords, ∀ a, (cc0_transform_1 k0_off1_inb numel1_S1 tables i a + 1) * S1x512x512.size a ≤ S2x8192x512.size a := by decide +kernel
theorem ok_out : ∀ i : grid0.Coords, ∀ a, (cc0_transform_2 k0_off1_inb numel1_S1 tables i a + 1) * S512x1024.size a ≤ S16384x1024.size a := by decide +kernel

/-- Every block lies inside its array. -/
theorem ok_tables : ok0 (F := Bits) tables :=
  ⟨fun i => ⟨ok_q i, .inl rfl⟩, fun i => ⟨ok_kv i, .inr (Affine.block_words_dvd (s := S2x8192x512) (p := EltTy.packing .bf16) (by decide) (by decide))⟩,
    fun i => ⟨ok_out i, .inl rfl⟩⟩

/-- The pipeline at its tables. -/
def adm : (pcfg0 (F := Bits)).Adm := ⟨tables, ok_tables⟩
abbrev cfgA : Cfg sig Λ₀ := cfg0 (F := Bits) adm

/-- Point `t`'s coordinates, its batch row, its query block and its key block. -/
abbrev crd (t : Fin cfgA.N) : grid0.Coords := cfgA.grid.coords t
abbrev bN (t : Fin cfgA.N) : ℕ := (crd t 0).val
abbrev qN (t : Fin cfgA.N) : ℕ := BitVec.toNat (w := 32) (wQi (F := Bits) (crd t))
abbrev kN (t : Fin cfgA.N) : ℕ := BitVec.toNat (w := 32) (wKt (F := Bits) (crd t))

/-- The staging buffers the body is handed at point `t`. -/
abbrev ms0 (t : Fin cfgA.N) : Memref sig .tc .vmem S512x512 .f32 := spec0_0.stage (cfgA.slots t (0 : Fin 3))
abbrev hs0 (t : Fin cfgA.N) : (ms0 t).IsWhole := hstage0_0 ((cfgA.slots t (0 : Fin 3)).cast nbuf0_0)
abbrev ms1 (t : Fin cfgA.N) : Memref sig .tc .vmem S1x512x512 .bf16 := spec0_1.stage (cfgA.slots t (1 : Fin 3))
abbrev hs1 (t : Fin cfgA.N) : (ms1 t).IsWhole := hstage0_1 ((cfgA.slots t (1 : Fin 3)).cast nbuf0_1)
abbrev ms2 (t : Fin cfgA.N) : Memref sig .tc .vmem S512x1024 .f32 := spec0_2.stage (cfgA.slots t (2 : Fin 3))
abbrev hs2 (t : Fin cfgA.N) : (ms2 t).IsWhole := hstage0_2 ((cfgA.slots t (2 : Fin 3)).cast nbuf0_2)

/-- The four ways through the body, told by the key block and the query block. -/
abbrev IsA (t : Fin cfgA.N) : Prop := isFirst Bits (crd t) ∧ ¬isFull Bits (crd t) ∧ isMasked Bits (crd t) ∧ isLast Bits (crd t)
abbrev IsB (t : Fin cfgA.N) : Prop := isFirst Bits (crd t) ∧ isFull Bits (crd t) ∧ ¬isMasked Bits (crd t) ∧ ¬isLast Bits (crd t)
abbrev IsC (t : Fin cfgA.N) : Prop := ¬isFirst Bits (crd t) ∧ ¬isFull Bits (crd t) ∧ isMasked Bits (crd t) ∧ isLast Bits (crd t)
abbrev IsD (t : Fin cfgA.N) : Prop := ¬isFirst Bits (crd t) ∧ isFull Bits (crd t) ∧ ¬isMasked Bits (crd t) ∧ ¬isLast Bits (crd t)

theorem ways : ∀ t : Fin cfgA.N, IsA t ∨ IsB t ∨ IsC t ∨ IsD t := by decide +kernel

end Cert.Kernel.Flash

end
-- ==== Proof.FlashBitsFrame.lean ====
/-
The attention kernel: its launch, from an invariant every way through the body keeps.
-/
module

public import proofs.«01_k».proof.Proof.Gen.Kernel.Skeleton
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashBitsPoints
public import proofs.«01_k».proof.Proof.FlashBitsRunA
public import proofs.«01_k».proof.Proof.FlashBitsRunB
public import proofs.«01_k».proof.Proof.FlashBitsRunC
public import proofs.«01_k».proof.Proof.FlashBitsRunD
public import Idealize.ShloMosaic.Lib.Pipeline.Frame
public import Idealize.ShloMosaic.Lib.Pipeline.Quiescent
public import proofs.«01_k».proof.Defs

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Bits) ℕ (UR sig nD τ) ℕ

variable (m : (ℓ : Loc nD τ sig) → Buf (Elt Bits) ℓ)

/-- What a buffer holds where the kernel's region is entered. -/
abbrev entry0 (c : Dev nD) (b : Ref sig .tc) : Buf (Elt Bits) ((c.tc : Thread nD τ).loc b) :=
  StableHlo.after hostOps0 (fun b => m (c, b)) b

/-- Window `w`'s block at point `t`, of its array where the region is entered. -/
def iblk (c : Dev nD) (w : Fin cfgA.W) (t : Fin cfgA.N) : ((cfgA.win w).xblock (crd t)).Idx → Elt Bits (cfgA.win w).elt :=
  ((cfgA.win w).blk t).view.read (Elt Bits) (entry0 m c (Pipeline.arrRef cfgA.spec w))

abbrev qblk (c : Dev nD) (t : Fin cfgA.N) : S512x512.Idx → Elt Bits .f32 := iblk m c (0 : Fin 3) t
abbrev kvblk (c : Dev nD) (t : Fin cfgA.N) : S1x512x512.Idx → Elt Bits .bf16 := iblk m c (1 : Fin 3) t

/-- The four runs at point `t`'s buffers and blocks. -/
abbrev atA (c : Dev nD) (t : Fin cfgA.N) (h : IsA t) := runA (F := Bits) c (crd t) (ms0 t) (hs0 t) (ms1 t) (hs1 t) (ms2 t) (hs2 t) (qblk m c t) (kvblk m c t) h.1 h.2.1 h.2.2.1 h.2.2.2
abbrev atB (c : Dev nD) (t : Fin cfgA.N) (h : IsB t) := runB (F := Bits) c (crd t) (ms0 t) (hs0 t) (ms1 t) (hs1 t) (ms2 t) (hs2 t) (qblk m c t) (kvblk m c t) h.1 h.2.1 h.2.2.1 h.2.2.2
abbrev atC (c : Dev nD) (t : Fin cfgA.N) (q0 : BufQ Bits c) (m0 : BufM Bits c) (a0 : BufA Bits c) (h : IsC t) := runC (F := Bits) c (crd t) (ms0 t) (hs0 t) (ms1 t) (hs1 t) (ms2 t) (hs2 t) (qblk m c t) (kvblk m c t) q0 m0 a0 h.1 h.2.1 h.2.2.1 h.2.2.2
abbrev atD (c : Dev nD) (t : Fin cfgA.N) (q0 : BufQ Bits c) (m0 : BufM Bits c) (a0 : BufA Bits c) (h : IsD t) := runD (F := Bits) c (crd t) (ms0 t) (hs0 t) (ms1 t) (hs1 t) (ms2 t) (hs2 t) (qblk m c t) (kvblk m c t) q0 m0 a0 h.1 h.2.1 h.2.2.1 h.2.2.2

variable (Inv : (c : Dev nD) → ℕ → BufQ Bits c → BufM Bits c → BufA Bits c → Prop)
  (R : Dev nD → Fin cfgA.N → (S512x1024.Idx → Elt Bits .f32) → Prop)

/-- An invariant of the carried buffers that every way through the body keeps, and a property of the output block that the
    ways which store it establish. -/
structure Kept : Prop where
  init : ∀ c q m' a, Inv c 0 q m' a
  stepA : ∀ c t (h : IsA t), Inv c (t.val + 1) (atA m c t h).2.1 (atA m c t h).2.2.1 (atA m c t h).2.2.2.1
    ∧ ∀ f, R c t ((ms2 t).view.read (Elt Bits) ((ms2 t).view.writes (Elt Bits) f (atA m c t h).1))
  stepB : ∀ c t (h : IsB t), Inv c (t.val + 1) (atB m c t h).1 (atB m c t h).2.1 (atB m c t h).2.2.1
  stepC : ∀ c t (h : IsC t) q0 m0 a0, Inv c t.val q0 m0 a0 → Inv c (t.val + 1) q0 (atC m c t q0 m0 a0 h).2.1 (atC m c t q0 m0 a0 h).2.2.1
    ∧ ∀ f, R c t ((ms2 t).view.read (Elt Bits) ((ms2 t).view.writes (Elt Bits) f (atC m c t q0 m0 a0 h).1))
  stepD : ∀ c t (h : IsD t) q0 m0 a0, Inv c t.val q0 m0 a0 → Inv c (t.val + 1) q0 (atD m c t q0 m0 a0 h).1 (atD m c t q0 m0 a0 h).2.1

/-- Before point `n`: the carried buffers satisfy the invariant; the tables' halves and the random register are held. -/
def Phi (c : Dev nD) (n : ℕ) : sProp 𝕄 :=
  iprop(∃ q m' a, ⌜Inv c n q m' a⌝ ∗ (sQ.view.loc (c : Thread nD τ) ↦{fullShare} q) ∗ (sM.view.loc (c : Thread nD τ) ↦{fullShare} m') ∗ (sA.view.loc (c : Thread nD τ) ↦{fullShare} a)
    ∗ (tQi.view.loc (c : Thread nD τ) ↦{fullShare.right} cQi (F := Bits)) ∗ (tKt.view.loc (c : Thread nD τ) ↦{fullShare.right} cKt (F := Bits))
    ∗ (tFirst.view.loc (c : Thread nD τ) ↦{fullShare.right} cFirst (F := Bits)) ∗ (tLast.view.loc (c : Thread nD τ) ↦{fullShare.right} cLast (F := Bits)) ∗ ∃ r, prngReg c r)

/-- The proof data: inputs are left as found, the output block satisfies `R` where the row of key blocks ends. -/
def rdat (c : Dev nD) : RDat τ (Elt Bits) Unit ℕ (UR sig nD τ) ℕ cfgA c where
  A w := entry0 m c (Pipeline.arrRef cfgA.spec w)
  after w t Y X := match w with
    | ⟨0, _⟩ => X = Y
    | ⟨1, _⟩ => X = Y
    | ⟨2, _⟩ => isLast Bits (crd t) → R c t X
  Φ t := Phi Inv c t.val
  q _ := fullShare
  owed _ := 0

theorem found_q (c : Dev nD) (t : Fin cfgA.N) (Y) (h : (rdat m Inv R c).Finds (0 : Fin 3) t Y) : Y = qblk m c t := by
  obtain ⟨d, hd⟩ := (rdat m Inv R c).finds_in_eq_fetched (0 : Fin 3) rfl (fun _ _ _ => rfl) (fun _ _ _ h => h) t Y h
  exact hd.trans (by unfold RDat.fetched RDat.blockOf qblk iblk; rfl)
theorem found_kv (c : Dev nD) (t : Fin cfgA.N) (Y) (h : (rdat m Inv R c).Finds (1 : Fin 3) t Y) : Y = kvblk m c t := by
  obtain ⟨d, hd⟩ := (rdat m Inv R c).finds_in_eq_fetched (1 : Fin 3) rfl (fun _ _ _ => rfl) (fun _ _ _ h => h) t Y h
  exact hd.trans (by unfold RDat.fetched RDat.blockOf kvblk iblk; rfl)

/-- The body at point `t`. -/
abbrev bodyAt (t : Fin cfgA.N) : Prog (TpuEff nD τ sig (Elt Bits) Λ₀ .tc) PUnit :=
  cc0_flash_diff (crd t) tQi (Memref.isWhole_whole _) tKt (Memref.isWhole_whole _) tFirst (Memref.isWhole_whole _) tLast (Memref.isWhole_whole _) (ms0 t) (hs0 t) (ms1 t) (hs1 t) (ms2 t) (hs2 t) sQ (Memref.isWhole_whole _) sM (Memref.isWhole_whole _) sA (Memref.isWhole_whole _)

set_option maxHeartbeats 4000000 in
/-- The body at a point keeps the invariant. -/
theorem sound (K : Kept m Inv R) (c : Dev nD) (t : Fin cfgA.N) (o : S512x1024.Idx → Elt Bits .f32) (O : sProp 𝕄) :
    iprop(Phi Inv c t.val ∗ O ∗ owns (c : Thread nD τ) (ms0 t) fullShare (qblk m c t) ∗ owns (c : Thread nD τ) (ms1 t) fullShare (kvblk m c t)
        ∗ owns (c : Thread nD τ) (ms2 t) fullShare o)
      ⊢ wp frame (wpE (defs₀ (F := Bits)) Variants.none c none) Set.univ (bodyAt t) fun _ =>
        iprop(Phi Inv c (t.val + 1) ∗ O ∗ owns (c : Thread nD τ) (ms0 t) fullShare (qblk m c t) ∗ owns (c : Thread nD τ) (ms1 t) fullShare (kvblk m c t)
          ∗ ∃ X, ⌜isLast Bits (crd t) → R c t X⌝ ∗ owns (c : Thread nD τ) (ms2 t) fullShare X) := by
  unfold Phi
  rcases ways t with h | h | h | h
  · iintro ⟨⟨%q0, %m0, %a0, %hI, HQ, HM, HA, HT0, HT1, HT2, HT3, HP⟩, HO, H0, H1, H2⟩
    iapply ((atA m c t h).2.2.2.2 q0 m0 a0 _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexists o; iexact H2
    isplitl [HQ]; · iexact HQ
    isplitl [HM]; · iexact HM
    isplitl [HA]; · iexact HA
    iintro ⟨H0, H1, HT0, HT1, HT2, HT3, ⟨%f, H2⟩, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact (K.stepA c t h).1
    isplitl [HO]; · iexact HO
    isplitl [H0]; · iapply owns_of_rep; iexact H0
    isplitl [H1]; · iapply owns_of_rep; iexact H1
    iexists _; isplitr; swap
    · unfold owns; iexists _; isplitr; swap
      · iexact H2
      · ipureintro; rfl
    · ipureintro; exact fun _ => (K.stepA c t h).2 f
  · iintro ⟨⟨%q0, %m0, %a0, %hI, HQ, HM, HA, HT0, HT1, HT2, HT3, HP⟩, HO, H0, H1, H2⟩
    iapply ((atB m c t h).2.2.2 q0 m0 a0 o _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexact H2
    isplitl [HQ]; · iexact HQ
    isplitl [HM]; · iexact HM
    isplitl [HA]; · iexact HA
    iintro ⟨H0, H1, HT0, HT1, HT2, HT3, H2, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact K.stepB c t h
    isplitl [HO]; · iexact HO
    isplitl [H0]; · iapply owns_of_rep; iexact H0
    isplitl [H1]; · iapply owns_of_rep; iexact H1
    iexists o; isplitr; swap
    · iexact H2
    · ipureintro; exact fun hl => absurd hl h.2.2.2
  · iintro ⟨⟨%q0, %m0, %a0, %hI, HQ, HM, HA, HT0, HT1, HT2, HT3, HP⟩, HO, H0, H1, H2⟩
    iapply ((atC m c t q0 m0 a0 h).2.2.2 _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexists o; iexact H2
    isplitl [HQ]; · iexact HQ
    isplitl [HM]; · iexact HM
    isplitl [HA]; · iexact HA
    iintro ⟨H0, H1, HT0, HT1, HT2, HT3, ⟨%f, H2⟩, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact (K.stepC c t h q0 m0 a0 hI).1
    isplitl [HO]; · iexact HO
    isplitl [H0]; · iapply owns_of_rep; iexact H0
    isplitl [H1]; · iapply owns_of_rep; iexact H1
    iexists _; isplitr; swap
    · unfold owns; iexists _; isplitr; swap
      · iexact H2
      · ipureintro; rfl
    · ipureintro; exact fun _ => (K.stepC c t h q0 m0 a0 hI).2 f
  · iintro ⟨⟨%q0, %m0, %a0, %hI, HQ, HM, HA, HT0, HT1, HT2, HT3, HP⟩, HO, H0, H1, H2⟩
    iapply ((atD m c t q0 m0 a0 h).2.2 o _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexact H2
    isplitl [HQ]; · iexact HQ
    isplitl [HM]; · iexact HM
    isplitl [HA]; · iexact HA
    iintro ⟨H0, H1, HT0, HT1, HT2, HT3, H2, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact K.stepD c t h q0 m0 a0 hI
    isplitl [HO]; · iexact HO
    isplitl [H0]; · iapply owns_of_rep; iexact H0
    isplitl [H1]; · iapply owns_of_rep; iexact H1
    iexists o; isplitr; swap
    · iexact H2
    · ipureintro; exact fun hl => absurd hl h.2.2.2

theorem obligation (K : Kept m Inv R) (c : Dev nD) : (rdat m Inv R c).BodyObligation (defs₀ (F := Bits)) Variants.none () Set.univ := fun t Y hY => by
  obtain h0 := found_q m Inv R c t _ (hY 0)
  obtain h1 := found_kv m Inv R c t _ (hY 1)
  rw [bigSep_W0, bigSep_W0, h0, h1]
  refine (sound m Inv R K c t (Y 2) ((rdat m Inv R c).owesAt () t.castSucc)).trans (wp_mono _ _ _ fun _ => ?_)
  rw [show (rdat m Inv R c).Φ t.succ = Phi Inv c (t.val + 1) from rfl, show (rdat m Inv R c).owesAt () t.succ = (rdat m Inv R c).owesAt () t.castSucc from rfl]
  iintro ⟨HΦ, HO, H0, H1, ⟨%X, %hX, H2⟩⟩
  isplitl [HΦ]; · iexact HΦ
  isplitl [HO]; · iexact HO
  isplitl [H0]
  · iexists _; isplitr; swap
    · iexact H0
    · ipureintro; rfl
  isplitl [H1]
  · iexists _; isplitr; swap
    · iexact H1
    · ipureintro; rfl
  iexists X; isplitr; swap
  · iexact H2
  · ipureintro; exact hX

theorem share_eq (c : Dev nD) (w : Fin cfgA.W) : (rdat m Inv R c).share w = fullShare := by unfold RDat.share; split <;> rfl

/-- The tables as the launch hands them to the region, one by one. -/
theorem prefHeld_eq (c : Dev nD) (q : Fin 4 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem enter (K : Kept m Inv R) (c : Dev nD) : iprop(Pipeline.ΦA spec0 c ∗ Pipeline.ΦT pre0 adm.1 c) ⊢ Phi Inv c 0 := by
  unfold Pipeline.ΦA Pipeline.ΦT
  rw [prefHeld_eq, scopedRest0_eq]
  unfold Phi
  iintro ⟨⟨⟨⟨%q, HQ⟩, ⟨%m', HM⟩, ⟨%a, HA⟩⟩, HP⟩, HT0, HT1, HT2, HT3⟩
  iexists q; iexists m'; iexists a
  isplitr; · ipureintro; exact K.init c q m' a
  isplitl [HQ]; · iexact HQ
  isplitl [HM]; · iexact HM
  isplitl [HA]; · iexact HA
  isplitl [HT0]; · iexact HT0
  isplitl [HT1]; · iexact HT1
  isplitl [HT2]; · iexact HT2
  isplitl [HT3]; · iexact HT3
  iexact HP

theorem leave (c : Dev nD) (n : ℕ) : Phi Inv c n ⊢ Pipeline.ΦA spec0 c := by
  unfold Pipeline.ΦA
  rw [scopedRest0_eq]
  unfold Phi
  iintro ⟨%q, %m', %a, -, HQ, HM, HA, -, -, -, -, HP⟩
  isplitr [HP]
  · isplitl [HQ]
    · iexists q; iexact HQ
    isplitl [HM]
    · iexists m'; iexact HM
    iexists a; iexact HA
  · iexact HP

set_option backward.isDefEq.respectTransparency.types false in
set_option maxHeartbeats 4000000 in
/-- Every run of the program terminates; at its end the windows' arrays stand as the proof data relate them to their
    contents where the region was entered, every other buffer is unchanged, and every semaphore is at zero. -/
theorem launched (K : Kept m Inv R) (ρ : Dev nD → PrngReg) :
    θ_run (defs (F := Bits)) (onTc (τ := τ) (main (F := Bits))) (s₀ m ρ)
      (fun r => RDat.FramePost cfgA (rdat m Inv R) (entry0 m) r ∧ r.2.sem = fun _ => 0) :=
  Pipeline.RDat.θ_run_frameP_track (pcfgs (F := Bits)) (fun _ => adm) (0 : Fin 1) (launch0 (F := Bits)) defs₀ Variants.none (rdat m Inv R) m ρ main
    (hbody := fun c => obligation m Inv R K c) (hshare := share_eq m Inv R) (howed := fun _ _ => rfl) (V := entry0 m)
    (hmain := Pipeline.hmainP_prefix (pcfgs (F := Bits)) 0 defs₀ Variants.none m main hostOps0 hostOps0_sub ⟨rfl, rfl, rfl, rfl, rfl⟩ main_chain)
    (hA := fun _ _ => rfl) (hpf := fun c k => by fin_cases k <;> rfl)
    (hin := enter m Inv R K) (hout := fun c => leave Inv c _) (Q' := _) (hQ' := fun _ h => h)

theorem args_of (c : Dev nD) {r : PUnit × MemSt nD τ sig (Elt Bits)} (h : RDat.FramePost cfgA (rdat m Inv R) (entry0 m) r) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c (0 : Fin 3) rfl).trans rfl, ((h c).2 main_arg1 (by decide)).trans rfl⟩

/-- Nothing is asked of the carried buffers. -/
theorem kept_true : Kept m (fun _ _ _ _ _ => True) (fun _ _ _ => True) :=
  ⟨fun _ _ _ _ => trivial, fun _ _ _ => ⟨trivial, fun _ => trivial⟩, fun _ _ _ => trivial, fun _ _ _ _ _ _ _ => ⟨trivial, fun _ => trivial⟩,
    fun _ _ _ _ _ _ _ => trivial⟩

/-- `Cert.quiescent_Kernel`. -/
theorem frame_kernel : Cert.quiescent_Kernel (hKernel := Cert.Kernel.Gen.facts) := fun m ρ _ =>
  (θ_run (defs (F := Bits)) _ _).mono (fun _ h => ⟨fun c => args_of m _ _ c h.1, h.2⟩) (launched m _ _ (kept_true m) ρ)

end Cert.Kernel.Flash

end
-- ==== Proof.FlashIdealWords.lean ====
/-
The attention kernel: the tables it is steered by, the buffers it carries, and its decisions at a grid point.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

/-- The four prefetched tables and the three carried buffers, whole. -/
abbrev tQi : Memref sig .tc .smem S136 .i32 := Memref.whole main_c
abbrev tKt : Memref sig .tc .smem S136 .i32 := Memref.whole main_c_0
abbrev tFirst : Memref sig .tc .smem S136 .i32 := Memref.whole main_c_1
abbrev tLast : Memref sig .tc .smem S136 .i32 := Memref.whole main_c_2
abbrev sQ : Memref sig .tc .vmem S4x1024x128 .bf16 := Memref.whole cc0_scratch0
abbrev sM : Memref sig .tc .vmem S4x1024x128 .f32 := Memref.whole cc0_scratch1
abbrev sA : Memref sig .tc .vmem S4x1024x256 .f32 := Memref.whole cc0_scratch2

/-- What the carried buffers hold: the prepared queries, the running maxima, the running sums. -/
abbrev BufQ (F : FTy → Type) (c : Dev nD) := Buf (Elt F) ((c : Thread nD τ).loc cc0_scratch0)
abbrev BufM (F : FTy → Type) (c : Dev nD) := Buf (Elt F) ((c : Thread nD τ).loc cc0_scratch1)
abbrev BufA (F : FTy → Type) (c : Dev nD) := Buf (Elt F) ((c : Thread nD τ).loc cc0_scratch2)

/-- The tables' contents: the printed literals. -/
abbrev cQi : S136.Idx → Elt F .i32 := fun i => lit0 (S136.rowMajor i)
abbrev cKt : S136.Idx → Elt F .i32 := fun i => lit1 (S136.rowMajor i)
abbrev cFirst : S136.Idx → Elt F .i32 := fun i => lit2 (S136.rowMajor i)
abbrev cLast : S136.Idx → Elt F .i32 := fun i => lit3 (S136.rowMajor i)

/-- The words the body reads at a grid point: query block, key block, whether the row of key blocks begins, whether it ends. -/
abbrev wQi (i : grid0.Coords) : Elt F .i32 := View.readAt (Elt F) (tQi).view (Rect.unit (s := S136) (k0_off1 i) S1.size (k0_off1_inb i)).toLoadRect cQi (Shape.Idx.first (numel1_S1.symm ▸ Nat.one_pos))
abbrev wKt (i : grid0.Coords) : Elt F .i32 := View.readAt (Elt F) (tKt).view (Rect.unit (s := S136) (k0_off1 i) S1.size (k0_off1_inb i)).toLoadRect cKt (Shape.Idx.first (numel1_S1.symm ▸ Nat.one_pos))
abbrev wFirst (i : grid0.Coords) : Elt F .i32 := View.readAt (Elt F) (tFirst).view (Rect.unit (s := S136) (k0_off1 i) S1.size (k0_off1_inb i)).toLoadRect cFirst (Shape.Idx.first (numel1_S1.symm ▸ Nat.one_pos))
abbrev wLast (i : grid0.Coords) : Elt F .i32 := View.readAt (Elt F) (tLast).view (Rect.unit (s := S136) (k0_off2 i) S1.size (k0_off2_inb i)).toLoadRect cLast (Shape.Idx.first (numel1_S1.symm ▸ Nat.one_pos))

/-- The body's first decision (the row begins), its second (the key block lies below the diagonal) and its third. -/
abbrev isFirst (F : FTy → Type) [FloatOps F] (i : grid0.Coords) : Prop := (Scalar.cmpi .ne (Scalar.extui (Scalar.cmpi .eq (wFirst (F := F) i) 1#32)) 0#32) = 1#1
abbrev isFull (F : FTy → Type) [FloatOps F] (i : grid0.Coords) : Prop := (Scalar.cmpi .ne (Scalar.extui (Scalar.cmpi .sle (Scalar.subi (Scalar.addi (Scalar.addi 0#32 (Scalar.muli (wKt (F := F) i) 512#32)) 512#32) 1#32) (Scalar.addi 0#32 (Scalar.muli (wQi (F := F) i) 512#32)))) 0#32) = 1#1
abbrev isMasked (F : FTy → Type) [FloatOps F] (i : grid0.Coords) : Prop := (Scalar.cmpi .ne (Scalar.extui (Scalar.xori (Scalar.cmpi .sle (Scalar.subi (Scalar.addi (Scalar.addi 0#32 (Scalar.muli (wKt (F := F) i) 512#32)) 512#32) 1#32) (Scalar.addi 0#32 (Scalar.muli (wQi (F := F) i) 512#32))) 1#1)) 0#32) = 1#1
abbrev isLast (F : FTy → Type) [FloatOps F] (i : grid0.Coords) : Prop := k0_cond4 (wLast (F := F) i) = 1#1

end Cert.KernelIdeal.Flash

end
-- ==== Proof.FlashIdealPoints.lean ====
/-
The attention kernel: its grid points, decided at the tables it is steered by.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealWords
public import Idealize.ShloMosaic.PureOps.Ideal

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

/-- The tables' contents, as the pipeline is pinned at them. -/
def tables : pre0.Contents (Elt Ideal) := fun | ⟨0, _⟩ => cQi (F := Ideal) | ⟨1, _⟩ => cKt (F := Ideal) | ⟨2, _⟩ => cFirst (F := Ideal) | ⟨3, _⟩ => cLast (F := Ideal) | ⟨_ + 4, h⟩ => absurd h (by simp)

theorem ok_q : ∀ i : grid0.Coords, ∀ a, (cc0_transform_0 k0_off1_inb numel1_S1 tables i a + 1) * S512x512.size a ≤ S16384x512.size a := by decide +kernel
theorem ok_kv : ∀ i : grid0.Coords, ∀ a, (cc0_transform_1 k0_off1_inb numel1_S1 tables i a + 1) * S1x512x512.size a ≤ S2x8192x512.size a := by decide +kernel
theorem ok_out : ∀ i : grid0.Coords, ∀ a, (cc0_transform_2 k0_off1_inb numel1_S1 tables i a + 1) * S512x1024.size a ≤ S16384x1024.size a := by decide +kernel

/-- Every block lies inside its array. -/
theorem ok_tables : ok0 (F := Ideal) tables :=
  ⟨fun i => ⟨ok_q i, .inl rfl⟩, fun i => ⟨ok_kv i, .inr (Affine.block_words_dvd (s := S2x8192x512) (p := EltTy.packing .bf16) (by decide) (by decide))⟩,
    fun i => ⟨ok_out i, .inl rfl⟩⟩

/-- The pipeline at its tables. -/
def adm : (pcfg0 (F := Ideal)).Adm := ⟨tables, ok_tables⟩
abbrev cfgA : Cfg sig Λ₀ := cfg0 (F := Ideal) adm

/-- Point `t`'s coordinates, its batch row, its query block and its key block. -/
abbrev crd (t : Fin cfgA.N) : grid0.Coords := cfgA.grid.coords t
abbrev bN (t : Fin cfgA.N) : ℕ := (crd t 0).val
abbrev qN (t : Fin cfgA.N) : ℕ := BitVec.toNat (w := 32) (wQi (F := Ideal) (crd t))
abbrev kN (t : Fin cfgA.N) : ℕ := BitVec.toNat (w := 32) (wKt (F := Ideal) (crd t))

/-- The staging buffers the body is handed at point `t`. -/
abbrev ms0 (t : Fin cfgA.N) : Memref sig .tc .vmem S512x512 .f32 := spec0_0.stage (cfgA.slots t (0 : Fin 3))
abbrev hs0 (t : Fin cfgA.N) : (ms0 t).IsWhole := hstage0_0 ((cfgA.slots t (0 : Fin 3)).cast nbuf0_0)
abbrev ms1 (t : Fin cfgA.N) : Memref sig .tc .vmem S1x512x512 .bf16 := spec0_1.stage (cfgA.slots t (1 : Fin 3))
abbrev hs1 (t : Fin cfgA.N) : (ms1 t).IsWhole := hstage0_1 ((cfgA.slots t (1 : Fin 3)).cast nbuf0_1)
abbrev ms2 (t : Fin cfgA.N) : Memref sig .tc .vmem S512x1024 .f32 := spec0_2.stage (cfgA.slots t (2 : Fin 3))
abbrev hs2 (t : Fin cfgA.N) : (ms2 t).IsWhole := hstage0_2 ((cfgA.slots t (2 : Fin 3)).cast nbuf0_2)

/-- The four ways through the body, told by the key block and the query block. -/
abbrev IsA (t : Fin cfgA.N) : Prop := isFirst Ideal (crd t) ∧ ¬isFull Ideal (crd t) ∧ isMasked Ideal (crd t) ∧ isLast Ideal (crd t)
abbrev IsB (t : Fin cfgA.N) : Prop := isFirst Ideal (crd t) ∧ isFull Ideal (crd t) ∧ ¬isMasked Ideal (crd t) ∧ ¬isLast Ideal (crd t)
abbrev IsC (t : Fin cfgA.N) : Prop := ¬isFirst Ideal (crd t) ∧ ¬isFull Ideal (crd t) ∧ isMasked Ideal (crd t) ∧ isLast Ideal (crd t)
abbrev IsD (t : Fin cfgA.N) : Prop := ¬isFirst Ideal (crd t) ∧ isFull Ideal (crd t) ∧ ¬isMasked Ideal (crd t) ∧ ¬isLast Ideal (crd t)

theorem ways : ∀ t : Fin cfgA.N, IsA t ∨ IsB t ∨ IsC t ∨ IsD t := by decide +kernel
theorem first_of : ∀ t : Fin cfgA.N, isFirst Ideal (crd t) → kN t = 0 := by decide +kernel
theorem last_of : ∀ t : Fin cfgA.N, isLast Ideal (crd t) → kN t = qN t := by decide +kernel
theorem full_of : ∀ t : Fin cfgA.N, isFull Ideal (crd t) → kN t < qN t := by decide +kernel
theorem later_of : ∀ t : Fin cfgA.N, ¬isFirst Ideal (crd t) → ∃ h : t.val - 1 < cfgA.N, 0 < t.val ∧ bN ⟨t.val - 1, h⟩ = bN t ∧ qN ⟨t.val - 1, h⟩ = qN t ∧ kN ⟨t.val - 1, h⟩ + 1 = kN t := by decide +kernel
theorem bounds : ∀ t : Fin cfgA.N, bN t < 2 ∧ qN t < 16 ∧ kN t < 16 := by decide +kernel
theorem index_q : ∀ t : Fin cfgA.N, cc0_transform_0 k0_off1_inb numel1_S1 tables (crd t) = ![bN t * 16 + qN t, 0] := by decide +kernel
theorem index_kv : ∀ t : Fin cfgA.N, cc0_transform_1 k0_off1_inb numel1_S1 tables (crd t) = ![bN t, kN t, 0] := by decide +kernel
theorem index_out : ∀ t : Fin cfgA.N, cc0_transform_2 k0_off1_inb numel1_S1 tables (crd t) = ![bN t * 16 + qN t, 0] := by decide +kernel
theorem flush_of : ∀ t : Fin cfgA.N, (cfgA.win 2).flush t = true → isLast Ideal (crd t) := by decide +kernel
theorem flushed : ∀ (b : Fin 2) (n : Fin 16), ∃ h : b.val * 136 + n.val * (n.val + 1) / 2 + n.val < cfgA.N,
    (cfgA.win 2).flush ⟨_, h⟩ = true ∧ bN ⟨_, h⟩ = b.val ∧ qN ⟨_, h⟩ = n.val := by decide +kernel

end Cert.KernelIdeal.Flash

end
-- ==== Proof.FlashIdealRunA.lean ====
/-
The attention kernel: one of the four ways through its body, run.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealWords

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

set_option backward.proofsInPublic true in
set_option maxHeartbeats 8000000 in
/-- The body where a row of key blocks both begins and ends (its one block is masked). What it leaves in the carried buffers and stores into the output block, with the run. -/
noncomputable def runA (c : Dev nD) (i : grid0.Coords) (arg6 : Memref sig .tc .vmem S512x512 .f32) (harg6 : arg6.IsWhole) (arg7 : Memref sig .tc .vmem S1x512x512 .bf16) (harg7 : arg7.IsWhole) (arg8 : Memref sig .tc .vmem S512x1024 .f32) (harg8 : arg8.IsWhole)
    (x0 : S512x512.Idx → Elt F .f32) (x1 : S1x512x512.Idx → Elt F .bf16) (h0 : isFirst F i) (h1 : ¬isFull F i) (h2 : isMasked F i) (h3 : isLast F i) :
    Σ' (o : List (View.Piece (Elt F) S512x1024 .f32)) (q : BufQ F c) (m : BufM F c), { a : BufA F c // ∀ (q0 : BufQ F c) (m0 : BufM F c) (a0 : BufA F c) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ (∃ d, owns (c : Thread nD τ) arg8 fullShare d)
          ∗ (sQ.view.loc (c : Thread nD τ) ↦{fullShare} q0)
          ∗ (sM.view.loc (c : Thread nD τ) ↦{fullShare} m0)
          ∗ (sA.view.loc (c : Thread nD τ) ↦{fullShare} a0)
          ∗ (iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ (∃ f, arg8.view.loc (c : Thread nD τ) ↦[arg8.view.set]{fullShare} arg8.view.writes (Elt F) f o)
          ∗ (sQ.view.loc (c : Thread nD τ) ↦{fullShare} q)
          ∗ (sM.view.loc (c : Thread nD τ) ↦{fullShare} m)
          ∗ (sA.view.loc (c : Thread nD τ) ↦{fullShare} a)) -∗ K ⟨⟩))
          ⊢ wp frame (wpE (defs₀ (F := F)) Variants.none c none) Set.univ (cc0_flash_diff i tQi (Memref.isWhole_whole _) tKt (Memref.isWhole_whole _) tFirst (Memref.isWhole_whole _) tLast (Memref.isWhole_whole _) arg6 harg6 arg7 harg7 arg8 harg8 sQ (Memref.isWhole_whole _) sM (Memref.isWhole_whole _) sA (Memref.isWhole_whole _)) K } :=
  ⟨_, _, _, _, fun q0 m0 a0 K => by
    unfold owns
    rw [cc0_flash_diff_eq_skeleton]; unfold cc0_flash_diff_skel
    iintro ⟨H6, H7, HT0, HT1, HT2, HT3, ⟨%d8, %f8, -, H8⟩, HQ, HM, HA, Hk⟩
    have hQ : sQ.IsWhole := Memref.isWhole_whole _
    have hM : sM.IsWhole := Memref.isWhole_whole _
    have hA : sA.IsWhole := Memref.isWhole_whole _
    have hT0 : tQi.IsWhole := Memref.isWhole_whole _
    have hT1 : tKt.IsWhole := Memref.isWhole_whole _
    have hT2 : tFirst.IsWhole := Memref.isWhole_whole _
    have hT3 : tLast.IsWhole := Memref.isWhole_whole _
    sl_exec! (disch := first | exact h0 | exact h1 | exact h2 | exact h3)
    sl_step
    iapply Hk
    isplitl [H6]; · iexact H6
    isplitl [H7]; · iexact H7
    isplitl [HT0]; · iexact HT0
    isplitl [HT1]; · iexact HT1
    isplitl [HT2]; · iexact HT2
    isplitl [HT3]; · iexact HT3
    isplitl [H8]; · iexists _; iexact H8
    isplitl [HQ]; · iexact HQ
    isplitl [HM]; · iexact HM
    iexact HA⟩

end Cert.KernelIdeal.Flash

end
-- ==== Proof.FlashIdealRunB.lean ====
/-
The attention kernel: one of the four ways through its body, run.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealWords

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

set_option backward.proofsInPublic true in
set_option maxHeartbeats 8000000 in
/-- The body where a row begins and its block is not masked. What it leaves in the carried buffers, with the run. -/
noncomputable def runB (c : Dev nD) (i : grid0.Coords) (arg6 : Memref sig .tc .vmem S512x512 .f32) (harg6 : arg6.IsWhole) (arg7 : Memref sig .tc .vmem S1x512x512 .bf16) (harg7 : arg7.IsWhole) (arg8 : Memref sig .tc .vmem S512x1024 .f32) (harg8 : arg8.IsWhole)
    (x0 : S512x512.Idx → Elt F .f32) (x1 : S1x512x512.Idx → Elt F .bf16) (h0 : isFirst F i) (h1 : isFull F i) (h2 : ¬isMasked F i) (h3 : ¬isLast F i) :
    Σ' (q : BufQ F c) (m : BufM F c), { a : BufA F c // ∀ (q0 : BufQ F c) (m0 : BufM F c) (a0 : BufA F c) (d8 : S512x1024.Idx → Elt F .f32) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ owns (c : Thread nD τ) arg8 fullShare d8
          ∗ (sQ.view.loc (c : Thread nD τ) ↦{fullShare} q0)
          ∗ (sM.view.loc (c : Thread nD τ) ↦{fullShare} m0)
          ∗ (sA.view.loc (c : Thread nD τ) ↦{fullShare} a0)
          ∗ (iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ owns (c : Thread nD τ) arg8 fullShare d8
          ∗ (sQ.view.loc (c : Thread nD τ) ↦{fullShare} q)
          ∗ (sM.view.loc (c : Thread nD τ) ↦{fullShare} m)
          ∗ (sA.view.loc (c : Thread nD τ) ↦{fullShare} a)) -∗ K ⟨⟩))
          ⊢ wp frame (wpE (defs₀ (F := F)) Variants.none c none) Set.univ (cc0_flash_diff i tQi (Memref.isWhole_whole _) tKt (Memref.isWhole_whole _) tFirst (Memref.isWhole_whole _) tLast (Memref.isWhole_whole _) arg6 harg6 arg7 harg7 arg8 harg8 sQ (Memref.isWhole_whole _) sM (Memref.isWhole_whole _) sA (Memref.isWhole_whole _)) K } :=
  ⟨_, _, _, fun q0 m0 a0 d8 K => by
    unfold owns
    rw [cc0_flash_diff_eq_skeleton]; unfold cc0_flash_diff_skel
    iintro ⟨H6, H7, HT0, HT1, HT2, HT3, H8, HQ, HM, HA, Hk⟩
    have hQ : sQ.IsWhole := Memref.isWhole_whole _
    have hM : sM.IsWhole := Memref.isWhole_whole _
    have hA : sA.IsWhole := Memref.isWhole_whole _
    have hT0 : tQi.IsWhole := Memref.isWhole_whole _
    have hT1 : tKt.IsWhole := Memref.isWhole_whole _
    have hT2 : tFirst.IsWhole := Memref.isWhole_whole _
    have hT3 : tLast.IsWhole := Memref.isWhole_whole _
    sl_exec! (disch := first | exact h0 | exact h1 | exact h2 | exact h3)
    sl_step
    iapply Hk
    isplitl [H6]; · iexact H6
    isplitl [H7]; · iexact H7
    isplitl [HT0]; · iexact HT0
    isplitl [HT1]; · iexact HT1
    isplitl [HT2]; · iexact HT2
    isplitl [HT3]; · iexact HT3
    isplitl [H8]; · iexact H8
    isplitl [HQ]; · iexact HQ
    isplitl [HM]; · iexact HM
    iexact HA⟩

end Cert.KernelIdeal.Flash

end
-- ==== Proof.FlashIdealRunC.lean ====
/-
The attention kernel: one of the four ways through its body, run.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealWords

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

set_option backward.proofsInPublic true in
set_option maxHeartbeats 8000000 in
/-- The body where a row ends, not having begun there. What it leaves in the carried buffers and stores into the output block, with the run. -/
noncomputable def runC (c : Dev nD) (i : grid0.Coords) (arg6 : Memref sig .tc .vmem S512x512 .f32) (harg6 : arg6.IsWhole) (arg7 : Memref sig .tc .vmem S1x512x512 .bf16) (harg7 : arg7.IsWhole) (arg8 : Memref sig .tc .vmem S512x1024 .f32) (harg8 : arg8.IsWhole)
    (x0 : S512x512.Idx → Elt F .f32) (x1 : S1x512x512.Idx → Elt F .bf16) (q0 : BufQ F c) (m0 : BufM F c) (a0 : BufA F c) (h0 : ¬isFirst F i) (h1 : ¬isFull F i) (h2 : isMasked F i) (h3 : isLast F i) :
    Σ' (o : List (View.Piece (Elt F) S512x1024 .f32)) (m : BufM F c), { a : BufA F c // ∀  (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ (∃ d, owns (c : Thread nD τ) arg8 fullShare d)
          ∗ (sQ.view.loc (c : Thread nD τ) ↦{fullShare} q0)
          ∗ (sM.view.loc (c : Thread nD τ) ↦{fullShare} m0)
          ∗ (sA.view.loc (c : Thread nD τ) ↦{fullShare} a0)
          ∗ (iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ (∃ f, arg8.view.loc (c : Thread nD τ) ↦[arg8.view.set]{fullShare} arg8.view.writes (Elt F) f o)
          ∗ (sQ.view.loc (c : Thread nD τ) ↦{fullShare} q0)
          ∗ (sM.view.loc (c : Thread nD τ) ↦{fullShare} m)
          ∗ (sA.view.loc (c : Thread nD τ) ↦{fullShare} a)) -∗ K ⟨⟩))
          ⊢ wp frame (wpE (defs₀ (F := F)) Variants.none c none) Set.univ (cc0_flash_diff i tQi (Memref.isWhole_whole _) tKt (Memref.isWhole_whole _) tFirst (Memref.isWhole_whole _) tLast (Memref.isWhole_whole _) arg6 harg6 arg7 harg7 arg8 harg8 sQ (Memref.isWhole_whole _) sM (Memref.isWhole_whole _) sA (Memref.isWhole_whole _)) K } :=
  ⟨_, _, _, fun K => by
    unfold owns
    rw [cc0_flash_diff_eq_skeleton]; unfold cc0_flash_diff_skel
    iintro ⟨H6, H7, HT0, HT1, HT2, HT3, ⟨%d8, %f8, -, H8⟩, HQ, HM, HA, Hk⟩
    have hQ : sQ.IsWhole := Memref.isWhole_whole _
    have hM : sM.IsWhole := Memref.isWhole_whole _
    have hA : sA.IsWhole := Memref.isWhole_whole _
    have hT0 : tQi.IsWhole := Memref.isWhole_whole _
    have hT1 : tKt.IsWhole := Memref.isWhole_whole _
    have hT2 : tFirst.IsWhole := Memref.isWhole_whole _
    have hT3 : tLast.IsWhole := Memref.isWhole_whole _
    sl_exec! (disch := first | exact h0 | exact h1 | exact h2 | exact h3)
    sl_step
    iapply Hk
    isplitl [H6]; · iexact H6
    isplitl [H7]; · iexact H7
    isplitl [HT0]; · iexact HT0
    isplitl [HT1]; · iexact HT1
    isplitl [HT2]; · iexact HT2
    isplitl [HT3]; · iexact HT3
    isplitl [H8]; · iexists _; iexact H8
    isplitl [HQ]; · iexact HQ
    isplitl [HM]; · iexact HM
    iexact HA⟩

end Cert.KernelIdeal.Flash

end
-- ==== Proof.FlashIdealRunD.lean ====
/-
The attention kernel: one of the four ways through its body, run.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealWords

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

set_option backward.proofsInPublic true in
set_option maxHeartbeats 8000000 in
/-- The body inside a row. What it leaves in the carried buffers, with the run. -/
noncomputable def runD (c : Dev nD) (i : grid0.Coords) (arg6 : Memref sig .tc .vmem S512x512 .f32) (harg6 : arg6.IsWhole) (arg7 : Memref sig .tc .vmem S1x512x512 .bf16) (harg7 : arg7.IsWhole) (arg8 : Memref sig .tc .vmem S512x1024 .f32) (harg8 : arg8.IsWhole)
    (x0 : S512x512.Idx → Elt F .f32) (x1 : S1x512x512.Idx → Elt F .bf16) (q0 : BufQ F c) (m0 : BufM F c) (a0 : BufA F c) (h0 : ¬isFirst F i) (h1 : isFull F i) (h2 : ¬isMasked F i) (h3 : ¬isLast F i) :
    Σ' (m : BufM F c), { a : BufA F c // ∀  (d8 : S512x1024.Idx → Elt F .f32) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ owns (c : Thread nD τ) arg8 fullShare d8
          ∗ (sQ.view.loc (c : Thread nD τ) ↦{fullShare} q0)
          ∗ (sM.view.loc (c : Thread nD τ) ↦{fullShare} m0)
          ∗ (sA.view.loc (c : Thread nD τ) ↦{fullShare} a0)
          ∗ (iprop((arg6.view.loc (c : Thread nD τ) ↦[arg6.view.set]{fullShare} arg6.view.rep x0)
          ∗ (arg7.view.loc (c : Thread nD τ) ↦[arg7.view.set]{fullShare} arg7.view.rep x1)
          ∗ (tQi.view.loc (c : Thread nD τ) ↦{fullShare.right} cQi)
          ∗ (tKt.view.loc (c : Thread nD τ) ↦{fullShare.right} cKt)
          ∗ (tFirst.view.loc (c : Thread nD τ) ↦{fullShare.right} cFirst)
          ∗ (tLast.view.loc (c : Thread nD τ) ↦{fullShare.right} cLast)
          ∗ owns (c : Thread nD τ) arg8 fullShare d8
          ∗ (sQ.view.loc (c : Thread nD τ) ↦{fullShare} q0)
          ∗ (sM.view.loc (c : Thread nD τ) ↦{fullShare} m)
          ∗ (sA.view.loc (c : Thread nD τ) ↦{fullShare} a)) -∗ K ⟨⟩))
          ⊢ wp frame (wpE (defs₀ (F := F)) Variants.none c none) Set.univ (cc0_flash_diff i tQi (Memref.isWhole_whole _) tKt (Memref.isWhole_whole _) tFirst (Memref.isWhole_whole _) tLast (Memref.isWhole_whole _) arg6 harg6 arg7 harg7 arg8 harg8 sQ (Memref.isWhole_whole _) sM (Memref.isWhole_whole _) sA (Memref.isWhole_whole _)) K } :=
  ⟨_, _, fun d8 K => by
    unfold owns
    rw [cc0_flash_diff_eq_skeleton]; unfold cc0_flash_diff_skel
    iintro ⟨H6, H7, HT0, HT1, HT2, HT3, H8, HQ, HM, HA, Hk⟩
    have hQ : sQ.IsWhole := Memref.isWhole_whole _
    have hM : sM.IsWhole := Memref.isWhole_whole _
    have hA : sA.IsWhole := Memref.isWhole_whole _
    have hT0 : tQi.IsWhole := Memref.isWhole_whole _
    have hT1 : tKt.IsWhole := Memref.isWhole_whole _
    have hT2 : tFirst.IsWhole := Memref.isWhole_whole _
    have hT3 : tLast.IsWhole := Memref.isWhole_whole _
    sl_exec! (disch := first | exact h0 | exact h1 | exact h2 | exact h3)
    sl_step
    iapply Hk
    isplitl [H6]; · iexact H6
    isplitl [H7]; · iexact H7
    isplitl [HT0]; · iexact HT0
    isplitl [HT1]; · iexact HT1
    isplitl [HT2]; · iexact HT2
    isplitl [HT3]; · iexact HT3
    isplitl [H8]; · iexact H8
    isplitl [HQ]; · iexact HQ
    isplitl [HM]; · iexact HM
    iexact HA⟩

end Cert.KernelIdeal.Flash

end
-- ==== Proof.FlashIdealFrame.lean ====
/-
The attention kernel: its launch, from an invariant every way through the body keeps.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import proofs.«01_k».proof.Proof.FlashIdealPoints
public import proofs.«01_k».proof.Proof.FlashIdealRunA
public import proofs.«01_k».proof.Proof.FlashIdealRunB
public import proofs.«01_k».proof.Proof.FlashIdealRunC
public import proofs.«01_k».proof.Proof.FlashIdealRunD
public import Idealize.ShloMosaic.Lib.Pipeline.Frame
public import Idealize.ShloMosaic.Lib.Pipeline.Quiescent
public import proofs.«01_k».proof.Defs

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable (m : (ℓ : Loc nD τ sig) → Buf (Elt Ideal) ℓ)

/-- What a buffer holds where the kernel's region is entered. -/
abbrev entry0 (c : Dev nD) (b : Ref sig .tc) : Buf (Elt Ideal) ((c.tc : Thread nD τ).loc b) :=
  StableHlo.after hostOps0 (fun b => m (c, b)) b

/-- Window `w`'s block at point `t`, of its array where the region is entered. -/
def iblk (c : Dev nD) (w : Fin cfgA.W) (t : Fin cfgA.N) : ((cfgA.win w).xblock (crd t)).Idx → Elt Ideal (cfgA.win w).elt :=
  ((cfgA.win w).blk t).view.read (Elt Ideal) (entry0 m c (Pipeline.arrRef cfgA.spec w))

abbrev qblk (c : Dev nD) (t : Fin cfgA.N) : S512x512.Idx → Elt Ideal .f32 := iblk m c (0 : Fin 3) t
abbrev kvblk (c : Dev nD) (t : Fin cfgA.N) : S1x512x512.Idx → Elt Ideal .bf16 := iblk m c (1 : Fin 3) t

/-- The four runs at point `t`'s buffers and blocks. -/
abbrev atA (c : Dev nD) (t : Fin cfgA.N) (h : IsA t) := runA (F := Ideal) c (crd t) (ms0 t) (hs0 t) (ms1 t) (hs1 t) (ms2 t) (hs2 t) (qblk m c t) (kvblk m c t) h.1 h.2.1 h.2.2.1 h.2.2.2
abbrev atB (c : Dev nD) (t : Fin cfgA.N) (h : IsB t) := runB (F := Ideal) c (crd t) (ms0 t) (hs0 t) (ms1 t) (hs1 t) (ms2 t) (hs2 t) (qblk m c t) (kvblk m c t) h.1 h.2.1 h.2.2.1 h.2.2.2
abbrev atC (c : Dev nD) (t : Fin cfgA.N) (q0 : BufQ Ideal c) (m0 : BufM Ideal c) (a0 : BufA Ideal c) (h : IsC t) := runC (F := Ideal) c (crd t) (ms0 t) (hs0 t) (ms1 t) (hs1 t) (ms2 t) (hs2 t) (qblk m c t) (kvblk m c t) q0 m0 a0 h.1 h.2.1 h.2.2.1 h.2.2.2
abbrev atD (c : Dev nD) (t : Fin cfgA.N) (q0 : BufQ Ideal c) (m0 : BufM Ideal c) (a0 : BufA Ideal c) (h : IsD t) := runD (F := Ideal) c (crd t) (ms0 t) (hs0 t) (ms1 t) (hs1 t) (ms2 t) (hs2 t) (qblk m c t) (kvblk m c t) q0 m0 a0 h.1 h.2.1 h.2.2.1 h.2.2.2

variable (Inv : (c : Dev nD) → ℕ → BufQ Ideal c → BufM Ideal c → BufA Ideal c → Prop)
  (R : Dev nD → Fin cfgA.N → (S512x1024.Idx → Elt Ideal .f32) → Prop)

/-- An invariant of the carried buffers that every way through the body keeps, and a property of the output block that the
    ways which store it establish. -/
structure Kept : Prop where
  init : ∀ c q m' a, Inv c 0 q m' a
  stepA : ∀ c t (h : IsA t), Inv c (t.val + 1) (atA m c t h).2.1 (atA m c t h).2.2.1 (atA m c t h).2.2.2.1
    ∧ ∀ f, R c t ((ms2 t).view.read (Elt Ideal) ((ms2 t).view.writes (Elt Ideal) f (atA m c t h).1))
  stepB : ∀ c t (h : IsB t), Inv c (t.val + 1) (atB m c t h).1 (atB m c t h).2.1 (atB m c t h).2.2.1
  stepC : ∀ c t (h : IsC t) q0 m0 a0, Inv c t.val q0 m0 a0 → Inv c (t.val + 1) q0 (atC m c t q0 m0 a0 h).2.1 (atC m c t q0 m0 a0 h).2.2.1
    ∧ ∀ f, R c t ((ms2 t).view.read (Elt Ideal) ((ms2 t).view.writes (Elt Ideal) f (atC m c t q0 m0 a0 h).1))
  stepD : ∀ c t (h : IsD t) q0 m0 a0, Inv c t.val q0 m0 a0 → Inv c (t.val + 1) q0 (atD m c t q0 m0 a0 h).1 (atD m c t q0 m0 a0 h).2.1

/-- Before point `n`: the carried buffers satisfy the invariant; the tables' halves and the random register are held. -/
def Phi (c : Dev nD) (n : ℕ) : sProp 𝕄 :=
  iprop(∃ q m' a, ⌜Inv c n q m' a⌝ ∗ (sQ.view.loc (c : Thread nD τ) ↦{fullShare} q) ∗ (sM.view.loc (c : Thread nD τ) ↦{fullShare} m') ∗ (sA.view.loc (c : Thread nD τ) ↦{fullShare} a)
    ∗ (tQi.view.loc (c : Thread nD τ) ↦{fullShare.right} cQi (F := Ideal)) ∗ (tKt.view.loc (c : Thread nD τ) ↦{fullShare.right} cKt (F := Ideal))
    ∗ (tFirst.view.loc (c : Thread nD τ) ↦{fullShare.right} cFirst (F := Ideal)) ∗ (tLast.view.loc (c : Thread nD τ) ↦{fullShare.right} cLast (F := Ideal)) ∗ ∃ r, prngReg c r)

/-- The proof data: inputs are left as found, the output block satisfies `R` where the row of key blocks ends. -/
def rdat (c : Dev nD) : RDat τ (Elt Ideal) Unit ℕ (UR sig nD τ) ℕ cfgA c where
  A w := entry0 m c (Pipeline.arrRef cfgA.spec w)
  after w t Y X := match w with
    | ⟨0, _⟩ => X = Y
    | ⟨1, _⟩ => X = Y
    | ⟨2, _⟩ => isLast Ideal (crd t) → R c t X
  Φ t := Phi Inv c t.val
  q _ := fullShare
  owed _ := 0

theorem found_q (c : Dev nD) (t : Fin cfgA.N) (Y) (h : (rdat m Inv R c).Finds (0 : Fin 3) t Y) : Y = qblk m c t := by
  obtain ⟨d, hd⟩ := (rdat m Inv R c).finds_in_eq_fetched (0 : Fin 3) rfl (fun _ _ _ => rfl) (fun _ _ _ h => h) t Y h
  exact hd.trans (by unfold RDat.fetched RDat.blockOf qblk iblk; rfl)
theorem found_kv (c : Dev nD) (t : Fin cfgA.N) (Y) (h : (rdat m Inv R c).Finds (1 : Fin 3) t Y) : Y = kvblk m c t := by
  obtain ⟨d, hd⟩ := (rdat m Inv R c).finds_in_eq_fetched (1 : Fin 3) rfl (fun _ _ _ => rfl) (fun _ _ _ h => h) t Y h
  exact hd.trans (by unfold RDat.fetched RDat.blockOf kvblk iblk; rfl)

/-- The body at point `t`. -/
abbrev bodyAt (t : Fin cfgA.N) : Prog (TpuEff nD τ sig (Elt Ideal) Λ₀ .tc) PUnit :=
  cc0_flash_diff (crd t) tQi (Memref.isWhole_whole _) tKt (Memref.isWhole_whole _) tFirst (Memref.isWhole_whole _) tLast (Memref.isWhole_whole _) (ms0 t) (hs0 t) (ms1 t) (hs1 t) (ms2 t) (hs2 t) sQ (Memref.isWhole_whole _) sM (Memref.isWhole_whole _) sA (Memref.isWhole_whole _)

set_option maxHeartbeats 4000000 in
/-- The body at a point keeps the invariant. -/
theorem sound (K : Kept m Inv R) (c : Dev nD) (t : Fin cfgA.N) (o : S512x1024.Idx → Elt Ideal .f32) (O : sProp 𝕄) :
    iprop(Phi Inv c t.val ∗ O ∗ owns (c : Thread nD τ) (ms0 t) fullShare (qblk m c t) ∗ owns (c : Thread nD τ) (ms1 t) fullShare (kvblk m c t)
        ∗ owns (c : Thread nD τ) (ms2 t) fullShare o)
      ⊢ wp frame (wpE (defs₀ (F := Ideal)) Variants.none c none) Set.univ (bodyAt t) fun _ =>
        iprop(Phi Inv c (t.val + 1) ∗ O ∗ owns (c : Thread nD τ) (ms0 t) fullShare (qblk m c t) ∗ owns (c : Thread nD τ) (ms1 t) fullShare (kvblk m c t)
          ∗ ∃ X, ⌜isLast Ideal (crd t) → R c t X⌝ ∗ owns (c : Thread nD τ) (ms2 t) fullShare X) := by
  unfold Phi
  rcases ways t with h | h | h | h
  · iintro ⟨⟨%q0, %m0, %a0, %hI, HQ, HM, HA, HT0, HT1, HT2, HT3, HP⟩, HO, H0, H1, H2⟩
    iapply ((atA m c t h).2.2.2.2 q0 m0 a0 _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexists o; iexact H2
    isplitl [HQ]; · iexact HQ
    isplitl [HM]; · iexact HM
    isplitl [HA]; · iexact HA
    iintro ⟨H0, H1, HT0, HT1, HT2, HT3, ⟨%f, H2⟩, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact (K.stepA c t h).1
    isplitl [HO]; · iexact HO
    isplitl [H0]; · iapply owns_of_rep; iexact H0
    isplitl [H1]; · iapply owns_of_rep; iexact H1
    iexists _; isplitr; swap
    · unfold owns; iexists _; isplitr; swap
      · iexact H2
      · ipureintro; rfl
    · ipureintro; exact fun _ => (K.stepA c t h).2 f
  · iintro ⟨⟨%q0, %m0, %a0, %hI, HQ, HM, HA, HT0, HT1, HT2, HT3, HP⟩, HO, H0, H1, H2⟩
    iapply ((atB m c t h).2.2.2 q0 m0 a0 o _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexact H2
    isplitl [HQ]; · iexact HQ
    isplitl [HM]; · iexact HM
    isplitl [HA]; · iexact HA
    iintro ⟨H0, H1, HT0, HT1, HT2, HT3, H2, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact K.stepB c t h
    isplitl [HO]; · iexact HO
    isplitl [H0]; · iapply owns_of_rep; iexact H0
    isplitl [H1]; · iapply owns_of_rep; iexact H1
    iexists o; isplitr; swap
    · iexact H2
    · ipureintro; exact fun hl => absurd hl h.2.2.2
  · iintro ⟨⟨%q0, %m0, %a0, %hI, HQ, HM, HA, HT0, HT1, HT2, HT3, HP⟩, HO, H0, H1, H2⟩
    iapply ((atC m c t q0 m0 a0 h).2.2.2 _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexists o; iexact H2
    isplitl [HQ]; · iexact HQ
    isplitl [HM]; · iexact HM
    isplitl [HA]; · iexact HA
    iintro ⟨H0, H1, HT0, HT1, HT2, HT3, ⟨%f, H2⟩, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact (K.stepC c t h q0 m0 a0 hI).1
    isplitl [HO]; · iexact HO
    isplitl [H0]; · iapply owns_of_rep; iexact H0
    isplitl [H1]; · iapply owns_of_rep; iexact H1
    iexists _; isplitr; swap
    · unfold owns; iexists _; isplitr; swap
      · iexact H2
      · ipureintro; rfl
    · ipureintro; exact fun _ => (K.stepC c t h q0 m0 a0 hI).2 f
  · iintro ⟨⟨%q0, %m0, %a0, %hI, HQ, HM, HA, HT0, HT1, HT2, HT3, HP⟩, HO, H0, H1, H2⟩
    iapply ((atD m c t q0 m0 a0 h).2.2 o _)
    isplitl [H0]; · iapply rep_of_owns; iexact H0
    isplitl [H1]; · iapply rep_of_owns; iexact H1
    isplitl [HT0]; · iexact HT0
    isplitl [HT1]; · iexact HT1
    isplitl [HT2]; · iexact HT2
    isplitl [HT3]; · iexact HT3
    isplitl [H2]; · iexact H2
    isplitl [HQ]; · iexact HQ
    isplitl [HM]; · iexact HM
    isplitl [HA]; · iexact HA
    iintro ⟨H0, H1, HT0, HT1, HT2, HT3, H2, HQ, HM, HA⟩
    isplitl [HQ HM HA HT0 HT1 HT2 HT3 HP]
    · iexists _; iexists _; iexists _
      isplitr; swap
      · isplitl [HQ]; · iexact HQ
        isplitl [HM]; · iexact HM
        isplitl [HA]; · iexact HA
        isplitl [HT0]; · iexact HT0
        isplitl [HT1]; · iexact HT1
        isplitl [HT2]; · iexact HT2
        isplitl [HT3]; · iexact HT3
        iexact HP
      · ipureintro; exact K.stepD c t h q0 m0 a0 hI
    isplitl [HO]; · iexact HO
    isplitl [H0]; · iapply owns_of_rep; iexact H0
    isplitl [H1]; · iapply owns_of_rep; iexact H1
    iexists o; isplitr; swap
    · iexact H2
    · ipureintro; exact fun hl => absurd hl h.2.2.2

theorem obligation (K : Kept m Inv R) (c : Dev nD) : (rdat m Inv R c).BodyObligation (defs₀ (F := Ideal)) Variants.none () Set.univ := fun t Y hY => by
  obtain h0 := found_q m Inv R c t _ (hY 0)
  obtain h1 := found_kv m Inv R c t _ (hY 1)
  rw [bigSep_W0, bigSep_W0, h0, h1]
  refine (sound m Inv R K c t (Y 2) ((rdat m Inv R c).owesAt () t.castSucc)).trans (wp_mono _ _ _ fun _ => ?_)
  rw [show (rdat m Inv R c).Φ t.succ = Phi Inv c (t.val + 1) from rfl, show (rdat m Inv R c).owesAt () t.succ = (rdat m Inv R c).owesAt () t.castSucc from rfl]
  iintro ⟨HΦ, HO, H0, H1, ⟨%X, %hX, H2⟩⟩
  isplitl [HΦ]; · iexact HΦ
  isplitl [HO]; · iexact HO
  isplitl [H0]
  · iexists _; isplitr; swap
    · iexact H0
    · ipureintro; rfl
  isplitl [H1]
  · iexists _; isplitr; swap
    · iexact H1
    · ipureintro; rfl
  iexists X; isplitr; swap
  · iexact H2
  · ipureintro; exact hX

theorem share_eq (c : Dev nD) (w : Fin cfgA.W) : (rdat m Inv R c).share w = fullShare := by unfold RDat.share; split <;> rfl

/-- The tables as the launch hands them to the region, one by one. -/
theorem prefHeld_eq (c : Dev nD) (q : Fin 4 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem enter (K : Kept m Inv R) (c : Dev nD) : iprop(Pipeline.ΦA spec0 c ∗ Pipeline.ΦT pre0 adm.1 c) ⊢ Phi Inv c 0 := by
  unfold Pipeline.ΦA Pipeline.ΦT
  rw [prefHeld_eq, scopedRest0_eq]
  unfold Phi
  iintro ⟨⟨⟨⟨%q, HQ⟩, ⟨%m', HM⟩, ⟨%a, HA⟩⟩, HP⟩, HT0, HT1, HT2, HT3⟩
  iexists q; iexists m'; iexists a
  isplitr; · ipureintro; exact K.init c q m' a
  isplitl [HQ]; · iexact HQ
  isplitl [HM]; · iexact HM
  isplitl [HA]; · iexact HA
  isplitl [HT0]; · iexact HT0
  isplitl [HT1]; · iexact HT1
  isplitl [HT2]; · iexact HT2
  isplitl [HT3]; · iexact HT3
  iexact HP

theorem leave (c : Dev nD) (n : ℕ) : Phi Inv c n ⊢ Pipeline.ΦA spec0 c := by
  unfold Pipeline.ΦA
  rw [scopedRest0_eq]
  unfold Phi
  iintro ⟨%q, %m', %a, -, HQ, HM, HA, -, -, -, -, HP⟩
  isplitr [HP]
  · isplitl [HQ]
    · iexists q; iexact HQ
    isplitl [HM]
    · iexists m'; iexact HM
    iexists a; iexact HA
  · iexact HP

set_option backward.isDefEq.respectTransparency.types false in
set_option maxHeartbeats 4000000 in
/-- Every run of the program terminates; at its end the windows' arrays stand as the proof data relate them to their
    contents where the region was entered, every other buffer is unchanged, and every semaphore is at zero. -/
theorem launched (K : Kept m Inv R) (ρ : Dev nD → PrngReg) :
    θ_run (defs (F := Ideal)) (onTc (τ := τ) (main (F := Ideal))) (s₀ m ρ)
      (fun r => RDat.FramePost cfgA (rdat m Inv R) (entry0 m) r ∧ r.2.sem = fun _ => 0) :=
  Pipeline.RDat.θ_run_frameP_track (pcfgs (F := Ideal)) (fun _ => adm) (0 : Fin 1) (launch0 (F := Ideal)) defs₀ Variants.none (rdat m Inv R) m ρ main
    (hbody := fun c => obligation m Inv R K c) (hshare := share_eq m Inv R) (howed := fun _ _ => rfl) (V := entry0 m)
    (hmain := Pipeline.hmainP_prefix (pcfgs (F := Ideal)) 0 defs₀ Variants.none m main hostOps0 hostOps0_sub ⟨rfl, rfl, rfl, rfl, rfl⟩ main_chain)
    (hA := fun _ _ => rfl) (hpf := fun c k => by fin_cases k <;> rfl)
    (hin := enter m Inv R K) (hout := fun c => leave Inv c _) (Q' := _) (hQ' := fun _ h => h)

theorem args_of (c : Dev nD) {r : PUnit × MemSt nD τ sig (Elt Ideal)} (h : RDat.FramePost cfgA (rdat m Inv R) (entry0 m) r) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c (0 : Fin 3) rfl).trans rfl, ((h c).2 main_arg1 (by decide)).trans rfl⟩

end Cert.KernelIdeal.Flash

end
-- ==== Proof.FlashOnline.lean ====
/-
The running softmax over the extended reals: keys taken block by block, with a running maximum and sums rescaled to it.
-/
module

public import Idealize.ShloMosaic.Lib.Pointwise
public import Idealize.ShloMosaic.Lib.Tactic

@[expose] public section

noncomputable section

namespace Cert.Online

open Idealize.ShloMosaic

/-- The power of two of an extended real lies at or above zero. -/
theorem exp2_nonneg (x : EReal) : 0 ≤ Ideal.exp2 x := by
  induction x using EReal.rec with
  | bot => exact le_refl _
  | top => exact le_top
  | coe r => exact EReal.coe_nonneg.mpr (Real.rpow_nonneg (by norm_num) r)

/-- Two steps up are one: the weight against the lower bound, rescaled, is the weight against the upper one. -/
theorem exp2_rescale {s a b : EReal} (hs : s ≤ a) (hb : a ≤ b) :
    Ideal.exp2 (s - a) * Ideal.exp2 (a - b) = Ideal.exp2 (s - b) := by
  induction s using EReal.rec with
  | bot =>
    have h1 : ∀ x : EReal, (⊥ : EReal) - x = ⊥ := fun x => by rw [sub_eq_add_neg, EReal.bot_add]
    rw [h1, h1, Ideal.exp2_bot, zero_mul]
  | top =>
    have ha : a = ⊤ := top_le_iff.mp hs
    subst ha
    have hb' : b = ⊤ := top_le_iff.mp hb
    subst hb'
    rw [show (⊤ : EReal) - ⊤ = ⊥ from rfl, Ideal.exp2_bot, zero_mul]
  | coe s =>
    induction a using EReal.rec with
    | bot => exact absurd (le_bot_iff.mp hs) (EReal.coe_ne_bot s)
    | top =>
      have hb' : b = ⊤ := top_le_iff.mp hb
      subst hb'
      rw [show (s : EReal) - ⊤ = ⊥ from rfl, Ideal.exp2_bot, zero_mul]
    | coe a =>
      induction b using EReal.rec with
      | bot => exact absurd (le_bot_iff.mp hb) (EReal.coe_ne_bot a)
      | top =>
        rw [show (s : EReal) - ⊤ = ⊥ from rfl, show (a : EReal) - ⊤ = ⊥ from rfl, Ideal.exp2_bot, mul_zero]
      | coe b =>
        rw [← EReal.coe_sub, ← EReal.coe_sub, ← EReal.coe_sub, Ideal.exp2_coe, Ideal.exp2_coe, Ideal.exp2_coe, ← EReal.coe_mul]
        congr 1
        rw [show s - b = (s - a) + (a - b) by ring]
        exact (Real.rpow_add (by norm_num : (0 : ℝ) < 2) _ _).symm

/-- A rescaling factor between two bounds is a real number at or above zero. -/
theorem exp2_real {a b : EReal} (hb : a ≤ b) : ∃ r : ℝ, 0 ≤ r ∧ Ideal.exp2 (a - b) = (r : EReal) := by
  induction b using EReal.rec with
  | bot =>
    have ha : a = ⊥ := le_bot_iff.mp hb
    subst ha
    exact ⟨0, le_refl _, by rw [show (⊥ : EReal) - ⊥ = ⊥ from rfl, Ideal.exp2_bot]; rfl⟩
  | top =>
    refine ⟨0, le_refl _, ?_⟩
    rw [show a - ⊤ = ⊥ by rw [sub_eq_add_neg, EReal.neg_top, EReal.add_bot], Ideal.exp2_bot]; rfl
  | coe b =>
    induction a using EReal.rec with
    | bot => exact ⟨0, le_refl _, by rw [show (⊥ : EReal) - (b : EReal) = ⊥ by rw [sub_eq_add_neg, EReal.bot_add], Ideal.exp2_bot]; rfl⟩
    | top => exact absurd (top_le_iff.mp hb) (EReal.coe_ne_top b)
    | coe a => exact ⟨Real.rpow 2 (a - b), Real.rpow_nonneg (by norm_num) (a - b), by rw [← EReal.coe_sub, Ideal.exp2_coe]⟩

/-- A real factor at or above zero distributes over a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- The running maximum over the first `n` keys. -/
def mx (s : ℕ → EReal) (n : ℕ) : EReal := (Finset.range n).sup s

/-- The running sum over the first `n` keys, weighted against the running maximum. -/
def acc (s w : ℕ → EReal) (n : ℕ) : EReal := ∑ j ∈ Finset.range n, Ideal.exp2 (s j - mx s n) * w j

theorem mx_zero (s : ℕ → EReal) : mx s 0 = ⊥ := rfl
theorem acc_zero (s w : ℕ → EReal) : acc s w 0 = 0 := rfl

theorem mx_mono (s : ℕ → EReal) {a b : ℕ} (h : a ≤ b) : mx s a ≤ mx s b := Finset.sup_mono (Finset.range_mono h)
theorem le_mx (s : ℕ → EReal) {j n : ℕ} (h : j < n) : s j ≤ mx s n := Finset.le_sup (Finset.mem_range.mpr h)

/-- The maximum over one more block. -/
theorem mx_add (s : ℕ → EReal) (n k : ℕ) :
    mx s (n + k) = max (mx s n) (Finset.fold max ⊥ (fun x : Fin k => s (n + x.val)) Finset.univ) := by
  have hf : Finset.fold max ⊥ (fun x : Fin k => s (n + x.val)) Finset.univ = Finset.univ.sup (fun x : Fin k => s (n + x.val)) := rfl
  rw [hf]
  apply le_antisymm
  · refine Finset.sup_le fun j hj => ?_
    have hj := Finset.mem_range.mp hj
    by_cases h : j < n
    · exact le_max_of_le_left (le_mx s h)
    · refine le_max_of_le_right ?_
      have := Finset.le_sup (f := fun x : Fin k => s (n + x.val)) (Finset.mem_univ ⟨j - n, by omega⟩)
      simpa [show n + (j - n) = j by omega] using this
  · refine max_le (mx_mono s (by omega)) (Finset.sup_le fun x _ => le_mx s (by omega))

/-- The sum over one more block. -/
theorem acc_add (s w : ℕ → EReal) (n k : ℕ) :
    acc s w (n + k) = acc s w n * Ideal.exp2 (mx s n - mx s (n + k))
      + ∑ x : Fin k, Ideal.exp2 (s (n + x.val) - mx s (n + k)) * w (n + x.val) := by
  obtain ⟨r, hr, he⟩ := exp2_real (mx_mono s (show n ≤ n + k by omega))
  unfold acc
  rw [Finset.sum_range_add, he, sum_mul_real _ _ r hr, Finset.sum_range (fun x => Ideal.exp2 (s (n + x) - mx s (n + k)) * w (n + x))]
  congr 1
  refine Finset.sum_congr rfl fun j hj => ?_
  have hj := Finset.mem_range.mp hj
  rw [← he, mul_right_comm, exp2_rescale (le_mx s hj) (mx_mono s (by omega))]

end Cert.Online

end
-- ==== Proof.FlashIdealTile.lean ====
/-
The attention kernel over the extended reals: one group's step, read at an index.
-/
module

public import proofs.«01_k».proof.Proof.Gen.KernelIdeal.Skeleton
public import proofs.«01_k».proof.Proof.FlashOnline
public import Idealize.ShloMosaic.Lib.Pointwise
public import Idealize.ShloMosaic.Lib.Tactic

@[expose] public section

set_option maxRecDepth 16384

noncomputable section

namespace Cert.KernelIdeal.Flash

open Cert.KernelIdeal Cert.KernelIdeal.Gen
open Idealize.ShloMosaic

/-- The word a maximum starts from is the least extended real. -/
theorem start_bot : Ideal.ofBits .f32 4286578688#32 = ⊥ := by simp [Ideal.ofBits, Ideal.ieee]

/-- The scores of a block: queries against keys. -/
abbrev fullS (k : Vec Ideal S1x512x128 .bf16) (q : Vec Ideal S1x1024x128 .bf16) : FVec Ideal S1024x512 .f32 := k0_pay72 (k0_pay65 k) q
/-- The scores of the diagonal block, later keys cut. -/
abbrev maskS (v5 v7 : BitVec 32) (k : Vec Ideal S1x512x128 .bf16) (q : Vec Ideal S1x1024x128 .bf16) : FVec Ideal S1024x512 .f32 :=
  k0_pay6 (fullS k q) (k0_pay73 v5 v7) k0_pay74
/-- The new maximum and the new accumulator of a block of scores. -/
abbrev newM (s : FVec Ideal S1024x512 .f32) (m : Vec Ideal S1x1024x128 .f32) : Vec Ideal S1x1024x128 .f32 := k0_pay71 s m
abbrev newA (v : Vec Ideal S1x512x128 .bf16) (s : FVec Ideal S1024x512 .f32) (m : Vec Ideal S1x1024x128 .f32) (a : Vec Ideal S1x1024x256 .f32) : Vec Ideal S1x1024x256 .f32 :=
  k0_pay70 (k0_pay66 k0_pay48 v) s m a

theorem fullS_at (k : Vec Ideal S1x512x128 .bf16) (q : Vec Ideal S1x1024x128 .bf16) (r : Fin 1024) (j : Fin 512) :
    fullS k q (ix2 r j) = ∑ l : Fin 128, q (ix3 0 r l) * k (ix3 0 j l) := by
  unfold fullS
  pointwise [k0_pay72, k0_pay65]

/-- The comparison of two small words, told by their difference. -/
theorem sge_sub {x y : BitVec 32} (hx : x.toNat < 2 ^ 30) (hy : y.toNat < 2 ^ 30) :
    IntOp.cmpi .sge (IntOp.subi x y) 0#32 = 1 ↔ y.toNat ≤ x.toNat := by
  have h : (IntOp.subi x y).toInt = (x.toNat : ℤ) - y.toNat := by
    show (x - y).toInt = _
    rw [BitVec.toInt_sub, BitVec.toInt_eq_toNat_of_lt (by omega), BitVec.toInt_eq_toNat_of_lt (by omega)]
    exact Int.bmod_eq_of_le (by omega) (by omega)
  show BitVec.ofBool ((0#32).sle (IntOp.subi x y)) = 1 ↔ _
  rw [BitVec.sle_eq_decide, h]
  simp only [BitVec.toInt_zero]
  by_cases hc : y.toNat ≤ x.toNat
  · rw [decide_eq_true (by omega)]; exact ⟨fun _ => hc, fun _ => rfl⟩
  · rw [decide_eq_false (by omega)]; exact ⟨fun h => absurd h (by decide), fun h => absurd h hc⟩

theorem maskS_at (a b : ℕ) (ha : a < 16) (hb : b < 16) (v5 v7 : BitVec 32) (h5 : v5.toNat = a * 512) (h7 : v7.toNat = b * 512)
    (k : Vec Ideal S1x512x128 .bf16) (q : Vec Ideal S1x1024x128 .bf16) (r : Fin 1024) (j : Fin 512) :
    maskS v5 v7 k q (ix2 r j) = if b * 512 + j.val ≤ a * 512 + r.val % 512 then fullS k q (ix2 r j) else ⊥ := by
  have e : maskS v5 v7 k q (ix2 r j) = Scalar.select
      (IntOp.cmpi CmpIPredicate.sge
        (IntOp.subi (IntOp.addi v5 (IntOp.andi (BitVec.ofNat 32 r.val) 511#32)) (IntOp.addi v7 (BitVec.ofNat 32 j.val))) 0#32)
      (fullS k q (ix2 r j)) (Named.named κ "mask" 4048155338#32) := by
    unfold maskS
    pointwise [k0_pay6, k0_pay73, k0_pay74]
  have hr : (IntOp.andi (BitVec.ofNat 32 r.val) 511#32).toNat = r.val % 512 := by
    show (BitVec.ofNat 32 r.val &&& 511#32).toNat = _
    rw [BitVec.toNat_and, BitVec.toNat_ofNat, Nat.mod_eq_of_lt (show r.val < 2 ^ 32 by omega)]
    exact Nat.and_two_pow_sub_one_eq_mod r.val 9
  have hx : (IntOp.addi v5 (IntOp.andi (BitVec.ofNat 32 r.val) 511#32)).toNat = a * 512 + r.val % 512 := by
    show (v5 + IntOp.andi (BitVec.ofNat 32 r.val) 511#32).toNat = _
    rw [BitVec.toNat_add, hr, h5]; omega
  have hy : (IntOp.addi v7 (BitVec.ofNat 32 j.val)).toNat = b * 512 + j.val := by
    show (v7 + BitVec.ofNat 32 j.val).toNat = _
    rw [BitVec.toNat_add, BitVec.toNat_ofNat, h7]; omega
  rw [e]
  unfold Scalar.select
  have hm : (Named.named κ "mask" 4048155338#32 : Ideal .f32) = ⊥ := rfl
  have hc := sge_sub (x := IntOp.addi v5 (IntOp.andi (BitVec.ofNat 32 r.val) 511#32)) (y := IntOp.addi v7 (BitVec.ofNat 32 j.val)) (by omega) (by omega)
  rw [hx, hy] at hc
  rw [hm]
  by_cases h : b * 512 + j.val ≤ a * 512 + r.val % 512
  · rw [if_pos h, if_pos (hc.mpr h)]
  · rw [if_neg h, if_neg (fun h' => h (hc.mp h'))]

/-- The weight a lane carries: the value, and one in the upper lanes. -/
def lane (v : Vec Ideal S1x512x128 .bf16) (j : Fin 512) (l : Fin 256) : EReal := if h : l.val < 128 then v (ix3 0 j ⟨l.val, h⟩) else 1

theorem newM_at (s : FVec Ideal S1024x512 .f32) (m : Vec Ideal S1x1024x128 .f32) (r : Fin 1024) (l : Fin 128) :
    newM s m (ix3 0 r l) = max (m (ix3 0 r l)) (Finset.fold max ⊥ (fun x => s (ix2 r x)) Finset.univ) := by
  unfold newM
  pointwise [k0_pay71, k0_pay69, k0_pay68]
  rw [start_bot]

/-- The new accumulator, where every lane of the old maximum holds `M` and the new one is `M'`. -/
theorem newA_at (v : Vec Ideal S1x512x128 .bf16) (s : FVec Ideal S1024x512 .f32) (m : Vec Ideal S1x1024x128 .f32) (a : Vec Ideal S1x1024x256 .f32)
    (r : Fin 1024) (l : Fin 256) (M M' : EReal) (hm : ∀ l, m (ix3 0 r l) = M)
    (hM : max M (Finset.fold max ⊥ (fun x => s (ix2 r x)) Finset.univ) = M') :
    newA v s m a (ix3 0 r l) = a (ix3 0 r l) * Ideal.exp2 (M - M') + ∑ x : Fin 512, Ideal.exp2 (s (ix2 r x) - M') * lane v x l := by
  unfold newA
  pointwise [k0_pay70, k0_pay69, k0_pay68, k0_pay66, k0_pay48]
  simp only [start_bot, hm, hM, dite_eq_ite, ite_self]
  rfl

theorem quot_at (a : Vec Ideal S1x1024x256 .f32) (r : Fin 1024) (l : Fin 128) :
    k0_pay75 a (ix2 r l) = Ideal.div (a (ix3 0 r ⟨l.val, by omega⟩)) (max (a (ix3 0 r ⟨128 + l.val, by omega⟩)) (Ideal.ofBits FTy.f32 228737632#32)) := by
  pointwise [k0_pay75]
theorem out0_at (a : Vec Ideal S1x1024x256 .f32) (r : Fin 512) (l : Fin 128) : k0_pay76 a (ix2 r l) = k0_pay75 a (ix2 ⟨r.val, by omega⟩ l) := by
  pointwise [k0_pay76]
theorem out1_at (a : Vec Ideal S1x1024x256 .f32) (r : Fin 512) (l : Fin 128) : k0_pay77 a (ix2 r l) = k0_pay75 a (ix2 ⟨512 + r.val, by omega⟩ l) := by
  pointwise [k0_pay77]

/-- The factor the queries carry: an eighth, and the logarithm's change of base. -/
def scaleR : ℝ := (8 * Real.log 2)⁻¹

/-- The lane numbers. -/
abbrev lanes : IVec S1x128 32 := iota .tc S1x128 32 [1] iota_S1x128_d1_w32
/-- The prepared queries of one head: the lower 64 lanes kept, or the upper ones. -/
abbrev lowQ (q : Vec Ideal S512x128 .f32) : Vec Ideal S1x512x128 .bf16 := k0_pay16 lanes q
abbrev highQ (q : Vec Ideal S512x128 .f32) : Vec Ideal S1x512x128 .bf16 := k0_pay19 lanes q

theorem slt_lane (l : Fin 128) : IntOp.cmpi .slt (BitVec.ofNat 32 l.val) 64#32 = 1 ↔ l.val / 64 = 0 := by
  revert l; decide +kernel
theorem sge_lane (l : Fin 128) : IntOp.cmpi .sge (BitVec.ofNat 32 l.val) 64#32 = 1 ↔ l.val / 64 = 1 := by
  revert l; decide +kernel

theorem lowQ_at (q : Vec Ideal S512x128 .f32) (r : Fin 512) (l : Fin 128) :
    lowQ q (ix3 0 r l) = if l.val / 64 = 0 then q (ix2 r l) * (scaleR : EReal) else 0 := by
  have e : lowQ q (ix3 0 r l) = Scalar.select (IntOp.cmpi CmpIPredicate.slt (BitVec.ofNat 32 l.val) 64#32) (q (ix2 r l) * (Named.named κ "q_scale" 1043900987#32 : Ideal .f32)) 0 := by
    unfold lowQ lanes
    pointwise [k0_pay16]
  rw [e, show (Named.named κ "q_scale" 1043900987#32 : Ideal .f32) = (scaleR : EReal) from rfl]
  unfold Scalar.select
  exact if_congr (slt_lane l) rfl rfl
theorem highQ_at (q : Vec Ideal S512x128 .f32) (r : Fin 512) (l : Fin 128) :
    highQ q (ix3 0 r l) = if l.val / 64 = 1 then q (ix2 r l) * (scaleR : EReal) else 0 := by
  have e : highQ q (ix3 0 r l) = Scalar.select (IntOp.cmpi CmpIPredicate.sge (BitVec.ofNat 32 l.val) 64#32) (q (ix2 r l) * (Named.named κ "q_scale" 1043900987#32 : Ideal .f32)) 0 := by
    unfold highQ lanes
    pointwise [k0_pay19]
  rw [e, show (Named.named κ "q_scale" 1043900987#32 : Ideal .f32) = (scaleR : EReal) from rfl]
  unfold Scalar.select
  exact if_congr (sge_lane l) rfl rfl

theorem fill_m (g : Fin 4) (r : Fin 1024) (l : Fin 128) : (k0_pay14 (F := Ideal)) (ix3 g r l) = ⊥ := by
  have e : (k0_pay14 (F := Ideal)) (ix3 g r l) = (Named.named κ "m_init" 0xF0C9F2CA#32 : Ideal .f32) := by pointwise [k0_pay14]
  rw [e]; rfl
theorem fill_a (g : Fin 4) (r : Fin 1024) (l : Fin 256) : k0_pay15 (F := Ideal) (ix3 g r l) = 0 := by
  pointwise [k0_pay15]

/-- One row of one group over one more block: if the scores of the block are `s` from key `n` on, the lanes' weights `w`, and the
    row holds the running maximum and sums of the first `n` keys, then it comes to hold those of the first `n + 512`. -/
theorem row_step (s : ℕ → EReal) (w : Fin 256 → ℕ → EReal) (n : ℕ) (S : FVec Ideal S1024x512 .f32) (v : Vec Ideal S1x512x128 .bf16)
    (m : Vec Ideal S1x1024x128 .f32) (a : Vec Ideal S1x1024x256 .f32) (r : Fin 1024)
    (hS : ∀ j : Fin 512, S (ix2 r j) = s (n + j.val)) (hw : ∀ (j : Fin 512) l, lane v j l = w l (n + j.val))
    (hm : ∀ l, m (ix3 0 r l) = Cert.Online.mx s n) (ha : ∀ l, a (ix3 0 r l) = Cert.Online.acc s (w l) n) :
    (∀ l, newM S m (ix3 0 r l) = Cert.Online.mx s (n + 512)) ∧ ∀ l, newA v S m a (ix3 0 r l) = Cert.Online.acc s (w l) (n + 512) := by
  have hf : (fun x => S (ix2 r x)) = fun x : Fin 512 => s (n + x.val) := funext hS
  refine ⟨fun l => ?_, fun l => ?_⟩
  · rw [newM_at, hm, hf, Cert.Online.mx_add]
  · rw [newA_at v S m a r l _ (Cert.Online.mx s (n + 512)) hm (by rw [hf, Cert.Online.mx_add]), ha, Cert.Online.acc_add]
    congr 1
    exact Finset.sum_congr rfl fun x _ => by rw [hS, hw]

end Cert.KernelIdeal.Flash

end
-- ==== Proof.FlashIdealLists.lean ====
/-
The attention kernel over the extended reals: the pieces every way through the body writes, as the group steps of what it read.
-/
module

public import proofs.«01_k».proof.Proof.FlashIdealRunA
public import proofs.«01_k».proof.Proof.FlashIdealRunB
public import proofs.«01_k».proof.Proof.FlashIdealRunC
public import proofs.«01_k».proof.Proof.FlashIdealRunD
public import proofs.«01_k».proof.Proof.FlashIdealTile

@[expose] public section

set_option maxRecDepth 16384

noncomputable section

namespace Cert.KernelIdeal.Flash

open Cert.KernelIdeal Cert.KernelIdeal.Gen
open Idealize.ShloMosaic
open Idealize.ShloMosaic.TcCoe Idealize.SL.Sem

variable (c : Dev nD) (i : grid0.Coords) (arg6 : Memref sig .tc .vmem S512x512 .f32) (arg7 : Memref sig .tc .vmem S1x512x512 .bf16)
  (x0 : S512x512.Idx → Elt Ideal .f32) (x1 : S1x512x512.Idx → Elt Ideal .bf16) (q0 : BufQ Ideal c) (m0 : BufM Ideal c) (a0 : BufA Ideal c)

abbrev kvl (off : ℕ) (h : ∀ a, (![0, 0, off] : Fin 3 → ℕ) a + S1x512x128.size a ≤ S1x512x512.size a) : Vec Ideal S1x512x128 .bf16 :=
  View.readAt (Elt Ideal) arg7.view (Rect.unit (s := S1x512x512) ![0, 0, off] S1x512x128.size h).toLoadRect (arg7.view.rep x1)
abbrev kv0 := kvl arg7 x1 0 inb_S1x512x512_S1x512x128_0_0_0
abbrev kv1 := kvl arg7 x1 128 inb_S1x512x512_S1x512x128_0_0_128
abbrev kv2 := kvl arg7 x1 256 inb_S1x512x512_S1x512x128_0_0_256
abbrev kv3 := kvl arg7 x1 384 inb_S1x512x512_S1x512x128_0_0_384

abbrev pQ (g : ℕ) (h : ∀ a, (![g, 0, 0] : Fin 3 → ℕ) a + S1x1024x128.size a ≤ S4x1024x128.size a) : Vec Ideal S1x1024x128 .bf16 :=
  View.readAt (Elt Ideal) sQ.view (Rect.unit (s := S4x1024x128) ![g, 0, 0] S1x1024x128.size h).toLoadRect q0
abbrev pM (g : ℕ) (h : ∀ a, (![g, 0, 0] : Fin 3 → ℕ) a + S1x1024x128.size a ≤ S4x1024x128.size a) : Vec Ideal S1x1024x128 .f32 :=
  View.readAt (Elt Ideal) sM.view (Rect.unit (s := S4x1024x128) ![g, 0, 0] S1x1024x128.size h).toLoadRect m0
abbrev pA (g : ℕ) (h : ∀ a, (![g, 0, 0] : Fin 3 → ℕ) a + S1x1024x256.size a ≤ S4x1024x256.size a) : Vec Ideal S1x1024x256 .f32 :=
  View.readAt (Elt Ideal) sA.view (Rect.unit (s := S4x1024x256) ![g, 0, 0] S1x1024x256.size h).toLoadRect a0

/-- The four pieces of a buffer of maxima, of sums, last written first, over the pieces before them. -/
abbrev four128 (p0 p1 p2 p3 : Vec Ideal S1x1024x128 .f32) (L : List (View.Piece (Elt Ideal) S4x1024x128 .f32)) : List (View.Piece (Elt Ideal) S4x1024x128 .f32) :=
  ⟨Rect.unit ![3, 0, 0] S1x1024x128.size inb_S4x1024x128_S1x1024x128_3_0_0, p3⟩ :: ⟨Rect.unit ![2, 0, 0] S1x1024x128.size inb_S4x1024x128_S1x1024x128_2_0_0, p2⟩
    :: ⟨Rect.unit ![1, 0, 0] S1x1024x128.size inb_S4x1024x128_S1x1024x128_1_0_0, p1⟩ :: ⟨Rect.unit ![0, 0, 0] S1x1024x128.size inb_S4x1024x128_S1x1024x128_0_0_0, p0⟩ :: L
abbrev four256 (p0 p1 p2 p3 : Vec Ideal S1x1024x256 .f32) (L : List (View.Piece (Elt Ideal) S4x1024x256 .f32)) : List (View.Piece (Elt Ideal) S4x1024x256 .f32) :=
  ⟨Rect.unit ![3, 0, 0] S1x1024x256.size inb_S4x1024x256_S1x1024x256_3_0_0, p3⟩ :: ⟨Rect.unit ![2, 0, 0] S1x1024x256.size inb_S4x1024x256_S1x1024x256_2_0_0, p2⟩
    :: ⟨Rect.unit ![1, 0, 0] S1x1024x256.size inb_S4x1024x256_S1x1024x256_1_0_0, p1⟩ :: ⟨Rect.unit ![0, 0, 0] S1x1024x256.size inb_S4x1024x256_S1x1024x256_0_0_0, p0⟩ :: L

theorem D_m : runD.sl.HM_4 c arg7 x1 q0 m0 = four128
    (newM (fullS (kv0 arg7 x1) (pQ c q0 0 inb_S4x1024x128_S1x1024x128_0_0_0)) (pM c m0 0 inb_S4x1024x128_S1x1024x128_0_0_0))
    (newM (fullS (kv0 arg7 x1) (pQ c q0 1 inb_S4x1024x128_S1x1024x128_1_0_0)) (pM c m0 1 inb_S4x1024x128_S1x1024x128_1_0_0))
    (newM (fullS (kv1 arg7 x1) (pQ c q0 2 inb_S4x1024x128_S1x1024x128_2_0_0)) (pM c m0 2 inb_S4x1024x128_S1x1024x128_2_0_0))
    (newM (fullS (kv1 arg7 x1) (pQ c q0 3 inb_S4x1024x128_S1x1024x128_3_0_0)) (pM c m0 3 inb_S4x1024x128_S1x1024x128_3_0_0)) [] := rfl

theorem D_a : runD.sl.HA_4 c arg7 x1 q0 m0 a0 = four256
    (newA (kv2 arg7 x1) (fullS (kv0 arg7 x1) (pQ c q0 0 inb_S4x1024x128_S1x1024x128_0_0_0)) (pM c m0 0 inb_S4x1024x128_S1x1024x128_0_0_0) (pA c a0 0 inb_S4x1024x256_S1x1024x256_0_0_0))
    (newA (kv2 arg7 x1) (fullS (kv0 arg7 x1) (pQ c q0 1 inb_S4x1024x128_S1x1024x128_1_0_0)) (pM c m0 1 inb_S4x1024x128_S1x1024x128_1_0_0) (pA c a0 1 inb_S4x1024x256_S1x1024x256_1_0_0))
    (newA (kv3 arg7 x1) (fullS (kv1 arg7 x1) (pQ c q0 2 inb_S4x1024x128_S1x1024x128_2_0_0)) (pM c m0 2 inb_S4x1024x128_S1x1024x128_2_0_0) (pA c a0 2 inb_S4x1024x256_S1x1024x256_2_0_0))
    (newA (kv3 arg7 x1) (fullS (kv1 arg7 x1) (pQ c q0 3 inb_S4x1024x128_S1x1024x128_3_0_0)) (pM c m0 3 inb_S4x1024x128_S1x1024x128_3_0_0) (pA c a0 3 inb_S4x1024x256_S1x1024x256_3_0_0)) [] := rfl

theorem C_m : runC.sl.HM_4 c i arg7 x1 q0 m0 = four128
    (newM (maskS (runC.sl.v5 (F := Ideal) i) (runC.sl.v7 (F := Ideal) i) (kv0 arg7 x1) (pQ c q0 0 inb_S4x1024x128_S1x1024x128_0_0_0)) (pM c m0 0 inb_S4x1024x128_S1x1024x128_0_0_0))
    (newM (maskS (runC.sl.v5 (F := Ideal) i) (runC.sl.v7 (F := Ideal) i) (kv0 arg7 x1) (pQ c q0 1 inb_S4x1024x128_S1x1024x128_1_0_0)) (pM c m0 1 inb_S4x1024x128_S1x1024x128_1_0_0))
    (newM (maskS (runC.sl.v5 (F := Ideal) i) (runC.sl.v7 (F := Ideal) i) (kv1 arg7 x1) (pQ c q0 2 inb_S4x1024x128_S1x1024x128_2_0_0)) (pM c m0 2 inb_S4x1024x128_S1x1024x128_2_0_0))
    (newM (maskS (runC.sl.v5 (F := Ideal) i) (runC.sl.v7 (F := Ideal) i) (kv1 arg7 x1) (pQ c q0 3 inb_S4x1024x128_S1x1024x128_3_0_0)) (pM c m0 3 inb_S4x1024x128_S1x1024x128_3_0_0)) [] := rfl

theorem C_a : runC.sl.HA_4 c i arg7 x1 q0 m0 a0 = four256
    (newA (kv2 arg7 x1) (maskS (runC.sl.v5 (F := Ideal) i) (runC.sl.v7 (F := Ideal) i) (kv0 arg7 x1) (pQ c q0 0 inb_S4x1024x128_S1x1024x128_0_0_0)) (pM c m0 0 inb_S4x1024x128_S1x1024x128_0_0_0) (pA c a0 0 inb_S4x1024x256_S1x1024x256_0_0_0))
    (newA (kv2 arg7 x1) (maskS (runC.sl.v5 (F := Ideal) i) (runC.sl.v7 (F := Ideal) i) (kv0 arg7 x1) (pQ c q0 1 inb_S4x1024x128_S1x1024x128_1_0_0)) (pM c m0 1 inb_S4x1024x128_S1x1024x128_1_0_0) (pA c a0 1 inb_S4x1024x256_S1x1024x256_1_0_0))
    (newA (kv3 arg7 x1) (maskS (runC.sl.v5 (F := Ideal) i) (runC.sl.v7 (F := Ideal) i) (kv1 arg7 x1) (pQ c q0 2 inb_S4x1024x128_S1x1024x128_2_0_0)) (pM c m0 2 inb_S4x1024x128_S1x1024x128_2_0_0) (pA c a0 2 inb_S4x1024x256_S1x1024x256_2_0_0))
    (newA (kv3 arg7 x1) (maskS (runC.sl.v5 (F := Ideal) i) (runC.sl.v7 (F := Ideal) i) (kv1 arg7 x1) (pQ c q0 3 inb_S4x1024x128_S1x1024x128_3_0_0)) (pM c m0 3 inb_S4x1024x128_S1x1024x128_3_0_0) (pA c a0 3 inb_S4x1024x256_S1x1024x256_3_0_0)) [] := rfl

theorem B_m : runB.sl.HM_5 arg6 arg7 x0 x1 = four128
    (newM (fullS (kv0 arg7 x1) (runB.sl.v33 arg6 x0)) (runB.sl.v36 (F := Ideal)))
    (newM (fullS (kv0 arg7 x1) (runB.sl.v60 arg6 x0)) (runB.sl.v63 (F := Ideal) arg6 arg7 x0 x1))
    (newM (fullS (kv1 arg7 x1) (runB.sl.v92 arg6 x0)) (runB.sl.v95 (F := Ideal) arg6 arg7 x0 x1))
    (newM (fullS (kv1 arg7 x1) (runB.sl.v119 arg6 x0)) (runB.sl.v122 (F := Ideal) arg6 arg7 x0 x1)) runB.sl.HM_1 := rfl

theorem B_a : runB.sl.HA_5 arg6 arg7 x0 x1 = four256
    (newA (kv2 arg7 x1) (fullS (kv0 arg7 x1) (runB.sl.v33 arg6 x0)) (runB.sl.v36 (F := Ideal)) (runB.sl.v47 (F := Ideal)))
    (newA (kv2 arg7 x1) (fullS (kv0 arg7 x1) (runB.sl.v60 arg6 x0)) (runB.sl.v63 (F := Ideal) arg6 arg7 x0 x1) (runB.sl.v74 (F := Ideal) arg6 arg7 x0 x1))
    (newA (kv3 arg7 x1) (fullS (kv1 arg7 x1) (runB.sl.v92 arg6 x0)) (runB.sl.v95 (F := Ideal) arg6 arg7 x0 x1) (runB.sl.v106 (F := Ideal) arg6 arg7 x0 x1))
    (newA (kv3 arg7 x1) (fullS (kv1 arg7 x1) (runB.sl.v119 arg6 x0)) (runB.sl.v122 (F := Ideal) arg6 arg7 x0 x1) (runB.sl.v133 (F := Ideal) arg6 arg7 x0 x1)) runB.sl.HA_1 := rfl

theorem A_m : runA.sl.HM_5 i arg6 arg7 x0 x1 = four128
    (newM (maskS (runA.sl.v5 (F := Ideal) i) (runA.sl.v7 (F := Ideal) i) (kv0 arg7 x1) (runA.sl.v33 arg6 x0)) (runA.sl.v51 (F := Ideal)))
    (newM (maskS (runA.sl.v5 (F := Ideal) i) (runA.sl.v7 (F := Ideal) i) (kv0 arg7 x1) (runA.sl.v75 arg6 x0)) (runA.sl.v93 (F := Ideal) i arg6 arg7 x0 x1))
    (newM (maskS (runA.sl.v5 (F := Ideal) i) (runA.sl.v7 (F := Ideal) i) (kv1 arg7 x1) (runA.sl.v122 arg6 x0)) (runA.sl.v140 (F := Ideal) i arg6 arg7 x0 x1))
    (newM (maskS (runA.sl.v5 (F := Ideal) i) (runA.sl.v7 (F := Ideal) i) (kv1 arg7 x1) (runA.sl.v164 arg6 x0)) (runA.sl.v182 (F := Ideal) i arg6 arg7 x0 x1)) runA.sl.HM_1 := rfl

theorem A_a : runA.sl.HA_5 i arg6 arg7 x0 x1 = four256
    (newA (kv2 arg7 x1) (maskS (runA.sl.v5 (F := Ideal) i) (runA.sl.v7 (F := Ideal) i) (kv0 arg7 x1) (runA.sl.v33 arg6 x0)) (runA.sl.v51 (F := Ideal)) (runA.sl.v62 (F := Ideal)))
    (newA (kv2 arg7 x1) (maskS (runA.sl.v5 (F := Ideal) i) (runA.sl.v7 (F := Ideal) i) (kv0 arg7 x1) (runA.sl.v75 arg6 x0)) (runA.sl.v93 (F := Ideal) i arg6 arg7 x0 x1) (runA.sl.v104 (F := Ideal) i arg6 arg7 x0 x1))
    (newA (kv3 arg7 x1) (maskS (runA.sl.v5 (F := Ideal) i) (runA.sl.v7 (F := Ideal) i) (kv1 arg7 x1) (runA.sl.v122 arg6 x0)) (runA.sl.v140 (F := Ideal) i arg6 arg7 x0 x1) (runA.sl.v151 (F := Ideal) i arg6 arg7 x0 x1))
    (newA (kv3 arg7 x1) (maskS (runA.sl.v5 (F := Ideal) i) (runA.sl.v7 (F := Ideal) i) (kv1 arg7 x1) (runA.sl.v164 arg6 x0)) (runA.sl.v182 (F := Ideal) i arg6 arg7 x0 x1) (runA.sl.v193 (F := Ideal) i arg6 arg7 x0 x1)) runA.sl.HA_1 := rfl

abbrev ql (off : ℕ) (h : ∀ a, (![0, off] : Fin 2 → ℕ) a + S512x128.size a ≤ S512x512.size a) : Vec Ideal S512x128 .f32 :=
  View.readAt (Elt Ideal) arg6.view (Rect.unit (s := S512x512) ![0, off] S512x128.size h).toLoadRect (arg6.view.rep x0)
abbrev q00 := ql arg6 x0 0 inb_S512x512_S512x128_0_0
abbrev q01 := ql arg6 x0 128 inb_S512x512_S512x128_0_128
abbrev q10 := ql arg6 x0 256 inb_S512x512_S512x128_0_256
abbrev q11 := ql arg6 x0 384 inb_S512x512_S512x128_0_384

/-- The eight pieces of the prepared queries, last written first. -/
abbrev queries : List (View.Piece (Elt Ideal) S4x1024x128 .bf16) :=
  [⟨Rect.unit ![3, 512, 0] S1x512x128.size inb_S4x1024x128_S1x512x128_3_512_0, highQ (q11 arg6 x0)⟩, ⟨Rect.unit ![3, 0, 0] S1x512x128.size inb_S4x1024x128_S1x512x128_3_0_0, highQ (q10 arg6 x0)⟩,
    ⟨Rect.unit ![2, 512, 0] S1x512x128.size inb_S4x1024x128_S1x512x128_2_512_0, lowQ (q11 arg6 x0)⟩, ⟨Rect.unit ![2, 0, 0] S1x512x128.size inb_S4x1024x128_S1x512x128_2_0_0, lowQ (q10 arg6 x0)⟩,
    ⟨Rect.unit ![1, 512, 0] S1x512x128.size inb_S4x1024x128_S1x512x128_1_512_0, highQ (q01 arg6 x0)⟩, ⟨Rect.unit ![1, 0, 0] S1x512x128.size inb_S4x1024x128_S1x512x128_1_0_0, highQ (q00 arg6 x0)⟩,
    ⟨Rect.unit ![0, 512, 0] S1x512x128.size inb_S4x1024x128_S1x512x128_0_512_0, lowQ (q01 arg6 x0)⟩, ⟨Rect.unit ![0, 0, 0] S1x512x128.size inb_S4x1024x128_S1x512x128_0_0_0, lowQ (q00 arg6 x0)⟩]

theorem B_q : runB.sl.HQ_8 (F := Ideal) arg6 x0 = queries arg6 x0 := rfl
theorem A_q : runA.sl.HQ_8 (F := Ideal) arg6 x0 = queries arg6 x0 := rfl

/-- The eight pieces of the output block, last written first, from the four groups' sums. -/
abbrev outs (p0 p1 p2 p3 : Vec Ideal S1x1024x256 .f32) : List (View.Piece (Elt Ideal) S512x1024 .f32) :=
  [⟨Rect.unit ![0, 896] S512x128.size inb_S512x1024_S512x128_0_896, k0_pay77 p3⟩, ⟨Rect.unit ![0, 768] S512x128.size inb_S512x1024_S512x128_0_768, k0_pay76 p3⟩,
    ⟨Rect.unit ![0, 640] S512x128.size inb_S512x1024_S512x128_0_640, k0_pay77 p2⟩, ⟨Rect.unit ![0, 512] S512x128.size inb_S512x1024_S512x128_0_512, k0_pay76 p2⟩,
    ⟨Rect.unit ![0, 384] S512x128.size inb_S512x1024_S512x128_0_384, k0_pay77 p1⟩, ⟨Rect.unit ![0, 256] S512x128.size inb_S512x1024_S512x128_0_256, k0_pay76 p1⟩,
    ⟨Rect.unit ![0, 128] S512x128.size inb_S512x1024_S512x128_0_128, k0_pay77 p0⟩, ⟨Rect.unit ![0, 0] S512x128.size inb_S512x1024_S512x128_0_0, k0_pay76 p0⟩]

theorem C_o : runC.sl.H8_8 c i arg7 x1 q0 m0 a0 = outs (runC.sl.v27 c i arg7 x1 q0 m0 a0) (runC.sl.v38 c i arg7 x1 q0 m0 a0) (runC.sl.v49 c i arg7 x1 q0 m0 a0) (runC.sl.v60 c i arg7 x1 q0 m0 a0) := rfl
theorem A_o : runA.sl.H8_8 i arg6 arg7 x0 x1 = outs (runA.sl.v27 i arg6 arg7 x0 x1) (runA.sl.v38 i arg6 arg7 x0 x1) (runA.sl.v49 i arg6 arg7 x0 x1) (runA.sl.v60 i arg6 arg7 x0 x1) := rfl

end Cert.KernelIdeal.Flash

end
-- ==== Proof.FlashIdealPlanes.lean ====
/-
The attention kernel over the extended reals: what the carried buffers and the output block hold, read at an index.
-/
module

public import proofs.«01_k».proof.Proof.FlashIdealLists
public import Idealize.ShloMosaic.Lib.Pipeline.FrameBody
public import Idealize.ShloMosaic.Lib.WritesUnit
public import Idealize.ShloMosaic.Lib.Pipeline.ValueKit.Tiles

@[expose] public section

set_option maxRecDepth 16384

noncomputable section

namespace Cert.KernelIdeal.Flash

open Cert.KernelIdeal Cert.KernelIdeal.Gen
open Idealize.ShloMosaic
open Idealize.ShloMosaic.TcCoe Idealize.SL.Sem

section
variable {s : Shape} {e : EltTy} {off size : Fin s.rank → ℕ} (inb : ∀ a, off a + size a ≤ s.size a)
  (w : (Rect.unit off size inb).shape.Idx → Elt Ideal e) (L : List (View.Piece (Elt Ideal) s e)) (y : s.Idx)

/-- An index inside the last piece written reads it. -/
theorem canon_hit (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside it reads the pieces before. -/
theorem canon_miss (a : Fin s.rank) (ha : (y a).val < off a ∨ off a + size a ≤ (y a).val) :
    View.canon ((⟨Rect.unit off size inb, w⟩ : View.Piece (Elt Ideal) s e) :: L) y = View.canon L y := by
  refine View.canon_cons_of_not_mem _ L ?_
  show y ∉ (Rect.unit off size inb).set
  rw [Rect.mem_set_unit]
  intro h
  have := h a
  omega
end

/-- Plane `g` of four planes written last. -/
theorem four128_at (p0 p1 p2 p3 : Vec Ideal S1x1024x128 .f32) (L) (g : Fin 4) (r : Fin 1024) (l : Fin 128) :
    View.canon (four128 p0 p1 p2 p3 L) (ix3 g r l) = (![p0, p1, p2, p3] g) (ix3 0 r l) := by
  have miss : ∀ (k : ℕ) (inb) (w) (L : List (View.Piece (Elt Ideal) S4x1024x128 .f32)), g.val < k →
      View.canon ((⟨Rect.unit (s := S4x1024x128) ![k, 0, 0] S1x1024x128.size inb, w⟩ : View.Piece (Elt Ideal) S4x1024x128 .f32) :: L) (ix3 g r l) = View.canon L (ix3 g r l) :=
    fun k inb w L hk => canon_miss inb w L (ix3 g r l) 0 (Or.inl hk)
  have hit : ∀ (k : ℕ) (inb) (w : Vec Ideal S1x1024x128 .f32) (L : List (View.Piece (Elt Ideal) S4x1024x128 .f32)), g.val = k →
      View.canon ((⟨Rect.unit (s := S4x1024x128) ![k, 0, 0] S1x1024x128.size inb, w⟩ : View.Piece (Elt Ideal) S4x1024x128 .f32) :: L) (ix3 g r l) = w (ix3 0 r l) :=
    fun k inb w L hk => canon_hit inb w L (ix3 g r l) (ix3 0 r l) (fun a => by fin_cases a <;> simp [ix3]; exact hk)
  unfold four128
  obtain ⟨g, hg⟩ := g
  interval_cases g
  · rw [miss 3 _ _ _ (by simp), miss 2 _ _ _ (by simp), miss 1 _ _ _ (by simp), hit 0 _ _ _ rfl]; rfl
  · rw [miss 3 _ _ _ (by simp), miss 2 _ _ _ (by simp), hit 1 _ _ _ rfl]; rfl
  · rw [miss 3 _ _ _ (by simp), hit 2 _ _ _ rfl]; rfl
  · rw [hit 3 _ _ _ rfl]; rfl

theorem four256_at (p0 p1 p2 p3 : Vec Ideal S1x1024x256 .f32) (L) (g : Fin 4) (r : Fin 1024) (l : Fin 256) :
    View.canon (four256 p0 p1 p2 p3 L) (ix3 g r l) = (![p0, p1, p2, p3] g) (ix3 0 r l) := by
  have miss : ∀ (k : ℕ) (inb) (w) (L : List (View.Piece (Elt Ideal) S4x1024x256 .f32)), g.val < k →
      View.canon ((⟨Rect.unit (s := S4x1024x256) ![k, 0, 0] S1x1024x256.size inb, w⟩ : View.Piece (Elt Ideal) S4x1024x256 .f32) :: L) (ix3 g r l) = View.canon L (ix3 g r l) :=
    fun k inb w L hk => canon_miss inb w L (ix3 g r l) 0 (Or.inl hk)
  have hit : ∀ (k : ℕ) (inb) (w : Vec Ideal S1x1024x256 .f32) (L : List (View.Piece (Elt Ideal) S4x1024x256 .f32)), g.val = k →
      View.canon ((⟨Rect.unit (s := S4x1024x256) ![k, 0, 0] S1x1024x256.size inb, w⟩ : View.Piece (Elt Ideal) S4x1024x256 .f32) :: L) (ix3 g r l) = w (ix3 0 r l) :=
    fun k inb w L hk => canon_hit inb w L (ix3 g r l) (ix3 0 r l) (fun a => by fin_cases a <;> simp [ix3]; exact hk)
  unfold four256
  obtain ⟨g, hg⟩ := g
  interval_cases g
  · rw [miss 3 _ _ _ (by simp), miss 2 _ _ _ (by simp), miss 1 _ _ _ (by simp), hit 0 _ _ _ rfl]; rfl
  · rw [miss 3 _ _ _ (by simp), miss 2 _ _ _ (by simp), hit 1 _ _ _ rfl]; rfl
  · rw [miss 3 _ _ _ (by simp), hit 2 _ _ _ rfl]; rfl
  · rw [hit 3 _ _ _ rfl]; rfl

/-- A load of plane `g`. -/
theorem load_plane {W : ℕ} {e : EltTy} (X : (⟨3, ![4, 1024, W]⟩ : Shape).Idx → Elt Ideal e) (g : ℕ) (hg : g < 4)
    (h : ∀ a, (![g, 0, 0] : Fin 3 → ℕ) a + (⟨3, ![1, 1024, W]⟩ : Shape).size a ≤ (⟨3, ![4, 1024, W]⟩ : Shape).size a) (r : Fin 1024) (l : Fin W) :
    X ((Rect.unit (s := (⟨3, ![4, 1024, W]⟩ : Shape)) ![g, 0, 0] (⟨3, ![1, 1024, W]⟩ : Shape).size h).toLoadRect.idx (ix3 0 r l)) = X (ix3 ⟨g, hg⟩ r l) :=
  congrArg X (funext fun a => Fin.ext ((Rect.idx_unit_val _ _ h _ a).trans (by fin_cases a <;> simp [ix3])))

section
variable (c : Dev nD) (arg6 : Memref sig .tc .vmem S512x512 .f32) (arg7 : Memref sig .tc .vmem S1x512x512 .bf16)
  (x0 : S512x512.Idx → Elt Ideal .f32) (x1 : S1x512x512.Idx → Elt Ideal .bf16) (q0 : BufQ Ideal c) (m0 : BufM Ideal c) (a0 : BufA Ideal c)

theorem pQ_at (g : ℕ) (hg : g < 4) (h) (r : Fin 1024) (l : Fin 128) : pQ c q0 g h (ix3 0 r l) = (q0 : S4x1024x128.Idx → Elt Ideal .bf16) (ix3 ⟨g, hg⟩ r l) :=
  load_plane (e := .bf16) (q0 : S4x1024x128.Idx → Elt Ideal .bf16) g hg h r l
theorem pM_at (g : ℕ) (hg : g < 4) (h) (r : Fin 1024) (l : Fin 128) : pM c m0 g h (ix3 0 r l) = (m0 : S4x1024x128.Idx → Elt Ideal .f32) (ix3 ⟨g, hg⟩ r l) :=
  load_plane (e := .f32) (m0 : S4x1024x128.Idx → Elt Ideal .f32) g hg h r l
theorem pA_at (g : ℕ) (hg : g < 4) (h) (r : Fin 1024) (l : Fin 256) : pA c a0 g h (ix3 0 r l) = (a0 : S4x1024x256.Idx → Elt Ideal .f32) (ix3 ⟨g, hg⟩ r l) :=
  load_plane (e := .f32) (a0 : S4x1024x256.Idx → Elt Ideal .f32) g hg h r l

/-- A load of a plane just written reads the pieces. -/
theorem covQ_at (L : List (View.Piece (Elt Ideal) S4x1024x128 .bf16)) (g : ℕ) (hg : g < 4) (h) (r : Fin 1024) (l : Fin 128) :
    (sQ.view.readCov L (Rect.unit (s := S4x1024x128) ![g, 0, 0] S1x1024x128.size h).toLoadRect : Vec Ideal S1x1024x128 .bf16) (ix3 0 r l) = View.canon L (ix3 ⟨g, hg⟩ r l) := by
  rw [View.readCov_eq_canon']
  exact load_plane (e := .bf16) (View.canon L) g hg h r l
theorem covM_at (L : List (View.Piece (Elt Ideal) S4x1024x128 .f32)) (g : ℕ) (hg : g < 4) (h) (r : Fin 1024) (l : Fin 128) :
    (sM.view.readCov L (Rect.unit (s := S4x1024x128) ![g, 0, 0] S1x1024x128.size h).toLoadRect : Vec Ideal S1x1024x128 .f32) (ix3 0 r l) = View.canon L (ix3 ⟨g, hg⟩ r l) := by
  rw [View.readCov_eq_canon']
  exact load_plane (e := .f32) (View.canon L) g hg h r l
theorem covA_at (L : List (View.Piece (Elt Ideal) S4x1024x256 .f32)) (g : ℕ) (hg : g < 4) (h) (r : Fin 1024) (l : Fin 256) :
    (sA.view.readCov L (Rect.unit (s := S4x1024x256) ![g, 0, 0] S1x1024x256.size h).toLoadRect : Vec Ideal S1x1024x256 .f32) (ix3 0 r l) = View.canon L (ix3 ⟨g, hg⟩ r l) := by
  rw [View.readCov_eq_canon']
  exact load_plane (e := .f32) (View.canon L) g hg h r l

/-- A load of 128 columns of the key and value block, of the query block. -/
theorem kvl_at (off : ℕ) (ho : off + 128 ≤ 512) (h) (j : Fin 512) (l : Fin 128) : kvl arg7 x1 off h (ix3 0 j l) = x1 (ix3 0 j ⟨off + l.val, by omega⟩) := by
  unfold kvl
  rw [View.readAt_eq_ld, View.read_rep]
  exact congrArg x1 (funext fun a => Fin.ext ((Rect.idx_unit_val _ _ h _ a).trans (by fin_cases a <;> simp [ix3])))
theorem ql_at (off : ℕ) (ho : off + 128 ≤ 512) (h) (r : Fin 512) (l : Fin 128) : ql arg6 x0 off h (ix2 r l) = x0 (ix2 r ⟨off + l.val, by omega⟩) := by
  unfold ql
  rw [View.readAt_eq_ld, View.read_rep]
  exact congrArg x0 (funext fun a => Fin.ext ((Rect.idx_unit_val _ _ h _ a).trans (by fin_cases a <;> simp [ix2])))

/-- The prepared queries: group `g` holds heads of chunk pair `g / 2`, the half `g % 2` of the lanes kept. -/
theorem queries_at (g : Fin 4) (r : Fin 1024) (l : Fin 128) :
    View.canon (queries arg6 x0) (ix3 g r l)
      = if l.val / 64 = g.val % 2 then x0 (ix2 ⟨r.val % 512, by omega⟩ ⟨(g.val / 2 * 2 + r.val / 512) * 128 + l.val, by omega⟩) * (scaleR : EReal) else 0 := by
  have hlo : ∀ k : ℕ, ∀ hk : k < 4, ∀ hr : r.val < 512, ∀ a : Fin 3, ((ix3 (⟨k, hk⟩ : Fin 4) r l : S4x1024x128.Idx) a).val = (![k, 0, 0] : Fin 3 → ℕ) a + ((ix3 (0 : Fin 1) (⟨r.val, hr⟩ : Fin 512) l : S1x512x128.Idx) a).val := by
    intro k hk hr a; fin_cases a <;> simp [ix3]
  have hhi : ∀ k : ℕ, ∀ hk : k < 4, ∀ hr : ¬r.val < 512, ∀ a : Fin 3, ((ix3 (⟨k, hk⟩ : Fin 4) r l : S4x1024x128.Idx) a).val = (![k, 512, 0] : Fin 3 → ℕ) a + ((ix3 (0 : Fin 1) (⟨r.val - 512, by omega⟩ : Fin 512) l : S1x512x128.Idx) a).val := by
    intro k hk hr a; fin_cases a <;> simp [ix3]; omega
  have hbr : ∀ (hr : r.val < 512), (⟨r.val, hr⟩ : Fin 512) = ⟨r.val % 512, by omega⟩ := fun hr => Fin.ext (by show r.val = r.val % 512; omega)
  have hbr' : ∀ (hr : ¬r.val < 512), (⟨r.val - 512, by omega⟩ : Fin 512) = ⟨r.val % 512, by omega⟩ := fun hr => Fin.ext (by show r.val - 512 = r.val % 512; omega)
  have miss : ∀ (k o : ℕ) (inb) (w) (L : List (View.Piece (Elt Ideal) S4x1024x128 .bf16)), g.val < k →
      View.canon ((⟨Rect.unit (s := S4x1024x128) ![k, o, 0] S1x512x128.size inb, w⟩ : View.Piece (Elt Ideal) S4x1024x128 .bf16) :: L) (ix3 g r l) = View.canon L (ix3 g r l) :=
    fun k o inb w L hk => canon_miss inb w L (ix3 g r l) 0 (Or.inl hk)
  have missr : ∀ (k : ℕ) (inb) (w) (L : List (View.Piece (Elt Ideal) S4x1024x128 .bf16)), r.val < 512 →
      View.canon ((⟨Rect.unit (s := S4x1024x128) ![k, 512, 0] S1x512x128.size inb, w⟩ : View.Piece (Elt Ideal) S4x1024x128 .bf16) :: L) (ix3 g r l) = View.canon L (ix3 g r l) :=
    fun k inb w L hk => canon_miss inb w L (ix3 g r l) 1 (Or.inl hk)
  unfold queries
  obtain ⟨g, hg⟩ := g
  interval_cases g <;> by_cases hr : r.val < 512
  · rw [miss _ _ _ _ _ (by simp), miss _ _ _ _ _ (by simp), miss _ _ _ _ _ (by simp), miss _ _ _ _ _ (by simp), miss _ _ _ _ _ (by simp), miss _ _ _ _ _ (by simp), missr _ _ _ _ hr,
      canon_hit _ _ _ _ _ (hlo 0 (by decide) hr), lowQ_at, hbr hr]
    refine if_congr (by simp) (congrArg (· * _) ((ql_at arg6 x0 0 (by decide) _ _ _).trans (congrArg x0 ?_))) rfl
    congr 1; exact Fin.ext (by simp; omega)
  · rw [miss _ _ _ _ _ (by simp), miss _ _ _ _ _ (by simp), miss _ _ _ _ _ (by simp), miss _ _ _ _ _ (by simp), miss _ _ _ _ _ (by simp), miss _ _ _ _ _ (by simp),
      canon_hit _ _ _ _ _ (hhi 0 (by decide) hr), lowQ_at, hbr' hr]
    refine if_congr (by simp) (congrArg (· * _) ((ql_at arg6 x0 128 (by decide) _ _ _).trans (congrArg x0 ?_))) rfl
    congr 1; exact Fin.ext (by simp; omega)
  · rw [miss _ _ _ _ _ (by simp), miss _ _ _ _ _ (by simp), miss _ _ _ _ _ (by simp), miss _ _ _ _ _ (by simp), missr _ _ _ _ hr,
      canon_hit _ _ _ _ _ (hlo 1 (by decide) hr), highQ_at, hbr hr]
    refine if_congr (by simp) (congrArg (· * _) ((ql_at arg6 x0 0 (by decide) _ _ _).trans (congrArg x0 ?_))) rfl
    congr 1; exact Fin.ext (by simp; omega)
  · rw [miss _ _ _ _ _ (by simp), miss _ _ _ _ _ (by simp), miss _ _ _ _ _ (by simp), miss _ _ _ _ _ (by simp),
      canon_hit _ _ _ _ _ (hhi 1 (by decide) hr), highQ_at, hbr' hr]
    refine if_congr (by simp) (congrArg (· * _) ((ql_at arg6 x0 128 (by decide) _ _ _).trans (congrArg x0 ?_))) rfl
    congr 1; exact Fin.ext (by simp; omega)
  · rw [miss _ _ _ _ _ (by simp), miss _ _ _ _ _ (by simp), missr _ _ _ _ hr,
      canon_hit _ _ _ _ _ (hlo 2 (by decide) hr), lowQ_at, hbr hr]
    refine if_congr (by simp) (congrArg (· * _) ((ql_at arg6 x0 256 (by decide) _ _ _).trans (congrArg x0 ?_))) rfl
    congr 1; exact Fin.ext (by simp; omega)
  · rw [miss _ _ _ _ _ (by simp), miss _ _ _ _ _ (by simp),
      canon_hit _ _ _ _ _ (hhi 2 (by decide) hr), lowQ_at, hbr' hr]
    refine if_congr (by simp) (congrArg (· * _) ((ql_at arg6 x0 384 (by decide) _ _ _).trans (congrArg x0 ?_))) rfl
    congr 1; exact Fin.ext (by simp; omega)
  · rw [missr _ _ _ _ hr, canon_hit _ _ _ _ _ (hlo 3 (by decide) hr), highQ_at, hbr hr]
    refine if_congr (by simp) (congrArg (· * _) ((ql_at arg6 x0 256 (by decide) _ _ _).trans (congrArg x0 ?_))) rfl
    congr 1; exact Fin.ext (by simp; omega)
  · rw [canon_hit _ _ _ _ _ (hhi 3 (by decide) hr), highQ_at, hbr' hr]
    refine if_congr (by simp) (congrArg (· * _) ((ql_at arg6 x0 384 (by decide) _ _ _).trans (congrArg x0 ?_))) rfl
    congr 1; exact Fin.ext (by simp; omega)
end

/-- The output block: column `col` reads group `col / 256`, head `col % 256 / 128`, lane `col % 128`. -/
theorem outs_at (p0 p1 p2 p3 : Vec Ideal S1x1024x256 .f32) (r : Fin 512) (col : Fin 1024) :
    View.canon (outs p0 p1 p2 p3) (ix2 r col)
      = k0_pay75 (![p0, p1, p2, p3] ⟨col.val / 256, by omega⟩) (ix2 ⟨col.val % 256 / 128 * 512 + r.val, by omega⟩ ⟨col.val % 128, by omega⟩) := by
  have miss : ∀ (o : ℕ) (inb) (w) (L : List (View.Piece (Elt Ideal) S512x1024 .f32)), col.val < o →
      View.canon ((⟨Rect.unit (s := S512x1024) ![0, o] S512x128.size inb, w⟩ : View.Piece (Elt Ideal) S512x1024 .f32) :: L) (ix2 r col) = View.canon L (ix2 r col) :=
    fun o inb w L hk => canon_miss inb w L (ix2 r col) 1 (Or.inl hk)
  have hit : ∀ (o : ℕ) (inb) (w : Vec Ideal S512x128 .f32) (L : List (View.Piece (Elt Ideal) S512x1024 .f32)), o % 128 = 0 → (ho : o ≤ col.val) → (h : col.val < o + 128) →
      View.canon ((⟨Rect.unit (s := S512x1024) ![0, o] S512x128.size inb, w⟩ : View.Piece (Elt Ideal) S512x1024 .f32) :: L) (ix2 r col) = w (ix2 r ⟨col.val % 128, by omega⟩) :=
    fun o inb w L hm ho h => canon_hit inb w L (ix2 r col) (ix2 r ⟨col.val % 128, by omega⟩) (fun a => by fin_cases a <;> simp [ix2]; omega)
  have pick : ∀ (k : ℕ) (hk : k < 4) (b : ℕ), col.val / 256 = k → col.val % 256 / 128 = b → ∀ (R : Fin 1024), R.val = b * 512 + r.val →
      k0_pay75 (![p0, p1, p2, p3] ⟨k, hk⟩) (ix2 R ⟨col.val % 128, by omega⟩)
        = k0_pay75 (![p0, p1, p2, p3] ⟨col.val / 256, by omega⟩) (ix2 ⟨col.val % 256 / 128 * 512 + r.val, by omega⟩ ⟨col.val % 128, by omega⟩) := by
    intro k hk b h1 h2 R hR
    subst h1
    congr 2
    exact Fin.ext (by rw [hR]; show _ = col.val % 256 / 128 * 512 + r.val; rw [h2])
  unfold outs
  by_cases h7 : 896 ≤ col.val
  · rw [hit 896 _ _ _ (by decide) h7 (by omega), out1_at]; exact pick 3 (by decide) 1 (by omega) (by omega) ⟨512 + r.val, by omega⟩ (by simp)
  rw [miss 896 _ _ _ (by omega)]
  by_cases h6 : 768 ≤ col.val
  · rw [hit 768 _ _ _ (by decide) h6 (by omega), out0_at]; exact pick 3 (by decide) 0 (by omega) (by omega) ⟨r.val, by omega⟩ (by simp)
  rw [miss 768 _ _ _ (by omega)]
  by_cases h5 : 640 ≤ col.val
  · rw [hit 640 _ _ _ (by decide) h5 (by omega), out1_at]; exact pick 2 (by decide) 1 (by omega) (by omega) ⟨512 + r.val, by omega⟩ (by simp)
  rw [miss 640 _ _ _ (by omega)]
  by_cases h4 : 512 ≤ col.val
  · rw [hit 512 _ _ _ (by decide) h4 (by omega), out0_at]; exact pick 2 (by decide) 0 (by omega) (by omega) ⟨r.val, by omega⟩ (by simp)
  rw [miss 512 _ _ _ (by omega)]
  by_cases h3 : 384 ≤ col.val
  · rw [hit 384 _ _ _ (by decide) h3 (by omega), out1_at]; exact pick 1 (by decide) 1 (by omega) (by omega) ⟨512 + r.val, by omega⟩ (by simp)
  rw [miss 384 _ _ _ (by omega)]
  by_cases h2 : 256 ≤ col.val
  · rw [hit 256 _ _ _ (by decide) h2 (by omega), out0_at]; exact pick 1 (by decide) 0 (by omega) (by omega) ⟨r.val, by omega⟩ (by simp)
  rw [miss 256 _ _ _ (by omega)]
  by_cases h1 : 128 ≤ col.val
  · rw [hit 128 _ _ _ (by decide) h1 (by omega), out1_at]; exact pick 0 (by decide) 1 (by omega) (by omega) ⟨512 + r.val, by omega⟩ (by simp)
  rw [miss 128 _ _ _ (by omega), hit 0 _ _ _ (by decide) (by omega) (by omega), out0_at]
  exact pick 0 (by decide) 0 (by omega) (by omega) ⟨r.val, by omega⟩ (by simp)

end Cert.KernelIdeal.Flash

end
-- ==== Proof.FlashIdealState.lean ====
/-
The attention kernel over the extended reals: what it holds after every point, and that every way through the body keeps it.
-/
module

public import proofs.«01_k».proof.Proof.FlashIdealFrame
public import proofs.«01_k».proof.Proof.FlashIdealPlanes

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.SL.Sem
open Idealize.ShloMosaic.Pipeline (Dat RDat Cfg Window)
open Cert.Online

/-! ## The mathematics -/

section
variable (Q : S16384x512.Idx → EReal) (KV : S2x8192x512.Idx → EReal)

/-- A query's entry, and a key's or value's, at natural coordinates. -/
def qat (n col : ℕ) : EReal := Q (ix2 ⟨n % 16384, by omega⟩ ⟨col % 512, by omega⟩)
def kvat (b j col : ℕ) : EReal := KV (ix3 ⟨b % 2, by omega⟩ ⟨j % 8192, by omega⟩ ⟨col % 512, by omega⟩)

/-- Group `g`'s prepared query on row `R`: head `R / 512` of token `R % 512` of query block `qi`, scaled, half the lanes kept. -/
def qs (b qi g R l : ℕ) : EReal := if l / 64 = g % 2 then qat Q ((b * 16 + qi) * 512 + R % 512) ((g / 2 * 2 + R / 512) * 128 + l) * (scaleR : EReal) else 0
/-- Its score of key `j`, later keys cut. -/
def sc (b qi g R j : ℕ) : EReal :=
  if j ≤ qi * 512 + R % 512 then ∑ l : Fin 128, qs Q b qi g R l.val * kvat KV b j (g / 2 * 128 + l.val) else ⊥
/-- Key `j`'s weight on lane `l`: its value, and one on the upper lanes. -/
def wt (b g l j : ℕ) : EReal := if l < 128 then kvat KV b j (256 + g / 2 * 128 + l) else 1

/-- The attention of row `R` of group `g`, lane `d`. -/
def att (b qi g R d : ℕ) : EReal :=
  Ideal.div (acc (sc Q KV b qi g R) (wt KV b g d) (qi * 512 + 512)) (max (acc (sc Q KV b qi g R) (wt KV b g (128 + d)) (qi * 512 + 512)) (Ideal.ofBits FTy.f32 228737632#32))

/-- The carried buffers hold the prepared queries of a query block, and the running maxima and sums of the first `N` keys. -/
def State (b qi N : ℕ) (q : S4x1024x128.Idx → EReal) (m : S4x1024x128.Idx → EReal) (a : S4x1024x256.Idx → EReal) : Prop :=
  ∀ (g : Fin 4) (R : Fin 1024), (∀ l : Fin 128, q (ix3 g R l) = qs Q b qi g.val R.val l.val)
    ∧ (∀ l : Fin 128, m (ix3 g R l) = mx (sc Q KV b qi g.val R.val) N)
    ∧ ∀ l : Fin 256, a (ix3 g R l) = acc (sc Q KV b qi g.val R.val) (wt KV b g.val l.val) N
end

/-! ## The blocks -/

variable (m : (ℓ : Loc nD τ sig) → Buf (Elt Ideal) ℓ)

abbrev Qa (c : Dev nD) : S16384x512.Idx → EReal := m ((c : Thread nD τ).loc main_arg0)
abbrev KVa (c : Dev nD) : S2x8192x512.Idx → EReal := m ((c : Thread nD τ).loc main_arg1)

theorem entry_q (c : Dev nD) : (entry0 m c main_arg0 : S16384x512.Idx → EReal) = Qa m c := rfl
theorem entry_kv (c : Dev nD) : (entry0 m c main_v0 : S2x8192x512.Idx → EReal) = KVa m c := rfl

theorem qblk_at (c : Dev nD) (t : Fin cfgA.N) (r col : Fin 512) :
    qblk m c t (ix2 r col) = qat (Qa m c) ((bN t * 16 + qN t) * 512 + r.val) col.val := by
  obtain ⟨hb, hq, -⟩ := bounds t
  have e : cc0_transform_0 k0_off1_inb numel1_S1 tables (crd t) = ![bN t * 16 + qN t, 0] := index_q t
  have hr := r.isLt
  have hc := col.isLt
  show (entry0 m c main_arg0 : S16384x512.Idx → EReal) (((cfgA.win (0 : Fin 3)).blk t).view.emb (ix2 r col)) = _
  rw [entry_q]
  refine congrArg (Qa m c) (funext fun a => Fin.ext ?_)
  match a with
  | ⟨0, _⟩ =>
    show cc0_transform_0 k0_off1_inb numel1_S1 tables (crd t) (0 : Fin 2) * 512 + 1 * r.val = ((bN t * 16 + qN t) * 512 + r.val) % 16384
    rw [e, Nat.mod_eq_of_lt (by omega)]; show (bN t * 16 + qN t) * 512 + 1 * r.val = _; omega
  | ⟨1, _⟩ =>
    show cc0_transform_0 k0_off1_inb numel1_S1 tables (crd t) (1 : Fin 2) * 512 + 1 * col.val = col.val % 512
    rw [e, Nat.mod_eq_of_lt hc]; show 0 * 512 + 1 * col.val = _; omega

theorem kvblk_at (c : Dev nD) (t : Fin cfgA.N) (j col : Fin 512) :
    kvblk m c t (ix3 0 j col) = kvat (KVa m c) (bN t) (kN t * 512 + j.val) col.val := by
  obtain ⟨hb, -, hk⟩ := bounds t
  have e : cc0_transform_1 k0_off1_inb numel1_S1 tables (crd t) = ![bN t, kN t, 0] := index_kv t
  have hr := j.isLt
  have hc := col.isLt
  show (entry0 m c main_v0 : S2x8192x512.Idx → EReal) (((cfgA.win (1 : Fin 3)).blk t).view.emb (ix3 0 j col)) = _
  rw [entry_kv]
  refine congrArg (KVa m c) (funext fun a => Fin.ext ?_)
  match a with
  | ⟨0, _⟩ =>
    show cc0_transform_1 k0_off1_inb numel1_S1 tables (crd t) (0 : Fin 3) * 1 + 1 * 0 = bN t % 2
    rw [e, Nat.mod_eq_of_lt hb]; show bN t * 1 + 1 * 0 = _; omega
  | ⟨1, _⟩ =>
    show cc0_transform_1 k0_off1_inb numel1_S1 tables (crd t) (1 : Fin 3) * 512 + 1 * j.val = (kN t * 512 + j.val) % 8192
    rw [e, Nat.mod_eq_of_lt (by omega)]; show kN t * 512 + 1 * j.val = _; omega
  | ⟨2, _⟩ =>
    show cc0_transform_1 k0_off1_inb numel1_S1 tables (crd t) (2 : Fin 3) * 512 + 1 * col.val = col.val % 512
    rw [e, Nat.mod_eq_of_lt hc]; show 0 * 512 + 1 * col.val = _; omega

/-! ## One group at a point -/

/-- The columns of group `g`'s keys, and of its values. -/
def kcol (g : Fin 4) (l : Fin 128) : Fin 512 := ⟨g.val / 2 * 128 + l.val, by omega⟩
def vcol (g : Fin 4) (l : Fin 128) : Fin 512 := ⟨256 + g.val / 2 * 128 + l.val, by omega⟩

section
variable (c : Dev nD) (t : Fin cfgA.N) (g : Fin 4) (k v : Vec Ideal S1x512x128 .bf16) (q : Vec Ideal S1x1024x128 .bf16)
  (m' : Vec Ideal S1x1024x128 .f32) (a' : Vec Ideal S1x1024x256 .f32)
  (hk : ∀ (j : Fin 512) (l : Fin 128), k (ix3 0 j l) = kvblk m c t (ix3 0 j (kcol g l)))
  (hv : ∀ (j : Fin 512) (l : Fin 128), v (ix3 0 j l) = kvblk m c t (ix3 0 j (vcol g l)))
  (hq : ∀ (R : Fin 1024) (l : Fin 128), q (ix3 0 R l) = qs (Qa m c) (bN t) (qN t) g.val R.val l.val)
  (hm : ∀ (R : Fin 1024) (l : Fin 128), m' (ix3 0 R l) = mx (sc (Qa m c) (KVa m c) (bN t) (qN t) g.val R.val) (kN t * 512))
  (ha : ∀ (R : Fin 1024) (l : Fin 256), a' (ix3 0 R l) = acc (sc (Qa m c) (KVa m c) (bN t) (qN t) g.val R.val) (wt (KVa m c) (bN t) g.val l.val) (kN t * 512))

include hk hq in
theorem score_at (R : Fin 1024) (j : Fin 512) :
    fullS k q (ix2 R j) = ∑ l : Fin 128, qs (Qa m c) (bN t) (qN t) g.val R.val l.val * kvat (KVa m c) (bN t) (kN t * 512 + j.val) (g.val / 2 * 128 + l.val) := by
  rw [fullS_at]
  exact Finset.sum_congr rfl fun l _ => by rw [hq, hk, kvblk_at]; rfl

include hv in
theorem lane_at (j : Fin 512) (l : Fin 256) : lane v j l = wt (KVa m c) (bN t) g.val l.val (kN t * 512 + j.val) := by
  unfold lane wt
  by_cases h : l.val < 128
  · rw [dif_pos h, if_pos h, hv, kvblk_at]; rfl
  · rw [dif_neg h, if_neg h]

include hk hv hq hm ha in
theorem group_full (hlt : kN t < qN t) (R : Fin 1024) :
    (∀ l, newM (fullS k q) m' (ix3 0 R l) = mx (sc (Qa m c) (KVa m c) (bN t) (qN t) g.val R.val) (kN t * 512 + 512))
      ∧ ∀ l : Fin 256, newA v (fullS k q) m' a' (ix3 0 R l) = acc (sc (Qa m c) (KVa m c) (bN t) (qN t) g.val R.val) (wt (KVa m c) (bN t) g.val l.val) (kN t * 512 + 512) := by
  refine row_step (sc (Qa m c) (KVa m c) (bN t) (qN t) g.val R.val) (fun l => wt (KVa m c) (bN t) g.val l.val) (kN t * 512) _ v m' a' R
    (fun j => ?_) (fun j l => lane_at m c t g v hv j l) (hm R) (ha R)
  rw [score_at m c t g k q hk hq R j]
  unfold sc
  rw [if_pos (by have := j.isLt; omega)]

include hk hv hq hm ha in
theorem group_mask (w5 w7 : BitVec 32) (h5 : w5.toNat = qN t * 512) (h7 : w7.toNat = kN t * 512) (R : Fin 1024) :
    (∀ l, newM (maskS w5 w7 k q) m' (ix3 0 R l) = mx (sc (Qa m c) (KVa m c) (bN t) (qN t) g.val R.val) (kN t * 512 + 512))
      ∧ ∀ l : Fin 256, newA v (maskS w5 w7 k q) m' a' (ix3 0 R l) = acc (sc (Qa m c) (KVa m c) (bN t) (qN t) g.val R.val) (wt (KVa m c) (bN t) g.val l.val) (kN t * 512 + 512) := by
  obtain ⟨-, hqb, hkb⟩ := bounds t
  refine row_step (sc (Qa m c) (KVa m c) (bN t) (qN t) g.val R.val) (fun l => wt (KVa m c) (bN t) g.val l.val) (kN t * 512) _ v m' a' R
    (fun j => ?_) (fun j l => lane_at m c t g v hv j l) (hm R) (ha R)
  rw [maskS_at (qN t) (kN t) hqb hkb w5 w7 h5 h7, score_at m c t g k q hk hq R j]
  rfl
end

end Cert.KernelIdeal.Flash

end
-- ==== Proof.FlashIdealKept.lean ====
/-
The attention kernel over the extended reals: every way through its body keeps the invariant, and the ways that end a row of key
blocks store the attention of the query block.
-/
module

public import proofs.«01_k».proof.Proof.FlashIdealState

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.SL.Sem
open Idealize.ShloMosaic.Pipeline (Dat RDat Cfg Window)
open Cert.Online

variable (m : (ℓ : Loc nD τ sig) → Buf (Elt Ideal) ℓ)

/-- After `n` points the carried buffers are those of the last point's query block, its key block taken in. -/
def Inv (c : Dev nD) (n : ℕ) (q : BufQ Ideal c) (m' : BufM Ideal c) (a : BufA Ideal c) : Prop :=
  ∀ h : n - 1 < cfgA.N, 0 < n → State (Qa m c) (KVa m c) (bN ⟨n - 1, h⟩) (qN ⟨n - 1, h⟩) (kN ⟨n - 1, h⟩ * 512 + 512) q m' a

/-- The output block of a query block holds its attention: column `g * 256 + h * 128 + d` head `h` of group `g`, lane `d`. -/
def Out (c : Dev nD) (t : Fin cfgA.N) (X : S512x1024.Idx → Elt Ideal .f32) : Prop :=
  ∀ (r : Fin 512) (col : Fin 1024), X (ix2 r col) = att (Qa m c) (KVa m c) (bN t) (qN t) (col.val / 256) (col.val % 256 / 128 * 512 + r.val) (col.val % 128)

theorem Inv.now {c : Dev nD} {t : Fin cfgA.N} {q m' a} (hl : ¬isFirst Ideal (crd t)) (h : Inv m c t.val q m' a) :
    State (Qa m c) (KVa m c) (bN t) (qN t) (kN t * 512) q m' a := by
  obtain ⟨hp, h0, hb, hq, hk⟩ := later_of t hl
  have := h hp h0
  rw [hb, hq] at this
  rw [← hk, Nat.add_mul, Nat.one_mul]
  exact this

theorem Inv.next {c : Dev nD} {t : Fin cfgA.N} {q m' a} (h : State (Qa m c) (KVa m c) (bN t) (qN t) (kN t * 512 + 512) q m' a) :
    Inv m c (t.val + 1) q m' a := fun _ _ => h

theorem word_at (x : BitVec 32) (hx : x.toNat < 16) : (Scalar.addi 0#32 (Scalar.muli x 512#32)).toNat = x.toNat * 512 := by
  show (0#32 + x * 512#32).toNat = _
  rw [BitVec.toNat_add, BitVec.toNat_mul]
  show (0 + x.toNat * 512 % 4294967296) % 4294967296 = _
  omega

section
variable (c : Dev nD) (t : Fin cfgA.N) (arg6 : Memref sig .tc .vmem S512x512 .f32) (arg7 : Memref sig .tc .vmem S1x512x512 .bf16)

theorem key_at (off : ℕ) (ho : off + 128 ≤ 512) (h) (j : Fin 512) (l : Fin 128) :
    kvl arg7 (kvblk m c t) off h (ix3 0 j l) = kvblk m c t (ix3 0 j ⟨off + l.val, by omega⟩) := kvl_at arg7 (kvblk m c t) off ho h j l

theorem zero3 (a : Fin 3) : (![0, 0, 0] : Fin 3 → ℕ) a = 0 := by fin_cases a <;> rfl
theorem all_m (w : Vec Ideal S4x1024x128 .f32) (g : Fin 4) (r : Fin 1024) (l : Fin 128) (inb) :
    View.canon [(⟨Rect.unit (s := S4x1024x128) ![0, 0, 0] S4x1024x128.size inb, w⟩ : View.Piece (Elt Ideal) S4x1024x128 .f32)] (ix3 g r l) = w (ix3 g r l) :=
  canon_hit inb w [] (ix3 g r l) (ix3 g r l) (fun a => by rw [zero3, Nat.zero_add])
theorem whole_mB (g : Fin 4) (r : Fin 1024) (l : Fin 128) : View.canon (runB.sl.HM_1 (F := Ideal)) (ix3 g r l) = ⊥ :=
  (all_m (k0_pay14 (F := Ideal)) g r l _).trans (fill_m g r l)
theorem whole_mA (g : Fin 4) (r : Fin 1024) (l : Fin 128) : View.canon (runA.sl.HM_1 (F := Ideal)) (ix3 g r l) = ⊥ :=
  (all_m (k0_pay14 (F := Ideal)) g r l _).trans (fill_m g r l)
theorem all_a (w : Vec Ideal S4x1024x256 .f32) (g : Fin 4) (r : Fin 1024) (l : Fin 256) (inb) :
    View.canon [(⟨Rect.unit (s := S4x1024x256) ![0, 0, 0] S4x1024x256.size inb, w⟩ : View.Piece (Elt Ideal) S4x1024x256 .f32)] (ix3 g r l) = w (ix3 g r l) :=
  canon_hit inb w [] (ix3 g r l) (ix3 g r l) (fun a => by rw [zero3, Nat.zero_add])
theorem whole_aB (g : Fin 4) (r : Fin 1024) (l : Fin 256) : View.canon (runB.sl.HA_1 (F := Ideal)) (ix3 g r l) = 0 :=
  (all_a (k0_pay15 (F := Ideal)) g r l _).trans (fill_a g r l)
theorem whole_aA (g : Fin 4) (r : Fin 1024) (l : Fin 256) : View.canon (runA.sl.HA_1 (F := Ideal)) (ix3 g r l) = 0 :=
  (all_a (k0_pay15 (F := Ideal)) g r l _).trans (fill_a g r l)

theorem under_m (k g : ℕ) (hg : g < 4) (hk : k < g) (r : Fin 1024) (l : Fin 128) (inb) (w) (L : List (View.Piece (Elt Ideal) S4x1024x128 .f32)) :
    View.canon ((⟨Rect.unit (s := S4x1024x128) ![k, 0, 0] S1x1024x128.size inb, w⟩ : View.Piece (Elt Ideal) S4x1024x128 .f32) :: L) (ix3 ⟨g, hg⟩ r l) = View.canon L (ix3 ⟨g, hg⟩ r l) :=
  canon_miss inb w L (ix3 ⟨g, hg⟩ r l) 0 (Or.inr hk)
theorem under_a (k g : ℕ) (hg : g < 4) (hk : k < g) (r : Fin 1024) (l : Fin 256) (inb) (w) (L : List (View.Piece (Elt Ideal) S4x1024x256 .f32)) :
    View.canon ((⟨Rect.unit (s := S4x1024x256) ![k, 0, 0] S1x1024x256.size inb, w⟩ : View.Piece (Elt Ideal) S4x1024x256 .f32) :: L) (ix3 ⟨g, hg⟩ r l) = View.canon L (ix3 ⟨g, hg⟩ r l) :=
  canon_miss inb w L (ix3 ⟨g, hg⟩ r l) 0 (Or.inr hk)

theorem query_at (g : Fin 4) (R : Fin 1024) (l : Fin 128) :
    View.canon (queries arg6 (qblk m c t)) (ix3 g R l) = qs (Qa m c) (bN t) (qN t) g.val R.val l.val := by
  rw [queries_at, qblk_at]
  rfl
end

theorem word5 (t : Fin cfgA.N) : (runC.sl.v5 (F := Ideal) (crd t)).toNat = qN t * 512 := word_at _ (bounds t).2.1
theorem word7 (t : Fin cfgA.N) : (runC.sl.v7 (F := Ideal) (crd t)).toNat = kN t * 512 := word_at _ (bounds t).2.2

section
variable (c : Dev nD) (t : Fin cfgA.N) (arg7 : Memref sig .tc .vmem S1x512x512 .bf16) (q0 : BufQ Ideal c) (m0 : BufM Ideal c) (a0 : BufA Ideal c)

theorem state_D (hlt : kN t < qN t) (h : State (Qa m c) (KVa m c) (bN t) (qN t) (kN t * 512) q0 m0 a0) :
    State (Qa m c) (KVa m c) (bN t) (qN t) (kN t * 512 + 512) q0 (View.canon (runD.sl.HM_4 c arg7 (kvblk m c t) q0 m0)) (View.canon (runD.sl.HA_4 c arg7 (kvblk m c t) q0 m0 a0)) := by
  intro g R
  refine ⟨(h g R).1, ?_⟩
  rw [D_m, D_a]
  simp only [four128_at, four256_at]
  obtain ⟨g, hg⟩ := g
  interval_cases g
  · exact group_full m c t 0 _ _ _ _ _ (fun j l => key_at m c t arg7 0 (by omega) _ j l) (fun j l => key_at m c t arg7 256 (by omega) _ j l)
      (fun R l => (pQ_at c q0 0 (by omega) _ R l).trans ((h 0 R).1 l))
      (fun R l => (pM_at c m0 0 (by omega) _ R l).trans ((h 0 R).2.1 l))
      (fun R l => (pA_at c a0 0 (by omega) _ R l).trans ((h 0 R).2.2 l)) hlt R
  · exact group_full m c t 1 _ _ _ _ _ (fun j l => key_at m c t arg7 0 (by omega) _ j l) (fun j l => key_at m c t arg7 256 (by omega) _ j l)
      (fun R l => (pQ_at c q0 1 (by omega) _ R l).trans ((h 1 R).1 l))
      (fun R l => (pM_at c m0 1 (by omega) _ R l).trans ((h 1 R).2.1 l))
      (fun R l => (pA_at c a0 1 (by omega) _ R l).trans ((h 1 R).2.2 l)) hlt R
  · exact group_full m c t 2 _ _ _ _ _ (fun j l => key_at m c t arg7 128 (by omega) _ j l) (fun j l => key_at m c t arg7 384 (by omega) _ j l)
      (fun R l => (pQ_at c q0 2 (by omega) _ R l).trans ((h 2 R).1 l))
      (fun R l => (pM_at c m0 2 (by omega) _ R l).trans ((h 2 R).2.1 l))
      (fun R l => (pA_at c a0 2 (by omega) _ R l).trans ((h 2 R).2.2 l)) hlt R
  · exact group_full m c t 3 _ _ _ _ _ (fun j l => key_at m c t arg7 128 (by omega) _ j l) (fun j l => key_at m c t arg7 384 (by omega) _ j l)
      (fun R l => (pQ_at c q0 3 (by omega) _ R l).trans ((h 3 R).1 l))
      (fun R l => (pM_at c m0 3 (by omega) _ R l).trans ((h 3 R).2.1 l))
      (fun R l => (pA_at c a0 3 (by omega) _ R l).trans ((h 3 R).2.2 l)) hlt R
end

section
variable (c : Dev nD) (t : Fin cfgA.N) (arg7 : Memref sig .tc .vmem S1x512x512 .bf16) (q0 : BufQ Ideal c) (m0 : BufM Ideal c) (a0 : BufA Ideal c)

theorem state_C (h : State (Qa m c) (KVa m c) (bN t) (qN t) (kN t * 512) q0 m0 a0) :
    State (Qa m c) (KVa m c) (bN t) (qN t) (kN t * 512 + 512) q0 (View.canon (runC.sl.HM_4 c (crd t) arg7 (kvblk m c t) q0 m0)) (View.canon (runC.sl.HA_4 c (crd t) arg7 (kvblk m c t) q0 m0 a0)) := by
  intro g R
  refine ⟨(h g R).1, ?_⟩
  rw [C_m, C_a]
  simp only [four128_at, four256_at]
  obtain ⟨g, hg⟩ := g
  interval_cases g
  · exact group_mask m c t 0 _ _ _ _ _ (fun j l => key_at m c t arg7 0 (by omega) _ j l) (fun j l => key_at m c t arg7 256 (by omega) _ j l)
      (fun R l => (pQ_at c q0 0 (by omega) _ R l).trans ((h 0 R).1 l))
      (fun R l => (pM_at c m0 0 (by omega) _ R l).trans ((h 0 R).2.1 l))
      (fun R l => (pA_at c a0 0 (by omega) _ R l).trans ((h 0 R).2.2 l)) _ _ (word5 t) (word7 t) R
  · exact group_mask m c t 1 _ _ _ _ _ (fun j l => key_at m c t arg7 0 (by omega) _ j l) (fun j l => key_at m c t arg7 256 (by omega) _ j l)
      (fun R l => (pQ_at c q0 1 (by omega) _ R l).trans ((h 1 R).1 l))
      (fun R l => (pM_at c m0 1 (by omega) _ R l).trans ((h 1 R).2.1 l))
      (fun R l => (pA_at c a0 1 (by omega) _ R l).trans ((h 1 R).2.2 l)) _ _ (word5 t) (word7 t) R
  · exact group_mask m c t 2 _ _ _ _ _ (fun j l => key_at m c t arg7 128 (by omega) _ j l) (fun j l => key_at m c t arg7 384 (by omega) _ j l)
      (fun R l => (pQ_at c q0 2 (by omega) _ R l).trans ((h 2 R).1 l))
      (fun R l => (pM_at c m0 2 (by omega) _ R l).trans ((h 2 R).2.1 l))
      (fun R l => (pA_at c a0 2 (by omega) _ R l).trans ((h 2 R).2.2 l)) _ _ (word5 t) (word7 t) R
  · exact group_mask m c t 3 _ _ _ _ _ (fun j l => key_at m c t arg7 128 (by omega) _ j l) (fun j l => key_at m c t arg7 384 (by omega) _ j l)
      (fun R l => (pQ_at c q0 3 (by omega) _ R l).trans ((h 3 R).1 l))
      (fun R l => (pM_at c m0 3 (by omega) _ R l).trans ((h 3 R).2.1 l))
      (fun R l => (pA_at c a0 3 (by omega) _ R l).trans ((h 3 R).2.2 l)) _ _ (word5 t) (word7 t) R
end

section
variable (c : Dev nD) (t : Fin cfgA.N) (arg6 : Memref sig .tc .vmem S512x512 .f32) (arg7 : Memref sig .tc .vmem S1x512x512 .bf16) (h0 : kN t = 0)

theorem B_q0 (R : Fin 1024) (l : Fin 128) : runB.sl.v33 (F := Ideal) arg6 (qblk m c t) (ix3 0 R l) = qs (Qa m c) (bN t) (qN t) 0 R.val l.val :=
  (covQ_at _ 0 (by omega) _ R l).trans (query_at m c t arg6 0 R l)
theorem B_m0 (R : Fin 1024) (l : Fin 128) : runB.sl.v36 (F := Ideal) (ix3 0 R l) = ⊥ :=
  (covM_at _ 0 (by omega) _ R l).trans (whole_mB 0 R l)
theorem B_a0 (R : Fin 1024) (l : Fin 256) : runB.sl.v47 (F := Ideal) (ix3 0 R l) = 0 :=
  (covA_at _ 0 (by omega) _ R l).trans (whole_aB 0 R l)
theorem B_q1 (R : Fin 1024) (l : Fin 128) : runB.sl.v60 (F := Ideal) arg6 (qblk m c t) (ix3 0 R l) = qs (Qa m c) (bN t) (qN t) 1 R.val l.val :=
  (covQ_at _ 1 (by omega) _ R l).trans (query_at m c t arg6 1 R l)
theorem B_m1 (R : Fin 1024) (l : Fin 128) : runB.sl.v63 (F := Ideal) arg6 arg7 (qblk m c t) (kvblk m c t) (ix3 0 R l) = ⊥ :=
  (covM_at _ 1 (by omega) _ R l).trans ((under_m 0 1 (by omega) (by omega) R l _ _ _).trans (whole_mB 1 R l))
theorem B_a1 (R : Fin 1024) (l : Fin 256) : runB.sl.v74 (F := Ideal) arg6 arg7 (qblk m c t) (kvblk m c t) (ix3 0 R l) = 0 :=
  (covA_at _ 1 (by omega) _ R l).trans ((under_a 0 1 (by omega) (by omega) R l _ _ _).trans (whole_aB 1 R l))
theorem B_q2 (R : Fin 1024) (l : Fin 128) : runB.sl.v92 (F := Ideal) arg6 (qblk m c t) (ix3 0 R l) = qs (Qa m c) (bN t) (qN t) 2 R.val l.val :=
  (covQ_at _ 2 (by omega) _ R l).trans (query_at m c t arg6 2 R l)
theorem B_m2 (R : Fin 1024) (l : Fin 128) : runB.sl.v95 (F := Ideal) arg6 arg7 (qblk m c t) (kvblk m c t) (ix3 0 R l) = ⊥ :=
  (covM_at _ 2 (by omega) _ R l).trans ((under_m 1 2 (by omega) (by omega) R l _ _ _).trans ((under_m 0 2 (by omega) (by omega) R l _ _ _).trans (whole_mB 2 R l)))
theorem B_a2 (R : Fin 1024) (l : Fin 256) : runB.sl.v106 (F := Ideal) arg6 arg7 (qblk m c t) (kvblk m c t) (ix3 0 R l) = 0 :=
  (covA_at _ 2 (by omega) _ R l).trans ((under_a 1 2 (by omega) (by omega) R l _ _ _).trans ((under_a 0 2 (by omega) (by omega) R l _ _ _).trans (whole_aB 2 R l)))
theorem B_q3 (R : Fin 1024) (l : Fin 128) : runB.sl.v119 (F := Ideal) arg6 (qblk m c t) (ix3 0 R l) = qs (Qa m c) (bN t) (qN t) 3 R.val l.val :=
  (covQ_at _ 3 (by omega) _ R l).trans (query_at m c t arg6 3 R l)
theorem B_m3 (R : Fin 1024) (l : Fin 128) : runB.sl.v122 (F := Ideal) arg6 arg7 (qblk m c t) (kvblk m c t) (ix3 0 R l) = ⊥ :=
  (covM_at _ 3 (by omega) _ R l).trans ((under_m 2 3 (by omega) (by omega) R l _ _ _).trans ((under_m 1 3 (by omega) (by omega) R l _ _ _).trans ((under_m 0 3 (by omega) (by omega) R l _ _ _).trans (whole_mB 3 R l))))
theorem B_a3 (R : Fin 1024) (l : Fin 256) : runB.sl.v133 (F := Ideal) arg6 arg7 (qblk m c t) (kvblk m c t) (ix3 0 R l) = 0 :=
  (covA_at _ 3 (by omega) _ R l).trans ((under_a 2 3 (by omega) (by omega) R l _ _ _).trans ((under_a 1 3 (by omega) (by omega) R l _ _ _).trans ((under_a 0 3 (by omega) (by omega) R l _ _ _).trans (whole_aB 3 R l))))

include h0 in
theorem state_B (hlt : kN t < qN t) :
    State (Qa m c) (KVa m c) (bN t) (qN t) (kN t * 512 + 512) (View.canon (runB.sl.HQ_8 (F := Ideal) arg6 (qblk m c t))) (View.canon (runB.sl.HM_5 arg6 arg7 (qblk m c t) (kvblk m c t))) (View.canon (runB.sl.HA_5 arg6 arg7 (qblk m c t) (kvblk m c t))) := by
  have em : ∀ s : ℕ → EReal, mx s (kN t * 512) = ⊥ := fun s => by rw [h0, Nat.zero_mul, mx_zero]
  have ea : ∀ s w : ℕ → EReal, acc s w (kN t * 512) = 0 := fun s w => by rw [h0, Nat.zero_mul, acc_zero]
  intro g R
  refine ⟨fun l => query_at m c t arg6 g R l, ?_⟩
  rw [B_m, B_a]
  simp only [four128_at, four256_at]
  obtain ⟨g, hg⟩ := g
  interval_cases g
  · exact group_full m c t 0 _ _ _ _ _ (fun j l => key_at m c t arg7 0 (by omega) _ j l) (fun j l => key_at m c t arg7 256 (by omega) _ j l)
      (B_q0 m c t arg6)
      (fun R l => (B_m0 R l).trans (em _).symm)
      (fun R l => (B_a0 R l).trans (ea _ _).symm) hlt R
  · exact group_full m c t 1 _ _ _ _ _ (fun j l => key_at m c t arg7 0 (by omega) _ j l) (fun j l => key_at m c t arg7 256 (by omega) _ j l)
      (B_q1 m c t arg6)
      (fun R l => (B_m1 m c t arg6 arg7 R l).trans (em _).symm)
      (fun R l => (B_a1 m c t arg6 arg7 R l).trans (ea _ _).symm) hlt R
  · exact group_full m c t 2 _ _ _ _ _ (fun j l => key_at m c t arg7 128 (by omega) _ j l) (fun j l => key_at m c t arg7 384 (by omega) _ j l)
      (B_q2 m c t arg6)
      (fun R l => (B_m2 m c t arg6 arg7 R l).trans (em _).symm)
      (fun R l => (B_a2 m c t arg6 arg7 R l).trans (ea _ _).symm) hlt R
  · exact group_full m c t 3 _ _ _ _ _ (fun j l => key_at m c t arg7 128 (by omega) _ j l) (fun j l => key_at m c t arg7 384 (by omega) _ j l)
      (B_q3 m c t arg6)
      (fun R l => (B_m3 m c t arg6 arg7 R l).trans (em _).symm)
      (fun R l => (B_a3 m c t arg6 arg7 R l).trans (ea _ _).symm) hlt R
end

section
variable (c : Dev nD) (t : Fin cfgA.N) (arg6 : Memref sig .tc .vmem S512x512 .f32) (arg7 : Memref sig .tc .vmem S1x512x512 .bf16) (h0 : kN t = 0)

theorem A_q0 (R : Fin 1024) (l : Fin 128) : runA.sl.v33 (F := Ideal) arg6 (qblk m c t) (ix3 0 R l) = qs (Qa m c) (bN t) (qN t) 0 R.val l.val :=
  (covQ_at _ 0 (by omega) _ R l).trans (query_at m c t arg6 0 R l)
theorem A_m0 (R : Fin 1024) (l : Fin 128) : runA.sl.v51 (F := Ideal) (ix3 0 R l) = ⊥ :=
  (covM_at _ 0 (by omega) _ R l).trans (whole_mA 0 R l)
theorem A_a0 (R : Fin 1024) (l : Fin 256) : runA.sl.v62 (F := Ideal) (ix3 0 R l) = 0 :=
  (covA_at _ 0 (by omega) _ R l).trans (whole_aA 0 R l)
theorem A_q1 (R : Fin 1024) (l : Fin 128) : runA.sl.v75 (F := Ideal) arg6 (qblk m c t) (ix3 0 R l) = qs (Qa m c) (bN t) (qN t) 1 R.val l.val :=
  (covQ_at _ 1 (by omega) _ R l).trans (query_at m c t arg6 1 R l)
theorem A_m1 (R : Fin 1024) (l : Fin 128) : runA.sl.v93 (F := Ideal) (crd t) arg6 arg7 (qblk m c t) (kvblk m c t) (ix3 0 R l) = ⊥ :=
  (covM_at _ 1 (by omega) _ R l).trans ((under_m 0 1 (by omega) (by omega) R l _ _ _).trans (whole_mA 1 R l))
theorem A_a1 (R : Fin 1024) (l : Fin 256) : runA.sl.v104 (F := Ideal) (crd t) arg6 arg7 (qblk m c t) (kvblk m c t) (ix3 0 R l) = 0 :=
  (covA_at _ 1 (by omega) _ R l).trans ((under_a 0 1 (by omega) (by omega) R l _ _ _).trans (whole_aA 1 R l))
theorem A_q2 (R : Fin 1024) (l : Fin 128) : runA.sl.v122 (F := Ideal) arg6 (qblk m c t) (ix3 0 R l) = qs (Qa m c) (bN t) (qN t) 2 R.val l.val :=
  (covQ_at _ 2 (by omega) _ R l).trans (query_at m c t arg6 2 R l)
theorem A_m2 (R : Fin 1024) (l : Fin 128) : runA.sl.v140 (F := Ideal) (crd t) arg6 arg7 (qblk m c t) (kvblk m c t) (ix3 0 R l) = ⊥ :=
  (covM_at _ 2 (by omega) _ R l).trans ((under_m 1 2 (by omega) (by omega) R l _ _ _).trans ((under_m 0 2 (by omega) (by omega) R l _ _ _).trans (whole_mA 2 R l)))
theorem A_a2 (R : Fin 1024) (l : Fin 256) : runA.sl.v151 (F := Ideal) (crd t) arg6 arg7 (qblk m c t) (kvblk m c t) (ix3 0 R l) = 0 :=
  (covA_at _ 2 (by omega) _ R l).trans ((under_a 1 2 (by omega) (by omega) R l _ _ _).trans ((under_a 0 2 (by omega) (by omega) R l _ _ _).trans (whole_aA 2 R l)))
theorem A_q3 (R : Fin 1024) (l : Fin 128) : runA.sl.v164 (F := Ideal) arg6 (qblk m c t) (ix3 0 R l) = qs (Qa m c) (bN t) (qN t) 3 R.val l.val :=
  (covQ_at _ 3 (by omega) _ R l).trans (query_at m c t arg6 3 R l)
theorem A_m3 (R : Fin 1024) (l : Fin 128) : runA.sl.v182 (F := Ideal) (crd t) arg6 arg7 (qblk m c t) (kvblk m c t) (ix3 0 R l) = ⊥ :=
  (covM_at _ 3 (by omega) _ R l).trans ((under_m 2 3 (by omega) (by omega) R l _ _ _).trans ((under_m 1 3 (by omega) (by omega) R l _ _ _).trans ((under_m 0 3 (by omega) (by omega) R l _ _ _).trans (whole_mA 3 R l))))
theorem A_a3 (R : Fin 1024) (l : Fin 256) : runA.sl.v193 (F := Ideal) (crd t) arg6 arg7 (qblk m c t) (kvblk m c t) (ix3 0 R l) = 0 :=
  (covA_at _ 3 (by omega) _ R l).trans ((under_a 2 3 (by omega) (by omega) R l _ _ _).trans ((under_a 1 3 (by omega) (by omega) R l _ _ _).trans ((under_a 0 3 (by omega) (by omega) R l _ _ _).trans (whole_aA 3 R l))))

include h0 in
theorem state_A :
    State (Qa m c) (KVa m c) (bN t) (qN t) (kN t * 512 + 512) (View.canon (runA.sl.HQ_8 (F := Ideal) arg6 (qblk m c t))) (View.canon (runA.sl.HM_5 (crd t) arg6 arg7 (qblk m c t) (kvblk m c t))) (View.canon (runA.sl.HA_5 (crd t) arg6 arg7 (qblk m c t) (kvblk m c t))) := by
  have em : ∀ s : ℕ → EReal, mx s (kN t * 512) = ⊥ := fun s => by rw [h0, Nat.zero_mul, mx_zero]
  have ea : ∀ s w : ℕ → EReal, acc s w (kN t * 512) = 0 := fun s w => by rw [h0, Nat.zero_mul, acc_zero]
  intro g R
  refine ⟨fun l => query_at m c t arg6 g R l, ?_⟩
  rw [A_m, A_a]
  simp only [four128_at, four256_at]
  obtain ⟨g, hg⟩ := g
  interval_cases g
  · exact group_mask m c t 0 _ _ _ _ _ (fun j l => key_at m c t arg7 0 (by omega) _ j l) (fun j l => key_at m c t arg7 256 (by omega) _ j l)
      (A_q0 m c t arg6)
      (fun R l => (A_m0 R l).trans (em _).symm)
      (fun R l => (A_a0 R l).trans (ea _ _).symm) _ _ (word5 t) (word7 t) R
  · exact group_mask m c t 1 _ _ _ _ _ (fun j l => key_at m c t arg7 0 (by omega) _ j l) (fun j l => key_at m c t arg7 256 (by omega) _ j l)
      (A_q1 m c t arg6)
      (fun R l => (A_m1 m c t arg6 arg7 R l).trans (em _).symm)
      (fun R l => (A_a1 m c t arg6 arg7 R l).trans (ea _ _).symm) _ _ (word5 t) (word7 t) R
  · exact group_mask m c t 2 _ _ _ _ _ (fun j l => key_at m c t arg7 128 (by omega) _ j l) (fun j l => key_at m c t arg7 384 (by omega) _ j l)
      (A_q2 m c t arg6)
      (fun R l => (A_m2 m c t arg6 arg7 R l).trans (em _).symm)
      (fun R l => (A_a2 m c t arg6 arg7 R l).trans (ea _ _).symm) _ _ (word5 t) (word7 t) R
  · exact group_mask m c t 3 _ _ _ _ _ (fun j l => key_at m c t arg7 128 (by omega) _ j l) (fun j l => key_at m c t arg7 384 (by omega) _ j l)
      (A_q3 m c t arg6)
      (fun R l => (A_m3 m c t arg6 arg7 R l).trans (em _).symm)
      (fun R l => (A_a3 m c t arg6 arg7 R l).trans (ea _ _).symm) _ _ (word5 t) (word7 t) R
end

/-! ## The output block -/

theorem outs_cover (p0 p1 p2 p3 : Vec Ideal S1x1024x256 .f32) (r : Fin 512) (col : Fin 1024) : ∃ p ∈ outs p0 p1 p2 p3, (ix2 r col : S512x1024.Idx) ∈ p.1.set := by
  have key : ∀ (o : ℕ) (inb), o ≤ col.val → col.val < o + 128 → (ix2 r col : S512x1024.Idx) ∈ (Rect.unit (s := S512x1024) ![0, o] S512x128.size inb).set := by
    intro o inb h1 h2
    rw [Rect.mem_set_unit]
    intro a
    have hr := r.isLt
    match a with
    | ⟨0, _⟩ => exact ⟨Nat.zero_le _, by show r.val < 0 + 512; omega⟩
    | ⟨1, _⟩ => exact ⟨h1, h2⟩
  have hc := col.isLt
  by_cases h7 : 896 ≤ col.val
  · exact ⟨_, .head _, key 896 inb_S512x1024_S512x128_0_896 h7 (by omega)⟩
  by_cases h6 : 768 ≤ col.val
  · exact ⟨_, .tail _ (.head _), key 768 inb_S512x1024_S512x128_0_768 h6 (by omega)⟩
  by_cases h5 : 640 ≤ col.val
  · exact ⟨_, .tail _ (.tail _ (.head _)), key 640 inb_S512x1024_S512x128_0_640 h5 (by omega)⟩
  by_cases h4 : 512 ≤ col.val
  · exact ⟨_, .tail _ (.tail _ (.tail _ (.head _))), key 512 inb_S512x1024_S512x128_0_512 h4 (by omega)⟩
  by_cases h3 : 384 ≤ col.val
  · exact ⟨_, .tail _ (.tail _ (.tail _ (.tail _ (.head _)))), key 384 inb_S512x1024_S512x128_0_384 h3 (by omega)⟩
  by_cases h2 : 256 ≤ col.val
  · exact ⟨_, .tail _ (.tail _ (.tail _ (.tail _ (.tail _ (.head _))))), key 256 inb_S512x1024_S512x128_0_256 h2 (by omega)⟩
  by_cases h1 : 128 ≤ col.val
  · exact ⟨_, .tail _ (.tail _ (.tail _ (.tail _ (.tail _ (.tail _ (.head _)))))), key 128 inb_S512x1024_S512x128_0_128 h1 (by omega)⟩
  · exact ⟨_, .tail _ (.tail _ (.tail _ (.tail _ (.tail _ (.tail _ (.tail _ (.head _))))))), key 0 inb_S512x1024_S512x128_0_0 (Nat.zero_le _) (by omega)⟩

/-- Stored from four planes that hold the whole sums, the output block holds the attention. -/
theorem out_of (c : Dev nD) (t : Fin cfgA.N) (hl : isLast Ideal (crd t)) (p0 p1 p2 p3 : Vec Ideal S1x1024x256 .f32)
    (h0 : ∀ (R : Fin 1024) (l : Fin 256), p0 (ix3 0 R l) = acc (sc (Qa m c) (KVa m c) (bN t) (qN t) 0 R.val) (wt (KVa m c) (bN t) 0 l.val) (kN t * 512 + 512))
    (h1 : ∀ (R : Fin 1024) (l : Fin 256), p1 (ix3 0 R l) = acc (sc (Qa m c) (KVa m c) (bN t) (qN t) 1 R.val) (wt (KVa m c) (bN t) 1 l.val) (kN t * 512 + 512))
    (h2 : ∀ (R : Fin 1024) (l : Fin 256), p2 (ix3 0 R l) = acc (sc (Qa m c) (KVa m c) (bN t) (qN t) 2 R.val) (wt (KVa m c) (bN t) 2 l.val) (kN t * 512 + 512))
    (h3 : ∀ (R : Fin 1024) (l : Fin 256), p3 (ix3 0 R l) = acc (sc (Qa m c) (KVa m c) (bN t) (qN t) 3 R.val) (wt (KVa m c) (bN t) 3 l.val) (kN t * 512 + 512))
    (L : List (View.Piece (Elt Ideal) S512x1024 .f32)) (hL : L = outs p0 p1 p2 p3) : ∀ f, Out m c t ((ms2 t).view.read (Elt Ideal) ((ms2 t).view.writes (Elt Ideal) f L)) := by
  subst hL
  have hp : ∀ (g : Fin 4) (R : Fin 1024) (l : Fin 256), (![p0, p1, p2, p3] g) (ix3 0 R l) = acc (sc (Qa m c) (KVa m c) (bN t) (qN t) g.val R.val) (wt (KVa m c) (bN t) g.val l.val) (kN t * 512 + 512) := by
    intro g R l
    obtain ⟨g, hg⟩ := g
    interval_cases g
    · exact h0 R l
    · exact h1 R l
    · exact h2 R l
    · exact h3 R l
  intro f r col
  rw [View.read_writes_apply_eq_canon (ms2 t).view f (ix2 r col) (outs p0 p1 p2 p3) (outs_cover p0 p1 p2 p3 r col), outs_at, quot_at, hp, hp, last_of t hl]
  rfl

end Cert.KernelIdeal.Flash

end
-- ==== Proof.FlashIdealSteps.lean ====
/-
The attention kernel over the extended reals: what the runs leave, and the invariant they keep.
-/
module

public import proofs.«01_k».proof.Proof.FlashIdealKept

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.SL.Sem
open Idealize.ShloMosaic.Pipeline (Dat RDat Cfg Window)
open Cert.Online

variable (m : (ℓ : Loc nD τ sig) → Buf (Elt Ideal) ℓ)

/-! ## What the runs leave, from their pieces -/

section
variable (c : Dev nD) (i : grid0.Coords) (arg6 : Memref sig .tc .vmem S512x512 .f32) (harg6 : arg6.IsWhole) (arg7 : Memref sig .tc .vmem S1x512x512 .bf16) (harg7 : arg7.IsWhole)
  (arg8 : Memref sig .tc .vmem S512x1024 .f32) (harg8 : arg8.IsWhole) (x0 : S512x512.Idx → Elt Ideal .f32) (x1 : S1x512x512.Idx → Elt Ideal .bf16)
  (q0 : BufQ Ideal c) (m0 : BufM Ideal c) (a0 : BufA Ideal c) (h0) (h1) (h2) (h3)

theorem readQ (c : Dev nD) (f : BufQ Ideal c) : sQ.view.read (Elt Ideal) f = f := rfl
theorem readM (c : Dev nD) (f : BufM Ideal c) : sM.view.read (Elt Ideal) f = f := rfl
theorem readA (c : Dev nD) (f : BufA Ideal c) : sA.view.read (Elt Ideal) f = f := rfl
theorem leftQ {c₀ : Dev nD} (L : List (View.Piece (Elt Ideal) S4x1024x128 .bf16)) : (sQ.view.writes (Elt Ideal) sQ.view.junk L : BufQ Ideal c₀) = View.canon L :=
  (readQ c₀ _).symm.trans (View.read_writes_junk_eq_canon sQ.view L)
theorem leftM {c₀ : Dev nD} (L : List (View.Piece (Elt Ideal) S4x1024x128 .f32)) : (sM.view.writes (Elt Ideal) sM.view.junk L : BufM Ideal c₀) = View.canon L :=
  (readM c₀ _).symm.trans (View.read_writes_junk_eq_canon sM.view L)
theorem leftA {c₀ : Dev nD} (L : List (View.Piece (Elt Ideal) S4x1024x256 .f32)) : (sA.view.writes (Elt Ideal) sA.view.junk L : BufA Ideal c₀) = View.canon L :=
  (readA c₀ _).symm.trans (View.read_writes_junk_eq_canon sA.view L)

theorem runA_q : (runA (F := Ideal) c i arg6 harg6 arg7 harg7 arg8 harg8 x0 x1 h0 h1 h2 h3).2.1 = View.canon (runA.sl.HQ_8 (F := Ideal) arg6 x0) := by
  unfold runA
  dsimp only
  exact leftQ (c₀ := c) (runA.sl.HQ_8 (F := Ideal) arg6 x0)
theorem runA_m : (runA (F := Ideal) c i arg6 harg6 arg7 harg7 arg8 harg8 x0 x1 h0 h1 h2 h3).2.2.1 = View.canon (runA.sl.HM_5 i arg6 arg7 x0 x1) := by
  unfold runA
  dsimp only
  exact leftM (c₀ := c) (runA.sl.HM_5 i arg6 arg7 x0 x1)
theorem runA_a : (runA (F := Ideal) c i arg6 harg6 arg7 harg7 arg8 harg8 x0 x1 h0 h1 h2 h3).2.2.2.1 = View.canon (runA.sl.HA_5 i arg6 arg7 x0 x1) := by
  unfold runA
  dsimp only
  exact leftA (c₀ := c) (runA.sl.HA_5 i arg6 arg7 x0 x1)
theorem runB_q : (runB (F := Ideal) c i arg6 harg6 arg7 harg7 arg8 harg8 x0 x1 h0 h1 h2 h3).1 = View.canon (runB.sl.HQ_8 (F := Ideal) arg6 x0) := by
  unfold runB
  dsimp only
  exact leftQ (c₀ := c) (runB.sl.HQ_8 (F := Ideal) arg6 x0)
theorem runB_m : (runB (F := Ideal) c i arg6 harg6 arg7 harg7 arg8 harg8 x0 x1 h0 h1 h2 h3).2.1 = View.canon (runB.sl.HM_5 arg6 arg7 x0 x1) := by
  unfold runB
  dsimp only
  exact leftM (c₀ := c) (runB.sl.HM_5 arg6 arg7 x0 x1)
theorem runB_a : (runB (F := Ideal) c i arg6 harg6 arg7 harg7 arg8 harg8 x0 x1 h0 h1 h2 h3).2.2.1 = View.canon (runB.sl.HA_5 arg6 arg7 x0 x1) := by
  unfold runB
  dsimp only
  exact leftA (c₀ := c) (runB.sl.HA_5 arg6 arg7 x0 x1)
theorem runC_m : (runC (F := Ideal) c i arg6 harg6 arg7 harg7 arg8 harg8 x0 x1 q0 m0 a0 h0 h1 h2 h3).2.1 = View.canon (runC.sl.HM_4 c i arg7 x1 q0 m0) := by
  unfold runC
  dsimp only
  exact leftM (c₀ := c) (runC.sl.HM_4 c i arg7 x1 q0 m0)
theorem runC_a : (runC (F := Ideal) c i arg6 harg6 arg7 harg7 arg8 harg8 x0 x1 q0 m0 a0 h0 h1 h2 h3).2.2.1 = View.canon (runC.sl.HA_4 c i arg7 x1 q0 m0 a0) := by
  unfold runC
  dsimp only
  exact leftA (c₀ := c) (runC.sl.HA_4 c i arg7 x1 q0 m0 a0)
theorem runD_m : (runD (F := Ideal) c i arg6 harg6 arg7 harg7 arg8 harg8 x0 x1 q0 m0 a0 h0 h1 h2 h3).1 = View.canon (runD.sl.HM_4 c arg7 x1 q0 m0) := by
  unfold runD
  dsimp only
  exact leftM (c₀ := c) (runD.sl.HM_4 c arg7 x1 q0 m0)
theorem runD_a : (runD (F := Ideal) c i arg6 harg6 arg7 harg7 arg8 harg8 x0 x1 q0 m0 a0 h0 h1 h2 h3).2.1 = View.canon (runD.sl.HA_4 c arg7 x1 q0 m0 a0) := by
  unfold runD
  dsimp only
  exact leftA (c₀ := c) (runD.sl.HA_4 c arg7 x1 q0 m0 a0)
theorem runA_o : (runA (F := Ideal) c i arg6 harg6 arg7 harg7 arg8 harg8 x0 x1 h0 h1 h2 h3).1 = runA.sl.H8_8 i arg6 arg7 x0 x1 := rfl
theorem runC_o : (runC (F := Ideal) c i arg6 harg6 arg7 harg7 arg8 harg8 x0 x1 q0 m0 a0 h0 h1 h2 h3).1 = runC.sl.H8_8 c i arg7 x1 q0 m0 a0 := rfl
theorem A_p0 (R : Fin 1024) (l : Fin 256) : runA.sl.v27 i arg6 arg7 x0 x1 (ix3 0 R l) = View.canon (runA.sl.HA_5 i arg6 arg7 x0 x1) (ix3 0 R l) :=
  covA_at _ 0 (by omega) _ R l
theorem A_p1 (R : Fin 1024) (l : Fin 256) : runA.sl.v38 i arg6 arg7 x0 x1 (ix3 0 R l) = View.canon (runA.sl.HA_5 i arg6 arg7 x0 x1) (ix3 1 R l) :=
  covA_at _ 1 (by omega) _ R l
theorem A_p2 (R : Fin 1024) (l : Fin 256) : runA.sl.v49 i arg6 arg7 x0 x1 (ix3 0 R l) = View.canon (runA.sl.HA_5 i arg6 arg7 x0 x1) (ix3 2 R l) :=
  covA_at _ 2 (by omega) _ R l
theorem A_p3 (R : Fin 1024) (l : Fin 256) : runA.sl.v60 i arg6 arg7 x0 x1 (ix3 0 R l) = View.canon (runA.sl.HA_5 i arg6 arg7 x0 x1) (ix3 3 R l) :=
  covA_at _ 3 (by omega) _ R l
theorem C_p0 (R : Fin 1024) (l : Fin 256) : runC.sl.v27 c i arg7 x1 q0 m0 a0 (ix3 0 R l) = View.canon (runC.sl.HA_4 c i arg7 x1 q0 m0 a0) (ix3 0 R l) :=
  covA_at _ 0 (by omega) _ R l
theorem C_p1 (R : Fin 1024) (l : Fin 256) : runC.sl.v38 c i arg7 x1 q0 m0 a0 (ix3 0 R l) = View.canon (runC.sl.HA_4 c i arg7 x1 q0 m0 a0) (ix3 1 R l) :=
  covA_at _ 1 (by omega) _ R l
theorem C_p2 (R : Fin 1024) (l : Fin 256) : runC.sl.v49 c i arg7 x1 q0 m0 a0 (ix3 0 R l) = View.canon (runC.sl.HA_4 c i arg7 x1 q0 m0 a0) (ix3 2 R l) :=
  covA_at _ 2 (by omega) _ R l
theorem C_p3 (R : Fin 1024) (l : Fin 256) : runC.sl.v60 c i arg7 x1 q0 m0 a0 (ix3 0 R l) = View.canon (runC.sl.HA_4 c i arg7 x1 q0 m0 a0) (ix3 3 R l) :=
  covA_at _ 3 (by omega) _ R l
end

section
variable (c : Dev nD) (t : Fin cfgA.N)

theorem keepA (h : IsA t) : Inv m c (t.val + 1) (atA m c t h).2.1 (atA m c t h).2.2.1 (atA m c t h).2.2.2.1
    ∧ ∀ f, Out m c t ((ms2 t).view.read (Elt Ideal) ((ms2 t).view.writes (Elt Ideal) f (atA m c t h).1)) := by
  have s := state_A m c t (ms0 t) (ms1 t) (first_of t h.1)
  refine ⟨?_, fun f => ?_⟩
  · exact Inv.next m fun g R => ⟨fun l => (congrFun (runA_q c (crd t) (ms0 t) (hs0 t) (ms1 t) (hs1 t) (ms2 t) (hs2 t) (qblk m c t) (kvblk m c t) h.1 h.2.1 h.2.2.1 h.2.2.2) _).trans ((s g R).1 l), fun l => (congrFun (runA_m c (crd t) (ms0 t) (hs0 t) (ms1 t) (hs1 t) (ms2 t) (hs2 t) (qblk m c t) (kvblk m c t) h.1 h.2.1 h.2.2.1 h.2.2.2) _).trans ((s g R).2.1 l), fun l => (congrFun (runA_a c (crd t) (ms0 t) (hs0 t) (ms1 t) (hs1 t) (ms2 t) (hs2 t) (qblk m c t) (kvblk m c t) h.1 h.2.1 h.2.2.1 h.2.2.2) _).trans ((s g R).2.2 l)⟩
  · exact out_of m c t h.2.2.2 (runA.sl.v27 (crd t) (ms0 t) (ms1 t) (qblk m c t) (kvblk m c t)) (runA.sl.v38 (crd t) (ms0 t) (ms1 t) (qblk m c t) (kvblk m c t)) (runA.sl.v49 (crd t) (ms0 t) (ms1 t) (qblk m c t) (kvblk m c t)) (runA.sl.v60 (crd t) (ms0 t) (ms1 t) (qblk m c t) (kvblk m c t)) (fun R l => (A_p0 (crd t) (ms0 t) (ms1 t) (qblk m c t) (kvblk m c t) R l).trans ((s 0 R).2.2 l)) (fun R l => (A_p1 (crd t) (ms0 t) (ms1 t) (qblk m c t) (kvblk m c t) R l).trans ((s 1 R).2.2 l)) (fun R l => (A_p2 (crd t) (ms0 t) (ms1 t) (qblk m c t) (kvblk m c t) R l).trans ((s 2 R).2.2 l)) (fun R l => (A_p3 (crd t) (ms0 t) (ms1 t) (qblk m c t) (kvblk m c t) R l).trans ((s 3 R).2.2 l)) _ ((runA_o c (crd t) (ms0 t) (hs0 t) (ms1 t) (hs1 t) (ms2 t) (hs2 t) (qblk m c t) (kvblk m c t) h.1 h.2.1 h.2.2.1 h.2.2.2).trans (A_o (crd t) (ms0 t) (ms1 t) (qblk m c t) (kvblk m c t))) f
theorem keepB (h : IsB t) : Inv m c (t.val + 1) (atB m c t h).1 (atB m c t h).2.1 (atB m c t h).2.2.1 := by
  have s := state_B m c t (ms0 t) (ms1 t) (first_of t h.1) (full_of t h.2.1)
  exact Inv.next m fun g R => ⟨fun l => (congrFun (runB_q c (crd t) (ms0 t) (hs0 t) (ms1 t) (hs1 t) (ms2 t) (hs2 t) (qblk m c t) (kvblk m c t) h.1 h.2.1 h.2.2.1 h.2.2.2) _).trans ((s g R).1 l), fun l => (congrFun (runB_m c (crd t) (ms0 t) (hs0 t) (ms1 t) (hs1 t) (ms2 t) (hs2 t) (qblk m c t) (kvblk m c t) h.1 h.2.1 h.2.2.1 h.2.2.2) _).trans ((s g R).2.1 l), fun l => (congrFun (runB_a c (crd t) (ms0 t) (hs0 t) (ms1 t) (hs1 t) (ms2 t) (hs2 t) (qblk m c t) (kvblk m c t) h.1 h.2.1 h.2.2.1 h.2.2.2) _).trans ((s g R).2.2 l)⟩

variable (q0 : BufQ Ideal c) (m0 : BufM Ideal c) (a0 : BufA Ideal c) (hi : Inv m c t.val q0 m0 a0)
include hi

theorem keepC (h : IsC t) : Inv m c (t.val + 1) q0 (atC m c t q0 m0 a0 h).2.1 (atC m c t q0 m0 a0 h).2.2.1
    ∧ ∀ f, Out m c t ((ms2 t).view.read (Elt Ideal) ((ms2 t).view.writes (Elt Ideal) f (atC m c t q0 m0 a0 h).1)) := by
  have s := state_C m c t (ms1 t) q0 m0 a0 (Inv.now m h.1 hi)
  refine ⟨?_, fun f => ?_⟩
  · exact Inv.next m fun g R => ⟨fun l => (s g R).1 l, fun l => (congrFun (runC_m c (crd t) (ms0 t) (hs0 t) (ms1 t) (hs1 t) (ms2 t) (hs2 t) (qblk m c t) (kvblk m c t) q0 m0 a0 h.1 h.2.1 h.2.2.1 h.2.2.2) _).trans ((s g R).2.1 l), fun l => (congrFun (runC_a c (crd t) (ms0 t) (hs0 t) (ms1 t) (hs1 t) (ms2 t) (hs2 t) (qblk m c t) (kvblk m c t) q0 m0 a0 h.1 h.2.1 h.2.2.1 h.2.2.2) _).trans ((s g R).2.2 l)⟩
  · exact out_of m c t h.2.2.2 (runC.sl.v27 c (crd t) (ms1 t) (kvblk m c t) q0 m0 a0) (runC.sl.v38 c (crd t) (ms1 t) (kvblk m c t) q0 m0 a0) (runC.sl.v49 c (crd t) (ms1 t) (kvblk m c t) q0 m0 a0) (runC.sl.v60 c (crd t) (ms1 t) (kvblk m c t) q0 m0 a0) (fun R l => (C_p0 c (crd t) (ms1 t) (kvblk m c t) q0 m0 a0 R l).trans ((s 0 R).2.2 l)) (fun R l => (C_p1 c (crd t) (ms1 t) (kvblk m c t) q0 m0 a0 R l).trans ((s 1 R).2.2 l)) (fun R l => (C_p2 c (crd t) (ms1 t) (kvblk m c t) q0 m0 a0 R l).trans ((s 2 R).2.2 l)) (fun R l => (C_p3 c (crd t) (ms1 t) (kvblk m c t) q0 m0 a0 R l).trans ((s 3 R).2.2 l)) _ ((runC_o c (crd t) (ms0 t) (hs0 t) (ms1 t) (hs1 t) (ms2 t) (hs2 t) (qblk m c t) (kvblk m c t) q0 m0 a0 h.1 h.2.1 h.2.2.1 h.2.2.2).trans (C_o c (crd t) (ms1 t) (kvblk m c t) q0 m0 a0)) f
theorem keepD (h : IsD t) : Inv m c (t.val + 1) q0 (atD m c t q0 m0 a0 h).1 (atD m c t q0 m0 a0 h).2.1 := by
  have s := state_D m c t (ms1 t) q0 m0 a0 (full_of t h.2.1) (Inv.now m h.1 hi)
  exact Inv.next m fun g R => ⟨fun l => (s g R).1 l, fun l => (congrFun (runD_m c (crd t) (ms0 t) (hs0 t) (ms1 t) (hs1 t) (ms2 t) (hs2 t) (qblk m c t) (kvblk m c t) q0 m0 a0 h.1 h.2.1 h.2.2.1 h.2.2.2) _).trans ((s g R).2.1 l), fun l => (congrFun (runD_a c (crd t) (ms0 t) (hs0 t) (ms1 t) (hs1 t) (ms2 t) (hs2 t) (qblk m c t) (kvblk m c t) q0 m0 a0 h.1 h.2.1 h.2.2.1 h.2.2.2) _).trans ((s g R).2.2 l)⟩
end

theorem kept : Kept m (Inv m) (Out m) where
  init c q m' a := fun _ h => absurd h (Nat.lt_irrefl 0)
  stepA := keepA m
  stepB := keepB m
  stepC c t h q0 m0 a0 hi := keepC m c t q0 m0 a0 hi h
  stepD c t h q0 m0 a0 hi := keepD m c t q0 m0 a0 hi h

end Cert.KernelIdeal.Flash

end
-- ==== Proof.FlashIdealValue.lean ====
/-
The attention kernel over the extended reals: the array it ends with, and its frame.
-/
module

public import proofs.«01_k».proof.Proof.FlashIdealSteps
public import proofs.«01_k».proof.Defs
public import Idealize.ShloMosaic.Lib.Claim
public import Idealize.ShloMosaic.Lib.Quiescent

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.SL.Sem
open Idealize.ShloMosaic.Pipeline (Dat RDat Cfg Window)

variable (m : (ℓ : Loc nD τ sig) → Buf (Elt Ideal) ℓ)

/-- The attention array: row `n` is token `n % 8192` of sequence `n / 8192`, column `g * 256 + h * 128 + d` lane `d` of head `h` of group `g`. -/
def ATT (Q : S16384x512.Idx → EReal) (KV : S2x8192x512.Idx → EReal) (n col : ℕ) : EReal :=
  att Q KV (n / 8192) (n % 8192 / 512) (col / 256) (col % 256 / 128 * 512 + n % 512) (col % 128)

/-- Where an index of the array lies in a point's block. -/
theorem emb_out (t : Fin cfgA.N) (r : Fin 512) (col : Fin 1024) (n : Fin 16384) (hn : n.val = (bN t * 16 + qN t) * 512 + r.val) :
    (((cfgA.win (2 : Fin 3)).blk t).view.emb (ix2 r col) : S16384x1024.Idx) = ix2 n col := by
  have e : cc0_transform_2 k0_off1_inb numel1_S1 tables (crd t) = ![bN t * 16 + qN t, 0] := index_out t
  refine funext fun a => Fin.ext ?_
  match a with
  | ⟨0, _⟩ =>
    show cc0_transform_2 k0_off1_inb numel1_S1 tables (crd t) (0 : Fin 2) * 512 + 1 * r.val = n.val
    rw [e, hn]; show (bN t * 16 + qN t) * 512 + 1 * r.val = _; omega
  | ⟨1, _⟩ =>
    show cc0_transform_2 k0_off1_inb numel1_S1 tables (crd t) (1 : Fin 2) * 1024 + 1 * col.val = col.val
    rw [e]; show 0 * 1024 + 1 * col.val = _; omega

/-- A block that satisfies its property holds the rows of the attention array it covers. -/
theorem block_at (c : Dev nD) (t : Fin cfgA.N) (X : S512x1024.Idx → Elt Ideal .f32) (h : Out m c t X) (r : Fin 512) (col : Fin 1024) (n : ℕ)
    (hn : n = (bN t * 16 + qN t) * 512 + r.val) : X (ix2 r col) = ATT (Qa m c) (KVa m c) n col.val := by
  obtain ⟨hb, hq, -⟩ := bounds t
  have hr := r.isLt
  rw [h r col]
  unfold ATT
  rw [show n / 8192 = bN t by omega, show n % 8192 / 512 = qN t by omega, show n % 512 = r.val by omega]

/-- After the write-backs of the points below `t`, the rows of the blocks written back hold the attention. -/
theorem written (c : Dev nD) : ∀ (t : ℕ) (hN : t ≤ cfgA.N) (F : Buf (Elt Ideal) ((c : Thread nD τ).loc main_v1)), (rdat m (Inv m) (Out m) c).ArrAt (2 : Fin 3) t F →
    ∀ (s : Fin cfgA.N), s.val < t → (cfgA.win 2).flush s = true → ∀ (n : Fin 16384) (col : Fin 1024), n.val / 512 = bN s * 16 + qN s →
      (F : S16384x1024.Idx → EReal) (ix2 n col) = ATT (Qa m c) (KVa m c) n.val col.val
  | 0, _, _, _, s, hs, _, _, _, _ => absurd hs (Nat.not_lt_zero _)
  | t + 1, hN, F, hF, s, hs, hf, n, col, hn => by
    by_cases ht : t < cfgA.N
    · have e := (rdat m (Inv m) (Out m) c).ArrAt_succ (2 : Fin 3) ⟨t, ht⟩
      have hF' : (rdat m (Inv m) (Out m) c).ArrAt (2 : Fin 3) ((⟨t, ht⟩ : Fin cfgA.N).val + 1) F := hF
      rw [e] at hF'
      by_cases hft : (cfgA.win (2 : Fin 3)).flush ⟨t, ht⟩ = true
      · rw [if_pos hft] at hF'
        obtain ⟨G₀, X, hG, ⟨Y, -, hX⟩, rfl⟩ := hF'
        have hO : Out m c ⟨t, ht⟩ X := hX (flush_of _ hft)
        by_cases hb : n.val / 512 = bN ⟨t, ht⟩ * 16 + qN ⟨t, ht⟩
        · have hE := emb_out ⟨t, ht⟩ ⟨n.val % 512, by omega⟩ col n (by show n.val = _ * 512 + n.val % 512; omega)
          rw [← hE]
          refine (View.write_emb_of_mem _ _ (Finset.mem_univ _)).trans ?_
          exact block_at m c ⟨t, ht⟩ X hO ⟨n.val % 512, by omega⟩ col n.val (by show n.val = _ * 512 + n.val % 512; omega)
        · refine (View.write_of_not_mem _ _ _ ?_).trans (written c t (Nat.le_of_succ_le hN) G₀ hG s ?_ hf n col hn)
          · intro hm
            obtain ⟨x, -, hx⟩ := Finset.mem_map.1 hm
            obtain ⟨hb', hq', -⟩ := bounds ⟨t, ht⟩
            obtain ⟨r, k, rfl⟩ : ∃ (r : Fin 512) (k : Fin 1024), x = (ix2 r k : S512x1024.Idx) := ⟨x 0, x 1, eq_ix2 x⟩
            have hr := r.isLt
            have hE := emb_out ⟨t, ht⟩ r k ⟨(bN ⟨t, ht⟩ * 16 + qN ⟨t, ht⟩) * 512 + r.val, by omega⟩ rfl
            have h0 : (bN ⟨t, ht⟩ * 16 + qN ⟨t, ht⟩) * 512 + r.val = n.val := congrArg (fun i : S16384x1024.Idx => (i 0).val) (hE.symm.trans hx)
            exact hb (by omega)
          · have : s ≠ ⟨t, ht⟩ := fun h => hb (h ▸ hn)
            have : s.val ≠ t := fun h => this (Fin.ext h)
            omega
      · rw [if_neg hft] at hF'
        refine written c t (Nat.le_of_succ_le hN) F hF' s ?_ hf n col hn
        have : s ≠ ⟨t, ht⟩ := fun h => hft (h ▸ hf)
        have : s.val ≠ t := fun h => this (Fin.ext h)
        omega
    · exact absurd hN ht

/-- The array the program ends with is the attention. -/
theorem final (c : Dev nD) (F : Buf (Elt Ideal) ((c : Thread nD τ).loc main_v1)) (h : (rdat m (Inv m) (Out m) c).ArrAt (2 : Fin 3) cfgA.N F) (n : Fin 16384) (col : Fin 1024) :
    (F : S16384x1024.Idx → EReal) (ix2 n col) = ATT (Qa m c) (KVa m c) n.val col.val := by
  have hn := n.isLt
  obtain ⟨hs, hf, hb, hq⟩ := flushed ⟨n.val / 8192, by omega⟩ ⟨n.val % 8192 / 512, by omega⟩
  refine written m c cfgA.N le_rfl F h ⟨_, hs⟩ hs hf n col ?_
  rw [hb, hq]
  show n.val / 512 = n.val / 8192 * 16 + n.val % 8192 / 512
  omega

/-- The attention array, as the result buffer's contents. -/
def result (c : Dev nD) : Buf (Elt Ideal) ((c : Thread nD τ).loc main_v1) :=
  (fun i : S16384x1024.Idx => ATT (Qa m c) (KVa m c) (i 0).val (i 1).val : S16384x1024.Idx → EReal)

/-- Every run ends, with the attention in the result and the arguments unchanged, quiescent. -/
theorem run (ρ : Dev nD → PrngReg) :
    θ_run (defs (F := Ideal)) (onTc (τ := τ) (main (F := Ideal))) ⟨m, fun _ => 0, ρ⟩ (fun r => (∀ c : Dev nD,
      r.2.mem ((c.tc : Thread nD τ).loc main_v1) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run (defs (F := Ideal)) _ _).mono (fun r h => ⟨fun c => ⟨by
      have hF := (h.1 c).1 (2 : Fin 3)
      refine funext fun i : S16384x1024.Idx => ?_
      rw [eq_ix2 i]
      exact final m c _ hF _ _, args_of m _ _ c h.1⟩, h.2⟩) (launched m _ _ (kept m) ρ)

/-- `Cert.quiescent_KernelIdeal`. -/
theorem frame_kernelIdeal : Cert.quiescent_KernelIdeal (hKernelIdeal := Cert.KernelIdeal.Gen.facts) := fun m ρ _ =>
  (θ_run (defs (F := Ideal)) _ _).mono (fun _ h => ⟨fun c => (h.1 c).2, h.2⟩) (run m ρ)

end Cert.KernelIdeal.Flash

end
-- ==== Proof.FlashRef.lean ====
/-
The attention's reference over the extended reals, read at an index.
-/
module

public import proofs.«01_k».proof.Defs
public import proofs.«01_k».proof.Proof.Gen.ReferenceIdeal.Run
public import Idealize.ShloMosaic.Lib.Pointwise
public import Idealize.ShloMosaic.Lib.Tactic

@[expose] public section

set_option maxRecDepth 16384
set_option Elab.async false

noncomputable section

namespace Cert.ReferenceIdeal.Flash

open Cert.ReferenceIdeal Cert.ReferenceIdeal.Gen
open Idealize.ShloMosaic
open Idealize.ShloMosaic.TcCoe Idealize.SL.Sem

/-! ## The reference, stage by stage -/

def mask : IVec S2x8192x2x2x2x8192 1 := broadcastInDim S2x8192x2x2x2x8192 ![0, 1, 2, 3, 4, 5] bcast_S1x8192x1x1x1x8192_S2x8192x2x2x2x8192_0_1_2_3_4_5 (broadcastInDim S1x8192x1x1x1x8192 ![1, 5] bcast_S8192x8192_S1x8192x1x1x1x8192_1_5 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
def keys (kv : FVec Ideal S2x8192x512 .f32) : FVec Ideal S2x8192x2x2x64 .f32 := shapeCast _ (shapeCast _ (extractStridedSlice S2x8192x1x2x128 ![0, 0, 0, 0, 0] (shapeCast _ kv shapeCasts_S2x8192x512_S2x8192x2x2x128) slices_S2x8192x2x2x128_S2x8192x1x2x128_0_0_0_0_0) shapeCasts_S2x8192x1x2x128_S2x8192x2x128) shapeCasts_S2x8192x2x128_S2x8192x2x2x64
def vals (kv : FVec Ideal S2x8192x512 .f32) : FVec Ideal S2x8192x2x128 .f32 := shapeCast _ (extractStridedSlice S2x8192x1x2x128 ![0, 0, 1, 0, 0] (shapeCast _ kv shapeCasts_S2x8192x512_S2x8192x2x2x128) slices_S2x8192x2x2x128_S2x8192x1x2x128_0_0_1_0_0) shapeCasts_S2x8192x1x2x128_S2x8192x2x128
def heads (q : FVec Ideal S16384x512 .f32) : FVec Ideal S2x8192x2x2x2x64 .f32 := shapeCast _ q shapeCasts_S16384x512_S2x8192x2x2x2x64
def score (q : FVec Ideal S16384x512 .f32) (kv : FVec Ideal S2x8192x512 .f32) : FVec Ideal S2x8192x2x2x2x8192 .f32 := select mask (mulf (transpose S2x8192x2x2x2x8192 [0, 4, 1, 5, 2, 3] (Host.dotGeneral dot_S2x8192x2x2x64_S2x8192x2x2x2x64_S2x2x2x8192x8192x2_4_5_1_13_023_024 none (keys kv) (heads q)) transposes_S2x2x2x8192x8192x2_S2x8192x2x2x2x8192_0_4_1_5_2_3) (broadcastInDim S2x8192x2x2x2x8192 ![] bcast_S_S2x8192x2x2x2x8192 (constant S_ .f32 0x3E000000#32))) (broadcastInDim S2x8192x2x2x2x8192 ![] bcast_S_S2x8192x2x2x2x8192 (id (constant S_ .f32 0xFF800000#32)))
def top (q : FVec Ideal S16384x512 .f32) (kv : FVec Ideal S2x8192x512 .f32) : FVec Ideal S2x8192x2x2x2 .f32 := Host.reduce FloatOps.maximumf (score q kv) (constant S_ .f32 0xFF800000#32) reducesTo_S2x8192x2x2x2x8192_S2x8192x2x2x2_d5 h_S_
def weight (q : FVec Ideal S16384x512 .f32) (kv : FVec Ideal S2x8192x512 .f32) : FVec Ideal S2x8192x2x2x2x8192 .f32 := select mask (Host.exp (subf (score q kv) (broadcastInDim S2x8192x2x2x2x8192 ![0, 1, 2, 3, 4, 5] bcast_S2x8192x2x2x2x1_S2x8192x2x2x2x8192_0_1_2_3_4_5 (broadcastInDim S2x8192x2x2x2x1 ![0, 1, 2, 3, 4] bcast_S2x8192x2x2x2_S2x8192x2x2x2x1_0_1_2_3_4 (top q kv))))) (broadcastInDim S2x8192x2x2x2x8192 ![] bcast_S_S2x8192x2x2x2x8192 (id (constant S_ .f32 0x00000000#32)))
def mass (q : FVec Ideal S16384x512 .f32) (kv : FVec Ideal S2x8192x512 .f32) : FVec Ideal S2x8192x2x2x2 .f32 := Host.reduceAdd (weight q kv) (constant S_ .f32 0x00000000#32) reducesTo_S2x8192x2x2x2x8192_S2x8192x2x2x2_d5 h_S_
def prob (q : FVec Ideal S16384x512 .f32) (kv : FVec Ideal S2x8192x512 .f32) : FVec Ideal S2x8192x2x2x2x8192 .f32 := Host.divf (weight q kv) (broadcastInDim S2x8192x2x2x2x8192 ![0, 1, 2, 3, 4, 5] bcast_S2x8192x2x2x2x1_S2x8192x2x2x2x8192_0_1_2_3_4_5 (maximumf (broadcastInDim S2x8192x2x2x2x1 ![0, 1, 2, 3, 4] bcast_S2x8192x2x2x2_S2x8192x2x2x2x1_0_1_2_3_4 (mass q kv)) (broadcastInDim S2x8192x2x2x2x1 ![] bcast_S_S2x8192x2x2x2x1 (constant S_ .f32 0x0DA24260#32))))
def REF (q : FVec Ideal S16384x512 .f32) (kv : FVec Ideal S2x8192x512 .f32) : FVec Ideal S16384x1024 .f32 := shapeCast _ (transpose S2x8192x2x2x2x128 [0, 3, 1, 5, 4, 2] (Host.dotGeneral dot_S2x8192x2x128_S2x8192x2x2x2x8192_S2x2x128x8192x2x2_1_5_3_134_02_02 none (vals kv) (prob q kv)) transposes_S2x2x128x8192x2x2_S2x8192x2x2x2x128_0_3_1_5_4_2) shapeCasts_S2x8192x2x2x2x128_S16384x1024

variable (q : FVec Ideal S16384x512 .f32) (kv : FVec Ideal S2x8192x512 .f32)

theorem eighth : Ideal.ofBits .f32 0x3E000000#32 = ((8⁻¹ : ℝ) : EReal) := by
  simp [Ideal.ofBits, Ideal.ieee, -EReal.coe_mul]; norm_num
theorem neg_inf : Ideal.ofBits .f32 0xFF800000#32 = ⊥ := by
  simp [Ideal.ofBits, Ideal.ieee]
theorem zero_bits : Ideal.ofBits .f32 0x00000000#32 = 0 := by
  simp [Ideal.ofBits, Ideal.ieee]
theorem floor_pos : 0 < Ideal.ofBits .f32 0x0DA24260#32 := by
  simp [Ideal.ofBits, Ideal.ieee, -EReal.coe_mul]

theorem sle_at (t j : Fin 8192) : IntOp.cmpi CmpIPredicate.sle (BitVec.ofNat 32 j.val) (BitVec.ofNat 32 t.val) = if j.val ≤ t.val then 1#1 else 0#1 := by
  have hj : (BitVec.ofNat 32 j.val).toInt = j.val := by
    rw [BitVec.toInt_ofNat']; have := j.isLt; simp [Int.bmod]; omega
  have ht : (BitVec.ofNat 32 t.val).toInt = t.val := by
    rw [BitVec.toInt_ofNat']; have := t.isLt; simp [Int.bmod]; omega
  show BitVec.ofBool (decide ((BitVec.ofNat 32 j.val).toInt ≤ (BitVec.ofNat 32 t.val).toInt)) = _
  rw [hj, ht]
  by_cases h : j.val ≤ t.val
  · rw [if_pos h, decide_eq_true (Int.ofNat_le.mpr h)]; rfl
  · rw [if_neg h, decide_eq_false (fun h' => h (Int.ofNat_le.mp h'))]; rfl

theorem mask_at (b : Fin 2) (t : Fin 8192) (k h i : Fin 2) (j : Fin 8192) : mask (ix6 b t k h i j) = if j.val ≤ t.val then 1#1 else 0#1 := by
  pointwise [mask]
  exact sle_at t j

theorem heads_at (b : Fin 2) (t : Fin 8192) (k h i : Fin 2) (d : Fin 64) :
    heads q (ix6 b t k h i d) = q (ix2 ⟨b.val * 8192 + t.val, by omega⟩ ⟨k.val * 256 + h.val * 128 + i.val * 64 + d.val, by omega⟩) := by
  pointwise [heads]

theorem keys_at (b : Fin 2) (j : Fin 8192) (k i : Fin 2) (d : Fin 64) :
    keys kv (ix5 b j k i d) = kv (ix3 b j ⟨k.val * 128 + (i.val * 64 + d.val), by omega⟩) := by
  pointwise [keys]

theorem vals_at (b : Fin 2) (j : Fin 8192) (k : Fin 2) (d : Fin 128) :
    vals kv (ix4 b j k d) = kv (ix3 b j ⟨256 + k.val * 128 + d.val, by omega⟩) := by
  pointwise [vals]

/-- A scaled score, and what stands for a later key. -/
theorem score_at (b : Fin 2) (t : Fin 8192) (k h i : Fin 2) (j : Fin 8192) :
    score q kv (ix6 b t k h i j) = if j.val ≤ t.val then (∑ d : Fin 64, keys kv (ix5 b j k i d) * heads q (ix6 b t k h i d)) * Ideal.ofBits .f32 0x3E000000#32 else Ideal.ofBits .f32 0xFF800000#32 := by
  have e : score q kv (ix6 b t k h i j) = Scalar.select (mask (ix6 b t k h i j)) ((∑ d : Fin 64, keys kv (ix5 b j k i d) * heads q (ix6 b t k h i d)) * Ideal.ofBits .f32 0x3E000000#32) (Ideal.ofBits .f32 0xFF800000#32) := by
    pointwise [score]
    rfl
  rw [e, mask_at]
  by_cases hj : j.val ≤ t.val
  · rw [if_pos hj, if_pos hj]; rfl
  · rw [if_neg hj, if_neg hj]; rfl

theorem drop_at (b : Fin 2) (t : Fin 8192) (k h i : Fin 2) (j : Fin 8192) :
    reducesTo_S2x8192x2x2x2x8192_S2x8192x2x2x2_d5.drop (ix6 b t k h i j) = ix5 b t k h i := by
  funext a
  match a with
  | ⟨0, _⟩ => rfl
  | ⟨1, _⟩ => rfl
  | ⟨2, _⟩ => rfl
  | ⟨3, _⟩ => rfl
  | ⟨4, _⟩ => rfl

/-- The indices over one row are its keys. -/
theorem row_at (b : Fin 2) (t : Fin 8192) (k h i : Fin 2) :
    Finset.univ.filter (fun x : S2x8192x2x2x2x8192.Idx => reducesTo_S2x8192x2x2x2x8192_S2x8192x2x2x2_d5.drop x = ix5 b t k h i)
      = Finset.univ.map ⟨fun j : Fin 8192 => (ix6 b t k h i j : S2x8192x2x2x2x8192.Idx), fun x y e => congrFun e (5 : Fin 6)⟩ := by
  ext x
  obtain ⟨b', t', k', h', i', j, rfl⟩ : ∃ (b' : Fin 2) (t' : Fin 8192) (k' h' i' : Fin 2) (j : Fin 8192), x = (ix6 b' t' k' h' i' j : S2x8192x2x2x2x8192.Idx) :=
    ⟨x 0, x 1, x 2, x 3, x 4, x 5, eq_ix6 x⟩
  rw [Finset.mem_filter, Finset.mem_map, drop_at]
  constructor
  · rintro ⟨-, e⟩
    have e0 : b' = b := congrFun e (0 : Fin 5)
    have e1 : t' = t := congrFun e (1 : Fin 5)
    have e2 : k' = k := congrFun e (2 : Fin 5)
    have e3 : h' = h := congrFun e (3 : Fin 5)
    have e4 : i' = i := congrFun e (4 : Fin 5)
    subst e0 e1 e2 e3 e4
    exact ⟨j, Finset.mem_univ _, rfl⟩
  · rintro ⟨y, -, e⟩
    have e0 : b = b' := congrFun e (0 : Fin 6)
    have e1 : t = t' := congrFun e (1 : Fin 6)
    have e2 : k = k' := congrFun e (2 : Fin 6)
    have e3 : h = h' := congrFun e (3 : Fin 6)
    have e4 : i = i' := congrFun e (4 : Fin 6)
    subst e0 e1 e2 e3 e4
    exact ⟨Finset.mem_univ _, rfl⟩

theorem top_at (b : Fin 2) (t : Fin 8192) (k h i : Fin 2) :
    top q kv (ix5 b t k h i) = Finset.fold max (Ideal.ofBits .f32 0xFF800000#32) (fun j : Fin 8192 => score q kv (ix6 b t k h i j)) Finset.univ := by
  pointwise [top]
  rw [row_at, Finset.fold_map]
  rfl

theorem weight_at (b : Fin 2) (t : Fin 8192) (k h i : Fin 2) (j : Fin 8192) :
    weight q kv (ix6 b t k h i j) = if j.val ≤ t.val then Ideal.exp (score q kv (ix6 b t k h i j) - top q kv (ix5 b t k h i)) else 0 := by
  have e : weight q kv (ix6 b t k h i j) = Scalar.select (mask (ix6 b t k h i j)) (Ideal.exp (score q kv (ix6 b t k h i j) - top q kv (ix5 b t k h i))) 0 := by
    pointwise [weight]
    show Scalar.select _ _ (Ideal.ofBits .f32 0x00000000#32) = _
    rw [zero_bits]
  rw [e, mask_at]
  by_cases hj : j.val ≤ t.val
  · rw [if_pos hj, if_pos hj]; rfl
  · rw [if_neg hj, if_neg hj]; rfl

theorem mass_at (b : Fin 2) (t : Fin 8192) (k h i : Fin 2) :
    mass q kv (ix5 b t k h i) = ∑ j : Fin 8192, weight q kv (ix6 b t k h i j) := by
  pointwise [mass]
  unfold Ideal.hostReduceAdd
  rw [row_at, Finset.sum_map, zero_add]
  rfl

theorem prob_at (b : Fin 2) (t : Fin 8192) (k h i : Fin 2) (j : Fin 8192) :
    prob q kv (ix6 b t k h i j) = Ideal.div (weight q kv (ix6 b t k h i j)) (max (mass q kv (ix5 b t k h i)) (Ideal.ofBits .f32 0x0DA24260#32)) := by
  pointwise [prob]

theorem REF_at (n : Fin 16384) (c : Fin 1024) :
    REF q kv (ix2 n c) = ∑ j : Fin 8192, vals kv (ix4 ⟨n.val / 8192, by omega⟩ j ⟨c.val / 512, by omega⟩ ⟨c.val % 128, by omega⟩)
      * prob q kv (ix6 ⟨n.val / 8192, by omega⟩ ⟨n.val % 8192, by omega⟩ ⟨c.val / 512, by omega⟩ ⟨c.val / 128 % 2, by omega⟩ ⟨c.val / 256 % 2, by omega⟩ j) := by
  pointwise [REF]

end Cert.ReferenceIdeal.Flash

end
-- ==== Proof.FlashMath.lean ====
/-
The softmax over the extended reals by powers of two: the same weights as by the exponential, whatever keys are cut, and a quotient taken before or after the sum.
-/
module

public import proofs.«01_k».proof.Proof.FlashOnline

@[expose] public section

noncomputable section

namespace Cert.Online

open Idealize.ShloMosaic

/-- The factor that turns an exponential's argument into a power of two's. -/
def lam : ℝ := (Real.log 2)⁻¹

theorem lam_pos : 0 < lam := inv_pos.mpr (Real.log_pos (by norm_num))

theorem exp2_scaled (z : EReal) : Ideal.exp2 (z * (lam : EReal)) = Ideal.exp z := by
  induction z using EReal.rec with
  | bot => rw [EReal.bot_mul_coe_of_pos lam_pos]; rfl
  | top => rw [EReal.top_mul_coe_of_pos lam_pos]; rfl
  | coe r =>
    rw [← EReal.coe_mul, Ideal.exp2_coe]
    show ((Real.rpow 2 (r * lam) : ℝ) : EReal) = ((Real.exp r : ℝ) : EReal)
    congr 1
    show (2 : ℝ) ^ (r * lam) = Real.exp r
    have h : Real.log 2 ≠ 0 := (Real.log_pos (by norm_num)).ne'
    rw [Real.rpow_def_of_pos (by norm_num), lam]
    congr 1
    field_simp

theorem sub_scaled (x y : EReal) : x * (lam : EReal) - y * (lam : EReal) = (x - y) * (lam : EReal) := by
  rw [sub_eq_add_neg, sub_eq_add_neg, EReal.right_distrib_of_nonneg_of_ne_top (EReal.coe_nonneg.mpr lam_pos.le) (EReal.coe_ne_top lam), EReal.neg_mul]

theorem mx_scaled (S : ℕ → EReal) (n : ℕ) : mx (fun j => S j * (lam : EReal)) n = mx S n * (lam : EReal) := by
  have hm : Monotone (fun x : EReal => x * (lam : EReal)) := fun x y h => mul_le_mul_of_nonneg_right h (EReal.coe_nonneg.mpr lam_pos.le)
  exact (Finset.comp_sup_eq_sup_comp_of_is_total (fun x : EReal => x * (lam : EReal)) hm (EReal.bot_mul_coe_of_pos lam_pos)).symm

/-- A running sum of scaled scores by powers of two is one of the scores by the exponential. -/
theorem acc_scaled (S w : ℕ → EReal) (n : ℕ) :
    acc (fun j => S j * (lam : EReal)) w n = ∑ j ∈ Finset.range n, Ideal.exp (S j - mx S n) * w j := by
  unfold acc
  refine Finset.sum_congr rfl fun j _ => ?_
  rw [mx_scaled, sub_scaled, exp2_scaled]

theorem exp_cut (x : EReal) : Ideal.exp (⊥ - x) = 0 := by
  rw [sub_eq_add_neg, EReal.bot_add]; rfl

/-- Cut keys do not move the maximum, and add nothing to a sum. -/
theorem mx_cut (S : ℕ → EReal) {n k : ℕ} (h : n ≤ k) (hS : ∀ j, n ≤ j → S j = ⊥) : mx S k = mx S n := by
  refine le_antisymm (Finset.sup_le fun j hj => ?_) (mx_mono S h)
  by_cases hj' : j < n
  · exact le_mx S hj'
  · rw [hS j (by omega)]; exact bot_le

theorem sum_cut (S w : ℕ → EReal) (M : EReal) {n k : ℕ} (h : n ≤ k) (hS : ∀ j, n ≤ j → S j = ⊥) :
    ∑ j ∈ Finset.range n, Ideal.exp (S j - M) * w j = ∑ j ∈ Finset.range k, Ideal.exp (S j - M) * w j := by
  refine Finset.sum_subset (Finset.range_mono h) fun j _ hj => ?_
  have hj : n ≤ j := by simpa using hj
  rw [hS j hj, exp_cut, zero_mul]

theorem acc_full (S w : ℕ → EReal) {n k : ℕ} (h : n ≤ k) (hS : ∀ j, n ≤ j → S j = ⊥) :
    acc (fun j => S j * (lam : EReal)) w n = ∑ j ∈ Finset.range k, Ideal.exp (S j - mx S k) * w j := by
  rw [acc_scaled, sum_cut S w _ h hS, mx_cut S h hS]

/-- The reciprocal of something above zero is a real number at or above zero. -/
theorem inv_real {D : EReal} (hD : 0 < D) : ∃ r : ℝ, 0 ≤ r ∧ D⁻¹ = (r : EReal) := by
  induction D using EReal.rec with
  | bot => exact absurd hD (by simp)
  | top => exact ⟨0, le_refl _, by rw [EReal.inv_top]; rfl⟩
  | coe d => exact ⟨d⁻¹, inv_nonneg.mpr (EReal.coe_nonneg.mp hD.le), (EReal.coe_inv d).symm⟩

/-- A quotient after the sum is the sum of the quotients. -/
theorem div_sum (e v : ℕ → EReal) {D : EReal} (hD : 0 < D) (n : ℕ) :
    Ideal.div (∑ j ∈ Finset.range n, e j * v j) D = ∑ j ∈ Finset.range n, v j * Ideal.div (e j) D := by
  obtain ⟨r, hr, he⟩ := inv_real hD
  have hd : ∀ x, Ideal.div x D = x * (r : EReal) := fun x => by rw [Ideal.div, if_neg hD.ne', he]
  rw [hd, sum_mul_real _ _ r hr]
  refine Finset.sum_congr rfl fun j _ => ?_
  rw [hd, mul_comm (e j), mul_assoc]

/-- The whole softmax: running sums by powers of two over the keys up to `n`, divided at the end,
are the exponential's weights over all `k` keys, each divided first. -/
theorem softmax (S v o : ℕ → EReal) (ho : ∀ j, o j = 1) {ε : EReal} (hε : 0 < ε) {n k : ℕ} (h : n ≤ k) (hS : ∀ j, n ≤ j → S j = ⊥) :
    Ideal.div (acc (fun j => S j * (lam : EReal)) v n) (max (acc (fun j => S j * (lam : EReal)) o n) ε)
      = ∑ j ∈ Finset.range k, v j * Ideal.div (Ideal.exp (S j - mx S k)) (max (∑ x ∈ Finset.range k, Ideal.exp (S x - mx S k)) ε) := by
  rw [acc_full S v h hS, acc_full S o h hS, div_sum _ _ (lt_max_of_lt_right hε)]
  refine Finset.sum_congr rfl fun j _ => ?_
  rw [Finset.sum_congr rfl fun x _ => by rw [ho, mul_one]]

end Cert.Online

end
-- ==== Proof.FlashClaims.lean ====
/-
The attention call's claims: its reference's array is the kernel's.
-/
module

public import proofs.«01_k».proof.Defs
public import proofs.«01_k».proof.Proof.FlashIdealValue
public import proofs.«01_k».proof.Proof.FlashRef
public import proofs.«01_k».proof.Proof.FlashMath
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Attn

open Cert.Online Cert.KernelIdeal.Flash

variable (q : Cert.KernelIdeal.S16384x512.Idx → EReal) (kv : Cert.KernelIdeal.S2x8192x512.Idx → EReal)

/-- A score of the reference: query head `(k, h, i)` of token `n` against key `j`, an eighth of the product, later keys cut. -/
def scr (n k h i j : ℕ) : EReal :=
  if j ≤ n % 8192 then (∑ d : Fin 64, kvat kv (n / 8192) j (k * 128 + (i * 64 + d.val)) * qat q n (k * 256 + h * 128 + i * 64 + d.val)) * ((8⁻¹ : ℝ) : EReal) else ⊥

theorem scr_cut (n k h i j : ℕ) (hj : n % 8192 < j) : scr q kv n k h i j = ⊥ := if_neg (by omega)

/-- The kernel's score is the reference's, scaled: the kernel's product runs over both halves of the lanes, one of them zero. -/
theorem sc_eq (n k h i : ℕ) (hn : n < 16384) (hh : h < 2) (hi : i < 2) (j : ℕ) :
    sc q kv (n / 8192) (n % 8192 / 512) (k * 2 + i) (h * 512 + n % 512) j = scr q kv n k h i j * (lam : EReal) := by
  have hR : (h * 512 + n % 512) % 512 = n % 512 := by omega
  have hD : (h * 512 + n % 512) / 512 = h := by omega
  have hg : (k * 2 + i) / 2 = k := by omega
  have hp : (k * 2 + i) % 2 = i := by omega
  have ht : n % 8192 / 512 * 512 + n % 512 = n % 8192 := by omega
  have hrow : (n / 8192 * 16 + n % 8192 / 512) * 512 + n % 512 = n := by omega
  unfold sc scr
  rw [hR, ht]
  by_cases hj : j ≤ n % 8192
  · rw [if_pos hj, if_pos hj, mul_assoc, ← EReal.coe_mul]
    have hs : (8⁻¹ : ℝ) * lam = scaleR := by unfold lam scaleR; rw [mul_inv]
    have h0 : (0 : ℝ) ≤ scaleR := hs ▸ mul_nonneg (by norm_num) lam_pos.le
    rw [hs, sum_mul_real _ _ _ h0, Fin.sum_univ_two_halves 64 64 rfl]
    unfold qs
    rw [hR, hD, hg, hp, hrow]
    have keep : ∀ d : Fin 64, (qat q n ((k * 2 + h) * 128 + (i * 64 + d.val)) * (scaleR : EReal)) * kvat kv (n / 8192) j (k * 128 + (i * 64 + d.val))
        = kvat kv (n / 8192) j (k * 128 + (i * 64 + d.val)) * qat q n (k * 256 + h * 128 + i * 64 + d.val) * (scaleR : EReal) := fun d => by
      rw [show (k * 2 + h) * 128 + (i * 64 + d.val) = k * 256 + h * 128 + i * 64 + d.val by omega, mul_comm, mul_assoc]
    obtain rfl | rfl : i = 0 ∨ i = 1 := by omega
    · rw [Finset.sum_congr rfl fun d _ => (keep d).symm]
      refine Eq.trans (congrArg₂ (· + ·) (Finset.sum_congr rfl fun d _ => ?_) (Finset.sum_eq_zero fun d _ => ?_)) (add_zero _)
      · have hd := d.isLt
        show (if d.val / 64 = 0 then _ else _) * _ = _
        rw [if_pos (by omega), Nat.zero_mul, Nat.zero_add]
      · have hd := d.isLt
        show (if (64 + d.val) / 64 = 0 then _ else _) * _ = _
        rw [if_neg (by omega), zero_mul]
    · rw [Finset.sum_congr rfl fun d _ => (keep d).symm]
      refine Eq.trans (congrArg₂ (· + ·) (Finset.sum_eq_zero fun d _ => ?_) (Finset.sum_congr rfl fun d _ => ?_)) (zero_add _)
      · have hd := d.isLt
        show (if d.val / 64 = 1 then _ else _) * _ = _
        rw [if_neg (by omega), zero_mul]
      · have hd := d.isLt
        show (if (64 + d.val) / 64 = 1 then _ else _) * _ = _
        rw [if_pos (by omega), Nat.one_mul]
  · rw [if_neg hj, if_neg hj, EReal.bot_mul_coe_of_pos lam_pos]

section
open Cert.ReferenceIdeal.Flash

theorem score_scr (n : Fin 16384) (k h i : Fin 2) (j : Fin 8192) :
    score q kv (ix6 ⟨n.val / 8192, by omega⟩ ⟨n.val % 8192, by omega⟩ k h i j) = scr q kv n.val k.val h.val i.val j.val := by
  have hn := n.isLt
  rw [Cert.ReferenceIdeal.Flash.score_at, eighth, neg_inf]
  unfold scr
  refine if_congr Iff.rfl (congrArg (· * _) (Finset.sum_congr rfl fun d _ => ?_)) rfl
  rw [keys_at, heads_at]
  unfold kvat qat
  have hk := k.isLt
  have hh := h.isLt
  have hi := i.isLt
  have hd := d.isLt
  refine congrArg₂ (· * ·) (congrArg kv ?_) (congrArg q ?_)
  · congr 1 <;> refine Fin.ext ?_
    · show n.val / 8192 = n.val / 8192 % 2; omega
    · show j.val = j.val % 8192; omega
    · show _ = (k.val * 128 + (i.val * 64 + d.val)) % 512; rw [Nat.mod_eq_of_lt (by omega)]
  · congr 1 <;> refine Fin.ext ?_
    · show n.val / 8192 * 8192 + n.val % 8192 = n.val % 16384; omega
    · show _ = (k.val * 256 + h.val * 128 + i.val * 64 + d.val) % 512; rw [Nat.mod_eq_of_lt (by omega)]

theorem top_mx (n : Fin 16384) (k h i : Fin 2) :
    top q kv (ix5 ⟨n.val / 8192, by omega⟩ ⟨n.val % 8192, by omega⟩ k h i) = mx (scr q kv n.val k.val h.val i.val) 8192 := by
  rw [top_at, neg_inf]
  have e : (fun j : Fin 8192 => score q kv (ix6 ⟨n.val / 8192, by omega⟩ ⟨n.val % 8192, by omega⟩ k h i j))
      = fun j : Fin 8192 => scr q kv n.val k.val h.val i.val (0 + j.val) := funext fun j => by rw [score_scr, Nat.zero_add]
  rw [e, ← Nat.zero_add 8192, mx_add, mx_zero, max_eq_right bot_le]

theorem weight_scr (n : Fin 16384) (k h i : Fin 2) (j : Fin 8192) :
    weight q kv (ix6 ⟨n.val / 8192, by omega⟩ ⟨n.val % 8192, by omega⟩ k h i j)
      = Ideal.exp (scr q kv n.val k.val h.val i.val j.val - mx (scr q kv n.val k.val h.val i.val) 8192) := by
  rw [weight_at, score_scr, top_mx]
  by_cases hj : j.val ≤ n.val % 8192
  · exact if_pos hj
  · rw [scr_cut q kv _ _ _ _ _ (by omega), exp_cut]; exact if_neg hj

theorem mass_scr (n : Fin 16384) (k h i : Fin 2) :
    mass q kv (ix5 ⟨n.val / 8192, by omega⟩ ⟨n.val % 8192, by omega⟩ k h i)
      = ∑ j ∈ Finset.range 8192, Ideal.exp (scr q kv n.val k.val h.val i.val j - mx (scr q kv n.val k.val h.val i.val) 8192) := by
  rw [mass_at, Finset.sum_range]
  exact Finset.sum_congr rfl fun j _ => weight_scr q kv n k h i j

/-- The reference's array is the kernel's. -/
theorem ref_eq (n : Fin 16384) (c : Fin 1024) : REF q kv (ix2 n c) = ATT q kv n.val c.val := by
  have hn := n.isLt
  have hc := c.isLt
  unfold ATT att
  have hR : c.val % 256 / 128 = c.val / 128 % 2 := by omega
  have hg : c.val / 256 = c.val / 512 * 2 + c.val / 256 % 2 := by omega
  have hs : sc q kv (n.val / 8192) (n.val % 8192 / 512) (c.val / 256) (c.val % 256 / 128 * 512 + n.val % 512)
      = fun j => scr q kv n.val (c.val / 512) (c.val / 128 % 2) (c.val / 256 % 2) j * (lam : EReal) := funext fun j => by
    rw [hR]
    conv_lhs => rw [hg]
    exact sc_eq q kv n.val (c.val / 512) (c.val / 128 % 2) (c.val / 256 % 2) hn (by omega) (by omega) j
  rw [hs]
  refine ((softmax (scr q kv n.val (c.val / 512) (c.val / 128 % 2) (c.val / 256 % 2)) _ _ (fun j => ?_) floor_pos
    (show n.val % 8192 / 512 * 512 + 512 ≤ 8192 by omega) (fun j hj => scr_cut q kv _ _ _ _ _ (by omega))).trans ?_).symm
  · exact if_neg (by omega)
  · rw [REF_at, Finset.sum_range]
    refine Finset.sum_congr rfl fun j _ => ?_
    have hj := j.isLt
    rw [prob_at, mass_scr, weight_scr]
    refine congrArg₂ (· * ·) ?_ rfl
    rw [vals_at]
    show (if c.val % 128 < 128 then _ else _) = _
    rw [if_pos (by omega)]
    unfold kvat
    refine congrArg kv ?_
    congr 1 <;> refine Fin.ext ?_
    · show n.val / 8192 % 2 = n.val / 8192; omega
    · show j.val % 8192 = j.val; omega
    · show (256 + c.val / 256 / 2 * 128 + c.val % 128) % 512 = 256 + c.val / 512 * 128 + c.val % 128; omega

end

/-! ## The claims -/

/-- `Cert.quiescent_ReferenceIdeal`. -/
theorem frame_ref : Cert.quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems rfl r.2⟩

/-- `Cert.preserves_Kernel_KernelIdeal`: each named constant's value rounds to the literal it stands for. -/
theorem preserves : Cert.preserves_Kernel_KernelIdeal :=
  ⟨IdealRules.named_const.statement Cert.KernelIdeal.κ "m_init" .f32 0xF0C9F2CA#32 ⊥ rfl,
    IdealRules.named_const.statement Cert.KernelIdeal.κ "q_scale" .f32 0x3E38AA3B#32 (((8 * (Real.log 2))⁻¹ : ℝ) : EReal) rfl,
    IdealRules.named_const.statement Cert.KernelIdeal.κ "mask" .f32 0xF149F2CA#32 ⊥ rfl⟩

/-- `Cert.algebraic_KernelIdeal_ReferenceIdeal`. -/
theorem algebraic : Cert.algebraic_KernelIdeal_ReferenceIdeal (hKernelIdeal := Cert.KernelIdeal.Gen.facts) (hReferenceIdeal := Cert.ReferenceIdeal.Gen.facts) := by
  pair_intro
  · run_from ((θ_run (Cert.KernelIdeal.defs (F := Ideal)) _ _).mono (fun _ h => h.1) (Cert.KernelIdeal.Flash.run m g))
  · refine θ_run_mono (Cert.ReferenceIdeal.Value.run (F := Ideal) m' g') fun r h c => ⟨(h c).1.trans ?_, (h c).2⟩
    obtain ⟨h0, h1⟩ := hagree c
    refine Eq.trans (b := Cert.ReferenceIdeal.Flash.REF (m' (c.tc.loc Cert.ReferenceIdeal.main_arg0)) (m' (c.tc.loc Cert.ReferenceIdeal.main_arg1))) rfl ?_
    rw [h0, h1]
    refine funext fun i => ?_
    obtain ⟨a, b, rfl⟩ : ∃ (a : Fin 16384) (b : Fin 1024), i = ix2 a b := ⟨i 0, i 1, eq_ix2 i⟩
    exact ref_eq _ _ a b

end Cert.Proof.Attn

end
-- ==== Proof.FfnBlock.lean ====
/- The feed-forward half-step's body, read as values: what its two cases leave in the scratches and in the output
   block, as the kernel's own named payloads of the staged blocks. -/
module

public import proofs.«01_k».proof.Proof.Gen.FfnIdeal.Value
public import Idealize.ShloMosaic.Lib.Pointwise
public import Idealize.ShloMosaic.Lib.Tactic

@[expose] public section

set_option maxRecDepth 16384

noncomputable section

namespace Cert.FfnIdeal.Half

open Cert.FfnIdeal Cert.FfnIdeal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .f32) (harg9 : arg9.IsWhole)
  (x0 : Vec F S512x1024 .f32) (x1 : Vec F S1x1024 .f32) (x2 : Vec F S1024x1408 .bf16) (x3 : Vec F S1024x1408 .bf16) (x4 : Vec F S1408x1024 .bf16)

/-- The first half leaves in the first scratch the normalized rows. -/
theorem first_xn (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S512x1024) off0]
  simp only [View.readAt_eq_ld, harg2.read_unread, harg3.read_unread, View.ld_unit_zero (S := S512x1024) off0, View.ld_unit_zero (S := S1x1024) off0]

/-- The first half leaves in the second scratch the first partial product, over zeros. -/
theorem first_acc (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 x1) x2 x3 (k0_pay2 (F := F)) x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x1024) off0]
  simp only [View.readCov_unit_zero (S := S512x1024) _ off0, View.readAt_eq_ld, harg2.read_unread, harg3.read_unread, harg4.read_unread, harg5.read_unread, harg6.read_unread, View.ld_unit_zero (S := S512x1024) off0, View.ld_unit_zero (S := S1x1024) off0, View.ld_unit_zero (S := S1024x1408) off0, View.ld_unit_zero (S := S1408x1024) off0]

/-- The second half stores the block plus half of the whole product. -/
theorem second_out (hc0 : ¬cond0_0 i) (hc1 : cond0_1 i) (xs0 : Vec F S512x1024 .bf16) (xs1 : Vec F S512x1024 .f32) :
    out0_B_5 c i arg2 harg2 arg3 harg3 arg4 harg4 arg5 harg5 arg6 harg6 arg7 harg7 arg8 harg8 arg9 harg9 hc0 hc1 x0 x1 x2 x3 x4 xs0 xs1
      = k0_pay4 x0 (k0_pay3 xs0 x2 x3 xs1 x4) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S512x1024) off0]
  simp only [View.readCov_unit_zero (S := S512x1024) _ off0, View.readAt_eq_ld, harg2.read_unread, harg4.read_unread, harg5.read_unread, harg6.read_unread, harg8.read_unread, harg9.read_unread, View.ld_unit_zero (S := S512x1024) off0, View.ld_unit_zero (S := S1024x1408) off0, View.ld_unit_zero (S := S1408x1024) off0]
end

end Cert.FfnIdeal.Half

end
-- ==== Proof.FfnValue.lean ====
/- The feed-forward half-step's value over the extended reals: what the result array holds at a row and a column, the
   two halves of the hidden axis being one sum, and the reference's array, which is the same function. -/
module

public import proofs.«01_k».proof.Proof.FfnBlock
public import proofs.«01_k».proof.Proof.Gen.FfnRefIdeal.Run

@[expose] public section

set_option maxRecDepth 16384

noncomputable section

open Idealize.ShloMosaic Idealize.ShloMosaic.TcCoe Idealize.SL.Sem

/-! ## The mathematics -/

namespace Ffn

/-- A row normalized by the root of its mean square plus `1e-6`, times the gains. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- One hidden unit of a normalized row: `a · sigmoid a · b` of the two products. -/
def unit (y wa wb : Fin 1024 → EReal) : EReal :=
  (∑ k, y k * wa k) * Ideal.logistic (∑ k, y k * wa k) * (∑ k, y k * wb k)

end Ffn

/-! ## The kernel -/

namespace Cert.FfnIdeal.Half

open Cert.FfnIdeal Cert.FfnIdeal.Gen

variable (m : (ℓ : Loc nD τ sig) → Buf (Elt Ideal) ℓ)

/-- What the first payload stores at a row and a column. -/
theorem pay1_at (x : FVec Ideal S512x1024 .f32) (g : FVec Ideal S1x1024 .f32) (r : Fin 512) (k : Fin 1024) :
    k0_pay1 (F := Ideal) x g (ix2 r k) = Ffn.norm (fun k => x (ix2 r k)) (fun k => g (ix2 0 k)) k := by
  pointwise [k0_pay1, Ffn.norm]

theorem pay2_at (r : Fin 512) (k : Fin 1024) : k0_pay2 (F := Ideal) (ix2 r k) = 0 := by
  pointwise [k0_pay2]

/-- What the second payload stores: what the scratch held, plus the partial product over this half's hidden units. -/
theorem pay3_at (y : FVec Ideal S512x1024 .bf16) (wa wb : FVec Ideal S1024x1408 .bf16) (acc : FVec Ideal S512x1024 .f32)
    (wo : FVec Ideal S1408x1024 .bf16) (r : Fin 512) (c : Fin 1024) :
    k0_pay3 (F := Ideal) y wa wb acc wo (ix2 r c)
      = acc (ix2 r c) + ∑ f : Fin 1408, Ffn.unit (fun k => y (ix2 r k)) (fun k => wa (ix2 k f)) (fun k => wb (ix2 k f)) * wo (ix2 f c) := by
  pointwise [k0_pay3, Ffn.unit]

/-- What the last payload stores. -/
theorem pay4_at (x acc : FVec Ideal S512x1024 .f32) (r : Fin 512) (c : Fin 1024) :
    k0_pay4 (F := Ideal) x acc (ix2 r c) = x (ix2 r c) + Ideal.ofBits .f32 0x3F000000#32 * acc (ix2 r c) := by
  pointwise [k0_pay4]

/-- The arguments' contents at launch, as functions of an index. -/
abbrev X (c : Dev nD) : FVec Ideal S16384x1024 .f32 := m ((c : Thread nD τ).loc main_arg0)
abbrev Gn (c : Dev nD) : FVec Ideal S1024 .f32 := m ((c : Thread nD τ).loc main_arg1)
abbrev Win (c : Dev nD) : FVec Ideal S1024x5632 .f32 := m ((c : Thread nD τ).loc main_arg2)
abbrev Wout (c : Dev nD) : FVec Ideal S2816x1024 .f32 := m ((c : Thread nD τ).loc main_arg3)

theorem V_v0 (c : Dev nD) : V m c main_v0 = broadcastInDim S1x1024 ![1] bcast_S1024_S1x1024_1 (Gn m c) := by
  entry_read
  rfl
theorem V_v1 (c : Dev nD) : V m c main_v1 = (truncf .bf16 (Win m c) bitsLt_bf16_f32 : FVec Ideal S1024x5632 .bf16) := by
  entry_read
  rfl
theorem V_v2 (c : Dev nD) : V m c main_v2 = (truncf .bf16 (Wout m c) bitsLt_bf16_f32 : FVec Ideal S2816x1024 .bf16) := by
  entry_read
  rfl

/-- The printed index maps of the staged windows, decided over the grid. -/
theorem idx_in : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = 2 + t.val % 2
    ∧ win0_4.index t (0 : Fin 2) = t.val % 2 ∧ win0_4.index t (1 : Fin 2) = 0 :=
  (by decide +kernel : ∀ t : Fin grid0.N, _)

theorem blk_x (c : Dev nD) (t : Fin cfg0.N) (r : Fin 512) (k : Fin 1024) (n : Fin 16384) (hn : n.val = 512 * (t.val / 2) + r.val) :
    (iblk m c 0 t : FVec Ideal S512x1024 .f32) (ix2 r k) = X m c (ix2 n k) := by
  obtain ⟨e0, e1, -⟩ := idx_in t
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 512 + 1 * r.val = n.val; omega
  | ⟨1, _⟩ => show win0_0.index t (1 : Fin 2) * 1024 + 1 * k.val = k.val; omega

theorem blk_g (c : Dev nD) (t : Fin cfg0.N) (k : Fin 1024) :
    (iblk m c 1 t : FVec Ideal S1x1024 .f32) (ix2 0 k) = Gn m c (ix1 k) := by
  obtain ⟨-, -, e0, e1, -⟩ := idx_in t
  show V m c main_v0 (((cfg0.win 1).blk t).view.emb (ix2 0 k)) = _
  rw [V_v0, show ((cfg0.win 1).blk t).view.emb (ix2 0 k) = (ix2 0 k : S1x1024.Idx) from funext fun a => Fin.ext (by
    match a with
    | ⟨0, _⟩ => show win0_1.index t (0 : Fin 2) * 1 + 1 * 0 = 0; omega
    | ⟨1, _⟩ => show win0_1.index t (1 : Fin 2) * 1024 + 1 * k.val = k.val; omega)]
  pointwise

theorem blk_wa (c : Dev nD) (t : Fin cfg0.N) (k : Fin 1024) (f : Fin 1408) (n : Fin 5632) (hn : n.val = 1408 * (t.val % 2) + f.val) :
    (iblk m c 2 t : FVec Ideal S1024x1408 .bf16) (ix2 k f) = Win m c (ix2 k n) := by
  obtain ⟨-, -, -, -, e0, e1, -⟩ := idx_in t
  show V m c main_v1 (((cfg0.win 2).blk t).view.emb (ix2 k f)) = _
  rw [V_v1]
  refine congrArg (Win m c) (funext fun a => Fin.ext ?_)
  match a with
  | ⟨0, _⟩ => show win0_2.index t (0 : Fin 2) * 1024 + 1 * k.val = k.val; omega
  | ⟨1, _⟩ => show win0_2.index t (1 : Fin 2) * 1408 + 1 * f.val = n.val; omega

theorem blk_wb (c : Dev nD) (t : Fin cfg0.N) (k : Fin 1024) (f : Fin 1408) (n : Fin 5632) (hn : n.val = 2816 + (1408 * (t.val % 2) + f.val)) :
    (iblk m c 3 t : FVec Ideal S1024x1408 .bf16) (ix2 k f) = Win m c (ix2 k n) := by
  obtain ⟨-, -, -, -, -, -, e0, e1, -⟩ := idx_in t
  show V m c main_v1 (((cfg0.win 3).blk t).view.emb (ix2 k f)) = _
  rw [V_v1]
  refine congrArg (Win m c) (funext fun a => Fin.ext ?_)
  match a with
  | ⟨0, _⟩ => show win0_3.index t (0 : Fin 2) * 1024 + 1 * k.val = k.val; omega
  | ⟨1, _⟩ => show win0_3.index t (1 : Fin 2) * 1408 + 1 * f.val = n.val; omega

theorem blk_wo (c : Dev nD) (t : Fin cfg0.N) (f : Fin 1408) (k : Fin 1024) (n : Fin 2816) (hn : n.val = 1408 * (t.val % 2) + f.val) :
    (iblk m c 4 t : FVec Ideal S1408x1024 .bf16) (ix2 f k) = Wout m c (ix2 n k) := by
  obtain ⟨-, -, -, -, -, -, -, -, e0, e1⟩ := idx_in t
  show V m c main_v2 (((cfg0.win 4).blk t).view.emb (ix2 f k)) = _
  rw [V_v2]
  refine congrArg (Wout m c) (funext fun a => Fin.ext ?_)
  match a with
  | ⟨0, _⟩ => show win0_4.index t (0 : Fin 2) * 1408 + 1 * f.val = n.val; omega
  | ⟨1, _⟩ => show win0_4.index t (1 : Fin 2) * 1024 + 1 * k.val = k.val; omega

/-- The half-step at a row and a column, of the launch contents. -/
def half (x : FVec Ideal S16384x1024 .f32) (g : FVec Ideal S1024 .f32) (win : FVec Ideal S1024x5632 .f32)
    (wout : FVec Ideal S2816x1024 .f32) (r : Fin 16384) (c : Fin 1024) : EReal :=
  x (ix2 r c) + Ideal.ofBits .f32 0x3F000000#32 * ∑ f : Fin 2816,
    Ffn.unit (Ffn.norm (fun k => x (ix2 r k)) fun k => g (ix1 k)) (fun k => win (ix2 k ⟨f.val, by omega⟩))
      (fun k => win (ix2 k ⟨2816 + f.val, by omega⟩)) * wout (ix2 f c)

/-- What the second point of a block writes: the half-step at each place of the block. -/
theorem point_at (c : Dev nD) (t : Fin cfg0.N) (ht : t.val % 2 = 1) (r : Fin 512) (k : Fin 1024) (n : Fin 16384)
    (hn : n.val = 512 * (t.val / 2) + r.val) :
    ((outsAt0 m c t.val t.isLt).1 : FVec Ideal S512x1024 .f32) (ix2 r k) = half (X m c) (Gn m c) (Win m c) (Wout m c) n k := by
  have hp : t.val - 1 < cfg0.N := Nat.lt_of_le_of_lt (Nat.sub_le _ _) t.isLt
  have hq : (t.val - 1) % 2 = 0 := by omega
  rw [outsAt0_B m c t (by omega) ht]
  dsimp only
  rw [second_out, outsAt0_A m c ⟨t.val - 1, hp⟩ hq (by omega : ¬(t.val - 1) % 2 = 1)]
  dsimp only
  rw [first_xn, first_acc]
  have hy : (fun k => k0_pay1 (F := Ideal) (iblk m c 0 ⟨t.val - 1, hp⟩) (iblk m c 1 ⟨t.val - 1, hp⟩) (ix2 r k))
      = Ffn.norm (fun k => X m c (ix2 n k)) fun k => Gn m c (ix1 k) := by
    funext k
    rw [pay1_at]
    congr 1
    · funext k; exact blk_x m c _ r k n (by show n.val = 512 * ((t.val - 1) / 2) + r.val; omega)
    · funext k; exact blk_g m c _ k
  rw [pay4_at, pay3_at, pay3_at, pay2_at, blk_x m c t r k n hn, hy, zero_add]
  unfold half
  rw [Fin.sum_univ_two_halves 1408 1408 rfl]
  refine congrArg₂ (· + ·) rfl (congrArg₂ (· * ·) rfl (congrArg₂ (· + ·) ?_ ?_))
  · refine Finset.sum_congr rfl fun f _ => ?_
    rw [blk_wo m c ⟨t.val - 1, hp⟩ f k ⟨f.val, by omega⟩ (by show f.val = 1408 * ((t.val - 1) % 2) + f.val; omega)]
    congr 2
    · funext k; exact blk_wa m c _ k f _ (by show f.val = 1408 * ((t.val - 1) % 2) + f.val; omega)
    · funext k; exact blk_wb m c _ k f _ (by show 2816 + f.val = 2816 + (1408 * ((t.val - 1) % 2) + f.val); omega)
  · refine Finset.sum_congr rfl fun f _ => ?_
    rw [blk_wo m c t f k ⟨1408 + f.val, by omega⟩ (by show 1408 + f.val = 1408 * (t.val % 2) + f.val; omega)]
    congr 2
    · funext k; exact blk_wa m c _ k f _ (by show 1408 + f.val = 1408 * (t.val % 2) + f.val; omega)
    · funext k; exact blk_wb m c _ k f _ (by show 2816 + (1408 + f.val) = 2816 + (1408 * (t.val % 2) + f.val); omega)

/-- The result array after the run, at a row and a column. -/
theorem result_at (c : Dev nD) (r : Fin 16384) (k : Fin 1024) :
    Value.G5 m c (ix2 r k) = half (X m c) (Gn m c) (Win m c) (Wout m c) r k := by
  have hN : cfg0.N = 64 := N_0
  have hp : Value.pt5Of (ix2 r k) = 2 * (r.val / 512) + 1 := by
    show 2 * (1 * (r.val / 512 - 0) + 1 * (k.val / 1024 - 0)) + 1 = _
    omega
  have hlt : Value.pt5Of (ix2 r k) < cfg0.N := by rw [hp]; omega
  unfold Value.G5
  rw [dif_pos hlt, ← Value.outsAt0_sweep m c _ hlt]
  have hl : Value.loc5Of (ix2 r k) = ix2 (⟨r.val % 512, Nat.mod_lt _ (by decide)⟩ : Fin 512) k := by
    funext a; apply Fin.ext
    match a with
    | ⟨0, _⟩ => rfl
    | ⟨1, _⟩ => show k.val % 1024 = k.val; omega
  rw [hl]
  exact point_at m c ⟨_, hlt⟩ (by show Value.pt5Of (ix2 r k) % 2 = 1; omega) _ k r
    (by show r.val = 512 * (Value.pt5Of (ix2 r k) / 2) + r.val % 512; omega)

end Cert.FfnIdeal.Half

end
-- ==== Proof.FfnClaims.lean ====
/- The feed-forward reference's array at an index over the extended reals, and the claims about the half-step's call. -/
module

public import proofs.«01_k».proof.Defs
public import proofs.«01_k».proof.Proof.FfnValue
public import proofs.«01_k».proof.Proof.Gen.Ffn.Frame
public import proofs.«01_k».proof.Proof.Gen.FfnIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FfnRefIdeal.Half

open Cert.FfnRefIdeal Cert.FfnRefIdeal.Gen

variable (x : FVec Ideal S16384x1024 .f32) (g : FVec Ideal S1024 .f32) (win : FVec Ideal S1024x5632 .f32)
  (wout : FVec Ideal S2816x1024 .f32)

/-- The reference's normalized rows, its hidden products and its array, of the arguments. -/
def normed : FVec Ideal S16384x1024 .f32 := (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))
def hidden : FVec Ideal S16384x5632 .f32 := Host.dotGeneral dot_S16384x1024_S1024x5632_S16384x5632_1_0_0_1_n_n none (normed x g) win
def REF : FVec Ideal S16384x1024 .f32 := addf x (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] (hidden x g win) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (hidden x g win) slices_S16384x5632_S16384x2816_0_0)))))) (extractStridedSlice S16384x2816 ![0, 2816] (hidden x g win) slices_S16384x5632_S16384x2816_0_2816)) wout))

theorem normed_at (r : Fin 16384) (k : Fin 1024) :
    normed x g (ix2 r k) = Ffn.norm (fun k => x (ix2 r k)) (fun k => g (ix1 k)) k := by
  pointwise [normed, Ffn.norm]

theorem hidden_at (r : Fin 16384) (n : Fin 5632) :
    hidden x g win (ix2 r n) = ∑ k : Fin 1024, Ffn.norm (fun k => x (ix2 r k)) (fun k => g (ix1 k)) k * win (ix2 k n) := by
  unfold hidden
  pointwise
  simp only [normed_at]

/-- The reference's array is the half-step the kernel computes. -/
theorem REF_at (r : Fin 16384) (c : Fin 1024) : REF x g win wout (ix2 r c) = Cert.FfnIdeal.Half.half x g win wout r c := by
  unfold REF Cert.FfnIdeal.Half.half
  pointwise
  simp only [hidden_at]
  rfl

end Cert.FfnRefIdeal.Half

namespace Cert.Proof.Half

/-- `Cert.quiescent_FfnRefIdeal`: a program of host operations alone declares no semaphore. -/
theorem frame_ref : Cert.quiescent_FfnRefIdeal (hFfnRefIdeal := Cert.FfnRefIdeal.Gen.facts) := fun m ρ _ =>
  θ_run_mono (Cert.FfnRefIdeal.Value.run (F := Ideal) m ρ) fun r h => ⟨fun c => (h c).2, sem_eq_zero_of_no_sems rfl r.2⟩

/-- `Cert.algebraic_FfnIdeal_FfnRefIdeal`: the two result arrays agree at every row and column. -/
theorem algebraic : Cert.algebraic_FfnIdeal_FfnRefIdeal (hFfnIdeal := Cert.FfnIdeal.Gen.facts) (hFfnRefIdeal := Cert.FfnRefIdeal.Gen.facts) := by
  pair_intro
  · run_from (Cert.FfnIdeal.Value.run m g)
  · refine θ_run_mono (Cert.FfnRefIdeal.Value.run (F := Ideal) m' g') fun r h c => ⟨(h c).1.trans ?_, (h c).2⟩
    obtain ⟨h0, h1, h2, h3⟩ := hagree c
    rw [h0, h1, h2, h3]
    refine Eq.trans (b := Cert.FfnRefIdeal.Half.REF _ _ _ _) rfl ?_
    refine funext fun i => ?_
    obtain ⟨a, b, rfl⟩ : ∃ (a : Fin 16384) (b : Fin 1024), i = ix2 a b := ⟨i 0, i 1, eq_ix2 i⟩
    exact (Cert.FfnRefIdeal.Half.REF_at _ _ _ _ a b).trans (Cert.FfnIdeal.Half.result_at m c a b).symm

end Cert.Proof.Half

end
-- ==== Proof.MergeMath.lean ====
/- The gated merge of one row, as a function of that row's inputs and the weights over the extended reals: the
   normalized row, its three gates per column, the three gated sparse outputs summed, the two attention maps of a
   head subtracted and normalized, and the projections. -/
module

public import Idealize.ShloMosaic.Lib.Pointwise
public import Idealize.ShloMosaic.Lib.Tactic

@[expose] public section

noncomputable section

namespace Merge

open Idealize.ShloMosaic

/-- A row normalized by the root of its mean square plus `1e-6`, times the gains; `b` is the word of the count. -/
def norm {n : Nat} (b : BitVec 32) (x g : Fin n → EReal) (k : Fin n) : EReal :=
  x k * Ideal.rsqrt (Ideal.div (∑ l, x l * x l) (Ideal.ofBits .f32 b) + Ideal.ofBits .f32 0x358637BD#32) * g k

/-- The factor of the second map: two exponentials of products of the four vectors, plus the initial value. -/
def lam (d : Fin 4 → Fin 64 → EReal) (li : EReal) : EReal :=
  Ideal.exp (∑ k, d 0 k * d 1 k) - Ideal.exp (∑ k, d 2 k * d 3 k) + li

/-- One head of the difference: the first map less the scaled second, normalized and scaled. -/
def head (lm li : EReal) (a b g : Fin 128 → EReal) (k : Fin 128) : EReal :=
  norm 0x43000000#32 (fun l => a l - lm * b l) g k * (Ideal.ofBits .f32 0x3F800000#32 - li)

/-- The column of the two maps' row at which head `h` holds lane `k` of its map `p`. -/
def spot (h : Fin 4) (p : Fin 2) (k : Fin 128) : Fin 1024 :=
  ⟨h.val / 2 * 512 + p.val * 256 + h.val % 2 * 128 + k.val, by omega⟩

/-- The lane of the gates' row that holds the gate of branch `c` at column `w`. -/
def lane (w : Fin 512) (c : Fin 3) : Fin 128 := ⟨w.val / 64 * 3 + c.val, by omega⟩

/-- The sparse branch at a column: three gated outputs. -/
def sparse (gn : Fin 128 → EReal) (oc os ow : Fin 512 → EReal) (w : Fin 512) : EReal :=
  gn (lane w 0) * oc w + gn (lane w 1) * os w + gn (lane w 2) * ow w

/-- The difference branch at a column. -/
def diff (lm li : EReal) (od : Fin 1024 → EReal) (sg : Fin 128 → EReal) (w : Fin 512) : EReal :=
  head lm li (fun l => od (spot ⟨w.val / 128, by omega⟩ 0 l)) (fun l => od (spot ⟨w.val / 128, by omega⟩ 1 l)) sg ⟨w.val % 128, by omega⟩

/-- A branch's gate at a column. -/
def gate (y : Fin 1024 → EReal) (wmg : Fin 1024 → Fin 3072 → EReal) (c : Fin 3) (k : Fin 1024) : EReal :=
  Ideal.logistic (∑ j, y j * wmg j ⟨c.val * 1024 + k.val, by omega⟩)

/-- The three gated projections at a column, and the row's result there. -/
def mixed (y : Fin 1024 → EReal) (wmg : Fin 1024 → Fin 3072 → EReal) (a b c : Fin 512 → EReal)
    (wb : Fin 3 → Fin 512 → Fin 1024 → EReal) (k : Fin 1024) : EReal :=
  gate y wmg 0 k * (∑ w, a w * wb 0 w k) + gate y wmg 1 k * (∑ w, b w * wb 1 w k) + gate y wmg 2 k * (∑ w, c w * wb 2 w k)

def row (x ng : Fin 1024 → EReal) (wmg : Fin 1024 → Fin 3072 → EReal) (oc os ow : Fin 512 → EReal) (gn : Fin 128 → EReal)
    (od : Fin 1024 → EReal) (om : Fin 512 → EReal) (dl : Fin 4 → Fin 64 → EReal) (li : EReal) (sg : Fin 128 → EReal)
    (wb : Fin 3 → Fin 512 → Fin 1024 → EReal) (wo : Fin 1024 → Fin 1024 → EReal) (k : Fin 1024) : EReal :=
  x k + ∑ j, mixed (norm 0x44800000#32 x ng) wmg (sparse gn oc os ow) (diff (lam dl li) li od sg) om wb j * wo j k

/-- A sum against a one-hot vector reads one entry. -/
theorem pick (f : Fin 128 → EReal) (l : Fin 128) : ∑ k, f k * (if k = l then (1 : EReal) else 0) = f l := by
  rw [Finset.sum_eq_single l (fun k _ h => by rw [if_neg h, mul_zero]) (fun h => absurd (Finset.mem_univ l) h), if_pos rfl, mul_one]

/-- The kernel's three-part read of a gate row against a one-hot vector: the later parts vanish where the gate is finite. -/
theorem pick_split (f e : Fin 128 → EReal) (l : Fin 128) (he : ∀ k, e k = if k = l then (1 : EReal) else 0)
    (ht : f l ≠ ⊤) (hb : f l ≠ ⊥) :
    (∑ k, f k * e k) + (∑ k, (f k - f k) * e k) + (∑ k, (f k - f k - (f k - f k)) * e k) = f l := by
  simp only [he, pick (fun k => f k), pick (fun k => f k - f k), pick (fun k => f k - f k - (f k - f k))]
  rw [EReal.sub_self ht hb]
  simp

/-- A sum over the columns is the four heads' sums. -/
theorem sum_heads (f : Fin 512 → EReal) : ∑ w, f w = (∑ n : Fin 128, f ⟨n.val, by omega⟩) + (∑ n : Fin 128, f ⟨128 + n.val, by omega⟩)
    + (∑ n : Fin 128, f ⟨256 + n.val, by omega⟩) + ∑ n : Fin 128, f ⟨384 + n.val, by omega⟩ := by
  rw [Fin.sum_univ_two_halves 256 256 rfl, Fin.sum_univ_two_halves 128 128 rfl, Fin.sum_univ_two_halves 128 128 rfl, ← add_assoc]
  refine congrArg₂ (· + ·) rfl (Finset.sum_congr rfl fun n _ => congrArg f (Fin.ext ?_))
  show 256 + (128 + n.val) = 384 + n.val
  omega

/-- The difference branch at a head's lane is that head's. -/
theorem diff_head (lm li : EReal) (od : Fin 1024 → EReal) (sg : Fin 128 → EReal) (h : Fin 4) (n : Fin 128) (w : Fin 512) (hw : w.val = h.val * 128 + n.val) :
    diff lm li od sg w = head lm li (fun l => od (spot h 0 l)) (fun l => od (spot h 1 l)) sg n := by
  have e1 : (⟨w.val / 128, by omega⟩ : Fin 4) = h := Fin.ext (by show w.val / 128 = h.val; omega)
  have e2 : (⟨w.val % 128, by omega⟩ : Fin 128) = n := Fin.ext (by show w.val % 128 = n.val; omega)
  unfold diff
  rw [e1, e2]

end Merge

end
-- ==== Proof.MergeRef.lean ====
/- The gated merge's reference over the extended reals: its array, stage by stage, and what each stage holds at an index. -/
module

public import proofs.«01_k».proof.Proof.MergeMath
public import proofs.«01_k».proof.Proof.Gen.MergeRefIdeal.Run

@[expose] public section

set_option maxRecDepth 16384

noncomputable section

namespace Cert.MergeRefIdeal.Gated

open Cert.MergeRefIdeal Cert.MergeRefIdeal.Gen
open Idealize.ShloMosaic
open Idealize.ShloMosaic.TcCoe Idealize.SL.Sem

/-! ## The reference, stage by stage -/

def normed (x : FVec Ideal S16384x1024 .f32) (ng : FVec Ideal S1024 .f32) : FVec Ideal S16384x1024 .f32 := mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 ng))
def prod (x : FVec Ideal S16384x1024 .f32) (ng : FVec Ideal S1024 .f32) (wmg : FVec Ideal S1024x3072 .f32) : FVec Ideal S2x8192x3072 .f32 := Host.dotGeneral dot_S2x8192x1024_S1024x3072_S2x8192x3072_2_0_01_1_n_n none (shapeCast _ (normed x ng) shapeCasts_S16384x1024_S2x8192x1024) wmg
def gates (x : FVec Ideal S16384x1024 .f32) (ng : FVec Ideal S1024 .f32) (wmg : FVec Ideal S1024x3072 .f32) : FVec Ideal S2x8192x3x1024 .f32 := Host.divf (broadcastInDim S2x8192x3x1024 ![] bcast_S_S2x8192x3x1024 (constant S_ .f32 0x3F800000#32)) (addf (broadcastInDim S2x8192x3x1024 ![] bcast_S_S2x8192x3x1024 (constant S_ .f32 0x3F800000#32)) (Host.exp (Host.negf (shapeCast _ (prod x ng wmg) shapeCasts_S2x8192x3072_S2x8192x3x1024))))
def cells (gn : FVec Ideal S16384x128 .f32) : FVec Ideal S2x8192x2x4x3 .f32 := shapeCast _ (extractStridedSlice S16384x24 ![0, 0] gn slices_S16384x128_S16384x24_0_0) shapeCasts_S16384x24_S2x8192x2x4x3
def sparse (oc : FVec Ideal S16384x512 .f32) (os : FVec Ideal S16384x512 .f32) (ow : FVec Ideal S16384x512 .f32) (gn : FVec Ideal S16384x128 .f32) : FVec Ideal S2x8192x512 .f32 := shapeCast _ (addf (addf (mulf (broadcastInDim S2x8192x2x4x64 ![0, 1, 2, 3, 4] bcast_S2x8192x2x4x1_S2x8192x2x4x64_0_1_2_3_4 (extractStridedSlice S2x8192x2x4x1 ![0, 0, 0, 0, 0] (cells gn) slices_S2x8192x2x4x3_S2x8192x2x4x1_0_0_0_0_0)) (shapeCast _ oc shapeCasts_S16384x512_S2x8192x2x4x64)) (mulf (broadcastInDim S2x8192x2x4x64 ![0, 1, 2, 3, 4] bcast_S2x8192x2x4x1_S2x8192x2x4x64_0_1_2_3_4 (extractStridedSlice S2x8192x2x4x1 ![0, 0, 0, 0, 1] (cells gn) slices_S2x8192x2x4x3_S2x8192x2x4x1_0_0_0_0_1)) (shapeCast _ os shapeCasts_S16384x512_S2x8192x2x4x64))) (mulf (broadcastInDim S2x8192x2x4x64 ![0, 1, 2, 3, 4] bcast_S2x8192x2x4x1_S2x8192x2x4x64_0_1_2_3_4 (extractStridedSlice S2x8192x2x4x1 ![0, 0, 0, 0, 2] (cells gn) slices_S2x8192x2x4x3_S2x8192x2x4x1_0_0_0_0_2)) (shapeCast _ ow shapeCasts_S16384x512_S2x8192x2x4x64))) shapeCasts_S2x8192x2x4x64_S2x8192x512
def mix (dl : FVec Ideal S4x64 .f32) (li : FVec Ideal S1 .f32) : FVec Ideal S_ .f32 := addf (subf (Host.exp (Host.reduceAdd (mulf (shapeCast _ (extractStridedSlice S1x64 ![0, 0] dl slices_S4x64_S1x64_0_0) shapeCasts_S1x64_S64) (shapeCast _ (extractStridedSlice S1x64 ![1, 0] dl slices_S4x64_S1x64_1_0) shapeCasts_S1x64_S64)) (constant S_ .f32 0x00000000#32) reducesTo_S64_S_d0 h_S_)) (Host.exp (Host.reduceAdd (mulf (shapeCast _ (extractStridedSlice S1x64 ![2, 0] dl slices_S4x64_S1x64_2_0) shapeCasts_S1x64_S64) (shapeCast _ (extractStridedSlice S1x64 ![3, 0] dl slices_S4x64_S1x64_3_0) shapeCasts_S1x64_S64)) (constant S_ .f32 0x00000000#32) reducesTo_S64_S_d0 h_S_))) (shapeCast _ li shapeCasts_S1_S_)
def diff (od : FVec Ideal S16384x1024 .f32) (dl : FVec Ideal S4x64 .f32) (li : FVec Ideal S1 .f32) : FVec Ideal S2x8192x2x2x128 .f32 := subf (shapeCast _ (extractStridedSlice S2x8192x2x1x2x128 ![0, 0, 0, 0, 0, 0] (shapeCast _ od shapeCasts_S16384x1024_S2x8192x2x2x2x128) slices_S2x8192x2x2x2x128_S2x8192x2x1x2x128_0_0_0_0_0_0) shapeCasts_S2x8192x2x1x2x128_S2x8192x2x2x128) (mulf (broadcastInDim S2x8192x2x2x128 ![] bcast_S_S2x8192x2x2x128 (mix dl li)) (shapeCast _ (extractStridedSlice S2x8192x2x1x2x128 ![0, 0, 0, 1, 0, 0] (shapeCast _ od shapeCasts_S16384x1024_S2x8192x2x2x2x128) slices_S2x8192x2x2x2x128_S2x8192x2x1x2x128_0_0_0_1_0_0) shapeCasts_S2x8192x2x1x2x128_S2x8192x2x2x128))
def heads (od : FVec Ideal S16384x1024 .f32) (dl : FVec Ideal S4x64 .f32) (li : FVec Ideal S1 .f32) (sg : FVec Ideal S128 .f32) : FVec Ideal S2x8192x2x2x128 .f32 := mulf (mulf (mulf (diff od dl li) (broadcastInDim S2x8192x2x2x128 ![0, 1, 2, 3, 4] bcast_S2x8192x2x2x1_S2x8192x2x2x128_0_1_2_3_4 (Host.rsqrt (addf (Host.divf (broadcastInDim S2x8192x2x2x1 ![0, 1, 2, 3] bcast_S2x8192x2x2_S2x8192x2x2x1_0_1_2_3 (Host.reduceAdd (mulf (diff od dl li) (diff od dl li)) (constant S_ .f32 0x00000000#32) reducesTo_S2x8192x2x2x128_S2x8192x2x2_d4 h_S_)) (broadcastInDim S2x8192x2x2x1 ![] bcast_S_S2x8192x2x2x1 (constant S_ .f32 0x43000000#32))) (broadcastInDim S2x8192x2x2x1 ![] bcast_S_S2x8192x2x2x1 (constant S_ .f32 0x358637BD#32)))))) (broadcastInDim S2x8192x2x2x128 ![0, 1, 2, 3, 4] bcast_S1x1x1x1x128_S2x8192x2x2x128_0_1_2_3_4 (broadcastInDim S1x1x1x1x128 ![4] bcast_S128_S1x1x1x1x128_4 sg))) (broadcastInDim S2x8192x2x2x128 ![] bcast_S_S2x8192x2x2x128 (subf (constant S_ .f32 0x3F800000#32) (shapeCast _ li shapeCasts_S1_S_)))
def flat (od : FVec Ideal S16384x1024 .f32) (dl : FVec Ideal S4x64 .f32) (li : FVec Ideal S1 .f32) (sg : FVec Ideal S128 .f32) : FVec Ideal S2x8192x512 .f32 := shapeCast _ (heads od dl li sg) shapeCasts_S2x8192x2x2x128_S2x8192x512
def stack (oc : FVec Ideal S16384x512 .f32) (os : FVec Ideal S16384x512 .f32) (ow : FVec Ideal S16384x512 .f32) (gn : FVec Ideal S16384x128 .f32) (od : FVec Ideal S16384x1024 .f32) (om : FVec Ideal S16384x512 .f32) (dl : FVec Ideal S4x64 .f32) (li : FVec Ideal S1 .f32) (sg : FVec Ideal S128 .f32) : FVec Ideal S2x8192x3x512 .f32 := (concatenate S2x8192x3x512 2 [⟨S2x8192x1x512, ((broadcastInDim S2x8192x1x512 ![0, 1, 3] bcast_S2x8192x512_S2x8192x1x512_0_1_3 (sparse oc os ow gn)) : (⟨S2x8192x1x512, .f32⟩ : BufTy).Contents (Elt Ideal))⟩, ⟨S2x8192x1x512, ((broadcastInDim S2x8192x1x512 ![0, 1, 3] bcast_S2x8192x512_S2x8192x1x512_0_1_3 (flat od dl li sg)) : (⟨S2x8192x1x512, .f32⟩ : BufTy).Contents (Elt Ideal))⟩, ⟨S2x8192x1x512, ((broadcastInDim S2x8192x1x512 ![0, 1, 3] bcast_S2x8192x512_S2x8192x1x512_0_1_3 (shapeCast _ om shapeCasts_S16384x512_S2x8192x512)) : (⟨S2x8192x1x512, .f32⟩ : BufTy).Contents (Elt Ideal))⟩] concatenates_S2x8192x1x512_S2x8192x1x512_S2x8192x1x512_S2x8192x3x512_d2 : (⟨S2x8192x3x512, .f32⟩ : BufTy).Contents (Elt Ideal))
def branches (oc : FVec Ideal S16384x512 .f32) (os : FVec Ideal S16384x512 .f32) (ow : FVec Ideal S16384x512 .f32) (gn : FVec Ideal S16384x128 .f32) (od : FVec Ideal S16384x1024 .f32) (om : FVec Ideal S16384x512 .f32) (dl : FVec Ideal S4x64 .f32) (li : FVec Ideal S1 .f32) (sg : FVec Ideal S128 .f32) (wb : FVec Ideal S3x512x1024 .f32) : FVec Ideal S2x8192x3x1024 .f32 := transpose S2x8192x3x1024 [2, 3, 0, 1] (Host.dotGeneral dot_S3x512x1024_S2x8192x3x512_S3x1024x2x8192_1_3_2_01_0_2 none wb ((stack oc os ow gn od om dl li sg))) transposes_S3x1024x2x8192_S2x8192x3x1024_2_3_0_1
def mixed (x : FVec Ideal S16384x1024 .f32) (ng : FVec Ideal S1024 .f32) (wmg : FVec Ideal S1024x3072 .f32) (oc : FVec Ideal S16384x512 .f32) (os : FVec Ideal S16384x512 .f32) (ow : FVec Ideal S16384x512 .f32) (gn : FVec Ideal S16384x128 .f32) (od : FVec Ideal S16384x1024 .f32) (om : FVec Ideal S16384x512 .f32) (dl : FVec Ideal S4x64 .f32) (li : FVec Ideal S1 .f32) (sg : FVec Ideal S128 .f32) (wb : FVec Ideal S3x512x1024 .f32) : FVec Ideal S2x8192x1024 .f32 := Host.reduceAdd (mulf (gates x ng wmg) (branches oc os ow gn od om dl li sg wb)) (constant S_ .f32 0x00000000#32) reducesTo_S2x8192x3x1024_S2x8192x1024_d2 h_S_
def REF (x : FVec Ideal S16384x1024 .f32) (ng : FVec Ideal S1024 .f32) (wmg : FVec Ideal S1024x3072 .f32) (oc : FVec Ideal S16384x512 .f32) (os : FVec Ideal S16384x512 .f32) (ow : FVec Ideal S16384x512 .f32) (gn : FVec Ideal S16384x128 .f32) (od : FVec Ideal S16384x1024 .f32) (om : FVec Ideal S16384x512 .f32) (dl : FVec Ideal S4x64 .f32) (li : FVec Ideal S1 .f32) (sg : FVec Ideal S128 .f32) (wb : FVec Ideal S3x512x1024 .f32) (wo : FVec Ideal S1024x1024 .f32) : FVec Ideal S16384x1024 .f32 := addf x (shapeCast _ (Host.dotGeneral dot_S2x8192x1024_S1024x1024_S2x8192x1024_2_0_01_1_n_n none (mixed x ng wmg oc os ow gn od om dl li sg wb) wo) shapeCasts_S2x8192x1024_S16384x1024)

variable (x : FVec Ideal S16384x1024 .f32) (ng : FVec Ideal S1024 .f32) (wmg : FVec Ideal S1024x3072 .f32)
  (oc os ow om : FVec Ideal S16384x512 .f32) (gn : FVec Ideal S16384x128 .f32) (od : FVec Ideal S16384x1024 .f32)
  (dl : FVec Ideal S4x64 .f32) (li : FVec Ideal S1 .f32) (sg : FVec Ideal S128 .f32) (wb : FVec Ideal S3x512x1024 .f32)
  (wo : FVec Ideal S1024x1024 .f32)

/-- Row `t` of batch `b` in the flat list of rows. -/
def flatRow (b : Fin 2) (t : Fin 8192) : Fin 16384 := ⟨b.val * 8192 + t.val, by omega⟩

theorem normed_at (r : Fin 16384) (k : Fin 1024) :
    normed x ng (ix2 r k) = Merge.norm 0x44800000#32 (fun k => x (ix2 r k)) (fun k => ng (ix1 k)) k := by
  pointwise [normed, Merge.norm]

theorem prod_at (b : Fin 2) (t : Fin 8192) (n : Fin 3072) :
    prod x ng wmg (ix3 b t n) = ∑ k : Fin 1024, normed x ng (ix2 (flatRow b t) k) * wmg (ix2 k n) := by
  pointwise [prod, flatRow]

theorem gates_at (b : Fin 2) (t : Fin 8192) (c : Fin 3) (k : Fin 1024) :
    gates x ng wmg (ix4 b t c k) = Ideal.logistic (prod x ng wmg (ix3 b t ⟨c.val * 1024 + k.val, by omega⟩)) := by
  pointwise [gates]
  rfl

theorem cells_at (b : Fin 2) (t : Fin 8192) (k : Fin 2) (g : Fin 4) (c : Fin 3) :
    cells gn (ix5 b t k g c) = gn (ix2 (flatRow b t) ⟨k.val * 12 + g.val * 3 + c.val, by omega⟩) := by
  pointwise [cells, flatRow]

theorem cell_lane (b : Fin 2) (t : Fin 8192) (w : Fin 512) (c : Fin 3) :
    cells gn (ix5 b t ⟨w.val / 256, by omega⟩ ⟨w.val / 64 % 4, by omega⟩ c) = gn (ix2 (flatRow b t) (Merge.lane w c)) :=
  (cells_at gn b t _ _ c).trans (congrArg (fun k => gn (ix2 (flatRow b t) k))
    (Fin.ext (by show w.val / 256 * 12 + w.val / 64 % 4 * 3 + c.val = w.val / 64 * 3 + c.val; omega)))

theorem sparse_at (b : Fin 2) (t : Fin 8192) (w : Fin 512) :
    sparse oc os ow gn (ix3 b t w) = Merge.sparse (fun k => gn (ix2 (flatRow b t) k)) (fun w => oc (ix2 (flatRow b t) w))
      (fun w => os (ix2 (flatRow b t) w)) (fun w => ow (ix2 (flatRow b t) w)) w := by
  pointwise [sparse]
  rw [cell_lane, cell_lane, cell_lane]
  rfl

theorem mix_at (z : S_.Idx) : mix dl li z = Merge.lam (fun a k => dl (ix2 a k)) (li (ix1 0)) := by
  pointwise [mix, Merge.lam]

theorem diff_at (b : Fin 2) (t : Fin 8192) (k h : Fin 2) (l : Fin 128) :
    diff od dl li (ix5 b t k h l)
      = od (ix2 (flatRow b t) ⟨k.val * 512 + h.val * 128 + l.val, by omega⟩)
        - Merge.lam (fun a k => dl (ix2 a k)) (li (ix1 0)) * od (ix2 (flatRow b t) ⟨k.val * 512 + 256 + h.val * 128 + l.val, by omega⟩) := by
  pointwise [diff]
  rw [mix_at]
  rfl

theorem heads_at (b : Fin 2) (t : Fin 8192) (k h : Fin 2) (l : Fin 128) :
    heads od dl li sg (ix5 b t k h l)
      = Merge.norm 0x43000000#32 (fun l => diff od dl li (ix5 b t k h l)) (fun k => sg (ix1 k)) l
        * (Ideal.ofBits .f32 0x3F800000#32 - li (ix1 0)) := by
  pointwise [heads, Merge.norm]

theorem flat_at (b : Fin 2) (t : Fin 8192) (w : Fin 512) :
    flat od dl li sg (ix3 b t w) = Merge.diff (Merge.lam (fun a k => dl (ix2 a k)) (li (ix1 0))) (li (ix1 0))
      (fun k => od (ix2 (flatRow b t) k)) (fun k => sg (ix1 k)) w := by
  have e : flat od dl li sg (ix3 b t w) = heads od dl li sg (ix5 b t ⟨w.val / 256, by omega⟩ ⟨w.val / 128 % 2, by omega⟩ ⟨w.val % 128, by omega⟩) := by
    pointwise [flat]
  rw [e, heads_at]
  unfold Merge.diff Merge.head
  refine congrArg (· * _) ?_
  refine congrArg (fun f => Merge.norm 0x43000000#32 f (fun k => sg (ix1 k)) _) (funext fun l => ?_)
  rw [diff_at]
  have e0 : (⟨w.val / 256 * 512 + w.val / 128 % 2 * 128 + l.val, by omega⟩ : Fin 1024) = Merge.spot ⟨w.val / 128, by omega⟩ 0 l :=
    Fin.ext (by show w.val / 256 * 512 + w.val / 128 % 2 * 128 + l.val = w.val / 128 / 2 * 512 + 0 * 256 + w.val / 128 % 2 * 128 + l.val; omega)
  have e1 : (⟨w.val / 256 * 512 + 256 + w.val / 128 % 2 * 128 + l.val, by omega⟩ : Fin 1024) = Merge.spot ⟨w.val / 128, by omega⟩ 1 l :=
    Fin.ext (by show w.val / 256 * 512 + 256 + w.val / 128 % 2 * 128 + l.val = w.val / 128 / 2 * 512 + 1 * 256 + w.val / 128 % 2 * 128 + l.val; omega)
  exact congrArg₂ (· - ·) (congrArg (fun k => od (ix2 (flatRow b t) k)) e0)
    (congrArg (_ * ·) (congrArg (fun k => od (ix2 (flatRow b t) k)) e1))

theorem stack_at (b : Fin 2) (t : Fin 8192) (w : Fin 512) :
    stack oc os ow gn od om dl li sg (ix4 b t 0 w) = sparse oc os ow gn (ix3 b t w)
    ∧ stack oc os ow gn od om dl li sg (ix4 b t 1 w) = flat od dl li sg (ix3 b t w)
    ∧ stack oc os ow gn od om dl li sg (ix4 b t 2 w) = om (ix2 (flatRow b t) w) := by
  refine ⟨?_, ?_, ?_⟩
  · pointwise [stack]
  · pointwise [stack]
  · pointwise [stack, flatRow]

theorem branches_at (b : Fin 2) (t : Fin 8192) (c : Fin 3) (k : Fin 1024) :
    branches oc os ow gn od om dl li sg wb (ix4 b t c k) = ∑ w : Fin 512, wb (ix3 c w k) * stack oc os ow gn od om dl li sg (ix4 b t c w) := by
  pointwise [branches]

theorem mixed_at (b : Fin 2) (t : Fin 8192) (k : Fin 1024) :
    mixed x ng wmg oc os ow gn od om dl li sg wb (ix3 b t k)
      = ∑ c : Fin 3, gates x ng wmg (ix4 b t c k) * branches oc os ow gn od om dl li sg wb (ix4 b t c k) := by
  pointwise [mixed]

/-- A gate at a column, of the row's inputs. -/
theorem gate_at (b : Fin 2) (t : Fin 8192) (c : Fin 3) (k : Fin 1024) :
    gates x ng wmg (ix4 b t c k) = Merge.gate (Merge.norm 0x44800000#32 (fun k => x (ix2 (flatRow b t) k)) (fun k => ng (ix1 k)))
      (fun j n => wmg (ix2 j n)) c k := by
  rw [gates_at, prod_at]
  simp only [normed_at]
  rfl

/-- The gated sum at a column, of the row's inputs. -/
theorem gated_at (b : Fin 2) (t : Fin 8192) (k : Fin 1024) :
    mixed x ng wmg oc os ow gn od om dl li sg wb (ix3 b t k)
      = Merge.mixed (Merge.norm 0x44800000#32 (fun k => x (ix2 (flatRow b t) k)) (fun k => ng (ix1 k))) (fun j n => wmg (ix2 j n))
        (Merge.sparse (fun k => gn (ix2 (flatRow b t) k)) (fun w => oc (ix2 (flatRow b t) w)) (fun w => os (ix2 (flatRow b t) w)) (fun w => ow (ix2 (flatRow b t) w)))
        (Merge.diff (Merge.lam (fun a k => dl (ix2 a k)) (li (ix1 0))) (li (ix1 0)) (fun k => od (ix2 (flatRow b t) k)) (fun k => sg (ix1 k)))
        (fun w => om (ix2 (flatRow b t) w)) (fun c w k => wb (ix3 c w k)) k := by
  rw [mixed_at, Fin.sum_univ_three, gate_at, gate_at, gate_at, branches_at, branches_at, branches_at]
  unfold Merge.mixed
  have hs := stack_at oc os ow om gn od dl li sg b t
  refine congrArg₂ (· + ·) (congrArg₂ (· + ·) (congrArg₂ (· * ·) rfl ?_) (congrArg₂ (· * ·) rfl ?_)) (congrArg₂ (· * ·) rfl ?_)
  · exact Finset.sum_congr rfl fun w _ => by rw [(hs w).1, sparse_at, mul_comm]
  · exact Finset.sum_congr rfl fun w _ => by rw [(hs w).2.1, flat_at, mul_comm]
  · exact Finset.sum_congr rfl fun w _ => by rw [(hs w).2.2, mul_comm]

/-- The reference's array at a row and a column. -/
theorem REF_at (r : Fin 16384) (k : Fin 1024) :
    REF x ng wmg oc os ow gn od om dl li sg wb wo (ix2 r k)
      = Merge.row (fun k => x (ix2 r k)) (fun k => ng (ix1 k)) (fun j n => wmg (ix2 j n)) (fun w => oc (ix2 r w)) (fun w => os (ix2 r w))
        (fun w => ow (ix2 r w)) (fun k => gn (ix2 r k)) (fun k => od (ix2 r k)) (fun w => om (ix2 r w)) (fun a k => dl (ix2 a k)) (li (ix1 0))
        (fun k => sg (ix1 k)) (fun c w k => wb (ix3 c w k)) (fun j k => wo (ix2 j k)) k := by
  have e : REF x ng wmg oc os ow gn od om dl li sg wb wo (ix2 r k)
      = x (ix2 r k) + ∑ j : Fin 1024, mixed x ng wmg oc os ow gn od om dl li sg wb (ix3 ⟨r.val / 8192, by omega⟩ ⟨r.val % 8192, by omega⟩ j) * wo (ix2 j k) := by
    pointwise [REF]
  have hr : flatRow ⟨r.val / 8192, by omega⟩ ⟨r.val % 8192, by omega⟩ = r :=
    Fin.ext (by show r.val / 8192 * 8192 + r.val % 8192 = r.val; omega)
  rw [e]
  unfold Merge.row
  refine congrArg (_ + ·) (Finset.sum_congr rfl fun j _ => ?_)
  rw [gated_at, hr]

end Cert.MergeRefIdeal.Gated

end
-- ==== Proof.MergeBlock.lean ====
/- The gated merge's body, read as values over the extended reals: what each of the kernel's own named payloads holds at
   a row and a column. -/
module

public import proofs.«01_k».proof.Proof.MergeMath
public import proofs.«01_k».proof.Proof.Gen.MergeIdeal.Value

@[expose] public section

set_option maxRecDepth 16384

noncomputable section

namespace Cert.MergeIdeal.Gated

open Cert.MergeIdeal Cert.MergeIdeal.Gen
open Idealize.ShloMosaic
open Idealize.ShloMosaic.TcCoe Idealize.SL.Sem

/-- The kernel's three-part read of a gate row against one column of the one-hot matrix. -/
def read3 (g e : Fin 128 → EReal) : EReal :=
  (∑ k, g k * e k) + (∑ k, (g k - g k) * e k) + (∑ k, (g k - g k - (g k - g k)) * e k)

theorem pay1_at (x : FVec Ideal S256x1024 .f32) (y : FVec Ideal S256x1024 .bf16) (bd : FVec Ideal S256x1024 .f32) (a : FVec Ideal S256x512 .bf16)
    (w0 : FVec Ideal S1x512x1024 .bf16) (om : FVec Ideal S256x512 .f32) (w2 : FVec Ideal S1x512x1024 .bf16) (wmg : FVec Ideal S1024x3072 .bf16)
    (wo : FVec Ideal S1024x1024 .bf16) (r : Fin 256) (k : Fin 1024) :
    k0_pay1 (F := Ideal) x y bd a w0 om w2 wmg wo (ix2 r k) = x (ix2 r k) + ∑ j : Fin 1024,
      (Merge.gate (fun k => y (ix2 r k)) (fun j n => wmg (ix2 j n)) 0 j * (∑ w : Fin 512, a (ix2 r w) * w0 (ix3 0 w j))
        + Merge.gate (fun k => y (ix2 r k)) (fun j n => wmg (ix2 j n)) 1 j * bd (ix2 r j)
        + Merge.gate (fun k => y (ix2 r k)) (fun j n => wmg (ix2 j n)) 2 j * (∑ w : Fin 512, om (ix2 r w) * w2 (ix3 0 w j))) * wo (ix2 j k) := by
  pointwise [k0_pay1, Merge.gate]

theorem pay2_at (x : FVec Ideal S256x1024 .f32) (g : FVec Ideal S1x1024 .f32) (r : Fin 256) (k : Fin 1024) :
    k0_pay2 (F := Ideal) x g (ix2 r k) = Merge.norm 0x44800000#32 (fun k => x (ix2 r k)) (fun k => g (ix2 0 k)) k := by
  pointwise [k0_pay2, Merge.norm]

theorem pay3_at (gn : FVec Ideal S256x128 .f32) (e : FVec Ideal S1x128x512 .bf16) (o : FVec Ideal S256x512 .f32) (r : Fin 256) (w : Fin 512) :
    k0_pay3 (F := Ideal) gn e o (ix2 r w) = read3 (fun k => gn (ix2 r k)) (fun k => e (ix3 0 k w)) * o (ix2 r w) := by
  pointwise [k0_pay3, read3]

theorem pay8_at (gn : FVec Ideal S256x128 .f32) (s : FVec Ideal S256x512 .f32) (e1 : FVec Ideal S1x128x512 .bf16) (o1 : FVec Ideal S256x512 .f32)
    (e2 : FVec Ideal S1x128x512 .bf16) (o2 : FVec Ideal S256x512 .f32) (r : Fin 256) (w : Fin 512) :
    k0_pay8 (F := Ideal) gn s (k0_pay4 (F := Ideal) e1) (k0_pay5 (F := Ideal) gn) (k0_pay6 (F := Ideal) gn) (k0_pay7 (F := Ideal) gn) o1 e2 o2 (ix2 r w)
      = s (ix2 r w) + read3 (fun k => gn (ix2 r k)) (fun k => e1 (ix3 0 k w)) * o1 (ix2 r w)
        + read3 (fun k => gn (ix2 r k)) (fun k => e2 (ix3 0 k w)) * o2 (ix2 r w) := by
  pointwise [k0_pay8, k0_pay7, k0_pay6, k0_pay5, k0_pay4, read3]

theorem pay19_at (s : FVec Ideal S256x512 .f32) (r : Fin 256) (w : Fin 512) : k0_pay19 (F := Ideal) s (ix2 r w) = s (ix2 r w) := by
  pointwise [k0_pay19]

theorem pay10_at (a b : FVec Ideal S1x64 .f32) : k0_pay10 (F := Ideal) a b (ix2 0 0) = Ideal.exp (∑ k : Fin 64, a (ix2 0 k) * b (ix2 0 k)) := by
  pointwise [k0_pay10]

theorem pay11_at (l e : FVec Ideal S1x1 .f32) (a b : FVec Ideal S1x64 .f32) :
    k0_pay11 (F := Ideal) l e a b (ix2 0 0) = e (ix2 0 0) - Ideal.exp (∑ k : Fin 64, a (ix2 0 k) * b (ix2 0 k)) + l (ix2 0 0) := by
  pointwise [k0_pay11]

theorem pay12_at (l e : FVec Ideal S1x1 .f32) (a b : FVec Ideal S1x64 .f32) (p q : FVec Ideal S256x128 .f32) (g : FVec Ideal S1x128 .f32)
    (w : FVec Ideal S1x128x1024 .bf16) (r : Fin 256) (k : Fin 1024) :
    k0_pay12 (F := Ideal) l e a b p q g w (ix2 r k)
      = ∑ n : Fin 128, Merge.head (k0_pay11 (F := Ideal) l e a b (ix2 0 0)) (l (ix2 0 0)) (fun n => p (ix2 r n)) (fun n => q (ix2 r n)) (fun n => g (ix2 0 n)) n * w (ix3 0 n k) := by
  pointwise [k0_pay12, Merge.head, Merge.norm]

theorem pay14_at (l e : FVec Ideal S1x1 .f32) (a b : FVec Ideal S1x64 .f32) (s : FVec Ideal S256x1024 .f32) (p q : FVec Ideal S256x128 .f32)
    (g : FVec Ideal S1x128 .f32) (w : FVec Ideal S1x128x1024 .bf16) (r : Fin 256) (k : Fin 1024) :
    k0_pay14 (F := Ideal) l s p q (k0_pay13 (F := Ideal) l e a b) g w (ix2 r k) = s (ix2 r k)
      + ∑ n : Fin 128, Merge.head (k0_pay11 (F := Ideal) l e a b (ix2 0 0)) (l (ix2 0 0)) (fun n => p (ix2 r n)) (fun n => q (ix2 r n)) (fun n => g (ix2 0 n)) n * w (ix3 0 n k) := by
  pointwise [k0_pay14, k0_pay13, Merge.head, Merge.norm]

theorem pay18_at (l lm : FVec Ideal S1x1 .f32) (s : FVec Ideal S256x1024 .f32) (p q : FVec Ideal S256x128 .f32) (g : FVec Ideal S1x128 .f32)
    (w : FVec Ideal S1x128x1024 .bf16) (p' q' : FVec Ideal S256x128 .f32) (g' : FVec Ideal S1x128 .f32) (w' : FVec Ideal S1x128x1024 .bf16)
    (r : Fin 256) (k : Fin 1024) :
    k0_pay18 (F := Ideal) l lm s (k0_pay15 (F := Ideal) lm p q) (k0_pay16 (F := Ideal) g) (k0_pay17 (F := Ideal) lm p q) w p' q' g' w' (ix2 r k) = s (ix2 r k)
      + (∑ n : Fin 128, Merge.head (lm (ix2 0 0)) (l (ix2 0 0)) (fun n => p (ix2 r n)) (fun n => q (ix2 r n)) (fun n => g (ix2 0 n)) n * w (ix3 0 n k))
      + ∑ n : Fin 128, Merge.head (lm (ix2 0 0)) (l (ix2 0 0)) (fun n => p' (ix2 r n)) (fun n => q' (ix2 r n)) (fun n => g' (ix2 0 n)) n * w' (ix3 0 n k) := by
  pointwise [k0_pay18, k0_pay17, k0_pay16, k0_pay15, Merge.head, Merge.norm]

/-! ## What the body's loads read -/

theorem off2 : (![0, 0] : Fin 2 → Nat) = fun _ => 0 := funext fun a => by fin_cases a <;> rfl

theorem ld_12 (x : FVec Ideal S256x1024 .f32) (r : Fin 256) (n : Fin 128) : View.ld (Val := Elt Ideal) (e' := .f32) x r0_12 (ix2 r n : S256x128.Idx) = x (ix2 r (Merge.spot 0 0 n)) :=
  congrArg x (funext fun a => Fin.ext (by
    match a with
    | ⟨0, _⟩ => show 0 + 1 * r.val = r.val; omega
    | ⟨1, _⟩ => show 0 + 1 * n.val = 0 / 2 * 512 + 0 * 256 + 0 % 2 * 128 + n.val; omega))
theorem ld_13 (x : FVec Ideal S256x1024 .f32) (r : Fin 256) (n : Fin 128) : View.ld (Val := Elt Ideal) (e' := .f32) x r0_13 (ix2 r n : S256x128.Idx) = x (ix2 r (Merge.spot 0 1 n)) :=
  congrArg x (funext fun a => Fin.ext (by
    match a with
    | ⟨0, _⟩ => show 0 + 1 * r.val = r.val; omega
    | ⟨1, _⟩ => show 256 + 1 * n.val = 0 / 2 * 512 + 1 * 256 + 0 % 2 * 128 + n.val; omega))
theorem ld_16 (x : FVec Ideal S256x1024 .f32) (r : Fin 256) (n : Fin 128) : View.ld (Val := Elt Ideal) (e' := .f32) x r0_16 (ix2 r n : S256x128.Idx) = x (ix2 r (Merge.spot 1 0 n)) :=
  congrArg x (funext fun a => Fin.ext (by
    match a with
    | ⟨0, _⟩ => show 0 + 1 * r.val = r.val; omega
    | ⟨1, _⟩ => show 128 + 1 * n.val = 1 / 2 * 512 + 0 * 256 + 1 % 2 * 128 + n.val; omega))
theorem ld_17 (x : FVec Ideal S256x1024 .f32) (r : Fin 256) (n : Fin 128) : View.ld (Val := Elt Ideal) (e' := .f32) x r0_17 (ix2 r n : S256x128.Idx) = x (ix2 r (Merge.spot 1 1 n)) :=
  congrArg x (funext fun a => Fin.ext (by
    match a with
    | ⟨0, _⟩ => show 0 + 1 * r.val = r.val; omega
    | ⟨1, _⟩ => show 384 + 1 * n.val = 1 / 2 * 512 + 1 * 256 + 1 % 2 * 128 + n.val; omega))
theorem ld_19 (x : FVec Ideal S256x1024 .f32) (r : Fin 256) (n : Fin 128) : View.ld (Val := Elt Ideal) (e' := .f32) x r0_19 (ix2 r n : S256x128.Idx) = x (ix2 r (Merge.spot 2 0 n)) :=
  congrArg x (funext fun a => Fin.ext (by
    match a with
    | ⟨0, _⟩ => show 0 + 1 * r.val = r.val; omega
    | ⟨1, _⟩ => show 512 + 1 * n.val = 2 / 2 * 512 + 0 * 256 + 2 % 2 * 128 + n.val; omega))
theorem ld_20 (x : FVec Ideal S256x1024 .f32) (r : Fin 256) (n : Fin 128) : View.ld (Val := Elt Ideal) (e' := .f32) x r0_20 (ix2 r n : S256x128.Idx) = x (ix2 r (Merge.spot 2 1 n)) :=
  congrArg x (funext fun a => Fin.ext (by
    match a with
    | ⟨0, _⟩ => show 0 + 1 * r.val = r.val; omega
    | ⟨1, _⟩ => show 768 + 1 * n.val = 2 / 2 * 512 + 1 * 256 + 2 % 2 * 128 + n.val; omega))
theorem ld_22 (x : FVec Ideal S256x1024 .f32) (r : Fin 256) (n : Fin 128) : View.ld (Val := Elt Ideal) (e' := .f32) x r0_22 (ix2 r n : S256x128.Idx) = x (ix2 r (Merge.spot 3 0 n)) :=
  congrArg x (funext fun a => Fin.ext (by
    match a with
    | ⟨0, _⟩ => show 0 + 1 * r.val = r.val; omega
    | ⟨1, _⟩ => show 640 + 1 * n.val = 3 / 2 * 512 + 0 * 256 + 3 % 2 * 128 + n.val; omega))
theorem ld_23 (x : FVec Ideal S256x1024 .f32) (r : Fin 256) (n : Fin 128) : View.ld (Val := Elt Ideal) (e' := .f32) x r0_23 (ix2 r n : S256x128.Idx) = x (ix2 r (Merge.spot 3 1 n)) :=
  congrArg x (funext fun a => Fin.ext (by
    match a with
    | ⟨0, _⟩ => show 0 + 1 * r.val = r.val; omega
    | ⟨1, _⟩ => show 896 + 1 * n.val = 3 / 2 * 512 + 1 * 256 + 3 % 2 * 128 + n.val; omega))
theorem ld_15 (x : FVec Ideal S3x512x1024 .bf16) (n : Fin 128) (k : Fin 1024) : View.ld (Val := Elt Ideal) (e' := .bf16) x r0_15 (ix3 0 n k : S1x128x1024.Idx) = x (ix3 1 ⟨n.val, by omega⟩ k) :=
  congrArg x (funext fun a => Fin.ext (by
    match a with
    | ⟨0, _⟩ => rfl
    | ⟨1, _⟩ => show 0 + 1 * n.val = n.val; omega
    | ⟨2, _⟩ => show 0 + 1 * k.val = k.val; omega))
theorem ld_18 (x : FVec Ideal S3x512x1024 .bf16) (n : Fin 128) (k : Fin 1024) : View.ld (Val := Elt Ideal) (e' := .bf16) x r0_18 (ix3 0 n k : S1x128x1024.Idx) = x (ix3 1 ⟨128 + n.val, by omega⟩ k) :=
  congrArg x (funext fun a => Fin.ext (by
    match a with
    | ⟨0, _⟩ => rfl
    | ⟨1, _⟩ => show 128 + 1 * n.val = 128 + n.val; omega
    | ⟨2, _⟩ => show 0 + 1 * k.val = k.val; omega))
theorem ld_21 (x : FVec Ideal S3x512x1024 .bf16) (n : Fin 128) (k : Fin 1024) : View.ld (Val := Elt Ideal) (e' := .bf16) x r0_21 (ix3 0 n k : S1x128x1024.Idx) = x (ix3 1 ⟨256 + n.val, by omega⟩ k) :=
  congrArg x (funext fun a => Fin.ext (by
    match a with
    | ⟨0, _⟩ => rfl
    | ⟨1, _⟩ => show 256 + 1 * n.val = 256 + n.val; omega
    | ⟨2, _⟩ => show 0 + 1 * k.val = k.val; omega))
theorem ld_24 (x : FVec Ideal S3x512x1024 .bf16) (n : Fin 128) (k : Fin 1024) : View.ld (Val := Elt Ideal) (e' := .bf16) x r0_24 (ix3 0 n k : S1x128x1024.Idx) = x (ix3 1 ⟨384 + n.val, by omega⟩ k) :=
  congrArg x (funext fun a => Fin.ext (by
    match a with
    | ⟨0, _⟩ => rfl
    | ⟨1, _⟩ => show 384 + 1 * n.val = 384 + n.val; omega
    | ⟨2, _⟩ => show 0 + 1 * k.val = k.val; omega))
theorem ld_25 (x : FVec Ideal S3x512x1024 .bf16) (n : Fin 512) (k : Fin 1024) : View.ld (Val := Elt Ideal) (e' := .bf16) x r0_25 (ix3 0 n k : S1x512x1024.Idx) = x (ix3 0 n k) :=
  congrArg x (funext fun a => Fin.ext (by
    match a with
    | ⟨0, _⟩ => rfl
    | ⟨1, _⟩ => show 0 + 1 * n.val = n.val; omega
    | ⟨2, _⟩ => show 0 + 1 * k.val = k.val; omega))
theorem ld_26 (x : FVec Ideal S3x512x1024 .bf16) (n : Fin 512) (k : Fin 1024) : View.ld (Val := Elt Ideal) (e' := .bf16) x r0_26 (ix3 0 n k : S1x512x1024.Idx) = x (ix3 2 n k) :=
  congrArg x (funext fun a => Fin.ext (by
    match a with
    | ⟨0, _⟩ => rfl
    | ⟨1, _⟩ => show 0 + 1 * n.val = n.val; omega
    | ⟨2, _⟩ => show 0 + 1 * k.val = k.val; omega))
theorem ld_3 (x : FVec Ideal S3x128x512 .bf16) (n : Fin 128) (w : Fin 512) : View.ld (Val := Elt Ideal) (e' := .bf16) x r0_3 (ix3 0 n w : S1x128x512.Idx) = x (ix3 0 n w) :=
  congrArg x (funext fun a => Fin.ext (by
    match a with
    | ⟨0, _⟩ => rfl
    | ⟨1, _⟩ => show 0 + 1 * n.val = n.val; omega
    | ⟨2, _⟩ => show 0 + 1 * w.val = w.val; omega))
theorem ld_5 (x : FVec Ideal S3x128x512 .bf16) (n : Fin 128) (w : Fin 512) : View.ld (Val := Elt Ideal) (e' := .bf16) x r0_5 (ix3 0 n w : S1x128x512.Idx) = x (ix3 1 n w) :=
  congrArg x (funext fun a => Fin.ext (by
    match a with
    | ⟨0, _⟩ => rfl
    | ⟨1, _⟩ => show 0 + 1 * n.val = n.val; omega
    | ⟨2, _⟩ => show 0 + 1 * w.val = w.val; omega))
theorem ld_6 (x : FVec Ideal S3x128x512 .bf16) (n : Fin 128) (w : Fin 512) : View.ld (Val := Elt Ideal) (e' := .bf16) x r0_6 (ix3 0 n w : S1x128x512.Idx) = x (ix3 2 n w) :=
  congrArg x (funext fun a => Fin.ext (by
    match a with
    | ⟨0, _⟩ => rfl
    | ⟨1, _⟩ => show 0 + 1 * n.val = n.val; omega
    | ⟨2, _⟩ => show 0 + 1 * w.val = w.val; omega))
theorem ld_8 (x : FVec Ideal S4x64 .f32) (k : Fin 64) : View.ld (Val := Elt Ideal) (e' := .f32) x r0_8 (ix2 0 k : S1x64.Idx) = x (ix2 0 k) :=
  congrArg x (funext fun a => Fin.ext (by
    match a with
    | ⟨0, _⟩ => rfl
    | ⟨1, _⟩ => show 0 + 1 * k.val = k.val; omega))
theorem ld_9 (x : FVec Ideal S4x64 .f32) (k : Fin 64) : View.ld (Val := Elt Ideal) (e' := .f32) x r0_9 (ix2 0 k : S1x64.Idx) = x (ix2 1 k) :=
  congrArg x (funext fun a => Fin.ext (by
    match a with
    | ⟨0, _⟩ => rfl
    | ⟨1, _⟩ => show 0 + 1 * k.val = k.val; omega))
theorem ld_10 (x : FVec Ideal S4x64 .f32) (k : Fin 64) : View.ld (Val := Elt Ideal) (e' := .f32) x r0_10 (ix2 0 k : S1x64.Idx) = x (ix2 2 k) :=
  congrArg x (funext fun a => Fin.ext (by
    match a with
    | ⟨0, _⟩ => rfl
    | ⟨1, _⟩ => show 0 + 1 * k.val = k.val; omega))
theorem ld_11 (x : FVec Ideal S4x64 .f32) (k : Fin 64) : View.ld (Val := Elt Ideal) (e' := .f32) x r0_11 (ix2 0 k : S1x64.Idx) = x (ix2 3 k) :=
  congrArg x (funext fun a => Fin.ext (by
    match a with
    | ⟨0, _⟩ => rfl
    | ⟨1, _⟩ => show 0 + 1 * k.val = k.val; omega))
theorem pay9_at (x : FVec Ideal S1x128 .f32) : k0_pay9 (F := Ideal) (View.ld (Val := Elt Ideal) (e' := .f32) x r0_7) (ix2 0 0) = x (ix2 0 0) := by
  have e : k0_pay9 (F := Ideal) (View.ld (Val := Elt Ideal) (e' := .f32) x r0_7) (ix2 0 0) = View.ld (Val := Elt Ideal) (e' := .f32) x r0_7 (ix2 0 0) := by
    pointwise [k0_pay9]
  rw [e]
  exact congrArg x (funext fun a => Fin.ext (by
    match a with
    | ⟨0, _⟩ => rfl
    | ⟨1, _⟩ => rfl))

/-! ## The block the body leaves -/

section
variable (x0 : FVec Ideal S256x1024 .f32) (x1 : FVec Ideal S1x1024 .f32) (x2 : FVec Ideal S1024x3072 .bf16) (x3 x4 x5 : FVec Ideal S256x512 .f32)
  (x6 : FVec Ideal S256x128 .f32) (x7 : FVec Ideal S3x128x512 .bf16) (x8 : FVec Ideal S256x1024 .f32) (x9 : FVec Ideal S256x512 .f32)
  (x10 : FVec Ideal S4x64 .f32) (x11 x12 : FVec Ideal S1x128 .f32) (x13 : FVec Ideal S3x512x1024 .bf16) (x14 : FVec Ideal S1024x1024 .bf16)

theorem lam_at (l : FVec Ideal S1x1 .f32) (a b c d : FVec Ideal S1x64 .f32) (li : EReal) (hl : l (ix2 0 0) = li) (ha : ∀ k, a (ix2 0 k) = x10 (ix2 0 k))
    (hb : ∀ k, b (ix2 0 k) = x10 (ix2 1 k)) (hc : ∀ k, c (ix2 0 k) = x10 (ix2 2 k)) (hd : ∀ k, d (ix2 0 k) = x10 (ix2 3 k)) :
    k0_pay11 (F := Ideal) l (k0_pay10 a b) c d (ix2 0 0) = Merge.lam (fun a k => x10 (ix2 a k)) li := by
  rw [pay11_at, pay10_at]
  simp only [ha, hb, hc, hd, hl]
  rfl

/-- The sparse branch's block, read through the one-hot matrix. -/
theorem sparse_at (e0 e1 e2 : FVec Ideal S1x128x512 .bf16)
    (h0 : ∀ (l : Fin 128) (w : Fin 512), e0 (ix3 0 l w) = if l = Merge.lane w 0 then (1 : EReal) else 0)
    (h1 : ∀ (l : Fin 128) (w : Fin 512), e1 (ix3 0 l w) = if l = Merge.lane w 1 then (1 : EReal) else 0)
    (h2 : ∀ (l : Fin 128) (w : Fin 512), e2 (ix3 0 l w) = if l = Merge.lane w 2 then (1 : EReal) else 0)
    (r : Fin 256) (hf : ∀ (w : Fin 512) (q : Fin 3), x6 (ix2 r (Merge.lane w q)) ≠ ⊤ ∧ x6 (ix2 r (Merge.lane w q)) ≠ ⊥) (w : Fin 512) :
    k0_pay8 (F := Ideal) x6 (k0_pay3 x6 e0 x3) (k0_pay4 e1) (k0_pay5 x6) (k0_pay6 x6) (k0_pay7 x6) x4 e2 x5 (ix2 r w)
      = Merge.sparse (fun k => x6 (ix2 r k)) (fun w => x3 (ix2 r w)) (fun w => x4 (ix2 r w)) (fun w => x5 (ix2 r w)) w := by
  rw [pay8_at, pay3_at]
  rw [show read3 (fun k => x6 (ix2 r k)) (fun k => e0 (ix3 0 k w)) = x6 (ix2 r (Merge.lane w 0)) from
      Merge.pick_split _ _ (Merge.lane w 0) (fun k => h0 k w) (hf w 0).1 (hf w 0).2,
    show read3 (fun k => x6 (ix2 r k)) (fun k => e1 (ix3 0 k w)) = x6 (ix2 r (Merge.lane w 1)) from
      Merge.pick_split _ _ (Merge.lane w 1) (fun k => h1 k w) (hf w 1).1 (hf w 1).2,
    show read3 (fun k => x6 (ix2 r k)) (fun k => e2 (ix3 0 k w)) = x6 (ix2 r (Merge.lane w 2)) from
      Merge.pick_split _ _ (Merge.lane w 2) (fun k => h2 k w) (hf w 2).1 (hf w 2).2]
  rfl

/-- The difference branch's projection: four heads' products are one sum over the columns. -/
theorem diff_at (l : FVec Ideal S1x1 .f32) (a b c d : FVec Ideal S1x64 .f32) (hl : l (ix2 0 0) = x11 (ix2 0 0)) (ha : ∀ k, a (ix2 0 k) = x10 (ix2 0 k))
    (hb : ∀ k, b (ix2 0 k) = x10 (ix2 1 k)) (hc : ∀ k, c (ix2 0 k) = x10 (ix2 2 k)) (hd : ∀ k, d (ix2 0 k) = x10 (ix2 3 k))
    (p0 q0 p1 q1 p2 q2 p3 q3 : FVec Ideal S256x128 .f32) (w0 w1 w2 w3 : FVec Ideal S1x128x1024 .bf16)
    (hp0 : ∀ r n, p0 (ix2 r n) = x8 (ix2 r (Merge.spot 0 0 n))) (hq0 : ∀ r n, q0 (ix2 r n) = x8 (ix2 r (Merge.spot 0 1 n)))
    (hp1 : ∀ r n, p1 (ix2 r n) = x8 (ix2 r (Merge.spot 1 0 n))) (hq1 : ∀ r n, q1 (ix2 r n) = x8 (ix2 r (Merge.spot 1 1 n)))
    (hp2 : ∀ r n, p2 (ix2 r n) = x8 (ix2 r (Merge.spot 2 0 n))) (hq2 : ∀ r n, q2 (ix2 r n) = x8 (ix2 r (Merge.spot 2 1 n)))
    (hp3 : ∀ r n, p3 (ix2 r n) = x8 (ix2 r (Merge.spot 3 0 n))) (hq3 : ∀ r n, q3 (ix2 r n) = x8 (ix2 r (Merge.spot 3 1 n)))
    (hw0 : ∀ (n : Fin 128) k, w0 (ix3 0 n k) = x13 (ix3 1 ⟨n.val, by omega⟩ k)) (hw1 : ∀ (n : Fin 128) k, w1 (ix3 0 n k) = x13 (ix3 1 ⟨128 + n.val, by omega⟩ k))
    (hw2 : ∀ (n : Fin 128) k, w2 (ix3 0 n k) = x13 (ix3 1 ⟨256 + n.val, by omega⟩ k)) (hw3 : ∀ (n : Fin 128) k, w3 (ix3 0 n k) = x13 (ix3 1 ⟨384 + n.val, by omega⟩ k))
    (r : Fin 256) (k : Fin 1024) :
    k0_pay18 (F := Ideal) l (k0_pay11 l (k0_pay10 a b) c d) (k0_pay14 l (k0_pay12 l (k0_pay10 a b) c d p0 q0 x12 w0) p1 q1 (k0_pay13 l (k0_pay10 a b) c d) x12 w1)
      (k0_pay15 (k0_pay11 l (k0_pay10 a b) c d) p2 q2) (k0_pay16 x12) (k0_pay17 (k0_pay11 l (k0_pay10 a b) c d) p2 q2) w2 p3 q3 x12 w3 (ix2 r k)
    = ∑ w : Fin 512, Merge.diff (Merge.lam (fun a k => x10 (ix2 a k)) (x11 (ix2 0 0))) (x11 (ix2 0 0)) (fun k => x8 (ix2 r k)) (fun k => x12 (ix2 0 k)) w * x13 (ix3 1 w k) := by
  rw [pay18_at, pay14_at, pay12_at, lam_at x10 l a b c d _ hl ha hb hc hd, hl, Merge.sum_heads]
  simp only [hp0, hq0, hp1, hq1, hp2, hq2, hp3, hq3, hw0, hw1, hw2, hw3]
  refine congrArg₂ (· + ·) (congrArg₂ (· + ·) (congrArg₂ (· + ·) ?_ ?_) ?_) ?_
  · exact Finset.sum_congr rfl fun n _ => congrArg (· * _) (Merge.diff_head _ (x11 (ix2 0 0)) (fun k => x8 (ix2 r k)) (fun k => x12 (ix2 0 k)) 0 n ⟨n.val, by omega⟩ (by show n.val = 0 * 128 + n.val; omega)).symm
  · exact Finset.sum_congr rfl fun n _ => congrArg (· * _) (Merge.diff_head _ (x11 (ix2 0 0)) (fun k => x8 (ix2 r k)) (fun k => x12 (ix2 0 k)) 1 n ⟨128 + n.val, by omega⟩ (by show 128 + n.val = 1 * 128 + n.val; omega)).symm
  · exact Finset.sum_congr rfl fun n _ => congrArg (· * _) (Merge.diff_head _ (x11 (ix2 0 0)) (fun k => x8 (ix2 r k)) (fun k => x12 (ix2 0 k)) 2 n ⟨256 + n.val, by omega⟩ (by show 256 + n.val = 2 * 128 + n.val; omega)).symm
  · exact Finset.sum_congr rfl fun n _ => congrArg (· * _) (Merge.diff_head _ (x11 (ix2 0 0)) (fun k => x8 (ix2 r k)) (fun k => x12 (ix2 0 k)) 3 n ⟨384 + n.val, by omega⟩ (by show 384 + n.val = 3 * 128 + n.val; omega)).symm

/-- The block the body leaves, at a row and a column: the merge of that row. -/
theorem out_at (he : ∀ (q : Fin 3) (l : Fin 128) (w : Fin 512), x7 (ix3 q l w) = if l = Merge.lane w q then (1 : EReal) else 0)
    (r : Fin 256) (hf : ∀ (w : Fin 512) (q : Fin 3), x6 (ix2 r (Merge.lane w q)) ≠ ⊤ ∧ x6 (ix2 r (Merge.lane w q)) ≠ ⊥) (k : Fin 1024) :
    out0_15 (F := Ideal) x0 x1 x2 x3 x4 x5 x6 x7 x8 x9 x10 x11 x12 x13 x14 (ix2 r k)
      = Merge.row (fun k => x0 (ix2 r k)) (fun k => x1 (ix2 0 k)) (fun j n => x2 (ix2 j n)) (fun w => x3 (ix2 r w)) (fun w => x4 (ix2 r w))
        (fun w => x5 (ix2 r w)) (fun k => x6 (ix2 r k)) (fun k => x8 (ix2 r k)) (fun w => x9 (ix2 r w)) (fun a k => x10 (ix2 a k)) (x11 (ix2 0 0))
        (fun k => x12 (ix2 0 k)) (fun c w k => x13 (ix3 c w k)) (fun j k => x14 (ix2 j k)) k := by
  unfold_out out0_15
  rw [View.canon_unit_zero (S := S256x1024) off2]
  simp only [View.ld_unit_zero (S := S256x1024) off2, View.ld_unit_zero (S := S1x1024) off2, View.ld_unit_zero (S := S256x128) off2,
    View.ld_unit_zero (S := S256x512) off2, View.ld_unit_zero (S := S1x128) off2, View.ld_unit_zero (S := S1024x3072) off2,
    View.ld_unit_zero (S := S1024x1024) off2]
  rw [pay1_at]
  unfold Merge.row Merge.mixed
  refine congrArg (_ + ·) (Finset.sum_congr rfl fun j _ => congrArg (· * _) ?_)
  rw [diff_at x8 x10 x11 x12 x13 _ _ _ _ _ (pay9_at x11) (ld_8 x10) (ld_9 x10) (ld_10 x10) (ld_11 x10) _ _ _ _ _ _ _ _ _ _ _ _
    (ld_12 x8) (ld_13 x8) (ld_16 x8) (ld_17 x8) (ld_19 x8) (ld_20 x8) (ld_22 x8) (ld_23 x8) (ld_15 x13) (ld_18 x13) (ld_21 x13) (ld_24 x13) r j]
  refine congrArg₂ (· + ·) (congrArg₂ (· + ·) (congrArg₂ (· * ·) ?_ (Finset.sum_congr rfl fun w _ => congrArg₂ (· * ·) ?_ (ld_25 x13 w j)))
    (congrArg₂ (· * ·) ?_ rfl)) (congrArg₂ (· * ·) ?_ (Finset.sum_congr rfl fun w _ => congrArg₂ (· * ·) rfl (ld_26 x13 w j)))
  · exact congrArg (Merge.gate · _ 0 j) (funext fun k => pay2_at x0 x1 r k)
  · rw [pay19_at]
    exact sparse_at x3 x4 x5 x6 _ _ _ (fun l w => (ld_3 x7 l w).trans (he 0 l w)) (fun l w => (ld_5 x7 l w).trans (he 1 l w))
      (fun l w => (ld_6 x7 l w).trans (he 2 l w)) r hf w
  · exact congrArg (Merge.gate · _ 1 j) (funext fun k => pay2_at x0 x1 r k)
  · exact congrArg (Merge.gate · _ 2 j) (funext fun k => pay2_at x0 x1 r k)
end

end Cert.MergeIdeal.Gated

end
-- ==== Proof.MergeValue.lean ====
/- The gated merge's value over the extended reals: the staged blocks as entries of the launch contents, and what the
   result array holds at a row and a column. -/
module

public import proofs.«01_k».proof.Proof.MergeBlock

@[expose] public section

set_option maxRecDepth 16384

noncomputable section

namespace Cert.MergeIdeal.Gated

open Cert.MergeIdeal Cert.MergeIdeal.Gen
open Idealize.ShloMosaic
open Idealize.ShloMosaic.TcCoe Idealize.SL.Sem

variable (m : (ℓ : Loc nD τ sig) → Buf (Elt Ideal) ℓ)

/-! ## The arguments' contents at launch -/

abbrev X (c : Dev nD) : FVec Ideal S16384x1024 .f32 := m ((c : Thread nD τ).loc main_arg0)
abbrev Ng (c : Dev nD) : FVec Ideal S1024 .f32 := m ((c : Thread nD τ).loc main_arg1)
abbrev Wmg (c : Dev nD) : FVec Ideal S1024x3072 .f32 := m ((c : Thread nD τ).loc main_arg2)
abbrev Oc (c : Dev nD) : FVec Ideal S16384x512 .f32 := m ((c : Thread nD τ).loc main_arg3)
abbrev Os (c : Dev nD) : FVec Ideal S16384x512 .f32 := m ((c : Thread nD τ).loc main_arg4)
abbrev Ow (c : Dev nD) : FVec Ideal S16384x512 .f32 := m ((c : Thread nD τ).loc main_arg5)
abbrev Gn (c : Dev nD) : FVec Ideal S16384x128 .f32 := m ((c : Thread nD τ).loc main_arg6)
abbrev Od (c : Dev nD) : FVec Ideal S16384x1024 .f32 := m ((c : Thread nD τ).loc main_arg7)
abbrev Om (c : Dev nD) : FVec Ideal S16384x512 .f32 := m ((c : Thread nD τ).loc main_arg8)
abbrev Dl (c : Dev nD) : FVec Ideal S4x64 .f32 := m ((c : Thread nD τ).loc main_arg9)
abbrev Li (c : Dev nD) : FVec Ideal S1 .f32 := m ((c : Thread nD τ).loc main_arg10)
abbrev Sg (c : Dev nD) : FVec Ideal S128 .f32 := m ((c : Thread nD τ).loc main_arg11)
abbrev Wb (c : Dev nD) : FVec Ideal S3x512x1024 .f32 := m ((c : Thread nD τ).loc main_arg12)
abbrev Wo (c : Dev nD) : FVec Ideal S1024x1024 .f32 := m ((c : Thread nD τ).loc main_arg13)

theorem V_v0 (c : Dev nD) : V m c main_v0 = broadcastInDim S1x1024 ![1] bcast_S1024_S1x1024_1 (Ng m c) := by
  entry_read
  rfl
theorem V_v1 (c : Dev nD) : V m c main_v1 = (truncf .bf16 (Wmg m c) bitsLt_bf16_f32 : FVec Ideal S1024x3072 .bf16) := by
  entry_read
  rfl
theorem V_v3 (c : Dev nD) : V m c main_v3 = broadcastInDim S1x128 ![0, 1] bcast_S1x1_S1x128_0_1 (broadcastInDim S1x1 ![0] bcast_S1_S1x1_0 (Li m c)) := by
  entry_read
  rfl
theorem V_v4 (c : Dev nD) : V m c main_v4 = broadcastInDim S1x128 ![1] bcast_S128_S1x128_1 (Sg m c) := by
  entry_read
  rfl
theorem V_v5 (c : Dev nD) : V m c main_v5 = (truncf .bf16 (Wb m c) bitsLt_bf16_f32 : FVec Ideal S3x512x1024 .bf16) := by
  entry_read
  rfl
theorem V_v6 (c : Dev nD) : V m c main_v6 = (truncf .bf16 (Wo m c) bitsLt_bf16_f32 : FVec Ideal S1024x1024 .bf16) := by
  entry_read
  rfl
theorem V_cst (c : Dev nD) : V m c main_cst = (fun i => FloatOps.ofBits .bf16 (lit0 (S3x128x512.rowMajor i)) : FVec Ideal S3x128x512 .bf16) := by
  entry_read
  rfl

/-- The index maps of the windows that follow the grid, and of those that do not, decided over the grid. -/
theorem idx_rows : ∀ t : Fin cfg0.N,
    (win0_0.index t (0 : Fin 2) = t.val ∧ win0_0.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_15.index t (0 : Fin 2) = t.val ∧ win0_15.index t (1 : Fin 2) = 0) :=
  (by decide +kernel : ∀ t : Fin grid0.N, _)

theorem idx_whole : ∀ t : Fin cfg0.N,
    (∀ a : Fin 2, win0_1.index t a = 0) ∧ (∀ a : Fin 2, win0_2.index t a = 0) ∧ (∀ a : Fin 3, win0_7.index t a = 0)
    ∧ (∀ a : Fin 2, win0_10.index t a = 0) ∧ (∀ a : Fin 2, win0_11.index t a = 0) ∧ (∀ a : Fin 2, win0_12.index t a = 0)
    ∧ (∀ a : Fin 3, win0_13.index t a = 0) ∧ (∀ a : Fin 2, win0_14.index t a = 0) :=
  (by decide +kernel : ∀ t : Fin grid0.N, _)

/-! ## The staged blocks -/

theorem blk_x (c : Dev nD) (t : Fin cfg0.N) (r : Fin 256) (k : Fin 1024) (n : Fin 16384) (hn : n.val = 256 * t.val + r.val) :
    (iblk m c 0 t : FVec Ideal S256x1024 .f32) (ix2 r k) = X m c (ix2 n k) := by
  have e0 := (idx_rows t).1.1
  have e1 := (idx_rows t).1.2
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 256 + 1 * r.val = n.val; omega
  | ⟨1, _⟩ => show win0_0.index t (1 : Fin 2) * 1024 + 1 * k.val = k.val; omega

theorem blk_oc (c : Dev nD) (t : Fin cfg0.N) (r : Fin 256) (k : Fin 512) (n : Fin 16384) (hn : n.val = 256 * t.val + r.val) :
    (iblk m c 3 t : FVec Ideal S256x512 .f32) (ix2 r k) = Oc m c (ix2 n k) := by
  have e0 := (idx_rows t).2.1.1
  have e1 := (idx_rows t).2.1.2
  show V m c main_arg3 (((cfg0.win 3).blk t).view.emb (ix2 r k)) = _
  rw [V_main_arg3]
  refine congrArg (Oc m c) (funext fun a => Fin.ext ?_)
  match a with
  | ⟨0, _⟩ => show win0_3.index t (0 : Fin 2) * 256 + 1 * r.val = n.val; omega
  | ⟨1, _⟩ => show win0_3.index t (1 : Fin 2) * 512 + 1 * k.val = k.val; omega

theorem blk_os (c : Dev nD) (t : Fin cfg0.N) (r : Fin 256) (k : Fin 512) (n : Fin 16384) (hn : n.val = 256 * t.val + r.val) :
    (iblk m c 4 t : FVec Ideal S256x512 .f32) (ix2 r k) = Os m c (ix2 n k) := by
  have e0 := (idx_rows t).2.2.1.1
  have e1 := (idx_rows t).2.2.1.2
  show V m c main_arg4 (((cfg0.win 4).blk t).view.emb (ix2 r k)) = _
  rw [V_main_arg4]
  refine congrArg (Os m c) (funext fun a => Fin.ext ?_)
  match a with
  | ⟨0, _⟩ => show win0_4.index t (0 : Fin 2) * 256 + 1 * r.val = n.val; omega
  | ⟨1, _⟩ => show win0_4.index t (1 : Fin 2) * 512 + 1 * k.val = k.val; omega

theorem blk_ow (c : Dev nD) (t : Fin cfg0.N) (r : Fin 256) (k : Fin 512) (n : Fin 16384) (hn : n.val = 256 * t.val + r.val) :
    (iblk m c 5 t : FVec Ideal S256x512 .f32) (ix2 r k) = Ow m c (ix2 n k) := by
  have e0 := (idx_rows t).2.2.2.1.1
  have e1 := (idx_rows t).2.2.2.1.2
  show V m c main_arg5 (((cfg0.win 5).blk t).view.emb (ix2 r k)) = _
  rw [V_main_arg5]
  refine congrArg (Ow m c) (funext fun a => Fin.ext ?_)
  match a with
  | ⟨0, _⟩ => show win0_5.index t (0 : Fin 2) * 256 + 1 * r.val = n.val; omega
  | ⟨1, _⟩ => show win0_5.index t (1 : Fin 2) * 512 + 1 * k.val = k.val; omega

theorem blk_gn (c : Dev nD) (t : Fin cfg0.N) (r : Fin 256) (k : Fin 128) (n : Fin 16384) (hn : n.val = 256 * t.val + r.val) :
    (iblk m c 6 t : FVec Ideal S256x128 .f32) (ix2 r k) = Gn m c (ix2 n k) := by
  have e0 := (idx_rows t).2.2.2.2.1.1
  have e1 := (idx_rows t).2.2.2.2.1.2
  show V m c main_arg6 (((cfg0.win 6).blk t).view.emb (ix2 r k)) = _
  rw [V_main_arg6]
  refine congrArg (Gn m c) (funext fun a => Fin.ext ?_)
  match a with
  | ⟨0, _⟩ => show win0_6.index t (0 : Fin 2) * 256 + 1 * r.val = n.val; omega
  | ⟨1, _⟩ => show win0_6.index t (1 : Fin 2) * 128 + 1 * k.val = k.val; omega

theorem blk_od (c : Dev nD) (t : Fin cfg0.N) (r : Fin 256) (k : Fin 1024) (n : Fin 16384) (hn : n.val = 256 * t.val + r.val) :
    (iblk m c 8 t : FVec Ideal S256x1024 .f32) (ix2 r k) = Od m c (ix2 n k) := by
  have e0 := (idx_rows t).2.2.2.2.2.1.1
  have e1 := (idx_rows t).2.2.2.2.2.1.2
  show V m c main_arg7 (((cfg0.win 8).blk t).view.emb (ix2 r k)) = _
  rw [V_main_arg7]
  refine congrArg (Od m c) (funext fun a => Fin.ext ?_)
  match a with
  | ⟨0, _⟩ => show win0_8.index t (0 : Fin 2) * 256 + 1 * r.val = n.val; omega
  | ⟨1, _⟩ => show win0_8.index t (1 : Fin 2) * 1024 + 1 * k.val = k.val; omega

theorem blk_om (c : Dev nD) (t : Fin cfg0.N) (r : Fin 256) (k : Fin 512) (n : Fin 16384) (hn : n.val = 256 * t.val + r.val) :
    (iblk m c 9 t : FVec Ideal S256x512 .f32) (ix2 r k) = Om m c (ix2 n k) := by
  have e0 := (idx_rows t).2.2.2.2.2.2.1.1
  have e1 := (idx_rows t).2.2.2.2.2.2.1.2
  show V m c main_arg8 (((cfg0.win 9).blk t).view.emb (ix2 r k)) = _
  rw [V_main_arg8]
  refine congrArg (Om m c) (funext fun a => Fin.ext ?_)
  match a with
  | ⟨0, _⟩ => show win0_9.index t (0 : Fin 2) * 256 + 1 * r.val = n.val; omega
  | ⟨1, _⟩ => show win0_9.index t (1 : Fin 2) * 512 + 1 * k.val = k.val; omega

theorem blk_g (c : Dev nD) (t : Fin cfg0.N) (r : Fin 1) (k : Fin 1024) :
    (iblk m c 1 t : FVec Ideal S1x1024 .f32) (ix2 r k) = Ng m c (ix1 k) := by
  have e0 := (idx_whole t).1 (0 : Fin 2)
  have e1 := (idx_whole t).1 (1 : Fin 2)
  show V m c main_v0 (((cfg0.win 1).blk t).view.emb (ix2 r k)) = _
  rw [V_v0, show ((cfg0.win 1).blk t).view.emb (ix2 r k) = (ix2 r k : S1x1024.Idx) from funext fun a => Fin.ext (by
    match a with
    | ⟨0, _⟩ => show win0_1.index t (0 : Fin 2) * 1 + 1 * r.val = r.val; omega
    | ⟨1, _⟩ => show win0_1.index t (1 : Fin 2) * 1024 + 1 * k.val = k.val; omega)]
  pointwise

theorem blk_wmg (c : Dev nD) (t : Fin cfg0.N) (r : Fin 1024) (k : Fin 3072) :
    (iblk m c 2 t : FVec Ideal S1024x3072 .bf16) (ix2 r k) = Wmg m c (ix2 r k) := by
  have e0 := (idx_whole t).2.1 (0 : Fin 2)
  have e1 := (idx_whole t).2.1 (1 : Fin 2)
  show V m c main_v1 (((cfg0.win 2).blk t).view.emb (ix2 r k)) = _
  rw [V_v1, show ((cfg0.win 2).blk t).view.emb (ix2 r k) = (ix2 r k : S1024x3072.Idx) from funext fun a => Fin.ext (by
    match a with
    | ⟨0, _⟩ => show win0_2.index t (0 : Fin 2) * 1024 + 1 * r.val = r.val; omega
    | ⟨1, _⟩ => show win0_2.index t (1 : Fin 2) * 3072 + 1 * k.val = k.val; omega)]
  pointwise

theorem blk_dl (c : Dev nD) (t : Fin cfg0.N) (r : Fin 4) (k : Fin 64) :
    (iblk m c 10 t : FVec Ideal S4x64 .f32) (ix2 r k) = Dl m c (ix2 r k) := by
  have e0 := (idx_whole t).2.2.2.1 (0 : Fin 2)
  have e1 := (idx_whole t).2.2.2.1 (1 : Fin 2)
  show V m c main_arg9 (((cfg0.win 10).blk t).view.emb (ix2 r k)) = _
  rw [V_main_arg9, show ((cfg0.win 10).blk t).view.emb (ix2 r k) = (ix2 r k : S4x64.Idx) from funext fun a => Fin.ext (by
    match a with
    | ⟨0, _⟩ => show win0_10.index t (0 : Fin 2) * 4 + 1 * r.val = r.val; omega
    | ⟨1, _⟩ => show win0_10.index t (1 : Fin 2) * 64 + 1 * k.val = k.val; omega)]

theorem blk_li (c : Dev nD) (t : Fin cfg0.N) (r : Fin 1) (k : Fin 128) :
    (iblk m c 11 t : FVec Ideal S1x128 .f32) (ix2 r k) = Li m c (ix1 0) := by
  have e0 := (idx_whole t).2.2.2.2.1 (0 : Fin 2)
  have e1 := (idx_whole t).2.2.2.2.1 (1 : Fin 2)
  show V m c main_v3 (((cfg0.win 11).blk t).view.emb (ix2 r k)) = _
  rw [V_v3, show ((cfg0.win 11).blk t).view.emb (ix2 r k) = (ix2 r k : S1x128.Idx) from funext fun a => Fin.ext (by
    match a with
    | ⟨0, _⟩ => show win0_11.index t (0 : Fin 2) * 1 + 1 * r.val = r.val; omega
    | ⟨1, _⟩ => show win0_11.index t (1 : Fin 2) * 128 + 1 * k.val = k.val; omega)]
  pointwise

theorem blk_sg (c : Dev nD) (t : Fin cfg0.N) (r : Fin 1) (k : Fin 128) :
    (iblk m c 12 t : FVec Ideal S1x128 .f32) (ix2 r k) = Sg m c (ix1 k) := by
  have e0 := (idx_whole t).2.2.2.2.2.1 (0 : Fin 2)
  have e1 := (idx_whole t).2.2.2.2.2.1 (1 : Fin 2)
  show V m c main_v4 (((cfg0.win 12).blk t).view.emb (ix2 r k)) = _
  rw [V_v4, show ((cfg0.win 12).blk t).view.emb (ix2 r k) = (ix2 r k : S1x128.Idx) from funext fun a => Fin.ext (by
    match a with
    | ⟨0, _⟩ => show win0_12.index t (0 : Fin 2) * 1 + 1 * r.val = r.val; omega
    | ⟨1, _⟩ => show win0_12.index t (1 : Fin 2) * 128 + 1 * k.val = k.val; omega)]
  pointwise

theorem blk_wo (c : Dev nD) (t : Fin cfg0.N) (r : Fin 1024) (k : Fin 1024) :
    (iblk m c 14 t : FVec Ideal S1024x1024 .bf16) (ix2 r k) = Wo m c (ix2 r k) := by
  have e0 := (idx_whole t).2.2.2.2.2.2.2 (0 : Fin 2)
  have e1 := (idx_whole t).2.2.2.2.2.2.2 (1 : Fin 2)
  show V m c main_v6 (((cfg0.win 14).blk t).view.emb (ix2 r k)) = _
  rw [V_v6, show ((cfg0.win 14).blk t).view.emb (ix2 r k) = (ix2 r k : S1024x1024.Idx) from funext fun a => Fin.ext (by
    match a with
    | ⟨0, _⟩ => show win0_14.index t (0 : Fin 2) * 1024 + 1 * r.val = r.val; omega
    | ⟨1, _⟩ => show win0_14.index t (1 : Fin 2) * 1024 + 1 * k.val = k.val; omega)]
  pointwise

theorem blk_wb (c : Dev nD) (t : Fin cfg0.N) (q : Fin 3) (r : Fin 512) (k : Fin 1024) :
    (iblk m c 13 t : FVec Ideal S3x512x1024 .bf16) (ix3 q r k) = Wb m c (ix3 q r k) := by
  have e0 := (idx_whole t).2.2.2.2.2.2.1 (0 : Fin 3)
  have e1 := (idx_whole t).2.2.2.2.2.2.1 (1 : Fin 3)
  have e2 := (idx_whole t).2.2.2.2.2.2.1 (2 : Fin 3)
  show V m c main_v5 (((cfg0.win 13).blk t).view.emb (ix3 q r k)) = _
  rw [V_v5, show ((cfg0.win 13).blk t).view.emb (ix3 q r k) = (ix3 q r k : S3x512x1024.Idx) from funext fun a => Fin.ext (by
    match a with
    | ⟨0, _⟩ => show win0_13.index t (0 : Fin 3) * 3 + 1 * q.val = q.val; omega
    | ⟨1, _⟩ => show win0_13.index t (1 : Fin 3) * 512 + 1 * r.val = r.val; omega
    | ⟨2, _⟩ => show win0_13.index t (2 : Fin 3) * 1024 + 1 * k.val = k.val; omega)]
  rfl

theorem blk_e (c : Dev nD) (t : Fin cfg0.N) (q : Fin 3) (r : Fin 128) (k : Fin 512) :
    (iblk m c 7 t : FVec Ideal S3x128x512 .bf16) (ix3 q r k) = Ideal.ofBits .bf16 (lit0 (S3x128x512.rowMajor (ix3 q r k))) := by
  have e0 := (idx_whole t).2.2.1 (0 : Fin 3)
  have e1 := (idx_whole t).2.2.1 (1 : Fin 3)
  have e2 := (idx_whole t).2.2.1 (2 : Fin 3)
  show V m c main_cst (((cfg0.win 7).blk t).view.emb (ix3 q r k)) = _
  rw [V_cst, show ((cfg0.win 7).blk t).view.emb (ix3 q r k) = (ix3 q r k : S3x128x512.Idx) from funext fun a => Fin.ext (by
    match a with
    | ⟨0, _⟩ => show win0_7.index t (0 : Fin 3) * 3 + 1 * q.val = q.val; omega
    | ⟨1, _⟩ => show win0_7.index t (1 : Fin 3) * 128 + 1 * r.val = r.val; omega
    | ⟨2, _⟩ => show win0_7.index t (2 : Fin 3) * 512 + 1 * k.val = k.val; omega)]
  rfl

end Cert.MergeIdeal.Gated

end
-- ==== Proof.MergeTable.lean ====
/- The one-hot matrix the host writes for the gates, as runs of equal entries: the lists of words and the rule that fills
   them, twelve lists of 128 runs, each run in two halves. -/
module

public import proofs.«01_k».proof.Proof.MergeMath
public import proofs.«01_k».proof.MergeIdeal

@[expose] public section

set_option maxRecDepth 65536

namespace Cert.MergeIdeal.Const

open Cert.MergeIdeal

/-- 128 entries in two halves: `p` in the first 64 places, `q` in the others. -/
def halves (p q : BitVec 16) (x : Nat) : BitVec 16 := match x with
  | 0 => p | 1 => p | 2 => p | 3 => p | 4 => p | 5 => p | 6 => p | 7 => p
  | 8 => p | 9 => p | 10 => p | 11 => p | 12 => p | 13 => p | 14 => p | 15 => p
  | 16 => p | 17 => p | 18 => p | 19 => p | 20 => p | 21 => p | 22 => p | 23 => p
  | 24 => p | 25 => p | 26 => p | 27 => p | 28 => p | 29 => p | 30 => p | 31 => p
  | 32 => p | 33 => p | 34 => p | 35 => p | 36 => p | 37 => p | 38 => p | 39 => p
  | 40 => p | 41 => p | 42 => p | 43 => p | 44 => p | 45 => p | 46 => p | 47 => p
  | 48 => p | 49 => p | 50 => p | 51 => p | 52 => p | 53 => p | 54 => p | 55 => p
  | 56 => p | 57 => p | 58 => p | 59 => p | 60 => p | 61 => p | 62 => p | 63 => p
  | 64 => q | 65 => q | 66 => q | 67 => q | 68 => q | 69 => q | 70 => q | 71 => q
  | 72 => q | 73 => q | 74 => q | 75 => q | 76 => q | 77 => q | 78 => q | 79 => q
  | 80 => q | 81 => q | 82 => q | 83 => q | 84 => q | 85 => q | 86 => q | 87 => q
  | 88 => q | 89 => q | 90 => q | 91 => q | 92 => q | 93 => q | 94 => q | 95 => q
  | 96 => q | 97 => q | 98 => q | 99 => q | 100 => q | 101 => q | 102 => q | 103 => q
  | 104 => q | 105 => q | 106 => q | 107 => q | 108 => q | 109 => q | 110 => q | 111 => q
  | 112 => q | 113 => q | 114 => q | 115 => q | 116 => q | 117 => q | 118 => q | 119 => q
  | 120 => q | 121 => q | 122 => q | 123 => q | 124 => q | 125 => q | 126 => q | 127 => q
  | _ => 0#16

/-- 128 runs of entries, by the run's number. -/
def rows (f : Nat → BitVec 16) (x : Nat) : BitVec 16 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

/-- The word of half `h` of run `k`. -/
def bit (k h : Nat) : BitVec 16 := if k / 4 % 128 = (k % 4 * 2 + h) * 3 + k / 512 then 0x3F80#16 else 0x0000#16

theorem chunk_0 (i : Nat) : lit0t1_0 i = rows (fun b => halves (bit (0 * 128 + b) 0) (bit (0 * 128 + b) 1) (i % 128)) (i / 128 % 128) := rfl
theorem chunk_1 (i : Nat) : lit0t1_1 i = rows (fun b => halves (bit (1 * 128 + b) 0) (bit (1 * 128 + b) 1) (i % 128)) (i / 128 % 128) := rfl
theorem chunk_2 (i : Nat) : lit0t1_2 i = rows (fun b => halves (bit (2 * 128 + b) 0) (bit (2 * 128 + b) 1) (i % 128)) (i / 128 % 128) := rfl
theorem chunk_3 (i : Nat) : lit0t1_3 i = rows (fun b => halves (bit (3 * 128 + b) 0) (bit (3 * 128 + b) 1) (i % 128)) (i / 128 % 128) := rfl
theorem chunk_4 (i : Nat) : lit0t1_4 i = rows (fun b => halves (bit (4 * 128 + b) 0) (bit (4 * 128 + b) 1) (i % 128)) (i / 128 % 128) := rfl
theorem chunk_5 (i : Nat) : lit0t1_5 i = rows (fun b => halves (bit (5 * 128 + b) 0) (bit (5 * 128 + b) 1) (i % 128)) (i / 128 % 128) := rfl
theorem chunk_6 (i : Nat) : lit0t1_6 i = rows (fun b => halves (bit (6 * 128 + b) 0) (bit (6 * 128 + b) 1) (i % 128)) (i / 128 % 128) := rfl
theorem chunk_7 (i : Nat) : lit0t1_7 i = rows (fun b => halves (bit (7 * 128 + b) 0) (bit (7 * 128 + b) 1) (i % 128)) (i / 128 % 128) := rfl
theorem chunk_8 (i : Nat) : lit0t1_8 i = rows (fun b => halves (bit (8 * 128 + b) 0) (bit (8 * 128 + b) 1) (i % 128)) (i / 128 % 128) := rfl
theorem chunk_9 (i : Nat) : lit0t1_9 i = rows (fun b => halves (bit (9 * 128 + b) 0) (bit (9 * 128 + b) 1) (i % 128)) (i / 128 % 128) := rfl
theorem chunk_10 (i : Nat) : lit0t1_10 i = rows (fun b => halves (bit (10 * 128 + b) 0) (bit (10 * 128 + b) 1) (i % 128)) (i / 128 % 128) := rfl
theorem chunk_11 (i : Nat) : lit0t1_11 i = rows (fun b => halves (bit (11 * 128 + b) 0) (bit (11 * 128 + b) 1) (i % 128)) (i / 128 % 128) := rfl

theorem rows_at (f : Nat → BitVec 16) (x : Nat) (h : x < 128) : rows f x = f x := by
  interval_cases x <;> rfl

theorem halves_at (p q : BitVec 16) (x : Nat) (h : x < 128) : halves p q x = if x < 64 then p else q := by
  interval_cases x <;> rfl

/-- A run's entry, through the two tables. -/
theorem run_at (a i : Nat) :
    rows (fun b => halves (bit (a * 128 + b) 0) (bit (a * 128 + b) 1) (i % 128)) (i / 128 % 128) = bit (a * 128 + i / 128 % 128) (i % 128 / 64) := by
  rw [rows_at _ _ (Nat.mod_lt _ (by decide)), halves_at _ _ _ (Nat.mod_lt _ (by decide))]
  have h : i % 128 < 128 := Nat.mod_lt _ (by decide)
  by_cases h64 : i % 128 < 64
  · rw [if_pos h64, show i % 128 / 64 = 0 by omega]
  · rw [if_neg h64, show i % 128 / 64 = 1 by omega]

end Cert.MergeIdeal.Const

end
-- ==== Proof.MergeConst.lean ====
/- The one-hot matrix the host writes for the gates, entry by entry: lane `l` of plane `c` marks the 64 columns of the
   head whose gate of branch `c` that lane holds. -/
module

public import proofs.«01_k».proof.Proof.MergeTable

@[expose] public section

set_option maxRecDepth 65536

namespace Cert.MergeIdeal.Const

open Cert.MergeIdeal

/-- The entries of each list. -/
theorem arm_0 (i : Nat) (h : i / 16384 = 0) : lit0t i = bit (0 * 128 + i / 128 % 128) (i % 128 / 64) := by
  have e : lit0t i = lit0t1_0 i := by
    unfold lit0t
    rw [h]
    rfl
  exact e.trans ((chunk_0 i).trans (run_at 0 i))
theorem arm_1 (i : Nat) (h : i / 16384 = 1) : lit0t i = bit (1 * 128 + i / 128 % 128) (i % 128 / 64) := by
  have e : lit0t i = lit0t1_1 i := by
    unfold lit0t
    rw [h]
    rfl
  exact e.trans ((chunk_1 i).trans (run_at 1 i))
theorem arm_2 (i : Nat) (h : i / 16384 = 2) : lit0t i = bit (2 * 128 + i / 128 % 128) (i % 128 / 64) := by
  have e : lit0t i = lit0t1_2 i := by
    unfold lit0t
    rw [h]
    rfl
  exact e.trans ((chunk_2 i).trans (run_at 2 i))
theorem arm_3 (i : Nat) (h : i / 16384 = 3) : lit0t i = bit (3 * 128 + i / 128 % 128) (i % 128 / 64) := by
  have e : lit0t i = lit0t1_3 i := by
    unfold lit0t
    rw [h]
    rfl
  exact e.trans ((chunk_3 i).trans (run_at 3 i))
theorem arm_4 (i : Nat) (h : i / 16384 = 4) : lit0t i = bit (4 * 128 + i / 128 % 128) (i % 128 / 64) := by
  have e : lit0t i = lit0t1_4 i := by
    unfold lit0t
    rw [h]
    rfl
  exact e.trans ((chunk_4 i).trans (run_at 4 i))
theorem arm_5 (i : Nat) (h : i / 16384 = 5) : lit0t i = bit (5 * 128 + i / 128 % 128) (i % 128 / 64) := by
  have e : lit0t i = lit0t1_5 i := by
    unfold lit0t
    rw [h]
    rfl
  exact e.trans ((chunk_5 i).trans (run_at 5 i))
theorem arm_6 (i : Nat) (h : i / 16384 = 6) : lit0t i = bit (6 * 128 + i / 128 % 128) (i % 128 / 64) := by
  have e : lit0t i = lit0t1_6 i := by
    unfold lit0t
    rw [h]
    rfl
  exact e.trans ((chunk_6 i).trans (run_at 6 i))
theorem arm_7 (i : Nat) (h : i / 16384 = 7) : lit0t i = bit (7 * 128 + i / 128 % 128) (i % 128 / 64) := by
  have e : lit0t i = lit0t1_7 i := by
    unfold lit0t
    rw [h]
    rfl
  exact e.trans ((chunk_7 i).trans (run_at 7 i))
theorem arm_8 (i : Nat) (h : i / 16384 = 8) : lit0t i = bit (8 * 128 + i / 128 % 128) (i % 128 / 64) := by
  have e : lit0t i = lit0t1_8 i := by
    unfold lit0t
    rw [h]
    rfl
  exact e.trans ((chunk_8 i).trans (run_at 8 i))
theorem arm_9 (i : Nat) (h : i / 16384 = 9) : lit0t i = bit (9 * 128 + i / 128 % 128) (i % 128 / 64) := by
  have e : lit0t i = lit0t1_9 i := by
    unfold lit0t
    rw [h]
    rfl
  exact e.trans ((chunk_9 i).trans (run_at 9 i))
theorem arm_10 (i : Nat) (h : i / 16384 = 10) : lit0t i = bit (10 * 128 + i / 128 % 128) (i % 128 / 64) := by
  have e : lit0t i = lit0t1_10 i := by
    unfold lit0t
    rw [h]
    rfl
  exact e.trans ((chunk_10 i).trans (run_at 10 i))
theorem arm_11 (i : Nat) (h : i / 16384 = 11) : lit0t i = bit (11 * 128 + i / 128 % 128) (i % 128 / 64) := by
  have e : lit0t i = lit0t1_11 i := by
    unfold lit0t
    rw [h]
    rfl
  exact e.trans ((chunk_11 i).trans (run_at 11 i))

/-- Every entry of the list, by its number. -/
theorem entry_at (i : Nat) (h : i < 196608) : lit0t i = bit (i / 128) (i % 128 / 64) := by
  have ha : i / 16384 < 12 := by omega
  have key : ∀ a, i / 16384 = a → a * 128 + i / 128 % 128 = i / 128 := fun a e => by omega
  rcases (by omega : i / 16384 = 0 ∨ i / 16384 = 1 ∨ i / 16384 = 2 ∨ i / 16384 = 3 ∨ i / 16384 = 4 ∨ i / 16384 = 5 ∨ i / 16384 = 6 ∨ i / 16384 = 7 ∨ i / 16384 = 8 ∨ i / 16384 = 9 ∨ i / 16384 = 10 ∨ i / 16384 = 11) with e | e | e | e | e | e | e | e | e | e | e | e
  · rw [arm_0 i e, key 0 e]
  · rw [arm_1 i e, key 1 e]
  · rw [arm_2 i e, key 2 e]
  · rw [arm_3 i e, key 3 e]
  · rw [arm_4 i e, key 4 e]
  · rw [arm_5 i e, key 5 e]
  · rw [arm_6 i e, key 6 e]
  · rw [arm_7 i e, key 7 e]
  · rw [arm_8 i e, key 8 e]
  · rw [arm_9 i e, key 9 e]
  · rw [arm_10 i e, key 10 e]
  · rw [arm_11 i e, key 11 e]

/-- The entry of plane `q`, lane `l` and column `w`. -/
theorem word_at (q : Fin 3) (l : Fin 128) (w : Fin 512) (i : Fin 196608) (hi : i.val = (q.val * 128 + l.val) * 512 + w.val) :
    lit0 i = if l = Merge.lane w q then 0x3F80#16 else 0x0000#16 := by
  have e : lit0 i = bit (i.val / 128) (i.val % 128 / 64) := entry_at i.val i.isLt
  rw [e]
  unfold bit
  have hc : (i.val / 128 / 4 % 128 = (i.val / 128 % 4 * 2 + i.val % 128 / 64) * 3 + i.val / 128 / 512) ↔ l = Merge.lane w q := by
    have hl : l = Merge.lane w q ↔ l.val = w.val / 64 * 3 + q.val := ⟨fun e => congrArg Fin.val e, fun e => Fin.ext e⟩
    rw [hl]
    have h1 : i.val / 128 = q.val * 512 + l.val * 4 + w.val / 128 := by omega
    have h2 : i.val % 128 = w.val % 128 := by omega
    rw [h1, h2]
    have h3 : (q.val * 512 + l.val * 4 + w.val / 128) / 4 % 128 = l.val := by omega
    have h4 : (q.val * 512 + l.val * 4 + w.val / 128) % 4 = w.val / 128 := by omega
    have h5 : (q.val * 512 + l.val * 4 + w.val / 128) / 512 = q.val := by omega
    have h6 : w.val / 128 * 2 + w.val % 128 / 64 = w.val / 64 := by omega
    rw [h3, h4, h5, h6]
  simp only [hc]

end Cert.MergeIdeal.Const
-- ==== Proof.MergeResult.lean ====
/- What the result array of the gated merge holds at a row and a column: the merge of that row's inputs. -/
module

public import proofs.«01_k».proof.Proof.MergeValue
public import proofs.«01_k».proof.Proof.MergeConst
public import proofs.«01_k».proof.Proof.Gen.MergeIdeal.Value

@[expose] public section

set_option maxRecDepth 16384

noncomputable section

namespace Cert.MergeIdeal.Gated

open Cert.MergeIdeal Cert.MergeIdeal.Gen
open Idealize.ShloMosaic
open Idealize.ShloMosaic.TcCoe Idealize.SL.Sem

variable (m : (ℓ : Loc nD τ sig) → Buf (Elt Ideal) ℓ)

/-- The one-hot block, entry by entry. -/
theorem e_at (c : Dev nD) (t : Fin cfg0.N) (q : Fin 3) (l : Fin 128) (w : Fin 512) :
    (iblk m c 7 t : FVec Ideal S3x128x512 .bf16) (ix3 q l w) = if l = Merge.lane w q then (1 : EReal) else 0 := by
  rw [blk_e, Const.word_at q l w _ (Shape.rowMajor_val_three (d := ![3, 128, 512]) (ix3 q l w))]
  by_cases h : l = Merge.lane w q
  · rw [if_pos h, if_pos h, Ideal.ofBits_one_bf16]
  · rw [if_neg h, if_neg h, Ideal.ofBits_zero_bf16]

/-- The block of point `t` that is written back, at a row and a column. -/
theorem point_at (c : Dev nD) (t : Fin cfg0.N) (r : Fin 256) (k : Fin 1024) (n : Fin 16384) (hn : n.val = 256 * t.val + r.val)
    (hf : ∀ (w : Fin 512) (q : Fin 3), Gn m c (ix2 n (Merge.lane w q)) ≠ ⊤ ∧ Gn m c (ix2 n (Merge.lane w q)) ≠ ⊥) :
    out0_15 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix2 r k)
      = Merge.row (fun k => X m c (ix2 n k)) (fun k => Ng m c (ix1 k)) (fun j n => Wmg m c (ix2 j n)) (fun w => Oc m c (ix2 n w))
          (fun w => Os m c (ix2 n w)) (fun w => Ow m c (ix2 n w)) (fun k => Gn m c (ix2 n k)) (fun k => Od m c (ix2 n k))
          (fun w => Om m c (ix2 n w)) (fun a k => Dl m c (ix2 a k)) (Li m c (ix1 0)) (fun k => Sg m c (ix1 k))
          (fun q w k => Wb m c (ix3 q w k)) (fun j k => Wo m c (ix2 j k)) k := by
  rw [out_at _ _ _ _ _ _ _ _ _ _ _ _ _ _ _ (e_at m c t) r
    (fun w q => by rw [show (iblk m c 6 t : FVec Ideal S256x128 .f32) (ix2 r (Merge.lane w q)) = _ from blk_gn m c t r _ n hn]; exact hf w q) k]
  rw [funext fun k => blk_x m c t r k n hn, funext fun k => blk_g m c t 0 k, funext fun j => funext fun k => blk_wmg m c t j k,
    funext fun k => blk_oc m c t r k n hn, funext fun k => blk_os m c t r k n hn, funext fun k => blk_ow m c t r k n hn,
    funext fun k => blk_gn m c t r k n hn, funext fun k => blk_od m c t r k n hn, funext fun k => blk_om m c t r k n hn,
    funext fun j => funext fun k => blk_dl m c t j k, blk_li m c t 0 0, funext fun k => blk_sg m c t 0 k,
    funext fun q => funext fun j => funext fun k => blk_wb m c t q j k, funext fun j => funext fun k => blk_wo m c t j k]

/-- The result array, at a row and a column. -/
theorem result_at (c : Dev nD) (n : Fin 16384) (k : Fin 1024)
    (hf : ∀ (w : Fin 512) (q : Fin 3), Gn m c (ix2 n (Merge.lane w q)) ≠ ⊤ ∧ Gn m c (ix2 n (Merge.lane w q)) ≠ ⊥) :
    ((dats m 0 c).arrAt 15 cfg0.N : FVec Ideal S16384x1024 .f32) (ix2 n k)
      = Merge.row (fun k => X m c (ix2 n k)) (fun k => Ng m c (ix1 k)) (fun j n => Wmg m c (ix2 j n)) (fun w => Oc m c (ix2 n w))
          (fun w => Os m c (ix2 n w)) (fun w => Ow m c (ix2 n w)) (fun k => Gn m c (ix2 n k)) (fun k => Od m c (ix2 n k))
          (fun w => Om m c (ix2 n w)) (fun a k => Dl m c (ix2 a k)) (Li m c (ix1 0)) (fun k => Sg m c (ix1 k))
          (fun q w k => Wb m c (ix3 q w k)) (fun j k => Wo m c (ix2 j k)) k := by
  have hN : cfg0.N = 64 := N_0
  have hlt : n.val / 256 < cfg0.N := by omega
  have hn : n.val = 256 * (n.val / 256) + n.val % 256 := by omega
  rw [← point_at m c ⟨n.val / 256, hlt⟩ ⟨n.val % 256, Nat.mod_lt _ (by decide)⟩ k n hn hf]
  have e0 := (idx_rows ⟨n.val / 256, hlt⟩).2.2.2.2.2.2.2.1
  have e1 := (idx_rows ⟨n.val / 256, hlt⟩).2.2.2.2.2.2.2.2
  have hemb : ((cfg0.win 15).blk ⟨n.val / 256, hlt⟩).view.emb (ix2 (⟨n.val % 256, Nat.mod_lt _ (by decide)⟩ : Fin 256) k) = (ix2 n k : S16384x1024.Idx) :=
    funext fun a => Fin.ext (by
      match a with
      | ⟨0, _⟩ => show win0_15.index ⟨n.val / 256, hlt⟩ (0 : Fin 2) * 256 + 1 * (n.val % 256) = n.val; rw [e0]; show n.val / 256 * 256 + 1 * (n.val % 256) = n.val; omega
      | ⟨1, _⟩ => show win0_15.index ⟨n.val / 256, hlt⟩ (1 : Fin 2) * 1024 + 1 * k.val = k.val; rw [e1]; omega)
  have h := congrFun (Value.blocks15 m c ⟨n.val / 256, hlt⟩ (flush0_15 _)) (ix2 (⟨n.val % 256, Nat.mod_lt _ (by decide)⟩ : Fin 256) k)
  rw [Value.flushed15] at h
  refine Eq.trans ?_ h
  exact congrArg ((dats m 0 c).arrAt 15 cfg0.N) hemb.symm

end Cert.MergeIdeal.Gated

end
-- ==== Proof.MergeClaims.lean ====
/- The claims about the gated merge's call: what the bound on the gates says, the reference's run, and the agreement of the
   two result arrays. -/
module

public import proofs.«01_k».proof.Defs
public import proofs.«01_k».proof.Proof.MergeRef
public import proofs.«01_k».proof.Proof.MergeResult
public import proofs.«01_k».proof.Proof.Gen.Merge.Frame
public import proofs.«01_k».proof.Proof.Gen.MergeIdeal.Frame
public import proofs.«01_k».proof.Proof.Gen.Pre_gates_finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Gated

/-- An entry whose magnitude is below the infinity's word is neither infinity. -/
theorem finite_of_bound (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  refine ⟨fun e => ?_, fun e => ?_⟩ <;> subst e <;> simp at h

/-- The bound on the gates: every gate lane the heads read holds a finite value. -/
theorem lanes_finite (m : (ℓ : Loc Cert.MergeIdeal.nD Cert.MergeIdeal.τ Cert.MergeIdeal.sig) → Buf (Elt Ideal) ℓ)
    (hp : Cert.Pre_MergeIdeal_gates_finite (hPre_gates_finite := Cert.Pre_gates_finite.Gen.facts) m) (c : Dev Cert.MergeIdeal.nD)
    (n : Fin 16384) (w : Fin 512) (q : Fin 3) :
    Cert.MergeIdeal.Gated.Gn m c (ix2 n (Merge.lane w q)) ≠ ⊤ ∧ Cert.MergeIdeal.Gated.Gn m c (ix2 n (Merge.lane w q)) ≠ ⊥ := by
  have hl : w.val / 64 * 3 + q.val < 24 := by omega
  have h := congrFun (hp c) (ix2 n (⟨w.val / 64 * 3 + q.val, hl⟩ : Fin 24))
  refine finite_of_bound _ (Eq.trans ?_ h)
  pointwise [Cert.Pre_gates_finite.fn]
  rfl

/-- `Cert.quiescent_MergeRefIdeal`: a program of host operations alone declares no semaphore. -/
theorem frame_ref : Cert.quiescent_MergeRefIdeal (hMergeRefIdeal := Cert.MergeRefIdeal.Gen.facts) := fun m ρ _ =>
  θ_run_mono (Cert.MergeRefIdeal.Value.run (F := Ideal) m ρ) fun r h => ⟨fun c => (h c).2, sem_eq_zero_of_no_sems rfl r.2⟩

/-- The two result arrays agree at every row and column, the gates finite. -/
theorem algebraic : Cert.algebraic_MergeIdeal_MergeRefIdeal_pre_gates_finite (hMergeIdeal := Cert.MergeIdeal.Gen.facts)
    (hMergeRefIdeal := Cert.MergeRefIdeal.Gen.facts) (hPre_gates_finite := Cert.Pre_gates_finite.Gen.facts) := by
  pair_intro
  · run_from (Cert.MergeIdeal.Value.run_blocks m g)
  · refine θ_run_mono (Cert.MergeRefIdeal.Value.run (F := Ideal) m' g') fun r h c => ⟨(h c).1.trans ?_, (h c).2⟩
    obtain ⟨h0, h1, h2, h3, h4, h5, h6, h7, h8, h9, h10, h11, h12, h13⟩ := hagree c
    refine Eq.trans (b := Cert.MergeRefIdeal.Gated.REF (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13))) rfl ?_
    rw [h0, h1, h2, h3, h4, h5, h6, h7, h8, h9, h10, h11, h12, h13]
    refine funext fun i => ?_
    obtain ⟨a, b, rfl⟩ : ∃ (a : Fin 16384) (b : Fin 1024), i = ix2 a b := ⟨i 0, i 1, eq_ix2 i⟩
    exact (Cert.MergeRefIdeal.Gated.REF_at _ _ _ _ _ _ _ _ _ _ _ _ _ _ a b).trans
      (Cert.MergeIdeal.Gated.result_at m c a b (lanes_finite m hpre c a)).symm

end Cert.Proof.Gated

end
-- ==== Proof.ProjMath.lean ====
/- One row of the projection, as a function of that row's products over the extended reals: a head normalized by the root
   of its mean square and turned by the position's angles, and the kernel's way of computing it on 128 lanes at once. -/
module

public import proofs.«01_k».proof.Proof.MergeMath

@[expose] public section

noncomputable section

namespace Proj

open Idealize.ShloMosaic

/-- The first 16 lanes of a head turned in pairs at distance 8, the other 48 kept. -/
def turn (cs sn : Fin 8 → EReal) (y : Fin 64 → EReal) (c : Fin 64) : EReal :=
  if h : c.val < 8 then y c * cs ⟨c.val, h⟩ - y ⟨c.val + 8, by omega⟩ * sn ⟨c.val, h⟩
  else if h' : c.val < 16 then y c * cs ⟨c.val - 8, by omega⟩ + y ⟨c.val - 8, by omega⟩ * sn ⟨c.val - 8, by omega⟩
  else y c

/-- The angle of position `t` at pair `j`. -/
def angle (t : Fin 8192) (j : Fin 8) : EReal :=
  FloatOps.sitofp (F := Ideal) .f32 (BitVec.ofNat 32 t.val) * Ideal.pow (Ideal.ofBits .f32 0x48F42400#32)
    (Ideal.div (-FloatOps.sitofp (F := Ideal) .f32 (BitVec.ofNat 32 j.val)) (Ideal.ofBits .f32 0x41000000#32))

/-- Lane `c` of the head of the 64 columns from `b` on: normalized with the gains `g`, and turned. -/
def head (h : Fin 6424 → EReal) (g : Fin 64 → EReal) (cs sn : Fin 8 → EReal) (b : Nat) (hb : b + 64 ≤ 6424) (c : Fin 64) : EReal :=
  turn cs sn (Merge.norm 0x42800000#32 (fun k => h ⟨b + k.val, by omega⟩) g) c

theorem head_congr (h : Fin 6424 → EReal) (g : Fin 64 → EReal) (cs sn : Fin 8 → EReal) (b b' : Nat) (hb : b + 64 ≤ 6424) (hb' : b' + 64 ≤ 6424)
    (c c' : Fin 64) (e : b = b') (e' : c.val = c'.val) : head h g cs sn b hb c = head h g cs sn b' hb' c' := by
  subst e
  rw [Fin.ext e']

/-- The turn with its cases split the other way. -/
theorem turn_split (cs sn : Fin 8 → EReal) (y : Fin 64 → EReal) (c : Fin 64) :
    (if h : c.val < 16 then
      if h' : c.val < 8 then y c * cs ⟨c.val, h'⟩ - y ⟨8 + c.val, by omega⟩ * sn ⟨c.val, h'⟩
      else y ⟨8 + (c.val - 8), by omega⟩ * cs ⟨c.val - 8, by omega⟩ + y ⟨c.val - 8, by omega⟩ * sn ⟨c.val - 8, by omega⟩
    else y ⟨16 + (c.val - 16), by omega⟩) = turn cs sn y c := by
  unfold turn
  by_cases a : c.val < 8
  · rw [dif_pos (by omega), dif_pos a, dif_pos a]
    have e : (⟨8 + c.val, by omega⟩ : Fin 64) = ⟨c.val + 8, by omega⟩ := Fin.ext (Nat.add_comm _ _)
    rw [e]
  · by_cases b : c.val < 16
    · rw [dif_pos b, dif_neg a, dif_neg a, dif_pos b]
      have e : (⟨8 + (c.val - 8), by omega⟩ : Fin 64) = c := Fin.ext (by show 8 + (c.val - 8) = c.val; omega)
      rw [e]
    · rw [dif_neg b, dif_neg a, dif_neg b]
      exact congrArg y (Fin.ext (by show 16 + (c.val - 16) = c.val; omega))

/-- Lane `l` of the gates: 24 columns, filled up to 128 lanes with zeros. -/
def gate (h : Fin 6424 → EReal) (l : Fin 128) : EReal :=
  Ideal.logistic (if hl : l.val < 24 then h ⟨1280 + l.val, by omega⟩ else 0)

/-! ## The kernel's way -/

/-- 128 lanes normalized at once: the squares in two parts against a matrix `e` that sums within a head. -/
def scaled (t : Fin 128 → EReal) (e : Fin 128 → Fin 128 → EReal) (g : Fin 128 → EReal) (l : Fin 128) : EReal :=
  t l * Ideal.rsqrt (((∑ k, t k * t k * e k l) + ∑ k, (t k * t k - t k * t k) * e k l) * Ideal.ofBits .f32 0x3C800000#32
    + Ideal.ofBits .f32 0x358637BD#32) * g l

/-- 128 lanes turned at once: three tables, two of them against the lanes 8 further and 8 back. -/
def chunk (t : Fin 128 → EReal) (e : Fin 128 → Fin 128 → EReal) (c s1 s2 g : Fin 128 → EReal) (l : Fin 128) : EReal :=
  scaled t e g l * c l + scaled t e g ⟨(l.val + 128 - 120) % 128, by omega⟩ * s1 l + scaled t e g ⟨(l.val + 128 - 8) % 128, by omega⟩ * s2 l

/-! ## The two agree where the products are finite -/

theorem count : Ideal.ofBits .f32 0x42800000#32 = ((64 : ℝ) : EReal) := by
  simp [Ideal.ofBits, Ideal.ieee, -EReal.coe_mul]; norm_num

theorem recip : Ideal.ofBits .f32 0x3C800000#32 = (((64 : ℝ)⁻¹ : ℝ) : EReal) := by
  simp [Ideal.ofBits, Ideal.ieee, -EReal.coe_mul]; norm_num

/-- Dividing by 64 is multiplying by a 64th. -/
theorem mean (s : EReal) : Ideal.div s (Ideal.ofBits .f32 0x42800000#32) = s * Ideal.ofBits .f32 0x3C800000#32 := by
  rw [count, recip, Ideal.div, if_neg (by norm_num), EReal.coe_inv]

/-- A sum against the indicator of a head is the sum over that head. -/
theorem head_sum (f : Fin 128 → EReal) (l : Fin 128) :
    ∑ k : Fin 128, f k * (if k.val / 64 = l.val / 64 then (1 : EReal) else 0) = ∑ k : Fin 64, f ⟨l.val / 64 * 64 + k.val, by omega⟩ := by
  rw [Fin.sum_univ_two_halves 64 64 rfl]
  rcases (by omega : l.val / 64 = 0 ∨ l.val / 64 = 1) with h | h
  · have h1 : ∀ k : Fin 64, f ⟨k.val, by omega⟩ * (if k.val / 64 = l.val / 64 then (1 : EReal) else 0) = f ⟨l.val / 64 * 64 + k.val, by omega⟩ := fun k => by
      rw [if_pos (by omega), mul_one]
      exact congrArg f (Fin.ext (by show k.val = l.val / 64 * 64 + k.val; omega))
    have h2 : ∀ k : Fin 64, f ⟨64 + k.val, by omega⟩ * (if (64 + k.val) / 64 = l.val / 64 then (1 : EReal) else 0) = 0 := fun k => by
      rw [if_neg (by omega), mul_zero]
    exact (congrArg₂ (· + ·) (Finset.sum_congr rfl fun k _ => h1 k) (Finset.sum_eq_zero fun k _ => h2 k)).trans (add_zero _)
  · have h1 : ∀ k : Fin 64, f ⟨k.val, by omega⟩ * (if k.val / 64 = l.val / 64 then (1 : EReal) else 0) = 0 := fun k => by
      rw [if_neg (by omega), mul_zero]
    have h2 : ∀ k : Fin 64, f ⟨64 + k.val, by omega⟩ * (if (64 + k.val) / 64 = l.val / 64 then (1 : EReal) else 0) = f ⟨l.val / 64 * 64 + k.val, by omega⟩ := fun k => by
      rw [if_pos (by omega), mul_one]
      exact congrArg f (Fin.ext (by show 64 + k.val = l.val / 64 * 64 + k.val; omega))
    exact (congrArg₂ (· + ·) (Finset.sum_eq_zero fun k _ => h1 k) (Finset.sum_congr rfl fun k _ => h2 k)).trans (zero_add _)

/-- A finite square less itself is nothing. -/
theorem square_sub (a : EReal) (ht : a ≠ ⊤) (hb : a ≠ ⊥) : a * a - a * a = 0 := by
  rw [← EReal.coe_toReal ht hb, ← EReal.coe_mul, ← EReal.coe_sub, sub_self, EReal.coe_zero]

theorem scaled_norm (t : Fin 128 → EReal) (e : Fin 128 → Fin 128 → EReal) (g : Fin 128 → EReal) (q : Fin 64 → EReal)
    (he : ∀ k l, e k l = if k.val / 64 = l.val / 64 then 1 else 0) (hg : ∀ l : Fin 128, g l = q ⟨l.val % 64, by omega⟩)
    (ht : ∀ k, t k ≠ ⊤ ∧ t k ≠ ⊥) (a : Fin 128) (l : Fin 128) (c : Fin 64) (hc : l.val = a.val / 64 * 64 + c.val) :
    scaled t e g l = Merge.norm 0x42800000#32 (fun k => t ⟨a.val / 64 * 64 + k.val, by omega⟩) q c := by
  unfold scaled Merge.norm
  have h0 : (∑ k, (t k * t k - t k * t k) * e k l) = 0 := Finset.sum_eq_zero fun k _ => by rw [square_sub _ (ht k).1 (ht k).2, zero_mul]
  have h1 : (∑ k, t k * t k * e k l) = ∑ k : Fin 64, t ⟨a.val / 64 * 64 + k.val, by omega⟩ * t ⟨a.val / 64 * 64 + k.val, by omega⟩ := by
    rw [Finset.sum_congr rfl fun k _ => by rw [he k l], head_sum (fun k => t k * t k) l]
    exact Finset.sum_congr rfl fun k _ => congrArg (fun k => t k * t k) (Fin.ext (by show l.val / 64 * 64 + k.val = a.val / 64 * 64 + k.val; omega))
  have hl : (⟨a.val / 64 * 64 + c.val, by omega⟩ : Fin 128) = l := Fin.ext hc.symm
  have hm : (⟨l.val % 64, by omega⟩ : Fin 64) = c := Fin.ext (by show l.val % 64 = c.val; omega)
  rw [h0, h1, add_zero, mean, hg, hm]
  dsimp only
  rw [hl]

/-- The three tables by lane of a head. -/
def tabC (cs : Fin 8 → EReal) (c : Fin 64) : EReal :=
  if h : c.val < 8 then cs ⟨c.val, h⟩ else if h' : c.val < 16 then cs ⟨c.val - 8, by omega⟩ else 1
def tabS (sn : Fin 8 → EReal) (c : Fin 64) : EReal := if h : c.val < 8 then -(sn ⟨c.val, h⟩) else 0
def tabT (sn : Fin 8 → EReal) (c : Fin 64) : EReal :=
  if h : c.val < 8 then 0 else if h' : c.val < 16 then sn ⟨c.val - 8, by omega⟩ else 0

/-- 128 lanes turned at once are two heads turned, where the entries are finite. -/
theorem chunk_turned (t : Fin 128 → EReal) (e : Fin 128 → Fin 128 → EReal) (c s1 s2 g : Fin 128 → EReal) (q : Fin 64 → EReal)
    (cs sn : Fin 8 → EReal) (he : ∀ k l, e k l = if k.val / 64 = l.val / 64 then 1 else 0)
    (hc : ∀ l : Fin 128, c l = tabC cs ⟨l.val % 64, by omega⟩) (h1 : ∀ l : Fin 128, s1 l = tabS sn ⟨l.val % 64, by omega⟩)
    (h2 : ∀ l : Fin 128, s2 l = tabT sn ⟨l.val % 64, by omega⟩) (hg : ∀ l : Fin 128, g l = q ⟨l.val % 64, by omega⟩)
    (ht : ∀ k, t k ≠ ⊤ ∧ t k ≠ ⊥) (l : Fin 128) :
    chunk t e c s1 s2 g l
      = turn cs sn (Merge.norm 0x42800000#32 (fun k => t ⟨l.val / 64 * 64 + k.val, by omega⟩) q) ⟨l.val % 64, by omega⟩ := by
  unfold chunk turn
  rw [hc, h1, h2, scaled_norm t e g q he hg ht l l ⟨l.val % 64, by omega⟩ (by show l.val = l.val / 64 * 64 + l.val % 64; omega)]
  unfold tabC tabS tabT
  by_cases a : l.val % 64 < 8
  · rw [dif_pos a, dif_pos a, dif_pos a, dif_pos a, mul_zero, add_zero, mul_neg, ← sub_eq_add_neg,
      scaled_norm t e g q he hg ht l ⟨(l.val + 128 - 120) % 128, by omega⟩ ⟨l.val % 64 + 8, by omega⟩
        (by show (l.val + 128 - 120) % 128 = l.val / 64 * 64 + (l.val % 64 + 8); omega)]
  · rw [dif_neg a, dif_neg a, dif_neg a, dif_neg a]
    by_cases b : l.val % 64 < 16
    · rw [dif_pos b, dif_pos b, dif_pos b, mul_zero, add_zero,
        scaled_norm t e g q he hg ht l ⟨(l.val + 128 - 8) % 128, by omega⟩ ⟨l.val % 64 - 8, by omega⟩
          (by show (l.val + 128 - 8) % 128 = l.val / 64 * 64 + (l.val % 64 - 8); omega)]
    · rw [dif_neg b, dif_neg b, dif_neg b, mul_zero, mul_zero, add_zero, add_zero, mul_one]

end Proj

end
-- ==== Proof.ProjRef.lean ====
/- The projection's reference over the extended reals: its arrays, stage by stage, and what each stage holds at an index. -/
module

public import proofs.«01_k».proof.Proof.ProjMath
public import proofs.«01_k».proof.Proof.Gen.ProjRefIdeal.Run

@[expose] public section

set_option maxRecDepth 16384

noncomputable section

namespace Cert.ProjRefIdeal.Rows

open Cert.ProjRefIdeal Cert.ProjRefIdeal.Gen
open Idealize.ShloMosaic
open Idealize.ShloMosaic.TcCoe Idealize.SL.Sem

/-! ## The reference, stage by stage -/
/-- The normalized rows, and their products. -/
def normed (x : FVec Ideal S16384x1024 .f32) (ng : FVec Ideal S1024 .f32) : FVec Ideal S16384x1024 .f32 := mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 ng))
def prod (x : FVec Ideal S16384x1024 .f32) (ng : FVec Ideal S1024 .f32) (w : FVec Ideal S1024x6424 .f32) : FVec Ideal S2x8192x6424 .f32 := Host.dotGeneral dot_S2x8192x1024_S1024x6424_S2x8192x6424_2_0_01_1_n_n none (shapeCast _ (normed x ng) shapeCasts_S16384x1024_S2x8192x1024) w
/-- The positions' angles, their cosines and sines. -/
def angles : FVec Ideal S8192x8 .f32 := mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))
def cosT : FVec Ideal S1x8192x1x8 .f32 := broadcastInDim S1x8192x1x8 ![1, 3] bcast_S8192x8_S1x8192x1x8_1_3 (Host.cos angles)
def sinT : FVec Ideal S1x8192x1x8 .f32 := broadcastInDim S1x8192x1x8 ![1, 3] bcast_S8192x8_S1x8192x1x8_1_3 (Host.sin angles)
/-- Heads of 64 lanes normalized and turned, by the number of heads. -/
def normed8 (t : FVec Ideal S2x8192x8x64 .f32) (g : FVec Ideal S64 .f32) : FVec Ideal S2x8192x8x64 .f32 := mulf (mulf t (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf t t) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 g))
def normed2 (t : FVec Ideal S2x8192x2x64 .f32) (g : FVec Ideal S64 .f32) : FVec Ideal S2x8192x2x64 .f32 := mulf (mulf t (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf t t) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 g))
def normed4 (t : FVec Ideal S2x8192x4x64 .f32) (g : FVec Ideal S64 .f32) : FVec Ideal S2x8192x4x64 .f32 := mulf (mulf t (broadcastInDim S2x8192x4x64 ![0, 1, 2, 3] bcast_S2x8192x4x1_S2x8192x4x64_0_1_2_3 (Host.rsqrt (addf (Host.divf (broadcastInDim S2x8192x4x1 ![0, 1, 2] bcast_S2x8192x4_S2x8192x4x1_0_1_2 (Host.reduceAdd (mulf t t) (constant S_ .f32 0x00000000#32) reducesTo_S2x8192x4x64_S2x8192x4_d3 h_S_)) (broadcastInDim S2x8192x4x1 ![] bcast_S_S2x8192x4x1 (constant S_ .f32 0x42800000#32))) (broadcastInDim S2x8192x4x1 ![] bcast_S_S2x8192x4x1 (constant S_ .f32 0x358637BD#32)))))) (broadcastInDim S2x8192x4x64 ![0, 1, 2, 3] bcast_S1x1x1x64_S2x8192x4x64_0_1_2_3 (broadcastInDim S1x1x1x64 ![3] bcast_S64_S1x1x1x64_3 g))
def roped8 (y : FVec Ideal S2x8192x8x64 .f32) : FVec Ideal S2x8192x8x64 .f32 := concatenate S2x8192x8x64 3 [⟨S2x8192x8x16, (concatenate S2x8192x8x16 3 [⟨S2x8192x8x8, (subf (mulf (extractStridedSlice S2x8192x8x8 ![0, 0, 0, 0] (extractStridedSlice S2x8192x8x16 ![0, 0, 0, 0] y slices_S2x8192x8x64_S2x8192x8x16_0_0_0_0) slices_S2x8192x8x16_S2x8192x8x8_0_0_0_0) (broadcastInDim S2x8192x8x8 ![0, 1, 2, 3] bcast_S1x8192x1x8_S2x8192x8x8_0_1_2_3 cosT)) (mulf (extractStridedSlice S2x8192x8x8 ![0, 0, 0, 8] (extractStridedSlice S2x8192x8x16 ![0, 0, 0, 0] y slices_S2x8192x8x64_S2x8192x8x16_0_0_0_0) slices_S2x8192x8x16_S2x8192x8x8_0_0_0_8) (broadcastInDim S2x8192x8x8 ![0, 1, 2, 3] bcast_S1x8192x1x8_S2x8192x8x8_0_1_2_3 sinT)))⟩, ⟨S2x8192x8x8, (addf (mulf (extractStridedSlice S2x8192x8x8 ![0, 0, 0, 8] (extractStridedSlice S2x8192x8x16 ![0, 0, 0, 0] y slices_S2x8192x8x64_S2x8192x8x16_0_0_0_0) slices_S2x8192x8x16_S2x8192x8x8_0_0_0_8) (broadcastInDim S2x8192x8x8 ![0, 1, 2, 3] bcast_S1x8192x1x8_S2x8192x8x8_0_1_2_3 cosT)) (mulf (extractStridedSlice S2x8192x8x8 ![0, 0, 0, 0] (extractStridedSlice S2x8192x8x16 ![0, 0, 0, 0] y slices_S2x8192x8x64_S2x8192x8x16_0_0_0_0) slices_S2x8192x8x16_S2x8192x8x8_0_0_0_0) (broadcastInDim S2x8192x8x8 ![0, 1, 2, 3] bcast_S1x8192x1x8_S2x8192x8x8_0_1_2_3 sinT)))⟩] concatenates_S2x8192x8x8_S2x8192x8x8_S2x8192x8x16_d3)⟩, ⟨S2x8192x8x48, (extractStridedSlice S2x8192x8x48 ![0, 0, 0, 16] y slices_S2x8192x8x64_S2x8192x8x48_0_0_0_16)⟩] concatenates_S2x8192x8x16_S2x8192x8x48_S2x8192x8x64_d3
def roped2 (y : FVec Ideal S2x8192x2x64 .f32) : FVec Ideal S2x8192x2x64 .f32 := concatenate S2x8192x2x64 3 [⟨S2x8192x2x16, (concatenate S2x8192x2x16 3 [⟨S2x8192x2x8, (subf (mulf (extractStridedSlice S2x8192x2x8 ![0, 0, 0, 0] (extractStridedSlice S2x8192x2x16 ![0, 0, 0, 0] y slices_S2x8192x2x64_S2x8192x2x16_0_0_0_0) slices_S2x8192x2x16_S2x8192x2x8_0_0_0_0) (broadcastInDim S2x8192x2x8 ![0, 1, 2, 3] bcast_S1x8192x1x8_S2x8192x2x8_0_1_2_3 cosT)) (mulf (extractStridedSlice S2x8192x2x8 ![0, 0, 0, 8] (extractStridedSlice S2x8192x2x16 ![0, 0, 0, 0] y slices_S2x8192x2x64_S2x8192x2x16_0_0_0_0) slices_S2x8192x2x16_S2x8192x2x8_0_0_0_8) (broadcastInDim S2x8192x2x8 ![0, 1, 2, 3] bcast_S1x8192x1x8_S2x8192x2x8_0_1_2_3 sinT)))⟩, ⟨S2x8192x2x8, (addf (mulf (extractStridedSlice S2x8192x2x8 ![0, 0, 0, 8] (extractStridedSlice S2x8192x2x16 ![0, 0, 0, 0] y slices_S2x8192x2x64_S2x8192x2x16_0_0_0_0) slices_S2x8192x2x16_S2x8192x2x8_0_0_0_8) (broadcastInDim S2x8192x2x8 ![0, 1, 2, 3] bcast_S1x8192x1x8_S2x8192x2x8_0_1_2_3 cosT)) (mulf (extractStridedSlice S2x8192x2x8 ![0, 0, 0, 0] (extractStridedSlice S2x8192x2x16 ![0, 0, 0, 0] y slices_S2x8192x2x64_S2x8192x2x16_0_0_0_0) slices_S2x8192x2x16_S2x8192x2x8_0_0_0_0) (broadcastInDim S2x8192x2x8 ![0, 1, 2, 3] bcast_S1x8192x1x8_S2x8192x2x8_0_1_2_3 sinT)))⟩] concatenates_S2x8192x2x8_S2x8192x2x8_S2x8192x2x16_d3)⟩, ⟨S2x8192x2x48, (extractStridedSlice S2x8192x2x48 ![0, 0, 0, 16] y slices_S2x8192x2x64_S2x8192x2x48_0_0_0_16)⟩] concatenates_S2x8192x2x16_S2x8192x2x48_S2x8192x2x64_d3
def roped4 (y : FVec Ideal S2x8192x4x64 .f32) : FVec Ideal S2x8192x4x64 .f32 := concatenate S2x8192x4x64 3 [⟨S2x8192x4x16, (concatenate S2x8192x4x16 3 [⟨S2x8192x4x8, (subf (mulf (extractStridedSlice S2x8192x4x8 ![0, 0, 0, 0] (extractStridedSlice S2x8192x4x16 ![0, 0, 0, 0] y slices_S2x8192x4x64_S2x8192x4x16_0_0_0_0) slices_S2x8192x4x16_S2x8192x4x8_0_0_0_0) (broadcastInDim S2x8192x4x8 ![0, 1, 2, 3] bcast_S1x8192x1x8_S2x8192x4x8_0_1_2_3 cosT)) (mulf (extractStridedSlice S2x8192x4x8 ![0, 0, 0, 8] (extractStridedSlice S2x8192x4x16 ![0, 0, 0, 0] y slices_S2x8192x4x64_S2x8192x4x16_0_0_0_0) slices_S2x8192x4x16_S2x8192x4x8_0_0_0_8) (broadcastInDim S2x8192x4x8 ![0, 1, 2, 3] bcast_S1x8192x1x8_S2x8192x4x8_0_1_2_3 sinT)))⟩, ⟨S2x8192x4x8, (addf (mulf (extractStridedSlice S2x8192x4x8 ![0, 0, 0, 8] (extractStridedSlice S2x8192x4x16 ![0, 0, 0, 0] y slices_S2x8192x4x64_S2x8192x4x16_0_0_0_0) slices_S2x8192x4x16_S2x8192x4x8_0_0_0_8) (broadcastInDim S2x8192x4x8 ![0, 1, 2, 3] bcast_S1x8192x1x8_S2x8192x4x8_0_1_2_3 cosT)) (mulf (extractStridedSlice S2x8192x4x8 ![0, 0, 0, 0] (extractStridedSlice S2x8192x4x16 ![0, 0, 0, 0] y slices_S2x8192x4x64_S2x8192x4x16_0_0_0_0) slices_S2x8192x4x16_S2x8192x4x8_0_0_0_0) (broadcastInDim S2x8192x4x8 ![0, 1, 2, 3] bcast_S1x8192x1x8_S2x8192x4x8_0_1_2_3 sinT)))⟩] concatenates_S2x8192x4x8_S2x8192x4x8_S2x8192x4x16_d3)⟩, ⟨S2x8192x4x48, (extractStridedSlice S2x8192x4x48 ![0, 0, 0, 16] y slices_S2x8192x4x64_S2x8192x4x48_0_0_0_16)⟩] concatenates_S2x8192x4x16_S2x8192x4x48_S2x8192x4x64_d3
/-- The gains of one row of the table. -/
def gain0 (qk : FVec Ideal S8x64 .f32) : FVec Ideal S64 .f32 := shapeCast _ (extractStridedSlice S1x64 ![0, 0] qk slices_S8x64_S1x64_0_0) shapeCasts_S1x64_S64
def gain1 (qk : FVec Ideal S8x64 .f32) : FVec Ideal S64 .f32 := shapeCast _ (extractStridedSlice S1x64 ![1, 0] qk slices_S8x64_S1x64_1_0) shapeCasts_S1x64_S64
def gain2 (qk : FVec Ideal S8x64 .f32) : FVec Ideal S64 .f32 := shapeCast _ (extractStridedSlice S1x64 ![2, 0] qk slices_S8x64_S1x64_2_0) shapeCasts_S1x64_S64
def gain3 (qk : FVec Ideal S8x64 .f32) : FVec Ideal S64 .f32 := shapeCast _ (extractStridedSlice S1x64 ![3, 0] qk slices_S8x64_S1x64_3_0) shapeCasts_S1x64_S64
def gain4 (qk : FVec Ideal S8x64 .f32) : FVec Ideal S64 .f32 := shapeCast _ (extractStridedSlice S1x64 ![4, 0] qk slices_S8x64_S1x64_4_0) shapeCasts_S1x64_S64
def gain5 (qk : FVec Ideal S8x64 .f32) : FVec Ideal S64 .f32 := shapeCast _ (extractStridedSlice S1x64 ![5, 0] qk slices_S8x64_S1x64_5_0) shapeCasts_S1x64_S64
def gain6 (qk : FVec Ideal S8x64 .f32) : FVec Ideal S64 .f32 := shapeCast _ (extractStridedSlice S1x64 ![6, 0] qk slices_S8x64_S1x64_6_0) shapeCasts_S1x64_S64
def gain7 (qk : FVec Ideal S8x64 .f32) : FVec Ideal S64 .f32 := shapeCast _ (extractStridedSlice S1x64 ![7, 0] qk slices_S8x64_S1x64_7_0) shapeCasts_S1x64_S64
/-- The heads of the columns from an offset on. -/
def part0 (h : FVec Ideal S2x8192x6424 .f32) : FVec Ideal S2x8192x8x64 .f32 := shapeCast _ (extractStridedSlice S2x8192x512 ![0, 0, 0] h slices_S2x8192x6424_S2x8192x512_0_0_0) shapeCasts_S2x8192x512_S2x8192x8x64
def part512 (h : FVec Ideal S2x8192x6424 .f32) : FVec Ideal S2x8192x2x64 .f32 := shapeCast _ (extractStridedSlice S2x8192x128 ![0, 0, 512] h slices_S2x8192x6424_S2x8192x128_0_0_512) shapeCasts_S2x8192x128_S2x8192x2x64
def part768 (h : FVec Ideal S2x8192x6424 .f32) : FVec Ideal S2x8192x2x64 .f32 := shapeCast _ (extractStridedSlice S2x8192x128 ![0, 0, 768] h slices_S2x8192x6424_S2x8192x128_0_0_768) shapeCasts_S2x8192x128_S2x8192x2x64
def part1024 (h : FVec Ideal S2x8192x6424 .f32) : FVec Ideal S2x8192x2x64 .f32 := shapeCast _ (extractStridedSlice S2x8192x128 ![0, 0, 1024] h slices_S2x8192x6424_S2x8192x128_0_0_1024) shapeCasts_S2x8192x128_S2x8192x2x64
def part1304 (h : FVec Ideal S2x8192x6424 .f32) : FVec Ideal S2x8192x8x64 .f32 := shapeCast _ (extractStridedSlice S2x8192x512 ![0, 0, 1304] h slices_S2x8192x6424_S2x8192x512_0_0_1304) shapeCasts_S2x8192x512_S2x8192x8x64
def part1816 (h : FVec Ideal S2x8192x6424 .f32) : FVec Ideal S2x8192x4x64 .f32 := shapeCast _ (extractStridedSlice S2x8192x256 ![0, 0, 1816] h slices_S2x8192x6424_S2x8192x256_0_0_1816) shapeCasts_S2x8192x256_S2x8192x4x64
def part2328 (h : FVec Ideal S2x8192x6424 .f32) : FVec Ideal S2x8192x8x64 .f32 := shapeCast _ (extractStridedSlice S2x8192x512 ![0, 0, 2328] h slices_S2x8192x6424_S2x8192x512_0_0_2328) shapeCasts_S2x8192x512_S2x8192x8x64
def part2840 (h : FVec Ideal S2x8192x6424 .f32) : FVec Ideal S2x8192x4x64 .f32 := shapeCast _ (extractStridedSlice S2x8192x256 ![0, 0, 2840] h slices_S2x8192x6424_S2x8192x256_0_0_2840) shapeCasts_S2x8192x256_S2x8192x4x64
def part640 (h : FVec Ideal S2x8192x6424 .f32) : FVec Ideal S2x8192x2x64 .f32 := shapeCast _ (extractStridedSlice S2x8192x128 ![0, 0, 640] h slices_S2x8192x6424_S2x8192x128_0_0_640) shapeCasts_S2x8192x128_S2x8192x2x64
def part896 (h : FVec Ideal S2x8192x6424 .f32) : FVec Ideal S2x8192x2x64 .f32 := shapeCast _ (extractStridedSlice S2x8192x128 ![0, 0, 896] h slices_S2x8192x6424_S2x8192x128_0_0_896) shapeCasts_S2x8192x128_S2x8192x2x64
def part1152 (h : FVec Ideal S2x8192x6424 .f32) : FVec Ideal S2x8192x2x64 .f32 := shapeCast _ (extractStridedSlice S2x8192x128 ![0, 0, 1152] h slices_S2x8192x6424_S2x8192x128_0_0_1152) shapeCasts_S2x8192x128_S2x8192x2x64
def part2072 (h : FVec Ideal S2x8192x6424 .f32) : FVec Ideal S2x8192x2x128 .f32 := shapeCast _ (extractStridedSlice S2x8192x256 ![0, 0, 2072] h slices_S2x8192x6424_S2x8192x256_0_0_2072) shapeCasts_S2x8192x256_S2x8192x2x128
def part3096 (h : FVec Ideal S2x8192x6424 .f32) : FVec Ideal S2x8192x4x64 .f32 := shapeCast _ (extractStridedSlice S2x8192x256 ![0, 0, 3096] h slices_S2x8192x6424_S2x8192x256_0_0_3096) shapeCasts_S2x8192x256_S2x8192x4x64
def q0 (h : FVec Ideal S2x8192x6424 .f32) (qk : FVec Ideal S8x64 .f32) : FVec Ideal S2x8192x8x64 .f32 := roped8 (normed8 (part0 h) (gain0 qk))
def k1 (h : FVec Ideal S2x8192x6424 .f32) (qk : FVec Ideal S8x64 .f32) : FVec Ideal S2x8192x2x64 .f32 := roped2 (normed2 (part512 h) (gain1 qk))
def k2 (h : FVec Ideal S2x8192x6424 .f32) (qk : FVec Ideal S8x64 .f32) : FVec Ideal S2x8192x2x64 .f32 := roped2 (normed2 (part768 h) (gain2 qk))
def k3 (h : FVec Ideal S2x8192x6424 .f32) (qk : FVec Ideal S8x64 .f32) : FVec Ideal S2x8192x2x64 .f32 := roped2 (normed2 (part1024 h) (gain3 qk))
def q4 (h : FVec Ideal S2x8192x6424 .f32) (qk : FVec Ideal S8x64 .f32) : FVec Ideal S2x8192x8x64 .f32 := roped8 (normed8 (part1304 h) (gain4 qk))
def k5 (h : FVec Ideal S2x8192x6424 .f32) (qk : FVec Ideal S8x64 .f32) : FVec Ideal S2x8192x4x64 .f32 := roped4 (normed4 (part1816 h) (gain5 qk))
def q6 (h : FVec Ideal S2x8192x6424 .f32) (qk : FVec Ideal S8x64 .f32) : FVec Ideal S2x8192x8x64 .f32 := roped8 (normed8 (part2328 h) (gain6 qk))
def k7 (h : FVec Ideal S2x8192x6424 .f32) (qk : FVec Ideal S8x64 .f32) : FVec Ideal S2x8192x4x64 .f32 := roped4 (normed4 (part2840 h) (gain7 qk))
/-- The four caches, keys and values side by side. -/
def sideN (a b c d : FVec Ideal S2x8192x2x64 .f32) : FVec Ideal S2x8192x4x2x64 .f32 := (concatenate S2x8192x4x2x64 2 [⟨S2x8192x1x2x64, ((broadcastInDim S2x8192x1x2x64 ![0, 1, 3, 4] bcast_S2x8192x2x64_S2x8192x1x2x64_0_1_3_4 a) : (⟨S2x8192x1x2x64, .f32⟩ : BufTy).Contents (Elt Ideal))⟩, ⟨S2x8192x1x2x64, ((broadcastInDim S2x8192x1x2x64 ![0, 1, 3, 4] bcast_S2x8192x2x64_S2x8192x1x2x64_0_1_3_4 b) : (⟨S2x8192x1x2x64, .f32⟩ : BufTy).Contents (Elt Ideal))⟩, ⟨S2x8192x1x2x64, ((broadcastInDim S2x8192x1x2x64 ![0, 1, 3, 4] bcast_S2x8192x2x64_S2x8192x1x2x64_0_1_3_4 c) : (⟨S2x8192x1x2x64, .f32⟩ : BufTy).Contents (Elt Ideal))⟩, ⟨S2x8192x1x2x64, ((broadcastInDim S2x8192x1x2x64 ![0, 1, 3, 4] bcast_S2x8192x2x64_S2x8192x1x2x64_0_1_3_4 d) : (⟨S2x8192x1x2x64, .f32⟩ : BufTy).Contents (Elt Ideal))⟩] concatenates_S2x8192x1x2x64_S2x8192x1x2x64_S2x8192x1x2x64_S2x8192x1x2x64_S2x8192x4x2x64_d2 : (⟨S2x8192x4x2x64, .f32⟩ : BufTy).Contents (Elt Ideal))
def sideW (a b : FVec Ideal S2x8192x2x64 .f32) : FVec Ideal S2x8192x2x2x64 .f32 := concatenate S2x8192x2x2x64 2 [⟨S2x8192x1x2x64, (broadcastInDim S2x8192x1x2x64 ![0, 1, 3, 4] bcast_S2x8192x2x64_S2x8192x1x2x64_0_1_3_4 a)⟩, ⟨S2x8192x1x2x64, (broadcastInDim S2x8192x1x2x64 ![0, 1, 3, 4] bcast_S2x8192x2x64_S2x8192x1x2x64_0_1_3_4 b)⟩] concatenates_S2x8192x1x2x64_S2x8192x1x2x64_S2x8192x2x2x64_d2
def sideD (a b : FVec Ideal S2x8192x2x128 .f32) : FVec Ideal S2x8192x2x2x128 .f32 := concatenate S2x8192x2x2x128 2 [⟨S2x8192x1x2x128, (broadcastInDim S2x8192x1x2x128 ![0, 1, 3, 4] bcast_S2x8192x2x128_S2x8192x1x2x128_0_1_3_4 a)⟩, ⟨S2x8192x1x2x128, (broadcastInDim S2x8192x1x2x128 ![0, 1, 3, 4] bcast_S2x8192x2x128_S2x8192x1x2x128_0_1_3_4 b)⟩] concatenates_S2x8192x1x2x128_S2x8192x1x2x128_S2x8192x2x2x128_d2
def sideM (a b : FVec Ideal S2x8192x4x64 .f32) : FVec Ideal S2x8192x2x4x64 .f32 := concatenate S2x8192x2x4x64 2 [⟨S2x8192x1x4x64, (broadcastInDim S2x8192x1x4x64 ![0, 1, 3, 4] bcast_S2x8192x4x64_S2x8192x1x4x64_0_1_3_4 a)⟩, ⟨S2x8192x1x4x64, (broadcastInDim S2x8192x1x4x64 ![0, 1, 3, 4] bcast_S2x8192x4x64_S2x8192x1x4x64_0_1_3_4 b)⟩] concatenates_S2x8192x1x4x64_S2x8192x1x4x64_S2x8192x2x4x64_d2
def wide (a : FVec Ideal S2x8192x4x64 .f32) : FVec Ideal S2x8192x2x128 .f32 := shapeCast _ a shapeCasts_S2x8192x4x64_S2x8192x2x128
def cacheN (h : FVec Ideal S2x8192x6424 .f32) (qk : FVec Ideal S8x64 .f32) : FVec Ideal S2x8192x4x2x64 .f32 := sideN (k1 h qk) (part640 h) (k2 h qk) (part896 h)
def cacheW (h : FVec Ideal S2x8192x6424 .f32) (qk : FVec Ideal S8x64 .f32) : FVec Ideal S2x8192x2x2x64 .f32 := sideW (k3 h qk) (part1152 h)
def cacheD (h : FVec Ideal S2x8192x6424 .f32) (qk : FVec Ideal S8x64 .f32) : FVec Ideal S2x8192x2x2x128 .f32 := sideD (wide (k5 h qk)) (part2072 h)
def cacheM (h : FVec Ideal S2x8192x6424 .f32) (qk : FVec Ideal S8x64 .f32) : FVec Ideal S2x8192x2x4x64 .f32 := sideM (k7 h qk) (part3096 h)
/-- The twelve results. -/
def ref8 (h : FVec Ideal S2x8192x6424 .f32) (qk : FVec Ideal S8x64 .f32) : FVec Ideal S2x512x8192 .f32 := transpose S2x512x8192 [0, 2, 1] (shapeCast _ (cacheN h qk) shapeCasts_S2x8192x4x2x64_S2x8192x512) transposes_S2x8192x512_S2x512x8192_0_2_1
def ref9 (h : FVec Ideal S2x8192x6424 .f32) (qk : FVec Ideal S8x64 .f32) : FVec Ideal S2x256x8192 .f32 := transpose S2x256x8192 [0, 2, 1] (shapeCast _ (cacheW h qk) shapeCasts_S2x8192x2x2x64_S2x8192x256) transposes_S2x8192x256_S2x256x8192_0_2_1
def ref10 (h : FVec Ideal S2x8192x6424 .f32) (qk : FVec Ideal S8x64 .f32) : FVec Ideal S16384x512 .f32 := shapeCast _ (cacheD h qk) shapeCasts_S2x8192x2x2x128_S16384x512
def ref11 (h : FVec Ideal S2x8192x6424 .f32) (qk : FVec Ideal S8x64 .f32) : FVec Ideal S2x512x8192 .f32 := transpose S2x512x8192 [0, 2, 1] (shapeCast _ (cacheM h qk) shapeCasts_S2x8192x2x4x64_S2x8192x512) transposes_S2x8192x512_S2x512x8192_0_2_1
def ref12 (h : FVec Ideal S2x8192x6424 .f32) (qk : FVec Ideal S8x64 .f32) : FVec Ideal S16384x512 .f32 := shapeCast _ (shapeCast _ (q0 h qk) shapeCasts_S2x8192x8x64_S2x8192x2x4x64) shapeCasts_S2x8192x2x4x64_S16384x512
def ref13 (h : FVec Ideal S2x8192x6424 .f32) (qk : FVec Ideal S8x64 .f32) : FVec Ideal S16384x512 .bf16 := truncf .bf16 (shapeCast _ (cacheN h qk) shapeCasts_S2x8192x4x2x64_S16384x512) bitsLt_bf16_f32
def ref14 (h : FVec Ideal S2x8192x6424 .f32) (qk : FVec Ideal S8x64 .f32) : FVec Ideal S16384x256 .bf16 := truncf .bf16 (shapeCast _ (cacheW h qk) shapeCasts_S2x8192x2x2x64_S16384x256) bitsLt_bf16_f32
def ref15 (h : FVec Ideal S2x8192x6424 .f32) (qk : FVec Ideal S8x64 .f32) : FVec Ideal S16384x512 .f32 := shapeCast _ (shapeCast _ (q4 h qk) shapeCasts_S2x8192x8x64_S2x8192x2x2x2x64) shapeCasts_S2x8192x2x2x2x64_S16384x512
def ref16 (h : FVec Ideal S2x8192x6424 .f32) (qk : FVec Ideal S8x64 .f32) : FVec Ideal S16384x512 .bf16 := truncf .bf16 (shapeCast _ (cacheD h qk) shapeCasts_S2x8192x2x2x128_S16384x512) bitsLt_bf16_f32
def ref17 (h : FVec Ideal S2x8192x6424 .f32) (qk : FVec Ideal S8x64 .f32) : FVec Ideal S16384x512 .f32 := shapeCast _ (shapeCast _ (q6 h qk) shapeCasts_S2x8192x8x64_S2x8192x4x2x64) shapeCasts_S2x8192x4x2x64_S16384x512
def ref18 (h : FVec Ideal S2x8192x6424 .f32) (qk : FVec Ideal S8x64 .f32) : FVec Ideal S16384x512 .bf16 := truncf .bf16 (shapeCast _ (cacheM h qk) shapeCasts_S2x8192x2x4x64_S16384x512) bitsLt_bf16_f32
def ref19 (h : FVec Ideal S2x8192x6424 .f32) (qk : FVec Ideal S8x64 .f32) : FVec Ideal S16384x128 .f32 := shapeCast _ (Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (pad S2x8192x128 ![0, 0, 0] ![0, 0, 104] ![0, 0, 0] (extractStridedSlice S2x8192x24 ![0, 0, 1280] h slices_S2x8192x6424_S2x8192x24_0_0_1280) (sitofp .f32 (constantI S_ 32 0#32)) pads_S2x8192x24_S2x8192x128_000_000_01040 h_S_))))) shapeCasts_S2x8192x128_S16384x128

/-! ## The stages at an index -/

variable (x : FVec Ideal S16384x1024 .f32) (ng : FVec Ideal S1024 .f32) (w : FVec Ideal S1024x6424 .f32)
  (h : FVec Ideal S2x8192x6424 .f32) (qk : FVec Ideal S8x64 .f32)

/-- Row `t` of batch `b` in the flat list of rows. -/
def flatRow (b : Fin 2) (t : Fin 8192) : Fin 16384 := ⟨b.val * 8192 + t.val, by omega⟩

theorem normed_at (r : Fin 16384) (k : Fin 1024) :
    normed x ng (ix2 r k) = Merge.norm 0x44800000#32 (fun k => x (ix2 r k)) (fun k => ng (ix1 k)) k := by
  pointwise [normed, Merge.norm]

theorem prod_at (b : Fin 2) (t : Fin 8192) (n : Fin 6424) :
    prod x ng w (ix3 b t n) = ∑ k : Fin 1024, normed x ng (ix2 (flatRow b t) k) * w (ix2 k n) := by
  pointwise [prod, flatRow]

theorem angles_at (t : Fin 8192) (j : Fin 8) : angles (ix2 t j) = Proj.angle t j := by
  pointwise [angles, Proj.angle]
theorem cosT_at (t : Fin 8192) (j : Fin 8) : cosT (ix4 0 t 0 j) = Ideal.cos (Proj.angle t j) := by
  pointwise [cosT, angles, Proj.angle]
theorem sinT_at (t : Fin 8192) (j : Fin 8) : sinT (ix4 0 t 0 j) = Ideal.sin (Proj.angle t j) := by
  pointwise [sinT, angles, Proj.angle]

theorem normed8_at (t : FVec Ideal S2x8192x8x64 .f32) (g : FVec Ideal S64 .f32) (b : Fin 2) (i : Fin 8192) (k : Fin 8) (c : Fin 64) :
    normed8 t g (ix4 b i k c) = Merge.norm 0x42800000#32 (fun c => t (ix4 b i k c)) (fun c => g (ix1 c)) c := by
  pointwise [normed8, Merge.norm]
theorem roped8_at (y : FVec Ideal S2x8192x8x64 .f32) (b : Fin 2) (i : Fin 8192) (k : Fin 8) (c : Fin 64) :
    roped8 y (ix4 b i k c) = Proj.turn (fun j => cosT (ix4 0 i 0 j)) (fun j => sinT (ix4 0 i 0 j)) (fun c => y (ix4 b i k c)) c := by
  refine Eq.trans ?_ (Proj.turn_split _ _ _ c)
  pointwise [roped8]

theorem normed2_at (t : FVec Ideal S2x8192x2x64 .f32) (g : FVec Ideal S64 .f32) (b : Fin 2) (i : Fin 8192) (k : Fin 2) (c : Fin 64) :
    normed2 t g (ix4 b i k c) = Merge.norm 0x42800000#32 (fun c => t (ix4 b i k c)) (fun c => g (ix1 c)) c := by
  pointwise [normed2, Merge.norm]
theorem roped2_at (y : FVec Ideal S2x8192x2x64 .f32) (b : Fin 2) (i : Fin 8192) (k : Fin 2) (c : Fin 64) :
    roped2 y (ix4 b i k c) = Proj.turn (fun j => cosT (ix4 0 i 0 j)) (fun j => sinT (ix4 0 i 0 j)) (fun c => y (ix4 b i k c)) c := by
  refine Eq.trans ?_ (Proj.turn_split _ _ _ c)
  pointwise [roped2]

theorem normed4_at (t : FVec Ideal S2x8192x4x64 .f32) (g : FVec Ideal S64 .f32) (b : Fin 2) (i : Fin 8192) (k : Fin 4) (c : Fin 64) :
    normed4 t g (ix4 b i k c) = Merge.norm 0x42800000#32 (fun c => t (ix4 b i k c)) (fun c => g (ix1 c)) c := by
  pointwise [normed4, Merge.norm]
theorem roped4_at (y : FVec Ideal S2x8192x4x64 .f32) (b : Fin 2) (i : Fin 8192) (k : Fin 4) (c : Fin 64) :
    roped4 y (ix4 b i k c) = Proj.turn (fun j => cosT (ix4 0 i 0 j)) (fun j => sinT (ix4 0 i 0 j)) (fun c => y (ix4 b i k c)) c := by
  refine Eq.trans ?_ (Proj.turn_split _ _ _ c)
  pointwise [roped4]

theorem gain0_at (c : Fin 64) : gain0 qk (ix1 c) = qk (ix2 0 c) := by
  pointwise [gain0]
theorem gain1_at (c : Fin 64) : gain1 qk (ix1 c) = qk (ix2 1 c) := by
  pointwise [gain1]
theorem gain2_at (c : Fin 64) : gain2 qk (ix1 c) = qk (ix2 2 c) := by
  pointwise [gain2]
theorem gain3_at (c : Fin 64) : gain3 qk (ix1 c) = qk (ix2 3 c) := by
  pointwise [gain3]
theorem gain4_at (c : Fin 64) : gain4 qk (ix1 c) = qk (ix2 4 c) := by
  pointwise [gain4]
theorem gain5_at (c : Fin 64) : gain5 qk (ix1 c) = qk (ix2 5 c) := by
  pointwise [gain5]
theorem gain6_at (c : Fin 64) : gain6 qk (ix1 c) = qk (ix2 6 c) := by
  pointwise [gain6]
theorem gain7_at (c : Fin 64) : gain7 qk (ix1 c) = qk (ix2 7 c) := by
  pointwise [gain7]
theorem part0_at (b : Fin 2) (t : Fin 8192) (k : Fin 8) (c : Fin 64) : part0 h (ix4 b t k c) = h (ix3 b t ⟨0 + (k.val * 64 + c.val), by omega⟩) := by
  pointwise [part0]
theorem part512_at (b : Fin 2) (t : Fin 8192) (k : Fin 2) (c : Fin 64) : part512 h (ix4 b t k c) = h (ix3 b t ⟨512 + (k.val * 64 + c.val), by omega⟩) := by
  pointwise [part512]
theorem part768_at (b : Fin 2) (t : Fin 8192) (k : Fin 2) (c : Fin 64) : part768 h (ix4 b t k c) = h (ix3 b t ⟨768 + (k.val * 64 + c.val), by omega⟩) := by
  pointwise [part768]
theorem part1024_at (b : Fin 2) (t : Fin 8192) (k : Fin 2) (c : Fin 64) : part1024 h (ix4 b t k c) = h (ix3 b t ⟨1024 + (k.val * 64 + c.val), by omega⟩) := by
  pointwise [part1024]
theorem part1304_at (b : Fin 2) (t : Fin 8192) (k : Fin 8) (c : Fin 64) : part1304 h (ix4 b t k c) = h (ix3 b t ⟨1304 + (k.val * 64 + c.val), by omega⟩) := by
  pointwise [part1304]
theorem part1816_at (b : Fin 2) (t : Fin 8192) (k : Fin 4) (c : Fin 64) : part1816 h (ix4 b t k c) = h (ix3 b t ⟨1816 + (k.val * 64 + c.val), by omega⟩) := by
  pointwise [part1816]
theorem part2328_at (b : Fin 2) (t : Fin 8192) (k : Fin 8) (c : Fin 64) : part2328 h (ix4 b t k c) = h (ix3 b t ⟨2328 + (k.val * 64 + c.val), by omega⟩) := by
  pointwise [part2328]
theorem part2840_at (b : Fin 2) (t : Fin 8192) (k : Fin 4) (c : Fin 64) : part2840 h (ix4 b t k c) = h (ix3 b t ⟨2840 + (k.val * 64 + c.val), by omega⟩) := by
  pointwise [part2840]
theorem part640_at (b : Fin 2) (t : Fin 8192) (k : Fin 2) (c : Fin 64) : part640 h (ix4 b t k c) = h (ix3 b t ⟨640 + (k.val * 64 + c.val), by omega⟩) := by
  pointwise [part640]
theorem part896_at (b : Fin 2) (t : Fin 8192) (k : Fin 2) (c : Fin 64) : part896 h (ix4 b t k c) = h (ix3 b t ⟨896 + (k.val * 64 + c.val), by omega⟩) := by
  pointwise [part896]
theorem part1152_at (b : Fin 2) (t : Fin 8192) (k : Fin 2) (c : Fin 64) : part1152 h (ix4 b t k c) = h (ix3 b t ⟨1152 + (k.val * 64 + c.val), by omega⟩) := by
  pointwise [part1152]
theorem part2072_at (b : Fin 2) (t : Fin 8192) (k : Fin 2) (c : Fin 128) : part2072 h (ix4 b t k c) = h (ix3 b t ⟨2072 + (k.val * 128 + c.val), by omega⟩) := by
  pointwise [part2072]
theorem part3096_at (b : Fin 2) (t : Fin 8192) (k : Fin 4) (c : Fin 64) : part3096 h (ix4 b t k c) = h (ix3 b t ⟨3096 + (k.val * 64 + c.val), by omega⟩) := by
  pointwise [part3096]
theorem q0_at (b : Fin 2) (T : Fin 8192) (k : Fin 8) (c : Fin 64) (B : Nat) (hB : B + 64 ≤ 6424) (hk : B = 0 + k.val * 64) :
    q0 h qk (ix4 b T k c) = Proj.head (fun n => h (ix3 b T n)) (fun c => qk (ix2 0 c)) (fun j => Ideal.cos (Proj.angle T j)) (fun j => Ideal.sin (Proj.angle T j)) B hB c := by
  subst hk
  unfold q0 Proj.head
  rw [roped8_at, funext fun j => cosT_at T j, funext fun j => sinT_at T j, funext fun c => normed8_at _ _ b T k c,
    funext fun c => gain0_at qk c]
  refine congrArg (fun z => Proj.turn (fun j => Ideal.cos (Proj.angle T j)) (fun j => Ideal.sin (Proj.angle T j)) (Merge.norm 0x42800000#32 z (fun c => qk (ix2 0 c))) c) (funext fun c => ?_)
  exact (part0_at h b T k c).trans (congrArg (fun n => h (ix3 b T n)) (Fin.ext (by show 0 + (k.val * 64 + c.val) = 0 + k.val * 64 + c.val; omega)))
theorem k1_at (b : Fin 2) (T : Fin 8192) (k : Fin 2) (c : Fin 64) (B : Nat) (hB : B + 64 ≤ 6424) (hk : B = 512 + k.val * 64) :
    k1 h qk (ix4 b T k c) = Proj.head (fun n => h (ix3 b T n)) (fun c => qk (ix2 1 c)) (fun j => Ideal.cos (Proj.angle T j)) (fun j => Ideal.sin (Proj.angle T j)) B hB c := by
  subst hk
  unfold k1 Proj.head
  rw [roped2_at, funext fun j => cosT_at T j, funext fun j => sinT_at T j, funext fun c => normed2_at _ _ b T k c,
    funext fun c => gain1_at qk c]
  refine congrArg (fun z => Proj.turn (fun j => Ideal.cos (Proj.angle T j)) (fun j => Ideal.sin (Proj.angle T j)) (Merge.norm 0x42800000#32 z (fun c => qk (ix2 1 c))) c) (funext fun c => ?_)
  exact (part512_at h b T k c).trans (congrArg (fun n => h (ix3 b T n)) (Fin.ext (by show 512 + (k.val * 64 + c.val) = 512 + k.val * 64 + c.val; omega)))
theorem k2_at (b : Fin 2) (T : Fin 8192) (k : Fin 2) (c : Fin 64) (B : Nat) (hB : B + 64 ≤ 6424) (hk : B = 768 + k.val * 64) :
    k2 h qk (ix4 b T k c) = Proj.head (fun n => h (ix3 b T n)) (fun c => qk (ix2 2 c)) (fun j => Ideal.cos (Proj.angle T j)) (fun j => Ideal.sin (Proj.angle T j)) B hB c := by
  subst hk
  unfold k2 Proj.head
  rw [roped2_at, funext fun j => cosT_at T j, funext fun j => sinT_at T j, funext fun c => normed2_at _ _ b T k c,
    funext fun c => gain2_at qk c]
  refine congrArg (fun z => Proj.turn (fun j => Ideal.cos (Proj.angle T j)) (fun j => Ideal.sin (Proj.angle T j)) (Merge.norm 0x42800000#32 z (fun c => qk (ix2 2 c))) c) (funext fun c => ?_)
  exact (part768_at h b T k c).trans (congrArg (fun n => h (ix3 b T n)) (Fin.ext (by show 768 + (k.val * 64 + c.val) = 768 + k.val * 64 + c.val; omega)))
theorem k3_at (b : Fin 2) (T : Fin 8192) (k : Fin 2) (c : Fin 64) (B : Nat) (hB : B + 64 ≤ 6424) (hk : B = 1024 + k.val * 64) :
    k3 h qk (ix4 b T k c) = Proj.head (fun n => h (ix3 b T n)) (fun c => qk (ix2 3 c)) (fun j => Ideal.cos (Proj.angle T j)) (fun j => Ideal.sin (Proj.angle T j)) B hB c := by
  subst hk
  unfold k3 Proj.head
  rw [roped2_at, funext fun j => cosT_at T j, funext fun j => sinT_at T j, funext fun c => normed2_at _ _ b T k c,
    funext fun c => gain3_at qk c]
  refine congrArg (fun z => Proj.turn (fun j => Ideal.cos (Proj.angle T j)) (fun j => Ideal.sin (Proj.angle T j)) (Merge.norm 0x42800000#32 z (fun c => qk (ix2 3 c))) c) (funext fun c => ?_)
  exact (part1024_at h b T k c).trans (congrArg (fun n => h (ix3 b T n)) (Fin.ext (by show 1024 + (k.val * 64 + c.val) = 1024 + k.val * 64 + c.val; omega)))
theorem q4_at (b : Fin 2) (T : Fin 8192) (k : Fin 8) (c : Fin 64) (B : Nat) (hB : B + 64 ≤ 6424) (hk : B = 1304 + k.val * 64) :
    q4 h qk (ix4 b T k c) = Proj.head (fun n => h (ix3 b T n)) (fun c => qk (ix2 4 c)) (fun j => Ideal.cos (Proj.angle T j)) (fun j => Ideal.sin (Proj.angle T j)) B hB c := by
  subst hk
  unfold q4 Proj.head
  rw [roped8_at, funext fun j => cosT_at T j, funext fun j => sinT_at T j, funext fun c => normed8_at _ _ b T k c,
    funext fun c => gain4_at qk c]
  refine congrArg (fun z => Proj.turn (fun j => Ideal.cos (Proj.angle T j)) (fun j => Ideal.sin (Proj.angle T j)) (Merge.norm 0x42800000#32 z (fun c => qk (ix2 4 c))) c) (funext fun c => ?_)
  exact (part1304_at h b T k c).trans (congrArg (fun n => h (ix3 b T n)) (Fin.ext (by show 1304 + (k.val * 64 + c.val) = 1304 + k.val * 64 + c.val; omega)))
theorem k5_at (b : Fin 2) (T : Fin 8192) (k : Fin 4) (c : Fin 64) (B : Nat) (hB : B + 64 ≤ 6424) (hk : B = 1816 + k.val * 64) :
    k5 h qk (ix4 b T k c) = Proj.head (fun n => h (ix3 b T n)) (fun c => qk (ix2 5 c)) (fun j => Ideal.cos (Proj.angle T j)) (fun j => Ideal.sin (Proj.angle T j)) B hB c := by
  subst hk
  unfold k5 Proj.head
  rw [roped4_at, funext fun j => cosT_at T j, funext fun j => sinT_at T j, funext fun c => normed4_at _ _ b T k c,
    funext fun c => gain5_at qk c]
  refine congrArg (fun z => Proj.turn (fun j => Ideal.cos (Proj.angle T j)) (fun j => Ideal.sin (Proj.angle T j)) (Merge.norm 0x42800000#32 z (fun c => qk (ix2 5 c))) c) (funext fun c => ?_)
  exact (part1816_at h b T k c).trans (congrArg (fun n => h (ix3 b T n)) (Fin.ext (by show 1816 + (k.val * 64 + c.val) = 1816 + k.val * 64 + c.val; omega)))
theorem q6_at (b : Fin 2) (T : Fin 8192) (k : Fin 8) (c : Fin 64) (B : Nat) (hB : B + 64 ≤ 6424) (hk : B = 2328 + k.val * 64) :
    q6 h qk (ix4 b T k c) = Proj.head (fun n => h (ix3 b T n)) (fun c => qk (ix2 6 c)) (fun j => Ideal.cos (Proj.angle T j)) (fun j => Ideal.sin (Proj.angle T j)) B hB c := by
  subst hk
  unfold q6 Proj.head
  rw [roped8_at, funext fun j => cosT_at T j, funext fun j => sinT_at T j, funext fun c => normed8_at _ _ b T k c,
    funext fun c => gain6_at qk c]
  refine congrArg (fun z => Proj.turn (fun j => Ideal.cos (Proj.angle T j)) (fun j => Ideal.sin (Proj.angle T j)) (Merge.norm 0x42800000#32 z (fun c => qk (ix2 6 c))) c) (funext fun c => ?_)
  exact (part2328_at h b T k c).trans (congrArg (fun n => h (ix3 b T n)) (Fin.ext (by show 2328 + (k.val * 64 + c.val) = 2328 + k.val * 64 + c.val; omega)))
theorem k7_at (b : Fin 2) (T : Fin 8192) (k : Fin 4) (c : Fin 64) (B : Nat) (hB : B + 64 ≤ 6424) (hk : B = 2840 + k.val * 64) :
    k7 h qk (ix4 b T k c) = Proj.head (fun n => h (ix3 b T n)) (fun c => qk (ix2 7 c)) (fun j => Ideal.cos (Proj.angle T j)) (fun j => Ideal.sin (Proj.angle T j)) B hB c := by
  subst hk
  unfold k7 Proj.head
  rw [roped4_at, funext fun j => cosT_at T j, funext fun j => sinT_at T j, funext fun c => normed4_at _ _ b T k c,
    funext fun c => gain7_at qk c]
  refine congrArg (fun z => Proj.turn (fun j => Ideal.cos (Proj.angle T j)) (fun j => Ideal.sin (Proj.angle T j)) (Merge.norm 0x42800000#32 z (fun c => qk (ix2 7 c))) c) (funext fun c => ?_)
  exact (part2840_at h b T k c).trans (congrArg (fun n => h (ix3 b T n)) (Fin.ext (by show 2840 + (k.val * 64 + c.val) = 2840 + k.val * 64 + c.val; omega)))

/-! ## The caches and the results at an index -/

theorem sideN_0 (a b c d : FVec Ideal S2x8192x2x64 .f32) (i : Fin 2) (t : Fin 8192) (k : Fin 2) (l : Fin 64) :
    sideN a b c d (ix5 i t 0 k l) = a (ix4 i t k l) := by
  pointwise [sideN]
theorem sideN_1 (a b c d : FVec Ideal S2x8192x2x64 .f32) (i : Fin 2) (t : Fin 8192) (k : Fin 2) (l : Fin 64) :
    sideN a b c d (ix5 i t 1 k l) = b (ix4 i t k l) := by
  pointwise [sideN]
theorem sideN_2 (a b c d : FVec Ideal S2x8192x2x64 .f32) (i : Fin 2) (t : Fin 8192) (k : Fin 2) (l : Fin 64) :
    sideN a b c d (ix5 i t 2 k l) = c (ix4 i t k l) := by
  pointwise [sideN]
theorem sideN_3 (a b c d : FVec Ideal S2x8192x2x64 .f32) (i : Fin 2) (t : Fin 8192) (k : Fin 2) (l : Fin 64) :
    sideN a b c d (ix5 i t 3 k l) = d (ix4 i t k l) := by
  pointwise [sideN]
theorem sideW_0 (a b : FVec Ideal S2x8192x2x64 .f32) (i : Fin 2) (t : Fin 8192) (k : Fin 2) (l : Fin 64) :
    sideW a b (ix5 i t 0 k l) = a (ix4 i t k l) := by
  pointwise [sideW]
theorem sideW_1 (a b : FVec Ideal S2x8192x2x64 .f32) (i : Fin 2) (t : Fin 8192) (k : Fin 2) (l : Fin 64) :
    sideW a b (ix5 i t 1 k l) = b (ix4 i t k l) := by
  pointwise [sideW]
theorem sideD_0 (a b : FVec Ideal S2x8192x2x128 .f32) (i : Fin 2) (t : Fin 8192) (k : Fin 2) (l : Fin 128) :
    sideD a b (ix5 i t 0 k l) = a (ix4 i t k l) := by
  pointwise [sideD]
theorem sideD_1 (a b : FVec Ideal S2x8192x2x128 .f32) (i : Fin 2) (t : Fin 8192) (k : Fin 2) (l : Fin 128) :
    sideD a b (ix5 i t 1 k l) = b (ix4 i t k l) := by
  pointwise [sideD]
theorem sideM_0 (a b : FVec Ideal S2x8192x4x64 .f32) (i : Fin 2) (t : Fin 8192) (k : Fin 4) (l : Fin 64) :
    sideM a b (ix5 i t 0 k l) = a (ix4 i t k l) := by
  pointwise [sideM]
theorem sideM_1 (a b : FVec Ideal S2x8192x4x64 .f32) (i : Fin 2) (t : Fin 8192) (k : Fin 4) (l : Fin 64) :
    sideM a b (ix5 i t 1 k l) = b (ix4 i t k l) := by
  pointwise [sideM]
theorem wide_at (a : FVec Ideal S2x8192x4x64 .f32) (i : Fin 2) (t : Fin 8192) (k : Fin 2) (l : Fin 128) :
    wide a (ix4 i t k l) = a (ix4 i t ⟨k.val * 2 + l.val / 64, by omega⟩ ⟨l.val % 64, by omega⟩) := by
  pointwise [wide]
theorem turned_8 (u : FVec Ideal S2x8192x512 .f32) (b : Fin 2) (q : Fin 512) (t : Fin 8192) :
    (transpose S2x512x8192 [0, 2, 1] u transposes_S2x8192x512_S2x512x8192_0_2_1 : FVec Ideal S2x512x8192 .f32) (ix3 b q t) = u (ix3 b t q) := by
  pointwise []
theorem joined_8 (u : FVec Ideal S2x8192x4x2x64 .f32) (b : Fin 2) (q : Fin 512) (t : Fin 8192) :
    (shapeCast _ u shapeCasts_S2x8192x4x2x64_S2x8192x512 : FVec Ideal S2x8192x512 .f32) (ix3 b t q) = u (ix5 b t ⟨q.val / 128, by omega⟩ ⟨q.val / 64 % 2, by omega⟩ ⟨q.val % 64, by omega⟩) := by
  pointwise []
theorem turned_9 (u : FVec Ideal S2x8192x256 .f32) (b : Fin 2) (q : Fin 256) (t : Fin 8192) :
    (transpose S2x256x8192 [0, 2, 1] u transposes_S2x8192x256_S2x256x8192_0_2_1 : FVec Ideal S2x256x8192 .f32) (ix3 b q t) = u (ix3 b t q) := by
  pointwise []
theorem joined_9 (u : FVec Ideal S2x8192x2x2x64 .f32) (b : Fin 2) (q : Fin 256) (t : Fin 8192) :
    (shapeCast _ u shapeCasts_S2x8192x2x2x64_S2x8192x256 : FVec Ideal S2x8192x256 .f32) (ix3 b t q) = u (ix5 b t ⟨q.val / 128, by omega⟩ ⟨q.val / 64 % 2, by omega⟩ ⟨q.val % 64, by omega⟩) := by
  pointwise []
theorem turned_11 (u : FVec Ideal S2x8192x512 .f32) (b : Fin 2) (q : Fin 512) (t : Fin 8192) :
    (transpose S2x512x8192 [0, 2, 1] u transposes_S2x8192x512_S2x512x8192_0_2_1 : FVec Ideal S2x512x8192 .f32) (ix3 b q t) = u (ix3 b t q) := by
  pointwise []
theorem joined_11 (u : FVec Ideal S2x8192x2x4x64 .f32) (b : Fin 2) (q : Fin 512) (t : Fin 8192) :
    (shapeCast _ u shapeCasts_S2x8192x2x4x64_S2x8192x512 : FVec Ideal S2x8192x512 .f32) (ix3 b t q) = u (ix5 b t ⟨q.val / 256, by omega⟩ ⟨q.val / 64 % 4, by omega⟩ ⟨q.val % 64, by omega⟩) := by
  pointwise []
theorem ref8_at (b : Fin 2) (q : Fin 512) (t : Fin 8192) : ref8 h qk (ix3 b q t) = cacheN h qk (ix5 b t ⟨q.val / 128, by omega⟩ ⟨q.val / 64 % 2, by omega⟩ ⟨q.val % 64, by omega⟩) :=
  (turned_8 _ b q t).trans (joined_8 (cacheN h qk) b q t)
theorem ref9_at (b : Fin 2) (q : Fin 256) (t : Fin 8192) : ref9 h qk (ix3 b q t) = cacheW h qk (ix5 b t ⟨q.val / 128, by omega⟩ ⟨q.val / 64 % 2, by omega⟩ ⟨q.val % 64, by omega⟩) :=
  (turned_9 _ b q t).trans (joined_9 (cacheW h qk) b q t)
theorem ref10_at (n : Fin 16384) (q : Fin 512) : ref10 h qk (ix2 n q) = cacheD h qk (ix5 ⟨n.val / 8192, by omega⟩ ⟨n.val % 8192, by omega⟩ ⟨q.val / 256, by omega⟩ ⟨q.val / 128 % 2, by omega⟩ ⟨q.val % 128, by omega⟩) := by
  pointwise [ref10]
theorem ref11_at (b : Fin 2) (q : Fin 512) (t : Fin 8192) : ref11 h qk (ix3 b q t) = cacheM h qk (ix5 b t ⟨q.val / 256, by omega⟩ ⟨q.val / 64 % 4, by omega⟩ ⟨q.val % 64, by omega⟩) :=
  (turned_11 _ b q t).trans (joined_11 (cacheM h qk) b q t)
theorem ref12_at (n : Fin 16384) (q : Fin 512) : ref12 h qk (ix2 n q) = q0 h qk (ix4 ⟨n.val / 8192, by omega⟩ ⟨n.val % 8192, by omega⟩ ⟨q.val / 64, by omega⟩ ⟨q.val % 64, by omega⟩) := by
  pointwise [ref12]
theorem ref13_at (n : Fin 16384) (q : Fin 512) : ref13 h qk (ix2 n q) = cacheN h qk (ix5 ⟨n.val / 8192, by omega⟩ ⟨n.val % 8192, by omega⟩ ⟨q.val / 128, by omega⟩ ⟨q.val / 64 % 2, by omega⟩ ⟨q.val % 64, by omega⟩) := by
  pointwise [ref13]
theorem ref14_at (n : Fin 16384) (q : Fin 256) : ref14 h qk (ix2 n q) = cacheW h qk (ix5 ⟨n.val / 8192, by omega⟩ ⟨n.val % 8192, by omega⟩ ⟨q.val / 128, by omega⟩ ⟨q.val / 64 % 2, by omega⟩ ⟨q.val % 64, by omega⟩) := by
  pointwise [ref14]
theorem ref15_at (n : Fin 16384) (q : Fin 512) : ref15 h qk (ix2 n q) = q4 h qk (ix4 ⟨n.val / 8192, by omega⟩ ⟨n.val % 8192, by omega⟩ ⟨q.val / 64, by omega⟩ ⟨q.val % 64, by omega⟩) := by
  pointwise [ref15]
theorem ref16_at (n : Fin 16384) (q : Fin 512) : ref16 h qk (ix2 n q) = cacheD h qk (ix5 ⟨n.val / 8192, by omega⟩ ⟨n.val % 8192, by omega⟩ ⟨q.val / 256, by omega⟩ ⟨q.val / 128 % 2, by omega⟩ ⟨q.val % 128, by omega⟩) := by
  pointwise [ref16]
theorem ref17_at (n : Fin 16384) (q : Fin 512) : ref17 h qk (ix2 n q) = q6 h qk (ix4 ⟨n.val / 8192, by omega⟩ ⟨n.val % 8192, by omega⟩ ⟨q.val / 64, by omega⟩ ⟨q.val % 64, by omega⟩) := by
  pointwise [ref17]
theorem ref18_at (n : Fin 16384) (q : Fin 512) : ref18 h qk (ix2 n q) = cacheM h qk (ix5 ⟨n.val / 8192, by omega⟩ ⟨n.val % 8192, by omega⟩ ⟨q.val / 256, by omega⟩ ⟨q.val / 64 % 4, by omega⟩ ⟨q.val % 64, by omega⟩) := by
  pointwise [ref18]
theorem ref19_at (n : Fin 16384) (l : Fin 128) : ref19 h qk (ix2 n l) = Proj.gate (fun j => h (ix3 ⟨n.val / 8192, by omega⟩ ⟨n.val % 8192, by omega⟩ j)) l := by
  refine Eq.trans (b := Ideal.div 1 (1 + Ideal.exp (-if h_1 : n.val / 8192 < 2 ∧ n.val % 8192 < 8192 ∧ l.val < 24 then
    h (ix3 ⟨n.val / 8192, by omega⟩ ⟨n.val % 8192, by omega⟩ ⟨1280 + l.val, by omega⟩) else FloatOps.sitofp .f32 0#32))) ?_ ?_
  · pointwise [ref19]
  · have hz : (FloatOps.sitofp (F := Ideal) .f32 0#32 : EReal) = 0 := by
      simp [FloatOps.sitofp]
    unfold Proj.gate
    by_cases a : l.val < 24
    · rw [dif_pos ⟨by omega, by omega, a⟩, dif_pos a]
      rfl
    · rw [dif_neg (fun e => a e.2.2), dif_neg a, hz]
      rfl
end Cert.ProjRefIdeal.Rows

end
-- ==== Proof.ProjBlock.lean ====
/- What the projection's body leaves in its result blocks, at a row and a lane, as functions of the staged blocks. -/
module

public import proofs.«01_k».proof.Proof.ProjMath
public import proofs.«01_k».proof.Proof.Gen.ProjIdeal.Value

@[expose] public section

set_option maxRecDepth 16384

noncomputable section

namespace Cert.ProjIdeal.Rows

open Cert.ProjIdeal Cert.ProjIdeal.Gen
open Idealize.ShloMosaic
open Idealize.ShloMosaic.TcCoe Idealize.SL.Sem

section
variable {s : Shape} {e : EltTy} {off size : Fin s.rank → ℕ} (inb : ∀ a, off a + size a ≤ s.size a)
  (w : (Rect.unit off size inb).shape.Idx → Elt Ideal e) (L : List (View.Piece (Elt Ideal) s e)) (y : s.Idx)

/-- An index inside the last piece written reads it. -/
theorem canon_hit (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside it reads the pieces before. -/
theorem canon_miss (a : Fin s.rank) (ha : (y a).val < off a ∨ off a + size a ≤ (y a).val) :
    View.canon ((⟨Rect.unit off size inb, w⟩ : View.Piece (Elt Ideal) s e) :: L) y = View.canon L y := by
  refine View.canon_cons_of_not_mem _ L ?_
  show y ∉ (Rect.unit off size inb).set
  rw [Rect.mem_set_unit]
  intro h
  have := h a
  omega
end

section
variable (v0 : FVec Ideal S256x1024 .f32) (v1 : FVec Ideal S1x1024 .f32) (v16 : FVec Ideal S1024x3456 .bf16) (e : FVec Ideal S128x128 .bf16)
  (vc vs vt : FVec Ideal S256x128 .f32) (g : FVec Ideal S1x128 .f32)

/-- The products: the normalized row against the weights. -/
theorem pay4_at (r : Fin 256) (n : Fin 3456) :
    k0_pay4 (F := Ideal) v0 v1 v16 (ix2 r n) = ∑ k, Merge.norm 0x44800000#32 (fun k => v0 (ix2 r k)) (fun k => v1 (ix2 0 k)) k * v16 (ix2 k n) := by
  pointwise [k0_pay4, Merge.norm]
theorem pay5_at (r : Fin 256) (l : Fin 128) : k0_pay5 (F := Ideal) vc (ix2 r l) = vc (ix2 r l) := by
  pointwise [k0_pay5]
theorem pay6_at (r : Fin 256) (l : Fin 128) : k0_pay6 (F := Ideal) vc (ix2 r l) = vc (ix2 r l) := by
  pointwise [k0_pay6]
theorem pay7_at (r : Fin 256) (l : Fin 128) : k0_pay7 (F := Ideal) vc (ix2 r l) = vc (ix2 r l) := by
  pointwise [k0_pay7]

/-! ## Each stored piece at a row and a lane -/

theorem piece_8_3 (r : Fin 256) (l : Fin 128) :
    k0_pay19 (F := Ideal) (k0_pay4 (F := Ideal) v0 v1 v16) (ix3 0 l r)
      = k0_pay4 (F := Ideal) v0 v1 v16 (ix2 r ⟨896 + l.val, by omega⟩) := by
  pointwise [k0_pay18, k0_pay19]
theorem piece_8_2 (r : Fin 256) (l : Fin 128) :
    k0_pay17 (F := Ideal) vc vs vt (k0_pay14 (F := Ideal) (k0_pay4 (F := Ideal) v0 v1 v16) e) (k0_pay15 (F := Ideal) g) (ix3 0 l r)
      = Proj.chunk (fun k => k0_pay4 (F := Ideal) v0 v1 v16 (ix2 r ⟨768 + k.val, by omega⟩)) (fun k l => e (ix2 k l)) (fun l => vc (ix2 r l)) (fun l => vs (ix2 r l)) (fun l => vt (ix2 r l)) (fun l => g (ix2 0 l)) l := by
  pointwise [k0_pay14, k0_pay15, k0_pay16, k0_pay17, Proj.chunk, Proj.scaled]
theorem piece_8_1 (r : Fin 256) (l : Fin 128) :
    k0_pay13 (F := Ideal) (k0_pay4 (F := Ideal) v0 v1 v16) (ix3 0 l r)
      = k0_pay4 (F := Ideal) v0 v1 v16 (ix2 r ⟨640 + l.val, by omega⟩) := by
  pointwise [k0_pay12, k0_pay13]
theorem piece_8_0 (r : Fin 256) (l : Fin 128) :
    k0_pay11 (F := Ideal) vc vs vt (k0_pay8 (F := Ideal) v0 v1 v16) (k0_pay9 (F := Ideal) v0 v1 v16 e) (Scalar.ofBits (F := Ideal) .f32 0x358637BD#32) g (ix3 0 l r)
      = Proj.chunk (fun k => k0_pay4 (F := Ideal) v0 v1 v16 (ix2 r ⟨512 + k.val, by omega⟩)) (fun k l => e (ix2 k l)) (fun l => vc (ix2 r l)) (fun l => vs (ix2 r l)) (fun l => vt (ix2 r l)) (fun l => g (ix2 0 l)) l := by
  pointwise [k0_pay8, k0_pay9, k0_pay10, k0_pay11, Proj.chunk, Proj.scaled]
theorem piece_9_1 (r : Fin 256) (l : Fin 128) :
    k0_pay26 (F := Ideal) (k0_pay4 (F := Ideal) v0 v1 v16) (ix3 0 l r)
      = k0_pay4 (F := Ideal) v0 v1 v16 (ix2 r ⟨1152 + l.val, by omega⟩) := by
  pointwise [k0_pay25, k0_pay26]
theorem piece_9_0 (r : Fin 256) (l : Fin 128) :
    k0_pay24 (F := Ideal) (k0_pay21 (F := Ideal) (k0_pay4 (F := Ideal) v0 v1 v16) e vc vs g) (k0_pay22 (F := Ideal) (k0_pay4 (F := Ideal) v0 v1 v16) e vt g) (ix3 0 l r)
      = Proj.chunk (fun k => k0_pay4 (F := Ideal) v0 v1 v16 (ix2 r ⟨1024 + k.val, by omega⟩)) (fun k l => e (ix2 k l)) (fun l => vc (ix2 r l)) (fun l => vs (ix2 r l)) (fun l => vt (ix2 r l)) (fun l => g (ix2 0 l)) l := by
  pointwise [k0_pay20, k0_pay21, k0_pay22, k0_pay23, k0_pay24, Proj.chunk, Proj.scaled]
theorem piece_10_3 (r : Fin 256) (l : Fin 128) :
    k0_pay34 (F := Ideal) (k0_pay4 (F := Ideal) v0 v1 v16) (ix2 r l)
      = k0_pay4 (F := Ideal) v0 v1 v16 (ix2 r ⟨2176 + l.val, by omega⟩) := by
  pointwise [k0_pay34]
theorem piece_10_2 (r : Fin 256) (l : Fin 128) :
    k0_pay33 (F := Ideal) (k0_pay4 (F := Ideal) v0 v1 v16) (ix2 r l)
      = k0_pay4 (F := Ideal) v0 v1 v16 (ix2 r ⟨2048 + l.val, by omega⟩) := by
  pointwise [k0_pay33]
theorem piece_10_1 (r : Fin 256) (l : Fin 128) :
    k0_pay32 (F := Ideal) e vc vs vt (k0_pay28 (F := Ideal) (k0_pay4 (F := Ideal) v0 v1 v16)) (k0_pay29 (F := Ideal) (k0_pay4 (F := Ideal) v0 v1 v16)) (k0_pay30 (F := Ideal) (k0_pay4 (F := Ideal) v0 v1 v16)) (k0_pay31 (F := Ideal) (k0_pay4 (F := Ideal) v0 v1 v16)) g (ix2 r l)
      = Proj.chunk (fun k => k0_pay4 (F := Ideal) v0 v1 v16 (ix2 r ⟨1920 + k.val, by omega⟩)) (fun k l => e (ix2 k l)) (fun l => vc (ix2 r l)) (fun l => vs (ix2 r l)) (fun l => vt (ix2 r l)) (fun l => g (ix2 0 l)) l := by
  pointwise [k0_pay28, k0_pay29, k0_pay30, k0_pay31, k0_pay32, Proj.chunk, Proj.scaled]
theorem piece_10_0 (r : Fin 256) (l : Fin 128) :
    k0_pay27 (F := Ideal) (k0_pay4 (F := Ideal) v0 v1 v16) e vc vs vt g (ix2 r l)
      = Proj.chunk (fun k => k0_pay4 (F := Ideal) v0 v1 v16 (ix2 r ⟨1792 + k.val, by omega⟩)) (fun k l => e (ix2 k l)) (fun l => vc (ix2 r l)) (fun l => vs (ix2 r l)) (fun l => vt (ix2 r l)) (fun l => g (ix2 0 l)) l := by
  pointwise [k0_pay27, Proj.chunk, Proj.scaled]
theorem piece_11_3 (r : Fin 256) (l : Fin 128) :
    k0_pay45 (F := Ideal) (k0_pay4 (F := Ideal) v0 v1 v16) (ix3 0 l r)
      = k0_pay4 (F := Ideal) v0 v1 v16 (ix2 r ⟨3200 + l.val, by omega⟩) := by
  pointwise [k0_pay44, k0_pay45]
theorem piece_11_2 (r : Fin 256) (l : Fin 128) :
    k0_pay43 (F := Ideal) (k0_pay4 (F := Ideal) v0 v1 v16) (ix3 0 l r)
      = k0_pay4 (F := Ideal) v0 v1 v16 (ix2 r ⟨3072 + l.val, by omega⟩) := by
  pointwise [k0_pay42, k0_pay43]
theorem piece_11_1 (r : Fin 256) (l : Fin 128) :
    k0_pay41 (F := Ideal) (k0_pay40 (F := Ideal) (k0_pay4 (F := Ideal) v0 v1 v16) e vc vs vt g) (ix3 0 l r)
      = Proj.chunk (fun k => k0_pay4 (F := Ideal) v0 v1 v16 (ix2 r ⟨2944 + k.val, by omega⟩)) (fun k l => e (ix2 k l)) (fun l => vc (ix2 r l)) (fun l => vs (ix2 r l)) (fun l => vt (ix2 r l)) (fun l => g (ix2 0 l)) l := by
  pointwise [k0_pay40, k0_pay41, Proj.chunk, Proj.scaled]
theorem piece_11_0 (r : Fin 256) (l : Fin 128) :
    k0_pay39 (F := Ideal) vc vs vt (k0_pay35 (F := Ideal) (k0_pay4 (F := Ideal) v0 v1 v16)) (k0_pay36 (F := Ideal) (k0_pay4 (F := Ideal) v0 v1 v16) e) (k0_pay37 (F := Ideal) ) g (ix3 0 l r)
      = Proj.chunk (fun k => k0_pay4 (F := Ideal) v0 v1 v16 (ix2 r ⟨2816 + k.val, by omega⟩)) (fun k l => e (ix2 k l)) (fun l => vc (ix2 r l)) (fun l => vs (ix2 r l)) (fun l => vt (ix2 r l)) (fun l => g (ix2 0 l)) l := by
  pointwise [k0_pay35, k0_pay36, k0_pay37, k0_pay38, k0_pay39, Proj.chunk, Proj.scaled]
theorem piece_12_3 (r : Fin 256) (l : Fin 128) :
    k0_pay51 (F := Ideal) (k0_pay4 (F := Ideal) v0 v1 v16) e vc vs vt g (ix2 r l)
      = Proj.chunk (fun k => k0_pay4 (F := Ideal) v0 v1 v16 (ix2 r ⟨384 + k.val, by omega⟩)) (fun k l => e (ix2 k l)) (fun l => vc (ix2 r l)) (fun l => vs (ix2 r l)) (fun l => vt (ix2 r l)) (fun l => g (ix2 0 l)) l := by
  pointwise [k0_pay51, Proj.chunk, Proj.scaled]
theorem piece_12_2 (r : Fin 256) (l : Fin 128) :
    k0_pay50 (F := Ideal) vc vs vt (k0_pay48 (F := Ideal) (k0_pay4 (F := Ideal) v0 v1 v16)) (k0_pay49 (F := Ideal) (k0_pay4 (F := Ideal) v0 v1 v16) e) g (ix2 r l)
      = Proj.chunk (fun k => k0_pay4 (F := Ideal) v0 v1 v16 (ix2 r ⟨256 + k.val, by omega⟩)) (fun k l => e (ix2 k l)) (fun l => vc (ix2 r l)) (fun l => vs (ix2 r l)) (fun l => vt (ix2 r l)) (fun l => g (ix2 0 l)) l := by
  pointwise [k0_pay48, k0_pay49, k0_pay50, Proj.chunk, Proj.scaled]
theorem piece_12_1 (r : Fin 256) (l : Fin 128) :
    k0_pay47 (F := Ideal) (k0_pay4 (F := Ideal) v0 v1 v16) e vc vs vt g (ix2 r l)
      = Proj.chunk (fun k => k0_pay4 (F := Ideal) v0 v1 v16 (ix2 r ⟨128 + k.val, by omega⟩)) (fun k l => e (ix2 k l)) (fun l => vc (ix2 r l)) (fun l => vs (ix2 r l)) (fun l => vt (ix2 r l)) (fun l => g (ix2 0 l)) l := by
  pointwise [k0_pay47, Proj.chunk, Proj.scaled]
theorem piece_12_0 (r : Fin 256) (l : Fin 128) :
    k0_pay46 (F := Ideal) (k0_pay4 (F := Ideal) v0 v1 v16) e vc vs vt g (ix2 r l)
      = Proj.chunk (fun k => k0_pay4 (F := Ideal) v0 v1 v16 (ix2 r ⟨0 + k.val, by omega⟩)) (fun k l => e (ix2 k l)) (fun l => vc (ix2 r l)) (fun l => vs (ix2 r l)) (fun l => vt (ix2 r l)) (fun l => g (ix2 0 l)) l := by
  pointwise [k0_pay46, Proj.chunk, Proj.scaled]
theorem piece_13_3 (r : Fin 256) (l : Fin 128) :
    k0_pay55 (F := Ideal) (k0_pay18 (F := Ideal) (k0_pay4 (F := Ideal) v0 v1 v16)) (ix2 r l)
      = k0_pay4 (F := Ideal) v0 v1 v16 (ix2 r ⟨896 + l.val, by omega⟩) := by
  pointwise [k0_pay18, k0_pay55]
theorem piece_13_2 (r : Fin 256) (l : Fin 128) :
    k0_pay54 (F := Ideal) (k0_pay16 (F := Ideal) vc vs vt (k0_pay14 (F := Ideal) (k0_pay4 (F := Ideal) v0 v1 v16) e) (k0_pay15 (F := Ideal) g)) (ix2 r l)
      = Proj.chunk (fun k => k0_pay4 (F := Ideal) v0 v1 v16 (ix2 r ⟨768 + k.val, by omega⟩)) (fun k l => e (ix2 k l)) (fun l => vc (ix2 r l)) (fun l => vs (ix2 r l)) (fun l => vt (ix2 r l)) (fun l => g (ix2 0 l)) l := by
  pointwise [k0_pay14, k0_pay15, k0_pay16, k0_pay54, Proj.chunk, Proj.scaled]
theorem piece_13_1 (r : Fin 256) (l : Fin 128) :
    k0_pay53 (F := Ideal) (k0_pay12 (F := Ideal) (k0_pay4 (F := Ideal) v0 v1 v16)) (ix2 r l)
      = k0_pay4 (F := Ideal) v0 v1 v16 (ix2 r ⟨640 + l.val, by omega⟩) := by
  pointwise [k0_pay12, k0_pay53]
theorem piece_13_0 (r : Fin 256) (l : Fin 128) :
    k0_pay52 (F := Ideal) (k0_pay10 (F := Ideal) vc vs vt (k0_pay8 (F := Ideal) v0 v1 v16) (k0_pay9 (F := Ideal) v0 v1 v16 e) (Scalar.ofBits (F := Ideal) .f32 0x358637BD#32) g) (ix2 r l)
      = Proj.chunk (fun k => k0_pay4 (F := Ideal) v0 v1 v16 (ix2 r ⟨512 + k.val, by omega⟩)) (fun k l => e (ix2 k l)) (fun l => vc (ix2 r l)) (fun l => vs (ix2 r l)) (fun l => vt (ix2 r l)) (fun l => g (ix2 0 l)) l := by
  pointwise [k0_pay8, k0_pay9, k0_pay10, k0_pay52, Proj.chunk, Proj.scaled]
theorem piece_14_1 (r : Fin 256) (l : Fin 128) :
    k0_pay57 (F := Ideal) (k0_pay25 (F := Ideal) (k0_pay4 (F := Ideal) v0 v1 v16)) (ix2 r l)
      = k0_pay4 (F := Ideal) v0 v1 v16 (ix2 r ⟨1152 + l.val, by omega⟩) := by
  pointwise [k0_pay25, k0_pay57]
theorem piece_14_0 (r : Fin 256) (l : Fin 128) :
    k0_pay56 (F := Ideal) (k0_pay23 (F := Ideal) (k0_pay21 (F := Ideal) (k0_pay4 (F := Ideal) v0 v1 v16) e vc vs g) (k0_pay22 (F := Ideal) (k0_pay4 (F := Ideal) v0 v1 v16) e vt g)) (ix2 r l)
      = Proj.chunk (fun k => k0_pay4 (F := Ideal) v0 v1 v16 (ix2 r ⟨1024 + k.val, by omega⟩)) (fun k l => e (ix2 k l)) (fun l => vc (ix2 r l)) (fun l => vs (ix2 r l)) (fun l => vt (ix2 r l)) (fun l => g (ix2 0 l)) l := by
  pointwise [k0_pay20, k0_pay21, k0_pay22, k0_pay23, k0_pay56, Proj.chunk, Proj.scaled]
theorem piece_15_3 (r : Fin 256) (l : Fin 128) :
    k0_pay67 (F := Ideal) (k0_pay4 (F := Ideal) v0 v1 v16) e vc vs vt g (ix2 r l)
      = Proj.chunk (fun k => k0_pay4 (F := Ideal) v0 v1 v16 (ix2 r ⟨1664 + k.val, by omega⟩)) (fun k l => e (ix2 k l)) (fun l => vc (ix2 r l)) (fun l => vs (ix2 r l)) (fun l => vt (ix2 r l)) (fun l => g (ix2 0 l)) l := by
  pointwise [k0_pay67, Proj.chunk, Proj.scaled]
theorem piece_15_2 (r : Fin 256) (l : Fin 128) :
    k0_pay66 (F := Ideal) vc vs vt (k0_pay63 (F := Ideal) (k0_pay4 (F := Ideal) v0 v1 v16)) (k0_pay64 (F := Ideal) (k0_pay4 (F := Ideal) v0 v1 v16) e) (k0_pay65 (F := Ideal) ) g (ix2 r l)
      = Proj.chunk (fun k => k0_pay4 (F := Ideal) v0 v1 v16 (ix2 r ⟨1536 + k.val, by omega⟩)) (fun k l => e (ix2 k l)) (fun l => vc (ix2 r l)) (fun l => vs (ix2 r l)) (fun l => vt (ix2 r l)) (fun l => g (ix2 0 l)) l := by
  pointwise [k0_pay63, k0_pay64, k0_pay65, k0_pay66, Proj.chunk, Proj.scaled]
theorem piece_15_1 (r : Fin 256) (l : Fin 128) :
    k0_pay62 (F := Ideal) (k0_pay4 (F := Ideal) v0 v1 v16) e vc vs vt g (ix2 r l)
      = Proj.chunk (fun k => k0_pay4 (F := Ideal) v0 v1 v16 (ix2 r ⟨1408 + k.val, by omega⟩)) (fun k l => e (ix2 k l)) (fun l => vc (ix2 r l)) (fun l => vs (ix2 r l)) (fun l => vt (ix2 r l)) (fun l => g (ix2 0 l)) l := by
  pointwise [k0_pay62, Proj.chunk, Proj.scaled]
theorem piece_15_0 (r : Fin 256) (l : Fin 128) :
    k0_pay61 (F := Ideal) vt (k0_pay59 (F := Ideal) (k0_pay4 (F := Ideal) v0 v1 v16) e vc vs g) (k0_pay60 (F := Ideal) (k0_pay4 (F := Ideal) v0 v1 v16) e g) (ix2 r l)
      = Proj.chunk (fun k => k0_pay4 (F := Ideal) v0 v1 v16 (ix2 r ⟨1280 + k.val, by omega⟩)) (fun k l => e (ix2 k l)) (fun l => vc (ix2 r l)) (fun l => vs (ix2 r l)) (fun l => vt (ix2 r l)) (fun l => g (ix2 0 l)) l := by
  pointwise [k0_pay58, k0_pay59, k0_pay60, k0_pay61, Proj.chunk, Proj.scaled]
theorem piece_16_3 (r : Fin 256) (l : Fin 128) :
    k0_pay71 (F := Ideal) (k0_pay34 (F := Ideal) (k0_pay4 (F := Ideal) v0 v1 v16)) (ix2 r l)
      = k0_pay4 (F := Ideal) v0 v1 v16 (ix2 r ⟨2176 + l.val, by omega⟩) := by
  pointwise [k0_pay34, k0_pay71]
theorem piece_16_2 (r : Fin 256) (l : Fin 128) :
    k0_pay70 (F := Ideal) (k0_pay33 (F := Ideal) (k0_pay4 (F := Ideal) v0 v1 v16)) (ix2 r l)
      = k0_pay4 (F := Ideal) v0 v1 v16 (ix2 r ⟨2048 + l.val, by omega⟩) := by
  pointwise [k0_pay33, k0_pay70]
theorem piece_16_1 (r : Fin 256) (l : Fin 128) :
    k0_pay69 (F := Ideal) (k0_pay32 (F := Ideal) e vc vs vt (k0_pay28 (F := Ideal) (k0_pay4 (F := Ideal) v0 v1 v16)) (k0_pay29 (F := Ideal) (k0_pay4 (F := Ideal) v0 v1 v16)) (k0_pay30 (F := Ideal) (k0_pay4 (F := Ideal) v0 v1 v16)) (k0_pay31 (F := Ideal) (k0_pay4 (F := Ideal) v0 v1 v16)) g) (ix2 r l)
      = Proj.chunk (fun k => k0_pay4 (F := Ideal) v0 v1 v16 (ix2 r ⟨1920 + k.val, by omega⟩)) (fun k l => e (ix2 k l)) (fun l => vc (ix2 r l)) (fun l => vs (ix2 r l)) (fun l => vt (ix2 r l)) (fun l => g (ix2 0 l)) l := by
  pointwise [k0_pay28, k0_pay29, k0_pay30, k0_pay31, k0_pay32, k0_pay69, Proj.chunk, Proj.scaled]
theorem piece_16_0 (r : Fin 256) (l : Fin 128) :
    k0_pay68 (F := Ideal) (k0_pay27 (F := Ideal) (k0_pay4 (F := Ideal) v0 v1 v16) e vc vs vt g) (ix2 r l)
      = Proj.chunk (fun k => k0_pay4 (F := Ideal) v0 v1 v16 (ix2 r ⟨1792 + k.val, by omega⟩)) (fun k l => e (ix2 k l)) (fun l => vc (ix2 r l)) (fun l => vs (ix2 r l)) (fun l => vt (ix2 r l)) (fun l => g (ix2 0 l)) l := by
  pointwise [k0_pay27, k0_pay68, Proj.chunk, Proj.scaled]
theorem piece_17_3 (r : Fin 256) (l : Fin 128) :
    k0_pay79 (F := Ideal) (k0_pay4 (F := Ideal) v0 v1 v16) e vc vs vt g (ix2 r l)
      = Proj.chunk (fun k => k0_pay4 (F := Ideal) v0 v1 v16 (ix2 r ⟨2688 + k.val, by omega⟩)) (fun k l => e (ix2 k l)) (fun l => vc (ix2 r l)) (fun l => vs (ix2 r l)) (fun l => vt (ix2 r l)) (fun l => g (ix2 0 l)) l := by
  pointwise [k0_pay79, Proj.chunk, Proj.scaled]
theorem piece_17_2 (r : Fin 256) (l : Fin 128) :
    k0_pay78 (F := Ideal) vc vs vt (k0_pay76 (F := Ideal) (k0_pay4 (F := Ideal) v0 v1 v16) e) (k0_pay77 (F := Ideal) g) (ix2 r l)
      = Proj.chunk (fun k => k0_pay4 (F := Ideal) v0 v1 v16 (ix2 r ⟨2560 + k.val, by omega⟩)) (fun k l => e (ix2 k l)) (fun l => vc (ix2 r l)) (fun l => vs (ix2 r l)) (fun l => vt (ix2 r l)) (fun l => g (ix2 0 l)) l := by
  pointwise [k0_pay76, k0_pay77, k0_pay78, Proj.chunk, Proj.scaled]
theorem piece_17_1 (r : Fin 256) (l : Fin 128) :
    k0_pay75 (F := Ideal) e vc vs vt (k0_pay73 (F := Ideal) (k0_pay4 (F := Ideal) v0 v1 v16)) (k0_pay74 (F := Ideal) (k0_pay4 (F := Ideal) v0 v1 v16)) g (ix2 r l)
      = Proj.chunk (fun k => k0_pay4 (F := Ideal) v0 v1 v16 (ix2 r ⟨2432 + k.val, by omega⟩)) (fun k l => e (ix2 k l)) (fun l => vc (ix2 r l)) (fun l => vs (ix2 r l)) (fun l => vt (ix2 r l)) (fun l => g (ix2 0 l)) l := by
  pointwise [k0_pay73, k0_pay74, k0_pay75, Proj.chunk, Proj.scaled]
theorem piece_17_0 (r : Fin 256) (l : Fin 128) :
    k0_pay72 (F := Ideal) (k0_pay4 (F := Ideal) v0 v1 v16) e vc vs vt g (ix2 r l)
      = Proj.chunk (fun k => k0_pay4 (F := Ideal) v0 v1 v16 (ix2 r ⟨2304 + k.val, by omega⟩)) (fun k l => e (ix2 k l)) (fun l => vc (ix2 r l)) (fun l => vs (ix2 r l)) (fun l => vt (ix2 r l)) (fun l => g (ix2 0 l)) l := by
  pointwise [k0_pay72, Proj.chunk, Proj.scaled]
theorem piece_18_3 (r : Fin 256) (l : Fin 128) :
    k0_pay2 (F := Ideal) (k0_pay44 (F := Ideal) (k0_pay4 (F := Ideal) v0 v1 v16)) (ix2 r l)
      = k0_pay4 (F := Ideal) v0 v1 v16 (ix2 r ⟨3200 + l.val, by omega⟩) := by
  pointwise [k0_pay2, k0_pay44]
theorem piece_18_2 (r : Fin 256) (l : Fin 128) :
    k0_pay1 (F := Ideal) (k0_pay42 (F := Ideal) (k0_pay4 (F := Ideal) v0 v1 v16)) (ix2 r l)
      = k0_pay4 (F := Ideal) v0 v1 v16 (ix2 r ⟨3072 + l.val, by omega⟩) := by
  pointwise [k0_pay1, k0_pay42]
theorem piece_18_1 (r : Fin 256) (l : Fin 128) :
    k0_pay81 (F := Ideal) (k0_pay40 (F := Ideal) (k0_pay4 (F := Ideal) v0 v1 v16) e vc vs vt g) (ix2 r l)
      = Proj.chunk (fun k => k0_pay4 (F := Ideal) v0 v1 v16 (ix2 r ⟨2944 + k.val, by omega⟩)) (fun k l => e (ix2 k l)) (fun l => vc (ix2 r l)) (fun l => vs (ix2 r l)) (fun l => vt (ix2 r l)) (fun l => g (ix2 0 l)) l := by
  pointwise [k0_pay40, k0_pay81, Proj.chunk, Proj.scaled]
theorem piece_18_0 (r : Fin 256) (l : Fin 128) :
    k0_pay80 (F := Ideal) (k0_pay38 (F := Ideal) vc vs vt (k0_pay35 (F := Ideal) (k0_pay4 (F := Ideal) v0 v1 v16)) (k0_pay36 (F := Ideal) (k0_pay4 (F := Ideal) v0 v1 v16) e) (k0_pay37 (F := Ideal) ) g) (ix2 r l)
      = Proj.chunk (fun k => k0_pay4 (F := Ideal) v0 v1 v16 (ix2 r ⟨2816 + k.val, by omega⟩)) (fun k l => e (ix2 k l)) (fun l => vc (ix2 r l)) (fun l => vs (ix2 r l)) (fun l => vt (ix2 r l)) (fun l => g (ix2 0 l)) l := by
  pointwise [k0_pay35, k0_pay36, k0_pay37, k0_pay38, k0_pay80, Proj.chunk, Proj.scaled]
theorem piece_19_0 (r : Fin 256) (l : Fin 128) :
    k0_pay3 (F := Ideal) (k0_pay4 (F := Ideal) v0 v1 v16) (ix2 r l)
      = Ideal.logistic (k0_pay4 (F := Ideal) v0 v1 v16 (ix2 r ⟨3328 + l.val, by omega⟩)) := by
  pointwise [k0_pay3]
end

/-! ## Each result block at a row and a lane -/

variable (x0 : Vec Ideal S256x1024 .f32) (x1 : Vec Ideal S1x1024 .f32) (x2 : Vec Ideal S1024x3456 .bf16) (x3 : Vec Ideal S1x3456 .f32)
  (x4 : Vec Ideal S128x128 .bf16) (x5 x6 x7 : Vec Ideal S256x128 .f32)

theorem off2 : (![0, 0] : Fin 2 → Nat) = fun _ => 0 := funext fun a => by fin_cases a <;> rfl

/-- The products at a row, through the staged blocks. -/
theorem prod_at (r : Fin 256) (n : Fin 3456) :
    k0_pay82 (F := Ideal) x0 x1 x2 x3 x4 x5 x6 x7 (ix2 r n)
      = ∑ k, Merge.norm 0x44800000#32 (fun k => x0 (ix2 r k)) (fun k => x1 (ix2 0 k)) k * x2 (ix2 k n) := by
  unfold k0_pay82
  rw [View.ld_unit_zero (S := S256x1024) off2, View.ld_unit_zero (S := S1x1024) off2, View.ld_unit_zero (S := S1024x3456) off2]
  exact pay4_at x0 x1 x2 r n
theorem tab5_at (r : Fin 256) (l : Fin 128) : k0_pay83 (F := Ideal) x0 x1 x2 x3 x4 x5 x6 x7 (ix2 r l) = x5 (ix2 r l) := by
  unfold k0_pay83
  rw [View.ld_unit_zero (S := S256x128) off2]
  exact pay5_at x5 r l
theorem tab6_at (r : Fin 256) (l : Fin 128) : k0_pay84 (F := Ideal) x0 x1 x2 x3 x4 x5 x6 x7 (ix2 r l) = x6 (ix2 r l) := by
  unfold k0_pay84
  rw [View.ld_unit_zero (S := S256x128) off2]
  exact pay6_at x6 r l
theorem tab7_at (r : Fin 256) (l : Fin 128) : k0_pay85 (F := Ideal) x0 x1 x2 x3 x4 x5 x6 x7 (ix2 r l) = x7 (ix2 r l) := by
  unfold k0_pay85
  rw [View.ld_unit_zero (S := S256x128) off2]
  exact pay7_at x7 r l
theorem mark_at (k l : Fin 128) : (View.ld x4 r0_3 : FVec Ideal S128x128 .bf16) (ix2 k l) = x4 (ix2 k l) := by
  rw [View.ld_unit_zero (S := S128x128) off2]

/-- A chunk depends on its inputs' entries only. -/
theorem chunk_congr {t t' : Fin 128 → EReal} {e e' : Fin 128 → Fin 128 → EReal} {c c' s s' u u' g g' : Fin 128 → EReal}
    (ht : ∀ k, t k = t' k) (he : ∀ k l, e k l = e' k l) (hc : ∀ l, c l = c' l) (hs : ∀ l, s l = s' l) (hu : ∀ l, u l = u' l)
    (hg : ∀ l, g l = g' l) (l : Fin 128) : Proj.chunk t e c s u g l = Proj.chunk t' e' c' s' u' g' l := by
  rw [funext ht, funext fun k => funext (he k), funext hc, funext hs, funext hu, funext hg]

theorem gain_5 (l : Fin 128) : (View.ld x3 r0_5 : FVec Ideal S1x128 .f32) (ix2 0 l) = x3 (ix2 0 ⟨512 + l.val, by omega⟩) :=
  congrArg x3 (funext fun a => Fin.ext (by
    match a with
    | ⟨0, _⟩ => rfl
    | ⟨1, _⟩ => show 512 + 1 * l.val = 512 + l.val; omega))
theorem gain_8 (l : Fin 128) : (View.ld x3 r0_8 : FVec Ideal S1x128 .f32) (ix2 0 l) = x3 (ix2 0 ⟨768 + l.val, by omega⟩) :=
  congrArg x3 (funext fun a => Fin.ext (by
    match a with
    | ⟨0, _⟩ => rfl
    | ⟨1, _⟩ => show 768 + 1 * l.val = 768 + l.val; omega))
theorem gain_11 (l : Fin 128) : (View.ld x3 r0_11 : FVec Ideal S1x128 .f32) (ix2 0 l) = x3 (ix2 0 ⟨1024 + l.val, by omega⟩) :=
  congrArg x3 (funext fun a => Fin.ext (by
    match a with
    | ⟨0, _⟩ => rfl
    | ⟨1, _⟩ => show 1024 + 1 * l.val = 1024 + l.val; omega))
theorem gain_14 (l : Fin 128) : (View.ld x3 r0_14 : FVec Ideal S1x128 .f32) (ix2 0 l) = x3 (ix2 0 ⟨1792 + l.val, by omega⟩) :=
  congrArg x3 (funext fun a => Fin.ext (by
    match a with
    | ⟨0, _⟩ => rfl
    | ⟨1, _⟩ => show 1792 + 1 * l.val = 1792 + l.val; omega))
theorem gain_16 (l : Fin 128) : (View.ld x3 r0_16 : FVec Ideal S1x128 .f32) (ix2 0 l) = x3 (ix2 0 ⟨1920 + l.val, by omega⟩) :=
  congrArg x3 (funext fun a => Fin.ext (by
    match a with
    | ⟨0, _⟩ => rfl
    | ⟨1, _⟩ => show 1920 + 1 * l.val = 1920 + l.val; omega))
theorem gain_20 (l : Fin 128) : (View.ld x3 r0_20 : FVec Ideal S1x128 .f32) (ix2 0 l) = x3 (ix2 0 ⟨2816 + l.val, by omega⟩) :=
  congrArg x3 (funext fun a => Fin.ext (by
    match a with
    | ⟨0, _⟩ => rfl
    | ⟨1, _⟩ => show 2816 + 1 * l.val = 2816 + l.val; omega))
theorem gain_21 (l : Fin 128) : (View.ld x3 r0_21 : FVec Ideal S1x128 .f32) (ix2 0 l) = x3 (ix2 0 ⟨2944 + l.val, by omega⟩) :=
  congrArg x3 (funext fun a => Fin.ext (by
    match a with
    | ⟨0, _⟩ => rfl
    | ⟨1, _⟩ => show 2944 + 1 * l.val = 2944 + l.val; omega))
theorem gain_22 (l : Fin 128) : (View.ld x3 r0_22 : FVec Ideal S1x128 .f32) (ix2 0 l) = x3 (ix2 0 ⟨0 + l.val, by omega⟩) :=
  congrArg x3 (funext fun a => Fin.ext (by
    match a with
    | ⟨0, _⟩ => rfl
    | ⟨1, _⟩ => show 0 + 1 * l.val = 0 + l.val; omega))
theorem gain_23 (l : Fin 128) : (View.ld x3 r0_23 : FVec Ideal S1x128 .f32) (ix2 0 l) = x3 (ix2 0 ⟨128 + l.val, by omega⟩) :=
  congrArg x3 (funext fun a => Fin.ext (by
    match a with
    | ⟨0, _⟩ => rfl
    | ⟨1, _⟩ => show 128 + 1 * l.val = 128 + l.val; omega))
theorem gain_24 (l : Fin 128) : (View.ld x3 r0_24 : FVec Ideal S1x128 .f32) (ix2 0 l) = x3 (ix2 0 ⟨256 + l.val, by omega⟩) :=
  congrArg x3 (funext fun a => Fin.ext (by
    match a with
    | ⟨0, _⟩ => rfl
    | ⟨1, _⟩ => show 256 + 1 * l.val = 256 + l.val; omega))
theorem gain_25 (l : Fin 128) : (View.ld x3 r0_25 : FVec Ideal S1x128 .f32) (ix2 0 l) = x3 (ix2 0 ⟨384 + l.val, by omega⟩) :=
  congrArg x3 (funext fun a => Fin.ext (by
    match a with
    | ⟨0, _⟩ => rfl
    | ⟨1, _⟩ => show 384 + 1 * l.val = 384 + l.val; omega))
theorem gain_28 (l : Fin 128) : (View.ld x3 r0_28 : FVec Ideal S1x128 .f32) (ix2 0 l) = x3 (ix2 0 ⟨1280 + l.val, by omega⟩) :=
  congrArg x3 (funext fun a => Fin.ext (by
    match a with
    | ⟨0, _⟩ => rfl
    | ⟨1, _⟩ => show 1280 + 1 * l.val = 1280 + l.val; omega))
theorem gain_29 (l : Fin 128) : (View.ld x3 r0_29 : FVec Ideal S1x128 .f32) (ix2 0 l) = x3 (ix2 0 ⟨1408 + l.val, by omega⟩) :=
  congrArg x3 (funext fun a => Fin.ext (by
    match a with
    | ⟨0, _⟩ => rfl
    | ⟨1, _⟩ => show 1408 + 1 * l.val = 1408 + l.val; omega))
theorem gain_30 (l : Fin 128) : (View.ld x3 r0_30 : FVec Ideal S1x128 .f32) (ix2 0 l) = x3 (ix2 0 ⟨1536 + l.val, by omega⟩) :=
  congrArg x3 (funext fun a => Fin.ext (by
    match a with
    | ⟨0, _⟩ => rfl
    | ⟨1, _⟩ => show 1536 + 1 * l.val = 1536 + l.val; omega))
theorem gain_31 (l : Fin 128) : (View.ld x3 r0_31 : FVec Ideal S1x128 .f32) (ix2 0 l) = x3 (ix2 0 ⟨1664 + l.val, by omega⟩) :=
  congrArg x3 (funext fun a => Fin.ext (by
    match a with
    | ⟨0, _⟩ => rfl
    | ⟨1, _⟩ => show 1664 + 1 * l.val = 1664 + l.val; omega))
theorem gain_32 (l : Fin 128) : (View.ld x3 r0_32 : FVec Ideal S1x128 .f32) (ix2 0 l) = x3 (ix2 0 ⟨2304 + l.val, by omega⟩) :=
  congrArg x3 (funext fun a => Fin.ext (by
    match a with
    | ⟨0, _⟩ => rfl
    | ⟨1, _⟩ => show 2304 + 1 * l.val = 2304 + l.val; omega))
theorem gain_33 (l : Fin 128) : (View.ld x3 r0_33 : FVec Ideal S1x128 .f32) (ix2 0 l) = x3 (ix2 0 ⟨2432 + l.val, by omega⟩) :=
  congrArg x3 (funext fun a => Fin.ext (by
    match a with
    | ⟨0, _⟩ => rfl
    | ⟨1, _⟩ => show 2432 + 1 * l.val = 2432 + l.val; omega))
theorem gain_34 (l : Fin 128) : (View.ld x3 r0_34 : FVec Ideal S1x128 .f32) (ix2 0 l) = x3 (ix2 0 ⟨2560 + l.val, by omega⟩) :=
  congrArg x3 (funext fun a => Fin.ext (by
    match a with
    | ⟨0, _⟩ => rfl
    | ⟨1, _⟩ => show 2560 + 1 * l.val = 2560 + l.val; omega))
theorem gain_35 (l : Fin 128) : (View.ld x3 r0_35 : FVec Ideal S1x128 .f32) (ix2 0 l) = x3 (ix2 0 ⟨2688 + l.val, by omega⟩) :=
  congrArg x3 (funext fun a => Fin.ext (by
    match a with
    | ⟨0, _⟩ => rfl
    | ⟨1, _⟩ => show 2688 + 1 * l.val = 2688 + l.val; omega))
theorem out_8_3 (r : Fin 256) (n : Fin 512) (l : Fin 128) (hn : n.val = 384 + l.val) :
    out0_8 (F := Ideal) x0 x1 x2 x3 x4 x5 x6 x7 (ix3 0 n r)
      = ∑ j, Merge.norm 0x44800000#32 (fun k => x0 (ix2 r k)) (fun k => x1 (ix2 0 k)) j * x2 (ix2 j ⟨896 + l.val, by omega⟩) := by
  unfold out0_8
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  exact (piece_8_3 (View.ld x0 r0_0) (View.ld x1 r0_1) (View.ld x2 r0_2) r l).trans (prod_at x0 x1 x2 x3 x4 x5 x6 x7 r ⟨896 + l.val, by omega⟩)
theorem out_8_2 (r : Fin 256) (n : Fin 512) (l : Fin 128) (hn : n.val = 256 + l.val) :
    out0_8 (F := Ideal) x0 x1 x2 x3 x4 x5 x6 x7 (ix3 0 n r)
      = Proj.chunk (fun k => ∑ j, Merge.norm 0x44800000#32 (fun k => x0 (ix2 r k)) (fun k => x1 (ix2 0 k)) j * x2 (ix2 j ⟨768 + k.val, by omega⟩)) (fun k l => x4 (ix2 k l)) (fun l => x5 (ix2 r l)) (fun l => x6 (ix2 r l)) (fun l => x7 (ix2 r l)) (fun l => x3 (ix2 0 ⟨768 + l.val, by omega⟩)) l := by
  unfold out0_8
  refine (canon_miss _ _ _ _ (1 : Fin 3) (Or.inl (by show n.val < 384; omega))).trans ?_
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  refine Eq.trans (piece_8_2 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_8) r l) ?_
  exact chunk_congr (fun k => prod_at x0 x1 x2 x3 x4 x5 x6 x7 r ⟨768 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_8 x3 l) l
theorem out_8_1 (r : Fin 256) (n : Fin 512) (l : Fin 128) (hn : n.val = 128 + l.val) :
    out0_8 (F := Ideal) x0 x1 x2 x3 x4 x5 x6 x7 (ix3 0 n r)
      = ∑ j, Merge.norm 0x44800000#32 (fun k => x0 (ix2 r k)) (fun k => x1 (ix2 0 k)) j * x2 (ix2 j ⟨640 + l.val, by omega⟩) := by
  unfold out0_8
  refine (canon_miss _ _ _ _ (1 : Fin 3) (Or.inl (by show n.val < 384; omega))).trans ?_
  refine (canon_miss _ _ _ _ (1 : Fin 3) (Or.inl (by show n.val < 256; omega))).trans ?_
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  exact (piece_8_1 (View.ld x0 r0_0) (View.ld x1 r0_1) (View.ld x2 r0_2) r l).trans (prod_at x0 x1 x2 x3 x4 x5 x6 x7 r ⟨640 + l.val, by omega⟩)
theorem out_8_0 (r : Fin 256) (n : Fin 512) (l : Fin 128) (hn : n.val = 0 + l.val) :
    out0_8 (F := Ideal) x0 x1 x2 x3 x4 x5 x6 x7 (ix3 0 n r)
      = Proj.chunk (fun k => ∑ j, Merge.norm 0x44800000#32 (fun k => x0 (ix2 r k)) (fun k => x1 (ix2 0 k)) j * x2 (ix2 j ⟨512 + k.val, by omega⟩)) (fun k l => x4 (ix2 k l)) (fun l => x5 (ix2 r l)) (fun l => x6 (ix2 r l)) (fun l => x7 (ix2 r l)) (fun l => x3 (ix2 0 ⟨512 + l.val, by omega⟩)) l := by
  unfold out0_8
  refine (canon_miss _ _ _ _ (1 : Fin 3) (Or.inl (by show n.val < 384; omega))).trans ?_
  refine (canon_miss _ _ _ _ (1 : Fin 3) (Or.inl (by show n.val < 256; omega))).trans ?_
  refine (canon_miss _ _ _ _ (1 : Fin 3) (Or.inl (by show n.val < 128; omega))).trans ?_
  refine (canon_hit _ _ _ _ (ix3 0 l r : S1x128x256.Idx) (fun a => by
    match a with
    | ⟨0, _⟩ => rfl
    | ⟨1, _⟩ => show n.val = 0 + l.val; omega
    | ⟨2, _⟩ => show r.val = 0 + r.val; omega)).trans ?_
  refine Eq.trans (piece_8_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_5) r l) ?_
  exact chunk_congr (fun k => prod_at x0 x1 x2 x3 x4 x5 x6 x7 r ⟨512 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_5 x3 l) l
theorem out_9_1 (r : Fin 256) (n : Fin 256) (l : Fin 128) (hn : n.val = 128 + l.val) :
    out0_9 (F := Ideal) x0 x1 x2 x3 x4 x5 x6 x7 (ix3 0 n r)
      = ∑ j, Merge.norm 0x44800000#32 (fun k => x0 (ix2 r k)) (fun k => x1 (ix2 0 k)) j * x2 (ix2 j ⟨1152 + l.val, by omega⟩) := by
  unfold out0_9
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  exact (piece_9_1 (View.ld x0 r0_0) (View.ld x1 r0_1) (View.ld x2 r0_2) r l).trans (prod_at x0 x1 x2 x3 x4 x5 x6 x7 r ⟨1152 + l.val, by omega⟩)
theorem out_9_0 (r : Fin 256) (n : Fin 256) (l : Fin 128) (hn : n.val = 0 + l.val) :
    out0_9 (F := Ideal) x0 x1 x2 x3 x4 x5 x6 x7 (ix3 0 n r)
      = Proj.chunk (fun k => ∑ j, Merge.norm 0x44800000#32 (fun k => x0 (ix2 r k)) (fun k => x1 (ix2 0 k)) j * x2 (ix2 j ⟨1024 + k.val, by omega⟩)) (fun k l => x4 (ix2 k l)) (fun l => x5 (ix2 r l)) (fun l => x6 (ix2 r l)) (fun l => x7 (ix2 r l)) (fun l => x3 (ix2 0 ⟨1024 + l.val, by omega⟩)) l := by
  unfold out0_9
  refine (canon_miss _ _ _ _ (1 : Fin 3) (Or.inl (by show n.val < 128; omega))).trans ?_
  refine (canon_hit _ _ _ _ (ix3 0 l r : S1x128x256.Idx) (fun a => by
    match a with
    | ⟨0, _⟩ => rfl
    | ⟨1, _⟩ => show n.val = 0 + l.val; omega
    | ⟨2, _⟩ => show r.val = 0 + r.val; omega)).trans ?_
  refine Eq.trans (piece_9_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_11) r l) ?_
  exact chunk_congr (fun k => prod_at x0 x1 x2 x3 x4 x5 x6 x7 r ⟨1024 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_11 x3 l) l
theorem out_10_3 (r : Fin 256) (n : Fin 512) (l : Fin 128) (hn : n.val = 384 + l.val) :
    out0_10 (F := Ideal) x0 x1 x2 x3 x4 x5 x6 x7 (ix2 r n)
      = ∑ j, Merge.norm 0x44800000#32 (fun k => x0 (ix2 r k)) (fun k => x1 (ix2 0 k)) j * x2 (ix2 j ⟨2176 + l.val, by omega⟩) := by
  unfold out0_10
  refine (canon_hit _ _ _ _ (ix2 r l : S256x128.Idx) (fun a => by
    match a with
    | ⟨0, _⟩ => show r.val = 0 + r.val; omega
    | ⟨1, _⟩ => exact hn)).trans ?_
  exact (piece_10_3 (View.ld x0 r0_0) (View.ld x1 r0_1) (View.ld x2 r0_2) r l).trans (prod_at x0 x1 x2 x3 x4 x5 x6 x7 r ⟨2176 + l.val, by omega⟩)
theorem out_10_2 (r : Fin 256) (n : Fin 512) (l : Fin 128) (hn : n.val = 256 + l.val) :
    out0_10 (F := Ideal) x0 x1 x2 x3 x4 x5 x6 x7 (ix2 r n)
      = ∑ j, Merge.norm 0x44800000#32 (fun k => x0 (ix2 r k)) (fun k => x1 (ix2 0 k)) j * x2 (ix2 j ⟨2048 + l.val, by omega⟩) := by
  unfold out0_10
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  exact (piece_10_2 (View.ld x0 r0_0) (View.ld x1 r0_1) (View.ld x2 r0_2) r l).trans (prod_at x0 x1 x2 x3 x4 x5 x6 x7 r ⟨2048 + l.val, by omega⟩)
theorem out_10_1 (r : Fin 256) (n : Fin 512) (l : Fin 128) (hn : n.val = 128 + l.val) :
    out0_10 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1920 + k.val, by omega⟩)) (fun k l => x4 (ix2 k l)) (fun l => x5 (ix2 r l)) (fun l => x6 (ix2 r l)) (fun l => x7 (ix2 r l)) (fun l => x3 (ix2 0 ⟨1920 + l.val, by omega⟩)) l := by
  unfold out0_10
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_10_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_16) r l) ?_
  exact chunk_congr (fun k => prod_at x0 x1 x2 x3 x4 x5 x6 x7 r ⟨1920 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_16 x3 l) l
theorem out_10_0 (r : Fin 256) (n : Fin 512) (l : Fin 128) (hn : n.val = 0 + l.val) :
    out0_10 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1792 + k.val, by omega⟩)) (fun k l => x4 (ix2 k l)) (fun l => x5 (ix2 r l)) (fun l => x6 (ix2 r l)) (fun l => x7 (ix2 r l)) (fun l => x3 (ix2 0 ⟨1792 + l.val, by omega⟩)) l := by
  unfold out0_10
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_10_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_14) r l) ?_
  exact chunk_congr (fun k => prod_at x0 x1 x2 x3 x4 x5 x6 x7 r ⟨1792 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_14 x3 l) l
theorem out_11_3 (r : Fin 256) (n : Fin 512) (l : Fin 128) (hn : n.val = 384 + l.val) :
    out0_11 (F := Ideal) x0 x1 x2 x3 x4 x5 x6 x7 (ix3 0 n r)
      = ∑ j, Merge.norm 0x44800000#32 (fun k => x0 (ix2 r k)) (fun k => x1 (ix2 0 k)) j * x2 (ix2 j ⟨3200 + l.val, by omega⟩) := by
  unfold out0_11
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  exact (piece_11_3 (View.ld x0 r0_0) (View.ld x1 r0_1) (View.ld x2 r0_2) r l).trans (prod_at x0 x1 x2 x3 x4 x5 x6 x7 r ⟨3200 + l.val, by omega⟩)
theorem out_11_2 (r : Fin 256) (n : Fin 512) (l : Fin 128) (hn : n.val = 256 + l.val) :
    out0_11 (F := Ideal) x0 x1 x2 x3 x4 x5 x6 x7 (ix3 0 n r)
      = ∑ j, Merge.norm 0x44800000#32 (fun k => x0 (ix2 r k)) (fun k => x1 (ix2 0 k)) j * x2 (ix2 j ⟨3072 + l.val, by omega⟩) := by
  unfold out0_11
  refine (canon_miss _ _ _ _ (1 : Fin 3) (Or.inl (by show n.val < 384; omega))).trans ?_
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  exact (piece_11_2 (View.ld x0 r0_0) (View.ld x1 r0_1) (View.ld x2 r0_2) r l).trans (prod_at x0 x1 x2 x3 x4 x5 x6 x7 r ⟨3072 + l.val, by omega⟩)
theorem out_11_1 (r : Fin 256) (n : Fin 512) (l : Fin 128) (hn : n.val = 128 + l.val) :
    out0_11 (F := Ideal) x0 x1 x2 x3 x4 x5 x6 x7 (ix3 0 n r)
      = Proj.chunk (fun k => ∑ j, Merge.norm 0x44800000#32 (fun k => x0 (ix2 r k)) (fun k => x1 (ix2 0 k)) j * x2 (ix2 j ⟨2944 + k.val, by omega⟩)) (fun k l => x4 (ix2 k l)) (fun l => x5 (ix2 r l)) (fun l => x6 (ix2 r l)) (fun l => x7 (ix2 r l)) (fun l => x3 (ix2 0 ⟨2944 + l.val, by omega⟩)) l := by
  unfold out0_11
  refine (canon_miss _ _ _ _ (1 : Fin 3) (Or.inl (by show n.val < 384; omega))).trans ?_
  refine (canon_miss _ _ _ _ (1 : Fin 3) (Or.inl (by show n.val < 256; omega))).trans ?_
  refine (canon_hit _ _ _ _ (ix3 0 l r : S1x128x256.Idx) (fun a => by
    match a with
    | ⟨0, _⟩ => rfl
    | ⟨1, _⟩ => exact hn
    | ⟨2, _⟩ => show r.val = 0 + r.val; omega)).trans ?_
  refine Eq.trans (piece_11_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_21) r l) ?_
  exact chunk_congr (fun k => prod_at x0 x1 x2 x3 x4 x5 x6 x7 r ⟨2944 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_21 x3 l) l
theorem out_11_0 (r : Fin 256) (n : Fin 512) (l : Fin 128) (hn : n.val = 0 + l.val) :
    out0_11 (F := Ideal) x0 x1 x2 x3 x4 x5 x6 x7 (ix3 0 n r)
      = Proj.chunk (fun k => ∑ j, Merge.norm 0x44800000#32 (fun k => x0 (ix2 r k)) (fun k => x1 (ix2 0 k)) j * x2 (ix2 j ⟨2816 + k.val, by omega⟩)) (fun k l => x4 (ix2 k l)) (fun l => x5 (ix2 r l)) (fun l => x6 (ix2 r l)) (fun l => x7 (ix2 r l)) (fun l => x3 (ix2 0 ⟨2816 + l.val, by omega⟩)) l := by
  unfold out0_11
  refine (canon_miss _ _ _ _ (1 : Fin 3) (Or.inl (by show n.val < 384; omega))).trans ?_
  refine (canon_miss _ _ _ _ (1 : Fin 3) (Or.inl (by show n.val < 256; omega))).trans ?_
  refine (canon_miss _ _ _ _ (1 : Fin 3) (Or.inl (by show n.val < 128; omega))).trans ?_
  refine (canon_hit _ _ _ _ (ix3 0 l r : S1x128x256.Idx) (fun a => by
    match a with
    | ⟨0, _⟩ => rfl
    | ⟨1, _⟩ => show n.val = 0 + l.val; omega
    | ⟨2, _⟩ => show r.val = 0 + r.val; omega)).trans ?_
  refine Eq.trans (piece_11_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_20) r l) ?_
  exact chunk_congr (fun k => prod_at x0 x1 x2 x3 x4 x5 x6 x7 r ⟨2816 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_20 x3 l) l
theorem out_12_3 (r : Fin 256) (n : Fin 512) (l : Fin 128) (hn : n.val = 384 + l.val) :
    out0_12 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨384 + k.val, by omega⟩)) (fun k l => x4 (ix2 k l)) (fun l => x5 (ix2 r l)) (fun l => x6 (ix2 r l)) (fun l => x7 (ix2 r l)) (fun l => x3 (ix2 0 ⟨384 + l.val, by omega⟩)) l := by
  unfold out0_12
  refine (canon_hit _ _ _ _ (ix2 r l : S256x128.Idx) (fun a => by
    match a with
    | ⟨0, _⟩ => show r.val = 0 + r.val; omega
    | ⟨1, _⟩ => exact hn)).trans ?_
  refine Eq.trans (piece_12_3 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_25) r l) ?_
  exact chunk_congr (fun k => prod_at x0 x1 x2 x3 x4 x5 x6 x7 r ⟨384 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_25 x3 l) l
theorem out_12_2 (r : Fin 256) (n : Fin 512) (l : Fin 128) (hn : n.val = 256 + l.val) :
    out0_12 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨256 + k.val, by omega⟩)) (fun k l => x4 (ix2 k l)) (fun l => x5 (ix2 r l)) (fun l => x6 (ix2 r l)) (fun l => x7 (ix2 r l)) (fun l => x3 (ix2 0 ⟨256 + l.val, by omega⟩)) l := by
  unfold out0_12
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_12_2 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_24) r l) ?_
  exact chunk_congr (fun k => prod_at x0 x1 x2 x3 x4 x5 x6 x7 r ⟨256 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_24 x3 l) l
theorem out_12_1 (r : Fin 256) (n : Fin 512) (l : Fin 128) (hn : n.val = 128 + l.val) :
    out0_12 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨128 + k.val, by omega⟩)) (fun k l => x4 (ix2 k l)) (fun l => x5 (ix2 r l)) (fun l => x6 (ix2 r l)) (fun l => x7 (ix2 r l)) (fun l => x3 (ix2 0 ⟨128 + l.val, by omega⟩)) l := by
  unfold out0_12
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_12_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_23) r l) ?_
  exact chunk_congr (fun k => prod_at x0 x1 x2 x3 x4 x5 x6 x7 r ⟨128 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_23 x3 l) l
theorem out_12_0 (r : Fin 256) (n : Fin 512) (l : Fin 128) (hn : n.val = 0 + l.val) :
    out0_12 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨0 + k.val, by omega⟩)) (fun k l => x4 (ix2 k l)) (fun l => x5 (ix2 r l)) (fun l => x6 (ix2 r l)) (fun l => x7 (ix2 r l)) (fun l => x3 (ix2 0 ⟨0 + l.val, by omega⟩)) l := by
  unfold out0_12
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_12_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_22) r l) ?_
  exact chunk_congr (fun k => prod_at x0 x1 x2 x3 x4 x5 x6 x7 r ⟨0 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_22 x3 l) l
theorem out_13_3 (r : Fin 256) (n : Fin 512) (l : Fin 128) (hn : n.val = 384 + l.val) :
    out0_13 (F := Ideal) x0 x1 x2 x3 x4 x5 x6 x7 (ix2 r n)
      = ∑ j, Merge.norm 0x44800000#32 (fun k => x0 (ix2 r k)) (fun k => x1 (ix2 0 k)) j * x2 (ix2 j ⟨896 + l.val, by omega⟩) := by
  unfold out0_13
  refine (canon_hit _ _ _ _ (ix2 r l : S256x128.Idx) (fun a => by
    match a with
    | ⟨0, _⟩ => show r.val = 0 + r.val; omega
    | ⟨1, _⟩ => exact hn)).trans ?_
  exact (piece_13_3 (View.ld x0 r0_0) (View.ld x1 r0_1) (View.ld x2 r0_2) r l).trans (prod_at x0 x1 x2 x3 x4 x5 x6 x7 r ⟨896 + l.val, by omega⟩)
theorem out_13_2 (r : Fin 256) (n : Fin 512) (l : Fin 128) (hn : n.val = 256 + l.val) :
    out0_13 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨768 + k.val, by omega⟩)) (fun k l => x4 (ix2 k l)) (fun l => x5 (ix2 r l)) (fun l => x6 (ix2 r l)) (fun l => x7 (ix2 r l)) (fun l => x3 (ix2 0 ⟨768 + l.val, by omega⟩)) l := by
  unfold out0_13
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_13_2 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_8) r l) ?_
  exact chunk_congr (fun k => prod_at x0 x1 x2 x3 x4 x5 x6 x7 r ⟨768 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_8 x3 l) l
theorem out_13_1 (r : Fin 256) (n : Fin 512) (l : Fin 128) (hn : n.val = 128 + l.val) :
    out0_13 (F := Ideal) x0 x1 x2 x3 x4 x5 x6 x7 (ix2 r n)
      = ∑ j, Merge.norm 0x44800000#32 (fun k => x0 (ix2 r k)) (fun k => x1 (ix2 0 k)) j * x2 (ix2 j ⟨640 + l.val, by omega⟩) := by
  unfold out0_13
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  exact (piece_13_1 (View.ld x0 r0_0) (View.ld x1 r0_1) (View.ld x2 r0_2) r l).trans (prod_at x0 x1 x2 x3 x4 x5 x6 x7 r ⟨640 + l.val, by omega⟩)
theorem out_13_0 (r : Fin 256) (n : Fin 512) (l : Fin 128) (hn : n.val = 0 + l.val) :
    out0_13 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨512 + k.val, by omega⟩)) (fun k l => x4 (ix2 k l)) (fun l => x5 (ix2 r l)) (fun l => x6 (ix2 r l)) (fun l => x7 (ix2 r l)) (fun l => x3 (ix2 0 ⟨512 + l.val, by omega⟩)) l := by
  unfold out0_13
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_13_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_5) r l) ?_
  exact chunk_congr (fun k => prod_at x0 x1 x2 x3 x4 x5 x6 x7 r ⟨512 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_5 x3 l) l
theorem out_14_1 (r : Fin 256) (n : Fin 256) (l : Fin 128) (hn : n.val = 128 + l.val) :
    out0_14 (F := Ideal) x0 x1 x2 x3 x4 x5 x6 x7 (ix2 r n)
      = ∑ j, Merge.norm 0x44800000#32 (fun k => x0 (ix2 r k)) (fun k => x1 (ix2 0 k)) j * x2 (ix2 j ⟨1152 + l.val, by omega⟩) := by
  unfold out0_14
  refine (canon_hit _ _ _ _ (ix2 r l : S256x128.Idx) (fun a => by
    match a with
    | ⟨0, _⟩ => show r.val = 0 + r.val; omega
    | ⟨1, _⟩ => exact hn)).trans ?_
  exact (piece_14_1 (View.ld x0 r0_0) (View.ld x1 r0_1) (View.ld x2 r0_2) r l).trans (prod_at x0 x1 x2 x3 x4 x5 x6 x7 r ⟨1152 + l.val, by omega⟩)
theorem out_14_0 (r : Fin 256) (n : Fin 256) (l : Fin 128) (hn : n.val = 0 + l.val) :
    out0_14 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1024 + k.val, by omega⟩)) (fun k l => x4 (ix2 k l)) (fun l => x5 (ix2 r l)) (fun l => x6 (ix2 r l)) (fun l => x7 (ix2 r l)) (fun l => x3 (ix2 0 ⟨1024 + l.val, by omega⟩)) l := by
  unfold out0_14
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_14_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_11) r l) ?_
  exact chunk_congr (fun k => prod_at x0 x1 x2 x3 x4 x5 x6 x7 r ⟨1024 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_11 x3 l) l
theorem out_15_3 (r : Fin 256) (n : Fin 512) (l : Fin 128) (hn : n.val = 384 + l.val) :
    out0_15 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1664 + k.val, by omega⟩)) (fun k l => x4 (ix2 k l)) (fun l => x5 (ix2 r l)) (fun l => x6 (ix2 r l)) (fun l => x7 (ix2 r l)) (fun l => x3 (ix2 0 ⟨1664 + l.val, by omega⟩)) l := by
  unfold out0_15
  refine (canon_hit _ _ _ _ (ix2 r l : S256x128.Idx) (fun a => by
    match a with
    | ⟨0, _⟩ => show r.val = 0 + r.val; omega
    | ⟨1, _⟩ => exact hn)).trans ?_
  refine Eq.trans (piece_15_3 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_31) r l) ?_
  exact chunk_congr (fun k => prod_at x0 x1 x2 x3 x4 x5 x6 x7 r ⟨1664 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_31 x3 l) l
theorem out_15_2 (r : Fin 256) (n : Fin 512) (l : Fin 128) (hn : n.val = 256 + l.val) :
    out0_15 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1536 + k.val, by omega⟩)) (fun k l => x4 (ix2 k l)) (fun l => x5 (ix2 r l)) (fun l => x6 (ix2 r l)) (fun l => x7 (ix2 r l)) (fun l => x3 (ix2 0 ⟨1536 + l.val, by omega⟩)) l := by
  unfold out0_15
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_15_2 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_30) r l) ?_
  exact chunk_congr (fun k => prod_at x0 x1 x2 x3 x4 x5 x6 x7 r ⟨1536 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_30 x3 l) l
theorem out_15_1 (r : Fin 256) (n : Fin 512) (l : Fin 128) (hn : n.val = 128 + l.val) :
    out0_15 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1408 + k.val, by omega⟩)) (fun k l => x4 (ix2 k l)) (fun l => x5 (ix2 r l)) (fun l => x6 (ix2 r l)) (fun l => x7 (ix2 r l)) (fun l => x3 (ix2 0 ⟨1408 + l.val, by omega⟩)) l := by
  unfold out0_15
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_15_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_29) r l) ?_
  exact chunk_congr (fun k => prod_at x0 x1 x2 x3 x4 x5 x6 x7 r ⟨1408 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_29 x3 l) l
theorem out_15_0 (r : Fin 256) (n : Fin 512) (l : Fin 128) (hn : n.val = 0 + l.val) :
    out0_15 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1280 + k.val, by omega⟩)) (fun k l => x4 (ix2 k l)) (fun l => x5 (ix2 r l)) (fun l => x6 (ix2 r l)) (fun l => x7 (ix2 r l)) (fun l => x3 (ix2 0 ⟨1280 + l.val, by omega⟩)) l := by
  unfold out0_15
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_15_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_28) r l) ?_
  exact chunk_congr (fun k => prod_at x0 x1 x2 x3 x4 x5 x6 x7 r ⟨1280 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_28 x3 l) l
theorem out_16_3 (r : Fin 256) (n : Fin 512) (l : Fin 128) (hn : n.val = 384 + l.val) :
    out0_16 (F := Ideal) x0 x1 x2 x3 x4 x5 x6 x7 (ix2 r n)
      = ∑ j, Merge.norm 0x44800000#32 (fun k => x0 (ix2 r k)) (fun k => x1 (ix2 0 k)) j * x2 (ix2 j ⟨2176 + l.val, by omega⟩) := by
  unfold out0_16
  refine (canon_hit _ _ _ _ (ix2 r l : S256x128.Idx) (fun a => by
    match a with
    | ⟨0, _⟩ => show r.val = 0 + r.val; omega
    | ⟨1, _⟩ => exact hn)).trans ?_
  exact (piece_16_3 (View.ld x0 r0_0) (View.ld x1 r0_1) (View.ld x2 r0_2) r l).trans (prod_at x0 x1 x2 x3 x4 x5 x6 x7 r ⟨2176 + l.val, by omega⟩)
theorem out_16_2 (r : Fin 256) (n : Fin 512) (l : Fin 128) (hn : n.val = 256 + l.val) :
    out0_16 (F := Ideal) x0 x1 x2 x3 x4 x5 x6 x7 (ix2 r n)
      = ∑ j, Merge.norm 0x44800000#32 (fun k => x0 (ix2 r k)) (fun k => x1 (ix2 0 k)) j * x2 (ix2 j ⟨2048 + l.val, by omega⟩) := by
  unfold out0_16
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  exact (piece_16_2 (View.ld x0 r0_0) (View.ld x1 r0_1) (View.ld x2 r0_2) r l).trans (prod_at x0 x1 x2 x3 x4 x5 x6 x7 r ⟨2048 + l.val, by omega⟩)
theorem out_16_1 (r : Fin 256) (n : Fin 512) (l : Fin 128) (hn : n.val = 128 + l.val) :
    out0_16 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1920 + k.val, by omega⟩)) (fun k l => x4 (ix2 k l)) (fun l => x5 (ix2 r l)) (fun l => x6 (ix2 r l)) (fun l => x7 (ix2 r l)) (fun l => x3 (ix2 0 ⟨1920 + l.val, by omega⟩)) l := by
  unfold out0_16
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_16_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_16) r l) ?_
  exact chunk_congr (fun k => prod_at x0 x1 x2 x3 x4 x5 x6 x7 r ⟨1920 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_16 x3 l) l
theorem out_16_0 (r : Fin 256) (n : Fin 512) (l : Fin 128) (hn : n.val = 0 + l.val) :
    out0_16 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨1792 + k.val, by omega⟩)) (fun k l => x4 (ix2 k l)) (fun l => x5 (ix2 r l)) (fun l => x6 (ix2 r l)) (fun l => x7 (ix2 r l)) (fun l => x3 (ix2 0 ⟨1792 + l.val, by omega⟩)) l := by
  unfold out0_16
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_16_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_14) r l) ?_
  exact chunk_congr (fun k => prod_at x0 x1 x2 x3 x4 x5 x6 x7 r ⟨1792 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_14 x3 l) l
theorem out_17_3 (r : Fin 256) (n : Fin 512) (l : Fin 128) (hn : n.val = 384 + l.val) :
    out0_17 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2688 + k.val, by omega⟩)) (fun k l => x4 (ix2 k l)) (fun l => x5 (ix2 r l)) (fun l => x6 (ix2 r l)) (fun l => x7 (ix2 r l)) (fun l => x3 (ix2 0 ⟨2688 + l.val, by omega⟩)) l := by
  unfold out0_17
  refine (canon_hit _ _ _ _ (ix2 r l : S256x128.Idx) (fun a => by
    match a with
    | ⟨0, _⟩ => show r.val = 0 + r.val; omega
    | ⟨1, _⟩ => exact hn)).trans ?_
  refine Eq.trans (piece_17_3 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_35) r l) ?_
  exact chunk_congr (fun k => prod_at x0 x1 x2 x3 x4 x5 x6 x7 r ⟨2688 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_35 x3 l) l
theorem out_17_2 (r : Fin 256) (n : Fin 512) (l : Fin 128) (hn : n.val = 256 + l.val) :
    out0_17 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2560 + k.val, by omega⟩)) (fun k l => x4 (ix2 k l)) (fun l => x5 (ix2 r l)) (fun l => x6 (ix2 r l)) (fun l => x7 (ix2 r l)) (fun l => x3 (ix2 0 ⟨2560 + l.val, by omega⟩)) l := by
  unfold out0_17
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_17_2 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_34) r l) ?_
  exact chunk_congr (fun k => prod_at x0 x1 x2 x3 x4 x5 x6 x7 r ⟨2560 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_34 x3 l) l
theorem out_17_1 (r : Fin 256) (n : Fin 512) (l : Fin 128) (hn : n.val = 128 + l.val) :
    out0_17 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2432 + k.val, by omega⟩)) (fun k l => x4 (ix2 k l)) (fun l => x5 (ix2 r l)) (fun l => x6 (ix2 r l)) (fun l => x7 (ix2 r l)) (fun l => x3 (ix2 0 ⟨2432 + l.val, by omega⟩)) l := by
  unfold out0_17
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_17_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_33) r l) ?_
  exact chunk_congr (fun k => prod_at x0 x1 x2 x3 x4 x5 x6 x7 r ⟨2432 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_33 x3 l) l
theorem out_17_0 (r : Fin 256) (n : Fin 512) (l : Fin 128) (hn : n.val = 0 + l.val) :
    out0_17 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2304 + k.val, by omega⟩)) (fun k l => x4 (ix2 k l)) (fun l => x5 (ix2 r l)) (fun l => x6 (ix2 r l)) (fun l => x7 (ix2 r l)) (fun l => x3 (ix2 0 ⟨2304 + l.val, by omega⟩)) l := by
  unfold out0_17
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_17_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_32) r l) ?_
  exact chunk_congr (fun k => prod_at x0 x1 x2 x3 x4 x5 x6 x7 r ⟨2304 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_32 x3 l) l
theorem out_18_3 (r : Fin 256) (n : Fin 512) (l : Fin 128) (hn : n.val = 384 + l.val) :
    out0_18 (F := Ideal) x0 x1 x2 x3 x4 x5 x6 x7 (ix2 r n)
      = ∑ j, Merge.norm 0x44800000#32 (fun k => x0 (ix2 r k)) (fun k => x1 (ix2 0 k)) j * x2 (ix2 j ⟨3200 + l.val, by omega⟩) := by
  unfold out0_18
  refine (canon_hit _ _ _ _ (ix2 r l : S256x128.Idx) (fun a => by
    match a with
    | ⟨0, _⟩ => show r.val = 0 + r.val; omega
    | ⟨1, _⟩ => exact hn)).trans ?_
  exact (piece_18_3 (View.ld x0 r0_0) (View.ld x1 r0_1) (View.ld x2 r0_2) r l).trans (prod_at x0 x1 x2 x3 x4 x5 x6 x7 r ⟨3200 + l.val, by omega⟩)
theorem out_18_2 (r : Fin 256) (n : Fin 512) (l : Fin 128) (hn : n.val = 256 + l.val) :
    out0_18 (F := Ideal) x0 x1 x2 x3 x4 x5 x6 x7 (ix2 r n)
      = ∑ j, Merge.norm 0x44800000#32 (fun k => x0 (ix2 r k)) (fun k => x1 (ix2 0 k)) j * x2 (ix2 j ⟨3072 + l.val, by omega⟩) := by
  unfold out0_18
  refine (canon_miss _ _ _ _ (1 : Fin 2) (Or.inl (by show n.val < 384; omega))).trans ?_
  refine (canon_hit _ _ _ _ (ix2 r l : S256x128.Idx) (fun a => by
    match a with
    | ⟨0, _⟩ => show r.val = 0 + r.val; omega
    | ⟨1, _⟩ => exact hn)).trans ?_
  exact (piece_18_2 (View.ld x0 r0_0) (View.ld x1 r0_1) (View.ld x2 r0_2) r l).trans (prod_at x0 x1 x2 x3 x4 x5 x6 x7 r ⟨3072 + l.val, by omega⟩)
theorem out_18_1 (r : Fin 256) (n : Fin 512) (l : Fin 128) (hn : n.val = 128 + l.val) :
    out0_18 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2944 + k.val, by omega⟩)) (fun k l => x4 (ix2 k l)) (fun l => x5 (ix2 r l)) (fun l => x6 (ix2 r l)) (fun l => x7 (ix2 r l)) (fun l => x3 (ix2 0 ⟨2944 + l.val, by omega⟩)) l := by
  unfold out0_18
  refine (canon_miss _ _ _ _ (1 : Fin 2) (Or.inl (by show n.val < 384; omega))).trans ?_
  refine (canon_miss _ _ _ _ (1 : Fin 2) (Or.inl (by show n.val < 256; omega))).trans ?_
  refine (canon_hit _ _ _ _ (ix2 r l : S256x128.Idx) (fun a => by
    match a with
    | ⟨0, _⟩ => show r.val = 0 + r.val; omega
    | ⟨1, _⟩ => exact hn)).trans ?_
  refine Eq.trans (piece_18_1 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_21) r l) ?_
  exact chunk_congr (fun k => prod_at x0 x1 x2 x3 x4 x5 x6 x7 r ⟨2944 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_21 x3 l) l
theorem out_18_0 (r : Fin 256) (n : Fin 512) (l : Fin 128) (hn : n.val = 0 + l.val) :
    out0_18 (F := Ideal) x0 x1 x2 x3 x4 x5 x6 x7 (ix2 r n)
      = Proj.chunk (fun k => ∑ j, Merge.norm 0x44800000#32 (fun k => x0 (ix2 r k)) (fun k => x1 (ix2 0 k)) j * x2 (ix2 j ⟨2816 + k.val, by omega⟩)) (fun k l => x4 (ix2 k l)) (fun l => x5 (ix2 r l)) (fun l => x6 (ix2 r l)) (fun l => x7 (ix2 r l)) (fun l => x3 (ix2 0 ⟨2816 + l.val, by omega⟩)) l := by
  unfold out0_18
  refine (canon_miss _ _ _ _ (1 : Fin 2) (Or.inl (by show n.val < 384; omega))).trans ?_
  refine (canon_miss _ _ _ _ (1 : Fin 2) (Or.inl (by show n.val < 256; omega))).trans ?_
  refine (canon_miss _ _ _ _ (1 : Fin 2) (Or.inl (by show n.val < 128; omega))).trans ?_
  refine (canon_hit _ _ _ _ (ix2 r l : S256x128.Idx) (fun a => by
    match a with
    | ⟨0, _⟩ => show r.val = 0 + r.val; omega
    | ⟨1, _⟩ => show n.val = 0 + l.val; omega)).trans ?_
  refine Eq.trans (piece_18_0 (View.ld x0 r0_0) (View.ld x1 r0_1) (View.ld x2 r0_2) (View.ld x4 r0_3) (k0_pay83 x0 x1 x2 x3 x4 x5 x6 x7) (k0_pay84 x0 x1 x2 x3 x4 x5 x6 x7) (k0_pay85 x0 x1 x2 x3 x4 x5 x6 x7) (View.ld x3 r0_20) r l) ?_
  exact chunk_congr (fun k => prod_at x0 x1 x2 x3 x4 x5 x6 x7 r ⟨2816 + k.val, by omega⟩) (fun k l => mark_at x4 k l) (fun l => tab5_at x0 x1 x2 x3 x4 x5 x6 x7 r l) (fun l => tab6_at x0 x1 x2 x3 x4 x5 x6 x7 r l) (fun l => tab7_at x0 x1 x2 x3 x4 x5 x6 x7 r l) (fun l => gain_20 x3 l) l
theorem out_19_0 (r : Fin 256) (n : Fin 128) (l : Fin 128) (hn : n.val = 0 + l.val) :
    out0_19 (F := Ideal) x0 x1 x2 x3 x4 x5 x6 x7 (ix2 r n)
      = Ideal.logistic (∑ j, Merge.norm 0x44800000#32 (fun k => x0 (ix2 r k)) (fun k => x1 (ix2 0 k)) j * x2 (ix2 j ⟨3328 + l.val, by omega⟩)) := by
  unfold out0_19
  refine (canon_hit _ _ _ _ (ix2 r l : S256x128.Idx) (fun a => by
    match a with
    | ⟨0, _⟩ => show r.val = 0 + r.val; omega
    | ⟨1, _⟩ => show n.val = 0 + l.val; omega)).trans ?_
  exact (piece_19_0 (View.ld x0 r0_0) (View.ld x1 r0_1) (View.ld x2 r0_2) r l).trans (congrArg Ideal.logistic (prod_at x0 x1 x2 x3 x4 x5 x6 x7 r ⟨3328 + l.val, by omega⟩))

end Cert.ProjIdeal.Rows

end
-- ==== Proof.ProjConst.lean ====
/- The matrix the host writes that marks the lanes of one head, entry by entry: row `i` marks the 64 columns of its head. -/
module

public import proofs.«01_k».proof.Proof.MergeTable
public import proofs.«01_k».proof.ProjIdeal

@[expose] public section

set_option maxRecDepth 65536

namespace Cert.ProjIdeal.Const

open Cert.ProjIdeal
open Cert.MergeIdeal.Const (halves halves_at)

/-- The entries of each row. -/
theorem row_0 (i : Nat) (h : i / 128 = 0) : lit0t i = halves 0x3F80#16 0x0000#16 (i % 128) := by
  have e : lit0t i = lit0t0_0 i := by
    unfold lit0t
    rw [h]
    rfl
  exact e.trans rfl
theorem row_1 (i : Nat) (h : i / 128 = 1) : lit0t i = halves 0x3F80#16 0x0000#16 (i % 128) := by
  have e : lit0t i = lit0t0_1 i := by
    unfold lit0t
    rw [h]
    rfl
  exact e.trans rfl
theorem row_2 (i : Nat) (h : i / 128 = 2) : lit0t i = halves 0x3F80#16 0x0000#16 (i % 128) := by
  have e : lit0t i = lit0t0_2 i := by
    unfold lit0t
    rw [h]
    rfl
  exact e.trans rfl
theorem row_3 (i : Nat) (h : i / 128 = 3) : lit0t i = halves 0x3F80#16 0x0000#16 (i % 128) := by
  have e : lit0t i = lit0t0_3 i := by
    unfold lit0t
    rw [h]
    rfl
  exact e.trans rfl
theorem row_4 (i : Nat) (h : i / 128 = 4) : lit0t i = halves 0x3F80#16 0x0000#16 (i % 128) := by
  have e : lit0t i = lit0t0_4 i := by
    unfold lit0t
    rw [h]
    rfl
  exact e.trans rfl
theorem row_5 (i : Nat) (h : i / 128 = 5) : lit0t i = halves 0x3F80#16 0x0000#16 (i % 128) := by
  have e : lit0t i = lit0t0_5 i := by
    unfold lit0t
    rw [h]
    rfl
  exact e.trans rfl
theorem row_6 (i : Nat) (h : i / 128 = 6) : lit0t i = halves 0x3F80#16 0x0000#16 (i % 128) := by
  have e : lit0t i = lit0t0_6 i := by
    unfold lit0t
    rw [h]
    rfl
  exact e.trans rfl
theorem row_7 (i : Nat) (h : i / 128 = 7) : lit0t i = halves 0x3F80#16 0x0000#16 (i % 128) := by
  have e : lit0t i = lit0t0_7 i := by
    unfold lit0t
    rw [h]
    rfl
  exact e.trans rfl
theorem row_8 (i : Nat) (h : i / 128 = 8) : lit0t i = halves 0x3F80#16 0x0000#16 (i % 128) := by
  have e : lit0t i = lit0t0_8 i := by
    unfold lit0t
    rw [h]
    rfl
  exact e.trans rfl
theorem row_9 (i : Nat) (h : i / 128 = 9) : lit0t i = halves 0x3F80#16 0x0000#16 (i % 128) := by
  have e : lit0t i = lit0t0_9 i := by
    unfold lit0t
    rw [h]
    rfl
  exact e.trans rfl
theorem row_10 (i : Nat) (h : i / 128 = 10) : lit0t i = halves 0x3F80#16 0x0000#16 (i % 128) := by
  have e : lit0t i = lit0t0_10 i := by
    unfold lit0t
    rw [h]
    rfl
  exact e.trans rfl
theorem row_11 (i : Nat) (h : i / 128 = 11) : lit0t i = halves 0x3F80#16 0x0000#16 (i % 128) := by
  have e : lit0t i = lit0t0_11 i := by
    unfold lit0t
    rw [h]
    rfl
  exact e.trans rfl
theorem row_12 (i : Nat) (h : i / 128 = 12) : lit0t i = halves 0x3F80#16 0x0000#16 (i % 128) := by
  have e : lit0t i = lit0t0_12 i := by
    unfold lit0t
    rw [h]
    rfl
  exact e.trans rfl
theorem row_13 (i : Nat) (h : i / 128 = 13) : lit0t i = halves 0x3F80#16 0x0000#16 (i % 128) := by
  have e : lit0t i = lit0t0_13 i := by
    unfold lit0t
    rw [h]
    rfl
  exact e.trans rfl
theorem row_14 (i : Nat) (h : i / 128 = 14) : lit0t i = halves 0x3F80#16 0x0000#16 (i % 128) := by
  have e : lit0t i = lit0t0_14 i := by
    unfold lit0t
    rw [h]
    rfl
  exact e.trans rfl
theorem row_15 (i : Nat) (h : i / 128 = 15) : lit0t i = halves 0x3F80#16 0x0000#16 (i % 128) := by
  have e : lit0t i = lit0t0_15 i := by
    unfold lit0t
    rw [h]
    rfl
  exact e.trans rfl
theorem row_16 (i : Nat) (h : i / 128 = 16) : lit0t i = halves 0x3F80#16 0x0000#16 (i % 128) := by
  have e : lit0t i = lit0t0_16 i := by
    unfold lit0t
    rw [h]
    rfl
  exact e.trans rfl
theorem row_17 (i : Nat) (h : i / 128 = 17) : lit0t i = halves 0x3F80#16 0x0000#16 (i % 128) := by
  have e : lit0t i = lit0t0_17 i := by
    unfold lit0t
    rw [h]
    rfl
  exact e.trans rfl
theorem row_18 (i : Nat) (h : i / 128 = 18) : lit0t i = halves 0x3F80#16 0x0000#16 (i % 128) := by
  have e : lit0t i = lit0t0_18 i := by
    unfold lit0t
    rw [h]
    rfl
  exact e.trans rfl
theorem row_19 (i : Nat) (h : i / 128 = 19) : lit0t i = halves 0x3F80#16 0x0000#16 (i % 128) := by
  have e : lit0t i = lit0t0_19 i := by
    unfold lit0t
    rw [h]
    rfl
  exact e.trans rfl
theorem row_20 (i : Nat) (h : i / 128 = 20) : lit0t i = halves 0x3F80#16 0x0000#16 (i % 128) := by
  have e : lit0t i = lit0t0_20 i := by
    unfold lit0t
    rw [h]
    rfl
  exact e.trans rfl
theorem row_21 (i : Nat) (h : i / 128 = 21) : lit0t i = halves 0x3F80#16 0x0000#16 (i % 128) := by
  have e : lit0t i = lit0t0_21 i := by
    unfold lit0t
    rw [h]
    rfl
  exact e.trans rfl
theorem row_22 (i : Nat) (h : i / 128 = 22) : lit0t i = halves 0x3F80#16 0x0000#16 (i % 128) := by
  have e : lit0t i = lit0t0_22 i := by
    unfold lit0t
    rw [h]
    rfl
  exact e.trans rfl
theorem row_23 (i : Nat) (h : i / 128 = 23) : lit0t i = halves 0x3F80#16 0x0000#16 (i % 128) := by
  have e : lit0t i = lit0t0_23 i := by
    unfold lit0t
    rw [h]
    rfl
  exact e.trans rfl
theorem row_24 (i : Nat) (h : i / 128 = 24) : lit0t i = halves 0x3F80#16 0x0000#16 (i % 128) := by
  have e : lit0t i = lit0t0_24 i := by
    unfold lit0t
    rw [h]
    rfl
  exact e.trans rfl
theorem row_25 (i : Nat) (h : i / 128 = 25) : lit0t i = halves 0x3F80#16 0x0000#16 (i % 128) := by
  have e : lit0t i = lit0t0_25 i := by
    unfold lit0t
    rw [h]
    rfl
  exact e.trans rfl
theorem row_26 (i : Nat) (h : i / 128 = 26) : lit0t i = halves 0x3F80#16 0x0000#16 (i % 128) := by
  have e : lit0t i = lit0t0_26 i := by
    unfold lit0t
    rw [h]
    rfl
  exact e.trans rfl
theorem row_27 (i : Nat) (h : i / 128 = 27) : lit0t i = halves 0x3F80#16 0x0000#16 (i % 128) := by
  have e : lit0t i = lit0t0_27 i := by
    unfold lit0t
    rw [h]
    rfl
  exact e.trans rfl
theorem row_28 (i : Nat) (h : i / 128 = 28) : lit0t i = halves 0x3F80#16 0x0000#16 (i % 128) := by
  have e : lit0t i = lit0t0_28 i := by
    unfold lit0t
    rw [h]
    rfl
  exact e.trans rfl
theorem row_29 (i : Nat) (h : i / 128 = 29) : lit0t i = halves 0x3F80#16 0x0000#16 (i % 128) := by
  have e : lit0t i = lit0t0_29 i := by
    unfold lit0t
    rw [h]
    rfl
  exact e.trans rfl
theorem row_30 (i : Nat) (h : i / 128 = 30) : lit0t i = halves 0x3F80#16 0x0000#16 (i % 128) := by
  have e : lit0t i = lit0t0_30 i := by
    unfold lit0t
    rw [h]
    rfl
  exact e.trans rfl
theorem row_31 (i : Nat) (h : i / 128 = 31) : lit0t i = halves 0x3F80#16 0x0000#16 (i % 128) := by
  have e : lit0t i = lit0t0_31 i := by
    unfold lit0t
    rw [h]
    rfl
  exact e.trans rfl
theorem row_32 (i : Nat) (h : i / 128 = 32) : lit0t i = halves 0x3F80#16 0x0000#16 (i % 128) := by
  have e : lit0t i = lit0t0_32 i := by
    unfold lit0t
    rw [h]
    rfl
  exact e.trans rfl
theorem row_33 (i : Nat) (h : i / 128 = 33) : lit0t i = halves 0x3F80#16 0x0000#16 (i % 128) := by
  have e : lit0t i = lit0t0_33 i := by
    unfold lit0t
    rw [h]
    rfl
  exact e.trans rfl
theorem row_34 (i : Nat) (h : i / 128 = 34) : lit0t i = halves 0x3F80#16 0x0000#16 (i % 128) := by
  have e : lit0t i = lit0t0_34 i := by
    unfold lit0t
    rw [h]
    rfl
  exact e.trans rfl
theorem row_35 (i : Nat) (h : i / 128 = 35) : lit0t i = halves 0x3F80#16 0x0000#16 (i % 128) := by
  have e : lit0t i = lit0t0_35 i := by
    unfold lit0t
    rw [h]
    rfl
  exact e.trans rfl
theorem row_36 (i : Nat) (h : i / 128 = 36) : lit0t i = halves 0x3F80#16 0x0000#16 (i % 128) := by
  have e : lit0t i = lit0t0_36 i := by
    unfold lit0t
    rw [h]
    rfl
  exact e.trans rfl
theorem row_37 (i : Nat) (h : i / 128 = 37) : lit0t i = halves 0x3F80#16 0x0000#16 (i % 128) := by
  have e : lit0t i = lit0t0_37 i := by
    unfold lit0t
    rw [h]
    rfl
  exact e.trans rfl
theorem row_38 (i : Nat) (h : i / 128 = 38) : lit0t i = halves 0x3F80#16 0x0000#16 (i % 128) := by
  have e : lit0t i = lit0t0_38 i := by
    unfold lit0t
    rw [h]
    rfl
  exact e.trans rfl
theorem row_39 (i : Nat) (h : i / 128 = 39) : lit0t i = halves 0x3F80#16 0x0000#16 (i % 128) := by
  have e : lit0t i = lit0t0_39 i := by
    unfold lit0t
    rw [h]
    rfl
  exact e.trans rfl
theorem row_40 (i : Nat) (h : i / 128 = 40) : lit0t i = halves 0x3F80#16 0x0000#16 (i % 128) := by
  have e : lit0t i = lit0t0_40 i := by
    unfold lit0t
    rw [h]
    rfl
  exact e.trans rfl
theorem row_41 (i : Nat) (h : i / 128 = 41) : lit0t i = halves 0x3F80#16 0x0000#16 (i % 128) := by
  have e : lit0t i = lit0t0_41 i := by
    unfold lit0t
    rw [h]
    rfl
  exact e.trans rfl
theorem row_42 (i : Nat) (h : i / 128 = 42) : lit0t i = halves 0x3F80#16 0x0000#16 (i % 128) := by
  have e : lit0t i = lit0t0_42 i := by
    unfold lit0t
    rw [h]
    rfl
  exact e.trans rfl
theorem row_43 (i : Nat) (h : i / 128 = 43) : lit0t i = halves 0x3F80#16 0x0000#16 (i % 128) := by
  have e : lit0t i = lit0t0_43 i := by
    unfold lit0t
    rw [h]
    rfl
  exact e.trans rfl
theorem row_44 (i : Nat) (h : i / 128 = 44) : lit0t i = halves 0x3F80#16 0x0000#16 (i % 128) := by
  have e : lit0t i = lit0t0_44 i := by
    unfold lit0t
    rw [h]
    rfl
  exact e.trans rfl
theorem row_45 (i : Nat) (h : i / 128 = 45) : lit0t i = halves 0x3F80#16 0x0000#16 (i % 128) := by
  have e : lit0t i = lit0t0_45 i := by
    unfold lit0t
    rw [h]
    rfl
  exact e.trans rfl
theorem row_46 (i : Nat) (h : i / 128 = 46) : lit0t i = halves 0x3F80#16 0x0000#16 (i % 128) := by
  have e : lit0t i = lit0t0_46 i := by
    unfold lit0t
    rw [h]
    rfl
  exact e.trans rfl
theorem row_47 (i : Nat) (h : i / 128 = 47) : lit0t i = halves 0x3F80#16 0x0000#16 (i % 128) := by
  have e : lit0t i = lit0t0_47 i := by
    unfold lit0t
    rw [h]
    rfl
  exact e.trans rfl
theorem row_48 (i : Nat) (h : i / 128 = 48) : lit0t i = halves 0x3F80#16 0x0000#16 (i % 128) := by
  have e : lit0t i = lit0t0_48 i := by
    unfold lit0t
    rw [h]
    rfl
  exact e.trans rfl
theorem row_49 (i : Nat) (h : i / 128 = 49) : lit0t i = halves 0x3F80#16 0x0000#16 (i % 128) := by
  have e : lit0t i = lit0t0_49 i := by
    unfold lit0t
    rw [h]
    rfl
  exact e.trans rfl
theorem row_50 (i : Nat) (h : i / 128 = 50) : lit0t i = halves 0x3F80#16 0x0000#16 (i % 128) := by
  have e : lit0t i = lit0t0_50 i := by
    unfold lit0t
    rw [h]
    rfl
  exact e.trans rfl
theorem row_51 (i : Nat) (h : i / 128 = 51) : lit0t i = halves 0x3F80#16 0x0000#16 (i % 128) := by
  have e : lit0t i = lit0t0_51 i := by
    unfold lit0t
    rw [h]
    rfl
  exact e.trans rfl
theorem row_52 (i : Nat) (h : i / 128 = 52) : lit0t i = halves 0x3F80#16 0x0000#16 (i % 128) := by
  have e : lit0t i = lit0t0_52 i := by
    unfold lit0t
    rw [h]
    rfl
  exact e.trans rfl
theorem row_53 (i : Nat) (h : i / 128 = 53) : lit0t i = halves 0x3F80#16 0x0000#16 (i % 128) := by
  have e : lit0t i = lit0t0_53 i := by
    unfold lit0t
    rw [h]
    rfl
  exact e.trans rfl
theorem row_54 (i : Nat) (h : i / 128 = 54) : lit0t i = halves 0x3F80#16 0x0000#16 (i % 128) := by
  have e : lit0t i = lit0t0_54 i := by
    unfold lit0t
    rw [h]
    rfl
  exact e.trans rfl
theorem row_55 (i : Nat) (h : i / 128 = 55) : lit0t i = halves 0x3F80#16 0x0000#16 (i % 128) := by
  have e : lit0t i = lit0t0_55 i := by
    unfold lit0t
    rw [h]
    rfl
  exact e.trans rfl
theorem row_56 (i : Nat) (h : i / 128 = 56) : lit0t i = halves 0x3F80#16 0x0000#16 (i % 128) := by
  have e : lit0t i = lit0t0_56 i := by
    unfold lit0t
    rw [h]
    rfl
  exact e.trans rfl
theorem row_57 (i : Nat) (h : i / 128 = 57) : lit0t i = halves 0x3F80#16 0x0000#16 (i % 128) := by
  have e : lit0t i = lit0t0_57 i := by
    unfold lit0t
    rw [h]
    rfl
  exact e.trans rfl
theorem row_58 (i : Nat) (h : i / 128 = 58) : lit0t i = halves 0x3F80#16 0x0000#16 (i % 128) := by
  have e : lit0t i = lit0t0_58 i := by
    unfold lit0t
    rw [h]
    rfl
  exact e.trans rfl
theorem row_59 (i : Nat) (h : i / 128 = 59) : lit0t i = halves 0x3F80#16 0x0000#16 (i % 128) := by
  have e : lit0t i = lit0t0_59 i := by
    unfold lit0t
    rw [h]
    rfl
  exact e.trans rfl
theorem row_60 (i : Nat) (h : i / 128 = 60) : lit0t i = halves 0x3F80#16 0x0000#16 (i % 128) := by
  have e : lit0t i = lit0t0_60 i := by
    unfold lit0t
    rw [h]
    rfl
  exact e.trans rfl
theorem row_61 (i : Nat) (h : i / 128 = 61) : lit0t i = halves 0x3F80#16 0x0000#16 (i % 128) := by
  have e : lit0t i = lit0t0_61 i := by
    unfold lit0t
    rw [h]
    rfl
  exact e.trans rfl
theorem row_62 (i : Nat) (h : i / 128 = 62) : lit0t i = halves 0x3F80#16 0x0000#16 (i % 128) := by
  have e : lit0t i = lit0t0_62 i := by
    unfold lit0t
    rw [h]
    rfl
  exact e.trans rfl
theorem row_63 (i : Nat) (h : i / 128 = 63) : lit0t i = halves 0x3F80#16 0x0000#16 (i % 128) := by
  have e : lit0t i = lit0t0_63 i := by
    unfold lit0t
    rw [h]
    rfl
  exact e.trans rfl
theorem row_64 (i : Nat) (h : i / 128 = 64) : lit0t i = halves 0x0000#16 0x3F80#16 (i % 128) := by
  have e : lit0t i = lit0t0_64 i := by
    unfold lit0t
    rw [h]
    rfl
  exact e.trans rfl
theorem row_65 (i : Nat) (h : i / 128 = 65) : lit0t i = halves 0x0000#16 0x3F80#16 (i % 128) := by
  have e : lit0t i = lit0t0_65 i := by
    unfold lit0t
    rw [h]
    rfl
  exact e.trans rfl
theorem row_66 (i : Nat) (h : i / 128 = 66) : lit0t i = halves 0x0000#16 0x3F80#16 (i % 128) := by
  have e : lit0t i = lit0t0_66 i := by
    unfold lit0t
    rw [h]
    rfl
  exact e.trans rfl
theorem row_67 (i : Nat) (h : i / 128 = 67) : lit0t i = halves 0x0000#16 0x3F80#16 (i % 128) := by
  have e : lit0t i = lit0t0_67 i := by
    unfold lit0t
    rw [h]
    rfl
  exact e.trans rfl
theorem row_68 (i : Nat) (h : i / 128 = 68) : lit0t i = halves 0x0000#16 0x3F80#16 (i % 128) := by
  have e : lit0t i = lit0t0_68 i := by
    unfold lit0t
    rw [h]
    rfl
  exact e.trans rfl
theorem row_69 (i : Nat) (h : i / 128 = 69) : lit0t i = halves 0x0000#16 0x3F80#16 (i % 128) := by
  have e : lit0t i = lit0t0_69 i := by
    unfold lit0t
    rw [h]
    rfl
  exact e.trans rfl
theorem row_70 (i : Nat) (h : i / 128 = 70) : lit0t i = halves 0x0000#16 0x3F80#16 (i % 128) := by
  have e : lit0t i = lit0t0_70 i := by
    unfold lit0t
    rw [h]
    rfl
  exact e.trans rfl
theorem row_71 (i : Nat) (h : i / 128 = 71) : lit0t i = halves 0x0000#16 0x3F80#16 (i % 128) := by
  have e : lit0t i = lit0t0_71 i := by
    unfold lit0t
    rw [h]
    rfl
  exact e.trans rfl
theorem row_72 (i : Nat) (h : i / 128 = 72) : lit0t i = halves 0x0000#16 0x3F80#16 (i % 128) := by
  have e : lit0t i = lit0t0_72 i := by
    unfold lit0t
    rw [h]
    rfl
  exact e.trans rfl
theorem row_73 (i : Nat) (h : i / 128 = 73) : lit0t i = halves 0x0000#16 0x3F80#16 (i % 128) := by
  have e : lit0t i = lit0t0_73 i := by
    unfold lit0t
    rw [h]
    rfl
  exact e.trans rfl
theorem row_74 (i : Nat) (h : i / 128 = 74) : lit0t i = halves 0x0000#16 0x3F80#16 (i % 128) := by
  have e : lit0t i = lit0t0_74 i := by
    unfold lit0t
    rw [h]
    rfl
  exact e.trans rfl
theorem row_75 (i : Nat) (h : i / 128 = 75) : lit0t i = halves 0x0000#16 0x3F80#16 (i % 128) := by
  have e : lit0t i = lit0t0_75 i := by
    unfold lit0t
    rw [h]
    rfl
  exact e.trans rfl
theorem row_76 (i : Nat) (h : i / 128 = 76) : lit0t i = halves 0x0000#16 0x3F80#16 (i % 128) := by
  have e : lit0t i = lit0t0_76 i := by
    unfold lit0t
    rw [h]
    rfl
  exact e.trans rfl
theorem row_77 (i : Nat) (h : i / 128 = 77) : lit0t i = halves 0x0000#16 0x3F80#16 (i % 128) := by
  have e : lit0t i = lit0t0_77 i := by
    unfold lit0t
    rw [h]
    rfl
  exact e.trans rfl
theorem row_78 (i : Nat) (h : i / 128 = 78) : lit0t i = halves 0x0000#16 0x3F80#16 (i % 128) := by
  have e : lit0t i = lit0t0_78 i := by
    unfold lit0t
    rw [h]
    rfl
  exact e.trans rfl
theorem row_79 (i : Nat) (h : i / 128 = 79) : lit0t i = halves 0x0000#16 0x3F80#16 (i % 128) := by
  have e : lit0t i = lit0t0_79 i := by
    unfold lit0t
    rw [h]
    rfl
  exact e.trans rfl
theorem row_80 (i : Nat) (h : i / 128 = 80) : lit0t i = halves 0x0000#16 0x3F80#16 (i % 128) := by
  have e : lit0t i = lit0t0_80 i := by
    unfold lit0t
    rw [h]
    rfl
  exact e.trans rfl
theorem row_81 (i : Nat) (h : i / 128 = 81) : lit0t i = halves 0x0000#16 0x3F80#16 (i % 128) := by
  have e : lit0t i = lit0t0_81 i := by
    unfold lit0t
    rw [h]
    rfl
  exact e.trans rfl
theorem row_82 (i : Nat) (h : i / 128 = 82) : lit0t i = halves 0x0000#16 0x3F80#16 (i % 128) := by
  have e : lit0t i = lit0t0_82 i := by
    unfold lit0t
    rw [h]
    rfl
  exact e.trans rfl
theorem row_83 (i : Nat) (h : i / 128 = 83) : lit0t i = halves 0x0000#16 0x3F80#16 (i % 128) := by
  have e : lit0t i = lit0t0_83 i := by
    unfold lit0t
    rw [h]
    rfl
  exact e.trans rfl
theorem row_84 (i : Nat) (h : i / 128 = 84) : lit0t i = halves 0x0000#16 0x3F80#16 (i % 128) := by
  have e : lit0t i = lit0t0_84 i := by
    unfold lit0t
    rw [h]
    rfl
  exact e.trans rfl
theorem row_85 (i : Nat) (h : i / 128 = 85) : lit0t i = halves 0x0000#16 0x3F80#16 (i % 128) := by
  have e : lit0t i = lit0t0_85 i := by
    unfold lit0t
    rw [h]
    rfl
  exact e.trans rfl
theorem row_86 (i : Nat) (h : i / 128 = 86) : lit0t i = halves 0x0000#16 0x3F80#16 (i % 128) := by
  have e : lit0t i = lit0t0_86 i := by
    unfold lit0t
    rw [h]
    rfl
  exact e.trans rfl
theorem row_87 (i : Nat) (h : i / 128 = 87) : lit0t i = halves 0x0000#16 0x3F80#16 (i % 128) := by
  have e : lit0t i = lit0t0_87 i := by
    unfold lit0t
    rw [h]
    rfl
  exact e.trans rfl
theorem row_88 (i : Nat) (h : i / 128 = 88) : lit0t i = halves 0x0000#16 0x3F80#16 (i % 128) := by
  have e : lit0t i = lit0t0_88 i := by
    unfold lit0t
    rw [h]
    rfl
  exact e.trans rfl
theorem row_89 (i : Nat) (h : i / 128 = 89) : lit0t i = halves 0x0000#16 0x3F80#16 (i % 128) := by
  have e : lit0t i = lit0t0_89 i := by
    unfold lit0t
    rw [h]
    rfl
  exact e.trans rfl
theorem row_90 (i : Nat) (h : i / 128 = 90) : lit0t i = halves 0x0000#16 0x3F80#16 (i % 128) := by
  have e : lit0t i = lit0t0_90 i := by
    unfold lit0t
    rw [h]
    rfl
  exact e.trans rfl
theorem row_91 (i : Nat) (h : i / 128 = 91) : lit0t i = halves 0x0000#16 0x3F80#16 (i % 128) := by
  have e : lit0t i = lit0t0_91 i := by
    unfold lit0t
    rw [h]
    rfl
  exact e.trans rfl
theorem row_92 (i : Nat) (h : i / 128 = 92) : lit0t i = halves 0x0000#16 0x3F80#16 (i % 128) := by
  have e : lit0t i = lit0t0_92 i := by
    unfold lit0t
    rw [h]
    rfl
  exact e.trans rfl
theorem row_93 (i : Nat) (h : i / 128 = 93) : lit0t i = halves 0x0000#16 0x3F80#16 (i % 128) := by
  have e : lit0t i = lit0t0_93 i := by
    unfold lit0t
    rw [h]
    rfl
  exact e.trans rfl
theorem row_94 (i : Nat) (h : i / 128 = 94) : lit0t i = halves 0x0000#16 0x3F80#16 (i % 128) := by
  have e : lit0t i = lit0t0_94 i := by
    unfold lit0t
    rw [h]
    rfl
  exact e.trans rfl
theorem row_95 (i : Nat) (h : i / 128 = 95) : lit0t i = halves 0x0000#16 0x3F80#16 (i % 128) := by
  have e : lit0t i = lit0t0_95 i := by
    unfold lit0t
    rw [h]
    rfl
  exact e.trans rfl
theorem row_96 (i : Nat) (h : i / 128 = 96) : lit0t i = halves 0x0000#16 0x3F80#16 (i % 128) := by
  have e : lit0t i = lit0t0_96 i := by
    unfold lit0t
    rw [h]
    rfl
  exact e.trans rfl
theorem row_97 (i : Nat) (h : i / 128 = 97) : lit0t i = halves 0x0000#16 0x3F80#16 (i % 128) := by
  have e : lit0t i = lit0t0_97 i := by
    unfold lit0t
    rw [h]
    rfl
  exact e.trans rfl
theorem row_98 (i : Nat) (h : i / 128 = 98) : lit0t i = halves 0x0000#16 0x3F80#16 (i % 128) := by
  have e : lit0t i = lit0t0_98 i := by
    unfold lit0t
    rw [h]
    rfl
  exact e.trans rfl
theorem row_99 (i : Nat) (h : i / 128 = 99) : lit0t i = halves 0x0000#16 0x3F80#16 (i % 128) := by
  have e : lit0t i = lit0t0_99 i := by
    unfold lit0t
    rw [h]
    rfl
  exact e.trans rfl
theorem row_100 (i : Nat) (h : i / 128 = 100) : lit0t i = halves 0x0000#16 0x3F80#16 (i % 128) := by
  have e : lit0t i = lit0t0_100 i := by
    unfold lit0t
    rw [h]
    rfl
  exact e.trans rfl
theorem row_101 (i : Nat) (h : i / 128 = 101) : lit0t i = halves 0x0000#16 0x3F80#16 (i % 128) := by
  have e : lit0t i = lit0t0_101 i := by
    unfold lit0t
    rw [h]
    rfl
  exact e.trans rfl
theorem row_102 (i : Nat) (h : i / 128 = 102) : lit0t i = halves 0x0000#16 0x3F80#16 (i % 128) := by
  have e : lit0t i = lit0t0_102 i := by
    unfold lit0t
    rw [h]
    rfl
  exact e.trans rfl
theorem row_103 (i : Nat) (h : i / 128 = 103) : lit0t i = halves 0x0000#16 0x3F80#16 (i % 128) := by
  have e : lit0t i = lit0t0_103 i := by
    unfold lit0t
    rw [h]
    rfl
  exact e.trans rfl
theorem row_104 (i : Nat) (h : i / 128 = 104) : lit0t i = halves 0x0000#16 0x3F80#16 (i % 128) := by
  have e : lit0t i = lit0t0_104 i := by
    unfold lit0t
    rw [h]
    rfl
  exact e.trans rfl
theorem row_105 (i : Nat) (h : i / 128 = 105) : lit0t i = halves 0x0000#16 0x3F80#16 (i % 128) := by
  have e : lit0t i = lit0t0_105 i := by
    unfold lit0t
    rw [h]
    rfl
  exact e.trans rfl
theorem row_106 (i : Nat) (h : i / 128 = 106) : lit0t i = halves 0x0000#16 0x3F80#16 (i % 128) := by
  have e : lit0t i = lit0t0_106 i := by
    unfold lit0t
    rw [h]
    rfl
  exact e.trans rfl
theorem row_107 (i : Nat) (h : i / 128 = 107) : lit0t i = halves 0x0000#16 0x3F80#16 (i % 128) := by
  have e : lit0t i = lit0t0_107 i := by
    unfold lit0t
    rw [h]
    rfl
  exact e.trans rfl
theorem row_108 (i : Nat) (h : i / 128 = 108) : lit0t i = halves 0x0000#16 0x3F80#16 (i % 128) := by
  have e : lit0t i = lit0t0_108 i := by
    unfold lit0t
    rw [h]
    rfl
  exact e.trans rfl
theorem row_109 (i : Nat) (h : i / 128 = 109) : lit0t i = halves 0x0000#16 0x3F80#16 (i % 128) := by
  have e : lit0t i = lit0t0_109 i := by
    unfold lit0t
    rw [h]
    rfl
  exact e.trans rfl
theorem row_110 (i : Nat) (h : i / 128 = 110) : lit0t i = halves 0x0000#16 0x3F80#16 (i % 128) := by
  have e : lit0t i = lit0t0_110 i := by
    unfold lit0t
    rw [h]
    rfl
  exact e.trans rfl
theorem row_111 (i : Nat) (h : i / 128 = 111) : lit0t i = halves 0x0000#16 0x3F80#16 (i % 128) := by
  have e : lit0t i = lit0t0_111 i := by
    unfold lit0t
    rw [h]
    rfl
  exact e.trans rfl
theorem row_112 (i : Nat) (h : i / 128 = 112) : lit0t i = halves 0x0000#16 0x3F80#16 (i % 128) := by
  have e : lit0t i = lit0t0_112 i := by
    unfold lit0t
    rw [h]
    rfl
  exact e.trans rfl
theorem row_113 (i : Nat) (h : i / 128 = 113) : lit0t i = halves 0x0000#16 0x3F80#16 (i % 128) := by
  have e : lit0t i = lit0t0_113 i := by
    unfold lit0t
    rw [h]
    rfl
  exact e.trans rfl
theorem row_114 (i : Nat) (h : i / 128 = 114) : lit0t i = halves 0x0000#16 0x3F80#16 (i % 128) := by
  have e : lit0t i = lit0t0_114 i := by
    unfold lit0t
    rw [h]
    rfl
  exact e.trans rfl
theorem row_115 (i : Nat) (h : i / 128 = 115) : lit0t i = halves 0x0000#16 0x3F80#16 (i % 128) := by
  have e : lit0t i = lit0t0_115 i := by
    unfold lit0t
    rw [h]
    rfl
  exact e.trans rfl
theorem row_116 (i : Nat) (h : i / 128 = 116) : lit0t i = halves 0x0000#16 0x3F80#16 (i % 128) := by
  have e : lit0t i = lit0t0_116 i := by
    unfold lit0t
    rw [h]
    rfl
  exact e.trans rfl
theorem row_117 (i : Nat) (h : i / 128 = 117) : lit0t i = halves 0x0000#16 0x3F80#16 (i % 128) := by
  have e : lit0t i = lit0t0_117 i := by
    unfold lit0t
    rw [h]
    rfl
  exact e.trans rfl
theorem row_118 (i : Nat) (h : i / 128 = 118) : lit0t i = halves 0x0000#16 0x3F80#16 (i % 128) := by
  have e : lit0t i = lit0t0_118 i := by
    unfold lit0t
    rw [h]
    rfl
  exact e.trans rfl
theorem row_119 (i : Nat) (h : i / 128 = 119) : lit0t i = halves 0x0000#16 0x3F80#16 (i % 128) := by
  have e : lit0t i = lit0t0_119 i := by
    unfold lit0t
    rw [h]
    rfl
  exact e.trans rfl
theorem row_120 (i : Nat) (h : i / 128 = 120) : lit0t i = halves 0x0000#16 0x3F80#16 (i % 128) := by
  have e : lit0t i = lit0t0_120 i := by
    unfold lit0t
    rw [h]
    rfl
  exact e.trans rfl
theorem row_121 (i : Nat) (h : i / 128 = 121) : lit0t i = halves 0x0000#16 0x3F80#16 (i % 128) := by
  have e : lit0t i = lit0t0_121 i := by
    unfold lit0t
    rw [h]
    rfl
  exact e.trans rfl
theorem row_122 (i : Nat) (h : i / 128 = 122) : lit0t i = halves 0x0000#16 0x3F80#16 (i % 128) := by
  have e : lit0t i = lit0t0_122 i := by
    unfold lit0t
    rw [h]
    rfl
  exact e.trans rfl
theorem row_123 (i : Nat) (h : i / 128 = 123) : lit0t i = halves 0x0000#16 0x3F80#16 (i % 128) := by
  have e : lit0t i = lit0t0_123 i := by
    unfold lit0t
    rw [h]
    rfl
  exact e.trans rfl
theorem row_124 (i : Nat) (h : i / 128 = 124) : lit0t i = halves 0x0000#16 0x3F80#16 (i % 128) := by
  have e : lit0t i = lit0t0_124 i := by
    unfold lit0t
    rw [h]
    rfl
  exact e.trans rfl
theorem row_125 (i : Nat) (h : i / 128 = 125) : lit0t i = halves 0x0000#16 0x3F80#16 (i % 128) := by
  have e : lit0t i = lit0t0_125 i := by
    unfold lit0t
    rw [h]
    rfl
  exact e.trans rfl
theorem row_126 (i : Nat) (h : i / 128 = 126) : lit0t i = halves 0x0000#16 0x3F80#16 (i % 128) := by
  have e : lit0t i = lit0t0_126 i := by
    unfold lit0t
    rw [h]
    rfl
  exact e.trans rfl
theorem row_127 (i : Nat) (h : i / 128 = 127) : lit0t i = halves 0x0000#16 0x3F80#16 (i % 128) := by
  have e : lit0t i = lit0t0_127 i := by
    unfold lit0t
    rw [h]
    rfl
  exact e.trans rfl

/-- The first 64 rows. -/
theorem low (i k : Nat) (h : i / 128 = k) (h0 : 0 ≤ k) (h1 : k < 64) : lit0t i = halves 0x3F80#16 0x0000#16 (i % 128) := by
  interval_cases k
  · exact row_0 i h
  · exact row_1 i h
  · exact row_2 i h
  · exact row_3 i h
  · exact row_4 i h
  · exact row_5 i h
  · exact row_6 i h
  · exact row_7 i h
  · exact row_8 i h
  · exact row_9 i h
  · exact row_10 i h
  · exact row_11 i h
  · exact row_12 i h
  · exact row_13 i h
  · exact row_14 i h
  · exact row_15 i h
  · exact row_16 i h
  · exact row_17 i h
  · exact row_18 i h
  · exact row_19 i h
  · exact row_20 i h
  · exact row_21 i h
  · exact row_22 i h
  · exact row_23 i h
  · exact row_24 i h
  · exact row_25 i h
  · exact row_26 i h
  · exact row_27 i h
  · exact row_28 i h
  · exact row_29 i h
  · exact row_30 i h
  · exact row_31 i h
  · exact row_32 i h
  · exact row_33 i h
  · exact row_34 i h
  · exact row_35 i h
  · exact row_36 i h
  · exact row_37 i h
  · exact row_38 i h
  · exact row_39 i h
  · exact row_40 i h
  · exact row_41 i h
  · exact row_42 i h
  · exact row_43 i h
  · exact row_44 i h
  · exact row_45 i h
  · exact row_46 i h
  · exact row_47 i h
  · exact row_48 i h
  · exact row_49 i h
  · exact row_50 i h
  · exact row_51 i h
  · exact row_52 i h
  · exact row_53 i h
  · exact row_54 i h
  · exact row_55 i h
  · exact row_56 i h
  · exact row_57 i h
  · exact row_58 i h
  · exact row_59 i h
  · exact row_60 i h
  · exact row_61 i h
  · exact row_62 i h
  · exact row_63 i h

/-- The last 64 rows. -/
theorem high (i k : Nat) (h : i / 128 = k) (h0 : 64 ≤ k) (h1 : k < 128) : lit0t i = halves 0x0000#16 0x3F80#16 (i % 128) := by
  interval_cases k
  · exact row_64 i h
  · exact row_65 i h
  · exact row_66 i h
  · exact row_67 i h
  · exact row_68 i h
  · exact row_69 i h
  · exact row_70 i h
  · exact row_71 i h
  · exact row_72 i h
  · exact row_73 i h
  · exact row_74 i h
  · exact row_75 i h
  · exact row_76 i h
  · exact row_77 i h
  · exact row_78 i h
  · exact row_79 i h
  · exact row_80 i h
  · exact row_81 i h
  · exact row_82 i h
  · exact row_83 i h
  · exact row_84 i h
  · exact row_85 i h
  · exact row_86 i h
  · exact row_87 i h
  · exact row_88 i h
  · exact row_89 i h
  · exact row_90 i h
  · exact row_91 i h
  · exact row_92 i h
  · exact row_93 i h
  · exact row_94 i h
  · exact row_95 i h
  · exact row_96 i h
  · exact row_97 i h
  · exact row_98 i h
  · exact row_99 i h
  · exact row_100 i h
  · exact row_101 i h
  · exact row_102 i h
  · exact row_103 i h
  · exact row_104 i h
  · exact row_105 i h
  · exact row_106 i h
  · exact row_107 i h
  · exact row_108 i h
  · exact row_109 i h
  · exact row_110 i h
  · exact row_111 i h
  · exact row_112 i h
  · exact row_113 i h
  · exact row_114 i h
  · exact row_115 i h
  · exact row_116 i h
  · exact row_117 i h
  · exact row_118 i h
  · exact row_119 i h
  · exact row_120 i h
  · exact row_121 i h
  · exact row_122 i h
  · exact row_123 i h
  · exact row_124 i h
  · exact row_125 i h
  · exact row_126 i h
  · exact row_127 i h

/-- The entry of row `k` and column `l`. -/
theorem word_at (k l : Fin 128) (i : Fin 16384) (hi : i.val = k.val * 128 + l.val) :
    lit0 i = if k.val / 64 = l.val / 64 then 0x3F80#16 else 0x0000#16 := by
  have hk : i.val / 128 = k.val := by omega
  have hl : i.val % 128 = l.val := by omega
  have e : lit0 i = lit0t i.val := rfl
  rw [e]
  by_cases h : k.val < 64
  · rw [low i.val k.val hk (Nat.zero_le _) h, hl, halves_at _ _ _ l.isLt]
    by_cases h' : l.val < 64
    · rw [if_pos h', if_pos (by omega)]
    · rw [if_neg h', if_neg (by omega)]
  · rw [high i.val k.val hk (by omega) (by omega), hl, halves_at _ _ _ l.isLt]
    by_cases h' : l.val < 64
    · rw [if_pos h', if_neg (by omega)]
    · rw [if_neg h', if_pos (by omega)]

end Cert.ProjIdeal.Const
-- ==== Proof.ProjValue.lean ====
/- The projection's value over the extended reals: the host's weights, gains and tables at an index, and the staged blocks
   as entries of the launch contents. -/
module

public import proofs.«01_k».proof.Proof.ProjBlock
public import proofs.«01_k».proof.Proof.ProjConst

@[expose] public section

set_option maxRecDepth 16384

noncomputable section

namespace Cert.ProjIdeal.Rows

open Cert.ProjIdeal Cert.ProjIdeal.Gen
open Idealize.ShloMosaic
open Idealize.ShloMosaic.TcCoe Idealize.SL.Sem

/-! ## The host's arrays -/

def gainRow0 (qk : FVec Ideal S8x64 .f32) : FVec Ideal S64 .f32 := shapeCast _ (extractStridedSlice S1x64 ![0, 0] qk slices_S8x64_S1x64_0_0) shapeCasts_S1x64_S64
def gainRow1 (qk : FVec Ideal S8x64 .f32) : FVec Ideal S64 .f32 := shapeCast _ (extractStridedSlice S1x64 ![1, 0] qk slices_S8x64_S1x64_1_0) shapeCasts_S1x64_S64
def gainRow2 (qk : FVec Ideal S8x64 .f32) : FVec Ideal S64 .f32 := shapeCast _ (extractStridedSlice S1x64 ![2, 0] qk slices_S8x64_S1x64_2_0) shapeCasts_S1x64_S64
def gainRow3 (qk : FVec Ideal S8x64 .f32) : FVec Ideal S64 .f32 := shapeCast _ (extractStridedSlice S1x64 ![3, 0] qk slices_S8x64_S1x64_3_0) shapeCasts_S1x64_S64
def gainRow4 (qk : FVec Ideal S8x64 .f32) : FVec Ideal S64 .f32 := shapeCast _ (extractStridedSlice S1x64 ![4, 0] qk slices_S8x64_S1x64_4_0) shapeCasts_S1x64_S64
def gainRow5 (qk : FVec Ideal S8x64 .f32) : FVec Ideal S64 .f32 := shapeCast _ (extractStridedSlice S1x64 ![5, 0] qk slices_S8x64_S1x64_5_0) shapeCasts_S1x64_S64
def gainRow6 (qk : FVec Ideal S8x64 .f32) : FVec Ideal S64 .f32 := shapeCast _ (extractStridedSlice S1x64 ![6, 0] qk slices_S8x64_S1x64_6_0) shapeCasts_S1x64_S64
def gainRow7 (qk : FVec Ideal S8x64 .f32) : FVec Ideal S64 .f32 := shapeCast _ (extractStridedSlice S1x64 ![7, 0] qk slices_S8x64_S1x64_7_0) shapeCasts_S1x64_S64
def dup (a : FVec Ideal S64 .f32) : FVec Ideal S128 .f32 := concatenate S128 0 [⟨S64, a⟩, ⟨S64, a⟩] concatenates_S64_S64_S128_d0
def unit : FVec Ideal S128 .f32 := broadcastInDim S128 ![] bcast_S_S128 (constant S_ .f32 0x3F800000#32)
def join16 (a : Fin 16 → FVec Ideal S128 .f32) : FVec Ideal S2048 .f32 := concatenate S2048 0 [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] concatenates_S128_S128_S128_S128_S128_S128_S128_S128_S128_S128_S128_S128_S128_S128_S128_S128_S2048_d0
def join11 (a : Fin 11 → FVec Ideal S128 .f32) : FVec Ideal S1408 .f32 := concatenate S1408 0 [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] concatenates_S128_S128_S128_S128_S128_S128_S128_S128_S128_S128_S128_S1408_d0
def first16 (qk : FVec Ideal S8x64 .f32) : Fin 16 → FVec Ideal S128 .f32 := ![dup (gainRow0 qk), dup (gainRow0 qk), dup (gainRow0 qk), dup (gainRow0 qk), dup (gainRow1 qk), unit, dup (gainRow2 qk), unit, dup (gainRow3 qk), unit, dup (gainRow4 qk), dup (gainRow4 qk), dup (gainRow4 qk), dup (gainRow4 qk), dup (gainRow5 qk), dup (gainRow5 qk)]
def last11 (qk : FVec Ideal S8x64 .f32) : Fin 11 → FVec Ideal S128 .f32 := ![unit, unit, dup (gainRow6 qk), dup (gainRow6 qk), dup (gainRow6 qk), dup (gainRow6 qk), dup (gainRow7 qk), dup (gainRow7 qk), unit, unit, unit]
def both (a : FVec Ideal S2048 .f32) (b : FVec Ideal S1408 .f32) : FVec Ideal S1x3456 .f32 :=
  broadcastInDim S1x3456 ![1] bcast_S3456_S1x3456_1 (concatenate S3456 0 [⟨S2048, a⟩, ⟨S1408, b⟩] concatenates_S2048_S1408_S3456_d0)
def gains (qk : FVec Ideal S8x64 .f32) : FVec Ideal S1x3456 .f32 := both (join16 (first16 qk)) (join11 (last11 qk))

def padded (w : FVec Ideal S1024x6424 .f32) : FVec Ideal S1024x128 .f32 :=
  pad S1024x128 ![0, 0] ![0, 104] ![0, 0] (extractStridedSlice S1024x24 ![0, 1280] w slices_S1024x6424_S1024x24_0_1280) (sitofp .f32 (constantI S_ 32 0#32)) pads_S1024x24_S1024x128_000_01040 h_S_
def join3 (a : FVec Ideal S1024x1280 .f32) (b : FVec Ideal S1024x2048 .f32) (c : FVec Ideal S1024x128 .f32) : FVec Ideal S1024x3456 .bf16 :=
  truncf .bf16 (concatenate S1024x3456 1 [⟨S1024x1280, a⟩, ⟨S1024x2048, b⟩, ⟨S1024x128, c⟩] concatenates_S1024x1280_S1024x2048_S1024x128_S1024x3456_d1 : FVec Ideal S1024x3456 .f32) bitsLt_bf16_f32
def weights (w : FVec Ideal S1024x6424 .f32) : FVec Ideal S1024x3456 .bf16 :=
  join3 (extractStridedSlice S1024x1280 ![0, 0] w slices_S1024x6424_S1024x1280_0_0) (extractStridedSlice S1024x2048 ![0, 1304] w slices_S1024x6424_S1024x2048_0_1304) (padded w)

def angles : FVec Ideal S8192x8 .f32 := mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))
def tri (a b : FVec Ideal S8192x8 .f32) (c : FVec Ideal S8192x48 .f32) : FVec Ideal S8192x64 .f32 :=
  concatenate S8192x64 1 [⟨S8192x8, a⟩, ⟨S8192x8, b⟩, ⟨S8192x48, c⟩] concatenates_S8192x8_S8192x8_S8192x48_S8192x64_d1
def twice (a : FVec Ideal S8192x64 .f32) : FVec Ideal S8192x128 .f32 :=
  concatenate S8192x128 1 [⟨S8192x64, a⟩, ⟨S8192x64, a⟩] concatenates_S8192x64_S8192x64_S8192x128_d1
def ones48 : FVec Ideal S8192x48 .f32 := broadcastInDim S8192x48 ![] bcast_S_S8192x48 (constant S_ .f32 0x3F800000#32)
def zeros48 : FVec Ideal S8192x48 .f32 := broadcastInDim S8192x48 ![] bcast_S_S8192x48 (constant S_ .f32 0x00000000#32)
def zeros8 : FVec Ideal S8192x8 .f32 := broadcastInDim S8192x8 ![] bcast_S_S8192x8 (constant S_ .f32 0x00000000#32)
def tableC : FVec Ideal S8192x128 .f32 := twice (tri (Host.cos angles) (Host.cos angles) ones48)
def tableS : FVec Ideal S8192x128 .f32 := twice (tri (Host.negf (Host.sin angles)) zeros8 zeros48)
def tableT : FVec Ideal S8192x128 .f32 := twice (tri zeros8 (Host.sin angles) zeros48)

/-! ## What they hold -/

theorem gainRow0_at (qk : FVec Ideal S8x64 .f32) (c : Fin 64) : gainRow0 qk (ix1 c) = qk (ix2 0 c) := by
  pointwise [gainRow0]
theorem gainRow1_at (qk : FVec Ideal S8x64 .f32) (c : Fin 64) : gainRow1 qk (ix1 c) = qk (ix2 1 c) := by
  pointwise [gainRow1]
theorem gainRow2_at (qk : FVec Ideal S8x64 .f32) (c : Fin 64) : gainRow2 qk (ix1 c) = qk (ix2 2 c) := by
  pointwise [gainRow2]
theorem gainRow3_at (qk : FVec Ideal S8x64 .f32) (c : Fin 64) : gainRow3 qk (ix1 c) = qk (ix2 3 c) := by
  pointwise [gainRow3]
theorem gainRow4_at (qk : FVec Ideal S8x64 .f32) (c : Fin 64) : gainRow4 qk (ix1 c) = qk (ix2 4 c) := by
  pointwise [gainRow4]
theorem gainRow5_at (qk : FVec Ideal S8x64 .f32) (c : Fin 64) : gainRow5 qk (ix1 c) = qk (ix2 5 c) := by
  pointwise [gainRow5]
theorem gainRow6_at (qk : FVec Ideal S8x64 .f32) (c : Fin 64) : gainRow6 qk (ix1 c) = qk (ix2 6 c) := by
  pointwise [gainRow6]
theorem gainRow7_at (qk : FVec Ideal S8x64 .f32) (c : Fin 64) : gainRow7 qk (ix1 c) = qk (ix2 7 c) := by
  pointwise [gainRow7]
theorem dup_at (a : FVec Ideal S64 .f32) (l : Fin 128) : dup a (ix1 l) = a (ix1 ⟨l.val % 64, by omega⟩) := by
  refine Eq.trans (b := if h : l.val < 64 then a (ix1 ⟨l.val, by omega⟩) else a (ix1 ⟨l.val - 64, by omega⟩)) ?_ ?_
  · pointwise [dup]
  · by_cases h : l.val < 64
    · rw [dif_pos h]
      exact congrArg (fun k => a (ix1 k)) (Fin.ext (by show l.val = l.val % 64; omega))
    · rw [dif_neg h]
      exact congrArg (fun k => a (ix1 k)) (Fin.ext (by show l.val - 64 = l.val % 64; omega))
theorem both_low (a : FVec Ideal S2048 .f32) (b : FVec Ideal S1408 .f32) (n : Fin 3456) (h : n.val < 2048) : both a b (ix2 0 n) = a (ix1 ⟨n.val, h⟩) := by
  refine Eq.trans (b := if h : n.val < 2048 then a (ix1 ⟨n.val, by omega⟩) else b (ix1 ⟨n.val - 2048, by omega⟩)) ?_ (dif_pos h)
  pointwise [both]
theorem both_high (a : FVec Ideal S2048 .f32) (b : FVec Ideal S1408 .f32) (n : Fin 3456) (h : ¬ n.val < 2048) : both a b (ix2 0 n) = b (ix1 ⟨n.val - 2048, by omega⟩) := by
  refine Eq.trans (b := if h : n.val < 2048 then a (ix1 ⟨n.val, by omega⟩) else b (ix1 ⟨n.val - 2048, by omega⟩)) ?_ (dif_neg h)
  pointwise [both]
theorem join16_0 (a : Fin 16 → FVec Ideal S128 .f32) (l : Fin 128) : join16 a (ix1 ⟨0 + l.val, by omega⟩) = a 0 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨0 + l.val, by omega⟩ : S2048.Idx) 0 (by show 0 < 16; omega) S128 (a 0) rfl rfl 0 ?_ (ix1 l : S128.Idx) ?_ ?_
  · exact (by decide +kernel : ((([] : List Shape)).map fun s => if h : s.rank = S2048.rank then s.size ((0 : Fin 1).cast h.symm) else 0).sum = 0)
  · exact fun b hb => absurd (Subsingleton.elim (α := Fin 1) _ _) hb
  · show 0 + l.val = 0 + l.val
    rfl
theorem join16_1 (a : Fin 16 → FVec Ideal S128 .f32) (l : Fin 128) : join16 a (ix1 ⟨128 + l.val, by omega⟩) = a 1 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨128 + l.val, by omega⟩ : S2048.Idx) 1 (by show 1 < 16; omega) S128 (a 1) rfl rfl 128 ?_ (ix1 l : S128.Idx) ?_ ?_
  · exact (by decide +kernel : ((([S128] : List Shape)).map fun s => if h : s.rank = S2048.rank then s.size ((0 : Fin 1).cast h.symm) else 0).sum = 128)
  · exact fun b hb => absurd (Subsingleton.elim (α := Fin 1) _ _) hb
  · show 128 + l.val = 128 + l.val
    rfl
theorem join16_2 (a : Fin 16 → FVec Ideal S128 .f32) (l : Fin 128) : join16 a (ix1 ⟨256 + l.val, by omega⟩) = a 2 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨256 + l.val, by omega⟩ : S2048.Idx) 2 (by show 2 < 16; omega) S128 (a 2) rfl rfl 256 ?_ (ix1 l : S128.Idx) ?_ ?_
  · exact (by decide +kernel : ((([S128, S128] : List Shape)).map fun s => if h : s.rank = S2048.rank then s.size ((0 : Fin 1).cast h.symm) else 0).sum = 256)
  · exact fun b hb => absurd (Subsingleton.elim (α := Fin 1) _ _) hb
  · show 256 + l.val = 256 + l.val
    rfl
theorem join16_3 (a : Fin 16 → FVec Ideal S128 .f32) (l : Fin 128) : join16 a (ix1 ⟨384 + l.val, by omega⟩) = a 3 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨384 + l.val, by omega⟩ : S2048.Idx) 3 (by show 3 < 16; omega) S128 (a 3) rfl rfl 384 ?_ (ix1 l : S128.Idx) ?_ ?_
  · exact (by decide +kernel : ((([S128, S128, S128] : List Shape)).map fun s => if h : s.rank = S2048.rank then s.size ((0 : Fin 1).cast h.symm) else 0).sum = 384)
  · exact fun b hb => absurd (Subsingleton.elim (α := Fin 1) _ _) hb
  · show 384 + l.val = 384 + l.val
    rfl
theorem join16_4 (a : Fin 16 → FVec Ideal S128 .f32) (l : Fin 128) : join16 a (ix1 ⟨512 + l.val, by omega⟩) = a 4 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨512 + l.val, by omega⟩ : S2048.Idx) 4 (by show 4 < 16; omega) S128 (a 4) rfl rfl 512 ?_ (ix1 l : S128.Idx) ?_ ?_
  · exact (by decide +kernel : ((([S128, S128, S128, S128] : List Shape)).map fun s => if h : s.rank = S2048.rank then s.size ((0 : Fin 1).cast h.symm) else 0).sum = 512)
  · exact fun b hb => absurd (Subsingleton.elim (α := Fin 1) _ _) hb
  · show 512 + l.val = 512 + l.val
    rfl
theorem join16_6 (a : Fin 16 → FVec Ideal S128 .f32) (l : Fin 128) : join16 a (ix1 ⟨768 + l.val, by omega⟩) = a 6 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨768 + l.val, by omega⟩ : S2048.Idx) 6 (by show 6 < 16; omega) S128 (a 6) rfl rfl 768 ?_ (ix1 l : S128.Idx) ?_ ?_
  · exact (by decide +kernel : ((([S128, S128, S128, S128, S128, S128] : List Shape)).map fun s => if h : s.rank = S2048.rank then s.size ((0 : Fin 1).cast h.symm) else 0).sum = 768)
  · exact fun b hb => absurd (Subsingleton.elim (α := Fin 1) _ _) hb
  · show 768 + l.val = 768 + l.val
    rfl
theorem join16_8 (a : Fin 16 → FVec Ideal S128 .f32) (l : Fin 128) : join16 a (ix1 ⟨1024 + l.val, by omega⟩) = a 8 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1024 + l.val, by omega⟩ : S2048.Idx) 8 (by show 8 < 16; omega) S128 (a 8) rfl rfl 1024 ?_ (ix1 l : S128.Idx) ?_ ?_
  · exact (by decide +kernel : ((([S128, S128, S128, S128, S128, S128, S128, S128] : List Shape)).map fun s => if h : s.rank = S2048.rank then s.size ((0 : Fin 1).cast h.symm) else 0).sum = 1024)
  · exact fun b hb => absurd (Subsingleton.elim (α := Fin 1) _ _) hb
  · show 1024 + l.val = 1024 + l.val
    rfl
theorem join16_10 (a : Fin 16 → FVec Ideal S128 .f32) (l : Fin 128) : join16 a (ix1 ⟨1280 + l.val, by omega⟩) = a 10 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1280 + l.val, by omega⟩ : S2048.Idx) 10 (by show 10 < 16; omega) S128 (a 10) rfl rfl 1280 ?_ (ix1 l : S128.Idx) ?_ ?_
  · exact (by decide +kernel : ((([S128, S128, S128, S128, S128, S128, S128, S128, S128, S128] : List Shape)).map fun s => if h : s.rank = S2048.rank then s.size ((0 : Fin 1).cast h.symm) else 0).sum = 1280)
  · exact fun b hb => absurd (Subsingleton.elim (α := Fin 1) _ _) hb
  · show 1280 + l.val = 1280 + l.val
    rfl
theorem join16_11 (a : Fin 16 → FVec Ideal S128 .f32) (l : Fin 128) : join16 a (ix1 ⟨1408 + l.val, by omega⟩) = a 11 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1408 + l.val, by omega⟩ : S2048.Idx) 11 (by show 11 < 16; omega) S128 (a 11) rfl rfl 1408 ?_ (ix1 l : S128.Idx) ?_ ?_
  · exact (by decide +kernel : ((([S128, S128, S128, S128, S128, S128, S128, S128, S128, S128, S128] : List Shape)).map fun s => if h : s.rank = S2048.rank then s.size ((0 : Fin 1).cast h.symm) else 0).sum = 1408)
  · exact fun b hb => absurd (Subsingleton.elim (α := Fin 1) _ _) hb
  · show 1408 + l.val = 1408 + l.val
    rfl
theorem join16_12 (a : Fin 16 → FVec Ideal S128 .f32) (l : Fin 128) : join16 a (ix1 ⟨1536 + l.val, by omega⟩) = a 12 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1536 + l.val, by omega⟩ : S2048.Idx) 12 (by show 12 < 16; omega) S128 (a 12) rfl rfl 1536 ?_ (ix1 l : S128.Idx) ?_ ?_
  · exact (by decide +kernel : ((([S128, S128, S128, S128, S128, S128, S128, S128, S128, S128, S128, S128] : List Shape)).map fun s => if h : s.rank = S2048.rank then s.size ((0 : Fin 1).cast h.symm) else 0).sum = 1536)
  · exact fun b hb => absurd (Subsingleton.elim (α := Fin 1) _ _) hb
  · show 1536 + l.val = 1536 + l.val
    rfl
theorem join16_13 (a : Fin 16 → FVec Ideal S128 .f32) (l : Fin 128) : join16 a (ix1 ⟨1664 + l.val, by omega⟩) = a 13 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1664 + l.val, by omega⟩ : S2048.Idx) 13 (by show 13 < 16; omega) S128 (a 13) rfl rfl 1664 ?_ (ix1 l : S128.Idx) ?_ ?_
  · exact (by decide +kernel : ((([S128, S128, S128, S128, S128, S128, S128, S128, S128, S128, S128, S128, S128] : List Shape)).map fun s => if h : s.rank = S2048.rank then s.size ((0 : Fin 1).cast h.symm) else 0).sum = 1664)
  · exact fun b hb => absurd (Subsingleton.elim (α := Fin 1) _ _) hb
  · show 1664 + l.val = 1664 + l.val
    rfl
theorem join16_14 (a : Fin 16 → FVec Ideal S128 .f32) (l : Fin 128) : join16 a (ix1 ⟨1792 + l.val, by omega⟩) = a 14 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1792 + l.val, by omega⟩ : S2048.Idx) 14 (by show 14 < 16; omega) S128 (a 14) rfl rfl 1792 ?_ (ix1 l : S128.Idx) ?_ ?_
  · exact (by decide +kernel : ((([S128, S128, S128, S128, S128, S128, S128, S128, S128, S128, S128, S128, S128, S128] : List Shape)).map fun s => if h : s.rank = S2048.rank then s.size ((0 : Fin 1).cast h.symm) else 0).sum = 1792)
  · exact fun b hb => absurd (Subsingleton.elim (α := Fin 1) _ _) hb
  · show 1792 + l.val = 1792 + l.val
    rfl
theorem join16_15 (a : Fin 16 → FVec Ideal S128 .f32) (l : Fin 128) : join16 a (ix1 ⟨1920 + l.val, by omega⟩) = a 15 (ix1 l) := by
  refine concatenate_apply_piece (t := S2048) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩, ⟨S128, a 11⟩, ⟨S128, a 12⟩, ⟨S128, a 13⟩, ⟨S128, a 14⟩, ⟨S128, a 15⟩] _ (ix1 ⟨1920 + l.val, by omega⟩ : S2048.Idx) 15 (by show 15 < 16; omega) S128 (a 15) rfl rfl 1920 ?_ (ix1 l : S128.Idx) ?_ ?_
  · exact (by decide +kernel : ((([S128, S128, S128, S128, S128, S128, S128, S128, S128, S128, S128, S128, S128, S128, S128] : List Shape)).map fun s => if h : s.rank = S2048.rank then s.size ((0 : Fin 1).cast h.symm) else 0).sum = 1920)
  · exact fun b hb => absurd (Subsingleton.elim (α := Fin 1) _ _) hb
  · show 1920 + l.val = 1920 + l.val
    rfl
theorem join11_2 (a : Fin 11 → FVec Ideal S128 .f32) (l : Fin 128) : join11 a (ix1 ⟨256 + l.val, by omega⟩) = a 2 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨256 + l.val, by omega⟩ : S1408.Idx) 2 (by show 2 < 11; omega) S128 (a 2) rfl rfl 256 ?_ (ix1 l : S128.Idx) ?_ ?_
  · exact (by decide +kernel : ((([S128, S128] : List Shape)).map fun s => if h : s.rank = S1408.rank then s.size ((0 : Fin 1).cast h.symm) else 0).sum = 256)
  · exact fun b hb => absurd (Subsingleton.elim (α := Fin 1) _ _) hb
  · show 256 + l.val = 256 + l.val
    rfl
theorem join11_3 (a : Fin 11 → FVec Ideal S128 .f32) (l : Fin 128) : join11 a (ix1 ⟨384 + l.val, by omega⟩) = a 3 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨384 + l.val, by omega⟩ : S1408.Idx) 3 (by show 3 < 11; omega) S128 (a 3) rfl rfl 384 ?_ (ix1 l : S128.Idx) ?_ ?_
  · exact (by decide +kernel : ((([S128, S128, S128] : List Shape)).map fun s => if h : s.rank = S1408.rank then s.size ((0 : Fin 1).cast h.symm) else 0).sum = 384)
  · exact fun b hb => absurd (Subsingleton.elim (α := Fin 1) _ _) hb
  · show 384 + l.val = 384 + l.val
    rfl
theorem join11_4 (a : Fin 11 → FVec Ideal S128 .f32) (l : Fin 128) : join11 a (ix1 ⟨512 + l.val, by omega⟩) = a 4 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨512 + l.val, by omega⟩ : S1408.Idx) 4 (by show 4 < 11; omega) S128 (a 4) rfl rfl 512 ?_ (ix1 l : S128.Idx) ?_ ?_
  · exact (by decide +kernel : ((([S128, S128, S128, S128] : List Shape)).map fun s => if h : s.rank = S1408.rank then s.size ((0 : Fin 1).cast h.symm) else 0).sum = 512)
  · exact fun b hb => absurd (Subsingleton.elim (α := Fin 1) _ _) hb
  · show 512 + l.val = 512 + l.val
    rfl
theorem join11_5 (a : Fin 11 → FVec Ideal S128 .f32) (l : Fin 128) : join11 a (ix1 ⟨640 + l.val, by omega⟩) = a 5 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨640 + l.val, by omega⟩ : S1408.Idx) 5 (by show 5 < 11; omega) S128 (a 5) rfl rfl 640 ?_ (ix1 l : S128.Idx) ?_ ?_
  · exact (by decide +kernel : ((([S128, S128, S128, S128, S128] : List Shape)).map fun s => if h : s.rank = S1408.rank then s.size ((0 : Fin 1).cast h.symm) else 0).sum = 640)
  · exact fun b hb => absurd (Subsingleton.elim (α := Fin 1) _ _) hb
  · show 640 + l.val = 640 + l.val
    rfl
theorem join11_6 (a : Fin 11 → FVec Ideal S128 .f32) (l : Fin 128) : join11 a (ix1 ⟨768 + l.val, by omega⟩) = a 6 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨768 + l.val, by omega⟩ : S1408.Idx) 6 (by show 6 < 11; omega) S128 (a 6) rfl rfl 768 ?_ (ix1 l : S128.Idx) ?_ ?_
  · exact (by decide +kernel : ((([S128, S128, S128, S128, S128, S128] : List Shape)).map fun s => if h : s.rank = S1408.rank then s.size ((0 : Fin 1).cast h.symm) else 0).sum = 768)
  · exact fun b hb => absurd (Subsingleton.elim (α := Fin 1) _ _) hb
  · show 768 + l.val = 768 + l.val
    rfl
theorem join11_7 (a : Fin 11 → FVec Ideal S128 .f32) (l : Fin 128) : join11 a (ix1 ⟨896 + l.val, by omega⟩) = a 7 (ix1 l) := by
  refine concatenate_apply_piece (t := S1408) (0 : Fin 1) [⟨S128, a 0⟩, ⟨S128, a 1⟩, ⟨S128, a 2⟩, ⟨S128, a 3⟩, ⟨S128, a 4⟩, ⟨S128, a 5⟩, ⟨S128, a 6⟩, ⟨S128, a 7⟩, ⟨S128, a 8⟩, ⟨S128, a 9⟩, ⟨S128, a 10⟩] _ (ix1 ⟨896 + l.val, by omega⟩ : S1408.Idx) 7 (by show 7 < 11; omega) S128 (a 7) rfl rfl 896 ?_ (ix1 l : S128.Idx) ?_ ?_
  · exact (by decide +kernel : ((([S128, S128, S128, S128, S128, S128, S128] : List Shape)).map fun s => if h : s.rank = S1408.rank then s.size ((0 : Fin 1).cast h.symm) else 0).sum = 896)
  · exact fun b hb => absurd (Subsingleton.elim (α := Fin 1) _ _) hb
  · show 896 + l.val = 896 + l.val
    rfl
theorem gains_0 (qk : FVec Ideal S8x64 .f32) (l : Fin 128) : gains qk (ix2 0 ⟨0 + l.val, by omega⟩) = qk (ix2 0 ⟨l.val % 64, by omega⟩) :=
  (both_low _ _ ⟨0 + l.val, by omega⟩ (by show 0 + l.val < 2048; omega)).trans ((join16_0 (first16 qk) l).trans ((dup_at (gainRow0 qk) l).trans (gainRow0_at qk _)))
theorem gains_1 (qk : FVec Ideal S8x64 .f32) (l : Fin 128) : gains qk (ix2 0 ⟨128 + l.val, by omega⟩) = qk (ix2 0 ⟨l.val % 64, by omega⟩) :=
  (both_low _ _ ⟨128 + l.val, by omega⟩ (by show 128 + l.val < 2048; omega)).trans ((join16_1 (first16 qk) l).trans ((dup_at (gainRow0 qk) l).trans (gainRow0_at qk _)))
theorem gains_2 (qk : FVec Ideal S8x64 .f32) (l : Fin 128) : gains qk (ix2 0 ⟨256 + l.val, by omega⟩) = qk (ix2 0 ⟨l.val % 64, by omega⟩) :=
  (both_low _ _ ⟨256 + l.val, by omega⟩ (by show 256 + l.val < 2048; omega)).trans ((join16_2 (first16 qk) l).trans ((dup_at (gainRow0 qk) l).trans (gainRow0_at qk _)))
theorem gains_3 (qk : FVec Ideal S8x64 .f32) (l : Fin 128) : gains qk (ix2 0 ⟨384 + l.val, by omega⟩) = qk (ix2 0 ⟨l.val % 64, by omega⟩) :=
  (both_low _ _ ⟨384 + l.val, by omega⟩ (by show 384 + l.val < 2048; omega)).trans ((join16_3 (first16 qk) l).trans ((dup_at (gainRow0 qk) l).trans (gainRow0_at qk _)))
theorem gains_4 (qk : FVec Ideal S8x64 .f32) (l : Fin 128) : gains qk (ix2 0 ⟨512 + l.val, by omega⟩) = qk (ix2 1 ⟨l.val % 64, by omega⟩) :=
  (both_low _ _ ⟨512 + l.val, by omega⟩ (by show 512 + l.val < 2048; omega)).trans ((join16_4 (first16 qk) l).trans ((dup_at (gainRow1 qk) l).trans (gainRow1_at qk _)))
theorem gains_6 (qk : FVec Ideal S8x64 .f32) (l : Fin 128) : gains qk (ix2 0 ⟨768 + l.val, by omega⟩) = qk (ix2 2 ⟨l.val % 64, by omega⟩) :=
  (both_low _ _ ⟨768 + l.val, by omega⟩ (by show 768 + l.val < 2048; omega)).trans ((join16_6 (first16 qk) l).trans ((dup_at (gainRow2 qk) l).trans (gainRow2_at qk _)))
theorem gains_8 (qk : FVec Ideal S8x64 .f32) (l : Fin 128) : gains qk (ix2 0 ⟨1024 + l.val, by omega⟩) = qk (ix2 3 ⟨l.val % 64, by omega⟩) :=
  (both_low _ _ ⟨1024 + l.val, by omega⟩ (by show 1024 + l.val < 2048; omega)).trans ((join16_8 (first16 qk) l).trans ((dup_at (gainRow3 qk) l).trans (gainRow3_at qk _)))
theorem gains_10 (qk : FVec Ideal S8x64 .f32) (l : Fin 128) : gains qk (ix2 0 ⟨1280 + l.val, by omega⟩) = qk (ix2 4 ⟨l.val % 64, by omega⟩) :=
  (both_low _ _ ⟨1280 + l.val, by omega⟩ (by show 1280 + l.val < 2048; omega)).trans ((join16_10 (first16 qk) l).trans ((dup_at (gainRow4 qk) l).trans (gainRow4_at qk _)))
theorem gains_11 (qk : FVec Ideal S8x64 .f32) (l : Fin 128) : gains qk (ix2 0 ⟨1408 + l.val, by omega⟩) = qk (ix2 4 ⟨l.val % 64, by omega⟩) :=
  (both_low _ _ ⟨1408 + l.val, by omega⟩ (by show 1408 + l.val < 2048; omega)).trans ((join16_11 (first16 qk) l).trans ((dup_at (gainRow4 qk) l).trans (gainRow4_at qk _)))
theorem gains_12 (qk : FVec Ideal S8x64 .f32) (l : Fin 128) : gains qk (ix2 0 ⟨1536 + l.val, by omega⟩) = qk (ix2 4 ⟨l.val % 64, by omega⟩) :=
  (both_low _ _ ⟨1536 + l.val, by omega⟩ (by show 1536 + l.val < 2048; omega)).trans ((join16_12 (first16 qk) l).trans ((dup_at (gainRow4 qk) l).trans (gainRow4_at qk _)))
theorem gains_13 (qk : FVec Ideal S8x64 .f32) (l : Fin 128) : gains qk (ix2 0 ⟨1664 + l.val, by omega⟩) = qk (ix2 4 ⟨l.val % 64, by omega⟩) :=
  (both_low _ _ ⟨1664 + l.val, by omega⟩ (by show 1664 + l.val < 2048; omega)).trans ((join16_13 (first16 qk) l).trans ((dup_at (gainRow4 qk) l).trans (gainRow4_at qk _)))
theorem gains_14 (qk : FVec Ideal S8x64 .f32) (l : Fin 128) : gains qk (ix2 0 ⟨1792 + l.val, by omega⟩) = qk (ix2 5 ⟨l.val % 64, by omega⟩) :=
  (both_low _ _ ⟨1792 + l.val, by omega⟩ (by show 1792 + l.val < 2048; omega)).trans ((join16_14 (first16 qk) l).trans ((dup_at (gainRow5 qk) l).trans (gainRow5_at qk _)))
theorem gains_15 (qk : FVec Ideal S8x64 .f32) (l : Fin 128) : gains qk (ix2 0 ⟨1920 + l.val, by omega⟩) = qk (ix2 5 ⟨l.val % 64, by omega⟩) :=
  (both_low _ _ ⟨1920 + l.val, by omega⟩ (by show 1920 + l.val < 2048; omega)).trans ((join16_15 (first16 qk) l).trans ((dup_at (gainRow5 qk) l).trans (gainRow5_at qk _)))
theorem gains_18 (qk : FVec Ideal S8x64 .f32) (l : Fin 128) : gains qk (ix2 0 ⟨2304 + l.val, by omega⟩) = qk (ix2 6 ⟨l.val % 64, by omega⟩) :=
  ((both_high _ _ ⟨2304 + l.val, by omega⟩ (by show ¬ 2304 + l.val < 2048; omega)).trans (congrArg (fun n => join11 (last11 qk) (ix1 n)) (Fin.ext (by show 2304 + l.val - 2048 = 256 + l.val; omega)))).trans ((join11_2 (last11 qk) l).trans ((dup_at (gainRow6 qk) l).trans (gainRow6_at qk _)))
theorem gains_19 (qk : FVec Ideal S8x64 .f32) (l : Fin 128) : gains qk (ix2 0 ⟨2432 + l.val, by omega⟩) = qk (ix2 6 ⟨l.val % 64, by omega⟩) :=
  ((both_high _ _ ⟨2432 + l.val, by omega⟩ (by show ¬ 2432 + l.val < 2048; omega)).trans (congrArg (fun n => join11 (last11 qk) (ix1 n)) (Fin.ext (by show 2432 + l.val - 2048 = 384 + l.val; omega)))).trans ((join11_3 (last11 qk) l).trans ((dup_at (gainRow6 qk) l).trans (gainRow6_at qk _)))
theorem gains_20 (qk : FVec Ideal S8x64 .f32) (l : Fin 128) : gains qk (ix2 0 ⟨2560 + l.val, by omega⟩) = qk (ix2 6 ⟨l.val % 64, by omega⟩) :=
  ((both_high _ _ ⟨2560 + l.val, by omega⟩ (by show ¬ 2560 + l.val < 2048; omega)).trans (congrArg (fun n => join11 (last11 qk) (ix1 n)) (Fin.ext (by show 2560 + l.val - 2048 = 512 + l.val; omega)))).trans ((join11_4 (last11 qk) l).trans ((dup_at (gainRow6 qk) l).trans (gainRow6_at qk _)))
theorem gains_21 (qk : FVec Ideal S8x64 .f32) (l : Fin 128) : gains qk (ix2 0 ⟨2688 + l.val, by omega⟩) = qk (ix2 6 ⟨l.val % 64, by omega⟩) :=
  ((both_high _ _ ⟨2688 + l.val, by omega⟩ (by show ¬ 2688 + l.val < 2048; omega)).trans (congrArg (fun n => join11 (last11 qk) (ix1 n)) (Fin.ext (by show 2688 + l.val - 2048 = 640 + l.val; omega)))).trans ((join11_5 (last11 qk) l).trans ((dup_at (gainRow6 qk) l).trans (gainRow6_at qk _)))
theorem gains_22 (qk : FVec Ideal S8x64 .f32) (l : Fin 128) : gains qk (ix2 0 ⟨2816 + l.val, by omega⟩) = qk (ix2 7 ⟨l.val % 64, by omega⟩) :=
  ((both_high _ _ ⟨2816 + l.val, by omega⟩ (by show ¬ 2816 + l.val < 2048; omega)).trans (congrArg (fun n => join11 (last11 qk) (ix1 n)) (Fin.ext (by show 2816 + l.val - 2048 = 768 + l.val; omega)))).trans ((join11_6 (last11 qk) l).trans ((dup_at (gainRow7 qk) l).trans (gainRow7_at qk _)))
theorem gains_23 (qk : FVec Ideal S8x64 .f32) (l : Fin 128) : gains qk (ix2 0 ⟨2944 + l.val, by omega⟩) = qk (ix2 7 ⟨l.val % 64, by omega⟩) :=
  ((both_high _ _ ⟨2944 + l.val, by omega⟩ (by show ¬ 2944 + l.val < 2048; omega)).trans (congrArg (fun n => join11 (last11 qk) (ix1 n)) (Fin.ext (by show 2944 + l.val - 2048 = 896 + l.val; omega)))).trans ((join11_7 (last11 qk) l).trans ((dup_at (gainRow7 qk) l).trans (gainRow7_at qk _)))

theorem join3_low (a : FVec Ideal S1024x1280 .f32) (b : FVec Ideal S1024x2048 .f32) (c : FVec Ideal S1024x128 .f32) (k : Fin 1024) (n : Fin 1280) :
    join3 a b c (ix2 k ⟨n.val, by omega⟩) = a (ix2 k n) := by
  pointwise [join3]
theorem join3_mid (a : FVec Ideal S1024x1280 .f32) (b : FVec Ideal S1024x2048 .f32) (c : FVec Ideal S1024x128 .f32) (k : Fin 1024) (n : Fin 2048) :
    join3 a b c (ix2 k ⟨1280 + n.val, by omega⟩) = b (ix2 k n) := by
  pointwise [join3]
theorem join3_high (a : FVec Ideal S1024x1280 .f32) (b : FVec Ideal S1024x2048 .f32) (c : FVec Ideal S1024x128 .f32) (k : Fin 1024) (n : Fin 128) :
    join3 a b c (ix2 k ⟨3328 + n.val, by omega⟩) = c (ix2 k n) := by
  pointwise [join3]
  rw [dif_neg (by omega), dif_neg (by omega)]
  exact congrArg (fun l => c (ix2 k l)) (Fin.ext (by dsimp only; omega))
theorem weights_low (w : FVec Ideal S1024x6424 .f32) (k : Fin 1024) (n : Fin 1280) : weights w (ix2 k ⟨n.val, by omega⟩) = w (ix2 k ⟨n.val, by omega⟩) := by
  refine (join3_low _ _ _ k n).trans ?_
  pointwise []
theorem weights_mid (w : FVec Ideal S1024x6424 .f32) (k : Fin 1024) (n : Fin 2048) : weights w (ix2 k ⟨1280 + n.val, by omega⟩) = w (ix2 k ⟨1304 + n.val, by omega⟩) := by
  refine (join3_mid _ _ _ k n).trans ?_
  pointwise []
theorem weights_gate (w : FVec Ideal S1024x6424 .f32) (k : Fin 1024) (l : Fin 128) :
    weights w (ix2 k ⟨3328 + l.val, by omega⟩) = if h : l.val < 24 then w (ix2 k ⟨1280 + l.val, by omega⟩) else 0 := by
  refine (join3_high _ _ _ k l).trans ?_
  refine Eq.trans (b := if h : k.val < 1024 ∧ l.val < 24 then w (ix2 ⟨k.val, by omega⟩ ⟨1280 + l.val, by omega⟩) else FloatOps.sitofp .f32 0#32) ?_ ?_
  · pointwise [padded]
  · have hz : (FloatOps.sitofp (F := Ideal) .f32 0#32 : EReal) = 0 := by
      simp [FloatOps.sitofp]
    by_cases a : l.val < 24
    · rw [dif_pos ⟨k.isLt, a⟩, dif_pos a]
    · rw [dif_neg (fun e => a e.2), dif_neg a, hz]

theorem angles_at (t : Fin 8192) (j : Fin 8) : angles (ix2 t j) = Proj.angle t j := by
  pointwise [angles, Proj.angle]
theorem tri_at (a b : FVec Ideal S8192x8 .f32) (u : FVec Ideal S8192x48 .f32) (t : Fin 8192) (c : Fin 64) :
    tri a b u (ix2 t c) = if h : c.val < 8 then a (ix2 t ⟨c.val, h⟩) else if h' : c.val < 16 then b (ix2 t ⟨c.val - 8, by omega⟩) else u (ix2 t ⟨c.val - 16, by omega⟩) := by
  pointwise [tri]
  by_cases h : c.val < 8
  · rw [dif_pos h, dif_pos h]
  · rw [dif_neg h, dif_neg h]
    by_cases h' : c.val < 16
    · rw [dif_pos h', dif_pos (by omega)]
    · rw [dif_neg h', dif_neg (by omega)]
      exact congrArg (fun l => u (ix2 t l)) (Fin.ext (by dsimp only; omega))
theorem twice_at (a : FVec Ideal S8192x64 .f32) (t : Fin 8192) (l : Fin 128) : twice a (ix2 t l) = a (ix2 t ⟨l.val % 64, by omega⟩) := by
  refine Eq.trans (b := if h : l.val < 64 then a (ix2 t ⟨l.val, by omega⟩) else a (ix2 t ⟨l.val - 64, by omega⟩)) ?_ ?_
  · pointwise [twice]
  · by_cases h : l.val < 64
    · rw [dif_pos h]
      exact congrArg (fun k => a (ix2 t k)) (Fin.ext (by show l.val = l.val % 64; omega))
    · rw [dif_neg h]
      exact congrArg (fun k => a (ix2 t k)) (Fin.ext (by show l.val - 64 = l.val % 64; omega))
theorem cos_at (t : Fin 8192) (j : Fin 8) : (Host.cos angles : FVec Ideal S8192x8 .f32) (ix2 t j) = Ideal.cos (Proj.angle t j) :=
  congrArg Ideal.cos (angles_at t j)
theorem sin_at (t : Fin 8192) (j : Fin 8) : (Host.sin angles : FVec Ideal S8192x8 .f32) (ix2 t j) = Ideal.sin (Proj.angle t j) :=
  congrArg Ideal.sin (angles_at t j)
theorem neg_at (t : Fin 8192) (j : Fin 8) : (Host.negf (Host.sin angles) : FVec Ideal S8192x8 .f32) (ix2 t j) = -(Ideal.sin (Proj.angle t j)) :=
  congrArg (fun a => -(Ideal.sin a)) (angles_at t j)
theorem ones48_at (t : Fin 8192) (j : Fin 48) : ones48 (ix2 t j) = (1 : EReal) := by
  pointwise [ones48]
theorem zeros48_at (t : Fin 8192) (j : Fin 48) : zeros48 (ix2 t j) = (0 : EReal) := by
  pointwise [zeros48]
theorem zeros8_at (t : Fin 8192) (j : Fin 8) : zeros8 (ix2 t j) = (0 : EReal) := by
  pointwise [zeros8]
theorem tableC_at (t : Fin 8192) (l : Fin 128) : tableC (ix2 t l) = Proj.tabC (fun j => Ideal.cos (Proj.angle t j)) ⟨l.val % 64, by omega⟩ := by
  refine (twice_at _ t l).trans ((tri_at _ _ _ t _).trans ?_)
  unfold Proj.tabC
  by_cases a : l.val % 64 < 8
  · rw [dif_pos a, dif_pos a, cos_at]
  · rw [dif_neg a, dif_neg a]
    by_cases b : l.val % 64 < 16
    · rw [dif_pos b, dif_pos b, cos_at]
    · rw [dif_neg b, dif_neg b, ones48_at]
theorem tableS_at (t : Fin 8192) (l : Fin 128) : tableS (ix2 t l) = Proj.tabS (fun j => Ideal.sin (Proj.angle t j)) ⟨l.val % 64, by omega⟩ := by
  refine (twice_at _ t l).trans ((tri_at _ _ _ t _).trans ?_)
  unfold Proj.tabS
  by_cases a : l.val % 64 < 8
  · rw [dif_pos a, dif_pos a, neg_at]
  · rw [dif_neg a, dif_neg a]
    by_cases b : l.val % 64 < 16
    · rw [dif_pos b, zeros8_at]
    · rw [dif_neg b, zeros48_at]
theorem tableT_at (t : Fin 8192) (l : Fin 128) : tableT (ix2 t l) = Proj.tabT (fun j => Ideal.sin (Proj.angle t j)) ⟨l.val % 64, by omega⟩ := by
  refine (twice_at _ t l).trans ((tri_at _ _ _ t _).trans ?_)
  unfold Proj.tabT
  by_cases a : l.val % 64 < 8
  · rw [dif_pos a, dif_pos a, zeros8_at]
  · rw [dif_neg a, dif_neg a]
    by_cases b : l.val % 64 < 16
    · rw [dif_pos b, dif_pos b, sin_at]
    · rw [dif_neg b, dif_neg b, zeros48_at]

variable (m : (ℓ : Loc nD τ sig) → Buf (Elt Ideal) ℓ)

/-! ## The arguments' contents at launch, and the windows' arrays -/

abbrev X (c : Dev nD) : FVec Ideal S16384x1024 .f32 := m ((c : Thread nD τ).loc main_arg0)
abbrev Ng (c : Dev nD) : FVec Ideal S1024 .f32 := m ((c : Thread nD τ).loc main_arg1)
abbrev Wi (c : Dev nD) : FVec Ideal S1024x6424 .f32 := m ((c : Thread nD τ).loc main_arg2)
abbrev Qk (c : Dev nD) : FVec Ideal S8x64 .f32 := m ((c : Thread nD τ).loc main_arg3)

theorem V_v8 (c : Dev nD) : V m c main_v8 = broadcastInDim S1x1024 ![1] bcast_S1024_S1x1024_1 (Ng m c) := by
  entry_read
  rfl
theorem V_v5 (c : Dev nD) : V m c main_v5 = weights (Wi m c) := by
  entry_read
  rfl
theorem V_cst (c : Dev nD) : V m c main_cst = (fun i => FloatOps.ofBits .bf16 (lit0 (S128x128.rowMajor i)) : FVec Ideal S128x128 .bf16) := by
  entry_read
  rfl
/-! The gains' array is read in two steps: the joining operations over any valuation, then each piece. -/

/-- The host operations before the region. -/
abbrev hostOps : List (HloOp τ sig (Elt Ideal)) := List.flatten [hostOps0, hostOps0_1, hostOps0_2]
theorem hostOps_cut (k : Nat) (σ : Valuation τ sig (Elt Ideal)) :
    StableHlo.after hostOps σ = StableHlo.after (hostOps.drop k) (StableHlo.after (hostOps.take k) σ) := by
  rw [← StableHlo.after_append, List.take_append_drop]
theorem joined_gains (σ : Valuation τ sig (Elt Ideal)) :
    StableHlo.after (hostOps.drop 85) σ (Proc.devRef .tc main_v77)
      = both (join16 ![σ (Proc.devRef .tc main_v11), σ (Proc.devRef .tc main_v14), σ (Proc.devRef .tc main_v17), σ (Proc.devRef .tc main_v20), σ (Proc.devRef .tc main_v23), σ (Proc.devRef .tc main_v24), σ (Proc.devRef .tc main_v27), σ (Proc.devRef .tc main_v28), σ (Proc.devRef .tc main_v31), σ (Proc.devRef .tc main_v32), σ (Proc.devRef .tc main_v35), σ (Proc.devRef .tc main_v38), σ (Proc.devRef .tc main_v41), σ (Proc.devRef .tc main_v44), σ (Proc.devRef .tc main_v47), σ (Proc.devRef .tc main_v50)])
          (join11 ![σ (Proc.devRef .tc main_v51), σ (Proc.devRef .tc main_v52), σ (Proc.devRef .tc main_v55), σ (Proc.devRef .tc main_v58), σ (Proc.devRef .tc main_v61), σ (Proc.devRef .tc main_v64), σ (Proc.devRef .tc main_v67), σ (Proc.devRef .tc main_v70), σ (Proc.devRef .tc main_v71), σ (Proc.devRef .tc main_v72), σ (Proc.devRef .tc main_v73)]) := by
  rfl
theorem piece_0 (c : Dev nD) : StableHlo.after (hostOps.take 85) (fun b => m (c, b)) (Proc.devRef .tc main_v11) = dup (gainRow0 (Qk m c)) := by
  rfl
theorem piece_1 (c : Dev nD) : StableHlo.after (hostOps.take 85) (fun b => m (c, b)) (Proc.devRef .tc main_v14) = dup (gainRow0 (Qk m c)) := by
  rfl
theorem piece_2 (c : Dev nD) : StableHlo.after (hostOps.take 85) (fun b => m (c, b)) (Proc.devRef .tc main_v17) = dup (gainRow0 (Qk m c)) := by
  rfl
theorem piece_3 (c : Dev nD) : StableHlo.after (hostOps.take 85) (fun b => m (c, b)) (Proc.devRef .tc main_v20) = dup (gainRow0 (Qk m c)) := by
  rfl
theorem piece_4 (c : Dev nD) : StableHlo.after (hostOps.take 85) (fun b => m (c, b)) (Proc.devRef .tc main_v23) = dup (gainRow1 (Qk m c)) := by
  rfl
theorem piece_5 (c : Dev nD) : StableHlo.after (hostOps.take 85) (fun b => m (c, b)) (Proc.devRef .tc main_v24) = unit := by
  rfl
theorem piece_6 (c : Dev nD) : StableHlo.after (hostOps.take 85) (fun b => m (c, b)) (Proc.devRef .tc main_v27) = dup (gainRow2 (Qk m c)) := by
  rfl
theorem piece_7 (c : Dev nD) : StableHlo.after (hostOps.take 85) (fun b => m (c, b)) (Proc.devRef .tc main_v28) = unit := by
  rfl
theorem piece_8 (c : Dev nD) : StableHlo.after (hostOps.take 85) (fun b => m (c, b)) (Proc.devRef .tc main_v31) = dup (gainRow3 (Qk m c)) := by
  rfl
theorem piece_9 (c : Dev nD) : StableHlo.after (hostOps.take 85) (fun b => m (c, b)) (Proc.devRef .tc main_v32) = unit := by
  rfl
theorem piece_10 (c : Dev nD) : StableHlo.after (hostOps.take 85) (fun b => m (c, b)) (Proc.devRef .tc main_v35) = dup (gainRow4 (Qk m c)) := by
  rfl
theorem piece_11 (c : Dev nD) : StableHlo.after (hostOps.take 85) (fun b => m (c, b)) (Proc.devRef .tc main_v38) = dup (gainRow4 (Qk m c)) := by
  rfl
theorem piece_12 (c : Dev nD) : StableHlo.after (hostOps.take 85) (fun b => m (c, b)) (Proc.devRef .tc main_v41) = dup (gainRow4 (Qk m c)) := by
  rfl
theorem piece_13 (c : Dev nD) : StableHlo.after (hostOps.take 85) (fun b => m (c, b)) (Proc.devRef .tc main_v44) = dup (gainRow4 (Qk m c)) := by
  rfl
theorem piece_14 (c : Dev nD) : StableHlo.after (hostOps.take 85) (fun b => m (c, b)) (Proc.devRef .tc main_v47) = dup (gainRow5 (Qk m c)) := by
  rfl
theorem piece_15 (c : Dev nD) : StableHlo.after (hostOps.take 85) (fun b => m (c, b)) (Proc.devRef .tc main_v50) = dup (gainRow5 (Qk m c)) := by
  rfl
theorem piece_16 (c : Dev nD) : StableHlo.after (hostOps.take 85) (fun b => m (c, b)) (Proc.devRef .tc main_v51) = unit := by
  rfl
theorem piece_17 (c : Dev nD) : StableHlo.after (hostOps.take 85) (fun b => m (c, b)) (Proc.devRef .tc main_v52) = unit := by
  rfl
theorem piece_18 (c : Dev nD) : StableHlo.after (hostOps.take 85) (fun b => m (c, b)) (Proc.devRef .tc main_v55) = dup (gainRow6 (Qk m c)) := by
  rfl
theorem piece_19 (c : Dev nD) : StableHlo.after (hostOps.take 85) (fun b => m (c, b)) (Proc.devRef .tc main_v58) = dup (gainRow6 (Qk m c)) := by
  rfl
theorem piece_20 (c : Dev nD) : StableHlo.after (hostOps.take 85) (fun b => m (c, b)) (Proc.devRef .tc main_v61) = dup (gainRow6 (Qk m c)) := by
  rfl
theorem piece_21 (c : Dev nD) : StableHlo.after (hostOps.take 85) (fun b => m (c, b)) (Proc.devRef .tc main_v64) = dup (gainRow6 (Qk m c)) := by
  rfl
theorem piece_22 (c : Dev nD) : StableHlo.after (hostOps.take 85) (fun b => m (c, b)) (Proc.devRef .tc main_v67) = dup (gainRow7 (Qk m c)) := by
  rfl
theorem piece_23 (c : Dev nD) : StableHlo.after (hostOps.take 85) (fun b => m (c, b)) (Proc.devRef .tc main_v70) = dup (gainRow7 (Qk m c)) := by
  rfl
theorem piece_24 (c : Dev nD) : StableHlo.after (hostOps.take 85) (fun b => m (c, b)) (Proc.devRef .tc main_v71) = unit := by
  rfl
theorem piece_25 (c : Dev nD) : StableHlo.after (hostOps.take 85) (fun b => m (c, b)) (Proc.devRef .tc main_v72) = unit := by
  rfl
theorem piece_26 (c : Dev nD) : StableHlo.after (hostOps.take 85) (fun b => m (c, b)) (Proc.devRef .tc main_v73) = unit := by
  rfl
theorem V_v77 (c : Dev nD) : V m c main_v77 = gains (Qk m c) := by
  show StableHlo.after hostOps (fun b => m (c, b)) (Proc.devRef .tc main_v77) = _
  rw [hostOps_cut 85, joined_gains, piece_0, piece_1, piece_2, piece_3, piece_4, piece_5, piece_6, piece_7, piece_8, piece_9, piece_10, piece_11, piece_12, piece_13, piece_14, piece_15, piece_16, piece_17, piece_18, piece_19, piece_20, piece_21, piece_22, piece_23, piece_24, piece_25, piece_26]
  rfl
theorem V_v100 (c : Dev nD) : V m c main_v100 = tableC := by
  entry_read
  rfl
theorem V_v101 (c : Dev nD) : V m c main_v101 = tableS := by
  entry_read
  rfl
theorem V_v102 (c : Dev nD) : V m c main_v102 = tableT := by
  entry_read
  rfl

/-- The index maps, decided over the grid. -/
theorem idx_in : ∀ t : Fin cfg0.N,
    (win0_0.index t (0 : Fin 2) = t.val ∧ win0_0.index t (1 : Fin 2) = 0)
    ∧ (∀ a : Fin 2, win0_1.index t a = 0) ∧ (∀ a : Fin 2, win0_2.index t a = 0) ∧ (∀ a : Fin 2, win0_3.index t a = 0) ∧ (∀ a : Fin 2, win0_4.index t a = 0)
    ∧ (win0_5.index t (0 : Fin 2) = t.val % 32 ∧ win0_5.index t (1 : Fin 2) = 0)
    ∧ (win0_6.index t (0 : Fin 2) = t.val % 32 ∧ win0_6.index t (1 : Fin 2) = 0)
    ∧ (win0_7.index t (0 : Fin 2) = t.val % 32 ∧ win0_7.index t (1 : Fin 2) = 0) :=
  (by decide +kernel : ∀ t : Fin grid0.N, _)

theorem idx_8 : ∀ t : Fin cfg0.N, win0_8.index t (0 : Fin 3) = t.val / 32 ∧ win0_8.index t (1 : Fin 3) = 0 ∧ win0_8.index t (2 : Fin 3) = t.val % 32 :=
  (by decide +kernel : ∀ t : Fin grid0.N, _)
theorem idx_9 : ∀ t : Fin cfg0.N, win0_9.index t (0 : Fin 3) = t.val / 32 ∧ win0_9.index t (1 : Fin 3) = 0 ∧ win0_9.index t (2 : Fin 3) = t.val % 32 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 3) = t.val / 32 ∧ win0_11.index t (1 : Fin 3) = 0 ∧ win0_11.index t (2 : Fin 3) = t.val % 32 :=
  (by decide +kernel : ∀ t : Fin grid0.N, _)
theorem idx_12 : ∀ t : Fin cfg0.N, win0_12.index t (0 : Fin 2) = t.val ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)
theorem idx_19 : ∀ t : Fin cfg0.N, win0_19.index t (0 : Fin 2) = t.val ∧ win0_19.index t (1 : Fin 2) = 0 :=
  (by decide +kernel : ∀ t : Fin grid0.N, _)

/-! ## The staged blocks -/

theorem blk_x (c : Dev nD) (t : Fin cfg0.N) (r : Fin 256) (k : Fin 1024) (n : Fin 16384) (hn : n.val = 256 * t.val + r.val) :
    (iblk m c 0 t : FVec Ideal S256x1024 .f32) (ix2 r k) = X m c (ix2 n k) := by
  have e0 := (idx_in t).1.1
  have e1 := (idx_in t).1.2
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 256 + 1 * r.val = n.val; omega
  | ⟨1, _⟩ => show win0_0.index t (1 : Fin 2) * 1024 + 1 * k.val = k.val; omega
theorem blk_g (c : Dev nD) (t : Fin cfg0.N) (k : Fin 1024) :
    (iblk m c 1 t : FVec Ideal S1x1024 .f32) (ix2 0 k) = Ng m c (ix1 k) := by
  have e0 := (idx_in t).2.1 0
  have e1 := (idx_in t).2.1 1
  show V m c main_v8 (((cfg0.win 1).blk t).view.emb (ix2 0 k)) = _
  rw [V_v8]
  refine Eq.trans (b := (broadcastInDim S1x1024 ![1] bcast_S1024_S1x1024_1 (Ng m c) : FVec Ideal S1x1024 .f32) (ix2 0 k)) ?_ ?_
  · refine congrArg (broadcastInDim S1x1024 ![1] bcast_S1024_S1x1024_1 (Ng m c)) (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega
  · pointwise []
theorem blk_w (c : Dev nD) (t : Fin cfg0.N) (k : Fin 1024) (n : Fin 3456) :
    (iblk m c 2 t : FVec Ideal S1024x3456 .bf16) (ix2 k n) = weights (Wi m c) (ix2 k n) := by
  have e0 := (idx_in t).2.2.1 0
  have e1 := (idx_in t).2.2.1 1
  show V m c main_v5 (((cfg0.win 2).blk t).view.emb (ix2 k n)) = _
  rw [V_v5]
  refine congrArg (weights (Wi m c)) (funext fun a => Fin.ext ?_)
  match a with
  | ⟨0, _⟩ => show win0_2.index t (0 : Fin 2) * 1024 + 1 * k.val = k.val; omega
  | ⟨1, _⟩ => show win0_2.index t (1 : Fin 2) * 3456 + 1 * n.val = n.val; omega
theorem blk_q (c : Dev nD) (t : Fin cfg0.N) (n : Fin 3456) :
    (iblk m c 3 t : FVec Ideal S1x3456 .f32) (ix2 0 n) = gains (Qk m c) (ix2 0 n) := by
  have e0 := (idx_in t).2.2.2.1 0
  have e1 := (idx_in t).2.2.2.1 1
  show V m c main_v77 (((cfg0.win 3).blk t).view.emb (ix2 0 n)) = _
  rw [V_v77]
  refine congrArg (gains (Qk m c)) (funext fun a => Fin.ext ?_)
  match a with
  | ⟨0, _⟩ => show win0_3.index t (0 : Fin 2) * 1 + 1 * 0 = 0; omega
  | ⟨1, _⟩ => show win0_3.index t (1 : Fin 2) * 3456 + 1 * n.val = n.val; omega
theorem blk_e (c : Dev nD) (t : Fin cfg0.N) (k l : Fin 128) :
    (iblk m c 4 t : FVec Ideal S128x128 .bf16) (ix2 k l) = if k.val / 64 = l.val / 64 then (1 : EReal) else 0 := by
  have e0 := (idx_in t).2.2.2.2.1 0
  have e1 := (idx_in t).2.2.2.2.1 1
  have h : (iblk m c 4 t : FVec Ideal S128x128 .bf16) (ix2 k l) = Ideal.ofBits .bf16 (lit0 (S128x128.rowMajor (ix2 k l))) := by
    show V m c main_cst (((cfg0.win 4).blk t).view.emb (ix2 k l)) = _
    rw [V_cst]
    refine congrArg (fun i => Ideal.ofBits .bf16 (lit0 (S128x128.rowMajor i))) (funext fun a => Fin.ext ?_)
    match a with
    | ⟨0, _⟩ => show win0_4.index t (0 : Fin 2) * 128 + 1 * k.val = k.val; omega
    | ⟨1, _⟩ => show win0_4.index t (1 : Fin 2) * 128 + 1 * l.val = l.val; omega
  rw [h, Const.word_at k l _ (Shape.rowMajor_val_two (d := ![128, 128]) (ix2 k l))]
  by_cases a : k.val / 64 = l.val / 64
  · rw [if_pos a, if_pos a, Ideal.ofBits_one_bf16]
  · rw [if_neg a, if_neg a, Ideal.ofBits_zero_bf16]
theorem blk_C (c : Dev nD) (t : Fin cfg0.N) (r : Fin 256) (l : Fin 128) (p : Fin 8192) (hp : p.val = 256 * (t.val % 32) + r.val) :
    (iblk m c 5 t : FVec Ideal S256x128 .f32) (ix2 r l) = tableC (ix2 p l) := by
  have e0 := (idx_in t).2.2.2.2.2.1.1
  have e1 := (idx_in t).2.2.2.2.2.1.2
  show V m c main_v100 (((cfg0.win 5).blk t).view.emb (ix2 r l)) = _
  rw [V_v100]
  refine congrArg tableC (funext fun a => Fin.ext ?_)
  match a with
  | ⟨0, _⟩ => show win0_5.index t (0 : Fin 2) * 256 + 1 * r.val = p.val; omega
  | ⟨1, _⟩ => show win0_5.index t (1 : Fin 2) * 128 + 1 * l.val = l.val; omega
theorem blk_S (c : Dev nD) (t : Fin cfg0.N) (r : Fin 256) (l : Fin 128) (p : Fin 8192) (hp : p.val = 256 * (t.val % 32) + r.val) :
    (iblk m c 6 t : FVec Ideal S256x128 .f32) (ix2 r l) = tableS (ix2 p l) := by
  have e0 := (idx_in t).2.2.2.2.2.2.1.1
  have e1 := (idx_in t).2.2.2.2.2.2.1.2
  show V m c main_v101 (((cfg0.win 6).blk t).view.emb (ix2 r l)) = _
  rw [V_v101]
  refine congrArg tableS (funext fun a => Fin.ext ?_)
  match a with
  | ⟨0, _⟩ => show win0_6.index t (0 : Fin 2) * 256 + 1 * r.val = p.val; omega
  | ⟨1, _⟩ => show win0_6.index t (1 : Fin 2) * 128 + 1 * l.val = l.val; omega
theorem blk_T (c : Dev nD) (t : Fin cfg0.N) (r : Fin 256) (l : Fin 128) (p : Fin 8192) (hp : p.val = 256 * (t.val % 32) + r.val) :
    (iblk m c 7 t : FVec Ideal S256x128 .f32) (ix2 r l) = tableT (ix2 p l) := by
  have e0 := (idx_in t).2.2.2.2.2.2.2.1
  have e1 := (idx_in t).2.2.2.2.2.2.2.2
  show V m c main_v102 (((cfg0.win 7).blk t).view.emb (ix2 r l)) = _
  rw [V_v102]
  refine congrArg tableT (funext fun a => Fin.ext ?_)
  match a with
  | ⟨0, _⟩ => show win0_7.index t (0 : Fin 2) * 256 + 1 * r.val = p.val; omega
  | ⟨1, _⟩ => show win0_7.index t (1 : Fin 2) * 128 + 1 * l.val = l.val; omega
end Cert.ProjIdeal.Rows

end
-- ==== Proof.ProjRope.lean ====
/- The values both programs of the projection hold, at an index: an entry of the product and a lane of a turned head. -/
module

public import proofs.«01_k».proof.Proof.ProjMath

@[expose] public section

noncomputable section

open Idealize.ShloMosaic

namespace Proj

/-- Entry `(n, j)` of the normed rows times the matrix. -/
def entry (x : FVec Ideal (Shape.mk 2 ![16384, 1024]) .f32) (g : FVec Ideal (Shape.mk 1 ![1024]) .f32) (w : FVec Ideal (Shape.mk 2 ![1024, 6424]) .f32)
    (n : Fin 16384) (j : Fin 6424) : EReal :=
  ∑ k : Fin 1024, Merge.norm 0x44800000#32 (fun k => x (ix2 n k)) (fun k => g (ix1 k)) k * w (ix2 k j)

/-- Lane `l` of the two heads that begin at column `b`, at position `t`. -/
def rope (h : Fin 6424 → EReal) (q : Fin 64 → EReal) (t : Fin 8192) (b : Nat) (hb : b + 128 ≤ 6424) (l : Fin 128) : EReal :=
  head h q (fun j => Ideal.cos (angle t j)) (fun j => Ideal.sin (angle t j)) (b + l.val / 64 * 64) (by omega) ⟨l.val % 64, by omega⟩

end Proj

end
-- ==== Proof.ProjResult.lean ====
/- The twelve result arrays of the projection, at an index, as entries of the product and lanes of turned heads. -/
module

public import proofs.«01_k».proof.Proof.ProjValue
public import proofs.«01_k».proof.Proof.ProjRope

@[expose] public section

set_option maxRecDepth 16384

noncomputable section

namespace Cert.ProjIdeal.Rows

open Cert.ProjIdeal Cert.ProjIdeal.Gen
open Idealize.ShloMosaic
open Idealize.ShloMosaic.TcCoe Idealize.SL.Sem

variable (m : (ℓ : Loc nD τ sig) → Buf (Elt Ideal) ℓ) (c : Dev nD)

/-- The grid's point that holds a row. -/
abbrev pt (n : Fin 16384) : Fin cfg0.N := ⟨n.val / 256, by have := N_0; show n.val / 256 < grid0.N; omega⟩

abbrev lane (n : Fin 16384) : Fin 256 := ⟨n.val % 256, Nat.mod_lt _ (by decide)⟩

abbrev En (n : Fin 16384) (j : Fin 6424) : EReal := Proj.entry (X m c) (Ng m c) (Wi m c) n j

theorem weights_first (w : FVec Ideal S1024x6424 .f32) (o : Nat) (ho : o + 128 ≤ 1280) (j : Fin 1024) (k : Fin 128) :
    weights w (ix2 j ⟨o + k.val, by omega⟩) = w (ix2 j ⟨o + k.val, by omega⟩) :=
  weights_low w j ⟨o + k.val, by omega⟩
theorem weights_second (w : FVec Ideal S1024x6424 .f32) (o b : Nat) (h1 : 1280 ≤ o) (h2 : o + 128 ≤ 3328) (hb : b = o + 24) (j : Fin 1024) (k : Fin 128) :
    weights w (ix2 j ⟨o + k.val, by omega⟩) = w (ix2 j ⟨b + k.val, by omega⟩) := by
  have h := weights_mid w j ⟨o - 1280 + k.val, by omega⟩
  refine (congrArg (fun n => weights w (ix2 j n)) (Fin.ext ?_)).trans (h.trans (congrArg (fun n => w (ix2 j n)) (Fin.ext ?_)))
  · show o + k.val = 1280 + (o - 1280 + k.val); omega
  · show 1304 + (o - 1280 + k.val) = b + k.val; omega

/-- A staged product's column. -/
theorem column (t : Fin cfg0.N) (r : Fin 256) (n : Fin 16384) (hn : n.val = 256 * t.val + r.val) (q : Fin 3456) (p : Fin 6424)
    (hw : ∀ j : Fin 1024, weights (Wi m c) (ix2 j q) = Wi m c (ix2 j p)) :
    (∑ j, Merge.norm 0x44800000#32 (fun k => (iblk m c 0 t : FVec Ideal S256x1024 .f32) (ix2 r k)) (fun k => (iblk m c 1 t : FVec Ideal S1x1024 .f32) (ix2 0 k)) j
        * (iblk m c 2 t : FVec Ideal S1024x3456 .bf16) (ix2 j q) : EReal) = En m c n p := by
  unfold En Proj.entry
  rw [funext fun k => blk_x m c t r k n hn, funext fun k => blk_g m c t k]
  exact Finset.sum_congr rfl fun j _ => by rw [blk_w, hw]

/-- A normalized and turned chunk. -/
theorem chunk_norm (t : Fin cfg0.N) (r : Fin 256) (n : Fin 16384) (p : Fin 8192) (hn : n.val = 256 * t.val + r.val) (hp : p.val = n.val % 8192)
    (o b : Nat) (ho : o + 128 ≤ 3456) (hb : b + 128 ≤ 6424) (gi : Fin 8)
    (hw : ∀ (j : Fin 1024) (k : Fin 128), weights (Wi m c) (ix2 j ⟨o + k.val, by omega⟩) = Wi m c (ix2 j ⟨b + k.val, by omega⟩))
    (hg : ∀ l : Fin 128, gains (Qk m c) (ix2 0 ⟨o + l.val, by omega⟩) = Qk m c (ix2 gi ⟨l.val % 64, by omega⟩))
    (hf : ∀ k : Fin 128, En m c n ⟨b + k.val, by omega⟩ ≠ ⊤ ∧ En m c n ⟨b + k.val, by omega⟩ ≠ ⊥) (l : Fin 128) :
    Proj.chunk (fun k => ∑ j, Merge.norm 0x44800000#32 (fun k => (iblk m c 0 t : FVec Ideal S256x1024 .f32) (ix2 r k)) (fun k => (iblk m c 1 t : FVec Ideal S1x1024 .f32) (ix2 0 k)) j
        * (iblk m c 2 t : FVec Ideal S1024x3456 .bf16) (ix2 j ⟨o + k.val, by omega⟩))
      (fun k l => (iblk m c 4 t : FVec Ideal S128x128 .bf16) (ix2 k l)) (fun l => (iblk m c 5 t : FVec Ideal S256x128 .f32) (ix2 r l))
      (fun l => (iblk m c 6 t : FVec Ideal S256x128 .f32) (ix2 r l)) (fun l => (iblk m c 7 t : FVec Ideal S256x128 .f32) (ix2 r l))
      (fun l => (iblk m c 3 t : FVec Ideal S1x3456 .f32) (ix2 0 ⟨o + l.val, by omega⟩)) l
      = Proj.rope (En m c n) (fun k => Qk m c (ix2 gi k)) p b hb l := by
  have hcol := fun k : Fin 128 => column m c t r n hn ⟨o + k.val, by omega⟩ ⟨b + k.val, by omega⟩ (fun j => hw j k)
  have hr : p.val = 256 * (t.val % 32) + r.val := by omega
  refine (Proj.chunk_turned _ _ _ _ _ _ (fun k => Qk m c (ix2 gi k)) (fun j => Ideal.cos (Proj.angle p j)) (fun j => Ideal.sin (Proj.angle p j))
    (fun k l => blk_e m c t k l) (fun l => (blk_C m c t r l p hr).trans (tableC_at p l)) (fun l => (blk_S m c t r l p hr).trans (tableS_at p l))
    (fun l => (blk_T m c t r l p hr).trans (tableT_at p l)) (fun l => (blk_q m c t _).trans (hg l))
    (fun k => by rw [hcol k]; exact hf k) l).trans ?_
  unfold Proj.rope Proj.head
  refine congrArg (fun y => Proj.turn _ _ (Merge.norm _ y _) _) (funext fun k => (hcol ⟨l.val / 64 * 64 + k.val, by omega⟩).trans (congrArg (En m c n) (Fin.ext ?_)))
  show b + (l.val / 64 * 64 + k.val) = b + l.val / 64 * 64 + k.val
  omega

/-- The gates' chunk. -/
theorem chunk_gate (t : Fin cfg0.N) (r : Fin 256) (n : Fin 16384) (hn : n.val = 256 * t.val + r.val) (l : Fin 128) :
    Ideal.logistic (∑ j, Merge.norm 0x44800000#32 (fun k => (iblk m c 0 t : FVec Ideal S256x1024 .f32) (ix2 r k)) (fun k => (iblk m c 1 t : FVec Ideal S1x1024 .f32) (ix2 0 k)) j
        * (iblk m c 2 t : FVec Ideal S1024x3456 .bf16) (ix2 j ⟨3328 + l.val, by omega⟩)) = Proj.gate (En m c n) l := by
  unfold Proj.gate
  refine congrArg Ideal.logistic ?_
  by_cases h : l.val < 24
  · rw [dif_pos h]
    exact column m c t r n hn _ _ (fun j => by rw [weights_gate, dif_pos h])
  · rw [dif_neg h]
    refine Finset.sum_eq_zero fun j _ => ?_
    rw [blk_w, weights_gate, dif_neg h, mul_zero]

/-! ## The arrays -/

theorem arr_8 (b : Fin 2) (q : Fin 512) (s : Fin 8192) (n : Fin 16384) (hn : n.val = b.val * 8192 + s.val) :
    ((dats m 0 c).arrAt 8 cfg0.N : FVec Ideal S2x512x8192 .f32) (ix3 b q s)
      = out0_8 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix3 0 q (lane n)) := by
  have e0 := (idx_8 (pt n)).1
  have e1 := (idx_8 (pt n)).2.1
  have e2 := (idx_8 (pt n)).2.2
  have hemb : ((cfg0.win 8).blk (pt n)).view.emb (ix3 0 q (lane n)) = (ix3 b q s : S2x512x8192.Idx) :=
    funext fun a => Fin.ext (by
      match a with
      | ⟨0, _⟩ => show win0_8.index (pt n) (0 : Fin 3) * 1 + 1 * 0 = b.val; rw [e0]; show n.val / 256 / 32 * 1 + 1 * 0 = b.val; omega
      | ⟨1, _⟩ => show win0_8.index (pt n) (1 : Fin 3) * 512 + 1 * q.val = q.val; rw [e1]; omega
      | ⟨2, _⟩ => show win0_8.index (pt n) (2 : Fin 3) * 256 + 1 * (n.val % 256) = s.val; rw [e2]; show n.val / 256 % 32 * 256 + 1 * (n.val % 256) = s.val; omega)
  have h := congrFun (Value.blocks8 m c (pt n) (flush0_8 _)) (ix3 0 q (lane n))
  rw [Value.flushed8] at h
  refine Eq.trans ?_ h
  exact congrArg ((dats m 0 c).arrAt 8 cfg0.N) hemb.symm
theorem arr_9 (b : Fin 2) (q : Fin 256) (s : Fin 8192) (n : Fin 16384) (hn : n.val = b.val * 8192 + s.val) :
    ((dats m 0 c).arrAt 9 cfg0.N : FVec Ideal S2x256x8192 .f32) (ix3 b q s)
      = out0_9 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix3 0 q (lane n)) := by
  have e0 := (idx_9 (pt n)).1
  have e1 := (idx_9 (pt n)).2.1
  have e2 := (idx_9 (pt n)).2.2
  have hemb : ((cfg0.win 9).blk (pt n)).view.emb (ix3 0 q (lane n)) = (ix3 b q s : S2x256x8192.Idx) :=
    funext fun a => Fin.ext (by
      match a with
      | ⟨0, _⟩ => show win0_9.index (pt n) (0 : Fin 3) * 1 + 1 * 0 = b.val; rw [e0]; show n.val / 256 / 32 * 1 + 1 * 0 = b.val; omega
      | ⟨1, _⟩ => show win0_9.index (pt n) (1 : Fin 3) * 256 + 1 * q.val = q.val; rw [e1]; omega
      | ⟨2, _⟩ => show win0_9.index (pt n) (2 : Fin 3) * 256 + 1 * (n.val % 256) = s.val; rw [e2]; show n.val / 256 % 32 * 256 + 1 * (n.val % 256) = s.val; omega)
  have h := congrFun (Value.blocks9 m c (pt n) (flush0_9 _)) (ix3 0 q (lane n))
  rw [Value.flushed9] at h
  refine Eq.trans ?_ h
  exact congrArg ((dats m 0 c).arrAt 9 cfg0.N) hemb.symm
theorem arr_10 (n : Fin 16384) (q : Fin 512) :
    ((dats m 0 c).arrAt 10 cfg0.N : FVec Ideal S16384x512 .f32) (ix2 n q)
      = out0_10 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_10 (pt n)).1
  have e1 := (idx_10 (pt n)).2
  have hemb : ((cfg0.win 10).blk (pt n)).view.emb (ix2 (lane n) q) = (ix2 n q : S16384x512.Idx) :=
    funext fun a => Fin.ext (by
      match a with
      | ⟨0, _⟩ => show win0_10.index (pt n) (0 : Fin 2) * 256 + 1 * (n.val % 256) = n.val; rw [e0]; show n.val / 256 * 256 + 1 * (n.val % 256) = n.val; omega
      | ⟨1, _⟩ => show win0_10.index (pt n) (1 : Fin 2) * 512 + 1 * q.val = q.val; rw [e1]; omega)
  have h := congrFun (Value.blocks10 m c (pt n) (flush0_10 _)) (ix2 (lane n) q)
  rw [Value.flushed10] at h
  refine Eq.trans ?_ h
  exact congrArg ((dats m 0 c).arrAt 10 cfg0.N) hemb.symm
theorem arr_11 (b : Fin 2) (q : Fin 512) (s : Fin 8192) (n : Fin 16384) (hn : n.val = b.val * 8192 + s.val) :
    ((dats m 0 c).arrAt 11 cfg0.N : FVec Ideal S2x512x8192 .f32) (ix3 b q s)
      = out0_11 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix3 0 q (lane n)) := by
  have e0 := (idx_11 (pt n)).1
  have e1 := (idx_11 (pt n)).2.1
  have e2 := (idx_11 (pt n)).2.2
  have hemb : ((cfg0.win 11).blk (pt n)).view.emb (ix3 0 q (lane n)) = (ix3 b q s : S2x512x8192.Idx) :=
    funext fun a => Fin.ext (by
      match a with
      | ⟨0, _⟩ => show win0_11.index (pt n) (0 : Fin 3) * 1 + 1 * 0 = b.val; rw [e0]; show n.val / 256 / 32 * 1 + 1 * 0 = b.val; omega
      | ⟨1, _⟩ => show win0_11.index (pt n) (1 : Fin 3) * 512 + 1 * q.val = q.val; rw [e1]; omega
      | ⟨2, _⟩ => show win0_11.index (pt n) (2 : Fin 3) * 256 + 1 * (n.val % 256) = s.val; rw [e2]; show n.val / 256 % 32 * 256 + 1 * (n.val % 256) = s.val; omega)
  have h := congrFun (Value.blocks11 m c (pt n) (flush0_11 _)) (ix3 0 q (lane n))
  rw [Value.flushed11] at h
  refine Eq.trans ?_ h
  exact congrArg ((dats m 0 c).arrAt 11 cfg0.N) hemb.symm
theorem arr_12 (n : Fin 16384) (q : Fin 512) :
    ((dats m 0 c).arrAt 12 cfg0.N : FVec Ideal S16384x512 .f32) (ix2 n q)
      = out0_12 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_12 (pt n)).1
  have e1 := (idx_12 (pt n)).2
  have hemb : ((cfg0.win 12).blk (pt n)).view.emb (ix2 (lane n) q) = (ix2 n q : S16384x512.Idx) :=
    funext fun a => Fin.ext (by
      match a with
      | ⟨0, _⟩ => show win0_12.index (pt n) (0 : Fin 2) * 256 + 1 * (n.val % 256) = n.val; rw [e0]; show n.val / 256 * 256 + 1 * (n.val % 256) = n.val; omega
      | ⟨1, _⟩ => show win0_12.index (pt n) (1 : Fin 2) * 512 + 1 * q.val = q.val; rw [e1]; omega)
  have h := congrFun (Value.blocks12 m c (pt n) (flush0_12 _)) (ix2 (lane n) q)
  rw [Value.flushed12] at h
  refine Eq.trans ?_ h
  exact congrArg ((dats m 0 c).arrAt 12 cfg0.N) hemb.symm
theorem arr_13 (n : Fin 16384) (q : Fin 512) :
    ((dats m 0 c).arrAt 13 cfg0.N : FVec Ideal S16384x512 .f32) (ix2 n q)
      = out0_13 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_13 (pt n)).1
  have e1 := (idx_13 (pt n)).2
  have hemb : ((cfg0.win 13).blk (pt n)).view.emb (ix2 (lane n) q) = (ix2 n q : S16384x512.Idx) :=
    funext fun a => Fin.ext (by
      match a with
      | ⟨0, _⟩ => show win0_13.index (pt n) (0 : Fin 2) * 256 + 1 * (n.val % 256) = n.val; rw [e0]; show n.val / 256 * 256 + 1 * (n.val % 256) = n.val; omega
      | ⟨1, _⟩ => show win0_13.index (pt n) (1 : Fin 2) * 512 + 1 * q.val = q.val; rw [e1]; omega)
  have h := congrFun (Value.blocks13 m c (pt n) (flush0_13 _)) (ix2 (lane n) q)
  rw [Value.flushed13] at h
  refine Eq.trans ?_ h
  exact congrArg ((dats m 0 c).arrAt 13 cfg0.N) hemb.symm
theorem arr_14 (n : Fin 16384) (q : Fin 256) :
    ((dats m 0 c).arrAt 14 cfg0.N : FVec Ideal S16384x256 .f32) (ix2 n q)
      = out0_14 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_14 (pt n)).1
  have e1 := (idx_14 (pt n)).2
  have hemb : ((cfg0.win 14).blk (pt n)).view.emb (ix2 (lane n) q) = (ix2 n q : S16384x256.Idx) :=
    funext fun a => Fin.ext (by
      match a with
      | ⟨0, _⟩ => show win0_14.index (pt n) (0 : Fin 2) * 256 + 1 * (n.val % 256) = n.val; rw [e0]; show n.val / 256 * 256 + 1 * (n.val % 256) = n.val; omega
      | ⟨1, _⟩ => show win0_14.index (pt n) (1 : Fin 2) * 256 + 1 * q.val = q.val; rw [e1]; omega)
  have h := congrFun (Value.blocks14 m c (pt n) (flush0_14 _)) (ix2 (lane n) q)
  rw [Value.flushed14] at h
  refine Eq.trans ?_ h
  exact congrArg ((dats m 0 c).arrAt 14 cfg0.N) hemb.symm
theorem arr_15 (n : Fin 16384) (q : Fin 512) :
    ((dats m 0 c).arrAt 15 cfg0.N : FVec Ideal S16384x512 .f32) (ix2 n q)
      = out0_15 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_15 (pt n)).1
  have e1 := (idx_15 (pt n)).2
  have hemb : ((cfg0.win 15).blk (pt n)).view.emb (ix2 (lane n) q) = (ix2 n q : S16384x512.Idx) :=
    funext fun a => Fin.ext (by
      match a with
      | ⟨0, _⟩ => show win0_15.index (pt n) (0 : Fin 2) * 256 + 1 * (n.val % 256) = n.val; rw [e0]; show n.val / 256 * 256 + 1 * (n.val % 256) = n.val; omega
      | ⟨1, _⟩ => show win0_15.index (pt n) (1 : Fin 2) * 512 + 1 * q.val = q.val; rw [e1]; omega)
  have h := congrFun (Value.blocks15 m c (pt n) (flush0_15 _)) (ix2 (lane n) q)
  rw [Value.flushed15] at h
  refine Eq.trans ?_ h
  exact congrArg ((dats m 0 c).arrAt 15 cfg0.N) hemb.symm
theorem arr_16 (n : Fin 16384) (q : Fin 512) :
    ((dats m 0 c).arrAt 16 cfg0.N : FVec Ideal S16384x512 .f32) (ix2 n q)
      = out0_16 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_16 (pt n)).1
  have e1 := (idx_16 (pt n)).2
  have hemb : ((cfg0.win 16).blk (pt n)).view.emb (ix2 (lane n) q) = (ix2 n q : S16384x512.Idx) :=
    funext fun a => Fin.ext (by
      match a with
      | ⟨0, _⟩ => show win0_16.index (pt n) (0 : Fin 2) * 256 + 1 * (n.val % 256) = n.val; rw [e0]; show n.val / 256 * 256 + 1 * (n.val % 256) = n.val; omega
      | ⟨1, _⟩ => show win0_16.index (pt n) (1 : Fin 2) * 512 + 1 * q.val = q.val; rw [e1]; omega)
  have h := congrFun (Value.blocks16 m c (pt n) (flush0_16 _)) (ix2 (lane n) q)
  rw [Value.flushed16] at h
  refine Eq.trans ?_ h
  exact congrArg ((dats m 0 c).arrAt 16 cfg0.N) hemb.symm
theorem arr_17 (n : Fin 16384) (q : Fin 512) :
    ((dats m 0 c).arrAt 17 cfg0.N : FVec Ideal S16384x512 .f32) (ix2 n q)
      = out0_17 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_17 (pt n)).1
  have e1 := (idx_17 (pt n)).2
  have hemb : ((cfg0.win 17).blk (pt n)).view.emb (ix2 (lane n) q) = (ix2 n q : S16384x512.Idx) :=
    funext fun a => Fin.ext (by
      match a with
      | ⟨0, _⟩ => show win0_17.index (pt n) (0 : Fin 2) * 256 + 1 * (n.val % 256) = n.val; rw [e0]; show n.val / 256 * 256 + 1 * (n.val % 256) = n.val; omega
      | ⟨1, _⟩ => show win0_17.index (pt n) (1 : Fin 2) * 512 + 1 * q.val = q.val; rw [e1]; omega)
  have h := congrFun (Value.blocks17 m c (pt n) (flush0_17 _)) (ix2 (lane n) q)
  rw [Value.flushed17] at h
  refine Eq.trans ?_ h
  exact congrArg ((dats m 0 c).arrAt 17 cfg0.N) hemb.symm
theorem arr_18 (n : Fin 16384) (q : Fin 512) :
    ((dats m 0 c).arrAt 18 cfg0.N : FVec Ideal S16384x512 .f32) (ix2 n q)
      = out0_18 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_18 (pt n)).1
  have e1 := (idx_18 (pt n)).2
  have hemb : ((cfg0.win 18).blk (pt n)).view.emb (ix2 (lane n) q) = (ix2 n q : S16384x512.Idx) :=
    funext fun a => Fin.ext (by
      match a with
      | ⟨0, _⟩ => show win0_18.index (pt n) (0 : Fin 2) * 256 + 1 * (n.val % 256) = n.val; rw [e0]; show n.val / 256 * 256 + 1 * (n.val % 256) = n.val; omega
      | ⟨1, _⟩ => show win0_18.index (pt n) (1 : Fin 2) * 512 + 1 * q.val = q.val; rw [e1]; omega)
  have h := congrFun (Value.blocks18 m c (pt n) (flush0_18 _)) (ix2 (lane n) q)
  rw [Value.flushed18] at h
  refine Eq.trans ?_ h
  exact congrArg ((dats m 0 c).arrAt 18 cfg0.N) hemb.symm
theorem arr_19 (n : Fin 16384) (q : Fin 128) :
    ((dats m 0 c).arrAt 19 cfg0.N : FVec Ideal S16384x128 .f32) (ix2 n q)
      = out0_19 (F := Ideal) (iblk m c 0 (pt n)) (iblk m c 1 (pt n)) (iblk m c 2 (pt n)) (iblk m c 3 (pt n)) (iblk m c 4 (pt n)) (iblk m c 5 (pt n)) (iblk m c 6 (pt n)) (iblk m c 7 (pt n)) (ix2 (lane n) q) := by
  have e0 := (idx_19 (pt n)).1
  have e1 := (idx_19 (pt n)).2
  have hemb : ((cfg0.win 19).blk (pt n)).view.emb (ix2 (lane n) q) = (ix2 n q : S16384x128.Idx) :=
    funext fun a => Fin.ext (by
      match a with
      | ⟨0, _⟩ => show win0_19.index (pt n) (0 : Fin 2) * 256 + 1 * (n.val % 256) = n.val; rw [e0]; show n.val / 256 * 256 + 1 * (n.val % 256) = n.val; omega
      | ⟨1, _⟩ => show win0_19.index (pt n) (1 : Fin 2) * 128 + 1 * q.val = q.val; rw [e1]; omega)
  have h := congrFun (Value.blocks19 m c (pt n) (flush0_19 _)) (ix2 (lane n) q)
  rw [Value.flushed19] at h
  refine Eq.trans ?_ h
  exact congrArg ((dats m 0 c).arrAt 19 cfg0.N) hemb.symm

/-! ## Their lanes -/

/-- The columns of the product that the call computes are finite. -/
abbrev Finite : Prop := ∀ (n : Fin 16384) (j : Fin 6424), j.val < 3352 → En m c n j ≠ ⊤ ∧ En m c n j ≠ ⊥

theorem res_8_0 (hf : Finite m c) (b : Fin 2) (q : Fin 512) (s : Fin 8192) (l : Fin 128) (hq : q.val = 0 + l.val) :
    ((dats m 0 c).arrAt 8 cfg0.N : FVec Ideal S2x512x8192 .f32) (ix3 b q s) = Proj.rope (En m c (⟨b.val * 8192 + s.val, by omega⟩ : Fin 16384)) (fun k => Qk m c (ix2 1 k)) s 512 (by omega) l :=
  (arr_8 m c b q s (⟨b.val * 8192 + s.val, by omega⟩ : Fin 16384) rfl).trans ((out_8_0 _ _ _ _ _ _ _ _ _ q l (by omega)).trans (chunk_norm m c _ _ (⟨b.val * 8192 + s.val, by omega⟩ : Fin 16384) s (by show b.val * 8192 + s.val = 256 * ((b.val * 8192 + s.val) / 256) + (b.val * 8192 + s.val) % 256; omega) (by show s.val = (b.val * 8192 + s.val) % 8192; omega) 512 512 (by omega) (by omega) 1 (weights_first _ 512 (by omega)) (gains_4 _) (fun k => hf (⟨b.val * 8192 + s.val, by omega⟩ : Fin 16384) _ (by show 512 + k.val < 3352; omega)) l))
theorem res_8_1 (b : Fin 2) (q : Fin 512) (s : Fin 8192) (l : Fin 128) (hq : q.val = 128 + l.val) :
    ((dats m 0 c).arrAt 8 cfg0.N : FVec Ideal S2x512x8192 .f32) (ix3 b q s) = En m c (⟨b.val * 8192 + s.val, by omega⟩ : Fin 16384) ⟨640 + l.val, by omega⟩ :=
  (arr_8 m c b q s (⟨b.val * 8192 + s.val, by omega⟩ : Fin 16384) rfl).trans ((out_8_1 _ _ _ _ _ _ _ _ _ q l hq).trans (column m c _ _ (⟨b.val * 8192 + s.val, by omega⟩ : Fin 16384) (by show b.val * 8192 + s.val = 256 * ((b.val * 8192 + s.val) / 256) + (b.val * 8192 + s.val) % 256; omega) _ _ (fun j => weights_first _ 640 (by omega) j l)))
theorem res_8_2 (hf : Finite m c) (b : Fin 2) (q : Fin 512) (s : Fin 8192) (l : Fin 128) (hq : q.val = 256 + l.val) :
    ((dats m 0 c).arrAt 8 cfg0.N : FVec Ideal S2x512x8192 .f32) (ix3 b q s) = Proj.rope (En m c (⟨b.val * 8192 + s.val, by omega⟩ : Fin 16384)) (fun k => Qk m c (ix2 2 k)) s 768 (by omega) l :=
  (arr_8 m c b q s (⟨b.val * 8192 + s.val, by omega⟩ : Fin 16384) rfl).trans ((out_8_2 _ _ _ _ _ _ _ _ _ q l hq).trans (chunk_norm m c _ _ (⟨b.val * 8192 + s.val, by omega⟩ : Fin 16384) s (by show b.val * 8192 + s.val = 256 * ((b.val * 8192 + s.val) / 256) + (b.val * 8192 + s.val) % 256; omega) (by show s.val = (b.val * 8192 + s.val) % 8192; omega) 768 768 (by omega) (by omega) 2 (weights_first _ 768 (by omega)) (gains_6 _) (fun k => hf (⟨b.val * 8192 + s.val, by omega⟩ : Fin 16384) _ (by show 768 + k.val < 3352; omega)) l))
theorem res_8_3 (b : Fin 2) (q : Fin 512) (s : Fin 8192) (l : Fin 128) (hq : q.val = 384 + l.val) :
    ((dats m 0 c).arrAt 8 cfg0.N : FVec Ideal S2x512x8192 .f32) (ix3 b q s) = En m c (⟨b.val * 8192 + s.val, by omega⟩ : Fin 16384) ⟨896 + l.val, by omega⟩ :=
  (arr_8 m c b q s (⟨b.val * 8192 + s.val, by omega⟩ : Fin 16384) rfl).trans ((out_8_3 _ _ _ _ _ _ _ _ _ q l hq).trans (column m c _ _ (⟨b.val * 8192 + s.val, by omega⟩ : Fin 16384) (by show b.val * 8192 + s.val = 256 * ((b.val * 8192 + s.val) / 256) + (b.val * 8192 + s.val) % 256; omega) _ _ (fun j => weights_first _ 896 (by omega) j l)))
theorem res_9_0 (hf : Finite m c) (b : Fin 2) (q : Fin 256) (s : Fin 8192) (l : Fin 128) (hq : q.val = 0 + l.val) :
    ((dats m 0 c).arrAt 9 cfg0.N : FVec Ideal S2x256x8192 .f32) (ix3 b q s) = Proj.rope (En m c (⟨b.val * 8192 + s.val, by omega⟩ : Fin 16384)) (fun k => Qk m c (ix2 3 k)) s 1024 (by omega) l :=
  (arr_9 m c b q s (⟨b.val * 8192 + s.val, by omega⟩ : Fin 16384) rfl).trans ((out_9_0 _ _ _ _ _ _ _ _ _ q l (by omega)).trans (chunk_norm m c _ _ (⟨b.val * 8192 + s.val, by omega⟩ : Fin 16384) s (by show b.val * 8192 + s.val = 256 * ((b.val * 8192 + s.val) / 256) + (b.val * 8192 + s.val) % 256; omega) (by show s.val = (b.val * 8192 + s.val) % 8192; omega) 1024 1024 (by omega) (by omega) 3 (weights_first _ 1024 (by omega)) (gains_8 _) (fun k => hf (⟨b.val * 8192 + s.val, by omega⟩ : Fin 16384) _ (by show 1024 + k.val < 3352; omega)) l))
theorem res_9_1 (b : Fin 2) (q : Fin 256) (s : Fin 8192) (l : Fin 128) (hq : q.val = 128 + l.val) :
    ((dats m 0 c).arrAt 9 cfg0.N : FVec Ideal S2x256x8192 .f32) (ix3 b q s) = En m c (⟨b.val * 8192 + s.val, by omega⟩ : Fin 16384) ⟨1152 + l.val, by omega⟩ :=
  (arr_9 m c b q s (⟨b.val * 8192 + s.val, by omega⟩ : Fin 16384) rfl).trans ((out_9_1 _ _ _ _ _ _ _ _ _ q l hq).trans (column m c _ _ (⟨b.val * 8192 + s.val, by omega⟩ : Fin 16384) (by show b.val * 8192 + s.val = 256 * ((b.val * 8192 + s.val) / 256) + (b.val * 8192 + s.val) % 256; omega) _ _ (fun j => weights_first _ 1152 (by omega) j l)))
theorem res_10_0 (hf : Finite m c) (n : Fin 16384) (q : Fin 512) (l : Fin 128) (hq : q.val = 0 + l.val) :
    ((dats m 0 c).arrAt 10 cfg0.N : FVec Ideal S16384x512 .f32) (ix2 n q) = Proj.rope (En m c n) (fun k => Qk m c (ix2 5 k)) ⟨n.val % 8192, by omega⟩ 1816 (by omega) l :=
  (arr_10 m c n q).trans ((out_10_0 _ _ _ _ _ _ _ _ _ q l (by omega)).trans (chunk_norm m c _ _ n ⟨n.val % 8192, by omega⟩ (by show n.val = 256 * (n.val / 256) + n.val % 256; omega) rfl 1792 1816 (by omega) (by omega) 5 (weights_second _ 1792 1816 (by omega) (by omega) rfl) (gains_14 _) (fun k => hf n _ (by show 1816 + k.val < 3352; omega)) l))
theorem res_10_1 (hf : Finite m c) (n : Fin 16384) (q : Fin 512) (l : Fin 128) (hq : q.val = 128 + l.val) :
    ((dats m 0 c).arrAt 10 cfg0.N : FVec Ideal S16384x512 .f32) (ix2 n q) = Proj.rope (En m c n) (fun k => Qk m c (ix2 5 k)) ⟨n.val % 8192, by omega⟩ 1944 (by omega) l :=
  (arr_10 m c n q).trans ((out_10_1 _ _ _ _ _ _ _ _ _ q l hq).trans (chunk_norm m c _ _ n ⟨n.val % 8192, by omega⟩ (by show n.val = 256 * (n.val / 256) + n.val % 256; omega) rfl 1920 1944 (by omega) (by omega) 5 (weights_second _ 1920 1944 (by omega) (by omega) rfl) (gains_15 _) (fun k => hf n _ (by show 1944 + k.val < 3352; omega)) l))
theorem res_10_2 (n : Fin 16384) (q : Fin 512) (l : Fin 128) (hq : q.val = 256 + l.val) :
    ((dats m 0 c).arrAt 10 cfg0.N : FVec Ideal S16384x512 .f32) (ix2 n q) = En m c n ⟨2072 + l.val, by omega⟩ :=
  (arr_10 m c n q).trans ((out_10_2 _ _ _ _ _ _ _ _ _ q l hq).trans (column m c _ _ n (by show n.val = 256 * (n.val / 256) + n.val % 256; omega) _ _ (fun j => weights_second _ 2048 2072 (by omega) (by omega) rfl j l)))
theorem res_10_3 (n : Fin 16384) (q : Fin 512) (l : Fin 128) (hq : q.val = 384 + l.val) :
    ((dats m 0 c).arrAt 10 cfg0.N : FVec Ideal S16384x512 .f32) (ix2 n q) = En m c n ⟨2200 + l.val, by omega⟩ :=
  (arr_10 m c n q).trans ((out_10_3 _ _ _ _ _ _ _ _ _ q l hq).trans (column m c _ _ n (by show n.val = 256 * (n.val / 256) + n.val % 256; omega) _ _ (fun j => weights_second _ 2176 2200 (by omega) (by omega) rfl j l)))
theorem res_11_0 (hf : Finite m c) (b : Fin 2) (q : Fin 512) (s : Fin 8192) (l : Fin 128) (hq : q.val = 0 + l.val) :
    ((dats m 0 c).arrAt 11 cfg0.N : FVec Ideal S2x512x8192 .f32) (ix3 b q s) = Proj.rope (En m c (⟨b.val * 8192 + s.val, by omega⟩ : Fin 16384)) (fun k => Qk m c (ix2 7 k)) s 2840 (by omega) l :=
  (arr_11 m c b q s (⟨b.val * 8192 + s.val, by omega⟩ : Fin 16384) rfl).trans ((out_11_0 _ _ _ _ _ _ _ _ _ q l (by omega)).trans (chunk_norm m c _ _ (⟨b.val * 8192 + s.val, by omega⟩ : Fin 16384) s (by show b.val * 8192 + s.val = 256 * ((b.val * 8192 + s.val) / 256) + (b.val * 8192 + s.val) % 256; omega) (by show s.val = (b.val * 8192 + s.val) % 8192; omega) 2816 2840 (by omega) (by omega) 7 (weights_second _ 2816 2840 (by omega) (by omega) rfl) (gains_22 _) (fun k => hf (⟨b.val * 8192 + s.val, by omega⟩ : Fin 16384) _ (by show 2840 + k.val < 3352; omega)) l))
theorem res_11_1 (hf : Finite m c) (b : Fin 2) (q : Fin 512) (s : Fin 8192) (l : Fin 128) (hq : q.val = 128 + l.val) :
    ((dats m 0 c).arrAt 11 cfg0.N : FVec Ideal S2x512x8192 .f32) (ix3 b q s) = Proj.rope (En m c (⟨b.val * 8192 + s.val, by omega⟩ : Fin 16384)) (fun k => Qk m c (ix2 7 k)) s 2968 (by omega) l :=
  (arr_11 m c b q s (⟨b.val * 8192 + s.val, by omega⟩ : Fin 16384) rfl).trans ((out_11_1 _ _ _ _ _ _ _ _ _ q l hq).trans (chunk_norm m c _ _ (⟨b.val * 8192 + s.val, by omega⟩ : Fin 16384) s (by show b.val * 8192 + s.val = 256 * ((b.val * 8192 + s.val) / 256) + (b.val * 8192 + s.val) % 256; omega) (by show s.val = (b.val * 8192 + s.val) % 8192; omega) 2944 2968 (by omega) (by omega) 7 (weights_second _ 2944 2968 (by omega) (by omega) rfl) (gains_23 _) (fun k => hf (⟨b.val * 8192 + s.val, by omega⟩ : Fin 16384) _ (by show 2968 + k.val < 3352; omega)) l))
theorem res_11_2 (b : Fin 2) (q : Fin 512) (s : Fin 8192) (l : Fin 128) (hq : q.val = 256 + l.val) :
    ((dats m 0 c).arrAt 11 cfg0.N : FVec Ideal S2x512x8192 .f32) (ix3 b q s) = En m c (⟨b.val * 8192 + s.val, by omega⟩ : Fin 16384) ⟨3096 + l.val, by omega⟩ :=
  (arr_11 m c b q s (⟨b.val * 8192 + s.val, by omega⟩ : Fin 16384) rfl).trans ((out_11_2 _ _ _ _ _ _ _ _ _ q l hq).trans (column m c _ _ (⟨b.val * 8192 + s.val, by omega⟩ : Fin 16384) (by show b.val * 8192 + s.val = 256 * ((b.val * 8192 + s.val) / 256) + (b.val * 8192 + s.val) % 256; omega) _ _ (fun j => weights_second _ 3072 3096 (by omega) (by omega) rfl j l)))
theorem res_11_3 (b : Fin 2) (q : Fin 512) (s : Fin 8192) (l : Fin 128) (hq : q.val = 384 + l.val) :
    ((dats m 0 c).arrAt 11 cfg0.N : FVec Ideal S2x512x8192 .f32) (ix3 b q s) = En m c (⟨b.val * 8192 + s.val, by omega⟩ : Fin 16384) ⟨3224 + l.val, by omega⟩ :=
  (arr_11 m c b q s (⟨b.val * 8192 + s.val, by omega⟩ : Fin 16384) rfl).trans ((out_11_3 _ _ _ _ _ _ _ _ _ q l hq).trans (column m c _ _ (⟨b.val * 8192 + s.val, by omega⟩ : Fin 16384) (by show b.val * 8192 + s.val = 256 * ((b.val * 8192 + s.val) / 256) + (b.val * 8192 + s.val) % 256; omega) _ _ (fun j => weights_second _ 3200 3224 (by omega) (by omega) rfl j l)))
theorem res_12_0 (hf : Finite m c) (n : Fin 16384) (q : Fin 512) (l : Fin 128) (hq : q.val = 0 + l.val) :
    ((dats m 0 c).arrAt 12 cfg0.N : FVec Ideal S16384x512 .f32) (ix2 n q) = Proj.rope (En m c n) (fun k => Qk m c (ix2 0 k)) ⟨n.val % 8192, by omega⟩ 0 (by omega) l :=
  (arr_12 m c n q).trans ((out_12_0 _ _ _ _ _ _ _ _ _ q l (by omega)).trans (chunk_norm m c _ _ n ⟨n.val % 8192, by omega⟩ (by show n.val = 256 * (n.val / 256) + n.val % 256; omega) rfl 0 0 (by omega) (by omega) 0 (weights_first _ 0 (by omega)) (gains_0 _) (fun k => hf n _ (by show 0 + k.val < 3352; omega)) l))
theorem res_12_1 (hf : Finite m c) (n : Fin 16384) (q : Fin 512) (l : Fin 128) (hq : q.val = 128 + l.val) :
    ((dats m 0 c).arrAt 12 cfg0.N : FVec Ideal S16384x512 .f32) (ix2 n q) = Proj.rope (En m c n) (fun k => Qk m c (ix2 0 k)) ⟨n.val % 8192, by omega⟩ 128 (by omega) l :=
  (arr_12 m c n q).trans ((out_12_1 _ _ _ _ _ _ _ _ _ q l hq).trans (chunk_norm m c _ _ n ⟨n.val % 8192, by omega⟩ (by show n.val = 256 * (n.val / 256) + n.val % 256; omega) rfl 128 128 (by omega) (by omega) 0 (weights_first _ 128 (by omega)) (gains_1 _) (fun k => hf n _ (by show 128 + k.val < 3352; omega)) l))
theorem res_12_2 (hf : Finite m c) (n : Fin 16384) (q : Fin 512) (l : Fin 128) (hq : q.val = 256 + l.val) :
    ((dats m 0 c).arrAt 12 cfg0.N : FVec Ideal S16384x512 .f32) (ix2 n q) = Proj.rope (En m c n) (fun k => Qk m c (ix2 0 k)) ⟨n.val % 8192, by omega⟩ 256 (by omega) l :=
  (arr_12 m c n q).trans ((out_12_2 _ _ _ _ _ _ _ _ _ q l hq).trans (chunk_norm m c _ _ n ⟨n.val % 8192, by omega⟩ (by show n.val = 256 * (n.val / 256) + n.val % 256; omega) rfl 256 256 (by omega) (by omega) 0 (weights_first _ 256 (by omega)) (gains_2 _) (fun k => hf n _ (by show 256 + k.val < 3352; omega)) l))
theorem res_12_3 (hf : Finite m c) (n : Fin 16384) (q : Fin 512) (l : Fin 128) (hq : q.val = 384 + l.val) :
    ((dats m 0 c).arrAt 12 cfg0.N : FVec Ideal S16384x512 .f32) (ix2 n q) = Proj.rope (En m c n) (fun k => Qk m c (ix2 0 k)) ⟨n.val % 8192, by omega⟩ 384 (by omega) l :=
  (arr_12 m c n q).trans ((out_12_3 _ _ _ _ _ _ _ _ _ q l hq).trans (chunk_norm m c _ _ n ⟨n.val % 8192, by omega⟩ (by show n.val = 256 * (n.val / 256) + n.val % 256; omega) rfl 384 384 (by omega) (by omega) 0 (weights_first _ 384 (by omega)) (gains_3 _) (fun k => hf n _ (by show 384 + k.val < 3352; omega)) l))
theorem res_13_0 (hf : Finite m c) (n : Fin 16384) (q : Fin 512) (l : Fin 128) (hq : q.val = 0 + l.val) :
    ((dats m 0 c).arrAt 13 cfg0.N : FVec Ideal S16384x512 .f32) (ix2 n q) = Proj.rope (En m c n) (fun k => Qk m c (ix2 1 k)) ⟨n.val % 8192, by omega⟩ 512 (by omega) l :=
  (arr_13 m c n q).trans ((out_13_0 _ _ _ _ _ _ _ _ _ q l (by omega)).trans (chunk_norm m c _ _ n ⟨n.val % 8192, by omega⟩ (by show n.val = 256 * (n.val / 256) + n.val % 256; omega) rfl 512 512 (by omega) (by omega) 1 (weights_first _ 512 (by omega)) (gains_4 _) (fun k => hf n _ (by show 512 + k.val < 3352; omega)) l))
theorem res_13_1 (n : Fin 16384) (q : Fin 512) (l : Fin 128) (hq : q.val = 128 + l.val) :
    ((dats m 0 c).arrAt 13 cfg0.N : FVec Ideal S16384x512 .f32) (ix2 n q) = En m c n ⟨640 + l.val, by omega⟩ :=
  (arr_13 m c n q).trans ((out_13_1 _ _ _ _ _ _ _ _ _ q l hq).trans (column m c _ _ n (by show n.val = 256 * (n.val / 256) + n.val % 256; omega) _ _ (fun j => weights_first _ 640 (by omega) j l)))
theorem res_13_2 (hf : Finite m c) (n : Fin 16384) (q : Fin 512) (l : Fin 128) (hq : q.val = 256 + l.val) :
    ((dats m 0 c).arrAt 13 cfg0.N : FVec Ideal S16384x512 .f32) (ix2 n q) = Proj.rope (En m c n) (fun k => Qk m c (ix2 2 k)) ⟨n.val % 8192, by omega⟩ 768 (by omega) l :=
  (arr_13 m c n q).trans ((out_13_2 _ _ _ _ _ _ _ _ _ q l hq).trans (chunk_norm m c _ _ n ⟨n.val % 8192, by omega⟩ (by show n.val = 256 * (n.val / 256) + n.val % 256; omega) rfl 768 768 (by omega) (by omega) 2 (weights_first _ 768 (by omega)) (gains_6 _) (fun k => hf n _ (by show 768 + k.val < 3352; omega)) l))
theorem res_13_3 (n : Fin 16384) (q : Fin 512) (l : Fin 128) (hq : q.val = 384 + l.val) :
    ((dats m 0 c).arrAt 13 cfg0.N : FVec Ideal S16384x512 .f32) (ix2 n q) = En m c n ⟨896 + l.val, by omega⟩ :=
  (arr_13 m c n q).trans ((out_13_3 _ _ _ _ _ _ _ _ _ q l hq).trans (column m c _ _ n (by show n.val = 256 * (n.val / 256) + n.val % 256; omega) _ _ (fun j => weights_first _ 896 (by omega) j l)))
theorem res_14_0 (hf : Finite m c) (n : Fin 16384) (q : Fin 256) (l : Fin 128) (hq : q.val = 0 + l.val) :
    ((dats m 0 c).arrAt 14 cfg0.N : FVec Ideal S16384x256 .f32) (ix2 n q) = Proj.rope (En m c n) (fun k => Qk m c (ix2 3 k)) ⟨n.val % 8192, by omega⟩ 1024 (by omega) l :=
  (arr_14 m c n q).trans ((out_14_0 _ _ _ _ _ _ _ _ _ q l (by omega)).trans (chunk_norm m c _ _ n ⟨n.val % 8192, by omega⟩ (by show n.val = 256 * (n.val / 256) + n.val % 256; omega) rfl 1024 1024 (by omega) (by omega) 3 (weights_first _ 1024 (by omega)) (gains_8 _) (fun k => hf n _ (by show 1024 + k.val < 3352; omega)) l))
theorem res_14_1 (n : Fin 16384) (q : Fin 256) (l : Fin 128) (hq : q.val = 128 + l.val) :
    ((dats m 0 c).arrAt 14 cfg0.N : FVec Ideal S16384x256 .f32) (ix2 n q) = En m c n ⟨1152 + l.val, by omega⟩ :=
  (arr_14 m c n q).trans ((out_14_1 _ _ _ _ _ _ _ _ _ q l hq).trans (column m c _ _ n (by show n.val = 256 * (n.val / 256) + n.val % 256; omega) _ _ (fun j => weights_first _ 1152 (by omega) j l)))
theorem res_15_0 (hf : Finite m c) (n : Fin 16384) (q : Fin 512) (l : Fin 128) (hq : q.val = 0 + l.val) :
    ((dats m 0 c).arrAt 15 cfg0.N : FVec Ideal S16384x512 .f32) (ix2 n q) = Proj.rope (En m c n) (fun k => Qk m c (ix2 4 k)) ⟨n.val % 8192, by omega⟩ 1304 (by omega) l :=
  (arr_15 m c n q).trans ((out_15_0 _ _ _ _ _ _ _ _ _ q l (by omega)).trans (chunk_norm m c _ _ n ⟨n.val % 8192, by omega⟩ (by show n.val = 256 * (n.val / 256) + n.val % 256; omega) rfl 1280 1304 (by omega) (by omega) 4 (weights_second _ 1280 1304 (by omega) (by omega) rfl) (gains_10 _) (fun k => hf n _ (by show 1304 + k.val < 3352; omega)) l))
theorem res_15_1 (hf : Finite m c) (n : Fin 16384) (q : Fin 512) (l : Fin 128) (hq : q.val = 128 + l.val) :
    ((dats m 0 c).arrAt 15 cfg0.N : FVec Ideal S16384x512 .f32) (ix2 n q) = Proj.rope (En m c n) (fun k => Qk m c (ix2 4 k)) ⟨n.val % 8192, by omega⟩ 1432 (by omega) l :=
  (arr_15 m c n q).trans ((out_15_1 _ _ _ _ _ _ _ _ _ q l hq).trans (chunk_norm m c _ _ n ⟨n.val % 8192, by omega⟩ (by show n.val = 256 * (n.val / 256) + n.val % 256; omega) rfl 1408 1432 (by omega) (by omega) 4 (weights_second _ 1408 1432 (by omega) (by omega) rfl) (gains_11 _) (fun k => hf n _ (by show 1432 + k.val < 3352; omega)) l))
theorem res_15_2 (hf : Finite m c) (n : Fin 16384) (q : Fin 512) (l : Fin 128) (hq : q.val = 256 + l.val) :
    ((dats m 0 c).arrAt 15 cfg0.N : FVec Ideal S16384x512 .f32) (ix2 n q) = Proj.rope (En m c n) (fun k => Qk m c (ix2 4 k)) ⟨n.val % 8192, by omega⟩ 1560 (by omega) l :=
  (arr_15 m c n q).trans ((out_15_2 _ _ _ _ _ _ _ _ _ q l hq).trans (chunk_norm m c _ _ n ⟨n.val % 8192, by omega⟩ (by show n.val = 256 * (n.val / 256) + n.val % 256; omega) rfl 1536 1560 (by omega) (by omega) 4 (weights_second _ 1536 1560 (by omega) (by omega) rfl) (gains_12 _) (fun k => hf n _ (by show 1560 + k.val < 3352; omega)) l))
theorem res_15_3 (hf : Finite m c) (n : Fin 16384) (q : Fin 512) (l : Fin 128) (hq : q.val = 384 + l.val) :
    ((dats m 0 c).arrAt 15 cfg0.N : FVec Ideal S16384x512 .f32) (ix2 n q) = Proj.rope (En m c n) (fun k => Qk m c (ix2 4 k)) ⟨n.val % 8192, by omega⟩ 1688 (by omega) l :=
  (arr_15 m c n q).trans ((out_15_3 _ _ _ _ _ _ _ _ _ q l hq).trans (chunk_norm m c _ _ n ⟨n.val % 8192, by omega⟩ (by show n.val = 256 * (n.val / 256) + n.val % 256; omega) rfl 1664 1688 (by omega) (by omega) 4 (weights_second _ 1664 1688 (by omega) (by omega) rfl) (gains_13 _) (fun k => hf n _ (by show 1688 + k.val < 3352; omega)) l))
theorem res_16_0 (hf : Finite m c) (n : Fin 16384) (q : Fin 512) (l : Fin 128) (hq : q.val = 0 + l.val) :
    ((dats m 0 c).arrAt 16 cfg0.N : FVec Ideal S16384x512 .f32) (ix2 n q) = Proj.rope (En m c n) (fun k => Qk m c (ix2 5 k)) ⟨n.val % 8192, by omega⟩ 1816 (by omega) l :=
  (arr_16 m c n q).trans ((out_16_0 _ _ _ _ _ _ _ _ _ q l (by omega)).trans (chunk_norm m c _ _ n ⟨n.val % 8192, by omega⟩ (by show n.val = 256 * (n.val / 256) + n.val % 256; omega) rfl 1792 1816 (by omega) (by omega) 5 (weights_second _ 1792 1816 (by omega) (by omega) rfl) (gains_14 _) (fun k => hf n _ (by show 1816 + k.val < 3352; omega)) l))
theorem res_16_1 (hf : Finite m c) (n : Fin 16384) (q : Fin 512) (l : Fin 128) (hq : q.val = 128 + l.val) :
    ((dats m 0 c).arrAt 16 cfg0.N : FVec Ideal S16384x512 .f32) (ix2 n q) = Proj.rope (En m c n) (fun k => Qk m c (ix2 5 k)) ⟨n.val % 8192, by omega⟩ 1944 (by omega) l :=
  (arr_16 m c n q).trans ((out_16_1 _ _ _ _ _ _ _ _ _ q l hq).trans (chunk_norm m c _ _ n ⟨n.val % 8192, by omega⟩ (by show n.val = 256 * (n.val / 256) + n.val % 256; omega) rfl 1920 1944 (by omega) (by omega) 5 (weights_second _ 1920 1944 (by omega) (by omega) rfl) (gains_15 _) (fun k => hf n _ (by show 1944 + k.val < 3352; omega)) l))
theorem res_16_2 (n : Fin 16384) (q : Fin 512) (l : Fin 128) (hq : q.val = 256 + l.val) :
    ((dats m 0 c).arrAt 16 cfg0.N : FVec Ideal S16384x512 .f32) (ix2 n q) = En m c n ⟨2072 + l.val, by omega⟩ :=
  (arr_16 m c n q).trans ((out_16_2 _ _ _ _ _ _ _ _ _ q l hq).trans (column m c _ _ n (by show n.val = 256 * (n.val / 256) + n.val % 256; omega) _ _ (fun j => weights_second _ 2048 2072 (by omega) (by omega) rfl j l)))
theorem res_16_3 (n : Fin 16384) (q : Fin 512) (l : Fin 128) (hq : q.val = 384 + l.val) :
    ((dats m 0 c).arrAt 16 cfg0.N : FVec Ideal S16384x512 .f32) (ix2 n q) = En m c n ⟨2200 + l.val, by omega⟩ :=
  (arr_16 m c n q).trans ((out_16_3 _ _ _ _ _ _ _ _ _ q l hq).trans (column m c _ _ n (by show n.val = 256 * (n.val / 256) + n.val % 256; omega) _ _ (fun j => weights_second _ 2176 2200 (by omega) (by omega) rfl j l)))
theorem res_17_0 (hf : Finite m c) (n : Fin 16384) (q : Fin 512) (l : Fin 128) (hq : q.val = 0 + l.val) :
    ((dats m 0 c).arrAt 17 cfg0.N : FVec Ideal S16384x512 .f32) (ix2 n q) = Proj.rope (En m c n) (fun k => Qk m c (ix2 6 k)) ⟨n.val % 8192, by omega⟩ 2328 (by omega) l :=
  (arr_17 m c n q).trans ((out_17_0 _ _ _ _ _ _ _ _ _ q l (by omega)).trans (chunk_norm m c _ _ n ⟨n.val % 8192, by omega⟩ (by show n.val = 256 * (n.val / 256) + n.val % 256; omega) rfl 2304 2328 (by omega) (by omega) 6 (weights_second _ 2304 2328 (by omega) (by omega) rfl) (gains_18 _) (fun k => hf n _ (by show 2328 + k.val < 3352; omega)) l))
theorem res_17_1 (hf : Finite m c) (n : Fin 16384) (q : Fin 512) (l : Fin 128) (hq : q.val = 128 + l.val) :
    ((dats m 0 c).arrAt 17 cfg0.N : FVec Ideal S16384x512 .f32) (ix2 n q) = Proj.rope (En m c n) (fun k => Qk m c (ix2 6 k)) ⟨n.val % 8192, by omega⟩ 2456 (by omega) l :=
  (arr_17 m c n q).trans ((out_17_1 _ _ _ _ _ _ _ _ _ q l hq).trans (chunk_norm m c _ _ n ⟨n.val % 8192, by omega⟩ (by show n.val = 256 * (n.val / 256) + n.val % 256; omega) rfl 2432 2456 (by omega) (by omega) 6 (weights_second _ 2432 2456 (by omega) (by omega) rfl) (gains_19 _) (fun k => hf n _ (by show 2456 + k.val < 3352; omega)) l))
theorem res_17_2 (hf : Finite m c) (n : Fin 16384) (q : Fin 512) (l : Fin 128) (hq : q.val = 256 + l.val) :
    ((dats m 0 c).arrAt 17 cfg0.N : FVec Ideal S16384x512 .f32) (ix2 n q) = Proj.rope (En m c n) (fun k => Qk m c (ix2 6 k)) ⟨n.val % 8192, by omega⟩ 2584 (by omega) l :=
  (arr_17 m c n q).trans ((out_17_2 _ _ _ _ _ _ _ _ _ q l hq).trans (chunk_norm m c _ _ n ⟨n.val % 8192, by omega⟩ (by show n.val = 256 * (n.val / 256) + n.val % 256; omega) rfl 2560 2584 (by omega) (by omega) 6 (weights_second _ 2560 2584 (by omega) (by omega) rfl) (gains_20 _) (fun k => hf n _ (by show 2584 + k.val < 3352; omega)) l))
theorem res_17_3 (hf : Finite m c) (n : Fin 16384) (q : Fin 512) (l : Fin 128) (hq : q.val = 384 + l.val) :
    ((dats m 0 c).arrAt 17 cfg0.N : FVec Ideal S16384x512 .f32) (ix2 n q) = Proj.rope (En m c n) (fun k => Qk m c (ix2 6 k)) ⟨n.val % 8192, by omega⟩ 2712 (by omega) l :=
  (arr_17 m c n q).trans ((out_17_3 _ _ _ _ _ _ _ _ _ q l hq).trans (chunk_norm m c _ _ n ⟨n.val % 8192, by omega⟩ (by show n.val = 256 * (n.val / 256) + n.val % 256; omega) rfl 2688 2712 (by omega) (by omega) 6 (weights_second _ 2688 2712 (by omega) (by omega) rfl) (gains_21 _) (fun k => hf n _ (by show 2712 + k.val < 3352; omega)) l))
theorem res_18_0 (hf : Finite m c) (n : Fin 16384) (q : Fin 512) (l : Fin 128) (hq : q.val = 0 + l.val) :
    ((dats m 0 c).arrAt 18 cfg0.N : FVec Ideal S16384x512 .f32) (ix2 n q) = Proj.rope (En m c n) (fun k => Qk m c (ix2 7 k)) ⟨n.val % 8192, by omega⟩ 2840 (by omega) l :=
  (arr_18 m c n q).trans ((out_18_0 _ _ _ _ _ _ _ _ _ q l (by omega)).trans (chunk_norm m c _ _ n ⟨n.val % 8192, by omega⟩ (by show n.val = 256 * (n.val / 256) + n.val % 256; omega) rfl 2816 2840 (by omega) (by omega) 7 (weights_second _ 2816 2840 (by omega) (by omega) rfl) (gains_22 _) (fun k => hf n _ (by show 2840 + k.val < 3352; omega)) l))
theorem res_18_1 (hf : Finite m c) (n : Fin 16384) (q : Fin 512) (l : Fin 128) (hq : q.val = 128 + l.val) :
    ((dats m 0 c).arrAt 18 cfg0.N : FVec Ideal S16384x512 .f32) (ix2 n q) = Proj.rope (En m c n) (fun k => Qk m c (ix2 7 k)) ⟨n.val % 8192, by omega⟩ 2968 (by omega) l :=
  (arr_18 m c n q).trans ((out_18_1 _ _ _ _ _ _ _ _ _ q l hq).trans (chunk_norm m c _ _ n ⟨n.val % 8192, by omega⟩ (by show n.val = 256 * (n.val / 256) + n.val % 256; omega) rfl 2944 2968 (by omega) (by omega) 7 (weights_second _ 2944 2968 (by omega) (by omega) rfl) (gains_23 _) (fun k => hf n _ (by show 2968 + k.val < 3352; omega)) l))
theorem res_18_2 (n : Fin 16384) (q : Fin 512) (l : Fin 128) (hq : q.val = 256 + l.val) :
    ((dats m 0 c).arrAt 18 cfg0.N : FVec Ideal S16384x512 .f32) (ix2 n q) = En m c n ⟨3096 + l.val, by omega⟩ :=
  (arr_18 m c n q).trans ((out_18_2 _ _ _ _ _ _ _ _ _ q l hq).trans (column m c _ _ n (by show n.val = 256 * (n.val / 256) + n.val % 256; omega) _ _ (fun j => weights_second _ 3072 3096 (by omega) (by omega) rfl j l)))
theorem res_18_3 (n : Fin 16384) (q : Fin 512) (l : Fin 128) (hq : q.val = 384 + l.val) :
    ((dats m 0 c).arrAt 18 cfg0.N : FVec Ideal S16384x512 .f32) (ix2 n q) = En m c n ⟨3224 + l.val, by omega⟩ :=
  (arr_18 m c n q).trans ((out_18_3 _ _ _ _ _ _ _ _ _ q l hq).trans (column m c _ _ n (by show n.val = 256 * (n.val / 256) + n.val % 256; omega) _ _ (fun j => weights_second _ 3200 3224 (by omega) (by omega) rfl j l)))
theorem res_19_0 (n : Fin 16384) (q : Fin 128) (l : Fin 128) (hq : q.val = 0 + l.val) :
    ((dats m 0 c).arrAt 19 cfg0.N : FVec Ideal S16384x128 .f32) (ix2 n q) = Proj.gate (En m c n) l :=
  (arr_19 m c n q).trans ((out_19_0 _ _ _ _ _ _ _ _ _ q l (by omega)).trans (chunk_gate m c _ _ n (by show n.val = 256 * (n.val / 256) + n.val % 256; omega) l))

end Cert.ProjIdeal.Rows

end
-- ==== Proof.ProjClaims.lean ====
/- The claims about the projection's call: what the bound on the products says, the reference's results in pieces of 128
   lanes, and the agreement of the twelve result arrays. -/
module

public import proofs.«01_k».proof.Defs
public import proofs.«01_k».proof.Proof.ProjRef
public import proofs.«01_k».proof.Proof.ProjResult
public import proofs.«01_k».proof.Proof.MergeClaims
public import proofs.«01_k».proof.Proof.Gen.Proj.Frame
public import proofs.«01_k».proof.Proof.Gen.ProjIdeal.Frame
public import proofs.«01_k».proof.Proof.Gen.Pre_products_finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ProjRefIdeal.Rows

/-- A row of the product, by its place in the flat list. -/
theorem row_at (x : FVec Ideal S16384x1024 .f32) (ng : FVec Ideal S1024 .f32) (w : FVec Ideal S1024x6424 .f32) (b : Fin 2) (t : Fin 8192)
    (n : Fin 16384) (hn : n.val = b.val * 8192 + t.val) (j : Fin 6424) : prod x ng w (ix3 b t j) = Proj.entry x ng w n j := by
  obtain rfl : n = flatRow b t := Fin.ext hn
  rw [prod_at]
  exact Finset.sum_congr rfl fun k _ => by rw [normed_at]

variable (h : FVec Ideal S2x8192x6424 .f32) (qk : FVec Ideal S8x64 .f32) (b : Fin 2) (t : Fin 8192) (H : Fin 6424 → EReal)

theorem q0_piece (hH : ∀ j, h (ix3 b t j) = H j) (q : Fin 512) (p B : Nat) (l : Fin 128) (hq : q.val = 128 * p + l.val) (e : B = 0 + 128 * p)
    (hB : B + 128 ≤ 6424) : q0 h qk (ix4 b t ⟨q.val / 64, by omega⟩ ⟨q.val % 64, by omega⟩) = Proj.rope H (fun k => qk (ix2 0 k)) t B hB l := by
  obtain rfl : (fun j => h (ix3 b t j)) = H := funext hH
  exact (q0_at h qk b t _ _ (B + l.val / 64 * 64) (by omega) (by show B + l.val / 64 * 64 = 0 + q.val / 64 * 64; omega)).trans
    (Proj.head_congr _ _ _ _ _ _ _ _ _ _ rfl (by show q.val % 64 = l.val % 64; omega))
theorem q4_piece (hH : ∀ j, h (ix3 b t j) = H j) (q : Fin 512) (p B : Nat) (l : Fin 128) (hq : q.val = 128 * p + l.val) (e : B = 1304 + 128 * p)
    (hB : B + 128 ≤ 6424) : q4 h qk (ix4 b t ⟨q.val / 64, by omega⟩ ⟨q.val % 64, by omega⟩) = Proj.rope H (fun k => qk (ix2 4 k)) t B hB l := by
  obtain rfl : (fun j => h (ix3 b t j)) = H := funext hH
  exact (q4_at h qk b t _ _ (B + l.val / 64 * 64) (by omega) (by show B + l.val / 64 * 64 = 1304 + q.val / 64 * 64; omega)).trans
    (Proj.head_congr _ _ _ _ _ _ _ _ _ _ rfl (by show q.val % 64 = l.val % 64; omega))
theorem q6_piece (hH : ∀ j, h (ix3 b t j) = H j) (q : Fin 512) (p B : Nat) (l : Fin 128) (hq : q.val = 128 * p + l.val) (e : B = 2328 + 128 * p)
    (hB : B + 128 ≤ 6424) : q6 h qk (ix4 b t ⟨q.val / 64, by omega⟩ ⟨q.val % 64, by omega⟩) = Proj.rope H (fun k => qk (ix2 6 k)) t B hB l := by
  obtain rfl : (fun j => h (ix3 b t j)) = H := funext hH
  exact (q6_at h qk b t _ _ (B + l.val / 64 * 64) (by omega) (by show B + l.val / 64 * 64 = 2328 + q.val / 64 * 64; omega)).trans
    (Proj.head_congr _ _ _ _ _ _ _ _ _ _ rfl (by show q.val % 64 = l.val % 64; omega))
theorem cacheN_0 (hH : ∀ j, h (ix3 b t j) = H j) (q : Fin 512) (l : Fin 128) (hq : q.val = 0 + l.val) :
    cacheN h qk (ix5 b t ⟨q.val / 128, by omega⟩ ⟨q.val / 64 % 2, by omega⟩ ⟨q.val % 64, by omega⟩) = Proj.rope H (fun k => qk (ix2 1 k)) t 512 (by omega) l := by
  obtain rfl : (fun j => h (ix3 b t j)) = H := funext hH
  rw [show (⟨q.val / 128, by omega⟩ : Fin 4) = 0 from Fin.ext (by show q.val / 128 = 0; omega)]
  exact (sideN_0 _ _ _ _ b t _ _).trans (((k1_at h qk b t _ _ (512 + l.val / 64 * 64) (by omega) (by show 512 + l.val / 64 * 64 = 512 + (q.val / 64 % 2) * 64; omega)).trans
    (Proj.head_congr _ _ _ _ _ _ _ _ _ _ rfl (by show q.val % 64 = l.val % 64; omega))))
theorem cacheN_1 (hH : ∀ j, h (ix3 b t j) = H j) (q : Fin 512) (l : Fin 128) (hq : q.val = 128 + l.val) :
    cacheN h qk (ix5 b t ⟨q.val / 128, by omega⟩ ⟨q.val / 64 % 2, by omega⟩ ⟨q.val % 64, by omega⟩) = H ⟨640 + l.val, by omega⟩ := by
  obtain rfl : (fun j => h (ix3 b t j)) = H := funext hH
  rw [show (⟨q.val / 128, by omega⟩ : Fin 4) = 1 from Fin.ext (by show q.val / 128 = 1; omega)]
  exact (sideN_1 _ _ _ _ b t _ _).trans ((part640_at h b t _ _).trans
    (congrArg (fun j => h (ix3 b t j)) (Fin.ext (by show 640 + (q.val / 64 % 2 * 64 + q.val % 64) = 640 + l.val; omega))))
theorem cacheN_2 (hH : ∀ j, h (ix3 b t j) = H j) (q : Fin 512) (l : Fin 128) (hq : q.val = 256 + l.val) :
    cacheN h qk (ix5 b t ⟨q.val / 128, by omega⟩ ⟨q.val / 64 % 2, by omega⟩ ⟨q.val % 64, by omega⟩) = Proj.rope H (fun k => qk (ix2 2 k)) t 768 (by omega) l := by
  obtain rfl : (fun j => h (ix3 b t j)) = H := funext hH
  rw [show (⟨q.val / 128, by omega⟩ : Fin 4) = 2 from Fin.ext (by show q.val / 128 = 2; omega)]
  exact (sideN_2 _ _ _ _ b t _ _).trans (((k2_at h qk b t _ _ (768 + l.val / 64 * 64) (by omega) (by show 768 + l.val / 64 * 64 = 768 + (q.val / 64 % 2) * 64; omega)).trans
    (Proj.head_congr _ _ _ _ _ _ _ _ _ _ rfl (by show q.val % 64 = l.val % 64; omega))))
theorem cacheN_3 (hH : ∀ j, h (ix3 b t j) = H j) (q : Fin 512) (l : Fin 128) (hq : q.val = 384 + l.val) :
    cacheN h qk (ix5 b t ⟨q.val / 128, by omega⟩ ⟨q.val / 64 % 2, by omega⟩ ⟨q.val % 64, by omega⟩) = H ⟨896 + l.val, by omega⟩ := by
  obtain rfl : (fun j => h (ix3 b t j)) = H := funext hH
  rw [show (⟨q.val / 128, by omega⟩ : Fin 4) = 3 from Fin.ext (by show q.val / 128 = 3; omega)]
  exact (sideN_3 _ _ _ _ b t _ _).trans ((part896_at h b t _ _).trans
    (congrArg (fun j => h (ix3 b t j)) (Fin.ext (by show 896 + (q.val / 64 % 2 * 64 + q.val % 64) = 896 + l.val; omega))))
theorem cacheW_0 (hH : ∀ j, h (ix3 b t j) = H j) (q : Fin 256) (l : Fin 128) (hq : q.val = 0 + l.val) :
    cacheW h qk (ix5 b t ⟨q.val / 128, by omega⟩ ⟨q.val / 64 % 2, by omega⟩ ⟨q.val % 64, by omega⟩) = Proj.rope H (fun k => qk (ix2 3 k)) t 1024 (by omega) l := by
  obtain rfl : (fun j => h (ix3 b t j)) = H := funext hH
  rw [show (⟨q.val / 128, by omega⟩ : Fin 2) = 0 from Fin.ext (by show q.val / 128 = 0; omega)]
  exact (sideW_0 _ _ b t _ _).trans (((k3_at h qk b t _ _ (1024 + l.val / 64 * 64) (by omega) (by show 1024 + l.val / 64 * 64 = 1024 + (q.val / 64 % 2) * 64; omega)).trans
    (Proj.head_congr _ _ _ _ _ _ _ _ _ _ rfl (by show q.val % 64 = l.val % 64; omega))))
theorem cacheW_1 (hH : ∀ j, h (ix3 b t j) = H j) (q : Fin 256) (l : Fin 128) (hq : q.val = 128 + l.val) :
    cacheW h qk (ix5 b t ⟨q.val / 128, by omega⟩ ⟨q.val / 64 % 2, by omega⟩ ⟨q.val % 64, by omega⟩) = H ⟨1152 + l.val, by omega⟩ := by
  obtain rfl : (fun j => h (ix3 b t j)) = H := funext hH
  rw [show (⟨q.val / 128, by omega⟩ : Fin 2) = 1 from Fin.ext (by show q.val / 128 = 1; omega)]
  exact (sideW_1 _ _ b t _ _).trans ((part1152_at h b t _ _).trans
    (congrArg (fun j => h (ix3 b t j)) (Fin.ext (by show 1152 + (q.val / 64 % 2 * 64 + q.val % 64) = 1152 + l.val; omega))))
theorem cacheD_0 (hH : ∀ j, h (ix3 b t j) = H j) (q : Fin 512) (l : Fin 128) (hq : q.val = 0 + l.val) :
    cacheD h qk (ix5 b t ⟨q.val / 256, by omega⟩ ⟨q.val / 128 % 2, by omega⟩ ⟨q.val % 128, by omega⟩) = Proj.rope H (fun k => qk (ix2 5 k)) t 1816 (by omega) l := by
  obtain rfl : (fun j => h (ix3 b t j)) = H := funext hH
  rw [show (⟨q.val / 256, by omega⟩ : Fin 2) = 0 from Fin.ext (by show q.val / 256 = 0; omega)]
  exact (sideD_0 _ _ b t _ _).trans ((wide_at _ b t _ _).trans ((k5_at h qk b t _ _ (1816 + l.val / 64 * 64) (by omega) (by show 1816 + l.val / 64 * 64 = 1816 + (q.val / 128 % 2 * 2 + q.val % 128 / 64) * 64; omega)).trans
    (Proj.head_congr _ _ _ _ _ _ _ _ _ _ rfl (by show q.val % 128 % 64 = l.val % 64; omega))))
theorem cacheD_1 (hH : ∀ j, h (ix3 b t j) = H j) (q : Fin 512) (l : Fin 128) (hq : q.val = 128 + l.val) :
    cacheD h qk (ix5 b t ⟨q.val / 256, by omega⟩ ⟨q.val / 128 % 2, by omega⟩ ⟨q.val % 128, by omega⟩) = Proj.rope H (fun k => qk (ix2 5 k)) t 1944 (by omega) l := by
  obtain rfl : (fun j => h (ix3 b t j)) = H := funext hH
  rw [show (⟨q.val / 256, by omega⟩ : Fin 2) = 0 from Fin.ext (by show q.val / 256 = 0; omega)]
  exact (sideD_0 _ _ b t _ _).trans ((wide_at _ b t _ _).trans ((k5_at h qk b t _ _ (1944 + l.val / 64 * 64) (by omega) (by show 1944 + l.val / 64 * 64 = 1816 + (q.val / 128 % 2 * 2 + q.val % 128 / 64) * 64; omega)).trans
    (Proj.head_congr _ _ _ _ _ _ _ _ _ _ rfl (by show q.val % 128 % 64 = l.val % 64; omega))))
theorem cacheD_2 (hH : ∀ j, h (ix3 b t j) = H j) (q : Fin 512) (l : Fin 128) (hq : q.val = 256 + l.val) :
    cacheD h qk (ix5 b t ⟨q.val / 256, by omega⟩ ⟨q.val / 128 % 2, by omega⟩ ⟨q.val % 128, by omega⟩) = H ⟨2072 + l.val, by omega⟩ := by
  obtain rfl : (fun j => h (ix3 b t j)) = H := funext hH
  rw [show (⟨q.val / 256, by omega⟩ : Fin 2) = 1 from Fin.ext (by show q.val / 256 = 1; omega)]
  exact (sideD_1 _ _ b t _ _).trans ((part2072_at h b t _ _).trans
    (congrArg (fun j => h (ix3 b t j)) (Fin.ext (by show 2072 + (q.val / 128 % 2 * 128 + q.val % 128) = 2072 + l.val; omega))))
theorem cacheD_3 (hH : ∀ j, h (ix3 b t j) = H j) (q : Fin 512) (l : Fin 128) (hq : q.val = 384 + l.val) :
    cacheD h qk (ix5 b t ⟨q.val / 256, by omega⟩ ⟨q.val / 128 % 2, by omega⟩ ⟨q.val % 128, by omega⟩) = H ⟨2200 + l.val, by omega⟩ := by
  obtain rfl : (fun j => h (ix3 b t j)) = H := funext hH
  rw [show (⟨q.val / 256, by omega⟩ : Fin 2) = 1 from Fin.ext (by show q.val / 256 = 1; omega)]
  exact (sideD_1 _ _ b t _ _).trans ((part2072_at h b t _ _).trans
    (congrArg (fun j => h (ix3 b t j)) (Fin.ext (by show 2072 + (q.val / 128 % 2 * 128 + q.val % 128) = 2200 + l.val; omega))))
theorem cacheM_0 (hH : ∀ j, h (ix3 b t j) = H j) (q : Fin 512) (l : Fin 128) (hq : q.val = 0 + l.val) :
    cacheM h qk (ix5 b t ⟨q.val / 256, by omega⟩ ⟨q.val / 64 % 4, by omega⟩ ⟨q.val % 64, by omega⟩) = Proj.rope H (fun k => qk (ix2 7 k)) t 2840 (by omega) l := by
  obtain rfl : (fun j => h (ix3 b t j)) = H := funext hH
  rw [show (⟨q.val / 256, by omega⟩ : Fin 2) = 0 from Fin.ext (by show q.val / 256 = 0; omega)]
  exact (sideM_0 _ _ b t _ _).trans (((k7_at h qk b t _ _ (2840 + l.val / 64 * 64) (by omega) (by show 2840 + l.val / 64 * 64 = 2840 + (q.val / 64 % 4) * 64; omega)).trans
    (Proj.head_congr _ _ _ _ _ _ _ _ _ _ rfl (by show q.val % 64 = l.val % 64; omega))))
theorem cacheM_1 (hH : ∀ j, h (ix3 b t j) = H j) (q : Fin 512) (l : Fin 128) (hq : q.val = 128 + l.val) :
    cacheM h qk (ix5 b t ⟨q.val / 256, by omega⟩ ⟨q.val / 64 % 4, by omega⟩ ⟨q.val % 64, by omega⟩) = Proj.rope H (fun k => qk (ix2 7 k)) t 2968 (by omega) l := by
  obtain rfl : (fun j => h (ix3 b t j)) = H := funext hH
  rw [show (⟨q.val / 256, by omega⟩ : Fin 2) = 0 from Fin.ext (by show q.val / 256 = 0; omega)]
  exact (sideM_0 _ _ b t _ _).trans (((k7_at h qk b t _ _ (2968 + l.val / 64 * 64) (by omega) (by show 2968 + l.val / 64 * 64 = 2840 + (q.val / 64 % 4) * 64; omega)).trans
    (Proj.head_congr _ _ _ _ _ _ _ _ _ _ rfl (by show q.val % 64 = l.val % 64; omega))))
theorem cacheM_2 (hH : ∀ j, h (ix3 b t j) = H j) (q : Fin 512) (l : Fin 128) (hq : q.val = 256 + l.val) :
    cacheM h qk (ix5 b t ⟨q.val / 256, by omega⟩ ⟨q.val / 64 % 4, by omega⟩ ⟨q.val % 64, by omega⟩) = H ⟨3096 + l.val, by omega⟩ := by
  obtain rfl : (fun j => h (ix3 b t j)) = H := funext hH
  rw [show (⟨q.val / 256, by omega⟩ : Fin 2) = 1 from Fin.ext (by show q.val / 256 = 1; omega)]
  exact (sideM_1 _ _ b t _ _).trans ((part3096_at h b t _ _).trans
    (congrArg (fun j => h (ix3 b t j)) (Fin.ext (by show 3096 + (q.val / 64 % 4 * 64 + q.val % 64) = 3096 + l.val; omega))))
theorem cacheM_3 (hH : ∀ j, h (ix3 b t j) = H j) (q : Fin 512) (l : Fin 128) (hq : q.val = 384 + l.val) :
    cacheM h qk (ix5 b t ⟨q.val / 256, by omega⟩ ⟨q.val / 64 % 4, by omega⟩ ⟨q.val % 64, by omega⟩) = H ⟨3224 + l.val, by omega⟩ := by
  obtain rfl : (fun j => h (ix3 b t j)) = H := funext hH
  rw [show (⟨q.val / 256, by omega⟩ : Fin 2) = 1 from Fin.ext (by show q.val / 256 = 1; omega)]
  exact (sideM_1 _ _ b t _ _).trans ((part3096_at h b t _ _).trans
    (congrArg (fun j => h (ix3 b t j)) (Fin.ext (by show 3096 + (q.val / 64 % 4 * 64 + q.val % 64) = 3224 + l.val; omega))))

end Cert.ProjRefIdeal.Rows

namespace Cert.Proof.Turned

open ProjIdeal.Rows (X Ng Wi Qk En Finite)
open ProjRefIdeal.Rows (prod)

/-- The precondition's entry. -/
theorem bound_at (x : FVec Ideal ProjIdeal.S16384x1024 .f32) (g : FVec Ideal ProjIdeal.S1024 .f32) (w : FVec Ideal ProjIdeal.S1024x6424 .f32)
    (qk : FVec Ideal ProjIdeal.S8x64 .f32) (n : Fin 16384) (j : Fin 3352) :
    @Cert.Pre_products_finite.fn Cert.Pre_products_finite.Gen.facts Ideal _ x g w qk (ix2 n j)
      = Ideal.cmp .olt (max (Proj.entry x g w n ⟨j.val, by omega⟩) (-Proj.entry x g w n ⟨j.val, by omega⟩)) (Ideal.ofBits .f32 0x7F800000#32) := by
  pointwise [Cert.Pre_products_finite.fn, Proj.entry, Merge.norm]
  rfl

variable (m : (ℓ : Loc ProjIdeal.nD ProjIdeal.τ ProjIdeal.sig) → Buf (Elt Ideal) ℓ)

theorem products_finite (hp : Cert.Pre_ProjIdeal_products_finite (hPre_products_finite := Cert.Pre_products_finite.Gen.facts) m)
    (c : Dev ProjIdeal.nD) : Finite m c := fun n j hj =>
  Gated.finite_of_bound _ ((bound_at (X m c) (Ng m c) (Wi m c) (Qk m c) n ⟨j.val, hj⟩).symm.trans (congrFun (hp c) (ix2 n (⟨j.val, hj⟩ : Fin 3352))))

variable (c : Dev ProjIdeal.nD) (hf : Finite m c)
include hf

theorem agree_8 : (ProjRefIdeal.Rows.ref8 (prod (X m c) (Ng m c) (Wi m c)) (Qk m c) : FVec Ideal ProjIdeal.S2x512x8192 .f32)
    = (ProjIdeal.Gen.dats m 0 c).arrAt 8 ProjIdeal.cfg0.N := by
  refine funext fun i => ?_
  obtain ⟨b, q, s, rfl⟩ : ∃ (b : Fin 2) (q : Fin 512) (s : Fin 8192), i = ix3 b q s := ⟨i 0, i 1, i 2, eq_ix3 i⟩
  have hH := ProjRefIdeal.Rows.row_at (X m c) (Ng m c) (Wi m c) b s ⟨b.val * 8192 + s.val, by omega⟩ rfl
  refine (ProjRefIdeal.Rows.ref8_at _ _ b q s).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheN_0 _ _ _ _ _ hH q ⟨q.val, a⟩ (by show q.val = 0 + q.val; omega)).trans (ProjIdeal.Rows.res_8_0 m c hf b q s ⟨q.val, a⟩ (by show q.val = 0 + q.val; omega)).symm
  · exact (ProjRefIdeal.Rows.cacheN_1 _ _ _ _ _ hH q ⟨q.val - 128, by omega⟩ (by show q.val = 128 + (q.val - 128); omega)).trans (ProjIdeal.Rows.res_8_1 m c b q s ⟨q.val - 128, by omega⟩ (by show q.val = 128 + (q.val - 128); omega)).symm
  · exact (ProjRefIdeal.Rows.cacheN_2 _ _ _ _ _ hH q ⟨q.val - 256, by omega⟩ (by show q.val = 256 + (q.val - 256); omega)).trans (ProjIdeal.Rows.res_8_2 m c hf b q s ⟨q.val - 256, by omega⟩ (by show q.val = 256 + (q.val - 256); omega)).symm
  · exact (ProjRefIdeal.Rows.cacheN_3 _ _ _ _ _ hH q ⟨q.val - 384, by omega⟩ (by show q.val = 384 + (q.val - 384); omega)).trans (ProjIdeal.Rows.res_8_3 m c b q s ⟨q.val - 384, by omega⟩ (by show q.val = 384 + (q.val - 384); omega)).symm
theorem agree_9 : (ProjRefIdeal.Rows.ref9 (prod (X m c) (Ng m c) (Wi m c)) (Qk m c) : FVec Ideal ProjIdeal.S2x256x8192 .f32)
    = (ProjIdeal.Gen.dats m 0 c).arrAt 9 ProjIdeal.cfg0.N := by
  refine funext fun i => ?_
  obtain ⟨b, q, s, rfl⟩ : ∃ (b : Fin 2) (q : Fin 256) (s : Fin 8192), i = ix3 b q s := ⟨i 0, i 1, i 2, eq_ix3 i⟩
  have hH := ProjRefIdeal.Rows.row_at (X m c) (Ng m c) (Wi m c) b s ⟨b.val * 8192 + s.val, by omega⟩ rfl
  refine (ProjRefIdeal.Rows.ref9_at _ _ b q s).trans ?_
  rcases (by omega : q.val < 128 ∨ 128 ≤ q.val ∧ q.val < 256) with a | a
  · exact (ProjRefIdeal.Rows.cacheW_0 _ _ _ _ _ hH q ⟨q.val, a⟩ (by show q.val = 0 + q.val; omega)).trans (ProjIdeal.Rows.res_9_0 m c hf b q s ⟨q.val, a⟩ (by show q.val = 0 + q.val; omega)).symm
  · exact (ProjRefIdeal.Rows.cacheW_1 _ _ _ _ _ hH q ⟨q.val - 128, by omega⟩ (by show q.val = 128 + (q.val - 128); omega)).trans (ProjIdeal.Rows.res_9_1 m c b q s ⟨q.val - 128, by omega⟩ (by show q.val = 128 + (q.val - 128); omega)).symm
theorem agree_10 : (ProjRefIdeal.Rows.ref10 (prod (X m c) (Ng m c) (Wi m c)) (Qk m c) : FVec Ideal ProjIdeal.S16384x512 .f32)
    = (ProjIdeal.Gen.dats m 0 c).arrAt 10 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref10_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheD_0 _ _ _ _ _ hH q ⟨q.val, a⟩ (by show q.val = 0 + q.val; omega)).trans (ProjIdeal.Rows.res_10_0 m c hf n q ⟨q.val, a⟩ (by show q.val = 0 + q.val; omega)).symm
  · exact (ProjRefIdeal.Rows.cacheD_1 _ _ _ _ _ hH q ⟨q.val - 128, by omega⟩ (by show q.val = 128 + (q.val - 128); omega)).trans (ProjIdeal.Rows.res_10_1 m c hf n q ⟨q.val - 128, by omega⟩ (by show q.val = 128 + (q.val - 128); omega)).symm
  · exact (ProjRefIdeal.Rows.cacheD_2 _ _ _ _ _ hH q ⟨q.val - 256, by omega⟩ (by show q.val = 256 + (q.val - 256); omega)).trans (ProjIdeal.Rows.res_10_2 m c n q ⟨q.val - 256, by omega⟩ (by show q.val = 256 + (q.val - 256); omega)).symm
  · exact (ProjRefIdeal.Rows.cacheD_3 _ _ _ _ _ hH q ⟨q.val - 384, by omega⟩ (by show q.val = 384 + (q.val - 384); omega)).trans (ProjIdeal.Rows.res_10_3 m c n q ⟨q.val - 384, by omega⟩ (by show q.val = 384 + (q.val - 384); omega)).symm
theorem agree_11 : (ProjRefIdeal.Rows.ref11 (prod (X m c) (Ng m c) (Wi m c)) (Qk m c) : FVec Ideal ProjIdeal.S2x512x8192 .f32)
    = (ProjIdeal.Gen.dats m 0 c).arrAt 11 ProjIdeal.cfg0.N := by
  refine funext fun i => ?_
  obtain ⟨b, q, s, rfl⟩ : ∃ (b : Fin 2) (q : Fin 512) (s : Fin 8192), i = ix3 b q s := ⟨i 0, i 1, i 2, eq_ix3 i⟩
  have hH := ProjRefIdeal.Rows.row_at (X m c) (Ng m c) (Wi m c) b s ⟨b.val * 8192 + s.val, by omega⟩ rfl
  refine (ProjRefIdeal.Rows.ref11_at _ _ b q s).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheM_0 _ _ _ _ _ hH q ⟨q.val, a⟩ (by show q.val = 0 + q.val; omega)).trans (ProjIdeal.Rows.res_11_0 m c hf b q s ⟨q.val, a⟩ (by show q.val = 0 + q.val; omega)).symm
  · exact (ProjRefIdeal.Rows.cacheM_1 _ _ _ _ _ hH q ⟨q.val - 128, by omega⟩ (by show q.val = 128 + (q.val - 128); omega)).trans (ProjIdeal.Rows.res_11_1 m c hf b q s ⟨q.val - 128, by omega⟩ (by show q.val = 128 + (q.val - 128); omega)).symm
  · exact (ProjRefIdeal.Rows.cacheM_2 _ _ _ _ _ hH q ⟨q.val - 256, by omega⟩ (by show q.val = 256 + (q.val - 256); omega)).trans (ProjIdeal.Rows.res_11_2 m c b q s ⟨q.val - 256, by omega⟩ (by show q.val = 256 + (q.val - 256); omega)).symm
  · exact (ProjRefIdeal.Rows.cacheM_3 _ _ _ _ _ hH q ⟨q.val - 384, by omega⟩ (by show q.val = 384 + (q.val - 384); omega)).trans (ProjIdeal.Rows.res_11_3 m c b q s ⟨q.val - 384, by omega⟩ (by show q.val = 384 + (q.val - 384); omega)).symm
theorem agree_12 : (ProjRefIdeal.Rows.ref12 (prod (X m c) (Ng m c) (Wi m c)) (Qk m c) : FVec Ideal ProjIdeal.S16384x512 .f32)
    = (ProjIdeal.Gen.dats m 0 c).arrAt 12 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref12_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.q0_piece _ _ _ _ _ hH q 0 0 ⟨q.val, a⟩ (by show q.val = 128 * 0 + q.val; omega) rfl (by omega)).trans (ProjIdeal.Rows.res_12_0 m c hf n q ⟨q.val, a⟩ (by show q.val = 0 + q.val; omega)).symm
  · exact (ProjRefIdeal.Rows.q0_piece _ _ _ _ _ hH q 1 128 ⟨q.val - 128, by omega⟩ (by show q.val = 128 * 1 + (q.val - 128); omega) rfl (by omega)).trans (ProjIdeal.Rows.res_12_1 m c hf n q ⟨q.val - 128, by omega⟩ (by show q.val = 128 + (q.val - 128); omega)).symm
  · exact (ProjRefIdeal.Rows.q0_piece _ _ _ _ _ hH q 2 256 ⟨q.val - 256, by omega⟩ (by show q.val = 128 * 2 + (q.val - 256); omega) rfl (by omega)).trans (ProjIdeal.Rows.res_12_2 m c hf n q ⟨q.val - 256, by omega⟩ (by show q.val = 256 + (q.val - 256); omega)).symm
  · exact (ProjRefIdeal.Rows.q0_piece _ _ _ _ _ hH q 3 384 ⟨q.val - 384, by omega⟩ (by show q.val = 128 * 3 + (q.val - 384); omega) rfl (by omega)).trans (ProjIdeal.Rows.res_12_3 m c hf n q ⟨q.val - 384, by omega⟩ (by show q.val = 384 + (q.val - 384); omega)).symm
theorem agree_13 : (ProjRefIdeal.Rows.ref13 (prod (X m c) (Ng m c) (Wi m c)) (Qk m c) : FVec Ideal ProjIdeal.S16384x512 .f32)
    = (ProjIdeal.Gen.dats m 0 c).arrAt 13 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref13_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheN_0 _ _ _ _ _ hH q ⟨q.val, a⟩ (by show q.val = 0 + q.val; omega)).trans (ProjIdeal.Rows.res_13_0 m c hf n q ⟨q.val, a⟩ (by show q.val = 0 + q.val; omega)).symm
  · exact (ProjRefIdeal.Rows.cacheN_1 _ _ _ _ _ hH q ⟨q.val - 128, by omega⟩ (by show q.val = 128 + (q.val - 128); omega)).trans (ProjIdeal.Rows.res_13_1 m c n q ⟨q.val - 128, by omega⟩ (by show q.val = 128 + (q.val - 128); omega)).symm
  · exact (ProjRefIdeal.Rows.cacheN_2 _ _ _ _ _ hH q ⟨q.val - 256, by omega⟩ (by show q.val = 256 + (q.val - 256); omega)).trans (ProjIdeal.Rows.res_13_2 m c hf n q ⟨q.val - 256, by omega⟩ (by show q.val = 256 + (q.val - 256); omega)).symm
  · exact (ProjRefIdeal.Rows.cacheN_3 _ _ _ _ _ hH q ⟨q.val - 384, by omega⟩ (by show q.val = 384 + (q.val - 384); omega)).trans (ProjIdeal.Rows.res_13_3 m c n q ⟨q.val - 384, by omega⟩ (by show q.val = 384 + (q.val - 384); omega)).symm
theorem agree_14 : (ProjRefIdeal.Rows.ref14 (prod (X m c) (Ng m c) (Wi m c)) (Qk m c) : FVec Ideal ProjIdeal.S16384x256 .f32)
    = (ProjIdeal.Gen.dats m 0 c).arrAt 14 ProjIdeal.cfg0.N := by
  refine funext fun i => ?_
  obtain ⟨n, q, rfl⟩ : ∃ (n : Fin 16384) (q : Fin 256), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref14_at _ _ n q).trans ?_
  rcases (by omega : q.val < 128 ∨ 128 ≤ q.val ∧ q.val < 256) with a | a
  · exact (ProjRefIdeal.Rows.cacheW_0 _ _ _ _ _ hH q ⟨q.val, a⟩ (by show q.val = 0 + q.val; omega)).trans (ProjIdeal.Rows.res_14_0 m c hf n q ⟨q.val, a⟩ (by show q.val = 0 + q.val; omega)).symm
  · exact (ProjRefIdeal.Rows.cacheW_1 _ _ _ _ _ hH q ⟨q.val - 128, by omega⟩ (by show q.val = 128 + (q.val - 128); omega)).trans (ProjIdeal.Rows.res_14_1 m c n q ⟨q.val - 128, by omega⟩ (by show q.val = 128 + (q.val - 128); omega)).symm
theorem agree_15 : (ProjRefIdeal.Rows.ref15 (prod (X m c) (Ng m c) (Wi m c)) (Qk m c) : FVec Ideal ProjIdeal.S16384x512 .f32)
    = (ProjIdeal.Gen.dats m 0 c).arrAt 15 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref15_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.q4_piece _ _ _ _ _ hH q 0 1304 ⟨q.val, a⟩ (by show q.val = 128 * 0 + q.val; omega) rfl (by omega)).trans (ProjIdeal.Rows.res_15_0 m c hf n q ⟨q.val, a⟩ (by show q.val = 0 + q.val; omega)).symm
  · exact (ProjRefIdeal.Rows.q4_piece _ _ _ _ _ hH q 1 1432 ⟨q.val - 128, by omega⟩ (by show q.val = 128 * 1 + (q.val - 128); omega) rfl (by omega)).trans (ProjIdeal.Rows.res_15_1 m c hf n q ⟨q.val - 128, by omega⟩ (by show q.val = 128 + (q.val - 128); omega)).symm
  · exact (ProjRefIdeal.Rows.q4_piece _ _ _ _ _ hH q 2 1560 ⟨q.val - 256, by omega⟩ (by show q.val = 128 * 2 + (q.val - 256); omega) rfl (by omega)).trans (ProjIdeal.Rows.res_15_2 m c hf n q ⟨q.val - 256, by omega⟩ (by show q.val = 256 + (q.val - 256); omega)).symm
  · exact (ProjRefIdeal.Rows.q4_piece _ _ _ _ _ hH q 3 1688 ⟨q.val - 384, by omega⟩ (by show q.val = 128 * 3 + (q.val - 384); omega) rfl (by omega)).trans (ProjIdeal.Rows.res_15_3 m c hf n q ⟨q.val - 384, by omega⟩ (by show q.val = 384 + (q.val - 384); omega)).symm
theorem agree_16 : (ProjRefIdeal.Rows.ref16 (prod (X m c) (Ng m c) (Wi m c)) (Qk m c) : FVec Ideal ProjIdeal.S16384x512 .f32)
    = (ProjIdeal.Gen.dats m 0 c).arrAt 16 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref16_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheD_0 _ _ _ _ _ hH q ⟨q.val, a⟩ (by show q.val = 0 + q.val; omega)).trans (ProjIdeal.Rows.res_16_0 m c hf n q ⟨q.val, a⟩ (by show q.val = 0 + q.val; omega)).symm
  · exact (ProjRefIdeal.Rows.cacheD_1 _ _ _ _ _ hH q ⟨q.val - 128, by omega⟩ (by show q.val = 128 + (q.val - 128); omega)).trans (ProjIdeal.Rows.res_16_1 m c hf n q ⟨q.val - 128, by omega⟩ (by show q.val = 128 + (q.val - 128); omega)).symm
  · exact (ProjRefIdeal.Rows.cacheD_2 _ _ _ _ _ hH q ⟨q.val - 256, by omega⟩ (by show q.val = 256 + (q.val - 256); omega)).trans (ProjIdeal.Rows.res_16_2 m c n q ⟨q.val - 256, by omega⟩ (by show q.val = 256 + (q.val - 256); omega)).symm
  · exact (ProjRefIdeal.Rows.cacheD_3 _ _ _ _ _ hH q ⟨q.val - 384, by omega⟩ (by show q.val = 384 + (q.val - 384); omega)).trans (ProjIdeal.Rows.res_16_3 m c n q ⟨q.val - 384, by omega⟩ (by show q.val = 384 + (q.val - 384); omega)).symm
theorem agree_17 : (ProjRefIdeal.Rows.ref17 (prod (X m c) (Ng m c) (Wi m c)) (Qk m c) : FVec Ideal ProjIdeal.S16384x512 .f32)
    = (ProjIdeal.Gen.dats m 0 c).arrAt 17 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref17_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.q6_piece _ _ _ _ _ hH q 0 2328 ⟨q.val, a⟩ (by show q.val = 128 * 0 + q.val; omega) rfl (by omega)).trans (ProjIdeal.Rows.res_17_0 m c hf n q ⟨q.val, a⟩ (by show q.val = 0 + q.val; omega)).symm
  · exact (ProjRefIdeal.Rows.q6_piece _ _ _ _ _ hH q 1 2456 ⟨q.val - 128, by omega⟩ (by show q.val = 128 * 1 + (q.val - 128); omega) rfl (by omega)).trans (ProjIdeal.Rows.res_17_1 m c hf n q ⟨q.val - 128, by omega⟩ (by show q.val = 128 + (q.val - 128); omega)).symm
  · exact (ProjRefIdeal.Rows.q6_piece _ _ _ _ _ hH q 2 2584 ⟨q.val - 256, by omega⟩ (by show q.val = 128 * 2 + (q.val - 256); omega) rfl (by omega)).trans (ProjIdeal.Rows.res_17_2 m c hf n q ⟨q.val - 256, by omega⟩ (by show q.val = 256 + (q.val - 256); omega)).symm
  · exact (ProjRefIdeal.Rows.q6_piece _ _ _ _ _ hH q 3 2712 ⟨q.val - 384, by omega⟩ (by show q.val = 128 * 3 + (q.val - 384); omega) rfl (by omega)).trans (ProjIdeal.Rows.res_17_3 m c hf n q ⟨q.val - 384, by omega⟩ (by show q.val = 384 + (q.val - 384); omega)).symm
theorem agree_18 : (ProjRefIdeal.Rows.ref18 (prod (X m c) (Ng m c) (Wi m c)) (Qk m c) : FVec Ideal ProjIdeal.S16384x512 .f32)
    = (ProjIdeal.Gen.dats m 0 c).arrAt 18 ProjIdeal.cfg0.N := by
  refine funext fun i => ?_
  obtain ⟨n, q, rfl⟩ : ∃ (n : Fin 16384) (q : Fin 512), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref18_at _ _ n q).trans ?_
  rcases (by omega : q.val < 128 ∨ 128 ≤ q.val ∧ q.val < 256 ∨ 256 ≤ q.val ∧ q.val < 384 ∨ 384 ≤ q.val ∧ q.val < 512) with a | a | a | a
  · exact (ProjRefIdeal.Rows.cacheM_0 _ _ _ _ _ hH q ⟨q.val, a⟩ (by show q.val = 0 + q.val; omega)).trans (ProjIdeal.Rows.res_18_0 m c hf n q ⟨q.val, a⟩ (by show q.val = 0 + q.val; omega)).symm
  · exact (ProjRefIdeal.Rows.cacheM_1 _ _ _ _ _ hH q ⟨q.val - 128, by omega⟩ (by show q.val = 128 + (q.val - 128); omega)).trans (ProjIdeal.Rows.res_18_1 m c hf n q ⟨q.val - 128, by omega⟩ (by show q.val = 128 + (q.val - 128); omega)).symm
  · exact (ProjRefIdeal.Rows.cacheM_2 _ _ _ _ _ hH q ⟨q.val - 256, by omega⟩ (by show q.val = 256 + (q.val - 256); omega)).trans (ProjIdeal.Rows.res_18_2 m c n q ⟨q.val - 256, by omega⟩ (by show q.val = 256 + (q.val - 256); omega)).symm
  · exact (ProjRefIdeal.Rows.cacheM_3 _ _ _ _ _ hH q ⟨q.val - 384, by omega⟩ (by show q.val = 384 + (q.val - 384); omega)).trans (ProjIdeal.Rows.res_18_3 m c n q ⟨q.val - 384, by omega⟩ (by show q.val = 384 + (q.val - 384); omega)).symm
theorem agree_19 : (ProjRefIdeal.Rows.ref19 (prod (X m c) (Ng m c) (Wi m c)) (Qk m c) : FVec Ideal ProjIdeal.S16384x128 .f32)
    = (ProjIdeal.Gen.dats m 0 c).arrAt 19 ProjIdeal.cfg0.N := by
  refine funext fun i => ?_
  obtain ⟨n, q, rfl⟩ : ∃ (n : Fin 16384) (q : Fin 128), i = ix2 n q := ⟨i 0, i 1, eq_ix2 i⟩
  have hH := ProjRefIdeal.Rows.row_at (X m c) (Ng m c) (Wi m c) ⟨n.val / 8192, by omega⟩ ⟨n.val % 8192, by omega⟩ n (by show n.val = n.val / 8192 * 8192 + n.val % 8192; omega)
  refine (ProjRefIdeal.Rows.ref19_at _ _ n q).trans ?_
  exact (congrArg (fun H => Proj.gate H q) (funext hH)).trans (ProjIdeal.Rows.res_19_0 m c n q q (by omega)).symm
omit hf

/-- `Cert.quiescent_ProjRefIdeal`: a program of host operations alone declares no semaphore. -/
theorem frame_ref : Cert.quiescent_ProjRefIdeal (hProjRefIdeal := ProjRefIdeal.Gen.facts) := fun m ρ _ =>
  θ_run_mono (ProjRefIdeal.Value.run (F := Ideal) m ρ) fun r h => ⟨fun c => (h c).2.2.2.2.2.2.2.2.2.2.2.2, sem_eq_zero_of_no_sems rfl r.2⟩

abbrev arg0 (m' : (ℓ : Loc ProjRefIdeal.nD ProjRefIdeal.τ ProjRefIdeal.sig) → Buf (Elt Ideal) ℓ) (c : Dev ProjRefIdeal.nD) : FVec Ideal ProjRefIdeal.S16384x1024 .f32 := m' ((c.tc : Thread ProjRefIdeal.nD ProjRefIdeal.τ).loc ProjRefIdeal.main_arg0)
abbrev arg1 (m' : (ℓ : Loc ProjRefIdeal.nD ProjRefIdeal.τ ProjRefIdeal.sig) → Buf (Elt Ideal) ℓ) (c : Dev ProjRefIdeal.nD) : FVec Ideal ProjRefIdeal.S1024 .f32 := m' ((c.tc : Thread ProjRefIdeal.nD ProjRefIdeal.τ).loc ProjRefIdeal.main_arg1)
abbrev arg2 (m' : (ℓ : Loc ProjRefIdeal.nD ProjRefIdeal.τ ProjRefIdeal.sig) → Buf (Elt Ideal) ℓ) (c : Dev ProjRefIdeal.nD) : FVec Ideal ProjRefIdeal.S1024x6424 .f32 := m' ((c.tc : Thread ProjRefIdeal.nD ProjRefIdeal.τ).loc ProjRefIdeal.main_arg2)
abbrev arg3 (m' : (ℓ : Loc ProjRefIdeal.nD ProjRefIdeal.τ ProjRefIdeal.sig) → Buf (Elt Ideal) ℓ) (c : Dev ProjRefIdeal.nD) : FVec Ideal ProjRefIdeal.S8x64 .f32 := m' ((c.tc : Thread ProjRefIdeal.nD ProjRefIdeal.τ).loc ProjRefIdeal.main_arg3)
set_option maxHeartbeats 8000000 in
/-- The twelve result arrays agree at every index, the products finite. -/
theorem algebraic : Cert.algebraic_ProjIdeal_ProjRefIdeal_pre_products_finite (hProjIdeal := ProjIdeal.Gen.facts)
    (hProjRefIdeal := ProjRefIdeal.Gen.facts) (hPre_products_finite := Cert.Pre_products_finite.Gen.facts) := by
  pair_intro
  · exact ProjIdeal.Value.run_blocks m g
  · refine θ_run_mono (ProjRefIdeal.Value.run (F := Ideal) m' g') fun r h c => ?_
    have hf := products_finite m hpre c
    obtain ⟨h0, h1, h2, h3⟩ := hagree c
    change arg0 m' c = X m c at h0
    change arg1 m' c = Ng m c at h1
    change arg2 m' c = Wi m c at h2
    change arg3 m' c = Qk m c at h3
    obtain ⟨r8, r9, r10, r11, r12, r13, r14, r15, r16, r17, r18, r19, hk⟩ := h c
    refine ⟨r8.trans ?_, r9.trans ?_, r10.trans ?_, r11.trans ?_, r12.trans ?_, r13.trans ?_, r14.trans ?_, r15.trans ?_, r16.trans ?_, r17.trans ?_, r18.trans ?_, r19.trans ?_, hk⟩
    · refine Eq.trans (b := ProjRefIdeal.Rows.ref8 (prod (arg0 m' c) (arg1 m' c) (arg2 m' c)) (arg3 m' c)) rfl ?_
      rw [h0, h1, h2, h3]
      exact agree_8 m c hf
    · refine Eq.trans (b := ProjRefIdeal.Rows.ref9 (prod (arg0 m' c) (arg1 m' c) (arg2 m' c)) (arg3 m' c)) rfl ?_
      rw [h0, h1, h2, h3]
      exact agree_9 m c hf
    · refine Eq.trans (b := ProjRefIdeal.Rows.ref10 (prod (arg0 m' c) (arg1 m' c) (arg2 m' c)) (arg3 m' c)) rfl ?_
      rw [h0, h1, h2, h3]
      exact agree_10 m c hf
    · refine Eq.trans (b := ProjRefIdeal.Rows.ref11 (prod (arg0 m' c) (arg1 m' c) (arg2 m' c)) (arg3 m' c)) rfl ?_
      rw [h0, h1, h2, h3]
      exact agree_11 m c hf
    · refine Eq.trans (b := ProjRefIdeal.Rows.ref12 (prod (arg0 m' c) (arg1 m' c) (arg2 m' c)) (arg3 m' c)) rfl ?_
      rw [h0, h1, h2, h3]
      exact agree_12 m c hf
    · refine Eq.trans (b := ProjRefIdeal.Rows.ref13 (prod (arg0 m' c) (arg1 m' c) (arg2 m' c)) (arg3 m' c)) rfl ?_
      rw [h0, h1, h2, h3]
      exact agree_13 m c hf
    · refine Eq.trans (b := ProjRefIdeal.Rows.ref14 (prod (arg0 m' c) (arg1 m' c) (arg2 m' c)) (arg3 m' c)) rfl ?_
      rw [h0, h1, h2, h3]
      exact agree_14 m c hf
    · refine Eq.trans (b := ProjRefIdeal.Rows.ref15 (prod (arg0 m' c) (arg1 m' c) (arg2 m' c)) (arg3 m' c)) rfl ?_
      rw [h0, h1, h2, h3]
      exact agree_15 m c hf
    · refine Eq.trans (b := ProjRefIdeal.Rows.ref16 (prod (arg0 m' c) (arg1 m' c) (arg2 m' c)) (arg3 m' c)) rfl ?_
      rw [h0, h1, h2, h3]
      exact agree_16 m c hf
    · refine Eq.trans (b := ProjRefIdeal.Rows.ref17 (prod (arg0 m' c) (arg1 m' c) (arg2 m' c)) (arg3 m' c)) rfl ?_
      rw [h0, h1, h2, h3]
      exact agree_17 m c hf
    · refine Eq.trans (b := ProjRefIdeal.Rows.ref18 (prod (arg0 m' c) (arg1 m' c) (arg2 m' c)) (arg3 m' c)) rfl ?_
      rw [h0, h1, h2, h3]
      exact agree_18 m c hf
    · refine Eq.trans (b := ProjRefIdeal.Rows.ref19 (prod (arg0 m' c) (arg1 m' c) (arg2 m' c)) (arg3 m' c)) rfl ?_
      rw [h0, h1, h2, h3]
      exact agree_19 m c hf

end Cert.Proof.Turned

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Pre_gates_finite
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Pre_products_finite
public import proofs.«01_k».proof.Proof.FlashBitsFrame
public import proofs.«01_k».proof.Proof.FlashClaims
public import proofs.«01_k».proof.Proof.FfnClaims
public import proofs.«01_k».proof.Proof.MergeClaims
public import proofs.«01_k».proof.Proof.ProjClaims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts,
  Cert.Pre_gates_finite.Gen.facts, Cert.Pre_products_finite.Gen.facts,
  Cert.Kernel.Flash.frame_kernel, Cert.KernelIdeal.Flash.frame_kernelIdeal, Attn.frame_ref,
  fun m ρ _ => Cert.Ffn.Gen.frame m ρ, fun m ρ _ => Cert.FfnIdeal.Gen.frame m ρ, Half.frame_ref,
  fun m ρ _ => Cert.Merge.Gen.frame m ρ, fun m ρ _ => Cert.MergeIdeal.Gen.frame m ρ, fun m ρ _ => Cert.MergeIdeal.Gen.frame m ρ,
  Gated.frame_ref, fun m ρ _ => Gated.frame_ref m ρ trivial,
  fun m ρ _ => Cert.Proj.Gen.frame m ρ, fun m ρ _ => Cert.ProjIdeal.Gen.frame m ρ, fun m ρ _ => Cert.ProjIdeal.Gen.frame m ρ,
  Turned.frame_ref, fun m ρ _ => Turned.frame_ref m ρ trivial,
  Attn.preserves, Attn.algebraic, trivial, Half.algebraic, trivial, Gated.algebraic, trivial, Turned.algebraic⟩

end Cert.Proof

end
